-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_pooled [hPre_finite_pooled : Cert.Pre_finite_pooled.Facts] (m : (ℓ : Loc Cert.InprojIdeal.nD Cert.InprojIdeal.τ Cert.InprojIdeal.sig) → Buf (Elt Ideal) ℓ) : Prop :=
  ∀ c : Dev Cert.InprojIdeal.nD,
    (Cert.Pre_finite_pooled.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_pooled [hPre_finite_pooled : Cert.Pre_finite_pooled.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_pooled.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_scores [hPre_finite_scores : Cert.Pre_finite_scores.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojIdeal_pre_finite_pooled [hInprojIdeal : Cert.InprojIdeal.Facts] [hPre_finite_pooled : Cert.Pre_finite_pooled.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_pooled m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_InprojRefIdeal_pre_finite_pooled [hInprojRefIdeal : Cert.InprojRefIdeal.Facts] [hPre_finite_pooled : Cert.Pre_finite_pooled.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_pooled m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_scores [hAttnFwdRefIdeal : Cert.AttnFwdRefIdeal.Facts] [hPre_finite_scores : Cert.Pre_finite_scores.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_scores m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v32_0)) (v1 : (c : Dev Cert.AttnIdeal.nD) → Buf (Elt Ideal) ((c.tc : Thread Cert.AttnIdeal.nD Cert.AttnIdeal.τ).loc Cert.AttnIdeal.main_v32_1)) (v2 : (c : Dev Cert.AttnIdeal.nD) → Buf (Elt Ideal) ((c.tc : Thread Cert.AttnIdeal.nD Cert.AttnIdeal.τ).loc Cert.AttnIdeal.main_v32_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v32_0) = v0 c
          ∧ r.2.mem ((c.tc : Thread Cert.AttnIdeal.nD Cert.AttnIdeal.τ).loc Cert.AttnIdeal.main_v32_1) = v1 c
          ∧ r.2.mem ((c.tc : Thread Cert.AttnIdeal.nD Cert.AttnIdeal.τ).loc Cert.AttnIdeal.main_v32_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_v58) = v1 c
          ∧ r.2.mem ((c.tc : Thread Cert.AttnRefIdeal.nD Cert.AttnRefIdeal.τ).loc Cert.AttnRefIdeal.main_v60) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v116_0)) (v1 : (c : Dev Cert.MixerIdeal.nD) → Buf (Elt Ideal) ((c.tc : Thread Cert.MixerIdeal.nD Cert.MixerIdeal.τ).loc Cert.MixerIdeal.main_v116_1)) (v2 : (c : Dev Cert.MixerIdeal.nD) → Buf (Elt Ideal) ((c.tc : Thread Cert.MixerIdeal.nD Cert.MixerIdeal.τ).loc Cert.MixerIdeal.main_v116_2)) (v3 : (c : Dev Cert.MixerIdeal.nD) → Buf (Elt Ideal) ((c.tc : Thread Cert.MixerIdeal.nD Cert.MixerIdeal.τ).loc Cert.MixerIdeal.main_v116_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v116_0) = v0 c
          ∧ r.2.mem ((c.tc : Thread Cert.MixerIdeal.nD Cert.MixerIdeal.τ).loc Cert.MixerIdeal.main_v116_1) = v1 c
          ∧ r.2.mem ((c.tc : Thread Cert.MixerIdeal.nD Cert.MixerIdeal.τ).loc Cert.MixerIdeal.main_v116_2) = v2 c
          ∧ r.2.mem ((c.tc : Thread Cert.MixerIdeal.nD Cert.MixerIdeal.τ).loc Cert.MixerIdeal.main_v116_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v139) = v0 c
          ∧ r.2.mem ((c.tc : Thread Cert.MixerRefIdeal.nD Cert.MixerRefIdeal.τ).loc Cert.MixerRefIdeal.main_v140) = v1 c
          ∧ r.2.mem ((c.tc : Thread Cert.MixerRefIdeal.nD Cert.MixerRefIdeal.τ).loc Cert.MixerRefIdeal.main_v142) = v2 c
          ∧ r.2.mem ((c.tc : Thread Cert.MixerRefIdeal.nD Cert.MixerRefIdeal.τ).loc Cert.MixerRefIdeal.main_v143) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_Inproj_InprojIdeal : Prop :=
  True

def algebraic_InprojIdeal_InprojRefIdeal_pre_finite_pooled [hInprojIdeal : Cert.InprojIdeal.Facts] [hInprojRefIdeal : Cert.InprojRefIdeal.Facts] [hPre_finite_pooled : Cert.Pre_finite_pooled.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_pooled m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v16_0)) (v1 : (c : Dev Cert.InprojIdeal.nD) → Buf (Elt Ideal) ((c.tc : Thread Cert.InprojIdeal.nD Cert.InprojIdeal.τ).loc Cert.InprojIdeal.main_v16_1)) (v2 : (c : Dev Cert.InprojIdeal.nD) → Buf (Elt Ideal) ((c.tc : Thread Cert.InprojIdeal.nD Cert.InprojIdeal.τ).loc Cert.InprojIdeal.main_v16_2)) (v3 : (c : Dev Cert.InprojIdeal.nD) → Buf (Elt Ideal) ((c.tc : Thread Cert.InprojIdeal.nD Cert.InprojIdeal.τ).loc Cert.InprojIdeal.main_v16_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v16_0) = v0 c
          ∧ r.2.mem ((c.tc : Thread Cert.InprojIdeal.nD Cert.InprojIdeal.τ).loc Cert.InprojIdeal.main_v16_1) = v1 c
          ∧ r.2.mem ((c.tc : Thread Cert.InprojIdeal.nD Cert.InprojIdeal.τ).loc Cert.InprojIdeal.main_v16_2) = v2 c
          ∧ r.2.mem ((c.tc : Thread Cert.InprojIdeal.nD Cert.InprojIdeal.τ).loc Cert.InprojIdeal.main_v16_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v242) = v0 c
          ∧ r.2.mem ((c.tc : Thread Cert.InprojRefIdeal.nD Cert.InprojRefIdeal.τ).loc Cert.InprojRefIdeal.main_v244) = v1 c
          ∧ r.2.mem ((c.tc : Thread Cert.InprojRefIdeal.nD Cert.InprojRefIdeal.τ).loc Cert.InprojRefIdeal.main_v246) = v2 c
          ∧ r.2.mem ((c.tc : Thread Cert.InprojRefIdeal.nD Cert.InprojRefIdeal.τ).loc Cert.InprojRefIdeal.main_v250) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v18_0)) (v1 : (c : Dev Cert.LossIdeal.nD) → Buf (Elt Ideal) ((c.tc : Thread Cert.LossIdeal.nD Cert.LossIdeal.τ).loc Cert.LossIdeal.main_v18_1)) (v2 : (c : Dev Cert.LossIdeal.nD) → Buf (Elt Ideal) ((c.tc : Thread Cert.LossIdeal.nD Cert.LossIdeal.τ).loc Cert.LossIdeal.main_v18_2)) (v3 : (c : Dev Cert.LossIdeal.nD) → Buf (Elt Ideal) ((c.tc : Thread Cert.LossIdeal.nD Cert.LossIdeal.τ).loc Cert.LossIdeal.main_v18_3)) (v4 : (c : Dev Cert.LossIdeal.nD) → Buf (Elt Ideal) ((c.tc : Thread Cert.LossIdeal.nD Cert.LossIdeal.τ).loc Cert.LossIdeal.main_v18_4)) (v5 : (c : Dev Cert.LossIdeal.nD) → Buf (Elt Ideal) ((c.tc : Thread Cert.LossIdeal.nD Cert.LossIdeal.τ).loc Cert.LossIdeal.main_v18_5)) (v6 : (c : Dev Cert.LossIdeal.nD) → Buf (Elt Ideal) ((c.tc : Thread Cert.LossIdeal.nD Cert.LossIdeal.τ).loc Cert.LossIdeal.main_v18_6)) (v7 : (c : Dev Cert.LossIdeal.nD) → Buf (Elt Ideal) ((c.tc : Thread Cert.LossIdeal.nD Cert.LossIdeal.τ).loc Cert.LossIdeal.main_v18_7)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v18_0) = v0 c
          ∧ r.2.mem ((c.tc : Thread Cert.LossIdeal.nD Cert.LossIdeal.τ).loc Cert.LossIdeal.main_v18_1) = v1 c
          ∧ r.2.mem ((c.tc : Thread Cert.LossIdeal.nD Cert.LossIdeal.τ).loc Cert.LossIdeal.main_v18_2) = v2 c
          ∧ r.2.mem ((c.tc : Thread Cert.LossIdeal.nD Cert.LossIdeal.τ).loc Cert.LossIdeal.main_v18_3) = v3 c
          ∧ r.2.mem ((c.tc : Thread Cert.LossIdeal.nD Cert.LossIdeal.τ).loc Cert.LossIdeal.main_v18_4) = v4 c
          ∧ r.2.mem ((c.tc : Thread Cert.LossIdeal.nD Cert.LossIdeal.τ).loc Cert.LossIdeal.main_v18_5) = v5 c
          ∧ r.2.mem ((c.tc : Thread Cert.LossIdeal.nD Cert.LossIdeal.τ).loc Cert.LossIdeal.main_v18_6) = v6 c
          ∧ r.2.mem ((c.tc : Thread Cert.LossIdeal.nD Cert.LossIdeal.τ).loc Cert.LossIdeal.main_v18_7) = v7 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v83) = v0 c
          ∧ r.2.mem ((c.tc : Thread Cert.LossRefIdeal.nD Cert.LossRefIdeal.τ).loc Cert.LossRefIdeal.main_v86) = v1 c
          ∧ r.2.mem ((c.tc : Thread Cert.LossRefIdeal.nD Cert.LossRefIdeal.τ).loc Cert.LossRefIdeal.main_v89) = v2 c
          ∧ r.2.mem ((c.tc : Thread Cert.LossRefIdeal.nD Cert.LossRefIdeal.τ).loc Cert.LossRefIdeal.main_v90) = v3 c
          ∧ r.2.mem ((c.tc : Thread Cert.LossRefIdeal.nD Cert.LossRefIdeal.τ).loc Cert.LossRefIdeal.main_v92) = v4 c
          ∧ r.2.mem ((c.tc : Thread Cert.LossRefIdeal.nD Cert.LossRefIdeal.τ).loc Cert.LossRefIdeal.main_v93) = v5 c
          ∧ r.2.mem ((c.tc : Thread Cert.LossRefIdeal.nD Cert.LossRefIdeal.τ).loc Cert.LossRefIdeal.main_v95) = v6 c
          ∧ r.2.mem ((c.tc : Thread Cert.LossRefIdeal.nD Cert.LossRefIdeal.τ).loc Cert.LossRefIdeal.main_v99) = v7 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v78_0)) (v1 : (c : Dev Cert.FfnIdeal.nD) → Buf (Elt Ideal) ((c.tc : Thread Cert.FfnIdeal.nD Cert.FfnIdeal.τ).loc Cert.FfnIdeal.main_v78_1)) (v2 : (c : Dev Cert.FfnIdeal.nD) → Buf (Elt Ideal) ((c.tc : Thread Cert.FfnIdeal.nD Cert.FfnIdeal.τ).loc Cert.FfnIdeal.main_v78_2)) (v3 : (c : Dev Cert.FfnIdeal.nD) → Buf (Elt Ideal) ((c.tc : Thread Cert.FfnIdeal.nD Cert.FfnIdeal.τ).loc Cert.FfnIdeal.main_v78_3)) (v4 : (c : Dev Cert.FfnIdeal.nD) → Buf (Elt Ideal) ((c.tc : Thread Cert.FfnIdeal.nD Cert.FfnIdeal.τ).loc Cert.FfnIdeal.main_v78_4)) (v5 : (c : Dev Cert.FfnIdeal.nD) → Buf (Elt Ideal) ((c.tc : Thread Cert.FfnIdeal.nD Cert.FfnIdeal.τ).loc Cert.FfnIdeal.main_v78_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v78_0) = v0 c
          ∧ r.2.mem ((c.tc : Thread Cert.FfnIdeal.nD Cert.FfnIdeal.τ).loc Cert.FfnIdeal.main_v78_1) = v1 c
          ∧ r.2.mem ((c.tc : Thread Cert.FfnIdeal.nD Cert.FfnIdeal.τ).loc Cert.FfnIdeal.main_v78_2) = v2 c
          ∧ r.2.mem ((c.tc : Thread Cert.FfnIdeal.nD Cert.FfnIdeal.τ).loc Cert.FfnIdeal.main_v78_3) = v3 c
          ∧ r.2.mem ((c.tc : Thread Cert.FfnIdeal.nD Cert.FfnIdeal.τ).loc Cert.FfnIdeal.main_v78_4) = v4 c
          ∧ r.2.mem ((c.tc : Thread Cert.FfnIdeal.nD Cert.FfnIdeal.τ).loc Cert.FfnIdeal.main_v78_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v128) = v0 c
          ∧ r.2.mem ((c.tc : Thread Cert.FfnRefIdeal.nD Cert.FfnRefIdeal.τ).loc Cert.FfnRefIdeal.main_v131) = v1 c
          ∧ r.2.mem ((c.tc : Thread Cert.FfnRefIdeal.nD Cert.FfnRefIdeal.τ).loc Cert.FfnRefIdeal.main_v132) = v2 c
          ∧ r.2.mem ((c.tc : Thread Cert.FfnRefIdeal.nD Cert.FfnRefIdeal.τ).loc Cert.FfnRefIdeal.main_v134) = v3 c
          ∧ r.2.mem ((c.tc : Thread Cert.FfnRefIdeal.nD Cert.FfnRefIdeal.τ).loc Cert.FfnRefIdeal.main_v136) = v4 c
          ∧ r.2.mem ((c.tc : Thread Cert.FfnRefIdeal.nD Cert.FfnRefIdeal.τ).loc Cert.FfnRefIdeal.main_v141) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_AttnFwd_AttnFwdIdeal : Prop :=
  True

def algebraic_AttnFwdIdeal_AttnFwdRefIdeal_pre_finite_scores [hAttnFwdIdeal : Cert.AttnFwdIdeal.Facts] [hAttnFwdRefIdeal : Cert.AttnFwdRefIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_scores m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v8_0)) (v1 : (c : Dev Cert.AttnFwdIdeal.nD) → Buf (Elt Ideal) ((c.tc : Thread Cert.AttnFwdIdeal.nD Cert.AttnFwdIdeal.τ).loc Cert.AttnFwdIdeal.main_v8_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8_0) = v0 c
          ∧ r.2.mem ((c.tc : Thread Cert.AttnFwdIdeal.nD Cert.AttnFwdIdeal.τ).loc Cert.AttnFwdIdeal.main_v8_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v49) = v0 c
          ∧ r.2.mem ((c.tc : Thread Cert.AttnFwdRefIdeal.nD Cert.AttnFwdRefIdeal.τ).loc Cert.AttnFwdRefIdeal.main_v51) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v8_0)) (v1 : (c : Dev Cert.PrenormIdeal.nD) → Buf (Elt Ideal) ((c.tc : Thread Cert.PrenormIdeal.nD Cert.PrenormIdeal.τ).loc Cert.PrenormIdeal.main_v8_1)) (v2 : (c : Dev Cert.PrenormIdeal.nD) → Buf (Elt Ideal) ((c.tc : Thread Cert.PrenormIdeal.nD Cert.PrenormIdeal.τ).loc Cert.PrenormIdeal.main_v8_2)) (v3 : (c : Dev Cert.PrenormIdeal.nD) → Buf (Elt Ideal) ((c.tc : Thread Cert.PrenormIdeal.nD Cert.PrenormIdeal.τ).loc Cert.PrenormIdeal.main_v8_3)) (v4 : (c : Dev Cert.PrenormIdeal.nD) → Buf (Elt Ideal) ((c.tc : Thread Cert.PrenormIdeal.nD Cert.PrenormIdeal.τ).loc Cert.PrenormIdeal.main_v8_4)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v8_0) = v0 c
          ∧ r.2.mem ((c.tc : Thread Cert.PrenormIdeal.nD Cert.PrenormIdeal.τ).loc Cert.PrenormIdeal.main_v8_1) = v1 c
          ∧ r.2.mem ((c.tc : Thread Cert.PrenormIdeal.nD Cert.PrenormIdeal.τ).loc Cert.PrenormIdeal.main_v8_2) = v2 c
          ∧ r.2.mem ((c.tc : Thread Cert.PrenormIdeal.nD Cert.PrenormIdeal.τ).loc Cert.PrenormIdeal.main_v8_3) = v3 c
          ∧ r.2.mem ((c.tc : Thread Cert.PrenormIdeal.nD Cert.PrenormIdeal.τ).loc Cert.PrenormIdeal.main_v8_4) = v4 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v39) = v0 c
          ∧ r.2.mem ((c.tc : Thread Cert.PrenormRefIdeal.nD Cert.PrenormRefIdeal.τ).loc Cert.PrenormRefIdeal.main_v43) = v1 c
          ∧ r.2.mem ((c.tc : Thread Cert.PrenormRefIdeal.nD Cert.PrenormRefIdeal.τ).loc Cert.PrenormRefIdeal.main_v45) = v2 c
          ∧ r.2.mem ((c.tc : Thread Cert.PrenormRefIdeal.nD Cert.PrenormRefIdeal.τ).loc Cert.PrenormRefIdeal.main_v47) = v3 c
          ∧ r.2.mem ((c.tc : Thread Cert.PrenormRefIdeal.nD Cert.PrenormRefIdeal.τ).loc Cert.PrenormRefIdeal.main_v48) = v4 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_Post_PostIdeal : Prop :=
  True

def Claim : Prop :=
  ∃ (hAttn : Cert.Attn.Facts) (hAttnIdeal : Cert.AttnIdeal.Facts) (hAttnRefIdeal : Cert.AttnRefIdeal.Facts) (hMixer : Cert.Mixer.Facts) (hMixerIdeal : Cert.MixerIdeal.Facts) (hMixerRefIdeal : Cert.MixerRefIdeal.Facts) (hInproj : Cert.Inproj.Facts) (hInprojIdeal : Cert.InprojIdeal.Facts) (hInprojRefIdeal : Cert.InprojRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hAttnFwd : Cert.AttnFwd.Facts) (hAttnFwdIdeal : Cert.AttnFwdIdeal.Facts) (hAttnFwdRefIdeal : Cert.AttnFwdRefIdeal.Facts) (hPrenorm : Cert.Prenorm.Facts) (hPrenormIdeal : Cert.PrenormIdeal.Facts) (hPrenormRefIdeal : Cert.PrenormRefIdeal.Facts) (hPost : Cert.Post.Facts) (hPostIdeal : Cert.PostIdeal.Facts) (hPostRefIdeal : Cert.PostRefIdeal.Facts) (hPre_finite_attention : Cert.Pre_finite_attention.Facts) (hPre_finite_pooled : Cert.Pre_finite_pooled.Facts) (hPre_finite_ffn : Cert.Pre_finite_ffn.Facts) (hPre_finite_scores : Cert.Pre_finite_scores.Facts),
    quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Mixer (hMixer := hMixer)
    ∧ quiescent_MixerIdeal (hMixerIdeal := hMixerIdeal)
    ∧ quiescent_MixerRefIdeal (hMixerRefIdeal := hMixerRefIdeal)
    ∧ quiescent_Inproj (hInproj := hInproj)
    ∧ quiescent_InprojIdeal (hInprojIdeal := hInprojIdeal)
    ∧ quiescent_InprojIdeal_pre_finite_pooled (hInprojIdeal := hInprojIdeal) (hPre_finite_pooled := hPre_finite_pooled)
    ∧ quiescent_InprojRefIdeal (hInprojRefIdeal := hInprojRefIdeal)
    ∧ quiescent_InprojRefIdeal_pre_finite_pooled (hInprojRefIdeal := hInprojRefIdeal) (hPre_finite_pooled := hPre_finite_pooled)
    ∧ quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdRefIdeal (hAttnFwdRefIdeal := hAttnFwdRefIdeal)
    ∧ quiescent_AttnFwdRefIdeal_pre_finite_scores (hAttnFwdRefIdeal := hAttnFwdRefIdeal) (hPre_finite_scores := hPre_finite_scores)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Post (hPost := hPost)
    ∧ quiescent_PostIdeal (hPostIdeal := hPostIdeal)
    ∧ quiescent_PostRefIdeal (hPostRefIdeal := hPostRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Mixer_MixerIdeal
    ∧ algebraic_MixerIdeal_MixerRefIdeal (hMixerIdeal := hMixerIdeal) (hMixerRefIdeal := hMixerRefIdeal)
    ∧ preserves_Inproj_InprojIdeal
    ∧ algebraic_InprojIdeal_InprojRefIdeal_pre_finite_pooled (hInprojIdeal := hInprojIdeal) (hInprojRefIdeal := hInprojRefIdeal) (hPre_finite_pooled := hPre_finite_pooled)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_AttnFwd_AttnFwdIdeal
    ∧ algebraic_AttnFwdIdeal_AttnFwdRefIdeal_pre_finite_scores (hAttnFwdIdeal := hAttnFwdIdeal) (hAttnFwdRefIdeal := hAttnFwdRefIdeal) (hPre_finite_scores := hPre_finite_scores)
    ∧ preserves_Prenorm_PrenormIdeal
    ∧ algebraic_PrenormIdeal_PrenormRefIdeal (hPrenormIdeal := hPrenormIdeal) (hPrenormRefIdeal := hPrenormRefIdeal)
    ∧ preserves_Post_PostIdeal
-- ==== Pre_finite_attention.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) (main_arg3 : FVec F S2x2048x512 .f32) : IVec S2x2048x512 1 × IVec S2x2048x512 1 × IVec S2x2048x512 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite_ffn.lean ====
abbrev S2x2048x1024 : Shape := ⟨3, ![2, 2048, 1024]⟩
abbrev S2x6144 : Shape := ⟨2, ![2, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S2x6144 : S_.BroadcastsInDim S2x6144 (![] : Fin 0 → Fin S2x6144.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg7 : FVec F S1x2816x1024 .f32) (main_arg8 : FVec F S2x2048x1024 .f32) (main_v2 : IVec S2x2048x1024 1) (main_v5 : IVec S2x2048x1024 1) (main_v8 : IVec S2x6144 1) (main_v11 : IVec S1x1024 1) (main_v14 : IVec S1x1024 1) (main_v17 : IVec S1x1024x2816 1) : IVec S2x2048x1024 1 × IVec S2x2048x1024 1 × IVec S2x6144 1 × IVec S1x1024 1 × IVec S1x1024 1 × IVec S1x1024x2816 1 × IVec S1x2816x1024 1 × IVec S2x2048x1024 1 :=
  let main_v18 : FVec F S1x2816x1024 .f32 := Host.absf main_arg7
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  let main_v21 : FVec F S2x2048x1024 .f32 := Host.absf main_arg8
  let main_cst_6 : FVec F S_ .f32 := constant S_ .f32 0x7F800000#32
  let main_v22 : FVec F S2x2048x1024 .f32 := broadcastInDim S2x2048x1024 ![] bcast_S_S2x2048x1024 main_cst_6
  let main_v23 : IVec S2x2048x1024 1 := cmpf .olt main_v21 main_v22
  (main_v2, main_v5, main_v8, main_v11, main_v14, main_v17, main_v20, main_v23)

def fn {F : FTy → Type} [FloatOps F] (main_arg0 : FVec F S2x2048x1024 .f32) (main_arg1 : FVec F S2x2048x1024 .f32) (main_arg2 : FVec F S2x6144 .f32) (main_arg3 : FVec F S1x1024 .f32) (main_arg4 : FVec F S1x1024 .f32) (main_arg5 : FVec F S1x1024x2816 .f32) (main_arg6 : FVec F S1x1024x2816 .f32) (main_arg7 : FVec F S1x2816x1024 .f32) (main_arg8 : FVec F S2x2048x1024 .f32) (main_arg9 : FVec F S2x2048x1024 .f32) : IVec S2x2048x1024 1 × IVec S2x2048x1024 1 × IVec S2x6144 1 × IVec S1x1024 1 × IVec S1x1024 1 × IVec S1x1024x2816 1 × IVec S1x2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2x6144 .f32 := Host.absf main_arg2
  let main_cst_1 : FVec F S_ .f32 := constant S_ .f32 0x7F800000#32
  let main_v7 : FVec F S2x6144 .f32 := broadcastInDim S2x6144 ![] bcast_S_S2x6144 main_cst_1
  let main_v8 : IVec S2x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x2816 .f32 := Host.absf main_arg6
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  fn_part1 (F := F) main_arg7 main_arg8 main_v2 main_v5 main_v8 main_v11 main_v14 main_v17
-- ==== Pre_finite_pooled.lean ====
abbrev S2x2048x1024 : Shape := ⟨3, ![2, 2048, 1024]⟩
abbrev S2x6144 : Shape := ⟨2, ![2, 6144]⟩
abbrev S1x1024 : Shape := ⟨2, ![1, 1024]⟩
abbrev S1x1024x2048 : Shape := ⟨3, ![1, 1024, 2048]⟩
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x1024 .f32) (main_arg1 : FVec F S2x6144 .f32) (main_arg2 : FVec F S1x1024 .f32) (main_arg3 : FVec F S1x1024x2048 .f32) (main_arg4 : FVec F S2x2048x512 .f32) (main_arg5 : FVec F S2x2048x512 .f32) (main_arg6 : FVec F S2x2048x512 .f32) (main_arg7 : FVec F S2x2048x512 .f32) (main_arg8 : FVec F S2x2048x1024 .f32) : IVec S2x2048x512 1 :=
  let main_v0 : FVec F S2x2048x512 .f32 := Host.absf main_arg7
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  main_v2
-- ==== Pre_finite_scores.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) : IVec S2x2048x512 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  (main_v2, main_v5)
-- ==== Attn.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S4096x512 : Shape := ⟨2, ![4096, 512]⟩
abbrev S256x128 : Shape := ⟨2, ![256, 128]⟩
abbrev S2048x128 : Shape := ⟨2, ![2048, 128]⟩
abbrev S1x128 : Shape := ⟨2, ![1, 128]⟩
abbrev S256x256 : Shape := ⟨2, ![256, 256]⟩
abbrev S256x1 : Shape := ⟨2, ![256, 1]⟩
abbrev S256 : Shape := ⟨1, ![256]⟩

abbrev nBuf : Space → Nat
  | .hbm => 59
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x8x64, .f32⟩
  | .hbm, ⟨5, _⟩ => ⟨S2x8x2048x64, .f32⟩
  | .hbm, ⟨6, _⟩ => ⟨S2x2048x8x64, .f32⟩
  | .hbm, ⟨7, _⟩ => ⟨S2x8x2048x64, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .i1⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S_, .f32⟩
  | .hbm, ⟨36, _⟩ => ⟨S2x8x2048x2048, .i1⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x64, .f32⟩
  | .hbm, ⟨43, _⟩ => ⟨S2x2048x8x64, .f32⟩
  | .hbm, ⟨44, _⟩ => ⟨S4096x512, .f32⟩
  | .hbm, ⟨45, _⟩ => ⟨S_, .f32⟩
  | .hbm, ⟨46, _⟩ => ⟨S2x2048x512, .f32⟩
  | .hbm, ⟨47, _⟩ => ⟨S2x2048x512, .f32⟩
  | .hbm, ⟨48, _⟩ => ⟨S4096x512, .f32⟩
  | .hbm, ⟨49, _⟩ => ⟨S4096x512, .bf16⟩
  | .hbm, ⟨50, _⟩ => ⟨S4096x512, .f32⟩
  | .hbm, ⟨51, _⟩ => ⟨S4096x512, .bf16⟩
  | .hbm, ⟨52, _⟩ => ⟨S4096x512, .f32⟩
  | .hbm, ⟨53, _⟩ => ⟨S4096x512, .bf16⟩
  | .hbm, ⟨54, _⟩ => ⟨S4096x512, .f32⟩
  | .hbm, ⟨55, _⟩ => ⟨S4096x512, .bf16⟩
  | .hbm, ⟨56, _⟩ => ⟨S4096x512, .bf16⟩
  | .hbm, ⟨57, _⟩ => ⟨S4096x512, .bf16⟩
  | .hbm, ⟨58, _⟩ => ⟨S4096x512, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_10 : BitVec 32 := 0#32
  let arg2 : BitVec 32 := BitVec.ofNat 32 (i 2).val
  let v35 : BitVec 32 := Scalar.subi arg2 c0_i32_10
  let c1_i32 : BitVec 32 := 1#32
  let v37 : BitVec 32 := Scalar.divsi v35 c1_i32
  let v38 : BitVec 32 := Scalar.muli v37 c1_i32
  let v39 : BitVec 32 := Scalar.addi c0_i32_10 v38
  let c1_i32_11 : BitVec 32 := 1#32
  ⟨c0_i32_10, v39, c1_i32_11⟩
def k0_mult1 (i : grid0.Coords) (k0_t1 : Fin (k0_t1_loop i).trips) : BitVec 32 :=
  let c0_i32_10 : BitVec 32 := 0#32
  let c1_i32_11 : BitVec 32 := 1#32
  let arg13 : BitVec 32 := Scf.iv c0_i32_10 c1_i32_11 k0_t1
  let c256_i32_75 : BitVec 32 := 256#32
  let v231 : BitVec 32 := Scalar.muli arg13 c256_i32_75
  v231
def k0_off1 (i : grid0.Coords) (k0_t1 : Fin (k0_t1_loop i).trips) : Fin 2 → Nat :=
  let c0_i32_10 : BitVec 32 := 0#32
  let c1_i32_11 : BitVec 32 := 1#32
  let arg13 : BitVec 32 := Scf.iv c0_i32_10 c1_i32_11 k0_t1
  let c256_i32_75 : BitVec 32 := 256#32
  let v231 : BitVec 32 := Scalar.muli arg13 c256_i32_75
  let v232 : BitVec 32 := v231
  let v233 : Index := Scalar.indexCast v232
  let c0_76 : Index := 0#32
  ![v233.toNat, 0]
@[reducible] def k0_t2_loop (i : grid0.Coords) : Scf.Loop 32 :=
  let c0_i32_10 : BitVec 32 := 0#32
  let arg2 : BitVec 32 := BitVec.ofNat 32 (i 2).val
  let v35 : BitVec 32 := Scalar.subi arg2 c0_i32_10
  let c1_i32 : BitVec 32 := 1#32
  let v37 : BitVec 32 := Scalar.divsi v35 c1_i32
  let v38 : BitVec 32 := Scalar.muli v37 c1_i32
  let v39 : BitVec 32 := Scalar.addi c0_i32_10 v38
  let v36 : BitVec 32 := Scalar.addi c0_i32_10 v35
  let c1_i32_12 : BitVec 32 := 1#32
  ⟨v39, v36, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v35 : BitVec 32 := Scalar.subi arg2 c0_i32_10
  let c1_i32 : BitVec 32 := 1#32
  let v37 : BitVec 32 := Scalar.divsi v35 c1_i32
  let v38 : BitVec 32 := Scalar.muli v37 c1_i32
  let v39 : BitVec 32 := Scalar.addi c0_i32_10 v38
  let c1_i32_12 : BitVec 32 := 1#32
  let arg13 : BitVec 32 := Scf.iv v39 c1_i32_12 k0_t2
  let c256_i32_75 : BitVec 32 := 256#32
  let v231 : BitVec 32 := Scalar.muli arg13 c256_i32_75
  v231
def k0_off2 (i : grid0.Coords) (k0_t2 : Fin (k0_t2_loop i).trips) : Fin 2 → Nat :=
  let c0_i32_10 : BitVec 32 := 0#32
  let arg2 : BitVec 32 := BitVec.ofNat 32 (i 2).val
  let v35 : BitVec 32 := Scalar.subi arg2 c0_i32_10
  let c1_i32 : BitVec 32 := 1#32
  let v37 : BitVec 32 := Scalar.divsi v35 c1_i32
  let v38 : BitVec 32 := Scalar.muli v37 c1_i32
  let v39 : BitVec 32 := Scalar.addi c0_i32_10 v38
  let c1_i32_12 : BitVec 32 := 1#32
  let arg13 : BitVec 32 := Scf.iv v39 c1_i32_12 k0_t2
  let c256_i32_75 : BitVec 32 := 256#32
  let v231 : BitVec 32 := Scalar.muli arg13 c256_i32_75
  let v232 : BitVec 32 := v231
  let v233 : Index := Scalar.indexCast v232
  let c0_76 : Index := 0#32
  ![v233.toNat, 0]
def k0_mult3 (i : grid0.Coords) : BitVec 32 :=
  let arg2 : BitVec 32 := BitVec.ofNat 32 (i 2).val
  let c256_i32 : BitVec 32 := 256#32
  let v42 : BitVec 32 := Scalar.muli arg2 c256_i32
  v42
def k0_off3 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v44 : Index := Scalar.indexCast v43
  let c0_13 : Index := 0#32
  ![v44.toNat, 0]
@[reducible] def k0_t3_loop (i : grid0.Coords) : Scf.Loop 32 :=
  let c0_i32_42 : BitVec 32 := 0#32
  let arg2 : BitVec 32 := BitVec.ofNat 32 (i 2).val
  let v134 : BitVec 32 := Scalar.subi arg2 c0_i32_42
  let c1_i32_43 : BitVec 32 := 1#32
  let v136 : BitVec 32 := Scalar.divsi v134 c1_i32_43
  let v137 : BitVec 32 := Scalar.muli v136 c1_i32_43
  let v138 : BitVec 32 := Scalar.addi c0_i32_42 v137
  let c1_i32_44 : BitVec 32 := 1#32
  ⟨c0_i32_42, v138, c1_i32_44⟩
def k0_mult4 (i : grid0.Coords) (k0_t3 : Fin (k0_t3_loop i).trips) : BitVec 32 :=
  let c0_i32_42 : BitVec 32 := 0#32
  let c1_i32_44 : BitVec 32 := 1#32
  let arg13 : BitVec 32 := Scf.iv c0_i32_42 c1_i32_44 k0_t3
  let c256_i32_75 : BitVec 32 := 256#32
  let v231 : BitVec 32 := Scalar.muli arg13 c256_i32_75
  v231
def k0_off4 (i : grid0.Coords) (k0_t3 : Fin (k0_t3_loop i).trips) : Fin 2 → Nat :=
  let c0_i32_42 : BitVec 32 := 0#32
  let c1_i32_44 : BitVec 32 := 1#32
  let arg13 : BitVec 32 := Scf.iv c0_i32_42 c1_i32_44 k0_t3
  let c256_i32_75 : BitVec 32 := 256#32
  let v231 : BitVec 32 := Scalar.muli arg13 c256_i32_75
  let v232 : BitVec 32 := v231
  let v233 : Index := Scalar.indexCast v232
  let c0_76 : Index := 0#32
  ![v233.toNat, 0]
@[reducible] def k0_t4_loop (i : grid0.Coords) : Scf.Loop 32 :=
  let c0_i32_42 : BitVec 32 := 0#32
  let arg2 : BitVec 32 := BitVec.ofNat 32 (i 2).val
  let v134 : BitVec 32 := Scalar.subi arg2 c0_i32_42
  let c1_i32_43 : BitVec 32 := 1#32
  let v136 : BitVec 32 := Scalar.divsi v134 c1_i32_43
  let v137 : BitVec 32 := Scalar.muli v136 c1_i32_43
  let v138 : BitVec 32 := Scalar.addi c0_i32_42 v137
  let v135 : BitVec 32 := Scalar.addi c0_i32_42 v134
  let c1_i32_45 : BitVec 32 := 1#32
  ⟨v138, v135, c1_i32_45⟩
def k0_mult5 (i : grid0.Coords) (k0_t4 : Fin (k0_t4_loop i).trips) : BitVec 32 :=
  let c0_i32_42 : BitVec 32 := 0#32
  let arg2 : BitVec 32 := BitVec.ofNat 32 (i 2).val
  let v134 : BitVec 32 := Scalar.subi arg2 c0_i32_42
  let c1_i32_43 : BitVec 32 := 1#32
  let v136 : BitVec 32 := Scalar.divsi v134 c1_i32_43
  let v137 : BitVec 32 := Scalar.muli v136 c1_i32_43
  let v138 : BitVec 32 := Scalar.addi c0_i32_42 v137
  let c1_i32_45 : BitVec 32 := 1#32
  let arg13 : BitVec 32 := Scf.iv v138 c1_i32_45 k0_t4
  let c256_i32_75 : BitVec 32 := 256#32
  let v231 : BitVec 32 := Scalar.muli arg13 c256_i32_75
  v231
def k0_off5 (i : grid0.Coords) (k0_t4 : Fin (k0_t4_loop i).trips) : Fin 2 → Nat :=
  let c0_i32_42 : BitVec 32 := 0#32
  let arg2 : BitVec 32 := BitVec.ofNat 32 (i 2).val
  let v134 : BitVec 32 := Scalar.subi arg2 c0_i32_42
  let c1_i32_43 : BitVec 32 := 1#32
  let v136 : BitVec 32 := Scalar.divsi v134 c1_i32_43
  let v137 : BitVec 32 := Scalar.muli v136 c1_i32_43
  let v138 : BitVec 32 := Scalar.addi c0_i32_42 v137
  let c1_i32_45 : BitVec 32 := 1#32
  let arg13 : BitVec 32 := Scf.iv v138 c1_i32_45 k0_t4
  let c256_i32_75 : BitVec 32 := 256#32
  let v231 : BitVec 32 := Scalar.muli arg13 c256_i32_75
  let v232 : BitVec 32 := v231
  let v233 : Index := Scalar.indexCast v232
  let c0_76 : Index := 0#32
  ![v233.toNat, 0]
def k0_mult6 (i : grid0.Coords) : BitVec 32 :=
  let arg2 : BitVec 32 := BitVec.ofNat 32 (i 2).val
  let c256_i32_46 : BitVec 32 := 256#32
  let v141 : BitVec 32 := Scalar.muli arg2 c256_i32_46
  v141
def k0_cond2 (i : grid0.Coords) : BitVec 1 :=
  let arg2 : BitVec 32 := BitVec.ofNat 32 (i 2).val
  let c7_i32 : BitVec 32 := 7#32
  let v228 : BitVec 1 := Scalar.cmpi .eq arg2 c7_i32
  let v229 : BitVec 32 := Scalar.extui v228
  let c0_i32_74 : BitVec 32 := 0#32
  let v230 : BitVec 1 := Scalar.cmpi .ne v229 c0_i32_74
  v230

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AttnRefIdeal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S4096x512 : Shape := ⟨2, ![4096, 512]⟩

abbrev nBuf : Space → Nat
  | .hbm => 189
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x8x64, .f32⟩
  | 5 => ⟨S2x8x2048x64, .f32⟩
  | 6 => ⟨S2x2048x8x64, .f32⟩
  | 7 => ⟨S2x8x2048x64, .f32⟩
  | 8 => ⟨S2x2048x8x64, .f32⟩
  | 9 => ⟨S2x8x2048x64, .f32⟩
  | 10 => ⟨S2x8x2048x2048, .f32⟩
  | 11 => ⟨S_, .f32⟩
  | 12 => ⟨S2x8x2048x2048, .f32⟩
  | 13 => ⟨S2x8x2048x2048, .f32⟩
  | 14 => ⟨S2048, .i32⟩
  | 15 => ⟨S2048x1, .i32⟩
  | 16 => ⟨S2048, .i32⟩
  | 17 => ⟨S1x2048, .i32⟩
  | 18 => ⟨S2048x2048, .i32⟩
  | 19 => ⟨S2048x2048, .i32⟩
  | 20 => ⟨S2048x2048, .i1⟩
  | 21 => ⟨S_, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .i1⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S_, .f32⟩
  | 36 => ⟨S2x8x2048x2048, .f32⟩
  | 37 => ⟨S2x8x2048x2048, .i1⟩
  | 38 => ⟨S_, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .i1⟩
  | 44 => ⟨S_, .f32⟩
  | 45 => ⟨S2x8x2048x2048, .f32⟩
  | 46 => ⟨S2x8x2048x2048, .f32⟩
  | 47 => ⟨S2x8x2048x2048, .f32⟩
  | 48 => ⟨S2x8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S2x8x2048x2048, .f32⟩
  | 57 => ⟨S2x8x2048x2048, .i1⟩
  | 58 => ⟨S_, .f32⟩
  | 59 => ⟨S2x8x2048x2048, .f32⟩
  | 60 => ⟨S2x8x2048x2048, .f32⟩
  | 61 => ⟨S2x8x2048x2048, .f32⟩
  | 62 => ⟨S2x8x2048x2048, .f32⟩
  | 63 => ⟨S2x8x2048x2048, .f32⟩
  | 64 => ⟨S_, .f32⟩
  | 65 => ⟨S2x8x2048x2048, .f32⟩
  | 66 => ⟨S2x8x2048x2048, .f32⟩
  | 67 => ⟨S2x8x2048x2048, .f32⟩
  | 68 => ⟨S_, .f32⟩
  | 69 => ⟨S_, .f32⟩
  | 70 => ⟨S2x8x2048x2048, .i1⟩
  | 71 => ⟨S2x8x2048x2048, .f32⟩
  | 72 => ⟨S2x8x2048x2048, .f32⟩
  | 73 => ⟨S_, .f32⟩
  | 74 => ⟨S2x8x2048x2048, .f32⟩
  | 75 => ⟨S_, .f32⟩
  | 76 => ⟨S_, .f32⟩
  | 77 => ⟨S2x8x2048x2048, .f32⟩
  | 78 => ⟨S2x8x2048x2048, .f32⟩
  | 79 => ⟨S2x8x2048x2048, .f32⟩
  | 80 => ⟨S_, .f32⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S2x8x2048x2048, .i1⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S_, .f32⟩
  | 95 => ⟨S2x8x2048x2048, .f32⟩
  | 96 => ⟨S2x8x2048x2048, .i1⟩
  | 97 => ⟨S_, .f32⟩
  | 98 => ⟨S2x8x2048x2048, .f32⟩
  | 99 => ⟨S2x8x2048x2048, .f32⟩
  | 100 => ⟨S_, .f32⟩
  | 101 => ⟨S2x8x2048x2048, .f32⟩
  | 102 => ⟨S2x8x2048x2048, .i1⟩
  | 103 => ⟨S_, .f32⟩
  | 104 => ⟨S2x8x2048x2048, .f32⟩
  | 105 => ⟨S2x8x2048x2048, .f32⟩
  | 106 => ⟨S2x8x2048x2048, .f32⟩
  | 107 => ⟨S2x8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S2x8x2048x2048, .f32⟩
  | 116 => ⟨S2x8x2048x2048, .i1⟩
  | 117 => ⟨S_, .f32⟩
  | 118 => ⟨S2x8x2048x2048, .f32⟩
  | 119 => ⟨S2x8x2048x2048, .f32⟩
  | 120 => ⟨S2x8x2048x2048, .f32⟩
  | 121 => ⟨S2x8x2048x2048, .f32⟩
  | 122 => ⟨S2x8x2048x2048, .f32⟩
  | 123 => ⟨S_, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S2x2048x512, .f32⟩

abbrev hbmTy0_1 (i : Nat) : BufTy := match i % 128 with
  | 0 => ⟨S_, .f32⟩
  | 1 => ⟨S_, .f32⟩
  | 2 => ⟨S2x8x2048x2048, .i1⟩
  | 3 => ⟨S2x8x2048x2048, .f32⟩
  | 4 => ⟨S2x8x2048x2048, .f32⟩
  | 5 => ⟨S_, .f32⟩
  | 6 => ⟨S2x8x2048x2048, .f32⟩
  | 7 => ⟨S2x8x2048x2048, .f32⟩
  | 8 => ⟨S_, .f32⟩
  | 9 => ⟨S_, .f32⟩
  | 10 => ⟨S2x8x2048x2048, .i1⟩
  | 11 => ⟨S2x8x2048x2048, .f32⟩
  | 12 => ⟨S2x8x2048x2048, .f32⟩
  | 13 => ⟨S_, .f32⟩
  | 14 => ⟨S2x8x2048x2048, .f32⟩
  | 15 => ⟨S2x8x2048x64, .f32⟩
  | 16 => ⟨S2x2048x8x64, .f32⟩
  | 17 => ⟨S2x2048x512, .f32⟩
  | 18 => ⟨S2x2048x8x64, .f32⟩
  | 19 => ⟨S2x8x2048x64, .f32⟩
  | 20 => ⟨S2x8x64x2048, .f32⟩
  | 21 => ⟨S2x8x2048x64, .f32⟩
  | 22 => ⟨S2x8x2048x2048, .f32⟩
  | 23 => ⟨S_, .f32⟩
  | 24 => ⟨S2x8x2048x2048, .f32⟩
  | 25 => ⟨S2x8x2048x2048, .f32⟩
  | 26 => ⟨S2x8x2048x2048, .f32⟩
  | 27 => ⟨S_, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S_, .f32⟩
  | 35 => ⟨S_, .f32⟩
  | 36 => ⟨S2x8x2048x2048, .f32⟩
  | 37 => ⟨S2x8x2048x2048, .f32⟩
  | 38 => ⟨S_, .f32⟩
  | 39 => ⟨S2x8x2048x2048, .f32⟩
  | 40 => ⟨S2x8x2048x2048, .f32⟩
  | 41 => ⟨S2x8x2048x2048, .f32⟩
  | 42 => ⟨S2x8x2048x2048, .f32⟩
  | 43 => ⟨S2x8x2048x2048, .f32⟩
  | 44 => ⟨S_, .f32⟩
  | 45 => ⟨S2x8x2048x2048, .f32⟩
  | 46 => ⟨S2x8x2048x2048, .f32⟩
  | 47 => ⟨S2x8x2048x64, .f32⟩
  | 48 => ⟨S2x8x2048x64, .f32⟩
  | 49 => ⟨S2x2048x8x64, .f32⟩
  | 50 => ⟨S2x2048x512, .f32⟩
  | 51 => ⟨S2x2048x8x64, .f32⟩
  | 52 => ⟨S2x2048x512, .f32⟩
  | 53 => ⟨S2x2048x8x64, .f32⟩
  | 54 => ⟨S2x2048x512, .f32⟩
  | 55 => ⟨S4096x512, .f32⟩
  | 56 => ⟨S4096x512, .bf16⟩
  | 57 => ⟨S4096x512, .f32⟩
  | 58 => ⟨S4096x512, .bf16⟩
  | 59 => ⟨S4096x512, .f32⟩
  | 60 => ⟨S4096x512, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16_0 : Ref sig .tc := ⟨.hbm, 34, rfl⟩
abbrev main_call0_cst_0 : Ref sig .tc := ⟨.hbm, 35, rfl⟩
abbrev main_call0_v13 : Ref sig .tc := ⟨.hbm, 36, rfl⟩
abbrev main_call0_v14 : Ref sig .tc := ⟨.hbm, 37, rfl⟩
abbrev main_call0_cst_1 : Ref sig .tc := ⟨.hbm, 38, rfl⟩
abbrev main_call0_v15 : Ref sig .tc := ⟨.hbm, 39, rfl⟩
abbrev main_call0_v16 : Ref sig .tc := ⟨.hbm, 40, rfl⟩
abbrev main_call0_cst_2 : Ref sig .tc := ⟨.hbm, 41, rfl⟩
abbrev main_call0_v17 : Ref sig .tc := ⟨.hbm, 42, rfl⟩
abbrev main_call0_v18 : Ref sig .tc := ⟨.hbm, 43, rfl⟩
abbrev main_call0_cst_3 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v16_1 : Ref sig .tc := ⟨.hbm, 48, rfl⟩
abbrev main_call0_cst_4 : Ref sig .tc := ⟨.hbm, 49, rfl⟩
abbrev main_call0_cst_5 : Ref sig .tc := ⟨.hbm, 50, rfl⟩
abbrev main_call0_v23 : Ref sig .tc := ⟨.hbm, 51, rfl⟩
abbrev main_call0_cst_6 : Ref sig .tc := ⟨.hbm, 52, rfl⟩
abbrev main_call0_cst_7 : Ref sig .tc := ⟨.hbm, 53, rfl⟩
abbrev main_call0_v24 : Ref sig .tc := ⟨.hbm, 54, rfl⟩
abbrev main_call0_cst_8 : Ref sig .tc := ⟨.hbm, 55, rfl⟩
abbrev main_call0_v25 : Ref sig .tc := ⟨.hbm, 56, rfl⟩
abbrev main_call0_v26 : Ref sig .tc := ⟨.hbm, 57, rfl⟩
abbrev main_call0_cst_9 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_cst_10 : Ref sig .tc := ⟨.hbm, 64, rfl⟩
abbrev main_call0_v32 : Ref sig .tc := ⟨.hbm, 65, rfl⟩
abbrev main_v16_2 : Ref sig .tc := ⟨.hbm, 66, rfl⟩
abbrev main_v17 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_cst_2 : Ref sig .tc := ⟨.hbm, 136, rfl⟩
abbrev main_call5_v0 : Ref sig .tc := ⟨.hbm, 137, rfl⟩
abbrev main_v25_1 : Ref sig .tc := ⟨.hbm, 138, rfl⟩
abbrev main_call5_v2 : Ref sig .tc := ⟨.hbm, 139, rfl⟩
abbrev main_v25_0 : Ref sig .tc := ⟨.hbm, 140, rfl⟩
abbrev main_call5_cst : Ref sig .tc := ⟨.hbm, 141, rfl⟩
abbrev main_v25_2 : Ref sig .tc := ⟨.hbm, 142, rfl⟩
abbrev main_v26 : Ref sig .tc := ⟨.hbm, 143, rfl⟩
abbrev main_v27 : Ref sig .tc := ⟨.hbm, 144, rfl⟩
abbrev main_v28 : Ref sig .tc := ⟨.hbm, 145, rfl⟩
abbrev main_v29 : Ref sig .tc := ⟨.hbm, 146, rfl⟩
abbrev main_v30 : Ref sig .tc := ⟨.hbm, 147, rfl⟩
abbrev main_v31 : Ref sig .tc := ⟨.hbm, 148, rfl⟩
abbrev main_v32 : Ref sig .tc := ⟨.hbm, 149, rfl⟩
abbrev main_v33 : Ref sig .tc := ⟨.hbm, 150, rfl⟩
abbrev main_call6_cst : Ref sig .tc := ⟨.hbm, 151, rfl⟩
abbrev main_call6_v0 : Ref sig .tc := ⟨.hbm, 152, rfl⟩
abbrev main_v34 : Ref sig .tc := ⟨.hbm, 153, rfl⟩
abbrev main_v35 : Ref sig .tc := ⟨.hbm, 154, rfl⟩
abbrev main_call7_cst : Ref sig .tc := ⟨.hbm, 155, rfl⟩
abbrev main_call7_v0 : Ref sig .tc := ⟨.hbm, 156, rfl⟩
abbrev main_v36 : Ref sig .tc := ⟨.hbm, 157, rfl⟩
abbrev main_call8_v0 : Ref sig .tc := ⟨.hbm, 158, rfl⟩
abbrev main_call8_v1 : Ref sig .tc := ⟨.hbm, 159, rfl⟩
abbrev main_v37 : Ref sig .tc := ⟨.hbm, 160, rfl⟩
abbrev main_v38 : Ref sig .tc := ⟨.hbm, 161, rfl⟩
abbrev main_call9_cst : Ref sig .tc := ⟨.hbm, 162, rfl⟩
abbrev main_call9_v0 : Ref sig .tc := ⟨.hbm, 163, rfl⟩
abbrev main_v39 : Ref sig .tc := ⟨.hbm, 164, rfl⟩
abbrev main_v40 : Ref sig .tc := ⟨.hbm, 165, rfl⟩
abbrev main_call10_cst : Ref sig .tc := ⟨.hbm, 166, rfl⟩
abbrev main_call10_v0 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_cst_3 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩

abbrev nD : Nat := 1
abbrev τ : Topo := Topo.v7x

variable {F : FTy → Type} [FloatOps F]
-- ==== Mixer.lean ====
abbrev S2x2048x512 : Shape := ⟨3, ![2, 2048, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S2x2048x1024 : Shape := ⟨3, ![2, 2048, 1024]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4096x512 : Shape := ⟨2, ![4096, 512]⟩
abbrev S4096x1024 : Shape := ⟨2, ![4096, 1024]⟩
abbrev S1024x1024 : Shape := ⟨2, ![1024, 1024]⟩
abbrev S4x128x128 : Shape := ⟨3, ![4, 128, 128]⟩
abbrev S8x512 : Shape := ⟨2, ![8, 512]⟩
abbrev S512x1024 : Shape := ⟨2, ![512, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 152
  | .vmem => 13
  | .smem => 0
  | _ => 0

abbrev hbmTy0_0 (i : Nat) : BufTy := match i % 128 with
  | 0 => ⟨S2x2048x512, .f32⟩
  | 1 => ⟨S1x4x128x128, .f32⟩
  | 2 => ⟨S1x512, .f32⟩
  | 3 => ⟨S1x1024x1024, .f32⟩
  | 4 => ⟨S2x2048x1024, .f32⟩
  | 5 => ⟨S_, .f32⟩
  | 6 => ⟨S2x1x512, .f32⟩
  | 7 => ⟨S_, .f32⟩
  | 8 => ⟨S_, .f32⟩
  | 9 => ⟨S2x2048x512, .f32⟩
  | 10 => ⟨S2x2049x512, .f32⟩
  | 11 => ⟨S2048, .i32⟩
  | 12 => ⟨S_, .i32⟩
  | 13 => ⟨S2048, .i32⟩
  | 14 => ⟨S2048, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S2048, .i32⟩
  | 25 => ⟨S2048, .f32⟩
  | 26 => ⟨S2x2049x128, .f32⟩
  | 27 => ⟨S2x2048x128, .f32⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S2048x1, .i32⟩
  | 36 => ⟨S2x2048x128, .f32⟩
  | 37 => ⟨S2x2048x128, .f32⟩
  | 38 => ⟨S1x2048x1, .f32⟩
  | 39 => ⟨S2x2048x128, .f32⟩
  | 40 => ⟨S2x2048x128, .f32⟩
  | 41 => ⟨S2x2048x128, .f32⟩
  | 42 => ⟨S2x2048x128, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S2048, .i32⟩
  | 56 => ⟨S2048, .f32⟩
  | 57 => ⟨S2x2049x128, .f32⟩
  | 58 => ⟨S2x2048x128, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S2x2048x128, .f32⟩
  | 68 => ⟨S2x2048x128, .f32⟩
  | 69 => ⟨S1x2048x1, .f32⟩
  | 70 => ⟨S2x2048x128, .f32⟩
  | 71 => ⟨S2x2048x128, .f32⟩
  | 72 => ⟨S2x2048x128, .f32⟩
  | 73 => ⟨S2x2048x128, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .i32⟩
  | 87 => ⟨S2048, .f32⟩
  | 88 => ⟨S2x2049x128, .f32⟩
  | 89 => ⟨S2x2048x128, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S2x2048x128, .f32⟩
  | 99 => ⟨S2x2048x128, .f32⟩
  | 100 => ⟨S1x2048x1, .f32⟩
  | 101 => ⟨S2x2048x128, .f32⟩
  | 102 => ⟨S2x2048x128, .f32⟩
  | 103 => ⟨S2x2048x128, .f32⟩
  | 104 => ⟨S2x2048x128, .f32⟩
  | 105 => ⟨S_, .i32⟩
  | 106 => ⟨S2048, .i32⟩
  | 107 => ⟨S2048, .i32⟩
  | 108 => ⟨S_, .i32⟩
  | 109 => ⟨S2048, .i32⟩
  | 110 => ⟨S2048, .i32⟩
  | 111 => ⟨S_, .i32⟩
  | 112 => ⟨S2048, .i32⟩
  | 113 => ⟨S2048, .i32⟩
  | 114 => ⟨S_, .i32⟩
  | 115 => ⟨S2048, .i32⟩
  | 116 => ⟨S2048, .i32⟩
  | 117 => ⟨S2048, .i32⟩
  | 118 => ⟨S2048, .f32⟩
  | 119 => ⟨S2x2049x128, .f32⟩
  | 120 => ⟨S2x2048x128, .f32⟩
  | 121 => ⟨S_, .i32⟩
  | 122 => ⟨S2048, .i32⟩
  | 123 => ⟨S2048, .i1⟩
  | 124 => ⟨S_, .i32⟩
  | 125 => ⟨S2048, .i32⟩
  | 126 => ⟨S2048, .i32⟩
  | 127 => ⟨S2048, .i32⟩
  | _ => ⟨S2x2048x512, .f32⟩

abbrev hbmTy0_1 (i : Nat) : BufTy := match i % 128 with
  | 0 => ⟨S2048x1, .i32⟩
  | 1 => ⟨S2x2048x128, .f32⟩
  | 2 => ⟨S2x2048x128, .f32⟩
  | 3 => ⟨S1x2048x1, .f32⟩
  | 4 => ⟨S2x2048x128, .f32⟩
  | 5 => ⟨S2x2048x128, .f32⟩
  | 6 => ⟨S2x2048x128, .f32⟩
  | 7 => ⟨S2x2048x128, .f32⟩
  | 8 => ⟨S2x2048x1x128, .f32⟩
  | 9 => ⟨S2x2048x1x128, .f32⟩
  | 10 => ⟨S2x2048x1x128, .f32⟩
  | 11 => ⟨S2x2048x1x128, .f32⟩
  | 12 => ⟨S2x2048x4x128, .f32⟩
  | 13 => ⟨S4096x512, .f32⟩
  | 14 => ⟨S4096x512, .bf16⟩
  | 15 => ⟨S4096x1024, .f32⟩
  | 16 => ⟨S4096x1024, .bf16⟩
  | 17 => ⟨S1024x1024, .f32⟩
  | 18 => ⟨S1024x1024, .bf16⟩
  | 19 => ⟨S4x128x128, .f32⟩
  | 20 => ⟨S4096x512, .bf16⟩
  | 21 => ⟨S4096x512, .f32⟩
  | 22 => ⟨S8x512, .f32⟩
  | 23 => ⟨S4x128x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S4x128x128, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S8x512, .f32⟩
  | .local _ .vmem, ⟨12, _⟩ => ⟨S4x128x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_17 : Ref sig .tc := ⟨.hbm, 105, rfl⟩
abbrev main_v79 : Ref sig .tc := ⟨.hbm, 106, rfl⟩
abbrev main_v80 : Ref sig .tc := ⟨.hbm, 107, rfl⟩
abbrev main_c_18 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_21 : Ref sig .tc := ⟨.hbm, 121, rfl⟩
abbrev main_v91 : Ref sig .tc := ⟨.hbm, 122, rfl⟩
abbrev main_v92 : Ref sig .tc := ⟨.hbm, 123, rfl⟩
abbrev main_c_22 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116_0 : Ref sig .tc := ⟨.hbm, 148, rfl⟩
abbrev main_v116_1 : Ref sig .tc := ⟨.hbm, 149, rfl⟩
abbrev main_v116_2 : Ref sig .tc := ⟨.hbm, 150, rfl⟩
abbrev main_v116_3 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixerRefIdeal.lean ====
abbrev S2x2048x512 : Shape := ⟨3, ![2, 2048, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S2x2048x1024 : Shape := ⟨3, ![2, 2048, 1024]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4x128x128 : Shape := ⟨3, ![4, 128, 128]⟩
abbrev S4x128x2x2048 : Shape := ⟨4, ![4, 128, 2, 2048]⟩
abbrev S512 : Shape := ⟨1, ![512]⟩
abbrev S1x1x512 : Shape := ⟨3, ![1, 1, 512]⟩
abbrev S1024x1024 : Shape := ⟨2, ![1024, 1024]⟩
abbrev S4x2x2048x128 : Shape := ⟨4, ![4, 2, 2048, 128]⟩
abbrev S4096x512 : Shape := ⟨2, ![4096, 512]⟩
abbrev S7x512 : Shape := ⟨2, ![7, 512]⟩
abbrev S8x512 : Shape := ⟨2, ![8, 512]⟩

abbrev nBuf : Space → Nat
  | .hbm => 180
  | .vmem => 0
  | .smem => 0
  | _ => 0

abbrev hbmTy0_0 (i : Nat) : BufTy := match i % 128 with
  | 0 => ⟨S2x2048x512, .f32⟩
  | 1 => ⟨S1x4x128x128, .f32⟩
  | 2 => ⟨S1x512, .f32⟩
  | 3 => ⟨S1x1024x1024, .f32⟩
  | 4 => ⟨S2x2048x1024, .f32⟩
  | 5 => ⟨S_, .f32⟩
  | 6 => ⟨S2x2048x512, .f32⟩
  | 7 => ⟨S_, .f32⟩
  | 8 => ⟨S2x1x512, .f32⟩
  | 9 => ⟨S_, .f32⟩
  | 10 => ⟨S_, .f32⟩
  | 11 => ⟨S2x2048x512, .f32⟩
  | 12 => ⟨S2x2049x512, .f32⟩
  | 13 => ⟨S2048, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .i32⟩
  | 27 => ⟨S2048, .f32⟩
  | 28 => ⟨S2x2049x128, .f32⟩
  | 29 => ⟨S2x2048x128, .f32⟩
  | 30 => ⟨S_, .i32⟩
  | 31 => ⟨S2048, .i32⟩
  | 32 => ⟨S2048, .i1⟩
  | 33 => ⟨S_, .i32⟩
  | 34 => ⟨S2048, .i32⟩
  | 35 => ⟨S2048, .i32⟩
  | 36 => ⟨S2048, .i32⟩
  | 37 => ⟨S2048x1, .i32⟩
  | 38 => ⟨S2x2048x128, .f32⟩
  | 39 => ⟨S2x2048x128, .f32⟩
  | 40 => ⟨S1x2048x1, .f32⟩
  | 41 => ⟨S2x2048x128, .f32⟩
  | 42 => ⟨S2x2048x128, .f32⟩
  | 43 => ⟨S2x2048x128, .f32⟩
  | 44 => ⟨S2x2048x128, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S2048, .i32⟩
  | 58 => ⟨S2048, .f32⟩
  | 59 => ⟨S2x2049x128, .f32⟩
  | 60 => ⟨S2x2048x128, .f32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S2x2048x128, .f32⟩
  | 70 => ⟨S2x2048x128, .f32⟩
  | 71 => ⟨S1x2048x1, .f32⟩
  | 72 => ⟨S2x2048x128, .f32⟩
  | 73 => ⟨S2x2048x128, .f32⟩
  | 74 => ⟨S2x2048x128, .f32⟩
  | 75 => ⟨S2x2048x128, .f32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .i32⟩
  | 89 => ⟨S2048, .f32⟩
  | 90 => ⟨S2x2049x128, .f32⟩
  | 91 => ⟨S2x2048x128, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S2x2048x128, .f32⟩
  | 101 => ⟨S2x2048x128, .f32⟩
  | 102 => ⟨S1x2048x1, .f32⟩
  | 103 => ⟨S2x2048x128, .f32⟩
  | 104 => ⟨S2x2048x128, .f32⟩
  | 105 => ⟨S2x2048x128, .f32⟩
  | 106 => ⟨S2x2048x128, .f32⟩
  | 107 => ⟨S_, .i32⟩
  | 108 => ⟨S2048, .i32⟩
  | 109 => ⟨S2048, .i32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S_, .i32⟩
  | 117 => ⟨S2048, .i32⟩
  | 118 => ⟨S2048, .i32⟩
  | 119 => ⟨S2048, .i32⟩
  | 120 => ⟨S2048, .f32⟩
  | 121 => ⟨S2x2049x128, .f32⟩
  | 122 => ⟨S2x2048x128, .f32⟩
  | 123 => ⟨S_, .i32⟩
  | 124 => ⟨S2048, .i32⟩
  | 125 => ⟨S2048, .i1⟩
  | 126 => ⟨S_, .i32⟩
  | 127 => ⟨S2048, .i32⟩
  | _ => ⟨S2x2048x512, .f32⟩

abbrev hbmTy0_1 (i : Nat) : BufTy := match i % 128 with
  | 0 => ⟨S2048, .i32⟩
  | 1 => ⟨S2048, .i32⟩
  | 2 => ⟨S2048x1, .i32⟩
  | 3 => ⟨S2x2048x128, .f32⟩
  | 4 => ⟨S2x2048x128, .f32⟩
  | 5 => ⟨S1x2048x1, .f32⟩
  | 6 => ⟨S2x2048x128, .f32⟩
  | 7 => ⟨S2x2048x128, .f32⟩
  | 8 => ⟨S2x2048x128, .f32⟩
  | 9 => ⟨S2x2048x128, .f32⟩
  | 10 => ⟨S2x2048x1x128, .f32⟩
  | 11 => ⟨S2x2048x1x128, .f32⟩
  | 12 => ⟨S2x2048x1x128, .f32⟩
  | 13 => ⟨S2x2048x1x128, .f32⟩
  | 14 => ⟨S2x2048x4x128, .f32⟩
  | 15 => ⟨S4x128x128, .f32⟩
  | 16 => ⟨S4x128x2x2048, .f32⟩
  | 17 => ⟨S2x2048x4x128, .f32⟩
  | 18 => ⟨S2x2048x512, .f32⟩
  | 19 => ⟨S512, .f32⟩
  | 20 => ⟨S1x1x512, .f32⟩
  | 21 => ⟨S2x2048x512, .f32⟩
  | 22 => ⟨S2x2048x512, .f32⟩
  | 23 => ⟨S2x2048x1024, .f32⟩
  | 24 => ⟨S1024x1024, .f32⟩
  | 25 => ⟨S2x2048x1024, .f32⟩
  | 26 => ⟨S2x2048x1024, .f32⟩
  | 27 => ⟨S2x2048x512, .f32⟩
  | 28 => ⟨S2x2048x512, .f32⟩
  | 29 => ⟨S2x2048x512, .f32⟩
  | 30 => ⟨S_, .f32⟩
  | 31 => ⟨S512, .f32⟩
  | 32 => ⟨S1x1x512, .f32⟩
  | 33 => ⟨S2x2048x512, .f32⟩
  | 34 => ⟨S2x2048x512, .f32⟩
  | 35 => ⟨S_, .f32⟩
  | 36 => ⟨S512, .f32⟩
  | 37 => ⟨S1x512, .f32⟩
  | 38 => ⟨S2x2048x4x128, .f32⟩
  | 39 => ⟨S4x128x2x2048, .f32⟩
  | 40 => ⟨S4x2x2048x128, .f32⟩
  | 41 => ⟨S2x2048x4x128, .f32⟩
  | 42 => ⟨S4x128x128, .f32⟩
  | 43 => ⟨S4x128x128, .f32⟩
  | 44 => ⟨S1x4x128x128, .f32⟩
  | 45 => ⟨S4096x512, .f32⟩
  | 46 => ⟨S4096x512, .bf16⟩
  | 47 => ⟨S4096x512, .f32⟩
  | 48 => ⟨S_, .f32⟩
  | 49 => ⟨S7x512, .f32⟩
  | 50 => ⟨S8x512, .f32⟩
  | 51 => ⟨S4x128x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_16 : Ref sig .tc := ⟨.hbm, 92, rfl⟩
abbrev main_v67 : Ref sig .tc := ⟨.hbm, 93, rfl⟩
abbrev main_v68 : Ref sig .tc := ⟨.hbm, 94, rfl⟩
abbrev main_c_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_18 : Ref sig .tc := ⟨.hbm, 107, rfl⟩
abbrev main_v80 : Ref sig .tc := ⟨.hbm, 108, rfl⟩
abbrev main_v81 : Ref sig .tc := ⟨.hbm, 109, rfl⟩
abbrev main_c_19 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_22 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_24 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_25 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_26 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩

abbrev nD : Nat := 1
abbrev τ : Topo := Topo.v7x

variable {F : FTy → Type} [FloatOps F]
-- ==== Inproj.lean ====
abbrev S2x2048x1024 : Shape := ⟨3, ![2, 2048, 1024]⟩
abbrev S2x6144 : Shape := ⟨2, ![2, 6144]⟩
abbrev S1x1024 : Shape := ⟨2, ![1, 1024]⟩
abbrev S1x1024x2048 : Shape := ⟨3, ![1, 1024, 2048]⟩
abbrev S2x2048x512 : Shape := ⟨3, ![2, 2048, 512]⟩
abbrev S1024x2048 : Shape := ⟨2, ![1024, 2048]⟩
abbrev S1024x4x512 : Shape := ⟨3, ![1024, 4, 512]⟩
abbrev S4x1024x512 : Shape := ⟨3, ![4, 1024, 512]⟩
abbrev S4096x512 : Shape := ⟨2, ![4096, 512]⟩
abbrev S4096x1024 : Shape := ⟨2, ![4096, 1024]⟩
abbrev S2x6x1024 : Shape := ⟨3, ![2, 6, 1024]⟩
abbrev S_ : Shape := ⟨0, ![]⟩
abbrev S2x2x1024 : Shape := ⟨3, ![2, 2, 1024]⟩
abbrev S2x8x1024 : Shape := ⟨3, ![2, 8, 1024]⟩
abbrev S8x1024 : Shape := ⟨2, ![8, 1024]⟩
abbrev S512x512 : Shape := ⟨2, ![512, 512]⟩
abbrev S16x512 : Shape := ⟨2, ![16, 512]⟩
abbrev S512x1024 : Shape := ⟨2, ![512, 1024]⟩
abbrev S1x8x1024 : Shape := ⟨3, ![1, 8, 1024]⟩
abbrev S512x1 : Shape := ⟨2, ![512, 1]⟩
abbrev S512x128 : Shape := ⟨2, ![512, 128]⟩
abbrev S16x128 : Shape := ⟨2, ![16, 128]⟩
abbrev S528x512 : Shape := ⟨2, ![528, 512]⟩
abbrev S512x528 : Shape := ⟨2, ![512, 528]⟩
abbrev S528x128 : Shape := ⟨2, ![528, 128]⟩
abbrev S1x1024x512 : Shape := ⟨3, ![1, 1024, 512]⟩
abbrev S1024x512 : Shape := ⟨2, ![1024, 512]⟩
abbrev S512 : Shape := ⟨1, ![512]⟩
abbrev S1x1x1024 : Shape := ⟨3, ![1, 1, 1024]⟩
abbrev S1024 : Shape := ⟨1, ![1024]⟩

abbrev nBuf : Space → Nat
  | .hbm => 30
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x2048, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x1024, .f32⟩
  | .hbm, ⟨9, _⟩ => ⟨S1024x2048, .f32⟩
  | .hbm, ⟨10, _⟩ => ⟨S1024x4x512, .f32⟩
  | .hbm, ⟨11, _⟩ => ⟨S4x1024x512, .f32⟩
  | .hbm, ⟨12, _⟩ => ⟨S4x1024x512, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x1024, .f32⟩
  | .hbm, ⟨21, _⟩ => ⟨S4096x1024, .f32⟩
  | .hbm, ⟨22, _⟩ => ⟨S2x6x1024, .f32⟩
  | .hbm, ⟨23, _⟩ => ⟨S_, .f32⟩
  | .hbm, ⟨24, _⟩ => ⟨S2x2x1024, .f32⟩
  | .hbm, ⟨25, _⟩ => ⟨S2x8x1024, .f32⟩
  | .hbm, ⟨26, _⟩ => ⟨S4096x1024, .f32⟩
  | .hbm, ⟨27, _⟩ => ⟨S4096x512, .bf16⟩
  | .hbm, ⟨28, _⟩ => ⟨S2x8x1024, .f32⟩
  | .hbm, ⟨29, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S4x1024x512, .bf16⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | .local _ .vmem, ⟨21, _⟩ => ⟨S512x512, .bf16⟩
  | .local _ .vmem, ⟨22, _⟩ => ⟨S1x8x1024, .f32⟩
  | .local _ .vmem, ⟨23, _⟩ => ⟨S1x8x1024, .f32⟩
  | .local _ .vmem, ⟨24, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojRefIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x2048 : Shape := ⟨3, ![1, 1024, 2048]⟩
abbrev S2x2048x512 : Shape := ⟨3, ![2, 2048, 512]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S2x2048x2048 : Shape := ⟨3, ![2, 2048, 2048]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4096x1024 : Shape := ⟨2, ![4096, 1024]⟩
abbrev S4096x512 : Shape := ⟨2, ![4096, 512]⟩
abbrev S2x6x1024 : Shape := ⟨3, ![2, 6, 1024]⟩
abbrev S2x8x1024 : Shape := ⟨3, ![2, 8, 1024]⟩
abbrev S1x7x1024 : Shape := ⟨3, ![1, 7, 1024]⟩
abbrev S1x8x1024 : Shape := ⟨3, ![1, 8, 1024]⟩
abbrev S8x1024 : Shape := ⟨2, ![8, 1024]⟩

abbrev nBuf : Space → Nat
  | .hbm => 320
  | .vmem => 0
  | .smem => 0
  | _ => 0

abbrev hbmTy0_0 (i : Nat) : BufTy := match i % 128 with
  | 0 => ⟨S2x2048x1024, .f32⟩
  | 1 => ⟨S2x6144, .f32⟩
  | 2 => ⟨S1x1024, .f32⟩
  | 3 => ⟨S1x1024x2048, .f32⟩
  | 4 => ⟨S2x2048x512, .f32⟩
  | 5 => ⟨S2x2048x512, .f32⟩
  | 6 => ⟨S2x2048x512, .f32⟩
  | 7 => ⟨S2x2048x512, .f32⟩
  | 8 => ⟨S2x2048x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S1024, .f32⟩
  | 22 => ⟨S2x2048x1024, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x1, .f32⟩
  | 33 => ⟨S2x2048x1, .f32⟩
  | 34 => ⟨S_, .f32⟩
  | 35 => ⟨S2x2048x1, .f32⟩
  | 36 => ⟨S2x2048x1, .f32⟩
  | 37 => ⟨S2x2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S_, .f32⟩
  | 43 => ⟨S2x1x1024, .f32⟩
  | 44 => ⟨S2x1x1024, .f32⟩
  | 45 => ⟨S2x2048x1024, .f32⟩
  | 46 => ⟨S2x2048x1024, .f32⟩
  | 47 => ⟨S2x2048x1024, .f32⟩
  | 48 => ⟨S2x2048x1024, .f32⟩
  | 49 => ⟨S1024x2048, .f32⟩
  | 50 => ⟨S2x2048x2048, .f32⟩
  | 51 => ⟨S2x2048x512, .f32⟩
  | 52 => ⟨S2x2048x512, .f32⟩
  | 53 => ⟨S2x2048x512, .f32⟩
  | 54 => ⟨S2x2048x512, .f32⟩
  | 55 => ⟨S_, .f32⟩
  | 56 => ⟨S2x1x512, .f32⟩
  | 57 => ⟨S_, .f32⟩
  | 58 => ⟨S_, .f32⟩
  | 59 => ⟨S2x2048x512, .f32⟩
  | 60 => ⟨S2x2049x512, .f32⟩
  | 61 => ⟨S_, .f32⟩
  | 62 => ⟨S2x1x512, .f32⟩
  | 63 => ⟨S2048, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2048, .i32⟩
  | 77 => ⟨S2048, .f32⟩
  | 78 => ⟨S2x2049x128, .f32⟩
  | 79 => ⟨S2x2048x128, .f32⟩
  | 80 => ⟨S_, .i32⟩
  | 81 => ⟨S2048, .i32⟩
  | 82 => ⟨S2048, .i1⟩
  | 83 => ⟨S_, .i32⟩
  | 84 => ⟨S2048, .i32⟩
  | 85 => ⟨S2048, .i32⟩
  | 86 => ⟨S2048, .i32⟩
  | 87 => ⟨S2048x1, .i32⟩
  | 88 => ⟨S2x2048x128, .f32⟩
  | 89 => ⟨S2x2048x128, .f32⟩
  | 90 => ⟨S1x2048x1, .f32⟩
  | 91 => ⟨S2x2048x128, .f32⟩
  | 92 => ⟨S2x2048x128, .f32⟩
  | 93 => ⟨S2x2048x128, .f32⟩
  | 94 => ⟨S2x2048x128, .f32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .i32⟩
  | 108 => ⟨S2048, .f32⟩
  | 109 => ⟨S2x2049x128, .f32⟩
  | 110 => ⟨S2x2048x128, .f32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S2048x1, .i32⟩
  | 119 => ⟨S2x2048x128, .f32⟩
  | 120 => ⟨S2x2048x128, .f32⟩
  | 121 => ⟨S1x2048x1, .f32⟩
  | 122 => ⟨S2x2048x128, .f32⟩
  | 123 => ⟨S2x2048x128, .f32⟩
  | 124 => ⟨S2x2048x128, .f32⟩
  | 125 => ⟨S2x2048x128, .f32⟩
  | 126 => ⟨S_, .i32⟩
  | 127 => ⟨S2048, .i32⟩
  | _ => ⟨S2x2048x1024, .f32⟩

abbrev hbmTy0_1 (i : Nat) : BufTy := match i % 128 with
  | 0 => ⟨S2048, .i32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S2048, .i32⟩
  | 11 => ⟨S2048, .f32⟩
  | 12 => ⟨S2x2049x128, .f32⟩
  | 13 => ⟨S2x2048x128, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S2x2048x128, .f32⟩
  | 23 => ⟨S2x2048x128, .f32⟩
  | 24 => ⟨S1x2048x1, .f32⟩
  | 25 => ⟨S2x2048x128, .f32⟩
  | 26 => ⟨S2x2048x128, .f32⟩
  | 27 => ⟨S2x2048x128, .f32⟩
  | 28 => ⟨S2x2048x128, .f32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S2048, .i32⟩
  | 42 => ⟨S2048, .f32⟩
  | 43 => ⟨S2x2049x128, .f32⟩
  | 44 => ⟨S2x2048x128, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S2x2048x128, .f32⟩
  | 54 => ⟨S2x2048x128, .f32⟩
  | 55 => ⟨S1x2048x1, .f32⟩
  | 56 => ⟨S2x2048x128, .f32⟩
  | 57 => ⟨S2x2048x128, .f32⟩
  | 58 => ⟨S2x2048x128, .f32⟩
  | 59 => ⟨S2x2048x128, .f32⟩
  | 60 => ⟨S2x2048x1x128, .f32⟩
  | 61 => ⟨S2x2048x1x128, .f32⟩
  | 62 => ⟨S2x2048x1x128, .f32⟩
  | 63 => ⟨S2x2048x1x128, .f32⟩
  | 64 => ⟨S2x2048x4x128, .f32⟩
  | 65 => ⟨S2x2048x512, .f32⟩
  | 66 => ⟨S2x2048x4x128, .f32⟩
  | 67 => ⟨S2x2048x1x128, .f32⟩
  | 68 => ⟨S2x2048x128, .f32⟩
  | 69 => ⟨S2x2048x1x128, .f32⟩
  | 70 => ⟨S2x2048x128, .f32⟩
  | 71 => ⟨S2x2048x1x128, .f32⟩
  | 72 => ⟨S2x2048x128, .f32⟩
  | 73 => ⟨S2x2048x1x128, .f32⟩
  | 74 => ⟨S2x2048x128, .f32⟩
  | 75 => ⟨S2x2048x128, .f32⟩
  | 76 => ⟨S_, .f32⟩
  | 77 => ⟨S2x2048x512, .f32⟩
  | 78 => ⟨S2x2048x128, .f32⟩
  | 79 => ⟨S2x2048x128, .f32⟩
  | 80 => ⟨S2x2048x128, .f32⟩
  | 81 => ⟨S_, .f32⟩
  | 82 => ⟨S2x2049x128, .f32⟩
  | 83 => ⟨S2x2049x128, .f32⟩
  | 84 => ⟨S_, .f32⟩
  | 85 => ⟨S2x2049x128, .f32⟩
  | 86 => ⟨S2x2049x128, .f32⟩
  | 87 => ⟨S_, .f32⟩
  | 88 => ⟨S2x2049x512, .f32⟩
  | 89 => ⟨S2x2048x128, .f32⟩
  | 90 => ⟨S_, .f32⟩
  | 91 => ⟨S2x2048x512, .f32⟩
  | 92 => ⟨S2x2048x512, .f32⟩
  | 93 => ⟨S2x2048x128, .f32⟩
  | 94 => ⟨S2x2048x128, .f32⟩
  | 95 => ⟨S2x2048x128, .f32⟩
  | 96 => ⟨S_, .f32⟩
  | 97 => ⟨S2x2049x128, .f32⟩
  | 98 => ⟨S2x2049x128, .f32⟩
  | 99 => ⟨S_, .f32⟩
  | 100 => ⟨S2x2049x128, .f32⟩
  | 101 => ⟨S2x2049x128, .f32⟩
  | 102 => ⟨S_, .f32⟩
  | 103 => ⟨S2x2049x512, .f32⟩
  | 104 => ⟨S2x2049x512, .f32⟩
  | 105 => ⟨S2x2048x128, .f32⟩
  | 106 => ⟨S_, .f32⟩
  | 107 => ⟨S2x2048x512, .f32⟩
  | 108 => ⟨S2x2048x512, .f32⟩
  | 109 => ⟨S2x2048x128, .f32⟩
  | 110 => ⟨S2x2048x128, .f32⟩
  | 111 => ⟨S2x2048x128, .f32⟩
  | 112 => ⟨S_, .f32⟩
  | 113 => ⟨S2x2049x128, .f32⟩
  | 114 => ⟨S2x2049x128, .f32⟩
  | 115 => ⟨S_, .f32⟩
  | 116 => ⟨S2x2049x128, .f32⟩
  | 117 => ⟨S2x2049x128, .f32⟩
  | 118 => ⟨S_, .f32⟩
  | 119 => ⟨S2x2049x512, .f32⟩
  | 120 => ⟨S2x2049x512, .f32⟩
  | 121 => ⟨S2x2048x128, .f32⟩
  | 122 => ⟨S_, .f32⟩
  | 123 => ⟨S2x2048x512, .f32⟩
  | 124 => ⟨S2x2048x512, .f32⟩
  | 125 => ⟨S2x2048x128, .f32⟩
  | 126 => ⟨S2x2048x128, .f32⟩
  | 127 => ⟨S2x2048x128, .f32⟩
  | _ => ⟨S2x2048x1024, .f32⟩

abbrev hbmTy0_2 (i : Nat) : BufTy := match i % 128 with
  | 0 => ⟨S_, .f32⟩
  | 1 => ⟨S2x2049x128, .f32⟩
  | 2 => ⟨S2x2049x128, .f32⟩
  | 3 => ⟨S_, .f32⟩
  | 4 => ⟨S2x2049x128, .f32⟩
  | 5 => ⟨S2x2049x128, .f32⟩
  | 6 => ⟨S_, .f32⟩
  | 7 => ⟨S2x2049x512, .f32⟩
  | 8 => ⟨S2x2049x512, .f32⟩
  | 9 => ⟨S2x1x512, .f32⟩
  | 10 => ⟨S2x2048x512, .f32⟩
  | 11 => ⟨S_, .f32⟩
  | 12 => ⟨S_, .f32⟩
  | 13 => ⟨S2x2048x512, .f32⟩
  | 14 => ⟨S2x2048x512, .f32⟩
  | 15 => ⟨S2x2048x2048, .f32⟩
  | 16 => ⟨S2x2048x1024, .f32⟩
  | 17 => ⟨S_, .f32⟩
  | 18 => ⟨S2x1024, .f32⟩
  | 19 => ⟨S2x1x1024, .f32⟩
  | 20 => ⟨S2x2048x1024, .f32⟩
  | 21 => ⟨S_, .f32⟩
  | 22 => ⟨S2x1024, .f32⟩
  | 23 => ⟨S2x1x1024, .f32⟩
  | 24 => ⟨S2x2048x1024, .f32⟩
  | 25 => ⟨S2x2048x1024, .f32⟩
  | 26 => ⟨S2x2048x1024, .f32⟩
  | 27 => ⟨S_, .f32⟩
  | 28 => ⟨S1024, .f32⟩
  | 29 => ⟨S1x1x1024, .f32⟩
  | 30 => ⟨S2x2048x1024, .f32⟩
  | 31 => ⟨S2x2048x1024, .f32⟩
  | 32 => ⟨S_, .f32⟩
  | 33 => ⟨S1024, .f32⟩
  | 34 => ⟨S2x2048x1024, .f32⟩
  | 35 => ⟨S_, .f32⟩
  | 36 => ⟨S2x2048, .f32⟩
  | 37 => ⟨S2x2048x1, .f32⟩
  | 38 => ⟨S2x2048x1024, .f32⟩
  | 39 => ⟨S2x2048x1024, .f32⟩
  | 40 => ⟨S2x2048x1024, .f32⟩
  | 41 => ⟨S2x2048x1, .f32⟩
  | 42 => ⟨S_, .f32⟩
  | 43 => ⟨S2x2048x1, .f32⟩
  | 44 => ⟨S2x2048x1, .f32⟩
  | 45 => ⟨S_, .f32⟩
  | 46 => ⟨S2x2048, .f32⟩
  | 47 => ⟨S2x2048x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S1x1024, .f32⟩
  | 53 => ⟨S4096x1024, .f32⟩
  | 54 => ⟨S4096x512, .f32⟩
  | 55 => ⟨S4096x512, .bf16⟩
  | 56 => ⟨S_, .f32⟩
  | 57 => ⟨S2x6x1024, .f32⟩
  | 58 => ⟨S2x8x1024, .f32⟩
  | 59 => ⟨S1x1x1024, .f32⟩
  | 60 => ⟨S_, .f32⟩
  | 61 => ⟨S1x7x1024, .f32⟩
  | 62 => ⟨S1x8x1024, .f32⟩
  | 63 => ⟨S8x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_call0_call0_cst : Ref sig .tc := ⟨.hbm, 57, rfl⟩
abbrev main_call0_call0_v0 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_c : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_c_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_15 : Ref sig .tc := ⟨.hbm, 111, rfl⟩
abbrev main_v83 : Ref sig .tc := ⟨.hbm, 112, rfl⟩
abbrev main_v84 : Ref sig .tc := ⟨.hbm, 113, rfl⟩
abbrev main_c_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_17 : Ref sig .tc := ⟨.hbm, 126, rfl⟩
abbrev main_v96 : Ref sig .tc := ⟨.hbm, 127, rfl⟩
abbrev main_v97 : Ref sig .tc := ⟨.hbm, 128, rfl⟩
abbrev main_c_18 : Ref sig .tc := ⟨.hbm, 129, rfl⟩
abbrev main_v98 : Ref sig .tc := ⟨.hbm, 130, rfl⟩
abbrev main_v99 : Ref sig .tc := ⟨.hbm, 131, rfl⟩
abbrev main_c_19 : Ref sig .tc := ⟨.hbm, 132, rfl⟩
abbrev main_v100 : Ref sig .tc := ⟨.hbm, 133, rfl⟩
abbrev main_v101 : Ref sig .tc := ⟨.hbm, 134, rfl⟩
abbrev main_c_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_21 : Ref sig .tc := ⟨.hbm, 142, rfl⟩
abbrev main_v108 : Ref sig .tc := ⟨.hbm, 143, rfl⟩
abbrev main_v109 : Ref sig .tc := ⟨.hbm, 144, rfl⟩
abbrev main_c_22 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_23 : Ref sig .tc := ⟨.hbm, 157, rfl⟩
abbrev main_v121 : Ref sig .tc := ⟨.hbm, 158, rfl⟩
abbrev main_v122 : Ref sig .tc := ⟨.hbm, 159, rfl⟩
abbrev main_c_24 : Ref sig .tc := ⟨.hbm, 160, rfl⟩
abbrev main_v123 : Ref sig .tc := ⟨.hbm, 161, rfl⟩
abbrev main_v124 : Ref sig .tc := ⟨.hbm, 162, rfl⟩
abbrev main_c_25 : Ref sig .tc := ⟨.hbm, 163, rfl⟩
abbrev main_v125 : Ref sig .tc := ⟨.hbm, 164, rfl⟩
abbrev main_v126 : Ref sig .tc := ⟨.hbm, 165, rfl⟩
abbrev main_c_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_27 : Ref sig .tc := ⟨.hbm, 173, rfl⟩
abbrev main_v133 : Ref sig .tc := ⟨.hbm, 174, rfl⟩
abbrev main_v134 : Ref sig .tc := ⟨.hbm, 175, rfl⟩
abbrev main_c_28 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_29 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_30 : Ref sig .tc := ⟨.hbm, 209, rfl⟩
abbrev main_v166 : Ref sig .tc := ⟨.hbm, 210, rfl⟩
abbrev main_v167 : Ref sig .tc := ⟨.hbm, 211, rfl⟩
abbrev main_cst_31 : Ref sig .tc := ⟨.hbm, 212, rfl⟩
abbrev main_v168 : Ref sig .tc := ⟨.hbm, 213, rfl⟩
abbrev main_v169 : Ref sig .tc := ⟨.hbm, 214, rfl⟩
abbrev main_cst_32 : Ref sig .tc := ⟨.hbm, 215, rfl⟩
abbrev main_v170 : Ref sig .tc := ⟨.hbm, 216, rfl⟩
abbrev main_v171 : Ref sig .tc := ⟨.hbm, 217, rfl⟩
abbrev main_cst_33 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_34 : Ref sig .tc := ⟨.hbm, 224, rfl⟩
abbrev main_v177 : Ref sig .tc := ⟨.hbm, 225, rfl⟩
abbrev main_v178 : Ref sig .tc := ⟨.hbm, 226, rfl⟩
abbrev main_cst_35 : Ref sig .tc := ⟨.hbm, 227, rfl⟩
abbrev main_v179 : Ref sig .tc := ⟨.hbm, 228, rfl⟩
abbrev main_v180 : Ref sig .tc := ⟨.hbm, 229, rfl⟩
abbrev main_cst_36 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_37 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_38 : Ref sig .tc := ⟨.hbm, 240, rfl⟩
abbrev main_v189 : Ref sig .tc := ⟨.hbm, 241, rfl⟩
abbrev main_v190 : Ref sig .tc := ⟨.hbm, 242, rfl⟩
abbrev main_cst_39 : Ref sig .tc := ⟨.hbm, 243, rfl⟩
abbrev main_v191 : Ref sig .tc := ⟨.hbm, 244, rfl⟩
abbrev main_v192 : Ref sig .tc := ⟨.hbm, 245, rfl⟩
abbrev main_cst_40 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_41 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_42 : Ref sig .tc := ⟨.hbm, 256, rfl⟩
abbrev main_v201 : Ref sig .tc := ⟨.hbm, 257, rfl⟩
abbrev main_v202 : Ref sig .tc := ⟨.hbm, 258, rfl⟩
abbrev main_cst_43 : Ref sig .tc := ⟨.hbm, 259, rfl⟩
abbrev main_v203 : Ref sig .tc := ⟨.hbm, 260, rfl⟩
abbrev main_v204 : Ref sig .tc := ⟨.hbm, 261, rfl⟩
abbrev main_cst_44 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_call1_call0_cst : Ref sig .tc := ⟨.hbm, 267, rfl⟩
abbrev main_call1_call0_v0 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_cst_45 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_cst_46 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_cst_47 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_cst_48 : Ref sig .tc := ⟨.hbm, 288, rfl⟩
abbrev main_v225 : Ref sig .tc := ⟨.hbm, 289, rfl⟩
abbrev main_v226 : Ref sig .tc := ⟨.hbm, 290, rfl⟩
abbrev main_cst_49 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_50 : Ref sig .tc := ⟨.hbm, 298, rfl⟩
abbrev main_v233 : Ref sig .tc := ⟨.hbm, 299, rfl⟩
abbrev main_v234 : Ref sig .tc := ⟨.hbm, 300, rfl⟩
abbrev main_cst_51 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_cst_52 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_53 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩

abbrev nD : Nat := 1
abbrev τ : Topo := Topo.v7x

variable {F : FTy → Type} [FloatOps F]
-- ==== Loss.lean ====
abbrev S2x2048x1024 : Shape := ⟨3, ![2, 2048, 1024]⟩
abbrev S2x6144 : Shape := ⟨2, ![2, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S2816x1024 : Shape := ⟨2, ![2816, 1024]⟩
abbrev S4x704x1024 : Shape := ⟨3, ![4, 704, 1024]⟩
abbrev S2x6x1024 : Shape := ⟨3, ![2, 6, 1024]⟩
abbrev S_ : Shape := ⟨0, ![]⟩
abbrev S2x2x1024 : Shape := ⟨3, ![2, 2, 1024]⟩
abbrev S2x8x1024 : Shape := ⟨3, ![2, 8, 1024]⟩
abbrev S4x4096x704 : Shape := ⟨3, ![4, 4096, 704]⟩
abbrev S8x128 : Shape := ⟨2, ![8, 128]⟩
abbrev S8x1024 : Shape := ⟨2, ![8, 1024]⟩
abbrev S512x1024 : Shape := ⟨2, ![512, 1024]⟩
abbrev S1x1024x704 : Shape := ⟨3, ![1, 1024, 704]⟩
abbrev S1x704x1024 : Shape := ⟨3, ![1, 704, 1024]⟩
abbrev S1x8x1024 : Shape := ⟨3, ![1, 8, 1024]⟩
abbrev S1x512x704 : Shape := ⟨3, ![1, 512, 704]⟩
abbrev S1024x704 : Shape := ⟨2, ![1024, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1x1x1024 : Shape := ⟨3, ![1, 1, 1024]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 35
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x6144, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S2x2048x1024, .f32⟩
  | .hbm, ⟨8, _⟩ => ⟨S4096x1024, .f32⟩
  | .hbm, ⟨9, _⟩ => ⟨S4096x1024, .bf16⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | .hbm, ⟨14, _⟩ => ⟨S1024x2816, .f32⟩
  | .hbm, ⟨15, _⟩ => ⟨S1024x4x704, .f32⟩
  | .hbm, ⟨16, _⟩ => ⟨S4x1024x704, .f32⟩
  | .hbm, ⟨17, _⟩ => ⟨S4x1024x704, .bf16⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S4096x1024, .f32⟩
  | .hbm, ⟨22, _⟩ => ⟨S4096x1024, .f32⟩
  | .hbm, ⟨23, _⟩ => ⟨S2x6x1024, .f32⟩
  | .hbm, ⟨24, _⟩ => ⟨S_, .f32⟩
  | .hbm, ⟨25, _⟩ => ⟨S2x2x1024, .f32⟩
  | .hbm, ⟨26, _⟩ => ⟨S2x8x1024, .f32⟩
  | .hbm, ⟨27, _⟩ => ⟨S4x4096x704, .bf16⟩
  | .hbm, ⟨28, _⟩ => ⟨S4x4096x704, .bf16⟩
  | .hbm, ⟨29, _⟩ => ⟨S4x4096x704, .bf16⟩
  | .hbm, ⟨30, _⟩ => ⟨S4096x1024, .f32⟩
  | .hbm, ⟨31, _⟩ => ⟨S4096x1024, .bf16⟩
  | .hbm, ⟨32, _⟩ => ⟨S8x128, .f32⟩
  | .hbm, ⟨33, _⟩ => ⟨S2x8x1024, .f32⟩
  | .hbm, ⟨34, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S8x128, .f32⟩
  | .local _ .vmem, ⟨26, _⟩ => ⟨S1x8x1024, .f32⟩
  | .local _ .vmem, ⟨27, _⟩ => ⟨S1x8x1024, .f32⟩
  | .local _ .vmem, ⟨28, _⟩ => ⟨S8x1024, .f32⟩
  | .local _ .vmem, ⟨29, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_27 : BitVec 32 := 0#32
  let v40 : BitVec 1 := Scalar.cmpi .ne v39 c0_i32_27
  v40

def k0_cond4 (i : grid0.Coords) : BitVec 1 :=
  let arg0 : BitVec 32 := BitVec.ofNat 32 (i 0).val
  let c0_i32_44 : BitVec 32 := 0#32
  let v68 : BitVec 1 := Scalar.cmpi .eq arg0 c0_i32_44
  let v69 : BitVec 32 := Scalar.extui v68
  let c0_i32_45 : BitVec 32 := 0#32
  let v70 : BitVec 1 := Scalar.cmpi .ne v69 c0_i32_45
  v70

def k0_cond5 (i : grid0.Coords) : BitVec 1 :=
  let arg0 : BitVec 32 := BitVec.ofNat 32 (i 0).val
  let c4_i32 : BitVec 32 := 4#32
  let c0_i32_46 : BitVec 32 := 0#32
  let v71 : BitVec 1 := Scalar.cmpi .eq c4_i32 c0_i32_46
  let c1_i32 : BitVec 32 := 1#32
  let v72 : BitVec 32 := Scalar.select v71 c1_i32 c4_i32
  let v73 : BitVec 32 := Scalar.remsi arg0 v72
  let c0_i32_48 : BitVec 32 := 0#32
  let v75 : BitVec 1 := Scalar.cmpi .slt v73 c0_i32_48
  let c0_i32_49 : BitVec 32 := 0#32
  let v76 : BitVec 1 := Scalar.cmpi .slt v72 c0_i32_49
  let v77 : BitVec 1 := Scalar.xori v75 v76
  let c0_i32_47 : BitVec 32 := 0#32
  let v74 : BitVec 1 := Scalar.cmpi .ne v73 c0_i32_47
  let v78 : BitVec 1 := Scalar.andi v77 v74
  let v79 : BitVec 32 := Scalar.addi v73 v72
  let v80 : BitVec 32 := Scalar.select v78 v79 v73
  let c0_i32_50 : BitVec 32 := 0#32
  let v81 : BitVec 1 := Scalar.cmpi .eq v80 c0_i32_50
  let v82 : BitVec 32 := Scalar.extui v81
  let c0_i32_51 : BitVec 32 := 0#32
  let v83 : BitVec 1 := Scalar.cmpi .ne v82 c0_i32_51
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== LossRefIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S2x1x1024 : Shape := ⟨3, ![2, 1, 1024]⟩
abbrev S1024x2816 : Shape := ⟨2, ![1024, 2816]⟩
abbrev S2x2048x2816 : Shape := ⟨3, ![2, 2048, 2816]⟩
abbrev S_ : Shape := ⟨0, ![]⟩
abbrev S2816x1024 : Shape := ⟨2, ![2816, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x4x704 : Shape := ⟨3, ![4096, 4, 704]⟩
abbrev S4x4096x704 : Shape := ⟨3, ![4, 4096, 704]⟩
abbrev S4096x1024 : Shape := ⟨2, ![4096, 1024]⟩
abbrev S8x128 : Shape := ⟨2, ![8, 128]⟩
abbrev S2x7x1024 : Shape := ⟨3, ![2, 7, 1024]⟩
abbrev S2x8x1024 : Shape := ⟨3, ![2, 8, 1024]⟩
abbrev S1x7x1024 : Shape := ⟨3, ![1, 7, 1024]⟩
abbrev S1x8x1024 : Shape := ⟨3, ![1, 8, 1024]⟩
abbrev S8x1024 : Shape := ⟨2, ![8, 1024]⟩

abbrev nBuf : Space → Nat
  | .hbm => 136
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x6144, .f32⟩
  | 3 => ⟨S1x1024, .f32⟩
  | 4 => ⟨S1x1024x2816, .f32⟩
  | 5 => ⟨S1x1024x2816, .f32⟩
  | 6 => ⟨S1x2816x1024, .f32⟩
  | 7 => ⟨S2x2048x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S1024x2816, .f32⟩
  | 21 => ⟨S2x2048x2816, .f32⟩
  | 22 => ⟨S1024x2816, .f32⟩
  | 23 => ⟨S2x2048x2816, .f32⟩
  | 24 => ⟨S2x2048x2816, .f32⟩
  | 25 => ⟨S2x2048x2816, .f32⟩
  | 26 => ⟨S_, .f32⟩
  | 27 => ⟨S2x2048x2816, .f32⟩
  | 28 => ⟨S2x2048x2816, .f32⟩
  | 29 => ⟨S_, .f32⟩
  | 30 => ⟨S2x2048x2816, .f32⟩
  | 31 => ⟨S2x2048x2816, .f32⟩
  | 32 => ⟨S2x2048x2816, .f32⟩
  | 33 => ⟨S2x2048x2816, .f32⟩
  | 34 => ⟨S2816x1024, .f32⟩
  | 35 => ⟨S2x2048x1024, .f32⟩
  | 36 => ⟨S1024, .f32⟩
  | 37 => ⟨S2x2048x1024, .f32⟩
  | 38 => ⟨S_, .f32⟩
  | 39 => ⟨S2x2048, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048x1, .f32⟩
  | 46 => ⟨S2x2048x1, .f32⟩
  | 47 => ⟨S2x2048x1, .f32⟩
  | 48 => ⟨S2x2048x1, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S1x1x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S_, .f32⟩
  | 63 => ⟨S2x2048x1024, .f32⟩
  | 64 => ⟨S2x2048x1024, .f32⟩
  | 65 => ⟨S_, .f32⟩
  | 66 => ⟨S2x2048, .f32⟩
  | 67 => ⟨S_, .f32⟩
  | 68 => ⟨S2x2048, .f32⟩
  | 69 => ⟨S2x2048, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S2x2048, .f32⟩
  | 78 => ⟨S_, .f32⟩
  | 79 => ⟨S2x2048, .f32⟩
  | 80 => ⟨S2x2048, .f32⟩
  | 81 => ⟨S2x2048x1024, .f32⟩
  | 82 => ⟨S2x2048x1024, .f32⟩
  | 83 => ⟨S2x2048x1024, .f32⟩
  | 84 => ⟨S2x2048x1024, .f32⟩
  | 85 => ⟨S2x2048x1024, .f32⟩
  | 86 => ⟨S_, .f32⟩
  | 87 => ⟨S2x1024, .f32⟩
  | 88 => ⟨S2x1x1024, .f32⟩
  | 89 => ⟨S2x2048x1024, .f32⟩
  | 90 => ⟨S_, .f32⟩
  | 91 => ⟨S1024, .f32⟩
  | 92 => ⟨S1x1x1024, .f32⟩
  | 93 => ⟨S2x2048x1024, .f32⟩
  | 94 => ⟨S2x2048x1024, .f32⟩
  | 95 => ⟨S_, .f32⟩
  | 96 => ⟨S1024, .f32⟩
  | 97 => ⟨S2x2048x1024, .f32⟩
  | 98 => ⟨S_, .f32⟩
  | 99 => ⟨S2x2048, .f32⟩
  | 100 => ⟨S2x2048x1, .f32⟩
  | 101 => ⟨S2x2048x1024, .f32⟩
  | 102 => ⟨S2x2048x1024, .f32⟩
  | 103 => ⟨S2x2048x1, .f32⟩
  | 104 => ⟨S_, .f32⟩
  | 105 => ⟨S2x2048x1, .f32⟩
  | 106 => ⟨S2x2048x1, .f32⟩
  | 107 => ⟨S_, .f32⟩
  | 108 => ⟨S2x2048, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S1x1024, .f32⟩
  | 115 => ⟨S4096x4x704, .f32⟩
  | 116 => ⟨S4x4096x704, .f32⟩
  | 117 => ⟨S4x4096x704, .bf16⟩
  | 118 => ⟨S4096x4x704, .f32⟩
  | 119 => ⟨S4x4096x704, .f32⟩
  | 120 => ⟨S4x4096x704, .bf16⟩
  | 121 => ⟨S4096x4x704, .f32⟩
  | 122 => ⟨S4x4096x704, .f32⟩
  | 123 => ⟨S4x4096x704, .bf16⟩
  | 124 => ⟨S4096x1024, .f32⟩
  | 125 => ⟨S4096x1024, .f32⟩
  | 126 => ⟨S4096x1024, .bf16⟩
  | 127 => ⟨S8x128, .f32⟩
  | _ => ⟨S2x2048x1024, .f32⟩

abbrev hbmTy0_1 (i : Nat) : BufTy := match i % 128 with
  | 0 => ⟨S_, .f32⟩
  | 1 => ⟨S2x7x1024, .f32⟩
  | 2 => ⟨S2x8x1024, .f32⟩
  | 3 => ⟨S1x1x1024, .f32⟩
  | 4 => ⟨S_, .f32⟩
  | 5 => ⟨S1x7x1024, .f32⟩
  | 6 => ⟨S1x8x1024, .f32⟩
  | 7 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]
-- ==== Ffn.lean ====
abbrev S2x2048x1024 : Shape := ⟨3, ![2, 2048, 1024]⟩
abbrev S2x6144 : Shape := ⟨2, ![2, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1024x2816 : Shape := ⟨2, ![1024, 2816]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1024x4x704 : Shape := ⟨3, ![1024, 4, 704]⟩
abbrev S4x1024x704 : Shape := ⟨3, ![4, 1024, 704]⟩
abbrev S2x6x1024 : Shape := ⟨3, ![2, 6, 1024]⟩
abbrev S2x2x1024 : Shape := ⟨3, ![2, 2, 1024]⟩
abbrev S2x8x1024 : Shape := ⟨3, ![2, 8, 1024]⟩
abbrev S8x1024 : Shape := ⟨2, ![8, 1024]⟩
abbrev S512x1024 : Shape := ⟨2, ![512, 1024]⟩
abbrev S1x512x704 : Shape := ⟨3, ![1, 512, 704]⟩
abbrev S1x704x1024 : Shape := ⟨3, ![1, 704, 1024]⟩
abbrev S1x1024x704 : Shape := ⟨3, ![1, 1024, 704]⟩
abbrev S1x8x1024 : Shape := ⟨3, ![1, 8, 1024]⟩
abbrev S704x1024 : Shape := ⟨2, ![704, 1024]⟩
abbrev S512x704 : Shape := ⟨2, ![512, 704]⟩
abbrev S1024x704 : Shape := ⟨2, ![1024, 704]⟩
abbrev S512 : Shape := ⟨1, ![512]⟩
abbrev S512x1 : Shape := ⟨2, ![512, 1]⟩

abbrev nBuf : Space → Nat
  | .hbm => 102
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x6144, .f32⟩
  | .hbm, ⟨3, _⟩ => ⟨S1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S2x2048x1024, .f32⟩
  | .hbm, ⟨9, _⟩ => ⟨S2x2048x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S1024, .f32⟩
  | .hbm, ⟨43, _⟩ => ⟨S2x2048x1024, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S2x2048x1, .f32⟩
  | .hbm, ⟨54, _⟩ => ⟨S2x2048x1024, .f32⟩
  | .hbm, ⟨55, _⟩ => ⟨S2x2048x1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S4096x1024, .f32⟩
  | .hbm, ⟨67, _⟩ => ⟨S4096x1024, .bf16⟩
  | .hbm, ⟨68, _⟩ => ⟨S1024x2816, .f32⟩
  | .hbm, ⟨69, _⟩ => ⟨S2x2048x2816, .f32⟩
  | .hbm, ⟨70, _⟩ => ⟨S4096x4x704, .f32⟩
  | .hbm, ⟨71, _⟩ => ⟨S4x4096x704, .f32⟩
  | .hbm, ⟨72, _⟩ => ⟨S4x4096x704, .bf16⟩
  | .hbm, ⟨73, _⟩ => ⟨S1024x2816, .f32⟩
  | .hbm, ⟨74, _⟩ => ⟨S2x2048x2816, .f32⟩
  | .hbm, ⟨75, _⟩ => ⟨S4096x4x704, .f32⟩
  | .hbm, ⟨76, _⟩ => ⟨S4x4096x704, .f32⟩
  | .hbm, ⟨77, _⟩ => ⟨S4x4096x704, .bf16⟩
  | .hbm, ⟨78, _⟩ => ⟨S2816x1024, .f32⟩
  | .hbm, ⟨79, _⟩ => ⟨S4x704x1024, .f32⟩
  | .hbm, ⟨80, _⟩ => ⟨S4x704x1024, .bf16⟩
  | .hbm, ⟨81, _⟩ => ⟨S1024x2816, .f32⟩
  | .hbm, ⟨82, _⟩ => ⟨S1024x4x704, .f32⟩
  | .hbm, ⟨83, _⟩ => ⟨S4x1024x704, .f32⟩
  | .hbm, ⟨84, _⟩ => ⟨S4x1024x704, .bf16⟩
  | .hbm, ⟨85, _⟩ => ⟨S1024x2816, .f32⟩
  | .hbm, ⟨86, _⟩ => ⟨S1024x4x704, .f32⟩
  | .hbm, ⟨87, _⟩ => ⟨S4x1024x704, .f32⟩
  | .hbm, ⟨88, _⟩ => ⟨S4x1024x704, .bf16⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S2x6x1024, .f32⟩
  | .hbm, ⟨93, _⟩ => ⟨S_, .f32⟩
  | .hbm, ⟨94, _⟩ => ⟨S2x2x1024, .f32⟩
  | .hbm, ⟨95, _⟩ => ⟨S2x8x1024, .f32⟩
  | .hbm, ⟨96, _⟩ => ⟨S4x4096x704, .bf16⟩
  | .hbm, ⟨97, _⟩ => ⟨S4x4096x704, .bf16⟩
  | .hbm, ⟨98, _⟩ => ⟨S4096x1024, .f32⟩
  | .hbm, ⟨99, _⟩ => ⟨S4096x1024, .bf16⟩
  | .hbm, ⟨100, _⟩ => ⟨S2x8x1024, .f32⟩
  | .hbm, ⟨101, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x1024, .f32⟩
  | .local _ .vmem, ⟨21, _⟩ => ⟨S1x1024, .f32⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x8x1024, .f32⟩
  | .local _ .vmem, ⟨31, _⟩ => ⟨S1x8x1024, .f32⟩
  | .local _ .vmem, ⟨32, _⟩ => ⟨S8x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_6 : Ref sig .tc := ⟨.hbm, 93, rfl⟩
abbrev main_v76 : Ref sig .tc := ⟨.hbm, 94, rfl⟩
abbrev main_v77 : Ref sig .tc := ⟨.hbm, 95, rfl⟩
abbrev main_v78_0 : Ref sig .tc := ⟨.hbm, 96, rfl⟩
abbrev main_v78_1 : Ref sig .tc := ⟨.hbm, 97, rfl⟩
abbrev main_v78_2 : Ref sig .tc := ⟨.hbm, 98, rfl⟩
abbrev main_v78_3 : Ref sig .tc := ⟨.hbm, 99, rfl⟩
abbrev main_v78_4 : Ref sig .tc := ⟨.hbm, 100, rfl⟩
abbrev main_v78_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_32 : BitVec 32 := 0#32
  let v51 : BitVec 1 := Scalar.cmpi .ne v50 c0_i32_32
  v51

def k0_cond5 (i : grid0.Coords) : BitVec 1 :=
  let arg0 : BitVec 32 := BitVec.ofNat 32 (i 0).val
  let c4_i32 : BitVec 32 := 4#32
  let c0_i32_35 : BitVec 32 := 0#32
  let v55 : BitVec 1 := Scalar.cmpi .eq c4_i32 c0_i32_35
  let c1_i32 : BitVec 32 := 1#32
  let v56 : BitVec 32 := Scalar.select v55 c1_i32 c4_i32
  let v57 : BitVec 32 := Scalar.remsi arg0 v56
  let c0_i32_37 : BitVec 32 := 0#32
  let v59 : BitVec 1 := Scalar.cmpi .slt v57 c0_i32_37
  let c0_i32_38 : BitVec 32 := 0#32
  let v60 : BitVec 1 := Scalar.cmpi .slt v56 c0_i32_38
  let v61 : BitVec 1 := Scalar.xori v59 v60
  let c0_i32_36 : BitVec 32 := 0#32
  let v58 : BitVec 1 := Scalar.cmpi .ne v57 c0_i32_36
  let v62 : BitVec 1 := Scalar.andi v61 v58
  let v63 : BitVec 32 := Scalar.addi v57 v56
  let v64 : BitVec 32 := Scalar.select v62 v63 v57
  let c0_i32_39 : BitVec 32 := 0#32
  let v65 : BitVec 1 := Scalar.cmpi .eq v64 c0_i32_39
  let v66 : BitVec 32 := Scalar.extui v65
  let c0_i32_40 : BitVec 32 := 0#32
  let v67 : BitVec 1 := Scalar.cmpi .ne v66 c0_i32_40
  v67

def k0_cond4 (i : grid0.Coords) : BitVec 1 :=
  let arg0 : BitVec 32 := BitVec.ofNat 32 (i 0).val
  let c0_i32_33 : BitVec 32 := 0#32
  let v52 : BitVec 1 := Scalar.cmpi .eq arg0 c0_i32_33
  let v53 : BitVec 32 := Scalar.extui v52
  let c0_i32_34 : BitVec 32 := 0#32
  let v54 : BitVec 1 := Scalar.cmpi .ne v53 c0_i32_34
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== FfnRefIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x4x704 : Shape := ⟨3, ![4096, 4, 704]⟩
abbrev S4x4096x704 : Shape := ⟨3, ![4, 4096, 704]⟩
abbrev S4096x1024 : Shape := ⟨2, ![4096, 1024]⟩
abbrev S2x5x1024 : Shape := ⟨3, ![2, 5, 1024]⟩
abbrev S2x8x1024 : Shape := ⟨3, ![2, 8, 1024]⟩
abbrev S1x6x1024 : Shape := ⟨3, ![1, 6, 1024]⟩
abbrev S1x8x1024 : Shape := ⟨3, ![1, 8, 1024]⟩
abbrev S8x1024 : Shape := ⟨2, ![8, 1024]⟩

abbrev nBuf : Space → Nat
  | .hbm => 191
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x6144, .f32⟩
  | 3 => ⟨S1x1024, .f32⟩
  | 4 => ⟨S1x1024, .f32⟩
  | 5 => ⟨S1x1024x2816, .f32⟩
  | 6 => ⟨S1x1024x2816, .f32⟩
  | 7 => ⟨S1x2816x1024, .f32⟩
  | 8 => ⟨S2x2048x1024, .f32⟩
  | 9 => ⟨S2x2048x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S2x1x1024, .f32⟩
  | 22 => ⟨S1024, .f32⟩
  | 23 => ⟨S2x2048x1024, .f32⟩
  | 24 => ⟨S_, .f32⟩
  | 25 => ⟨S2x2048, .f32⟩
  | 26 => ⟨S2x2048x1, .f32⟩
  | 27 => ⟨S_, .f32⟩
  | 28 => ⟨S2x2048x1, .f32⟩
  | 29 => ⟨S2x2048x1, .f32⟩
  | 30 => ⟨S_, .f32⟩
  | 31 => ⟨S2x2048x1, .f32⟩
  | 32 => ⟨S2x2048x1, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S2x2048x1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S1024, .f32⟩
  | 47 => ⟨S2x2048x1024, .f32⟩
  | 48 => ⟨S_, .f32⟩
  | 49 => ⟨S2x2048, .f32⟩
  | 50 => ⟨S2x2048x1, .f32⟩
  | 51 => ⟨S_, .f32⟩
  | 52 => ⟨S2x2048x1, .f32⟩
  | 53 => ⟨S2x2048x1, .f32⟩
  | 54 => ⟨S_, .f32⟩
  | 55 => ⟨S2x2048x1, .f32⟩
  | 56 => ⟨S2x2048x1, .f32⟩
  | 57 => ⟨S2x2048x1, .f32⟩
  | 58 => ⟨S2x2048x1, .f32⟩
  | 59 => ⟨S_, .f32⟩
  | 60 => ⟨S2x2048x1, .f32⟩
  | 61 => ⟨S2x2048x1, .f32⟩
  | 62 => ⟨S2x2048x1024, .f32⟩
  | 63 => ⟨S2x2048x1024, .f32⟩
  | 64 => ⟨S1x1x1024, .f32⟩
  | 65 => ⟨S2x2048x1024, .f32⟩
  | 66 => ⟨S2x2048x1024, .f32⟩
  | 67 => ⟨S_, .f32⟩
  | 68 => ⟨S2x1x1024, .f32⟩
  | 69 => ⟨S2x1x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S1024x2816, .f32⟩
  | 75 => ⟨S2x2048x2816, .f32⟩
  | 76 => ⟨S1024x2816, .f32⟩
  | 77 => ⟨S2x2048x2816, .f32⟩
  | 78 => ⟨S2x2048x2816, .f32⟩
  | 79 => ⟨S2x2048x2816, .f32⟩
  | 80 => ⟨S_, .f32⟩
  | 81 => ⟨S2x2048x2816, .f32⟩
  | 82 => ⟨S2x2048x2816, .f32⟩
  | 83 => ⟨S_, .f32⟩
  | 84 => ⟨S2x2048x2816, .f32⟩
  | 85 => ⟨S2x2048x2816, .f32⟩
  | 86 => ⟨S_, .f32⟩
  | 87 => ⟨S2x2048x2816, .f32⟩
  | 88 => ⟨S2x2048x2816, .f32⟩
  | 89 => ⟨S2x2048x2816, .f32⟩
  | 90 => ⟨S2x2048x2816, .f32⟩
  | 91 => ⟨S2x2048x2816, .f32⟩
  | 92 => ⟨S2816x1024, .f32⟩
  | 93 => ⟨S2x2048x1024, .f32⟩
  | 94 => ⟨S2x2048x2816, .f32⟩
  | 95 => ⟨S2x2048x2816, .f32⟩
  | 96 => ⟨S2x2048x2816, .f32⟩
  | 97 => ⟨S2x2048x2816, .f32⟩
  | 98 => ⟨S2x2048x2816, .f32⟩
  | 99 => ⟨S2x2048x2816, .f32⟩
  | 100 => ⟨S2x2048x2816, .f32⟩
  | 101 => ⟨S2x2048x1024, .f32⟩
  | 102 => ⟨S2x2048x1024, .f32⟩
  | 103 => ⟨S2x2048x1024, .f32⟩
  | 104 => ⟨S_, .f32⟩
  | 105 => ⟨S2x1024, .f32⟩
  | 106 => ⟨S2x1x1024, .f32⟩
  | 107 => ⟨S2x2048x1024, .f32⟩
  | 108 => ⟨S_, .f32⟩
  | 109 => ⟨S2x1024, .f32⟩
  | 110 => ⟨S2x1x1024, .f32⟩
  | 111 => ⟨S2x2048x1024, .f32⟩
  | 112 => ⟨S2x2048x1024, .f32⟩
  | 113 => ⟨S2x2048x1024, .f32⟩
  | 114 => ⟨S_, .f32⟩
  | 115 => ⟨S1024, .f32⟩
  | 116 => ⟨S1x1x1024, .f32⟩
  | 117 => ⟨S2x2048x1024, .f32⟩
  | 118 => ⟨S2x2048x1024, .f32⟩
  | 119 => ⟨S_, .f32⟩
  | 120 => ⟨S1024, .f32⟩
  | 121 => ⟨S2x2048x1024, .f32⟩
  | 122 => ⟨S_, .f32⟩
  | 123 => ⟨S2x2048, .f32⟩
  | 124 => ⟨S2x2048x1, .f32⟩
  | 125 => ⟨S2x2048x1024, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S2x2048x1, .f32⟩
  | 1 => ⟨S_, .f32⟩
  | 2 => ⟨S2x2048x1, .f32⟩
  | 3 => ⟨S2x2048x1, .f32⟩
  | 4 => ⟨S_, .f32⟩
  | 5 => ⟨S2x2048, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S1x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S_, .f32⟩
  | 17 => ⟨S2x1024, .f32⟩
  | 18 => ⟨S2x1x1024, .f32⟩
  | 19 => ⟨S2x2048x1024, .f32⟩
  | 20 => ⟨S_, .f32⟩
  | 21 => ⟨S1024, .f32⟩
  | 22 => ⟨S1x1x1024, .f32⟩
  | 23 => ⟨S2x2048x1024, .f32⟩
  | 24 => ⟨S2x2048x1024, .f32⟩
  | 25 => ⟨S_, .f32⟩
  | 26 => ⟨S1024, .f32⟩
  | 27 => ⟨S2x2048x1024, .f32⟩
  | 28 => ⟨S_, .f32⟩
  | 29 => ⟨S2x2048, .f32⟩
  | 30 => ⟨S2x2048x1, .f32⟩
  | 31 => ⟨S2x2048x1024, .f32⟩
  | 32 => ⟨S2x2048x1024, .f32⟩
  | 33 => ⟨S2x2048x1, .f32⟩
  | 34 => ⟨S_, .f32⟩
  | 35 => ⟨S2x2048x1, .f32⟩
  | 36 => ⟨S2x2048x1, .f32⟩
  | 37 => ⟨S_, .f32⟩
  | 38 => ⟨S2x2048, .f32⟩
  | 39 => ⟨S2x2048x1024, .f32⟩
  | 40 => ⟨S2x2048x1024, .f32⟩
  | 41 => ⟨S2x2048x1024, .f32⟩
  | 42 => ⟨S2x2048x1024, .f32⟩
  | 43 => ⟨S2x2048x1024, .f32⟩
  | 44 => ⟨S1x1024, .f32⟩
  | 45 => ⟨S4096x4x704, .f32⟩
  | 46 => ⟨S4x4096x704, .f32⟩
  | 47 => ⟨S4x4096x704, .bf16⟩
  | 48 => ⟨S4096x4x704, .f32⟩
  | 49 => ⟨S4x4096x704, .f32⟩
  | 50 => ⟨S4x4096x704, .bf16⟩
  | 51 => ⟨S4096x1024, .f32⟩
  | 52 => ⟨S4096x1024, .f32⟩
  | 53 => ⟨S4096x1024, .bf16⟩
  | 54 => ⟨S_, .f32⟩
  | 55 => ⟨S2x5x1024, .f32⟩
  | 56 => ⟨S2x8x1024, .f32⟩
  | 57 => ⟨S1x1x1024, .f32⟩
  | 58 => ⟨S1x1x1024, .f32⟩
  | 59 => ⟨S_, .f32⟩
  | 60 => ⟨S1x6x1024, .f32⟩
  | 61 => ⟨S1x8x1024, .f32⟩
  | 62 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_v59_2 : Ref sig .tc := ⟨.hbm, 85, rfl⟩
abbrev main_call0_cst_1 : Ref sig .tc := ⟨.hbm, 86, rfl⟩
abbrev main_call0_v6 : Ref sig .tc := ⟨.hbm, 87, rfl⟩
abbrev main_call0_v7 : Ref sig .tc := ⟨.hbm, 88, rfl⟩
abbrev main_v59_1 : Ref sig .tc := ⟨.hbm, 89, rfl⟩
abbrev main_v59_0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_8 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_9 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_10 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_cst_12 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_13 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_15 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_16 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_17 : Ref sig .tc := ⟨.hbm, 153, rfl⟩
abbrev main_v110 : Ref sig .tc := ⟨.hbm, 154, rfl⟩
abbrev main_v111 : Ref sig .tc := ⟨.hbm, 155, rfl⟩
abbrev main_cst_18 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_19 : Ref sig .tc := ⟨.hbm, 162, rfl⟩
abbrev main_v117 : Ref sig .tc := ⟨.hbm, 163, rfl⟩
abbrev main_v118 : Ref sig .tc := ⟨.hbm, 164, rfl⟩
abbrev main_cst_20 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_21 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_22 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩

abbrev nD : Nat := 1
abbrev τ : Topo := Topo.v7x

variable {F : FTy → Type} [FloatOps F]
-- ==== AttnFwd.lean ====
abbrev S2x2048x512 : Shape := ⟨3, ![2, 2048, 512]⟩
abbrev S_ : Shape := ⟨0, ![]⟩
abbrev S4096x512 : Shape := ⟨2, ![4096, 512]⟩
abbrev S256x128 : Shape := ⟨2, ![256, 128]⟩
abbrev S2048x128 : Shape := ⟨2, ![2048, 128]⟩
abbrev S1x128 : Shape := ⟨2, ![1, 128]⟩
abbrev S256x256 : Shape := ⟨2, ![256, 256]⟩
abbrev S256x1 : Shape := ⟨2, ![256, 1]⟩
abbrev S256 : Shape := ⟨1, ![256]⟩

abbrev nBuf : Space → Nat
  | .hbm => 14
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S_, .f32⟩
  | .hbm, ⟨4, _⟩ => ⟨S2x2048x512, .f32⟩
  | .hbm, ⟨5, _⟩ => ⟨S2x2048x512, .f32⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
def k0_off1 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_3 : Index := 0#32
  ![v20.toNat, 0]
@[reducible] def k0_t1_loop (i : grid0.Coords) : Scf.Loop 32 :=
  let c0_i32 : BitVec 32 := 0#32
  let arg2 : BitVec 32 := BitVec.ofNat 32 (i 2).val
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_16 : BitVec 32 := 1#32
  ⟨c0_i32, v65, c1_i32_16⟩
def k0_mult2 (i : grid0.Coords) (k0_t1 : Fin (k0_t1_loop i).trips) : BitVec 32 :=
  let arg2 : BitVec 32 := BitVec.ofNat 32 (i 2).val
  let c1_i32_45 : BitVec 32 := 1#32
  let v141 : BitVec 32 := Scalar.subi arg2 c1_i32_45
  let c0_i32 : BitVec 32 := 0#32
  let c1_i32_16 : BitVec 32 := 1#32
  let arg8 : BitVec 32 := Scf.iv c0_i32 c1_i32_16 k0_t1
  let v142 : BitVec 32 := Scalar.subi v141 arg8
  let c256_i32_46 : BitVec 32 := 256#32
  let v143 : BitVec 32 := Scalar.muli v142 c256_i32_46
  v143
def k0_off2 (i : grid0.Coords) (k0_t1 : Fin (k0_t1_loop i).trips) : Fin 2 → Nat :=
  let arg2 : BitVec 32 := BitVec.ofNat 32 (i 2).val
  let c1_i32_45 : BitVec 32 := 1#32
  let v141 : BitVec 32 := Scalar.subi arg2 c1_i32_45
  let c0_i32 : BitVec 32 := 0#32
  let c1_i32_16 : BitVec 32 := 1#32
  let arg8 : BitVec 32 := Scf.iv c0_i32 c1_i32_16 k0_t1
  let v142 : BitVec 32 := Scalar.subi v141 arg8
  let c256_i32_46 : BitVec 32 := 256#32
  let v143 : BitVec 32 := Scalar.muli v142 c256_i32_46
  let v144 : BitVec 32 := v143
  let v145 : Index := Scalar.indexCast v144
  let c0_47 : Index := 0#32
  ![v145.toNat, 0]
@[reducible] def k0_t2_loop (i : grid0.Coords) : Scf.Loop 32 :=
  let c0_i32 : BitVec 32 := 0#32
  let arg2 : BitVec 32 := BitVec.ofNat 32 (i 2).val
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let v62 : BitVec 32 := Scalar.addi c0_i32 v61
  let c1_i32_17 : BitVec 32 := 1#32
  ⟨v65, v62, c1_i32_17⟩
def k0_mult3 (i : grid0.Coords) (k0_t2 : Fin (k0_t2_loop i).trips) : BitVec 32 :=
  let arg2 : BitVec 32 := BitVec.ofNat 32 (i 2).val
  let c1_i32_45 : BitVec 32 := 1#32
  let v141 : BitVec 32 := Scalar.subi arg2 c1_i32_45
  let c0_i32 : BitVec 32 := 0#32
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_17 : BitVec 32 := 1#32
  let arg8 : BitVec 32 := Scf.iv v65 c1_i32_17 k0_t2
  let v142 : BitVec 32 := Scalar.subi v141 arg8
  let c256_i32_46 : BitVec 32 := 256#32
  let v143 : BitVec 32 := Scalar.muli v142 c256_i32_46
  v143
def k0_off3 (i : grid0.Coords) (k0_t2 : Fin (k0_t2_loop i).trips) : Fin 2 → Nat :=
  let arg2 : BitVec 32 := BitVec.ofNat 32 (i 2).val
  let c1_i32_45 : BitVec 32 := 1#32
  let v141 : BitVec 32 := Scalar.subi arg2 c1_i32_45
  let c0_i32 : BitVec 32 := 0#32
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_17 : BitVec 32 := 1#32
  let arg8 : BitVec 32 := Scf.iv v65 c1_i32_17 k0_t2
  let v142 : BitVec 32 := Scalar.subi v141 arg8
  let c256_i32_46 : BitVec 32 := 256#32
  let v143 : BitVec 32 := Scalar.muli v142 c256_i32_46
  let v144 : BitVec 32 := v143
  let v145 : Index := Scalar.indexCast v144
  let c0_47 : Index := 0#32
  ![v145.toNat, 0]
def k0_mult4 (i : grid0.Coords) : BitVec 32 :=
  let arg2 : BitVec 32 := BitVec.ofNat 32 (i 2).val
  let c256_i32_22 : BitVec 32 := 256#32
  let v76 : BitVec 32 := Scalar.muli arg2 c256_i32_22
  v76
@[reducible] def k0_t3_loop (i : grid0.Coords) : Scf.Loop 32 :=
  let c0_i32_36 : BitVec 32 := 0#32
  let arg2 : BitVec 32 := BitVec.ofNat 32 (i 2).val
  let v119 : BitVec 32 := Scalar.subi arg2 c0_i32_36
  let c1_i32_37 : BitVec 32 := 1#32
  let v121 : BitVec 32 := Scalar.divsi v119 c1_i32_37
  let v122 : BitVec 32 := Scalar.muli v121 c1_i32_37
  let v123 : BitVec 32 := Scalar.addi c0_i32_36 v122
  let c1_i32_38 : BitVec 32 := 1#32
  ⟨c0_i32_36, v123, c1_i32_38⟩
def k0_mult5 (i : grid0.Coords) (k0_t3 : Fin (k0_t3_loop i).trips) : BitVec 32 :=
  let arg2 : BitVec 32 := BitVec.ofNat 32 (i 2).val
  let c1_i32_45 : BitVec 32 := 1#32
  let v141 : BitVec 32 := Scalar.subi arg2 c1_i32_45
  let c0_i32_36 : BitVec 32 := 0#32
  let c1_i32_38 : BitVec 32 := 1#32
  let arg8 : BitVec 32 := Scf.iv c0_i32_36 c1_i32_38 k0_t3
  let v142 : BitVec 32 := Scalar.subi v141 arg8
  let c256_i32_46 : BitVec 32 := 256#32
  let v143 : BitVec 32 := Scalar.muli v142 c256_i32_46
  v143
def k0_off4 (i : grid0.Coords) (k0_t3 : Fin (k0_t3_loop i).trips) : Fin 2 → Nat :=
  let arg2 : BitVec 32 := BitVec.ofNat 32 (i 2).val
  let c1_i32_45 : BitVec 32 := 1#32
  let v141 : BitVec 32 := Scalar.subi arg2 c1_i32_45
  let c0_i32_36 : BitVec 32 := 0#32
  let c1_i32_38 : BitVec 32 := 1#32
  let arg8 : BitVec 32 := Scf.iv c0_i32_36 c1_i32_38 k0_t3
  let v142 : BitVec 32 := Scalar.subi v141 arg8
  let c256_i32_46 : BitVec 32 := 256#32
  let v143 : BitVec 32 := Scalar.muli v142 c256_i32_46
  let v144 : BitVec 32 := v143
  let v145 : Index := Scalar.indexCast v144
  let c0_47 : Index := 0#32
  ![v145.toNat, 0]
@[reducible] def k0_t4_loop (i : grid0.Coords) : Scf.Loop 32 :=
  let c0_i32_36 : BitVec 32 := 0#32
  let arg2 : BitVec 32 := BitVec.ofNat 32 (i 2).val
  let v119 : BitVec 32 := Scalar.subi arg2 c0_i32_36
  let c1_i32_37 : BitVec 32 := 1#32
  let v121 : BitVec 32 := Scalar.divsi v119 c1_i32_37
  let v122 : BitVec 32 := Scalar.muli v121 c1_i32_37
  let v123 : BitVec 32 := Scalar.addi c0_i32_36 v122
  let v120 : BitVec 32 := Scalar.addi c0_i32_36 v119
  let c1_i32_39 : BitVec 32 := 1#32
  ⟨v123, v120, c1_i32_39⟩
def k0_mult6 (i : grid0.Coords) (k0_t4 : Fin (k0_t4_loop i).trips) : BitVec 32 :=
  let arg2 : BitVec 32 := BitVec.ofNat 32 (i 2).val
  let c1_i32_45 : BitVec 32 := 1#32
  let v141 : BitVec 32 := Scalar.subi arg2 c1_i32_45
  let c0_i32_36 : BitVec 32 := 0#32
  let v119 : BitVec 32 := Scalar.subi arg2 c0_i32_36
  let c1_i32_37 : BitVec 32 := 1#32
  let v121 : BitVec 32 := Scalar.divsi v119 c1_i32_37
  let v122 : BitVec 32 := Scalar.muli v121 c1_i32_37
  let v123 : BitVec 32 := Scalar.addi c0_i32_36 v122
  let c1_i32_39 : BitVec 32 := 1#32
  let arg8 : BitVec 32 := Scf.iv v123 c1_i32_39 k0_t4
  let v142 : BitVec 32 := Scalar.subi v141 arg8
  let c256_i32_46 : BitVec 32 := 256#32
  let v143 : BitVec 32 := Scalar.muli v142 c256_i32_46
  v143
def k0_off5 (i : grid0.Coords) (k0_t4 : Fin (k0_t4_loop i).trips) : Fin 2 → Nat :=
  let arg2 : BitVec 32 := BitVec.ofNat 32 (i 2).val
  let c1_i32_45 : BitVec 32 := 1#32
  let v141 : BitVec 32 := Scalar.subi arg2 c1_i32_45
  let c0_i32_36 : BitVec 32 := 0#32
  let v119 : BitVec 32 := Scalar.subi arg2 c0_i32_36
  let c1_i32_37 : BitVec 32 := 1#32
  let v121 : BitVec 32 := Scalar.divsi v119 c1_i32_37
  let v122 : BitVec 32 := Scalar.muli v121 c1_i32_37
  let v123 : BitVec 32 := Scalar.addi c0_i32_36 v122
  let c1_i32_39 : BitVec 32 := 1#32
  let arg8 : BitVec 32 := Scf.iv v123 c1_i32_39 k0_t4
  let v142 : BitVec 32 := Scalar.subi v141 arg8
  let c256_i32_46 : BitVec 32 := 256#32
  let v143 : BitVec 32 := Scalar.muli v142 c256_i32_46
  let v144 : BitVec 32 := v143
  let v145 : Index := Scalar.indexCast v144
  let c0_47 : Index := 0#32
  ![v145.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFwdRefIdeal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S4096x512 : Shape := ⟨2, ![4096, 512]⟩

abbrev nBuf : Space → Nat
  | .hbm => 117
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x8x64, .f32⟩
  | .hbm, ⟨4, _⟩ => ⟨S2x8x2048x64, .f32⟩
  | .hbm, ⟨5, _⟩ => ⟨S2x2048x8x64, .f32⟩
  | .hbm, ⟨6, _⟩ => ⟨S2x8x2048x64, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S2x8x2048x2048, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .i1⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S_, .f32⟩
  | .hbm, ⟨35, _⟩ => ⟨S2x8x2048x2048, .i1⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x64, .f32⟩
  | .hbm, ⟨42, _⟩ => ⟨S2x2048x8x64, .f32⟩
  | .hbm, ⟨43, _⟩ => ⟨S2x8x2048x64, .f32⟩
  | .hbm, ⟨44, _⟩ => ⟨S2x2048x8x64, .f32⟩
  | .hbm, ⟨45, _⟩ => ⟨S2x8x2048x64, .f32⟩
  | .hbm, ⟨46, _⟩ => ⟨S2x2048x8x64, .f32⟩
  | .hbm, ⟨47, _⟩ => ⟨S2x8x2048x64, .f32⟩
  | .hbm, ⟨48, _⟩ => ⟨S2x8x2048x2048, .f32⟩
  | .hbm, ⟨49, _⟩ => ⟨S_, .f32⟩
  | .hbm, ⟨50, _⟩ => ⟨S2x8x2048x2048, .f32⟩
  | .hbm, ⟨51, _⟩ => ⟨S2x8x2048x2048, .f32⟩
  | .hbm, ⟨52, _⟩ => ⟨S2048, .i32⟩
  | .hbm, ⟨53, _⟩ => ⟨S2048x1, .i32⟩
  | .hbm, ⟨54, _⟩ => ⟨S2048, .i32⟩
  | .hbm, ⟨55, _⟩ => ⟨S1x2048, .i32⟩
  | .hbm, ⟨56, _⟩ => ⟨S2048x2048, .i32⟩
  | .hbm, ⟨57, _⟩ => ⟨S2048x2048, .i32⟩
  | .hbm, ⟨58, _⟩ => ⟨S2048x2048, .i1⟩
  | .hbm, ⟨59, _⟩ => ⟨S_, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .i1⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S2x8x2048x2048, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S_, .f32⟩
  | .hbm, ⟨76, _⟩ => ⟨S2x8x2048x2048, .i1⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S_, .f32⟩
  | .hbm, ⟨81, _⟩ => ⟨S2x8x2048x2048, .f32⟩
  | .hbm, ⟨82, _⟩ => ⟨S2x8x2048x2048, .f32⟩
  | .hbm, ⟨83, _⟩ => ⟨S2x8x2048x2048, .f32⟩
  | .hbm, ⟨84, _⟩ => ⟨S_, .f32⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .i1⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S2x8x2048x2048, .f32⟩
  | .hbm, ⟨99, _⟩ => ⟨S2x8x2048x2048, .f32⟩
  | .hbm, ⟨100, _⟩ => ⟨S_, .f32⟩
  | .hbm, ⟨101, _⟩ => ⟨S_, .f32⟩
  | .hbm, ⟨102, _⟩ => ⟨S2x8x2048x2048, .i1⟩
  | .hbm, ⟨103, _⟩ => ⟨S2x8x2048x2048, .f32⟩
  | .hbm, ⟨104, _⟩ => ⟨S2x8x2048x2048, .f32⟩
  | .hbm, ⟨105, _⟩ => ⟨S2x8x2048x2048, .f32⟩
  | .hbm, ⟨106, _⟩ => ⟨S_, .f32⟩
  | .hbm, ⟨107, _⟩ => ⟨S_, .f32⟩
  | .hbm, ⟨108, _⟩ => ⟨S2x8x2048x2048, .i1⟩
  | .hbm, ⟨109, _⟩ => ⟨S2x8x2048x2048, .f32⟩
  | .hbm, ⟨110, _⟩ => ⟨S2x8x2048x2048, .f32⟩
  | .hbm, ⟨111, _⟩ => ⟨S2x8x2048x64, .f32⟩
  | .hbm, ⟨112, _⟩ => ⟨S2x2048x8x64, .f32⟩
  | .hbm, ⟨113, _⟩ => ⟨S4096x512, .f32⟩
  | .hbm, ⟨114, _⟩ => ⟨S4096x512, .bf16⟩
  | .hbm, ⟨115, _⟩ => ⟨S2x2048x8x64, .f32⟩
  | .hbm, ⟨116, _⟩ => ⟨S4096x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v36 : Ref sig .tc := ⟨.hbm, 72, rfl⟩
abbrev main_v37 : Ref sig .tc := ⟨.hbm, 73, rfl⟩
abbrev main_cst_3 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v38 : Ref sig .tc := ⟨.hbm, 78, rfl⟩
abbrev main_call4_cst : Ref sig .tc := ⟨.hbm, 79, rfl⟩
abbrev main_call4_v0 : Ref sig .tc := ⟨.hbm, 80, rfl⟩
abbrev main_v39 : Ref sig .tc := ⟨.hbm, 81, rfl⟩
abbrev main_v40 : Ref sig .tc := ⟨.hbm, 82, rfl⟩
abbrev main_call5_v0 : Ref sig .tc := ⟨.hbm, 83, rfl⟩
abbrev main_call5_call0_cst : Ref sig .tc := ⟨.hbm, 84, rfl⟩
abbrev main_call5_call0_v0 : Ref sig .tc := ⟨.hbm, 85, rfl⟩
abbrev main_call5_call0_v1 : Ref sig .tc := ⟨.hbm, 86, rfl⟩
abbrev main_call5_call0_v2 : Ref sig .tc := ⟨.hbm, 87, rfl⟩
abbrev main_call5_call0_v3 : Ref sig .tc := ⟨.hbm, 88, rfl⟩
abbrev main_call5_call0_v4 : Ref sig .tc := ⟨.hbm, 89, rfl⟩
abbrev main_call5_call0_v5 : Ref sig .tc := ⟨.hbm, 90, rfl⟩
abbrev main_call5_call0_v6 : Ref sig .tc := ⟨.hbm, 91, rfl⟩
abbrev main_call5_call0_v7 : Ref sig .tc := ⟨.hbm, 92, rfl⟩
abbrev main_call5_call0_v8 : Ref sig .tc := ⟨.hbm, 93, rfl⟩
abbrev main_call5_call0_v9 : Ref sig .tc := ⟨.hbm, 94, rfl⟩
abbrev main_call5_call0_v10 : Ref sig .tc := ⟨.hbm, 95, rfl⟩
abbrev main_call5_call0_v11 : Ref sig .tc := ⟨.hbm, 96, rfl⟩
abbrev main_call5_v1 : Ref sig .tc := ⟨.hbm, 97, rfl⟩
abbrev main_v41 : Ref sig .tc := ⟨.hbm, 98, rfl⟩
abbrev main_v42 : Ref sig .tc := ⟨.hbm, 99, rfl⟩
abbrev main_cst_4 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v43 : Ref sig .tc := ⟨.hbm, 104, rfl⟩
abbrev main_v44 : Ref sig .tc := ⟨.hbm, 105, rfl⟩
abbrev main_cst_5 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩

abbrev nD : Nat := 1
abbrev τ : Topo := Topo.v7x

variable {F : FTy → Type} [FloatOps F]
-- ==== Prenorm.lean ====
abbrev S2x2048x1024 : Shape := ⟨3, ![2, 2048, 1024]⟩
abbrev S2x6144 : Shape := ⟨2, ![2, 6144]⟩
abbrev S1x1024 : Shape := ⟨2, ![1, 1024]⟩
abbrev S1x1024x2048 : Shape := ⟨3, ![1, 1024, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4096x1024 : Shape := ⟨2, ![4096, 1024]⟩
abbrev S2x6x1024 : Shape := ⟨3, ![2, 6, 1024]⟩
abbrev S_ : Shape := ⟨0, ![]⟩
abbrev S2x2x1024 : Shape := ⟨3, ![2, 2, 1024]⟩
abbrev S2x8x1024 : Shape := ⟨3, ![2, 8, 1024]⟩
abbrev S4096x512 : Shape := ⟨2, ![4096, 512]⟩
abbrev S512x1024 : Shape := ⟨2, ![512, 1024]⟩
abbrev S1x8x1024 : Shape := ⟨3, ![1, 8, 1024]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1x1024x512 : Shape := ⟨3, ![1, 1024, 512]⟩
abbrev S1024x512 : Shape := ⟨2, ![1024, 512]⟩

abbrev nBuf : Space → Nat
  | .hbm => 18
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x2048, .f32⟩
  | .hbm, ⟨4, _⟩ => ⟨S1024x2048, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S4096x1024, .f32⟩
  | .hbm, ⟨9, _⟩ => ⟨S2x6x1024, .f32⟩
  | .hbm, ⟨10, _⟩ => ⟨S_, .f32⟩
  | .hbm, ⟨11, _⟩ => ⟨S2x2x1024, .f32⟩
  | .hbm, ⟨12, _⟩ => ⟨S2x8x1024, .f32⟩
  | .hbm, ⟨13, _⟩ => ⟨S4096x1024, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S4x1024x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrenormRefIdeal.lean ====
abbrev S2x2048x1024 : Shape := ⟨3, ![2, 2048, 1024]⟩
abbrev S2x6144 : Shape := ⟨2, ![2, 6144]⟩
abbrev S1x1024 : Shape := ⟨2, ![1, 1024]⟩
abbrev S1x1024x2048 : Shape := ⟨3, ![1, 1024, 2048]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S2x2048x2048 : Shape := ⟨3, ![2, 2048, 2048]⟩
abbrev S2x2048x512 : Shape := ⟨3, ![2, 2048, 512]⟩
abbrev S4096x1024 : Shape := ⟨2, ![4096, 1024]⟩
abbrev S4096x512 : Shape := ⟨2, ![4096, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6144, .f32⟩
  | .hbm, ⟨2, _⟩ => ⟨S1x1024, .f32⟩
  | .hbm, ⟨3, _⟩ => ⟨S1x1024x2048, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1024x2048, .f32⟩
  | .hbm, ⟨41, _⟩ => ⟨S2x2048x2048, .f32⟩
  | .hbm, ⟨42, _⟩ => ⟨S2x2048x512, .f32⟩
  | .hbm, ⟨43, _⟩ => ⟨S2x2048x512, .f32⟩
  | .hbm, ⟨44, _⟩ => ⟨S2x2048x512, .f32⟩
  | .hbm, ⟨45, _⟩ => ⟨S2x2048x512, .f32⟩
  | .hbm, ⟨46, _⟩ => ⟨S4096x1024, .f32⟩
  | .hbm, ⟨47, _⟩ => ⟨S4096x1024, .bf16⟩
  | .hbm, ⟨48, _⟩ => ⟨S_, .f32⟩
  | .hbm, ⟨49, _⟩ => ⟨S2x2048x512, .f32⟩
  | .hbm, ⟨50, _⟩ => ⟨S2x2048x512, .f32⟩
  | .hbm, ⟨51, _⟩ => ⟨S4096x512, .f32⟩
  | .hbm, ⟨52, _⟩ => ⟨S4096x512, .bf16⟩
  | .hbm, ⟨53, _⟩ => ⟨S4096x512, .f32⟩
  | .hbm, ⟨54, _⟩ => ⟨S4096x512, .bf16⟩
  | .hbm, ⟨55, _⟩ => ⟨S4096x512, .f32⟩
  | .hbm, ⟨56, _⟩ => ⟨S4096x512, .bf16⟩
  | .hbm, ⟨57, _⟩ => ⟨S4096x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Post.lean ====
abbrev S2x2048x512 : Shape := ⟨3, ![2, 2048, 512]⟩
abbrev S2x2048x1024 : Shape := ⟨3, ![2, 2048, 1024]⟩
abbrev S2x6144 : Shape := ⟨2, ![2, 6144]⟩
abbrev S1x1024 : Shape := ⟨2, ![1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S4096x512 : Shape := ⟨2, ![4096, 512]⟩
abbrev S4096x1024 : Shape := ⟨2, ![4096, 1024]⟩
abbrev S2x6x1024 : Shape := ⟨3, ![2, 6, 1024]⟩
abbrev S_ : Shape := ⟨0, ![]⟩
abbrev S2x2x1024 : Shape := ⟨3, ![2, 2, 1024]⟩
abbrev S2x8x1024 : Shape := ⟨3, ![2, 8, 1024]⟩
abbrev S4x128x128 : Shape := ⟨3, ![4, 128, 128]⟩
abbrev S1024x1024 : Shape := ⟨2, ![1024, 1024]⟩
abbrev S512x512 : Shape := ⟨2, ![512, 512]⟩
abbrev S16x512 : Shape := ⟨2, ![16, 512]⟩
abbrev S512x1024 : Shape := ⟨2, ![512, 1024]⟩
abbrev S1x8x1024 : Shape := ⟨3, ![1, 8, 1024]⟩
abbrev S528x512 : Shape := ⟨2, ![528, 512]⟩
abbrev S512x1 : Shape := ⟨2, ![512, 1]⟩
abbrev S512x528 : Shape := ⟨2, ![512, 528]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S512 : Shape := ⟨1, ![512]⟩
abbrev S1x1x1024 : Shape := ⟨3, ![1, 1, 1024]⟩

abbrev nBuf : Space → Nat
  | .hbm => 25
  | .vmem => 25
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x6144, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x512, .f32⟩
  | .hbm, ⟨8, _⟩ => ⟨S1x1024x1024, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x1024, .f32⟩
  | .hbm, ⟨13, _⟩ => ⟨S2x6x1024, .f32⟩
  | .hbm, ⟨14, _⟩ => ⟨S_, .f32⟩
  | .hbm, ⟨15, _⟩ => ⟨S2x2x1024, .f32⟩
  | .hbm, ⟨16, _⟩ => ⟨S2x8x1024, .f32⟩
  | .hbm, ⟨17, _⟩ => ⟨S4x128x128, .f32⟩
  | .hbm, ⟨18, _⟩ => ⟨S1024x1024, .f32⟩
  | .hbm, ⟨19, _⟩ => ⟨S1024x1024, .bf16⟩
  | .hbm, ⟨20, _⟩ => ⟨S4096x512, .bf16⟩
  | .hbm, ⟨21, _⟩ => ⟨S4096x1024, .bf16⟩
  | .hbm, ⟨22, _⟩ => ⟨S4096x1024, .f32⟩
  | .hbm, ⟨23, _⟩ => ⟨S4096x1024, .f32⟩
  | .hbm, ⟨24, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x1024, .f32⟩
  | .local _ .vmem, ⟨12, _⟩ => ⟨S4x128x128, .f32⟩
  | .local _ .vmem, ⟨13, _⟩ => ⟨S1x512, .f32⟩
  | .local _ .vmem, ⟨14, _⟩ => ⟨S1024x1024, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostRefIdeal.lean ====
abbrev S2x2048x512 : Shape := ⟨3, ![2, 2048, 512]⟩
abbrev S2x2048x1024 : Shape := ⟨3, ![2, 2048, 1024]⟩
abbrev S2x6144 : Shape := ⟨2, ![2, 6144]⟩
abbrev S1x1024 : Shape := ⟨2, ![1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S2x1x1024 : Shape := ⟨3, ![2, 1, 1024]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S4x128x128 : Shape := ⟨3, ![4, 128, 128]⟩
abbrev S4x128x2x2048 : Shape := ⟨4, ![4, 128, 2, 2048]⟩
abbrev S512 : Shape := ⟨1, ![512]⟩
abbrev S1x1x512 : Shape := ⟨3, ![1, 1, 512]⟩
abbrev S1024x1024 : Shape := ⟨2, ![1024, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x512 : Shape := ⟨2, ![4096, 512]⟩
abbrev S4096x1024 : Shape := ⟨2, ![4096, 1024]⟩

abbrev nBuf : Space → Nat
  | .hbm => 221
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x1024, .f32⟩
  | 3 => ⟨S2x6144, .f32⟩
  | 4 => ⟨S1x1024, .f32⟩
  | 5 => ⟨S1x1024, .f32⟩
  | 6 => ⟨S1x4x128x128, .f32⟩
  | 7 => ⟨S1x512, .f32⟩
  | 8 => ⟨S1x1024x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1x1024, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S_, .f32⟩
  | 22 => ⟨S2x1x512, .f32⟩
  | 23 => ⟨S_, .f32⟩
  | 24 => ⟨S_, .f32⟩
  | 25 => ⟨S2x2048x512, .f32⟩
  | 26 => ⟨S2x2049x512, .f32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S2048, .i32⟩
  | 41 => ⟨S2048, .f32⟩
  | 42 => ⟨S2x2049x128, .f32⟩
  | 43 => ⟨S2x2048x128, .f32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S2x2048x128, .f32⟩
  | 53 => ⟨S2x2048x128, .f32⟩
  | 54 => ⟨S1x2048x1, .f32⟩
  | 55 => ⟨S2x2048x128, .f32⟩
  | 56 => ⟨S2x2048x128, .f32⟩
  | 57 => ⟨S2x2048x128, .f32⟩
  | 58 => ⟨S2x2048x128, .f32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .i32⟩
  | 72 => ⟨S2048, .f32⟩
  | 73 => ⟨S2x2049x128, .f32⟩
  | 74 => ⟨S2x2048x128, .f32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S2x2048x128, .f32⟩
  | 84 => ⟨S2x2048x128, .f32⟩
  | 85 => ⟨S1x2048x1, .f32⟩
  | 86 => ⟨S2x2048x128, .f32⟩
  | 87 => ⟨S2x2048x128, .f32⟩
  | 88 => ⟨S2x2048x128, .f32⟩
  | 89 => ⟨S2x2048x128, .f32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S2048, .i32⟩
  | 103 => ⟨S2048, .f32⟩
  | 104 => ⟨S2x2049x128, .f32⟩
  | 105 => ⟨S2x2048x128, .f32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S2x2048x128, .f32⟩
  | 115 => ⟨S2x2048x128, .f32⟩
  | 116 => ⟨S1x2048x1, .f32⟩
  | 117 => ⟨S2x2048x128, .f32⟩
  | 118 => ⟨S2x2048x128, .f32⟩
  | 119 => ⟨S2x2048x128, .f32⟩
  | 120 => ⟨S2x2048x128, .f32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S2x2048x512, .f32⟩

abbrev hbmTy0_1 (i : Nat) : BufTy := match i % 128 with
  | 0 => ⟨S2048, .i32⟩
  | 1 => ⟨S2048, .i32⟩
  | 2 => ⟨S_, .i32⟩
  | 3 => ⟨S2048, .i32⟩
  | 4 => ⟨S2048, .i32⟩
  | 5 => ⟨S2048, .i32⟩
  | 6 => ⟨S2048, .f32⟩
  | 7 => ⟨S2x2049x128, .f32⟩
  | 8 => ⟨S2x2048x128, .f32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S2x2048x128, .f32⟩
  | 18 => ⟨S2x2048x128, .f32⟩
  | 19 => ⟨S1x2048x1, .f32⟩
  | 20 => ⟨S2x2048x128, .f32⟩
  | 21 => ⟨S2x2048x128, .f32⟩
  | 22 => ⟨S2x2048x128, .f32⟩
  | 23 => ⟨S2x2048x128, .f32⟩
  | 24 => ⟨S2x2048x1x128, .f32⟩
  | 25 => ⟨S2x2048x1x128, .f32⟩
  | 26 => ⟨S2x2048x1x128, .f32⟩
  | 27 => ⟨S2x2048x1x128, .f32⟩
  | 28 => ⟨S2x2048x4x128, .f32⟩
  | 29 => ⟨S4x128x128, .f32⟩
  | 30 => ⟨S4x128x2x2048, .f32⟩
  | 31 => ⟨S2x2048x4x128, .f32⟩
  | 32 => ⟨S2x2048x512, .f32⟩
  | 33 => ⟨S512, .f32⟩
  | 34 => ⟨S1x1x512, .f32⟩
  | 35 => ⟨S2x2048x512, .f32⟩
  | 36 => ⟨S2x2048x512, .f32⟩
  | 37 => ⟨S2x2048x1024, .f32⟩
  | 38 => ⟨S1024x1024, .f32⟩
  | 39 => ⟨S2x2048x1024, .f32⟩
  | 40 => ⟨S1024, .f32⟩
  | 41 => ⟨S2x2048x1024, .f32⟩
  | 42 => ⟨S_, .f32⟩
  | 43 => ⟨S2x2048, .f32⟩
  | 44 => ⟨S2x2048x1, .f32⟩
  | 45 => ⟨S_, .f32⟩
  | 46 => ⟨S2x2048x1, .f32⟩
  | 47 => ⟨S2x2048x1, .f32⟩
  | 48 => ⟨S_, .f32⟩
  | 49 => ⟨S2x2048x1, .f32⟩
  | 50 => ⟨S2x2048x1, .f32⟩
  | 51 => ⟨S2x2048x1, .f32⟩
  | 52 => ⟨S2x2048x1024, .f32⟩
  | 53 => ⟨S2x2048x1024, .f32⟩
  | 54 => ⟨S1x1x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S1024, .f32⟩
  | 61 => ⟨S2x2048x1024, .f32⟩
  | 62 => ⟨S_, .f32⟩
  | 63 => ⟨S2x2048, .f32⟩
  | 64 => ⟨S2x2048x1, .f32⟩
  | 65 => ⟨S_, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x1, .f32⟩
  | 72 => ⟨S2x2048x1024, .f32⟩
  | 73 => ⟨S2x2048x1024, .f32⟩
  | 74 => ⟨S1x1x1024, .f32⟩
  | 75 => ⟨S2x2048x1024, .f32⟩
  | 76 => ⟨S2x2048x1024, .f32⟩
  | 77 => ⟨S_, .f32⟩
  | 78 => ⟨S2x1x1024, .f32⟩
  | 79 => ⟨S2x1x1024, .f32⟩
  | 80 => ⟨S2x2048x1024, .f32⟩
  | 81 => ⟨S2x2048x1024, .f32⟩
  | 82 => ⟨S2x2048x1024, .f32⟩
  | 83 => ⟨S2x2048x1024, .f32⟩
  | 84 => ⟨S2x2048x512, .f32⟩
  | 85 => ⟨S4096x512, .f32⟩
  | 86 => ⟨S4096x512, .bf16⟩
  | 87 => ⟨S4096x1024, .f32⟩
  | 88 => ⟨S4096x1024, .bf16⟩
  | 89 => ⟨S4096x1024, .f32⟩
  | 90 => ⟨S4096x1024, .f32⟩
  | 91 => ⟨S4096x1024, .f32⟩
  | 92 => ⟨S4096x1024, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_call0_call0_cst : Ref sig .tc := ⟨.hbm, 23, rfl⟩
abbrev main_call0_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_17 : Ref sig .tc := ⟨.hbm, 121, rfl⟩
abbrev main_v91 : Ref sig .tc := ⟨.hbm, 122, rfl⟩
abbrev main_v92 : Ref sig .tc := ⟨.hbm, 123, rfl⟩
abbrev main_c_18 : Ref sig .tc := ⟨.hbm, 124, rfl⟩
abbrev main_v93 : Ref sig .tc := ⟨.hbm, 125, rfl⟩
abbrev main_v94 : Ref sig .tc := ⟨.hbm, 126, rfl⟩
abbrev main_c_19 : Ref sig .tc := ⟨.hbm, 127, rfl⟩
abbrev main_v95 : Ref sig .tc := ⟨.hbm, 128, rfl⟩
abbrev main_v96 : Ref sig .tc := ⟨.hbm, 129, rfl⟩
abbrev main_c_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_21 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_23 : Ref sig .tc := ⟨.hbm, 170, rfl⟩
abbrev main_v134 : Ref sig .tc := ⟨.hbm, 171, rfl⟩
abbrev main_v135 : Ref sig .tc := ⟨.hbm, 172, rfl⟩
abbrev main_cst_24 : Ref sig .tc := ⟨.hbm, 173, rfl⟩
abbrev main_v136 : Ref sig .tc := ⟨.hbm, 174, rfl⟩
abbrev main_v137 : Ref sig .tc := ⟨.hbm, 175, rfl⟩
abbrev main_cst_25 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_26 : Ref sig .tc := ⟨.hbm, 190, rfl⟩
abbrev main_v151 : Ref sig .tc := ⟨.hbm, 191, rfl⟩
abbrev main_v152 : Ref sig .tc := ⟨.hbm, 192, rfl⟩
abbrev main_cst_27 : Ref sig .tc := ⟨.hbm, 193, rfl⟩
abbrev main_v153 : Ref sig .tc := ⟨.hbm, 194, rfl⟩
abbrev main_v154 : Ref sig .tc := ⟨.hbm, 195, rfl⟩
abbrev main_cst_28 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_29 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩

abbrev nD : Nat := 1
abbrev τ : Topo := Topo.v7x

variable {F : FTy → Type} [FloatOps F]
-- ==== Proof.AttnRun.lean ====
/- The attention gradient's kernel body, run once at a generic grid point in each of its three cases: the first query tile
   of a head pair (the accumulators are zeroed), a middle one, and the last (the accumulators are written out). -/
module

public import proofs.«01_k».proof.Proof.Gen.AttnIdeal.Loops
public import proofs.«01_k».proof.Proof.Gen.AttnIdeal.Frame
public import Idealize.ShloMosaic.Lib.VecWindow

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

/-- The body is at its head pair's first query tile. -/
abbrev first (i : grid0.Coords) : Prop :=
  Scalar.cmpi .ne (Scalar.extui (Scalar.cmpi .eq (BitVec.ofNat 32 (i 2).val) 0#32)) 0#32 = 1#1

/-- The body is at its head pair's last query tile. -/
abbrev last (i : grid0.Coords) : Prop := k0_cond2 i = 1#1

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S256x128 .bf16) (harg6 : arg6.IsWhole)
  (arg7 : Memref sig .tc .vmem S256x128 .f32) (harg7 : arg7.IsWhole) (arg8 : Memref sig .tc .vmem S256x128 .bf16) (harg8 : arg8.IsWhole)
  (arg9 : Memref sig .tc .vmem S2048x128 .bf16) (harg9 : arg9.IsWhole) (arg10 : Memref sig .tc .vmem S2048x128 .bf16) (harg10 : arg10.IsWhole)
  (arg11 : Memref sig .tc .vmem S2048x128 .f32) (harg11 : arg11.IsWhole) (arg12 : Memref sig .tc .vmem S2048x128 .f32) (harg12 : arg12.IsWhole)
  (x0 : Vec F S256x128 .bf16) (x1 x2 : Vec F S2048x128 .bf16) (x3 : Vec F S256x128 .bf16) (x4 : Vec F S256x128 .f32)

/-- What the body reads: the two query blocks, the two key blocks and the row sums. -/
abbrev inputs : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4)

/-- A buffer overwritten whole holds what was written. -/
theorem unread_of_writes {sp : Space} {s : Shape} {e : EltTy} {M : Memref sig .tc sp s e} (h : M.IsWhole) (f : M.view.ty.Contents (Elt F))
    {off : Fin s.rank → ℕ} (inb : ∀ a, off a + s.size a ≤ s.size a) (w : Vec F s e) :
    M.view.writes (Elt F) f [⟨Rect.unit off s.size inb, w⟩] = h.unread w :=
  h.eq_unread (View.read_writes_full M.view f inb w [])

/-- What the body read, handed back. -/
theorem give_inputs :
    iprop((arg3.view.loc (c : Thread nD τ) ↦[arg3.view.set]{fullShare} harg3.unread x0) ∗ (arg4.view.loc (c : Thread nD τ) ↦[arg4.view.set]{fullShare} harg4.unread x1)
      ∗ (arg5.view.loc (c : Thread nD τ) ↦[arg5.view.set]{fullShare} harg5.unread x2) ∗ (arg6.view.loc (c : Thread nD τ) ↦[arg6.view.set]{fullShare} harg6.unread x3)
      ∗ (arg7.view.loc (c : Thread nD τ) ↦[arg7.view.set]{fullShare} harg7.unread x4))
      ⊢ (inputs c arg3 arg4 arg5 arg6 arg7 x0 x1 x2 x3 x4 : sProp 𝕄) := by
  unfold inputs owns
  iintro ⟨H0, H1, H2, H3, H4⟩
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; · ipureintro; exact harg7.read_unread _
  iexact H4

set_option maxHeartbeats 4000000 in
/-- The first query tile, whatever the accumulators held: they are zeroed before anything is added. -/
def opening (h0 : first i) (h1 : ¬last i) :
    Σ' (L8 : List (View.Piece (Elt F) S256x128 .bf16)) (G11 : BufTy.Contents (Elt F) arg11.view.ty),
    { G12 : BufTy.Contents (Elt F) arg12.view.ty //
      ∀ (X11 X12 : Vec F S2048x128 .f32) (x6 x7 : Vec F S2048x128 .bf16) (E : Set ℕ) (K : PUnit → sProp 𝕄),
        iprop(inputs c arg3 arg4 arg5 arg6 arg7 x0 x1 x2 x3 x4 ∗ (∃ d, owns (c : Thread nD τ) arg8 fullShare d)
            ∗ owns (c : Thread nD τ) arg9 fullShare x6 ∗ owns (c : Thread nD τ) arg10 fullShare x7
            ∗ owns (c : Thread nD τ) arg11 fullShare X11 ∗ owns (c : Thread nD τ) arg12 fullShare X12
            ∗ (iprop(inputs c arg3 arg4 arg5 arg6 arg7 x0 x1 x2 x3 x4
                ∗ (∃ f, arg8.view.loc (c : Thread nD τ) ↦[arg8.view.set]{fullShare} arg8.view.writes (Elt F) f L8)
                ∗ owns (c : Thread nD τ) arg9 fullShare x6 ∗ owns (c : Thread nD τ) arg10 fullShare x7
                ∗ (arg11.view.loc (c : Thread nD τ) ↦[arg11.view.set]{fullShare} G11)
                ∗ (arg12.view.loc (c : Thread nD τ) ↦[arg12.view.set]{fullShare} G12)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, fun X11 X12 x6 x7 E K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton]
    unfold inputs owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7; obtain rfl := harg11.eq_unread hf11; obtain rfl := harg12.eq_unread hf12
    generalize hP : @k0_part6_skel F _ = P
    sl_exec (disch := first | sl_exact h0 | sl_exact h1)
    subst hP
    rw [unread_of_writes harg11, unread_of_writes harg12]
    sl_exec (disch := first | sl_exact h0 | sl_exact h1)
    sl_step
    iapply Hk
    isplitl [H0 H1 H2 H3 H4]
    · iapply (give_inputs (harg3 := harg3) (harg4 := harg4) (harg5 := harg5) (harg6 := harg6) (harg7 := harg7))
      iframe
    isplitl [H5]; · iexists _; iexact H5
    isplitl [H6]
    · iexists _; isplitr; · ipureintro; exact harg9.read_unread _
      iexact H6
    isplitl [H7]
    · iexists _; isplitr; · ipureintro; exact harg10.read_unread _
      iexact H7
    isplitl [H11]; · iexact H11
    iexact H12

set_option maxHeartbeats 4000000 in
/-- A middle query tile: the pieces the query gradient's block ends with, and what the two accumulators hold. -/
def middle (X11 X12 : Vec F S2048x128 .f32) (h0 : ¬first i) (h1 : ¬last i) :
    Σ' (L8 : List (View.Piece (Elt F) S256x128 .bf16)) (G11 : BufTy.Contents (Elt F) arg11.view.ty),
    { G12 : BufTy.Contents (Elt F) arg12.view.ty //
      ∀ (x6 x7 : Vec F S2048x128 .bf16) (E : Set ℕ) (K : PUnit → sProp 𝕄),
        iprop(inputs c arg3 arg4 arg5 arg6 arg7 x0 x1 x2 x3 x4 ∗ (∃ d, owns (c : Thread nD τ) arg8 fullShare d)
            ∗ owns (c : Thread nD τ) arg9 fullShare x6 ∗ owns (c : Thread nD τ) arg10 fullShare x7
            ∗ owns (c : Thread nD τ) arg11 fullShare X11 ∗ owns (c : Thread nD τ) arg12 fullShare X12
            ∗ (iprop(inputs c arg3 arg4 arg5 arg6 arg7 x0 x1 x2 x3 x4
                ∗ (∃ f, arg8.view.loc (c : Thread nD τ) ↦[arg8.view.set]{fullShare} arg8.view.writes (Elt F) f L8)
                ∗ owns (c : Thread nD τ) arg9 fullShare x6 ∗ owns (c : Thread nD τ) arg10 fullShare x7
                ∗ (arg11.view.loc (c : Thread nD τ) ↦[arg11.view.set]{fullShare} G11)
                ∗ (arg12.view.loc (c : Thread nD τ) ↦[arg12.view.set]{fullShare} G12)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, fun x6 x7 E K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton]
    unfold inputs owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7; obtain rfl := harg11.eq_unread hf11; obtain rfl := harg12.eq_unread hf12
    sl_exec (disch := first | sl_exact h0 | sl_exact h1)
    sl_step
    iapply Hk
    isplitl [H0 H1 H2 H3 H4]
    · iapply (give_inputs (harg3 := harg3) (harg4 := harg4) (harg5 := harg5) (harg6 := harg6) (harg7 := harg7))
      iframe
    isplitl [H5]; · iexists _; iexact H5
    isplitl [H6]
    · iexists _; isplitr; · ipureintro; exact harg9.read_unread _
      iexact H6
    isplitl [H7]
    · iexists _; isplitr; · ipureintro; exact harg10.read_unread _
      iexact H7
    isplitl [H11]; · iexact H11
    iexact H12

set_option maxHeartbeats 4000000 in
/-- The last query tile: besides, the pieces the two key gradients' blocks end with. -/
def closing (X11 X12 : Vec F S2048x128 .f32) (h0 : ¬first i) (h1 : last i) :
    Σ' (L8 : List (View.Piece (Elt F) S256x128 .bf16)) (L9 L10 : List (View.Piece (Elt F) S2048x128 .bf16)) (G11 : BufTy.Contents (Elt F) arg11.view.ty),
    { G12 : BufTy.Contents (Elt F) arg12.view.ty //
      ∀ (E : Set ℕ) (K : PUnit → sProp 𝕄),
        iprop(inputs c arg3 arg4 arg5 arg6 arg7 x0 x1 x2 x3 x4 ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare X11 ∗ owns (c : Thread nD τ) arg12 fullShare X12
            ∗ (iprop(inputs c arg3 arg4 arg5 arg6 arg7 x0 x1 x2 x3 x4
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (arg11.view.loc (c : Thread nD τ) ↦[arg11.view.set]{fullShare} G11)
                ∗ (arg12.view.loc (c : Thread nD τ) ↦[arg12.view.set]{fullShare} G12)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton]
    unfold inputs owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hf11; obtain rfl := harg12.eq_unread hf12
    sl_exec (disch := first | sl_exact h0 | sl_exact h1)
    sl_step
    iapply Hk
    isplitl [H0 H1 H2 H3 H4]
    · iapply (give_inputs (harg3 := harg3) (harg4 := harg4) (harg5 := harg5) (harg6 := harg6) (harg7 := harg7))
      iframe
    isplitl [H5]; · iexists _; iexact H5
    isplitl [H6]; · iexists _; iexact H6
    isplitl [H7]; · iexists _; iexact H7
    isplitl [H11]; · iexact H11
    iexact H12

end Cert.AttnIdeal.Body

end
-- ==== Proof.AttnFrame.lean ====
/- The attention gradient's frame: the launch runs to the end, nothing is left in flight and the arguments are unchanged.
   What the two accumulators hold between grid points is carried by name, except before a head pair's first query tile,
   where the body zeroes them whatever they held. -/
module

public import proofs.«01_k».proof.Proof.AttnRun
public import proofs.«01_k».proof.Proof.Gen.AttnIdeal.Points
public import proofs.«01_k».proof.Proof.Gen.AttnIdeal.Launch
public import Idealize.ShloMosaic.Lib.Claim

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem tile_eq (t : Fin cfg0.N) : (grid0.coords t 2).val = t.val % 8 := by
  have h : (grid0.coords t 2).val = t.val / 1 % 8 := Pipeline.Grid.coords_val t 2 (by decide) rfl
  rw [h, Nat.div_one]

theorem first_iff : ∀ t : Fin cfg0.N, first (grid0.coords t) ↔ t.val % 8 = 0 := by decide +kernel

theorem last_iff : ∀ t : Fin cfg0.N, last (grid0.coords t) ↔ t.val % 8 = 7 := by decide +kernel

theorem idle0_6 : ∀ t : Fin cfg0.N, ¬last (grid0.coords t) → cfg0.idle 6 (grid0.coords t) = true := by decide +kernel
theorem idle0_7 : ∀ t : Fin cfg0.N, ¬last (grid0.coords t) → cfg0.idle 7 (grid0.coords t) = true := by decide +kernel
theorem live0_6 : ∀ t : Fin cfg0.N, last (grid0.coords t) → cfg0.idle 6 (grid0.coords t) = false := by decide +kernel
theorem live0_7 : ∀ t : Fin cfg0.N, last (grid0.coords t) → cfg0.idle 7 (grid0.coords t) = false := by decide +kernel
theorem still0_6 : ∀ t : Fin cfg0.N, ¬last (grid0.coords t) → (cfg0.win 6).flush t = false := by decide +kernel
theorem still0_7 : ∀ t : Fin cfg0.N, ¬last (grid0.coords t) → (cfg0.win 7).flush t = false := by decide +kernel
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl

/-- The staging buffers the body is called with at a point, and the two accumulators. -/
abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev scM0 : Memref sig .tc .vmem S2048x128 .f32 := Memref.whole cc0_scratch0
abbrev hsc0 : scM0.IsWhole := Memref.isWhole_whole _
abbrev scM1 : Memref sig .tc .vmem S2048x128 .f32 := Memref.whole cc0_scratch1
abbrev hsc1 : scM1.IsWhole := Memref.isWhole_whole _

/-! ## What a point leaves -/

/-- What the body leaves: the query gradient's block, the two key gradients' blocks, the two accumulators. -/
abbrev Left (F : FTy → Type) [FloatOps F] : Type :=
  Vec F S256x128 .bf16 × Vec F S2048x128 .bf16 × Vec F S2048x128 .bf16 × Vec F S2048x128 .f32 × Vec F S2048x128 .f32

/-- The run at a point of each case. -/
abbrev openingAt (c : Dev nD) (t : Fin cfg0.N) (h0 : t.val % 8 = 0) (h1 : ¬t.val % 8 = 7) :=
  opening c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) ((first_iff t).mpr h0) (fun h => h1 ((last_iff t).mp h))

abbrev middleAt (c : Dev nD) (t : Fin cfg0.N) (P : Vec F S2048x128 .f32 × Vec F S2048x128 .f32) (h0 : ¬t.val % 8 = 0) (h1 : ¬t.val % 8 = 7) :=
  middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) P.1 P.2 (fun h => h0 ((first_iff t).mp h)) (fun h => h1 ((last_iff t).mp h))

abbrev closingAt (c : Dev nD) (t : Fin cfg0.N) (P : Vec F S2048x128 .f32 × Vec F S2048x128 .f32) (h0 : ¬t.val % 8 = 0) (h1 : t.val % 8 = 7) :=
  closing c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) P.1 P.2 (fun h => h0 ((first_iff t).mp h)) ((last_iff t).mpr h1)

/-- Pieces read back over junk. -/
abbrev back {s : Shape} {e : EltTy} (M : Memref sig .tc .vmem s e) (L : List (View.Piece (Elt F) s e)) : Vec F s e :=
  M.view.read (Elt F) (M.view.writes (Elt F) M.view.junk L)

/-- What the point leaves where the accumulators held `P`. (At a point that writes no key gradient its block is not spoken of.) -/
def leftAt (c : Dev nD) (t : Fin cfg0.N) (P : Vec F S2048x128 .f32 × Vec F S2048x128 .f32) : Left F :=
  if h0 : t.val % 8 = 0 then
    have h1 : ¬t.val % 8 = 7 := by omega
    (back (ms0_5 t) (openingAt m c t h0 h1).1, iblk m c 1 t, iblk m c 1 t,
      scM0.view.read (Elt F) (openingAt m c t h0 h1).2.1, scM1.view.read (Elt F) (openingAt m c t h0 h1).2.2.1)
  else if h1 : t.val % 8 = 7 then
    (back (ms0_5 t) (closingAt m c t P h0 h1).1, back (ms0_6 t) (closingAt m c t P h0 h1).2.1, back (ms0_7 t) (closingAt m c t P h0 h1).2.2.1,
      scM0.view.read (Elt F) (closingAt m c t P h0 h1).2.2.2.1, scM1.view.read (Elt F) (closingAt m c t P h0 h1).2.2.2.2.1)
  else
    (back (ms0_5 t) (middleAt m c t P h0 h1).1, iblk m c 1 t, iblk m c 1 t,
      scM0.view.read (Elt F) (middleAt m c t P h0 h1).2.1, scM1.view.read (Elt F) (middleAt m c t P h0 h1).2.2.1)

/-- What the accumulators hold before point `n` (before the first: anything). -/
def held (c : Dev nD) : ℕ → Vec F S2048x128 .f32 × Vec F S2048x128 .f32
  | 0 => (scM0.view.read (Elt F) scM0.view.junk, scM0.view.read (Elt F) scM0.view.junk)
  | n + 1 => if h : n < cfg0.N then (leftAt m c ⟨n, h⟩ (held c n)).2.2.2 else held c n

theorem held_succ (c : Dev nD) (t : Fin cfg0.N) : held m c (t.val + 1) = (leftAt m c t (held m c t.val)).2.2.2 := by
  rw [held, dif_pos t.isLt]

theorem left_opening (c : Dev nD) (t : Fin cfg0.N) (P) (h0 : t.val % 8 = 0) (h1 : ¬t.val % 8 = 7) : leftAt m c t P =
    (back (ms0_5 t) (openingAt m c t h0 h1).1, iblk m c 1 t, iblk m c 1 t,
      scM0.view.read (Elt F) (openingAt m c t h0 h1).2.1, scM1.view.read (Elt F) (openingAt m c t h0 h1).2.2.1) := by
  unfold leftAt; exact dif_pos h0

theorem left_closing (c : Dev nD) (t : Fin cfg0.N) (P) (h0 : ¬t.val % 8 = 0) (h1 : t.val % 8 = 7) : leftAt m c t P =
    (back (ms0_5 t) (closingAt m c t P h0 h1).1, back (ms0_6 t) (closingAt m c t P h0 h1).2.1, back (ms0_7 t) (closingAt m c t P h0 h1).2.2.1,
      scM0.view.read (Elt F) (closingAt m c t P h0 h1).2.2.2.1, scM1.view.read (Elt F) (closingAt m c t P h0 h1).2.2.2.2.1) := by
  unfold leftAt; exact (dif_neg h0).trans (dif_pos h1)

theorem left_middle (c : Dev nD) (t : Fin cfg0.N) (P) (h0 : ¬t.val % 8 = 0) (h1 : ¬t.val % 8 = 7) : leftAt m c t P =
    (back (ms0_5 t) (middleAt m c t P h0 h1).1, iblk m c 1 t, iblk m c 1 t,
      scM0.view.read (Elt F) (middleAt m c t P h0 h1).2.1, scM1.view.read (Elt F) (middleAt m c t P h0 h1).2.2.1) := by
  unfold leftAt; exact (dif_neg h0).trans (dif_neg h1)

/-! ## The proof data -/

/-- Between points: the accumulators at what the points so far left, except before a head pair's first query tile. -/
def between (c : Dev nD) (n : ℕ) (_ : n ≤ cfg0.N) : sProp 𝕄 :=
  iprop((∃ P : Vec F S2048x128 .f32 × Vec F S2048x128 .f32, ⌜¬n % 8 = 0 → P = held m c n⌝
      ∗ owns (c : Thread nD τ) scM0 fullShare P.1 ∗ owns (c : Thread nD τ) scM1 fullShare P.2) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t (held m c t.val)).1
    | ⟨6, _⟩ => (leftAt m c t (held m c t.val)).2.1
    | ⟨7, _⟩ => (leftAt m c t (held m c t.val)).2.2.1
    | ⟨_ + 8, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) : (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (leftAt m c t (held m c t.val)).1 := by dsimp only [dats]
theorem after0_6 (c : Dev nD) (t : Fin cfg0.N) : (dats m 0 c).after 6 t = (leftAt m c t (held m c t.val)).2.1 := by dsimp only [dats]
theorem after0_7 (c : Dev nD) (t : Fin cfg0.N) : (dats m 0 c).after 7 t = (leftAt m c t (held m c t.val)).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-! ## The pieces tile the blocks -/

theorem cover_opening (c : Dev nD) (t : Fin cfg0.N) (h0 h1) (y : S256x128.Idx) : ∃ pc ∈ (openingAt m c t h0 h1).1, y ∈ pc.1.set :=
  View.cover_of_tiledL (openingAt m c t h0 h1).1 S256x128.size (by sl_kernel_rfl) y

theorem cover_middle (c : Dev nD) (t : Fin cfg0.N) (P h0 h1) (y : S256x128.Idx) : ∃ pc ∈ (middleAt m c t P h0 h1).1, y ∈ pc.1.set :=
  View.cover_of_tiledL (middleAt m c t P h0 h1).1 S256x128.size (by sl_kernel_rfl) y

theorem cover_closing (c : Dev nD) (t : Fin cfg0.N) (P h0 h1) (y : S256x128.Idx) : ∃ pc ∈ (closingAt m c t P h0 h1).1, y ∈ pc.1.set :=
  View.cover_of_tiledL (closingAt m c t P h0 h1).1 S256x128.size (by sl_kernel_rfl) y

theorem cover_closing_6 (c : Dev nD) (t : Fin cfg0.N) (P h0 h1) (y : S2048x128.Idx) : ∃ pc ∈ (closingAt m c t P h0 h1).2.1, y ∈ pc.1.set :=
  View.cover_of_tiledL (closingAt m c t P h0 h1).2.1 S2048x128.size (by sl_kernel_rfl) y

theorem cover_closing_7 (c : Dev nD) (t : Fin cfg0.N) (P h0 h1) (y : S2048x128.Idx) : ∃ pc ∈ (closingAt m c t P h0 h1).2.2.1, y ∈ pc.1.set :=
  View.cover_of_tiledL (closingAt m c t P h0 h1).2.2.1 S2048x128.size (by sl_kernel_rfl) y

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- Pieces that tile a block leave it at what they read back. -/
theorem owns_back (c : Dev nD) {s : Shape} {e : EltTy} (M : Memref sig .tc .vmem s e) (L : List (View.Piece (Elt F) s e))
    (hL : ∀ y : s.Idx, ∃ pc ∈ L, y ∈ pc.1.set) :
    iprop(∃ f, M.view.loc (c : Thread nD τ) ↦[M.view.set]{fullShare} M.view.writes (Elt F) f L) ⊢ (owns (c : Thread nD τ) M fullShare (back M L) : sProp 𝕄) := by
  unfold owns
  iintro ⟨%f, H⟩
  iexists _; isplitr
  swap; · iexact H
  ipureintro; exact View.read_writes_of_cover _ _ _ _ _ hL

/-- A buffer's contents by what they read. -/
theorem owns_read (c : Dev nD) {s : Shape} {e : EltTy} (M : Memref sig .tc .vmem s e) (f : BufTy.Contents (Elt F) M.view.ty) :
    (M.view.loc (c : Thread nD τ) ↦[M.view.set]{fullShare} f) ⊢ (owns (c : Thread nD τ) M fullShare (M.view.read (Elt F) f) : sProp 𝕄) := by
  unfold owns
  iintro H
  iexists _; isplitr
  swap; · iexact H
  ipureintro; rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, between_castSucc]
  rw [show (dats m 0 c).Φ t.succ = between m c (t.val + 1) t.isLt from rfl]
  rw [leaves_live m c 0 t (live0_0 t), after0_0]
  rw [leaves_live m c 1 t (live0_1 t), after0_1]
  rw [leaves_live m c 2 t (live0_2 t), after0_2]
  rw [leaves_live m c 3 t (live0_3 t), after0_3]
  rw [leaves_live m c 4 t (live0_4 t), after0_4]
  rw [leaves_live m c 5 t (live0_5 t), after0_5]
  unfold between
  by_cases h0 : t.val % 8 = 0
  · have h1 : ¬t.val % 8 = 7 := by omega
    have hl : ¬last (grid0.coords t) := fun h => h1 ((last_iff t).mp h)
    rw [Dat.leavesExact_idle (dats m 0 c) 6 t (idle0_6 t hl) (still0_6 t hl), Dat.leavesExact_idle (dats m 0 c) 7 t (idle0_7 t hl) (still0_7 t hl)]
    rw [held_succ, left_opening m c t _ h0 h1]
    iintro ⟨⟨⟨%P, -, HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((openingAt m c t h0 h1).2.2.2 P.1 P.2 _ _ Set.univ _)
    unfold inputs
    isplitl [H0 H1 H2 H3 H4]; · iframe
    isplitl [H5]; · iexists _; iexact H5
    isplitl [H6]; · iexact H6
    isplitl [H7]; · iexact H7
    isplitl [HA]; · iexact HA
    isplitl [HB]; · iexact HB
    iintro ⟨⟨H0, H1, H2, H3, H4⟩, H5, H6, H7, HA, HB⟩
    isplitl [HA HB Hg]
    · isplitl [HA HB]
      · iexists _
        isplitr
        · ipureintro; exact fun _ => rfl
        isplitl [HA]
        · iapply (owns_read c scM0); iexact HA
        iapply (owns_read c scM1); iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (owns_back c (ms0_5 t) _ (cover_opening m c t h0 h1)); iexact H5
    isplitl [H6]; · iexists _; iexact H6
    iexists _; iexact H7
  · by_cases h1 : t.val % 8 = 7
    · have hl : last (grid0.coords t) := (last_iff t).mpr h1
      rw [leaves_live m c 6 t (live0_6 t hl), after0_6, leaves_live m c 7 t (live0_7 t hl), after0_7]
      rw [held_succ, left_closing m c t _ h0 h1]
      iintro ⟨⟨⟨%P, %hP, HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hP h0
      iapply ((closingAt m c t (held m c t.val) h0 h1).2.2.2.2.2 Set.univ _)
      unfold inputs
      isplitl [H0 H1 H2 H3 H4]; · iframe
      isplitl [H5]; · iexists _; iexact H5
      isplitl [H6]; · iexists _; iexact H6
      isplitl [H7]; · iexists _; iexact H7
      isplitl [HA]; · iexact HA
      isplitl [HB]; · iexact HB
      iintro ⟨⟨H0, H1, H2, H3, H4⟩, H5, H6, H7, HA, HB⟩
      isplitl [HA HB Hg]
      · isplitl [HA HB]
        · iexists _
          isplitr
          · ipureintro; exact fun _ => rfl
          isplitl [HA]
          · iapply (owns_read c scM0); iexact HA
          iapply (owns_read c scM1); iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_back c (ms0_5 t) _ (cover_closing m c t _ h0 h1)); iexact H5
      isplitl [H6]
      · iapply (owns_back c (ms0_6 t) _ (cover_closing_6 m c t _ h0 h1)); iexact H6
      iapply (owns_back c (ms0_7 t) _ (cover_closing_7 m c t _ h0 h1)); iexact H7
    · have hl : ¬last (grid0.coords t) := fun h => h1 ((last_iff t).mp h)
      rw [Dat.leavesExact_idle (dats m 0 c) 6 t (idle0_6 t hl) (still0_6 t hl), Dat.leavesExact_idle (dats m 0 c) 7 t (idle0_7 t hl) (still0_7 t hl)]
      rw [held_succ, left_middle m c t _ h0 h1]
      iintro ⟨⟨⟨%P, %hP, HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hP h0
      iapply ((middleAt m c t (held m c t.val) h0 h1).2.2.2 _ _ Set.univ _)
      unfold inputs
      isplitl [H0 H1 H2 H3 H4]; · iframe
      isplitl [H5]; · iexists _; iexact H5
      isplitl [H6]; · iexact H6
      isplitl [H7]; · iexact H7
      isplitl [HA]; · iexact HA
      isplitl [HB]; · iexact HB
      iintro ⟨⟨H0, H1, H2, H3, H4⟩, H5, H6, H7, HA, HB⟩
      isplitl [HA HB Hg]
      · isplitl [HA HB]
        · iexists _
          isplitr
          · ipureintro; exact fun _ => rfl
          isplitl [HA]
          · iapply (owns_read c scM0); iexact HA
          iapply (owns_read c scM1); iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_back c (ms0_5 t) _ (cover_middle m c t _ h0 h1)); iexact H5
      isplitl [H6]; · iexists _; iexact H6
      iexists _; iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem scratch_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem hin (c : Dev nD) : Pipeline.ΦA spec0 c ⊢ (dats m 0 c).Φ 0 := by
  rw [show (dats m 0 c).Φ 0 = between m c 0 (Nat.zero_le _) from rfl, scratch_eq]
  unfold between
  iintro ⟨⟨⟨%A, HA⟩, ⟨%B, HB⟩⟩, Hg⟩
  isplitl [HA HB]
  · iexists (A, B)
    isplitr
    · ipureintro; exact fun h => absurd rfl h
    isplitl [HA]; · iexact HA
    iexact HB
  iexact Hg

theorem hout (c : Dev nD) : (dats m 0 c).Φ (Fin.last cfg0.N) ⊢ Pipeline.ΦA spec0 c := by
  rw [show (dats m 0 c).Φ (Fin.last cfg0.N) = between m c cfg0.N le_rfl from rfl, scratch_eq]
  unfold between
  iintro ⟨⟨%P, -, HA, HB⟩, Hg⟩
  isplitl [HA HB]
  · isplitl [HA]
    · iexists _; iexact HA
    iexists _; iexact HB
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.FfnBody.lean ====
/- The feed-forward gradient's kernel body: the buffers it reads and writes, and what it leaves in them, by name. -/
module

public import proofs.«01_k».proof.Proof.Gen.FfnIdeal.Frame.Runs
public import Idealize.ShloMosaic.Lib.VecWindow
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (arg2 : Memref sig .tc .vmem S512x1024 .bf16) (harg2 : arg2.IsWhole) (arg3 : Memref sig .tc .vmem S1x512x704 .bf16) (harg3 : arg3.IsWhole)
  (arg4 : Memref sig .tc .vmem S1x512x704 .bf16) (harg4 : arg4.IsWhole) (arg5 : Memref sig .tc .vmem S1x704x1024 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S1x8x1024 .f32) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x512x704 .bf16) (harg14 : arg14.IsWhole) (arg15 : Memref sig .tc .vmem S1x512x704 .bf16) (harg15 : arg15.IsWhole)
  (arg16 : Memref sig .tc .vmem S512x1024 .f32) (harg16 : arg16.IsWhole) (arg17 : Memref sig .tc .vmem S512x1024 .bf16) (harg17 : arg17.IsWhole)
  (arg18 : Memref sig .tc .vmem S1x8x1024 .f32) (harg18 : arg18.IsWhole) (arg19 : Memref sig .tc .vmem S8x1024 .f32) (harg19 : arg19.IsWhole)
  (arg20 : Memref sig .tc .vmem S512x1024 .f32) (harg20 : arg20.IsWhole)
  (x0 : Vec F S512x1024 .bf16) (x1 x2 : Vec F S1x512x704 .bf16) (x3 : Vec F S1x704x1024 .bf16) (x4 x5 : Vec F S1x1024x704 .bf16)
  (x6 x7 x8 : Vec F S512x1024 .f32) (x9 : Vec F S1x8x1024 .f32) (x10 x11 : Vec F S1x1024 .f32)

/-- What the body reads: its twelve input blocks. -/
abbrev inputs : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11)

/-- What the body writes: the two hidden gradients' blocks, the two row gradients' blocks, the two blocks of accumulated
    rows, and the running sum. -/
abbrev Left (F : FTy → Type) [FloatOps F] : Type :=
  Vec F S1x512x704 .bf16 × Vec F S1x512x704 .bf16 × Vec F S512x1024 .f32 × Vec F S512x1024 .bf16
    × Vec F S1x8x1024 .f32 × Vec F S8x1024 .f32 × Vec F S512x1024 .f32

/-- The buffers it writes, at given contents. -/
abbrev outputs (o : Left F) : sProp 𝕄 :=
  iprop(owns (c : Thread nD τ) arg14 fullShare o.1 ∗ owns (c : Thread nD τ) arg15 fullShare o.2.1 ∗ owns (c : Thread nD τ) arg16 fullShare o.2.2.1 ∗ owns (c : Thread nD τ) arg17 fullShare o.2.2.2.1 ∗ owns (c : Thread nD τ) arg18 fullShare o.2.2.2.2.1 ∗ owns (c : Thread nD τ) arg19 fullShare o.2.2.2.2.2.1 ∗ owns (c : Thread nD τ) arg20 fullShare o.2.2.2.2.2.2)

/-- The body takes the buffers it writes from the one contents to the other. -/
def Takes (o o' : Left F) : Prop :=
  ∀ (E : Set ℕ) (K : PUnit → sProp 𝕄),
    iprop(inputs c arg2 arg3 arg4 arg5 arg6 arg7 arg8 arg9 arg10 arg11 arg12 arg13 x0 x1 x2 x3 x4 x5 x6 x7 x8 x9 x10 x11
        ∗ outputs c arg14 arg15 arg16 arg17 arg18 arg19 arg20 o
        ∗ (iprop(inputs c arg2 arg3 arg4 arg5 arg6 arg7 arg8 arg9 arg10 arg11 arg12 arg13 x0 x1 x2 x3 x4 x5 x6 x7 x8 x9 x10 x11
            ∗ outputs c arg14 arg15 arg16 arg17 arg18 arg19 arg20 o') -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K

/-- A whole buffer's contents by what they read. -/
theorem owns_unread {sp : Space} {s : Shape} {e : EltTy} {M : Memref sig .tc sp s e} (h : M.IsWhole) (x : Vec F s e) :
    (M.view.loc (c : Thread nD τ) ↦[M.view.set]{fullShare} h.unread x) ⊢ (owns (c : Thread nD τ) M fullShare x : sProp 𝕄) := by
  unfold owns
  iintro H
  iexists _; isplitr
  · ipureintro; exact h.read_unread _
  iexact H

/-- What a whole buffer is read as through a rectangle. -/
theorem rect_read {sp : Space} {s : Shape} {e : EltTy} {M : Memref sig .tc sp s e} (h : M.IsWhole) (x : Vec F s e) (r : Rect s) :
    M.view.readAt (Elt F) r.toLoadRect (h.unread x) = View.ld x r := by
  rw [View.readAt_eq_ld, h.read_unread]

/-- A row of the eight. -/
abbrev bar (k : ℕ) (h : k < 8 := by decide) : Rect S1x8x1024 :=
  Rect.unit ![0, k, 0] S1x1x1024.size (by intro a; fin_cases a <;> simp [S1x8x1024, S1x1x1024] <;> omega)

/-- A block of eight rows with its first three written over. -/
def over3 (B : Vec F S1x8x1024 .f32) (p0 p1 p2 : Vec F S1x1x1024 .f32) : Vec F S1x8x1024 .f32 := fun y =>
  if (y 1).val = 0 then p0 (ix3 0 0 (y 2)) else if (y 1).val = 1 then p1 (ix3 0 0 (y 2)) else if (y 1).val = 2 then p2 (ix3 0 0 (y 2)) else B y

/-- A block of eight rows with its first two written over. -/
def over2 (B : Vec F S8x1024 .f32) (p0 p1 : Vec F S1x1024 .f32) : Vec F S8x1024 .f32 := fun y =>
  if (y 0).val = 0 then p0 (ix2 0 (y 1)) else if (y 0).val = 1 then p1 (ix2 0 (y 1)) else B y

theorem read_over3 {sp : Space} {M : Memref sig .tc sp S1x8x1024 .f32} (f : M.view.ty.Contents (Elt F)) (p0 p1 p2 : Vec F S1x1x1024 .f32) :
    M.view.read (Elt F) (M.view.writes (Elt F) f
        [⟨Rect.unit ![0, 2, 0] S1x1x1024.size inb_S1x8x1024_S1x1x1024_0_2_0, p2⟩, ⟨Rect.unit ![0, 1, 0] S1x1x1024.size inb_S1x8x1024_S1x1x1024_0_1_0, p1⟩,
          ⟨Rect.unit ![0, 0, 0] S1x1x1024.size inb_S1x8x1024_S1x1x1024_0_0_0, p0⟩])
      = over3 (M.view.read (Elt F) f) p0 p1 p2 := by
  funext y
  have y0 : (y 0).val = 0 := by have : (y 0).val < 1 := (y 0).isLt; omega
  unfold over3
  rcases (show (y 1).val = 0 ∨ (y 1).val = 1 ∨ (y 1).val = 2 ∨ 3 ≤ (y 1).val by omega) with hi | hi | hi | hi
  · rw [View.read_writes_cons_unit_of_not_mem _ _ _ _ _ _ rfl (1 : Fin 3) (Or.inl (show (y 1).val < 2 by omega)),
      View.read_writes_cons_unit_of_not_mem _ _ _ _ _ _ rfl (1 : Fin 3) (Or.inl (show (y 1).val < 1 by omega)),
      View.read_writes_cons_unit_of_mem _ _ _ _ _ _ (ix3 0 0 (y 2)) rfl (by intro a; fin_cases a <;> simp [hi, y0]), if_pos hi]; rfl
  · rw [View.read_writes_cons_unit_of_not_mem _ _ _ _ _ _ rfl (1 : Fin 3) (Or.inl (show (y 1).val < 2 by omega)),
      View.read_writes_cons_unit_of_mem _ _ _ _ _ _ (ix3 0 0 (y 2)) rfl (by intro a; fin_cases a <;> simp [hi, y0]), if_neg (by omega), if_pos hi]; rfl
  · rw [View.read_writes_cons_unit_of_mem _ _ _ _ _ _ (ix3 0 0 (y 2)) rfl (by intro a; fin_cases a <;> simp [hi, y0]), if_neg (by omega), if_neg (by omega), if_pos hi]; rfl
  · rw [View.read_writes_cons_unit_of_not_mem _ _ _ _ _ _ rfl (1 : Fin 3) (Or.inr (show 3 ≤ (y 1).val by omega)),
      View.read_writes_cons_unit_of_not_mem _ _ _ _ _ _ rfl (1 : Fin 3) (Or.inr (show 2 ≤ (y 1).val by omega)),
      View.read_writes_cons_unit_of_not_mem _ _ _ _ _ _ rfl (1 : Fin 3) (Or.inr (show 1 ≤ (y 1).val by omega)),
      View.writes_nil, if_neg (by omega), if_neg (by omega), if_neg (by omega)]

theorem read_over2 {sp : Space} {M : Memref sig .tc sp S8x1024 .f32} (f : M.view.ty.Contents (Elt F)) (p0 p1 : Vec F S1x1024 .f32) :
    M.view.read (Elt F) (M.view.writes (Elt F) f
        [⟨Rect.unit ![1, 0] S1x1024.size inb_S8x1024_S1x1024_1_0, p1⟩, ⟨Rect.unit ![0, 0] S1x1024.size inb_S8x1024_S1x1024_0_0, p0⟩])
      = over2 (M.view.read (Elt F) f) p0 p1 := by
  funext y
  unfold over2
  rcases (show (y 0).val = 0 ∨ (y 0).val = 1 ∨ 2 ≤ (y 0).val by omega) with hi | hi | hi
  · rw [View.read_writes_cons_unit_of_not_mem _ _ _ _ _ _ rfl (0 : Fin 2) (Or.inl (show (y 0).val < 1 by omega)),
      View.read_writes_cons_unit_of_mem _ _ _ _ _ _ (ix2 0 (y 1)) rfl (by intro a; fin_cases a <;> simp [hi]), if_pos hi]; rfl
  · rw [View.read_writes_cons_unit_of_mem _ _ _ _ _ _ (ix2 0 (y 1)) rfl (by intro a; fin_cases a <;> simp [hi]), if_neg (by omega), if_pos hi]; rfl
  · rw [View.read_writes_cons_unit_of_not_mem _ _ _ _ _ _ rfl (0 : Fin 2) (Or.inr (show 2 ≤ (y 0).val by omega)),
      View.read_writes_cons_unit_of_not_mem _ _ _ _ _ _ rfl (0 : Fin 2) (Or.inr (show 1 ≤ (y 0).val by omega)),
      View.writes_nil, if_neg (by omega), if_neg (by omega)]

theorem read_over3_fill {sp : Space} {M : Memref sig .tc sp S1x8x1024 .f32} (f : M.view.ty.Contents (Elt F)) (Z : Vec F S1x8x1024 .f32)
    (p0 p1 p2 : Vec F S1x1x1024 .f32) :
    M.view.read (Elt F) (M.view.writes (Elt F) f
        [⟨Rect.unit ![0, 2, 0] S1x1x1024.size inb_S1x8x1024_S1x1x1024_0_2_0, p2⟩, ⟨Rect.unit ![0, 1, 0] S1x1x1024.size inb_S1x8x1024_S1x1x1024_0_1_0, p1⟩,
          ⟨Rect.unit ![0, 0, 0] S1x1x1024.size inb_S1x8x1024_S1x1x1024_0_0_0, p0⟩, ⟨Rect.unit ![0, 0, 0] S1x8x1024.size inb_S1x8x1024_S1x8x1024_0_0_0, Z⟩])
      = over3 Z p0 p1 p2 := by
  refine (congrArg (M.view.read (Elt F)) (View.writes_append M.view f [_, _, _] [_])).trans ?_
  rw [read_over3, View.read_writes_full]

theorem read_over2_fill {sp : Space} {M : Memref sig .tc sp S8x1024 .f32} (f : M.view.ty.Contents (Elt F)) (Z : Vec F S8x1024 .f32)
    (p0 p1 : Vec F S1x1024 .f32) :
    M.view.read (Elt F) (M.view.writes (Elt F) f
        [⟨Rect.unit ![1, 0] S1x1024.size inb_S8x1024_S1x1024_1_0, p1⟩, ⟨Rect.unit ![0, 0] S1x1024.size inb_S8x1024_S1x1024_0_0, p0⟩,
          ⟨Rect.unit ![0, 0] S8x1024.size inb_S8x1024_S8x1024_0_0, Z⟩])
      = over2 Z p0 p1 := by
  refine (congrArg (M.view.read (Elt F)) (View.writes_append M.view f [_, _] [_])).trans ?_
  rw [read_over2, View.read_writes_full]

/-- What the body leaves at a row tile's first quarter, -/
abbrev begun (o : Left F) : Left F :=
  (k0_pay30 x0 x3 x1 x2, k0_pay1 (k0_pay29 x0 x3 x1), o.2.2.1, o.2.2.2.1, o.2.2.2.2.1, o.2.2.2.2.2.1,
    k0_pay3 (k0_pay28 x0 x3 x1 x2) (k0_pay29 x0 x3 x1) x4 x5)

/-- at a middle one, -/
abbrev grown (o : Left F) : Left F :=
  (k0_pay30 x0 x3 x1 x2, k0_pay1 (k0_pay29 x0 x3 x1), o.2.2.1, o.2.2.2.1, o.2.2.2.2.1, o.2.2.2.2.2.1,
    k0_pay4 (k0_pay28 x0 x3 x1 x2) (k0_pay29 x0 x3 x1) x4 x5 o.2.2.2.2.2.2)

/-- The gradient through the hidden layer's norm, from the whole running sum `H`. -/
abbrev inner (H : Vec F S512x1024 .f32) : Vec F S512x1024 .f32 :=
  k0_pay19 (k0_pay10 x6) (k0_pay11 x6) (k0_pay16 x7) (k0_pay17 H x10 (k0_pay12 (View.ld x9 (bar 4)))) (k0_pay18 H (k0_pay11 x6) x10 (k0_pay12 (View.ld x9 (bar 4))))

/-- The rows of the modulation's gradient, and of the norm weights', grown by a tile's. -/
abbrev rows3 (B : Vec F S1x8x1024 .f32) (H : Vec F S512x1024 .f32) : Vec F S1x8x1024 .f32 :=
  over3 B (k0_pay13 H (View.ld B (bar 0))) (k0_pay14 H (k0_pay11 x6) x10 (View.ld B (bar 1)))
    (k0_pay24 (k0_pay10 x6) (k0_pay11 x6) (k0_pay16 x7) (k0_pay17 H x10 (k0_pay12 (View.ld x9 (bar 4)))) (k0_pay18 H (k0_pay11 x6) x10 (k0_pay12 (View.ld x9 (bar 4)))) x8 x11 (View.ld B (bar 2)))

abbrev rows2 (B : Vec F S8x1024 .f32) (H : Vec F S512x1024 .f32) : Vec F S8x1024 .f32 :=
  over2 B (k0_pay15 H (k0_pay11 x6) (k0_pay12 (View.ld x9 (bar 4))) (View.ld B (Rect.unit ![0, 0] S1x1024.size inb_S8x1024_S1x1024_0_0)))
    (k0_pay5 (inner x6 x7 x9 x10 H) (k0_pay22 x8) (k0_pay23 (View.ld x9 (bar 2))) (View.ld B (Rect.unit ![1, 0] S1x1024.size inb_S8x1024_S1x1024_1_0)))

/-- and at the last, where the two blocks of rows stood at `B` and `B'`. -/
abbrev ended (B : Vec F S1x8x1024 .f32) (B' : Vec F S8x1024 .f32) (s : Vec F S512x1024 .f32) : Left F :=
  (k0_pay30 x0 x3 x1 x2, k0_pay1 (k0_pay29 x0 x3 x1),
    inner x6 x7 x9 x10 (k0_pay4 (k0_pay28 x0 x3 x1 x2) (k0_pay29 x0 x3 x1) x4 x5 s),
    k0_pay6 (inner x6 x7 x9 x10 (k0_pay4 (k0_pay28 x0 x3 x1 x2) (k0_pay29 x0 x3 x1) x4 x5 s)) (k0_pay21 x8) (k0_pay22 x8) x11 (k0_pay23 (View.ld x9 (bar 2))),
    rows3 x6 x7 x8 x9 x10 x11 B (k0_pay4 (k0_pay28 x0 x3 x1 x2) (k0_pay29 x0 x3 x1) x4 x5 s),
    rows2 x6 x7 x8 x9 x10 B' (k0_pay4 (k0_pay28 x0 x3 x1 x2) (k0_pay29 x0 x3 x1) x4 x5 s),
    k0_pay4 (k0_pay28 x0 x3 x1 x2) (k0_pay29 x0 x3 x1) x4 x5 s)

/-- What the body read, handed back. -/
theorem give_inputs :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11))
      ⊢ (inputs c arg2 arg3 arg4 arg5 arg6 arg7 arg8 arg9 arg10 arg11 arg12 arg13 x0 x1 x2 x3 x4 x5 x6 x7 x8 x9 x10 x11 : sProp 𝕄) := by
  iintro ⟨H0, H1, H2, H3, H4, H5, H6, H7, H8, H9, H10, H11⟩
  isplitl [H0]; · iapply (owns_unread c harg2); iexact H0
  isplitl [H1]; · iapply (owns_unread c harg3); iexact H1
  isplitl [H2]; · iapply (owns_unread c harg4); iexact H2
  isplitl [H3]; · iapply (owns_unread c harg5); iexact H3
  isplitl [H4]; · iapply (owns_unread c harg6); iexact H4
  isplitl [H5]; · iapply (owns_unread c harg7); iexact H5
  isplitl [H6]; · iapply (owns_unread c harg8); iexact H6
  isplitl [H7]; · iapply (owns_unread c harg9); iexact H7
  isplitl [H8]; · iapply (owns_unread c harg10); iexact H8
  isplitl [H9]; · iapply (owns_unread c harg11); iexact H9
  isplitl [H10]; · iapply (owns_unread c harg12); iexact H10
  iapply (owns_unread c harg13); iexact H11

end Cert.FfnIdeal.Body

end
-- ==== Proof.FfnRun.lean ====
/- The feed-forward gradient's kernel body, run once at a generic point before a row tile's last hidden quarter. -/
module

public import proofs.«01_k».proof.Proof.FfnBody

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (arg2 : Memref sig .tc .vmem S512x1024 .bf16) (harg2 : arg2.IsWhole) (arg3 : Memref sig .tc .vmem S1x512x704 .bf16) (harg3 : arg3.IsWhole)
  (arg4 : Memref sig .tc .vmem S1x512x704 .bf16) (harg4 : arg4.IsWhole) (arg5 : Memref sig .tc .vmem S1x704x1024 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S1x8x1024 .f32) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x512x704 .bf16) (harg14 : arg14.IsWhole) (arg15 : Memref sig .tc .vmem S1x512x704 .bf16) (harg15 : arg15.IsWhole)
  (arg16 : Memref sig .tc .vmem S512x1024 .f32) (harg16 : arg16.IsWhole) (arg17 : Memref sig .tc .vmem S512x1024 .bf16) (harg17 : arg17.IsWhole)
  (arg18 : Memref sig .tc .vmem S1x8x1024 .f32) (harg18 : arg18.IsWhole) (arg19 : Memref sig .tc .vmem S8x1024 .f32) (harg19 : arg19.IsWhole)
  (arg20 : Memref sig .tc .vmem S512x1024 .f32) (harg20 : arg20.IsWhole)
  (x0 : Vec F S512x1024 .bf16) (x1 x2 : Vec F S1x512x704 .bf16) (x3 : Vec F S1x704x1024 .bf16) (x4 x5 : Vec F S1x1024x704 .bf16)
  (x6 x7 x8 : Vec F S512x1024 .f32) (x9 : Vec F S1x8x1024 .f32) (x10 x11 : Vec F S1x1024 .f32)

set_option maxHeartbeats 8000000 in
/-- A row tile's first quarter, whatever the running sum held. -/
theorem opening (h0 : cond0_0 i) (h1 : ¬cond0_1 i) (h2 : ¬cond0_2 i) (o : Left F) :
    Takes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 o
      (begun x0 x1 x2 x3 x4 x5 o) := by
  intro E K
  simp only [cc0_ffn_bwd_eq_skeleton]; unfold cc0_ffn_bwd_skel
  simp only [k0_part4_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  sl_exec (disch := first | sl_exact h0 | sl_exact h1 | sl_exact h2)
  sl_step
  iapply Hk
  isplitl [H0 H1 H2 H3 H4 H5 H6 H7 H8 H9 H10 H11]
  · iapply (give_inputs c (harg2 := harg2) (harg3 := harg3) (harg4 := harg4) (harg5 := harg5) (harg6 := harg6) (harg7 := harg7) (harg8 := harg8) (harg9 := harg9) (harg10 := harg10) (harg11 := harg11) (harg12 := harg12) (harg13 := harg13)); iframe
  isplitl [H12]
  · iexists _; isplitr
    swap; · iexact H12
    ipureintro; exact (View.read_writes_full arg14.view _ _ _ []).trans (by (repeat first | delta opening.sl.r | delta opening.sl.r_1); simp (disch := decide) only [rect_read, View.ld_unit_lit'])
  isplitl [H13]
  · iexists _; isplitr
    swap; · iexact H13
    ipureintro; exact (View.read_writes_full arg15.view _ _ _ []).trans (by (repeat first | delta opening.sl.r | delta opening.sl.r_1); simp (disch := decide) only [rect_read, View.ld_unit_lit'])
  isplitl [H14]
  · iexists _; isplitr
    swap; · iexact H14
    ipureintro; exact harg16.read_unread _
  isplitl [H15]
  · iexists _; isplitr
    swap; · iexact H15
    ipureintro; exact harg17.read_unread _
  isplitl [H16]
  · iexists _; isplitr
    swap; · iexact H16
    ipureintro; exact harg18.read_unread _
  isplitl [H17]
  · iexists _; isplitr
    swap; · iexact H17
    ipureintro; exact harg19.read_unread _
  · iexists _; isplitr
    swap; · iexact H18
    ipureintro; exact (View.read_writes_full arg20.view _ _ _ []).trans (by (repeat first | delta opening.sl.r | delta opening.sl.r_1); simp (disch := decide) only [rect_read, View.ld_unit_lit', ↓View.readCov_skip, ↓View.readCov_cons_toLoadRect, ↓View.readCov_fill])

set_option maxHeartbeats 8000000 in
/-- A middle quarter. -/
theorem middle (h0 : ¬cond0_0 i) (h1 : cond0_1 i) (h2 : ¬cond0_2 i) (o : Left F) :
    Takes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 o
      (grown x0 x1 x2 x3 x4 x5 o) := by
  intro E K
  simp only [cc0_ffn_bwd_eq_skeleton]; unfold cc0_ffn_bwd_skel
  simp only [k0_part4_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  sl_exec (disch := first | sl_exact h0 | sl_exact h1 | sl_exact h2)
  sl_step
  iapply Hk
  isplitl [H0 H1 H2 H3 H4 H5 H6 H7 H8 H9 H10 H11]
  · iapply (give_inputs c (harg2 := harg2) (harg3 := harg3) (harg4 := harg4) (harg5 := harg5) (harg6 := harg6) (harg7 := harg7) (harg8 := harg8) (harg9 := harg9) (harg10 := harg10) (harg11 := harg11) (harg12 := harg12) (harg13 := harg13)); iframe
  isplitl [H12]
  · iexists _; isplitr
    swap; · iexact H12
    ipureintro; exact (View.read_writes_full arg14.view _ _ _ []).trans (by (repeat first | delta middle.sl.r | delta middle.sl.r_1 | delta middle.sl.v52 | delta middle.sl.v33); simp (disch := decide) only [rect_read, View.ld_unit_lit'])
  isplitl [H13]
  · iexists _; isplitr
    swap; · iexact H13
    ipureintro; exact (View.read_writes_full arg15.view _ _ _ []).trans (by (repeat first | delta middle.sl.r | delta middle.sl.r_1 | delta middle.sl.v52 | delta middle.sl.v33); simp (disch := decide) only [rect_read, View.ld_unit_lit'])
  isplitl [H14]
  · iexists _; isplitr
    swap; · iexact H14
    ipureintro; exact harg16.read_unread _
  isplitl [H15]
  · iexists _; isplitr
    swap; · iexact H15
    ipureintro; exact harg17.read_unread _
  isplitl [H16]
  · iexists _; isplitr
    swap; · iexact H16
    ipureintro; exact harg18.read_unread _
  isplitl [H17]
  · iexists _; isplitr
    swap; · iexact H17
    ipureintro; exact harg19.read_unread _
  · iexists _; isplitr
    swap; · iexact H18
    ipureintro; exact (View.read_writes_full arg20.view _ _ _ []).trans (by (repeat first | delta middle.sl.r | delta middle.sl.r_1 | delta middle.sl.v52 | delta middle.sl.v33); simp (disch := decide) only [rect_read, View.ld_unit_lit', ↓View.readCov_skip, ↓View.readCov_cons_toLoadRect, ↓View.readCov_fill])

end Cert.FfnIdeal.Body

end
-- ==== Proof.FfnClose.lean ====
/- The feed-forward gradient's kernel body, run once at the last hidden quarter of a row tile that goes on with its example. -/
module

public import proofs.«01_k».proof.Proof.FfnBody

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (arg2 : Memref sig .tc .vmem S512x1024 .bf16) (harg2 : arg2.IsWhole) (arg3 : Memref sig .tc .vmem S1x512x704 .bf16) (harg3 : arg3.IsWhole)
  (arg4 : Memref sig .tc .vmem S1x512x704 .bf16) (harg4 : arg4.IsWhole) (arg5 : Memref sig .tc .vmem S1x704x1024 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S1x8x1024 .f32) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x512x704 .bf16) (harg14 : arg14.IsWhole) (arg15 : Memref sig .tc .vmem S1x512x704 .bf16) (harg15 : arg15.IsWhole)
  (arg16 : Memref sig .tc .vmem S512x1024 .f32) (harg16 : arg16.IsWhole) (arg17 : Memref sig .tc .vmem S512x1024 .bf16) (harg17 : arg17.IsWhole)
  (arg18 : Memref sig .tc .vmem S1x8x1024 .f32) (harg18 : arg18.IsWhole) (arg19 : Memref sig .tc .vmem S8x1024 .f32) (harg19 : arg19.IsWhole)
  (arg20 : Memref sig .tc .vmem S512x1024 .f32) (harg20 : arg20.IsWhole)
  (x0 : Vec F S512x1024 .bf16) (x1 x2 : Vec F S1x512x704 .bf16) (x3 : Vec F S1x704x1024 .bf16) (x4 x5 : Vec F S1x1024x704 .bf16)
  (x6 x7 x8 : Vec F S512x1024 .f32) (x9 : Vec F S1x8x1024 .f32) (x10 x11 : Vec F S1x1024 .f32)

set_option maxHeartbeats 8000000 in
/-- The last quarter of a row tile that goes on with its example. -/
theorem closing (h0 : ¬cond0_0 i) (h1 : cond0_1 i) (h2 : cond0_2 i) (h3 : ¬cond0_3 i) (h4 : ¬cond0_4 i) (o : Left F) :
    Takes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 o
      (ended x0 x1 x2 x3 x4 x5 x6 x7 x8 x9 x10 x11 o.2.2.2.2.1 o.2.2.2.2.2.1 o.2.2.2.2.2.2) := by
  intro E K
  simp only [cc0_ffn_bwd_eq_skeleton]; unfold cc0_ffn_bwd_skel
  simp only [k0_part4_eq_skeleton, k0_part1_eq_skeleton, k0_part2_eq_skeleton, k0_part3_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  sl_exec (disch := first | sl_exact h0 | sl_exact h1 | sl_exact h2 | sl_exact h3 | sl_exact h4)
  sl_step
  iapply Hk
  isplitl [H0 H1 H2 H3 H4 H5 H6 H7 H8 H9 H10 H11]
  · iapply (give_inputs c (harg2 := harg2) (harg3 := harg3) (harg4 := harg4) (harg5 := harg5) (harg6 := harg6) (harg7 := harg7) (harg8 := harg8) (harg9 := harg9) (harg10 := harg10) (harg11 := harg11) (harg12 := harg12) (harg13 := harg13)); iframe
  isplitl [H12]
  · iexists _; isplitr
    swap; · iexact H12
    ipureintro; exact (View.read_writes_full arg14.view _ _ _ []).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit'])
  isplitl [H13]
  · iexists _; isplitr
    swap; · iexact H13
    ipureintro; exact (View.read_writes_full arg15.view _ _ _ []).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit'])
  isplitl [H14]
  · iexists _; isplitr
    swap; · iexact H14
    ipureintro; exact (View.read_writes_full arg16.view _ _ _ []).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit', ↓View.readCov_skip, ↓View.readCov_cons_toLoadRect, ↓View.readCov_fill])
  isplitl [H15]
  · iexists _; isplitr
    swap; · iexact H15
    ipureintro; exact (View.read_writes_full arg17.view _ _ _ []).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit', ↓View.readCov_skip, ↓View.readCov_cons_toLoadRect, ↓View.readCov_fill])
  isplitl [H16]
  · iexists _; isplitr
    swap; · iexact H16
    ipureintro; exact (read_over3 _ _ _ _).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit', ↓View.readCov_skip, ↓View.readCov_cons_toLoadRect, ↓View.readCov_fill, harg18.read_unread])
  isplitl [H17]
  · iexists _; isplitr
    swap; · iexact H17
    ipureintro; exact (read_over2 _ _ _).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit', ↓View.readCov_skip, ↓View.readCov_cons_toLoadRect, ↓View.readCov_fill, harg19.read_unread])
  · iexists _; isplitr
    swap; · iexact H18
    ipureintro; exact (View.read_writes_full arg20.view _ _ _ []).trans (by (repeat first | delta closing.sl.r | delta closing.sl.r_1 | delta closing.sl.r_2 | delta closing.sl.r_3 | delta closing.sl.r_4 | delta closing.sl.r_5 | delta closing.sl.r_6 | delta closing.sl.r_7 | delta closing.sl.r_8 | delta closing.sl.r_9 | delta closing.sl.r_10 | delta closing.sl.r_11 | delta closing.sl.r_12 | delta closing.sl.r_13 | delta closing.sl.H18_1 | delta closing.sl.v52 | delta closing.sl.v68 | delta closing.sl.v86 | delta closing.sl.v94 | delta closing.sl.v105 | delta closing.sl.v147 | delta closing.sl.v158 | delta closing.sl.v33); simp (disch := decide) only [rect_read, View.ld_unit_lit', ↓View.readCov_skip, ↓View.readCov_cons_toLoadRect, ↓View.readCov_fill])

end Cert.FfnIdeal.Body

end
-- ==== Proof.FfnFresh.lean ====
/- The feed-forward gradient's kernel body, run once at the last hidden quarter of the row tile that begins an example. -/
module

public import proofs.«01_k».proof.Proof.FfnBody

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (arg2 : Memref sig .tc .vmem S512x1024 .bf16) (harg2 : arg2.IsWhole) (arg3 : Memref sig .tc .vmem S1x512x704 .bf16) (harg3 : arg3.IsWhole)
  (arg4 : Memref sig .tc .vmem S1x512x704 .bf16) (harg4 : arg4.IsWhole) (arg5 : Memref sig .tc .vmem S1x704x1024 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S1x8x1024 .f32) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x512x704 .bf16) (harg14 : arg14.IsWhole) (arg15 : Memref sig .tc .vmem S1x512x704 .bf16) (harg15 : arg15.IsWhole)
  (arg16 : Memref sig .tc .vmem S512x1024 .f32) (harg16 : arg16.IsWhole) (arg17 : Memref sig .tc .vmem S512x1024 .bf16) (harg17 : arg17.IsWhole)
  (arg18 : Memref sig .tc .vmem S1x8x1024 .f32) (harg18 : arg18.IsWhole) (arg19 : Memref sig .tc .vmem S8x1024 .f32) (harg19 : arg19.IsWhole)
  (arg20 : Memref sig .tc .vmem S512x1024 .f32) (harg20 : arg20.IsWhole)
  (x0 : Vec F S512x1024 .bf16) (x1 x2 : Vec F S1x512x704 .bf16) (x3 : Vec F S1x704x1024 .bf16) (x4 x5 : Vec F S1x1024x704 .bf16)
  (x6 x7 x8 : Vec F S512x1024 .f32) (x9 : Vec F S1x8x1024 .f32) (x10 x11 : Vec F S1x1024 .f32)

set_option maxHeartbeats 8000000 in
/-- The last quarter of the first row tile. -/
theorem closing_first (h0 : ¬cond0_0 i) (h1 : cond0_1 i) (h2 : cond0_2 i) (h3 : cond0_3 i) (h4 : cond0_4 i) (o : Left F) :
    Takes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 o
      (ended x0 x1 x2 x3 x4 x5 x6 x7 x8 x9 x10 x11 k0_pay8 k0_pay7 o.2.2.2.2.2.2) := by
  intro E K
  simp only [cc0_ffn_bwd_eq_skeleton]; unfold cc0_ffn_bwd_skel
  simp only [k0_part4_eq_skeleton, k0_part1_eq_skeleton, k0_part2_eq_skeleton, k0_part3_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  sl_exec (disch := first | sl_exact h0 | sl_exact h1 | sl_exact h2 | sl_exact h3 | sl_exact h4)
  sl_step
  iapply Hk
  isplitl [H0 H1 H2 H3 H4 H5 H6 H7 H8 H9 H10 H11]
  · iapply (give_inputs c (harg2 := harg2) (harg3 := harg3) (harg4 := harg4) (harg5 := harg5) (harg6 := harg6) (harg7 := harg7) (harg8 := harg8) (harg9 := harg9) (harg10 := harg10) (harg11 := harg11) (harg12 := harg12) (harg13 := harg13)); iframe
  isplitl [H12]
  · iexists _; isplitr
    swap; · iexact H12
    ipureintro; exact (View.read_writes_full arg14.view _ _ _ []).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit'])
  isplitl [H13]
  · iexists _; isplitr
    swap; · iexact H13
    ipureintro; exact (View.read_writes_full arg15.view _ _ _ []).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit'])
  isplitl [H14]
  · iexists _; isplitr
    swap; · iexact H14
    ipureintro; exact (View.read_writes_full arg16.view _ _ _ []).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit', ↓View.readCov_skip, ↓View.readCov_cons_toLoadRect, ↓View.readCov_fill])
  isplitl [H15]
  · iexists _; isplitr
    swap; · iexact H15
    ipureintro; exact (View.read_writes_full arg17.view _ _ _ []).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit', ↓View.readCov_skip, ↓View.readCov_cons_toLoadRect, ↓View.readCov_fill])
  isplitl [H16]
  · iexists _; isplitr
    swap; · iexact H16
    ipureintro; exact (read_over3_fill _ _ _ _ _).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit', ↓View.readCov_skip, ↓View.readCov_cons_toLoadRect, ↓View.readCov_fill, harg18.read_unread])
  isplitl [H17]
  · iexists _; isplitr
    swap; · iexact H17
    ipureintro; exact (read_over2_fill _ _ _ _).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit', ↓View.readCov_skip, ↓View.readCov_cons_toLoadRect, ↓View.readCov_fill, harg19.read_unread])
  · iexists _; isplitr
    swap; · iexact H18
    ipureintro; exact (View.read_writes_full arg20.view _ _ _ []).trans (by (repeat first | delta closing_first.sl.r | delta closing_first.sl.r_1 | delta closing_first.sl.r_2 | delta closing_first.sl.r_3 | delta closing_first.sl.r_4 | delta closing_first.sl.r_5 | delta closing_first.sl.r_6 | delta closing_first.sl.r_7 | delta closing_first.sl.r_8 | delta closing_first.sl.r_9 | delta closing_first.sl.r_10 | delta closing_first.sl.r_11 | delta closing_first.sl.r_12 | delta closing_first.sl.r_13 | delta closing_first.sl.H18_1 | delta closing_first.sl.v52 | delta closing_first.sl.v68 | delta closing_first.sl.v86 | delta closing_first.sl.v94 | delta closing_first.sl.v105 | delta closing_first.sl.v147 | delta closing_first.sl.v158 | delta closing_first.sl.H16_1 | delta closing_first.sl.H16_2 | delta closing_first.sl.H16_3 | delta closing_first.sl.H17_1 | delta closing_first.sl.H17_2 | delta closing_first.sl.v33); simp (disch := decide) only [rect_read, View.ld_unit_lit', ↓View.readCov_skip, ↓View.readCov_cons_toLoadRect, ↓View.readCov_fill])

set_option maxHeartbeats 8000000 in
/-- The last quarter of the row tile that begins the second example. -/
theorem closing_fresh (h0 : ¬cond0_0 i) (h1 : cond0_1 i) (h2 : cond0_2 i) (h3 : ¬cond0_3 i) (h4 : cond0_4 i) (o : Left F) :
    Takes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 o
      (ended x0 x1 x2 x3 x4 x5 x6 x7 x8 x9 x10 x11 k0_pay8 o.2.2.2.2.2.1 o.2.2.2.2.2.2) := by
  intro E K
  simp only [cc0_ffn_bwd_eq_skeleton]; unfold cc0_ffn_bwd_skel
  simp only [k0_part4_eq_skeleton, k0_part1_eq_skeleton, k0_part2_eq_skeleton, k0_part3_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  sl_exec (disch := first | sl_exact h0 | sl_exact h1 | sl_exact h2 | sl_exact h3 | sl_exact h4)
  sl_step
  iapply Hk
  isplitl [H0 H1 H2 H3 H4 H5 H6 H7 H8 H9 H10 H11]
  · iapply (give_inputs c (harg2 := harg2) (harg3 := harg3) (harg4 := harg4) (harg5 := harg5) (harg6 := harg6) (harg7 := harg7) (harg8 := harg8) (harg9 := harg9) (harg10 := harg10) (harg11 := harg11) (harg12 := harg12) (harg13 := harg13)); iframe
  isplitl [H12]
  · iexists _; isplitr
    swap; · iexact H12
    ipureintro; exact (View.read_writes_full arg14.view _ _ _ []).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit'])
  isplitl [H13]
  · iexists _; isplitr
    swap; · iexact H13
    ipureintro; exact (View.read_writes_full arg15.view _ _ _ []).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit'])
  isplitl [H14]
  · iexists _; isplitr
    swap; · iexact H14
    ipureintro; exact (View.read_writes_full arg16.view _ _ _ []).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit', ↓View.readCov_skip, ↓View.readCov_cons_toLoadRect, ↓View.readCov_fill])
  isplitl [H15]
  · iexists _; isplitr
    swap; · iexact H15
    ipureintro; exact (View.read_writes_full arg17.view _ _ _ []).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit', ↓View.readCov_skip, ↓View.readCov_cons_toLoadRect, ↓View.readCov_fill])
  isplitl [H16]
  · iexists _; isplitr
    swap; · iexact H16
    ipureintro; exact (read_over3_fill _ _ _ _ _).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit', ↓View.readCov_skip, ↓View.readCov_cons_toLoadRect, ↓View.readCov_fill, harg18.read_unread])
  isplitl [H17]
  · iexists _; isplitr
    swap; · iexact H17
    ipureintro; exact (read_over2 _ _ _).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit', ↓View.readCov_skip, ↓View.readCov_cons_toLoadRect, ↓View.readCov_fill, harg19.read_unread])
  · iexists _; isplitr
    swap; · iexact H18
    ipureintro; exact (View.read_writes_full arg20.view _ _ _ []).trans (by (repeat first | delta closing_fresh.sl.r | delta closing_fresh.sl.r_1 | delta closing_fresh.sl.r_2 | delta closing_fresh.sl.r_3 | delta closing_fresh.sl.r_4 | delta closing_fresh.sl.r_5 | delta closing_fresh.sl.r_6 | delta closing_fresh.sl.r_7 | delta closing_fresh.sl.r_8 | delta closing_fresh.sl.r_9 | delta closing_fresh.sl.r_10 | delta closing_fresh.sl.r_11 | delta closing_fresh.sl.r_12 | delta closing_fresh.sl.r_13 | delta closing_fresh.sl.H18_1 | delta closing_fresh.sl.v52 | delta closing_fresh.sl.v68 | delta closing_fresh.sl.v86 | delta closing_fresh.sl.v94 | delta closing_fresh.sl.v105 | delta closing_fresh.sl.v147 | delta closing_fresh.sl.v158 | delta closing_fresh.sl.H16_1 | delta closing_fresh.sl.H16_2 | delta closing_fresh.sl.H16_3 | delta closing_fresh.sl.v33); simp (disch := decide) only [rect_read, View.ld_unit_lit', ↓View.readCov_skip, ↓View.readCov_cons_toLoadRect, ↓View.readCov_fill])

end Cert.FfnIdeal.Body

end
-- ==== Proof.FfnFrame.lean ====
/- The feed-forward gradient's frame: the launch runs to the end, nothing is left in flight and the arguments are unchanged.
   The running sum over a row tile's hidden quarters is carried by name, except before a tile's first quarter, where the
   body starts it afresh; the two blocks of accumulated rows are carried in their windows. -/
module

public import proofs.«01_k».proof.Proof.FfnRun
public import proofs.«01_k».proof.Proof.FfnClose
public import proofs.«01_k».proof.Proof.FfnFresh
public import Idealize.ShloMosaic.Lib.Claim

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem idle0_14 : ∀ t : Fin cfg0.N, ¬t.val % 4 = 3 → cfg0.idle 14 (grid0.coords t) = true := by decide +kernel
theorem live0_14 : ∀ t : Fin cfg0.N, t.val % 4 = 3 → cfg0.idle 14 (grid0.coords t) = false := by decide +kernel
theorem still0_14 : ∀ t : Fin cfg0.N, ¬t.val % 4 = 3 → (cfg0.win 14).flush t = false := by decide +kernel
theorem idle0_15 : ∀ t : Fin cfg0.N, ¬t.val % 4 = 3 → cfg0.idle 15 (grid0.coords t) = true := by decide +kernel
theorem live0_15 : ∀ t : Fin cfg0.N, t.val % 4 = 3 → cfg0.idle 15 (grid0.coords t) = false := by decide +kernel
theorem still0_15 : ∀ t : Fin cfg0.N, ¬t.val % 4 = 3 → (cfg0.win 15).flush t = false := by decide +kernel
theorem idle0_16 : ∀ t : Fin cfg0.N, ¬t.val % 4 = 3 → cfg0.idle 16 (grid0.coords t) = true := by decide +kernel
theorem live0_16 : ∀ t : Fin cfg0.N, t.val % 4 = 3 → cfg0.idle 16 (grid0.coords t) = false := by decide +kernel
theorem still0_16 : ∀ t : Fin cfg0.N, ¬t.val % 4 = 3 → (cfg0.win 16).flush t = false := by decide +kernel
theorem idle0_17 : ∀ t : Fin cfg0.N, ¬t.val % 4 = 3 → cfg0.idle 17 (grid0.coords t) = true := by decide +kernel
theorem live0_17 : ∀ t : Fin cfg0.N, t.val % 4 = 3 → cfg0.idle 17 (grid0.coords t) = false := by decide +kernel
theorem still0_17 : ∀ t : Fin cfg0.N, ¬t.val % 4 = 3 → (cfg0.win 17).flush t = false := by decide +kernel
theorem kept0_16 : ∀ t : Fin cfg0.N, t.val % 4 = 3 → ¬t.val % 16 = 3 → cfg0.fresh 16 t.val = false := by decide +kernel
theorem kept0_17 : ∀ t : Fin cfg0.N, t.val % 4 = 3 → ¬t.val < 4 → cfg0.fresh 17 t.val = false := by decide +kernel
theorem busy0_16 : ∀ t : Fin cfg0.N, cfg0.idle 16 (grid0.coords t) = true → ¬t.val % 4 = 3 := by decide +kernel
theorem busy0_17 : ∀ t : Fin cfg0.N, cfg0.idle 17 (grid0.coords t) = true → ¬t.val % 4 = 3 := by decide +kernel

/-! ## What a point leaves -/

/-- The body at a point takes the buffers it writes from the one contents to the other. -/
abbrev TakesAt (c : Dev nD) (t : Fin cfg0.N) (o o' : Left F) : Prop :=
  Takes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) o o'

/-- What the point leaves where the buffers held `o`. -/
def step (c : Dev nD) (t : Fin cfg0.N) (o : Left F) : Left F :=
  if t.val % 4 = 0 then begun (iblk m c 0 t) (iblk m c 1 t) (iblk m c 2 t) (iblk m c 3 t) (iblk m c 4 t) (iblk m c 5 t) o
  else if t.val % 4 = 3 then
    ended (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (if t.val % 16 = 3 then k0_pay8 else o.2.2.2.2.1) (if t.val < 4 then k0_pay7 else o.2.2.2.2.2.1) o.2.2.2.2.2.2
  else grown (iblk m c 0 t) (iblk m c 1 t) (iblk m c 2 t) (iblk m c 3 t) (iblk m c 4 t) (iblk m c 5 t) o

theorem takes (c : Dev nD) (t : Fin cfg0.N) (o : Left F) : TakesAt m c t o (step m c t o) := by
  unfold step
  by_cases h0 : t.val % 4 = 0
  · rw [if_pos h0]
    exact opening _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => by have := (hcond0_1 t).mp h; omega) (fun h => by have := (hcond0_2 t).mp h; omega) o
  rw [if_neg h0]
  have n0 : ¬cond0_0 (grid0.coords t) := fun h => h0 ((hcond0_0 t).mp h)
  have y1 : cond0_1 (grid0.coords t) := (hcond0_1 t).mpr (by omega)
  by_cases h2 : t.val % 4 = 3
  · rw [if_pos h2]
    have y2 : cond0_2 (grid0.coords t) := (hcond0_2 t).mpr h2
    by_cases h3 : t.val < 4
    · rw [if_pos h3, if_pos (by omega)]
      exact closing_first _ _ _ _ _ _ _ _ _ _ _ _ _ _ _ _ _ _ _ _ _ _ _ _ _ _ _ _ _ _ _ _ _ _ _ _ _ _ _ _ _ _ _ _ _ _ _ _ _ _ _ _ n0 y1 y2 ((hcond0_3 t).mpr h3) ((hcond0_4 t).mpr (by omega)) o
    rw [if_neg h3]
    have n3 : ¬cond0_3 (grid0.coords t) := fun h => h3 ((hcond0_3 t).mp h)
    by_cases h4 : t.val % 16 = 3
    · rw [if_pos h4]
      exact closing_fresh _ _ _ _ _ _ _ _ _ _ _ _ _ _ _ _ _ _ _ _ _ _ _ _ _ _ _ _ _ _ _ _ _ _ _ _ _ _ _ _ _ _ _ _ _ _ _ _ _ _ _ _ n0 y1 y2 n3 ((hcond0_4 t).mpr (by omega)) o
    rw [if_neg h4]
    exact closing _ _ _ _ _ _ _ _ _ _ _ _ _ _ _ _ _ _ _ _ _ _ _ _ _ _ _ _ _ _ _ _ _ _ _ _ _ _ _ _ _ _ _ _ _ _ _ _ _ _ _ _ n0 y1 y2 n3 (fun h => by have := (hcond0_4 t).mp h; omega) o
  rw [if_neg h2]
  exact middle _ _ _ _ _ _ _ _ _ _ _ _ _ _ _ _ _ _ _ _ _ _ _ _ _ _ _ _ _ _ _ _ _ _ _ _ _ _ _ _ _ _ _ _ _ _ _ _ _ _ _ _ n0 y1 (fun h => h2 ((hcond0_2 t).mp h)) o

/-- What the two blocks of rows and the running sum hold before point `n` (before the first: anything), -/
abbrev Kept (F : FTy → Type) [FloatOps F] : Type := Vec F S1x8x1024 .f32 × Vec F S8x1024 .f32 × Vec F S512x1024 .f32

/-- and what the point leaves where they held `P`. (At a point that writes no row gradient its block is not spoken of.) -/
def leftAt (c : Dev nD) (t : Fin cfg0.N) (P : Kept F) : Left F :=
  step m c t (iblk m c 1 t, iblk m c 1 t, iblk m c 6 t, iblk m c 0 t, P)

def held (c : Dev nD) : ℕ → Kept F
  | 0 => (k0_pay8, k0_pay7, k0_pay11 (scM0_0.view.read (Elt F) scM0_0.view.junk))
  | n + 1 => if h : n < cfg0.N then (leftAt m c ⟨n, h⟩ (held c n)).2.2.2.2 else held c n

theorem held_succ (c : Dev nD) (t : Fin cfg0.N) : held m c (t.val + 1) = (leftAt m c t (held m c t.val)).2.2.2.2 := by
  rw [held, dif_pos t.isLt]

theorem held_pred (c : Dev nD) (t : Fin cfg0.N) (h : t.val ≠ 0) :
    held m c t.val = (leftAt m c ⟨t.val - 1, by omega⟩ (held m c (t.val - 1))).2.2.2.2 := by
  have e := held_succ m c ⟨t.val - 1, by omega⟩
  rwa [show (⟨t.val - 1, by omega⟩ : Fin cfg0.N).val + 1 = t.val from by show t.val - 1 + 1 = t.val; omega] at e

/-- Before a tile's last quarter only the running sum grows. -/
theorem step_idle (c : Dev nD) (t : Fin cfg0.N) (o : Left F) (P : Kept F) (h : ¬t.val % 4 = 3) (hs : ¬t.val % 4 = 0 → o.2.2.2.2.2.2 = P.2.2) :
    step m c t o = ((leftAt m c t P).1, (leftAt m c t P).2.1, o.2.2.1, o.2.2.2.1, o.2.2.2.2.1, o.2.2.2.2.2.1, (leftAt m c t P).2.2.2.2.2.2) := by
  unfold leftAt step
  by_cases h0 : t.val % 4 = 0
  · simp only [if_pos h0]
  · simp only [if_neg h0, if_neg h, grown, hs h0]

theorem kept_idle (c : Dev nD) (t : Fin cfg0.N) (P : Kept F) (h : ¬t.val % 4 = 3) :
    (leftAt m c t P).2.2.2.2.1 = P.1 ∧ (leftAt m c t P).2.2.2.2.2.1 = P.2.1 := by
  unfold leftAt step
  by_cases h0 : t.val % 4 = 0
  · simp only [if_pos h0, and_self]
  · simp only [if_neg h0, if_neg h, and_self]

/-- At it everything is written, from the blocks of rows where they go on and from the sum. -/
theorem step_last (c : Dev nD) (t : Fin cfg0.N) (o : Left F) (P : Kept F) (h : t.val % 4 = 3) (hb : ¬t.val % 16 = 3 → o.2.2.2.2.1 = P.1)
    (hg : ¬t.val < 4 → o.2.2.2.2.2.1 = P.2.1) (hs : o.2.2.2.2.2.2 = P.2.2) : step m c t o = leftAt m c t P := by
  have h0 : ¬t.val % 4 = 0 := by omega
  unfold leftAt step
  simp only [if_neg h0, if_pos h, hs]
  by_cases h4 : t.val % 16 = 3
  · by_cases h3 : t.val < 4
    · simp only [if_pos h3, if_pos h4]
    · simp only [if_neg h3, if_pos h4, hg h3]
  · have h3 : ¬t.val < 4 := by omega
    simp only [if_neg h3, if_neg h4, hg h3, hb h4]

/-! ## The proof data -/

/-- Between points: the running sum at what the points so far left, except before a tile's first quarter. -/
def between (c : Dev nD) (n : ℕ) (_ : n ≤ cfg0.N) : sProp 𝕄 :=
  iprop((∃ s : Vec F S512x1024 .f32, ⌜¬n % 4 = 0 → s = (held m c n).2.2⌝ ∗ owns (c : Thread nD τ) scM0_0 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (leftAt m c t (held m c t.val)).1
    | ⟨13, _⟩ => (leftAt m c t (held m c t.val)).2.1
    | ⟨14, _⟩ => (leftAt m c t (held m c t.val)).2.2.1
    | ⟨15, _⟩ => (leftAt m c t (held m c t.val)).2.2.2.1
    | ⟨16, _⟩ => (leftAt m c t (held m c t.val)).2.2.2.2.1
    | ⟨17, _⟩ => (leftAt m c t (held m c t.val)).2.2.2.2.2.1
    | ⟨_ + 18, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) : (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (leftAt m c t (held m c t.val)).1 := by dsimp only [dats]
theorem after0_13 (c : Dev nD) (t : Fin cfg0.N) : (dats m 0 c).after 13 t = (leftAt m c t (held m c t.val)).2.1 := by dsimp only [dats]
theorem after0_14 (c : Dev nD) (t : Fin cfg0.N) : (dats m 0 c).after 14 t = (leftAt m c t (held m c t.val)).2.2.1 := by dsimp only [dats]
theorem after0_15 (c : Dev nD) (t : Fin cfg0.N) : (dats m 0 c).after 15 t = (leftAt m c t (held m c t.val)).2.2.2.1 := by dsimp only [dats]
theorem after0_16 (c : Dev nD) (t : Fin cfg0.N) : (dats m 0 c).after 16 t = (leftAt m c t (held m c t.val)).2.2.2.2.1 := by dsimp only [dats]
theorem after0_17 (c : Dev nD) (t : Fin cfg0.N) : (dats m 0 c).after 17 t = (leftAt m c t (held m c t.val)).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem carry0_16 (c : Dev nD) (t : Fin cfg0.N) (h : t.val ≠ 0) (hi : cfg0.idle 16 (grid0.coords t) = true) (_ : cfg0.fresh 16 t.val = false) :
    (dats m 0 c).after 16 t = (dats m 0 c).after 16 ⟨t.val - 1, by omega⟩ := by
  rw [after0_16, after0_16, (kept_idle m c t _ (busy0_16 t hi)).1, held_pred m c t h]

theorem before0_16 (c : Dev nD) (t : Fin cfg0.N) (d) (h : t.val ≠ 0) (hf : cfg0.fresh 16 t.val = false) :
    (dats m 0 c).before 16 t d = (held m c t.val).1 := by
  rw [Dat.before_out_traj _ 16 rfl (fun _ _ => rfl) (carry0_16 m c) t.val t rfl d, if_neg (by rw [hf]; exact Bool.false_ne_true), after0_16,
    held_pred m c t h]

theorem carry0_17 (c : Dev nD) (t : Fin cfg0.N) (h : t.val ≠ 0) (hi : cfg0.idle 17 (grid0.coords t) = true) (_ : cfg0.fresh 17 t.val = false) :
    (dats m 0 c).after 17 t = (dats m 0 c).after 17 ⟨t.val - 1, by omega⟩ := by
  rw [after0_17, after0_17, (kept_idle m c t _ (busy0_17 t hi)).2, held_pred m c t h]

theorem before0_17 (c : Dev nD) (t : Fin cfg0.N) (d) (h : t.val ≠ 0) (hf : cfg0.fresh 17 t.val = false) :
    (dats m 0 c).before 17 t d = (held m c t.val).2.1 := by
  rw [Dat.before_out_traj _ 17 rfl (fun _ _ => rfl) (carry0_17 m c) t.val t rfl d, if_neg (by rw [hf]; exact Bool.false_ne_true), after0_17,
    held_pred m c t h]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl, between_castSucc]
  rw [show (dats m 0 c).Φ t.succ = between m c (t.val + 1) t.isLt from rfl]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  rw [leaves_live m c 12 t (liveAt0_12 t), after0_12]
  rw [leaves_live m c 13 t (liveAt0_13 t), after0_13]
  unfold between
  by_cases h : t.val % 4 = 3
  · rw [leaves_live m c 14 t (live0_14 t h), after0_14, leaves_live m c 15 t (live0_15 t h), after0_15, leaves_live m c 16 t (live0_16 t h), after0_16, leaves_live m c 17 t (live0_17 t h), after0_17]
    iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    have T := takes m c t ((dats m 0 c).before 12 t d12, (dats m 0 c).before 13 t d13, (dats m 0 c).before 14 t d14, (dats m 0 c).before 15 t d15, (dats m 0 c).before 16 t d16, (dats m 0 c).before 17 t d17, s)
    rw [step_last m c t _ (held m c t.val) h (fun n => before0_16 m c t _ (by omega) (kept0_16 t h n))
      (fun n => before0_17 m c t _ (by omega) (kept0_17 t h n)) (hs (by omega))] at T
    iapply (T Set.univ _)
    unfold inputs outputs
    isplitl [H0 H1 H2 H3 H4 H5 H6 H7 H8 H9 H10 H11]; · iframe
    isplitl [H12 H13 H14 H15 H16 H17 Hs]; · iframe
    iintro ⟨⟨H0, H1, H2, H3, H4, H5, H6, H7, H8, H9, H10, H11⟩, H12, H13, H14, H15, H16, H17, Hs⟩
    isplitl [Hs Hg]
    · isplitl [Hs]
      · iexists _; isplitr
        swap; · iexact Hs
        ipureintro; exact fun _ => by rw [held_succ]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [Dat.leavesExact_idle (dats m 0 c) 14 t (idle0_14 t h) (still0_14 t h), Dat.leavesExact_idle (dats m 0 c) 15 t (idle0_15 t h) (still0_15 t h), Dat.leavesExact_idle (dats m 0 c) 16 t (idle0_16 t h) (still0_16 t h), Dat.leavesExact_idle (dats m 0 c) 17 t (idle0_17 t h) (still0_17 t h)]
    iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    have T := takes m c t ((dats m 0 c).before 12 t d12, (dats m 0 c).before 13 t d13, (dats m 0 c).before 14 t d14, (dats m 0 c).before 15 t d15, (dats m 0 c).before 16 t d16, (dats m 0 c).before 17 t d17, s)
    rw [step_idle m c t _ (held m c t.val) h hs] at T
    iapply (T Set.univ _)
    unfold inputs outputs
    isplitl [H0 H1 H2 H3 H4 H5 H6 H7 H8 H9 H10 H11]; · iframe
    isplitl [H12 H13 H14 H15 H16 H17 Hs]; · iframe
    iintro ⟨⟨H0, H1, H2, H3, H4, H5, H6, H7, H8, H9, H10, H11⟩, H12, H13, H14, H15, H16, H17, Hs⟩
    isplitl [Hs Hg]
    · isplitl [Hs]
      · iexists _; isplitr
        swap; · iexact Hs
        ipureintro; exact fun _ => by rw [held_succ]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    iexists _; iexact H17

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, PhiA0_eq]
  unfold between
  iintro ⟨⟨%s, Hs⟩, Hg⟩
  isplitl [Hs]
  · iexists s
    isplitr
    · ipureintro; exact fun h => absurd rfl h
    iexact Hs
  iexact Hg

theorem hout (c : Dev nD) : (dats m 0 c).Φ (Fin.last cfg0.N) ⊢ Pipeline.ΦA spec0 c := by
  rw [show (dats m 0 c).Φ (Fin.last cfg0.N) = between m c cfg0.N le_rfl from rfl, PhiA0_eq]
  unfold between
  iintro ⟨⟨%s, -, Hs⟩, Hg⟩
  isplitl [Hs]
  · iexists _; iexact Hs
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (A_eq m) (run_main m ρ)) ((θ_run defs _ _).mono (fun _ h => h.2) (run_main_quiescent m ρ))

end Cert.FfnIdeal.Body

end
-- ==== Proof.Frames.lean ====
/- The frames that are not generated whole: the attention gradient's two, and those of the references, which are host lines only. -/
module

public import proofs.«01_k».proof.Defs
public import proofs.«01_k».proof.Proof.AttnFrame
public import proofs.«01_k».proof.Proof.FfnFrame
public import proofs.«01_k».proof.Proof.Gen.Ffn
public import proofs.«01_k».proof.Proof.Gen.FfnRefIdeal.Run
public import proofs.«01_k».proof.Proof.Gen.AttnRefIdeal.Run
public import proofs.«01_k».proof.Proof.Gen.InprojRefIdeal.Run
public import proofs.«01_k».proof.Proof.Gen.LossRefIdeal.Run
public import proofs.«01_k».proof.Proof.Gen.Attn
public import Idealize.ShloMosaic.Lib.Claim

@[expose] public section

set_option maxRecDepth 16384

noncomputable section

namespace Cert.Proof

open Idealize.ShloMosaic Idealize.ShloMosaic.TcCoe Idealize.SL.Sem

/-- The attention gradient's frame, over any values. -/
theorem attn_frame_ideal : Cert.quiescent_AttnIdeal := fun m ρ _ => Cert.AttnIdeal.Body.frame m ρ

/-- The same run over the machine's values. -/
theorem attn_frame : Cert.quiescent_Attn := by
  have h := fun m ρ (_ : True) => Cert.AttnIdeal.Body.frame (F := Bits) m ρ
  exact Eq.mp (by sl_kernel_rfl) h

theorem attnRef_frame : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run m ρ)

/-- The feed-forward gradient's frame, over any values. -/
theorem ffn_frame_ideal : Cert.quiescent_FfnIdeal := fun m ρ _ => Cert.FfnIdeal.Body.frame m ρ

/-- The same run over the machine's values. -/
theorem ffn_frame : Cert.quiescent_Ffn := by
  have h := fun m ρ (_ : True) => Cert.FfnIdeal.Body.frame (F := Bits) m ρ
  exact Eq.mp (by sl_kernel_rfl) h

theorem ffnRef_frame : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run m ρ)

theorem inprojRef_frame : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run m ρ)

theorem lossRef_frame : Cert.quiescent_LossRefIdeal := fun m ρ _ =>
  (θ_run Cert.LossRefIdeal.defs _ _).mono (fun r h => ⟨fun c => (h c).2.2.2.2.2.2.2.2, sem_eq_zero_of_no_sems (by decide) r.2⟩)
    (Cert.LossRefIdeal.Value.run m ρ)

end Cert.Proof

end
-- ==== Proof.MixerPoint.lean ====
module

public import proofs.«01_k».proof.Proof.Gen.MixerIdeal.Value
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.MixerIdeal.Value
open Cert.MixerIdeal Cert.MixerIdeal.Gen

variable (m : (ℓ : Loc nD τ sig) → Buf (Elt Ideal) ℓ)

/-- One element of the cotangent times the transposed output projection. -/
def D (x0 : FVec Ideal S512x1024 .bf16) (x1 : FVec Ideal S1024x1024 .bf16) (r : Fin 512) (k : Fin 1024) : EReal :=
  ∑ l : Fin 1024, x0 (ix2 r l) * x1 (ix2 k l)

/-- What a point stores into the gradient of the attention's output: the first half of the projected cotangent. -/
theorem p5 (c : Dev nD) (t : Fin cfg0.N) (r : Fin 512) (k : Fin 512) : (outsAt0 m c t.val t.isLt).1 (ix2 r k)
    = D (iblk m c 0 t) (iblk m c 1 t) r ⟨k, by omega⟩ := by
  by_cases h : t.val % 8 = 0
  · rw [outsAt0_A m c t h]; frame_out
    pointwise [k0_pay11, k0_pay10, D]
  · rw [outsAt0_B m c t h]; frame_out
    pointwise [k0_pay11, k0_pay10, D]

/-- The gradient with respect to one pooled value. -/
def P (x0 : FVec Ideal S512x1024 .bf16) (x1 : FVec Ideal S1024x1024 .bf16) (x3 : FVec Ideal S4x128x128 .f32) (x4 : FVec Ideal S1x512 .f32)
    (r : Fin 512) (k : Fin 512) : EReal :=
  ∑ e : Fin 128, D x0 x1 r ⟨512 + (k : ℕ) / 128 * 128 + e, by omega⟩ * x4 (ix2 0 ⟨(k : ℕ) / 128 * 128 + e, by omega⟩) *
      x3 (ix3 ⟨(k : ℕ) / 128, by omega⟩ ⟨(k : ℕ) % 128, by omega⟩ e)

/-- One point's share of the scale's gradient: only the first of the eight rows is written. -/
def Q (x0 : FVec Ideal S512x1024 .bf16) (x1 : FVec Ideal S1024x1024 .bf16) (x2 : FVec Ideal S512x512 .bf16) (x3 : FVec Ideal S4x128x128 .f32)
    (i : Fin 8) (k : Fin 512) : EReal :=
  if (i : ℕ) = 0 then ∑ r : Fin 512, D x0 x1 r ⟨512 + k, by omega⟩ *
    ∑ a : Fin 128, x2 (ix2 r ⟨(k : ℕ) / 128 * 128 + a, by omega⟩) * x3 (ix3 ⟨(k : ℕ) / 128, by omega⟩ a ⟨(k : ℕ) % 128, by omega⟩)
  else 0

/-- One point's share of the pooling weights' gradient. -/
def W (x0 : FVec Ideal S512x1024 .bf16) (x1 : FVec Ideal S1024x1024 .bf16) (x2 : FVec Ideal S512x512 .bf16) (x4 : FVec Ideal S1x512 .f32)
    (g : Fin 4) (a b : Fin 128) : EReal :=
  ∑ r : Fin 512, x2 (ix2 r ⟨g * 128 + a, by omega⟩) * (D x0 x1 r ⟨512 + g * 128 + b, by omega⟩ * x4 (ix2 0 ⟨g * 128 + b, by omega⟩))

/-- What a point stores into the gradient of the pooled windows. -/
theorem p6 (c : Dev nD) (t : Fin cfg0.N) (y : S512x512.Idx) : (outsAt0 m c t.val t.isLt).2.1 y =
   P (iblk m c 0 t) (iblk m c 1 t) (iblk m c 3 t) (iblk m c 4 t) (y 0) (y 1) := by
  by_cases h : t.val % 8 = 0
  · rw [outsAt0_A m c t h]; frame_out
    canon_tiles x h
    all_goals
      open_payloads
      pointwise [D, P]
      refine Finset.sum_congr rfl fun e _ => ?_
      blk_point []
  · rw [outsAt0_B m c t h]; frame_out
    canon_tiles x h
    all_goals
      open_payloads
      pointwise [D, P]
      refine Finset.sum_congr rfl fun e _ => ?_
      blk_point []

/-- The newest piece read at a place inside its rectangle. -/
theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a]; omega)
  subst hy
  exact View.canon_cons_emb _ _ _ _

/-- The newest piece passed over at a place outside its rectangle. -/
theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (⟨Rect.unit off size inb, w⟩ :: L) y = View.canon L y := by
  refine View.canon_cons_of_not_mem _ _ fun hm => ?_
  obtain ⟨i, hi, he⟩ := (Rect.unit off size inb).mem_set.mp hm a
  have h1 : (Rect.unit off size inb).stride a = 1 := rfl
  have h2 : (Rect.unit off size inb).off a = off a := rfl
  have h3 : (Rect.unit off size inb).size a = size a := rfl
  rw [h1, h2] at he; rw [h3] at hi
  omega

/-- The scale's gradient at the first point: zero plus the point's share. -/
theorem p7_A (c : Dev nD) (t : Fin cfg0.N) (h : t.val % 8 = 0) (i : Fin 8) (k : Fin 512) : (outsAt0 m c t.val t.isLt).2.2.1 (ix2 i k)
    = 0 + Q (iblk m c 0 t) (iblk m c 1 t) (iblk m c 2 t) (iblk m c 3 t) i k := by
  rw [outsAt0_A m c t h]; frame_open
  simp (disch := decide) only [↓View.readCov_skip, ↓View.readCov_cons_toLoadRect, ↓View.readCov_fill]
  frame_out
  by_cases hi : (i : ℕ) = 0
  · have hk : (k : ℕ) < 128 ∨ (128 ≤ (k : ℕ) ∧ (k : ℕ) < 256) ∨ (256 ≤ (k : ℕ) ∧ (k : ℕ) < 384) ∨ 384 ≤ (k : ℕ) := by omega
    rcases hk with hk | hk | hk | hk
    · rw [canon_miss _ _ _ _ (1 : Fin 2) (Or.inl (show (k : ℕ) < 384 by omega)), canon_miss _ _ _ _ (1 : Fin 2) (Or.inl (show (k : ℕ) < 256 by omega)),
        canon_miss _ _ _ _ (1 : Fin 2) (Or.inl (show (k : ℕ) < 128 by omega)),
        canon_hit _ _ _ _ (ix2 0 ⟨k, by omega⟩) (by intro a; fin_cases a <;> simp [hi])]
      open_payloads
      pointwise [D, Q, hi]
      blk_point []
    · rw [canon_miss _ _ _ _ (1 : Fin 2) (Or.inl (show (k : ℕ) < 384 by omega)), canon_miss _ _ _ _ (1 : Fin 2) (Or.inl (show (k : ℕ) < 256 by omega)),
        canon_hit _ _ _ _ (ix2 0 ⟨k - 128, by omega⟩) (by intro a; fin_cases a <;> simp [hi] <;> omega)]
      open_payloads
      pointwise [D, Q, hi]
      blk_point []
    · rw [canon_miss _ _ _ _ (1 : Fin 2) (Or.inl (show (k : ℕ) < 384 by omega)),
        canon_hit _ _ _ _ (ix2 0 ⟨k - 256, by omega⟩) (by intro a; fin_cases a <;> simp [hi] <;> omega)]
      open_payloads
      pointwise [D, Q, hi]
      blk_point []
    · rw [canon_hit _ _ _ _ (ix2 0 ⟨k - 384, by omega⟩) (by intro a; fin_cases a <;> simp [hi] <;> omega)]
      open_payloads
      pointwise [D, Q, hi]
      blk_point []
  · rw [canon_miss _ _ _ _ (0 : Fin 2) (Or.inr (show 1 ≤ (i : ℕ) by omega)), canon_miss _ _ _ _ (0 : Fin 2) (Or.inr (show 1 ≤ (i : ℕ) by omega)),
      canon_miss _ _ _ _ (0 : Fin 2) (Or.inr (show 1 ≤ (i : ℕ) by omega)), canon_miss _ _ _ _ (0 : Fin 2) (Or.inr (show 1 ≤ (i : ℕ) by omega)),
      canon_hit _ _ _ _ (ix2 i k) (by intro a; fin_cases a <;> simp)]
    open_payloads
    pointwise [Q, hi]

/-- The scale's gradient at a later point: what the point before left plus the point's share. -/
theorem p7_B (c : Dev nD) (t : Fin cfg0.N) (h : ¬ t.val % 8 = 0) (i : Fin 8) (k : Fin 512) : (outsAt0 m c t.val t.isLt).2.2.1 (ix2 i k)
    = (outsAt0 m c (t.val - 1) (by omega)).2.2.1 (ix2 i k) + Q (iblk m c 0 t) (iblk m c 1 t) (iblk m c 2 t) (iblk m c 3 t) i k := by
  rw [outsAt0_B m c t h]
  frame_out
  by_cases hi : (i : ℕ) = 0
  · have hk : (k : ℕ) < 128 ∨ (128 ≤ (k : ℕ) ∧ (k : ℕ) < 256) ∨ (256 ≤ (k : ℕ) ∧ (k : ℕ) < 384) ∨ 384 ≤ (k : ℕ) := by omega
    rcases hk with hk | hk | hk | hk
    · rw [View.read_writes_cons_unit_of_not_mem _ _ _ _ _ _ rfl (1 : Fin 2) (Or.inl (show (k : ℕ) < 384 by omega)),
        View.read_writes_cons_unit_of_not_mem _ _ _ _ _ _ rfl (1 : Fin 2) (Or.inl (show (k : ℕ) < 256 by omega)),
        View.read_writes_cons_unit_of_not_mem _ _ _ _ _ _ rfl (1 : Fin 2) (Or.inl (show (k : ℕ) < 128 by omega)),
        View.read_writes_cons_unit_of_mem _ _ _ _ _ _ (ix2 0 ⟨k, by omega⟩) rfl (by intro a; fin_cases a <;> simp [hi])]
      open_payloads
      pointwise [D, Q, hi]
      blk_point []
    · rw [View.read_writes_cons_unit_of_not_mem _ _ _ _ _ _ rfl (1 : Fin 2) (Or.inl (show (k : ℕ) < 384 by omega)),
        View.read_writes_cons_unit_of_not_mem _ _ _ _ _ _ rfl (1 : Fin 2) (Or.inl (show (k : ℕ) < 256 by omega)),
        View.read_writes_cons_unit_of_mem _ _ _ _ _ _ (ix2 0 ⟨k - 128, by omega⟩) rfl (by intro a; fin_cases a <;> simp [hi] <;> omega)]
      open_payloads
      pointwise [D, Q, hi]
      blk_point []
    · rw [View.read_writes_cons_unit_of_not_mem _ _ _ _ _ _ rfl (1 : Fin 2) (Or.inl (show (k : ℕ) < 384 by omega)),
        View.read_writes_cons_unit_of_mem _ _ _ _ _ _ (ix2 0 ⟨k - 256, by omega⟩) rfl (by intro a; fin_cases a <;> simp [hi] <;> omega)]
      open_payloads
      pointwise [D, Q, hi]
      blk_point []
    · rw [View.read_writes_cons_unit_of_mem _ _ _ _ _ _ (ix2 0 ⟨k - 384, by omega⟩) rfl (by intro a; fin_cases a <;> simp [hi] <;> omega)]
      open_payloads
      pointwise [D, Q, hi]
      blk_point []
  · rw [View.read_writes_cons_unit_of_not_mem _ _ _ _ _ _ rfl (0 : Fin 2) (Or.inr (show 1 ≤ (i : ℕ) by omega)),
      View.read_writes_cons_unit_of_not_mem _ _ _ _ _ _ rfl (0 : Fin 2) (Or.inr (show 1 ≤ (i : ℕ) by omega)),
      View.read_writes_cons_unit_of_not_mem _ _ _ _ _ _ rfl (0 : Fin 2) (Or.inr (show 1 ≤ (i : ℕ) by omega)),
      View.read_writes_cons_unit_of_not_mem _ _ _ _ _ _ rfl (0 : Fin 2) (Or.inr (show 1 ≤ (i : ℕ) by omega)),
      View.writes_nil]
    frame_out
    pointwise [Q, hi]

/-- The pooling weights' gradient at the first point. -/
theorem p8_A (c : Dev nD) (t : Fin cfg0.N) (h : t.val % 8 = 0) (g : Fin 4) (a b : Fin 128) : (outsAt0 m c t.val t.isLt).2.2.2 (ix3 g a b)
    = 0 + W (iblk m c 0 t) (iblk m c 1 t) (iblk m c 2 t) (iblk m c 4 t) g a b := by
  rw [outsAt0_A m c t h]; frame_open
  simp (disch := decide) only [↓View.readCov_skip, ↓View.readCov_cons_toLoadRect, ↓View.readCov_fill]
  frame_out
  have hg : (g : ℕ) = 0 ∨ (g : ℕ) = 1 ∨ (g : ℕ) = 2 ∨ (g : ℕ) = 3 := by omega
  rcases hg with hg | hg | hg | hg
  · rw [canon_miss _ _ _ _ (0 : Fin 3) (Or.inl (show (g : ℕ) < 3 by omega)), canon_miss _ _ _ _ (0 : Fin 3) (Or.inl (show (g : ℕ) < 2 by omega)),
      canon_miss _ _ _ _ (0 : Fin 3) (Or.inl (show (g : ℕ) < 1 by omega)),
      canon_hit _ _ _ _ (ix3 0 a b) (by intro j; fin_cases j <;> simp [hg])]
    open_payloads
    pointwise [D, W]
    blk_point []
  · rw [canon_miss _ _ _ _ (0 : Fin 3) (Or.inl (show (g : ℕ) < 3 by omega)), canon_miss _ _ _ _ (0 : Fin 3) (Or.inl (show (g : ℕ) < 2 by omega)),
      canon_hit _ _ _ _ (ix3 0 a b) (by intro j; fin_cases j <;> simp [hg])]
    open_payloads
    pointwise [D, W]
    blk_point []
  · rw [canon_miss _ _ _ _ (0 : Fin 3) (Or.inl (show (g : ℕ) < 3 by omega)),
      canon_hit _ _ _ _ (ix3 0 a b) (by intro j; fin_cases j <;> simp [hg])]
    open_payloads
    pointwise [D, W]
    blk_point []
  · rw [canon_hit _ _ _ _ (ix3 0 a b) (by intro j; fin_cases j <;> simp [hg])]
    open_payloads
    pointwise [D, W]
    blk_point []

/-- The pooling weights' gradient at a later point. -/
theorem p8_B (c : Dev nD) (t : Fin cfg0.N) (h : ¬ t.val % 8 = 0) (y : S4x128x128.Idx) : (outsAt0 m c t.val t.isLt).2.2.2 y
    = (outsAt0 m c (t.val - 1) (by omega)).2.2.2 y + W (iblk m c 0 t) (iblk m c 1 t) (iblk m c 2 t) (iblk m c 4 t) (y 0) (y 1) (y 2) := by
  rw [outsAt0_B m c t h]
  frame_out
  canon_tiles x h
  all_goals
    open_payloads
    pointwise [D, W]
    blk_point []

end Cert.MixerIdeal.Value
end
-- ==== Proof.MixerRefRead.lean ====
module

public import proofs.«01_k».proof.Proof.Gen.MixerRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixerRefIdeal.Read
open Cert.MixerRefIdeal

variable (x0 : FVec Ideal S2x2048x512 .f32) (x1 : FVec Ideal S1x4x128x128 .f32) (x2 : FVec Ideal S1x512 .f32) (x3 : FVec Ideal S1x1024x1024 .f32) (x4 : FVec Ideal S2x2048x1024 .f32)

/-- One element of the cotangent times the transposed output projection, rows of both batches in one line. -/
def DR (r : Fin 4096) (k : Fin 1024) : EReal :=
  ∑ l : Fin 1024, x4 (ix3 ⟨(r : ℕ) / 2048, by omega⟩ ⟨(r : ℕ) % 2048, by omega⟩ l) * x3 (ix3 0 k l)

/-- The pooled window of row `r`, channel `k` of the four groups in one line. -/
def PO (r : Fin 4096) (k : Fin 512) : EReal :=
  val_main_v109 (F := Ideal) x0 (ix4 ⟨(r : ℕ) / 2048, by omega⟩ ⟨(r : ℕ) % 2048, by omega⟩ ⟨(k : ℕ) / 128, by omega⟩ ⟨(k : ℕ) % 128, by omega⟩)

/-- A sum over two leading axes at an index of the kept one. -/
theorem reduce_lead {a b d : ℕ} (h : (⟨3, ![a, b, d]⟩ : Shape).ReducesTo [0, 1] ⟨1, ![d]⟩) (v : (⟨3, ![a, b, d]⟩ : Shape).Idx → EReal)
    (init : EReal) (k : Fin d) : Ideal.hostReduceAdd h v init (ix1 k) = init + ∑ i : Fin a, ∑ j : Fin b, v (ix3 i j k) := by
  refine congrArg (init + ·) ?_
  refine (Finset.sum_filter_eq_sum_of_fiber _ (fun p : Fin a × Fin b => ix3 p.1 p.2 k)
    (fun _ _ e => Prod.ext (congrFun e 0) (congrFun e 1)) (fun i => ?_) v).trans (by simp only [Fintype.sum_prod_type])
  constructor
  · intro e
    refine ⟨(i 0, i 1), ?_⟩
    funext j
    match j with
    | ⟨0, _⟩ => rfl
    | ⟨1, _⟩ => rfl
    | ⟨2, _⟩ => exact Fin.ext (congrArg Fin.val (congrFun e (0 : Fin 1))).symm
  · rintro ⟨p, rfl⟩
    funext j
    match j with
    | ⟨0, _⟩ => rfl

/-- Two batches of 2048 rows are 4096 rows. -/
theorem sum_rows (f : Fin 4096 → EReal) :
    ∑ b : Fin 2, ∑ r : Fin 2048, f ⟨(b : ℕ) * 2048 + r, by omega⟩ = ∑ r : Fin 4096, f r := by
  rw [← Fintype.sum_prod_type (f := fun p : Fin 2 × Fin 2048 => f ⟨(p.1 : ℕ) * 2048 + p.2, by omega⟩)]
  refine Fintype.sum_equiv (finProdFinEquiv (m := 2) (n := 2048)) _ _ fun p => congrArg f (Fin.ext ?_)
  show (p.1 : ℕ) * 2048 + p.2 = p.2 + 2048 * p.1
  omega

/-- Result 0 of the reference at an index. -/
theorem r139 (r : Fin 4096) (k : Fin 512) : val_main_v139 (F := Ideal) x3 x4 (ix2 r k) = DR x3 x4 r ⟨k, by omega⟩ := by
  pointwise [val_main_v139, val_main_v138, val_main_v122, val_main_v121, val_main_v119, DR]

/-- Result 1 of the reference at an index. -/
theorem r140 (r : Fin 4096) (k : Fin 512) : val_main_v140 (F := Ideal) x1 x2 x3 x4 (ix2 r k)
    = ∑ e : Fin 128, DR x3 x4 r ⟨512 + (k : ℕ) / 128 * 128 + e, by omega⟩ * x2 (ix2 0 ⟨(k : ℕ) / 128 * 128 + e, by omega⟩) *
      x1 (ix4 0 ⟨(k : ℕ) / 128, by omega⟩ ⟨(k : ℕ) % 128, by omega⟩ e) := by
  pointwise [val_main_v140, val_main_v134, val_main_v133, val_main_v132, val_main_v131, val_main_v128, val_main_v127, val_main_v115,
    val_main_v114, val_main_v123, val_main_v110, val_main_v121, val_main_v119, DR]
  blk_point []

/-- The scale's gradient before its empty axes are dropped. -/
theorem r125 (k : Fin 512) : val_main_v125 (F := Ideal) x0 x1 x3 x4 (ix1 k)
   = ∑ b : Fin 2, ∑ r : Fin 2048, val_main_v124 (F := Ideal) x0 x1 x3 x4 (ix3 b r k) := by
  pointwise [val_main_v125]
  rw [reduce_lead]
  pointwise [val_main_cst_24]

/-- Summing over two axes of size one changes nothing. -/
theorem r129 (k : Fin 512) : val_main_v129 (F := Ideal) x0 x1 x3 x4 (ix1 k) = val_main_v125 (F := Ideal) x0 x1 x3 x4 (ix1 k) := by
  pointwise [val_main_v129]
  rw [reduce_lead]
  pointwise [val_main_cst_25, val_main_v126]
  rw [Fintype.sum_unique, Fintype.sum_unique]

/-- Result 2 of the reference at an index: the scale's gradient in the first of eight rows. -/
theorem r142 (i : Fin 8) (k : Fin 512) : val_main_v142 (F := Ideal) x0 x1 x3 x4 (ix2 i k) = if (i : ℕ) = 0 then
     ∑ r : Fin 4096, DR x3 x4 r ⟨512 + k, by omega⟩ *
       ∑ a : Fin 128, PO x0 r ⟨(k : ℕ) / 128 * 128 + a, by omega⟩ * x1 (ix4 0 ⟨(k : ℕ) / 128, by omega⟩ a ⟨(k : ℕ) % 128, by omega⟩) else 0 := by
  rw [← sum_rows]
  pointwise [val_main_v142, val_main_v130, val_main_v141, val_main_cst_26]
  by_cases hi : (i : ℕ) = 0
  · rw [dif_pos (by omega), if_pos hi, r129, r125]
    refine Finset.sum_congr rfl fun b _ => Finset.sum_congr rfl fun r _ => ?_
    rw [mul_comm]
    pointwise [val_main_v124, val_main_v113, val_main_v112, val_main_v111, val_main_v123, val_main_v121, val_main_v119,
      val_main_v110, DR, PO]
    congr 1
    · refine Finset.sum_congr rfl fun a _ => ?_
      rw [mul_comm]
      blk_point []
    · blk_point []
  · rw [dif_neg (by omega), if_neg hi]

/-- Result 3 of the reference at an index. -/
theorem r143 (g : Fin 4) (a b : Fin 128) : val_main_v143 (F := Ideal) x0 x2 x3 x4 (ix3 g a b)
   = ∑ r : Fin 4096, PO x0 r ⟨g * 128 + a, by omega⟩ * (DR x3 x4 r ⟨512 + g * 128 + b, by omega⟩ * x2 (ix2 0 ⟨g * 128 + b, by omega⟩)) := by
  rw [← sum_rows]
  pointwise [val_main_v143, val_main_v137, val_main_v136, val_main_v135, val_main_v132, val_main_v131, val_main_v128, val_main_v127, val_main_v115,
    val_main_v114, val_main_v123, val_main_v121, val_main_v119, DR, PO]
  refine Finset.sum_congr rfl fun b _ => Finset.sum_congr rfl fun r _ => ?_
  rw [mul_comm]
  blk_point []

end Cert.MixerRefIdeal.Read
end
-- ==== Proof.MixerHost.lean ====
module

public import proofs.«01_k».proof.Proof.Gen.MixerIdeal.Value
public import proofs.«01_k».proof.Proof.Gen.MixerRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixerIdeal.Value
open Cert.MixerIdeal Cert.MixerIdeal.Gen

variable (m : (ℓ : Loc nD τ sig) → Buf (Elt Ideal) ℓ)

theorem V_112 (c : Dev nD) : (V m c main_v112 : FVec Ideal S4096x1024 .bf16)
    = truncf (F := Ideal) .bf16 (shapeCast S4096x1024 (m ((c : Thread nD τ).loc main_arg4)) shapeCasts_S2x2048x1024_S4096x1024) bitsLt_bf16_f32 := by
  show StableHlo.after (List.flatten [hostOps0, hostOps0_1, hostOps0_2]) (fun b => m (c, b)) (Proc.devRef .tc main_v112) = _
  simp only [List.flatten_cons, List.flatten_nil, List.append_nil, List.cons_append, List.nil_append, hostOps0, hostOps0_1, hostOps0_2,
    StableHlo.after_cons, StableHlo.after_nil]
  after_results_simp
  rfl

theorem V_114 (c : Dev nD) : (V m c main_v114 : FVec Ideal S1024x1024 .bf16)
    = truncf (F := Ideal) .bf16 (shapeCast S1024x1024 (m ((c : Thread nD τ).loc main_arg3)) shapeCasts_S1x1024x1024_S1024x1024) bitsLt_bf16_f32 := by
  show StableHlo.after (List.flatten [hostOps0, hostOps0_1, hostOps0_2]) (fun b => m (c, b)) (Proc.devRef .tc main_v114) = _
  simp only [List.flatten_cons, List.flatten_nil, List.append_nil, List.cons_append, List.nil_append, hostOps0, hostOps0_1, hostOps0_2,
    StableHlo.after_cons, StableHlo.after_nil]
  after_results_simp
  rfl

theorem V_115 (c : Dev nD) : V m c main_v115
    = shapeCast S4x128x128 (m ((c : Thread nD τ).loc main_arg1)) shapeCasts_S1x4x128x128_S4x128x128 := by
  show StableHlo.after (List.flatten [hostOps0, hostOps0_1, hostOps0_2]) (fun b => m (c, b)) (Proc.devRef .tc main_v115) = _
  simp only [List.flatten_cons, List.flatten_nil, List.append_nil, List.cons_append, List.nil_append, hostOps0, hostOps0_1, hostOps0_2,
    StableHlo.after_cons, StableHlo.after_nil]
  after_results_simp
  rfl

/-- The host lines up to the windows' quotients, from the running sums on. -/
theorem windows (σ : ∀ b : DevRef τ sig, b.ty.Contents (Elt Ideal)) (x0 : FVec Ideal S2x2048x512 .f32)
    (h0 : σ (Proc.devRef .tc main_v0) = Cert.MixerRefIdeal.Read.val_main_v1 (F := Ideal))
    (h1 : σ (Proc.devRef .tc main_v1) = Cert.MixerRefIdeal.Read.val_main_v2 (F := Ideal) x0)
    (ha : σ (Proc.devRef .tc main_arg0) = x0) :
    StableHlo.after (hostOps0_2.take 130) σ (Proc.devRef .tc main_v104) = Cert.MixerRefIdeal.Read.val_main_v105 (F := Ideal) x0
    ∧ StableHlo.after (hostOps0_2.take 130) σ (Proc.devRef .tc main_v105) = Cert.MixerRefIdeal.Read.val_main_v106 (F := Ideal) x0
    ∧ StableHlo.after (hostOps0_2.take 130) σ (Proc.devRef .tc main_v106) = Cert.MixerRefIdeal.Read.val_main_v107 (F := Ideal) x0
    ∧ StableHlo.after (hostOps0_2.take 130) σ (Proc.devRef .tc main_v107) = Cert.MixerRefIdeal.Read.val_main_v108 (F := Ideal) x0 := by
  simp only [hostOps0_2, List.take_succ_cons, List.take_zero, StableHlo.after_cons, StableHlo.after_nil]
  after_results_simp
  rw [h0, h1, ha]
  exact ⟨rfl, rfl, rfl, rfl⟩

/-- The running sums' own host lines. -/
theorem sums (c : Dev nD) :
    StableHlo.after (hostOps0 ++ hostOps0_1) (fun b => m (c, b)) (Proc.devRef .tc main_v0) = Cert.MixerRefIdeal.Read.val_main_v1 (F := Ideal)
    ∧ StableHlo.after (hostOps0 ++ hostOps0_1) (fun b => m (c, b)) (Proc.devRef .tc main_v1)
        = Cert.MixerRefIdeal.Read.val_main_v2 (F := Ideal) (m ((c : Thread nD τ).loc main_arg0))
    ∧ StableHlo.after (hostOps0 ++ hostOps0_1) (fun b => m (c, b)) (Proc.devRef .tc main_arg0) = m ((c : Thread nD τ).loc main_arg0) := by
  simp only [hostOps0, hostOps0_1, List.cons_append, List.nil_append, StableHlo.after_cons, StableHlo.after_nil, StableHlo.TRef.binary, StableHlo.TRef.nullary,
    StableHlo.TRef.unary, StableHlo.TRef.toBuf, StableHlo.TRef.ofBuf, cast_eq]
  after_results_simp
  exact ⟨rfl, rfl, trivial⟩

theorem V_110 (c : Dev nD) : (V m c main_v110 : FVec Ideal S4096x512 .bf16) = truncf (F := Ideal) .bf16
    (shapeCast S4096x512 (Cert.MixerRefIdeal.Read.val_main_v109 (F := Ideal) (m ((c : Thread nD τ).loc main_arg0))) shapeCasts_S2x2048x4x128_S4096x512) bitsLt_bf16_f32 := by
  obtain ⟨h0, h1, ha⟩ := sums m c
  obtain ⟨w0, w1, w2, w3⟩ := windows _ _ h0 h1 ha
  have hs : (List.flatten [hostOps0, hostOps0_1, hostOps0_2] : List (HloOp τ sig (Elt Ideal)))
      = (hostOps0 ++ hostOps0_1) ++ (hostOps0_2.take 130 ++ hostOps0_2.drop 130) := by
    rw [List.take_append_drop]; rfl
  show StableHlo.after (List.flatten [hostOps0, hostOps0_1, hostOps0_2]) (fun b => m (c, b)) (Proc.devRef .tc main_v110) = _
  rw [hs, StableHlo.after_append, StableHlo.after_append]
  generalize StableHlo.after (hostOps0_2.take 130) (StableHlo.after (hostOps0 ++ hostOps0_1) fun b => m (c, b)) = σ at w0 w1 w2 w3 ⊢
  simp only [hostOps0_2, List.drop_succ_cons, List.drop_zero, StableHlo.after_cons, StableHlo.after_nil]
  after_results_simp
  unfold Cert.MixerRefIdeal.Read.val_main_v109
  rw [← w0, ← w1, ← w2, ← w3]
  rfl

/-- The two batches' rows laid in one line. -/
theorem rows_apply (x : FVec Ideal S2x2048x1024 .f32) (i : S4096x1024.Idx) :
    truncf (F := Ideal) .bf16 (shapeCast S4096x1024 x shapeCasts_S2x2048x1024_S4096x1024) bitsLt_bf16_f32 i
      = x (ix3 ⟨(i 0 : ℕ) / 2048, by have : (i 0 : ℕ) < 4096 := (i 0).isLt; omega⟩ ⟨(i 0 : ℕ) % 2048, by omega⟩ (i 1)) := by
  pointwise

/-- The output projection without its leading axis. -/
theorem square_apply (x : FVec Ideal S1x1024x1024 .f32) (i : S1024x1024.Idx) :
    truncf (F := Ideal) .bf16 (shapeCast S1024x1024 x shapeCasts_S1x1024x1024_S1024x1024) bitsLt_bf16_f32 i = x (ix3 0 (i 0) (i 1)) := by
  pointwise

/-- The pooling weights without their leading axis. -/
theorem groups_apply (x : FVec Ideal S1x4x128x128 .f32) (i : S4x128x128.Idx) :
    shapeCast S4x128x128 x shapeCasts_S1x4x128x128_S4x128x128 i = x (ix4 0 (i 0) (i 1) (i 2)) := by
  pointwise

end Cert.MixerIdeal.Value
end
-- ==== Proof.MixerValue.lean ====
module

public import proofs.«01_k».proof.Proof.MixerPoint
public import proofs.«01_k».proof.Proof.MixerRefRead
public import proofs.«01_k».proof.Proof.MixerHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixerIdeal.Value
open Cert.MixerIdeal Cert.MixerIdeal.Gen

variable (m : (ℓ : Loc nD τ sig) → Buf (Elt Ideal) ℓ)

/-- Where each window's block lies at a point: the row windows move with the point, the others stay. -/
theorem idx : ∀ t : Fin cfg0.N, win0_0.index t = ![t.val, 0] ∧ win0_1.index t = ![0, 0] ∧ win0_2.index t = ![t.val, 0]
    ∧ win0_3.index t = ![0, 0, 0] ∧ win0_4.index t = ![0, 0] ∧ win0_5.index t = ![t.val, 0] ∧ win0_6.index t = ![t.val, 0]
    ∧ win0_7.index t = ![0, 0] ∧ win0_8.index t = ![0, 0, 0] :=
  (by decide +kernel : ∀ t : Fin grid0.N, _)

/-- The cotangent's block at a point. -/
theorem b0 (c : Dev nD) (t : Fin cfg0.N) (ht : t.val < 8) (r : Fin 512) (l : Fin 1024) :
    (show FVec Ideal S512x1024 .bf16 from iblk m c 0 t) (ix2 r l)
      = (show FVec Ideal S2x2048x1024 .f32 from m ((c : Thread nD τ).loc main_arg4))
          (ix3 ⟨(t.val * 512 + r) / 2048, by omega⟩ ⟨(t.val * 512 + r) % 2048, by omega⟩ l) := by
  blk_simp [iblk, idx t]
  rw [show V m c (Pipeline.arrRef spec0 0) = _ from V_112 m c]
  refine (rows_apply _ _).trans ?_
  blk_ext [idx t]

/-- The output projection's block: all of it at every point. -/
theorem b1 (c : Dev nD) (t : Fin cfg0.N) (r : Fin 1024) (l : Fin 1024) :
    (show FVec Ideal S1024x1024 .bf16 from iblk m c 1 t) (ix2 r l)
      = (show FVec Ideal S1x1024x1024 .f32 from m ((c : Thread nD τ).loc main_arg3)) (ix3 0 r l) := by
  blk_simp [iblk, idx t]
  rw [show V m c (Pipeline.arrRef spec0 1) = _ from V_114 m c]
  refine (square_apply _ _).trans ?_
  blk_ext [idx t]

/-- The pooling weights' block. -/
theorem b3 (c : Dev nD) (t : Fin cfg0.N) (g : Fin 4) (a b : Fin 128) :
    (show FVec Ideal S4x128x128 .f32 from iblk m c 3 t) (ix3 g a b)
      = (show FVec Ideal S1x4x128x128 .f32 from m ((c : Thread nD τ).loc main_arg1)) (ix4 0 g a b) := by
  blk_simp [iblk, idx t]
  rw [show V m c (Pipeline.arrRef spec0 3) = _ from V_115 m c]
  refine (groups_apply _ _).trans ?_
  blk_ext [idx t]

/-- The scale's block. -/
theorem b4 (c : Dev nD) (t : Fin cfg0.N) (k : Fin 512) :
    (show FVec Ideal S1x512 .f32 from iblk m c 4 t) (ix2 0 k)
      = (show FVec Ideal S1x512 .f32 from m ((c : Thread nD τ).loc main_arg2)) (ix2 0 k) := by
  blk_point [iblk, V, idx t]

/-- The pooled windows' block at a point: the host computes them as the reference does. -/
theorem b2 (c : Dev nD) (t : Fin cfg0.N) (ht : t.val < 8) (r : Fin 512) (k : Fin 512) :
    (show FVec Ideal S512x512 .bf16 from iblk m c 2 t) (ix2 r k)
      = Cert.MixerRefIdeal.Read.PO (m ((c : Thread nD τ).loc main_arg0)) ⟨t.val * 512 + r, by omega⟩ k := by
  blk_simp [iblk, idx t]
  rw [show V m c (Pipeline.arrRef spec0 2) = _ from V_110 m c]
  pointwise [Cert.MixerRefIdeal.Read.PO]
  blk_ext [idx t]

/-- A point's rows of the projected cotangent are the matching rows of the whole product. -/
theorem D_rows (c : Dev nD) (t : Fin cfg0.N) (ht : t.val < 8) (r : Fin 512) (k : Fin 1024) :
    D (iblk m c 0 t) (iblk m c 1 t) r k = Cert.MixerRefIdeal.Read.DR (m ((c : Thread nD τ).loc main_arg3)) (m ((c : Thread nD τ).loc main_arg4)) ⟨t.val * 512 + r, by omega⟩ k :=
  Finset.sum_congr rfl fun l _ => congrArg₂ (· * ·) (b0 m c t ht r l) (b1 m c t k l)

/-- The grid has eight points. -/
theorem lt8 (t : Fin cfg0.N) : t.val < 8 := lt_of_lt_of_eq t.isLt N_0

/-- The gradient of the attention's output. -/
theorem final5 (c : Dev nD) : (dats m 0 c).arrAt 5 cfg0.N = Cert.MixerRefIdeal.Read.val_main_v139 (F := Ideal) (m ((c : Thread nD τ).loc main_arg3)) (m ((c : Thread nD τ).loc main_arg4)) := by
  refine (dats m 0 c).arrAt_eq_of_covers 5 _ (by decide +kernel) fun t _ y => ?_
  blk_simp
  rw [after0_5]
  have ht := lt8 t
  obtain ⟨r, k, rfl⟩ : ∃ (r k : Fin 512), y = ix2 r k := ⟨y 0, y 1, by funext a; fin_cases a <;> rfl⟩
  refine (p5 m c t r k).trans ((D_rows m c t ht r _).trans ?_)
  refine (Cert.MixerRefIdeal.Read.r139 (m ((c : Thread nD τ).loc main_arg3)) (m ((c : Thread nD τ).loc main_arg4)) ⟨t.val * 512 + r, by omega⟩ k).symm.trans (congrArg _ ?_)
  blk_ext [idx t]

/-- The gradient of the pooled windows. -/
theorem final6 (c : Dev nD) : (dats m 0 c).arrAt 6 cfg0.N = Cert.MixerRefIdeal.Read.val_main_v140 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have ht := lt8 t
  obtain ⟨r, k, rfl⟩ : ∃ (r k : Fin 512), y = ix2 r k := ⟨y 0, y 1, by funext a; fin_cases a <;> rfl⟩
  refine (p6 m c t (ix2 r k)).trans (Eq.trans (Finset.sum_congr rfl fun e _ => ?_)
    ((Cert.MixerRefIdeal.Read.r140 (m ((c : Thread nD τ).loc main_arg1)) (m ((c : Thread nD τ).loc main_arg2)) (m ((c : Thread nD τ).loc main_arg3)) (m ((c : Thread nD τ).loc main_arg4)) ⟨t.val * 512 + r, by omega⟩ k).symm.trans (congrArg _ ?_)))
  · exact congrArg₂ (· * ·) (congrArg₂ (· * ·) (D_rows m c t ht r _) (b4 m c t _)) (b3 m c t _ _ _)
  · blk_ext [idx t]

/-- The gradient of the scale, summed over the eight points. -/
theorem final7 (c : Dev nD) : (dats m 0 c).arrAt 7 cfg0.N = Cert.MixerRefIdeal.Read.val_main_v142 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_after_last 7 t0_7 (by decide +kernel) _ fun j => ?_
  blk_simp
  obtain ⟨i, k, rfl⟩ : ∃ (i : Fin 8) (k : Fin 512), j = ix2 i k := ⟨j 0, j 1, by funext a; fin_cases a <;> rfl⟩
  rw [after0_7, Pipeline.eq_sum_fin_of_reset_step_apply_last (fun n h => (outsAt0 m c n h).2.2.1) 8 (fun _ => 0)
    (fun p j => Q (iblk m c 0 p) (iblk m c 1 p) (iblk m c 2 p) (iblk m c 3 p) (j 0) (j 1))
    (fun t h j => (congrArg _ (show j = ix2 (j 0) (j 1) by funext a; fin_cases a <;> rfl)).trans (p7_A m c t h (j 0) (j 1)))
    (fun t h j => (congrArg _ (show j = ix2 (j 0) (j 1) by funext a; fin_cases a <;> rfl)).trans ((p7_B m c t h (j 0) (j 1)).trans (congrArg (· + _) (congrArg _ (show ix2 (j 0) (j 1) = j by funext a; fin_cases a <;> rfl)))))
    (le_of_eq N_0) t0_7 rfl, zero_add]
  refine Eq.trans ?_ (Cert.MixerRefIdeal.Read.r142 (m ((c : Thread nD τ).loc main_arg0)) (m ((c : Thread nD τ).loc main_arg1)) (m ((c : Thread nD τ).loc main_arg3)) (m ((c : Thread nD τ).loc main_arg4)) i k).symm
  by_cases hi : (i : ℕ) = 0
  · rw [if_pos hi]
    refine (Fin.sum_fin_congr fun p => if_pos hi).trans ?_
    refine Fin.sum_mul_add_congr fun s r hl => ?_
    have hs := lt8 s
    exact congrArg₂ (· * ·) (D_rows m c s hs r _) (Finset.sum_congr rfl fun a _ => congrArg₂ (· * ·) (b2 m c s hs r _) (b3 m c s _ _ _))
  · rw [if_neg hi]
    exact Finset.sum_eq_zero (M := EReal) fun p _ => if_neg hi

/-- The gradient of the pooling weights, summed over the eight points. -/
theorem final8 (c : Dev nD) : (dats m 0 c).arrAt 8 cfg0.N = Cert.MixerRefIdeal.Read.val_main_v143 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  obtain ⟨g, a, b, rfl⟩ : ∃ (g : Fin 4) (a b : Fin 128), j = ix3 g a b := ⟨j 0, j 1, j 2, by funext a; fin_cases a <;> rfl⟩
  rw [after0_8, Pipeline.eq_sum_fin_of_reset_step_apply_last (fun n h => (outsAt0 m c n h).2.2.2) 8 (fun _ => 0)
    (fun p j => W (iblk m c 0 p) (iblk m c 1 p) (iblk m c 2 p) (iblk m c 4 p) (j 0) (j 1) (j 2))
    (fun t h j => (congrArg _ (show j = ix3 (j 0) (j 1) (j 2) by funext a; fin_cases a <;> rfl)).trans (p8_A m c t h (j 0) (j 1) (j 2)))
    (fun t h j => p8_B m c t h j)
    (le_of_eq N_0) t0_7 rfl, zero_add]
  refine Eq.trans ?_ (Cert.MixerRefIdeal.Read.r143 (m ((c : Thread nD τ).loc main_arg0)) (m ((c : Thread nD τ).loc main_arg2)) (m ((c : Thread nD τ).loc main_arg3)) (m ((c : Thread nD τ).loc main_arg4)) g a b).symm
  refine Fin.sum_mul_add_congr fun s r hl => ?_
  have hs := lt8 s
  exact congrArg₂ (· * ·) (b2 m c s hs r _) (congrArg₂ (· * ·) (D_rows m c s hs r _) (b4 m c s _))

end Cert.MixerIdeal.Value
end
-- ==== Proof.MixerClaim.lean ====
/- The claims of the mixer's backward call. -/
module

public import proofs.«01_k».proof.Defs
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.MixerRefIdeal.Read
public import proofs.«01_k».proof.Proof.MixerValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The mixer's reference runs, keeps its arguments and leaves no counter raised: it has none. -/
theorem mixerRef_frame : Cert.quiescent_MixerRefIdeal := fun m ρ _ =>
  (θ_run Cert.MixerRefIdeal.defs _ _).mono (fun r h => ⟨fun c => (h c).2.2.2.2, sem_eq_zero_of_no_sems (by decide) r.2⟩)
    (Cert.MixerRefIdeal.Value.run m ρ)

/-- The mixer's backward call and the reference's gradients agree. -/
theorem mixer : Cert.algebraic_MixerIdeal_MixerRefIdeal := by
  pair_intro
  · run_from Cert.MixerIdeal.Value.run_blocks m g
  · run_from Cert.MixerRefIdeal.Value.run m' g'
    · exact (Cert.MixerRefIdeal.Read.val_main_v139_eq _ _).trans (Cert.MixerIdeal.Value.final5 m c).symm
    · exact (Cert.MixerRefIdeal.Read.val_main_v140_eq _ _ _ _).trans (Cert.MixerIdeal.Value.final6 m c).symm
    · obtain ⟨h0, h1, h2, h3, h4⟩ := hagree c
      refine (Cert.MixerRefIdeal.Read.val_main_v142_eq m' c).trans (Eq.trans ?_ (Cert.MixerIdeal.Value.final7 m c).symm)
      rw [h0, h1, h3, h4]
    · obtain ⟨h0, h1, h2, h3, h4⟩ := hagree c
      refine (Cert.MixerRefIdeal.Read.val_main_v143_eq m' c).trans (Eq.trans ?_ (Cert.MixerIdeal.Value.final8 m c).symm)
      rw [h0, h2, h3, h4]

end Cert.Proof

end
-- ==== Proof.LossPoint.lean ====
/- What one grid point of the feed-forward call leaves in its output blocks, entry by entry. -/
module

public import proofs.«01_k».proof.Proof.Gen.LossIdeal.Value
public import Idealize.ShloMosaic.Lib.Pipeline.ValueKit
public import Idealize.ShloMosaic.Lib.Pipeline.ReadBack
public import Idealize.ShloMosaic.Lib.Pointwise
public import Idealize.ShloMosaic.Lib.WritesUnit
public import proofs.«01_k».proof.Proof.MixerPoint

@[expose] public section

set_option maxRecDepth 16384

noncomputable section

open Idealize.ShloMosaic Idealize.ShloMosaic.TcCoe Idealize.SL.Sem
open Idealize.ShloMosaic.Pipeline (Dat)

namespace Cert.LossIdeal.Tail
open Cert.LossIdeal Cert.LossIdeal.Gen
open Cert.MixerIdeal.Value (canon_hit canon_miss)

variable (m : (ℓ : Loc nD τ sig) → Buf (Elt Ideal) ℓ)

/-- One element of a token tile times a column quarter of an input weight. -/
def A (x0 : FVec Ideal S512x1024 .bf16) (x1 : FVec Ideal S1x1024x704 .bf16) (r : Fin 512) (l : Fin 704) : EReal :=
  ∑ k : Fin 1024, x0 (ix2 r k) * x1 (ix3 0 k l)

/-- One gated element. -/
def U (a b : EReal) : EReal := a * Ideal.div 1 (1 + Ideal.exp (0 - a)) * b

/-- One element of the gated tile times a row quarter of the output weight. -/
def P (x0 : FVec Ideal S512x1024 .bf16) (x1 x2 : FVec Ideal S1x1024x704 .bf16) (x3 : FVec Ideal S1x704x1024 .bf16) (r : Fin 512) (k : Fin 1024) : EReal :=
  ∑ l : Fin 704, U (A x0 x1 r l) (A x0 x2 r l) * x3 (ix3 0 l k)

/-- The number of channels, as the kernel divides by it. -/
def width : EReal := Scalar.ofBits (F := Ideal) .f32 0x44800000#32

/-- The reciprocal root of a row's mean square. -/
def R (f : FVec Ideal S512x1024 .f32) (r : Fin 512) : EReal :=
  Ideal.rsqrt (Ideal.div (∑ k : Fin 1024, f (ix2 r k) * f (ix2 r k)) width + Scalar.ofBits (F := Ideal) .f32 0x358637BD#32)

/-- One element of the error: the residual stream after the block minus the target. -/
def E (f x4 x5 : FVec Ideal S512x1024 .f32) (x6 : FVec Ideal S1x8x1024 .f32) (x7 : FVec Ideal S1x1024 .f32) (r : Fin 512) (k : Fin 1024) : EReal :=
  x4 (ix2 r k) + x6 (ix3 0 5 k) * (f (ix2 r k) * R f r * x7 (ix2 0 k)) - x5 (ix2 r k)

/-- One element of the loss's gradient with respect to the block's output. -/
def Y (f x4 x5 : FVec Ideal S512x1024 .f32) (x6 : FVec Ideal S1x8x1024 .f32) (x7 : FVec Ideal S1x1024 .f32) (r : Fin 512) (k : Fin 1024) : EReal :=
  E f x4 x5 x6 x7 r k * Scalar.ofBits (F := Ideal) .f32 0x3A800000#32

/-- One element of the gradient with respect to the normed product. -/
def N (f x4 x5 : FVec Ideal S512x1024 .f32) (x6 : FVec Ideal S1x8x1024 .f32) (x7 : FVec Ideal S1x1024 .f32) (r : Fin 512) (k : Fin 1024) : EReal :=
  Y f x4 x5 x6 x7 r k * x6 (ix3 0 5 k) * x7 (ix2 0 k)

/-- One element of the gradient through the norm. -/
def G (f x4 x5 : FVec Ideal S512x1024 .f32) (x6 : FVec Ideal S1x8x1024 .f32) (x7 : FVec Ideal S1x1024 .f32) (r : Fin 512) (k : Fin 1024) : EReal :=
  R f r * (N f x4 x5 x6 x7 r k - f (ix2 r k) * R f r * Ideal.div (∑ l : Fin 1024, N f x4 x5 x6 x7 r l * (f (ix2 r l) * R f r)) width)

/-- A tile's share of the loss. -/
def L (f x4 x5 : FVec Ideal S512x1024 .f32) (x6 : FVec Ideal S1x8x1024 .f32) (x7 : FVec Ideal S1x1024 .f32) : EReal :=
  Scalar.ofBits (F := Ideal) .f32 0x3A000000#32 * ∑ r : Fin 512, ∑ k : Fin 1024, E f x4 x5 x6 x7 r k * E f x4 x5 x6 x7 r k

/-- A tile's share of the gate's gradient, in the first of eight rows. -/
def B (f x4 x5 : FVec Ideal S512x1024 .f32) (x6 : FVec Ideal S1x8x1024 .f32) (x7 : FVec Ideal S1x1024 .f32) (i : Fin 8) (k : Fin 1024) : EReal :=
  if (i : ℕ) = 0 then ∑ r : Fin 512, Y f x4 x5 x6 x7 r k * (f (ix2 r k) * R f r * x7 (ix2 0 k)) else 0

/-- A tile's share of the norm weight's gradient, in the first of eight rows. -/
def W (f x4 x5 : FVec Ideal S512x1024 .f32) (x6 : FVec Ideal S1x8x1024 .f32) (x7 : FVec Ideal S1x1024 .f32) (i : Fin 8) (k : Fin 1024) : EReal :=
  if (i : ℕ) = 0 then ∑ r : Fin 512, Y f x4 x5 x6 x7 r k * x6 (ix3 0 5 k) * (f (ix2 r k) * R f r) else 0

/-- The product's accumulator at a point, as a tile. -/
def facc (c : Dev nD) (t : Fin cfg0.N) : FVec Ideal S512x1024 .f32 := (outsAt0 m c t.val t.isLt).2.2.2.2.2.2.2.2

/-- The three saved values at every point. -/
theorem saved (c : Dev nD) (t : Fin cfg0.N) (r : Fin 512) (l : Fin 704) :
    (outsAt0 m c t.val t.isLt).1 (ix3 0 r l) = A (iblk m c 0 t) (iblk m c 1 t) r l
    ∧ (outsAt0 m c t.val t.isLt).2.1 (ix3 0 r l) = A (iblk m c 0 t) (iblk m c 2 t) r l
    ∧ (outsAt0 m c t.val t.isLt).2.2.1 (ix3 0 r l) = U (A (iblk m c 0 t) (iblk m c 1 t) r l) (A (iblk m c 0 t) (iblk m c 2 t) r l) := by
  have hr : t.val % 4 < 4 := Nat.mod_lt _ (by decide)
  rcases Decidable.em (t.val % 4 = 0) with h0 | h0
  · rw [outsAt0_A m c t h0 (by omega) (by omega)]
    refine ⟨?_, ?_, ?_⟩ <;> frame_out <;>
      pointwise [k0_pay24, k0_pay23, k0_pay22, k0_pay21, k0_pay20, k0_pay19, k0_pay18, A, U]
  · rcases Decidable.em (t.val % 4 = 3) with h2 | h2
    · rcases Decidable.em (t.val < 4) with h3 | h3
      · rw [outsAt0_C m c t h0 (by omega) h2 h3 (by omega)]
        refine ⟨?_, ?_, ?_⟩ <;> frame_out <;>
          pointwise [k0_pay24, k0_pay23, k0_pay22, k0_pay21, k0_pay20, k0_pay19, k0_pay18, A, U]
      · rcases Decidable.em (t.val % 16 = 3) with h4 | h4
        · rw [outsAt0_E m c t h0 (by omega) h2 h3 (by omega)]
          refine ⟨?_, ?_, ?_⟩ <;> frame_out <;>
            pointwise [k0_pay24, k0_pay23, k0_pay22, k0_pay21, k0_pay20, k0_pay19, k0_pay18, A, U]
        · rw [outsAt0_D m c t h0 (by omega) h2 h3 (by omega)]
          refine ⟨?_, ?_, ?_⟩ <;> frame_out <;>
            pointwise [k0_pay24, k0_pay23, k0_pay22, k0_pay21, k0_pay20, k0_pay19, k0_pay18, A, U]
    · rw [outsAt0_B m c t h0 (by omega) h2]
      refine ⟨?_, ?_, ?_⟩ <;> frame_out <;>
        pointwise [k0_pay24, k0_pay23, k0_pay22, k0_pay21, k0_pay20, k0_pay19, k0_pay18, A, U]

/-- What the tail leaves besides its running sums, at a tile's last point. -/
theorem tail (c : Dev nD) (t : Fin cfg0.N) (h2 : t.val % 4 = 3) (r : Fin 512) (k : Fin 1024) :
    (outsAt0 m c t.val t.isLt).2.2.2.1 (ix2 r k) = Y (facc m c t) (iblk m c 4 t) (iblk m c 5 t) (iblk m c 6 t) (iblk m c 7 t) r k
    ∧ (outsAt0 m c t.val t.isLt).2.2.2.2.1 (ix2 r k) = G (facc m c t) (iblk m c 4 t) (iblk m c 5 t) (iblk m c 6 t) (iblk m c 7 t) r k := by
  rw [facc]
  rcases Decidable.em (t.val < 4) with h3 | h3
  · rw [outsAt0_C m c t (by omega) (by omega) h2 h3 (by omega)]
    refine ⟨?_, ?_⟩ <;> frame_out <;>
      pointwise [k0_pay5, k0_pay6, k0_pay7, k0_pay8, k0_pay9, k0_pay10, E, Y, N, G, R, width]
  · rcases Decidable.em (t.val % 16 = 3) with h4 | h4
    · rw [outsAt0_E m c t (by omega) (by omega) h2 h3 (by omega)]
      refine ⟨?_, ?_⟩ <;> frame_out <;>
        pointwise [k0_pay5, k0_pay6, k0_pay7, k0_pay8, k0_pay9, k0_pay10, E, Y, N, G, R, width]
    · rw [outsAt0_D m c t (by omega) (by omega) h2 h3 (by omega)]
      refine ⟨?_, ?_⟩ <;> frame_out <;>
        pointwise [k0_pay5, k0_pay6, k0_pay7, k0_pay8, k0_pay9, k0_pay10, E, Y, N, G, R, width]

/-- The product's accumulator: the tile's first point stores its share, a later one adds its own. -/
theorem facc_first (c : Dev nD) (t : Fin cfg0.N) (h0 : t.val % 4 = 0) (r : Fin 512) (k : Fin 1024) :
    facc m c t (ix2 r k) = P (iblk m c 0 t) (iblk m c 1 t) (iblk m c 2 t) (iblk m c 3 t) r k := by
  rw [facc, outsAt0_A m c t h0 (by omega) (by omega)]
  frame_out
  pointwise [k0_pay2, k0_pay1, k0_pay23, k0_pay20, k0_pay19, k0_pay18, A, U, P]

theorem facc_later (c : Dev nD) (t : Fin cfg0.N) (h0 : ¬ t.val % 4 = 0) (r : Fin 512) (k : Fin 1024) :
    facc m c t (ix2 r k) = facc m c ⟨t.val - 1, by omega⟩ (ix2 r k) + P (iblk m c 0 t) (iblk m c 1 t) (iblk m c 2 t) (iblk m c 3 t) r k := by
  have hr : t.val % 4 < 4 := Nat.mod_lt _ (by decide)
  rw [facc, facc]
  rcases Decidable.em (t.val % 4 = 3) with h2 | h2
  · rcases Decidable.em (t.val < 4) with h3 | h3
    · rw [outsAt0_C m c t h0 (by omega) h2 h3 (by omega)]
      frame_out
      pointwise [k0_pay3, k0_pay1, k0_pay23, k0_pay20, k0_pay19, k0_pay18, A, U, P]
      exact congrArg (· + _) (congrFun (Memref.IsWhole.read_unread _ _) _)
    · rcases Decidable.em (t.val % 16 = 3) with h4 | h4
      · rw [outsAt0_E m c t h0 (by omega) h2 h3 (by omega)]
        frame_out
        pointwise [k0_pay3, k0_pay1, k0_pay23, k0_pay20, k0_pay19, k0_pay18, A, U, P]
        exact congrArg (· + _) (congrFun (Memref.IsWhole.read_unread _ _) _)
      · rw [outsAt0_D m c t h0 (by omega) h2 h3 (by omega)]
        frame_out
        pointwise [k0_pay3, k0_pay1, k0_pay23, k0_pay20, k0_pay19, k0_pay18, A, U, P]
        exact congrArg (· + _) (congrFun (Memref.IsWhole.read_unread _ _) _)
  · rw [outsAt0_B m c t h0 (by omega) h2]
    frame_out
    pointwise [k0_pay3, k0_pay1, k0_pay23, k0_pay20, k0_pay19, k0_pay18, A, U, P]
    exact congrArg (· + _) (congrFun (Memref.IsWhole.read_unread _ _) _)

/-- The running sums pass unchanged through the points that are not a tile's last. -/
theorem keep (c : Dev nD) (t : Fin cfg0.N) (h2 : ¬ t.val % 4 = 3) :
    (outsAt0 m c t.val t.isLt).2.2.2.2.2.1 = (outsAt0 m c (t.val - 1) (by omega)).2.2.2.2.2.1
    ∧ (outsAt0 m c t.val t.isLt).2.2.2.2.2.2.1 = (outsAt0 m c (t.val - 1) (by omega)).2.2.2.2.2.2.1
    ∧ (outsAt0 m c t.val t.isLt).2.2.2.2.2.2.2.1 = (outsAt0 m c (t.val - 1) (by omega)).2.2.2.2.2.2.2.1 := by
  rcases Decidable.em (t.val % 4 = 0) with h0 | h0
  · rw [outsAt0_A m c t h0 (by omega) (by omega)]
    exact ⟨rfl, rfl, rfl⟩
  · rw [outsAt0_B m c t h0 (by omega) h2]
    exact ⟨rfl, rfl, rfl⟩

/-- The running loss at the first tile's last point. -/
theorem loss_first (c : Dev nD) (t : Fin cfg0.N) (h2 : t.val % 4 = 3) (h3 : t.val < 4) (i : Fin 8) (k : Fin 128) :
    (outsAt0 m c t.val t.isLt).2.2.2.2.2.1 (ix2 i k) = 0 + L (facc m c t) (iblk m c 4 t) (iblk m c 5 t) (iblk m c 6 t) (iblk m c 7 t) := by
  rw [facc, outsAt0_C m c t (by omega) (by omega) h2 h3 (by omega)]
  frame_out
  pointwise [k0_pay14, k0_pay11, k0_pay5, k0_pay6, k0_pay7, k0_pay8, k0_pay9, k0_pay10, E, R, L, width]

/-- The running loss at a later tile's last point. -/
theorem loss_later (c : Dev nD) (t : Fin cfg0.N) (h2 : t.val % 4 = 3) (h3 : ¬ t.val < 4) (i : Fin 8) (k : Fin 128) :
    (outsAt0 m c t.val t.isLt).2.2.2.2.2.1 (ix2 i k) = (outsAt0 m c (t.val - 1) (by omega)).2.2.2.2.2.1 (ix2 i k)
      + L (facc m c t) (iblk m c 4 t) (iblk m c 5 t) (iblk m c 6 t) (iblk m c 7 t) := by
  rw [facc]
  rcases Decidable.em (t.val % 16 = 3) with h4 | h4
  · rw [outsAt0_E m c t (by omega) (by omega) h2 h3 (by omega)]
    frame_out
    pointwise [k0_pay14, k0_pay11, k0_pay5, k0_pay6, k0_pay7, k0_pay8, k0_pay9, k0_pay10, E, R, L, width]
  · rw [outsAt0_D m c t (by omega) (by omega) h2 h3 (by omega)]
    frame_out
    pointwise [k0_pay14, k0_pay11, k0_pay5, k0_pay6, k0_pay7, k0_pay8, k0_pay9, k0_pay10, E, R, L, width]

/-- The gate's running gradient at a batch's first tile. -/
theorem gate_first (c : Dev nD) (t : Fin cfg0.N) (h2 : t.val % 16 = 3) (i : Fin 8) (k : Fin 1024) :
    (outsAt0 m c t.val t.isLt).2.2.2.2.2.2.1 (ix3 0 i k) = 0 + B (facc m c t) (iblk m c 4 t) (iblk m c 5 t) (iblk m c 6 t) (iblk m c 7 t) i k := by
  rw [facc]
  rcases Decidable.em (t.val < 4) with h3 | h3
  · rw [outsAt0_C m c t (by omega) (by omega) (by omega) h3 (by omega)]
    frame_open
    simp (disch := decide) only [↓View.readCov_skip, ↓View.readCov_cons_toLoadRect, ↓View.readCov_fill]
    frame_out
    by_cases hi : (i : ℕ) = 0
    · rw [canon_hit _ _ _ _ (ix3 0 0 k) (by intro a; fin_cases a <;> simp [hi])]
      open_payloads
      pointwise [k0_pay15, k0_pay13, E, Y, R, B, width, hi]
    · rw [canon_miss _ _ _ _ (1 : Fin 3) (Or.inr (show 1 ≤ (i : ℕ) by omega)), canon_hit _ _ _ _ (ix3 0 i k) (by intro a; fin_cases a <;> simp)]
      open_payloads
      pointwise [B, hi]
  · rw [outsAt0_E m c t (by omega) (by omega) (by omega) h3 (by omega)]
    frame_open
    simp (disch := decide) only [↓View.readCov_skip, ↓View.readCov_cons_toLoadRect, ↓View.readCov_fill]
    frame_out
    by_cases hi : (i : ℕ) = 0
    · rw [canon_hit _ _ _ _ (ix3 0 0 k) (by intro a; fin_cases a <;> simp [hi])]
      open_payloads
      pointwise [k0_pay15, k0_pay13, E, Y, R, B, width, hi]
    · rw [canon_miss _ _ _ _ (1 : Fin 3) (Or.inr (show 1 ≤ (i : ℕ) by omega)), canon_hit _ _ _ _ (ix3 0 i k) (by intro a; fin_cases a <;> simp)]
      open_payloads
      pointwise [B, hi]

/-- The gate's running gradient at a batch's later tile. -/
theorem gate_later (c : Dev nD) (t : Fin cfg0.N) (h2 : t.val % 4 = 3) (h4 : ¬ t.val % 16 = 3) (i : Fin 8) (k : Fin 1024) :
    (outsAt0 m c t.val t.isLt).2.2.2.2.2.2.1 (ix3 0 i k) = (outsAt0 m c (t.val - 1) (by omega)).2.2.2.2.2.2.1 (ix3 0 i k)
      + B (facc m c t) (iblk m c 4 t) (iblk m c 5 t) (iblk m c 6 t) (iblk m c 7 t) i k := by
  rw [facc, outsAt0_D m c t (by omega) (by omega) h2 (by omega) (by omega)]
  frame_out
  by_cases hi : (i : ℕ) = 0
  · rw [View.read_writes_cons_unit_of_mem _ _ _ _ _ _ (ix3 0 0 k) rfl (by intro a; fin_cases a <;> simp [hi])]
    open_payloads
    pointwise [k0_pay15, k0_pay13, E, Y, R, B, width, hi]
    blk_point []
  · rw [View.read_writes_cons_unit_of_not_mem _ _ _ _ _ _ rfl (1 : Fin 3) (Or.inr (show 1 ≤ (i : ℕ) by omega)), View.writes_nil]
    frame_out
    pointwise [B, hi]

/-- The norm weight's running gradient at the first tile. -/
theorem weight_first (c : Dev nD) (t : Fin cfg0.N) (h2 : t.val % 4 = 3) (h3 : t.val < 4) (i : Fin 8) (k : Fin 1024) :
    (outsAt0 m c t.val t.isLt).2.2.2.2.2.2.2.1 (ix2 i k) = 0 + W (facc m c t) (iblk m c 4 t) (iblk m c 5 t) (iblk m c 6 t) (iblk m c 7 t) i k := by
  rw [facc, outsAt0_C m c t (by omega) (by omega) h2 h3 (by omega)]
  frame_open
  simp (disch := decide) only [↓View.readCov_skip, ↓View.readCov_cons_toLoadRect, ↓View.readCov_fill]
  frame_out
  by_cases hi : (i : ℕ) = 0
  · rw [canon_hit _ _ _ _ (ix2 0 k) (by intro a; fin_cases a <;> simp [hi])]
    open_payloads
    pointwise [k0_pay12, k0_pay4, k0_pay16, k0_pay17, E, Y, R, W, width, hi]
  · rw [canon_miss _ _ _ _ (0 : Fin 2) (Or.inr (show 1 ≤ (i : ℕ) by omega)), canon_hit _ _ _ _ (ix2 i k) (by intro a; fin_cases a <;> simp)]
    open_payloads
    pointwise [W, hi]

/-- The norm weight's running gradient at a later tile. -/
theorem weight_later (c : Dev nD) (t : Fin cfg0.N) (h2 : t.val % 4 = 3) (h3 : ¬ t.val < 4) (i : Fin 8) (k : Fin 1024) :
    (outsAt0 m c t.val t.isLt).2.2.2.2.2.2.2.1 (ix2 i k) = (outsAt0 m c (t.val - 1) (by omega)).2.2.2.2.2.2.2.1 (ix2 i k)
      + W (facc m c t) (iblk m c 4 t) (iblk m c 5 t) (iblk m c 6 t) (iblk m c 7 t) i k := by
  rw [facc]
  rcases Decidable.em (t.val % 16 = 3) with h4 | h4
  · rw [outsAt0_E m c t (by omega) (by omega) h2 h3 (by omega)]
    frame_out
    by_cases hi : (i : ℕ) = 0
    · rw [View.read_writes_cons_unit_of_mem _ _ _ _ _ _ (ix2 0 k) rfl (by intro a; fin_cases a <;> simp [hi])]
      open_payloads
      pointwise [k0_pay12, k0_pay4, k0_pay16, k0_pay17, E, Y, R, W, width, hi]
      blk_point []
    · rw [View.read_writes_cons_unit_of_not_mem _ _ _ _ _ _ rfl (0 : Fin 2) (Or.inr (show 1 ≤ (i : ℕ) by omega)), View.writes_nil]
      frame_out
      pointwise [W, hi]
  · rw [outsAt0_D m c t (by omega) (by omega) h2 h3 (by omega)]
    frame_out
    by_cases hi : (i : ℕ) = 0
    · rw [View.read_writes_cons_unit_of_mem _ _ _ _ _ _ (ix2 0 k) rfl (by intro a; fin_cases a <;> simp [hi])]
      open_payloads
      pointwise [k0_pay12, k0_pay4, k0_pay16, k0_pay17, E, Y, R, W, width, hi]
      blk_point []
    · rw [View.read_writes_cons_unit_of_not_mem _ _ _ _ _ _ rfl (0 : Fin 2) (Or.inr (show 1 ≤ (i : ℕ) by omega)), View.writes_nil]
      frame_out
      pointwise [W, hi]

end Cert.LossIdeal.Tail
end
-- ==== Proof.LossRefRead.lean ====
/- The feed-forward block and its loss as the reference computes them, result by result at an index. -/
module

public import proofs.«01_k».proof.Proof.Gen.LossRefIdeal.Read
public import proofs.«01_k».proof.Proof.MixerRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LossRefIdeal.Read
open Cert.LossRefIdeal
open Cert.MixerRefIdeal.Read (reduce_lead sum_rows)

variable (x0 x1 : FVec Ideal S2x2048x1024 .f32) (x2 : FVec Ideal S2x6144 .f32) (x3 : FVec Ideal S1x1024 .f32)
  (x4 x5 : FVec Ideal S1x1024x2816 .f32) (x6 : FVec Ideal S1x2816x1024 .f32) (x7 : FVec Ideal S2x2048x1024 .f32)

/-- A row's batch and its place there give the row back. -/
theorem whole (r : Fin 4096) (h : (r : ℕ) / 2048 * 2048 + (r : ℕ) % 2048 < 4096) : (⟨(r : ℕ) / 2048 * 2048 + (r : ℕ) % 2048, h⟩ : Fin 4096) = r :=
  Fin.ext (show (r : ℕ) / 2048 * 2048 + (r : ℕ) % 2048 = r by omega)

/-- A row of two batches laid in one line, at a channel. -/
def row (x : FVec Ideal S2x2048x1024 .f32) (r : Fin 4096) (k : Fin 1024) : EReal :=
  x (ix3 ⟨(r : ℕ) / 2048, by omega⟩ ⟨(r : ℕ) % 2048, by omega⟩ k)

/-- One element of the hidden rows times an input weight. -/
def AR (w : FVec Ideal S1x1024x2816 .f32) (r : Fin 4096) (l : Fin 2816) : EReal := ∑ k : Fin 1024, row x1 r k * w (ix3 0 k l)

/-- One gated element. -/
def UR (r : Fin 4096) (l : Fin 2816) : EReal := AR x1 x4 r l * Ideal.div 1 (1 + Ideal.exp (-AR x1 x4 r l)) * AR x1 x5 r l

/-- One element of the block's product. -/
def FR (r : Fin 4096) (k : Fin 1024) : EReal := ∑ l : Fin 2816, UR x1 x4 x5 r l * x6 (ix3 0 l k)

/-- The number of channels, as the reference divides by it. -/
def width : EReal := Scalar.ofBits (F := Ideal) .f32 0x44800000#32

/-- A row's mean square, made positive. -/
def VR (r : Fin 4096) : EReal :=
  Ideal.div (∑ k : Fin 1024, FR x1 x4 x5 x6 r k * FR x1 x4 x5 x6 r k) width + Scalar.ofBits (F := Ideal) .f32 0x358637BD#32

/-- The gate of a row's batch. -/
def gate (r : Fin 4096) (k : Fin 1024) : EReal := x2 (ix2 ⟨(r : ℕ) / 2048, by omega⟩ ⟨5 * 1024 + k, by omega⟩)

/-- One element of the error. -/
def ER (r : Fin 4096) (k : Fin 1024) : EReal :=
  row x0 r k + gate x2 r k * (FR x1 x4 x5 x6 r k * Ideal.rsqrt (VR x1 x4 x5 x6 r) * x3 (ix2 0 k)) - row x7 r k

/-- One element of the loss's gradient with respect to the block's output. -/
def YR (r : Fin 4096) (k : Fin 1024) : EReal :=
  Ideal.div (Scalar.ofBits (F := Ideal) .f32 0x3F000000#32 * Scalar.ofBits (F := Ideal) .f32 0x3F800000#32) width
    * (Scalar.ofBits (F := Ideal) .f32 0x40000000#32 * ER x0 x1 x2 x3 x4 x5 x6 x7 r k)

theorem r83 (q : Fin 4) (r : Fin 4096) (l : Fin 704) : val_main_v83 (F := Ideal) x1 x4 (ix3 q r l) = AR x1 x4 r ⟨q * 704 + l, by omega⟩ := by
  pointwise [val_main_v83, val_main_v82, val_main_v81, val_main_v13, val_main_v12, AR, row]

theorem r86 (q : Fin 4) (r : Fin 4096) (l : Fin 704) : val_main_v86 (F := Ideal) x1 x5 (ix3 q r l) = AR x1 x5 r ⟨q * 704 + l, by omega⟩ := by
  pointwise [val_main_v86, val_main_v85, val_main_v84, val_main_v15, val_main_v14, AR, row]

theorem r17 (b : Fin 2) (s : Fin 2048) (l : Fin 2816) : val_main_v17 (F := Ideal) x1 x4 x5 (ix3 b s l) = UR x1 x4 x5 ⟨b * 2048 + s, by omega⟩ l := by
  pointwise [val_main_v17, val_main_v16, val_main_call0_v0, val_main_call0_v1, val_main_call0_v2, val_main_call0_v3, val_main_call0_v4, val_main_call0_v5,
    val_main_call0_cst, val_main_call0_cst_0, val_main_v13, val_main_v12, val_main_v15, val_main_v14, UR, AR, row]
  blk_point []

theorem r19 (b : Fin 2) (s : Fin 2048) (k : Fin 1024) : val_main_v19 (F := Ideal) x1 x4 x5 x6 (ix3 b s k) = FR x1 x4 x5 x6 ⟨b * 2048 + s, by omega⟩ k := by
  pointwise [val_main_v19, val_main_v18, FR]
  simp only [r17]

theorem r27 (b : Fin 2) (s : Fin 2048) : val_main_v27 (F := Ideal) x1 x4 x5 x6 (ix3 b s 0) = VR x1 x4 x5 x6 ⟨b * 2048 + s, by omega⟩ := by
  pointwise [val_main_v27, val_main_v26, val_main_cst_1, val_main_v25, val_main_v24, val_main_cst_0, val_main_v23, val_main_v22, val_main_cst, val_main_v21, VR, width]
  simp only [r19]

theorem r40 (b : Fin 2) (s : Fin 2048) (k : Fin 1024) :
    val_main_v40 (F := Ideal) x0 x1 x2 x3 x4 x5 x6 x7 (ix3 b s k) = ER x0 x1 x2 x3 x4 x5 x6 x7 ⟨b * 2048 + s, by omega⟩ k := by
  pointwise [val_main_v40, val_main_v39, val_main_v38, val_main_v37, val_main_v11, val_main_v5, val_main_v36, val_main_v35, val_main_v34, val_main_v33,
    val_main_v32, val_main_v28, val_main_v20, ER, gate, row]
  simp only [r19, r27]
  blk_point []

theorem r54 (b : Fin 2) (s : Fin 2048) (k : Fin 1024) :
    val_main_v54 (F := Ideal) x0 x1 x2 x3 x4 x5 x6 x7 (ix3 b s k) = YR x0 x1 x2 x3 x4 x5 x6 x7 ⟨b * 2048 + s, by omega⟩ k := by
  pointwise [val_main_v54, val_main_v53, val_main_v52, val_main_v51, val_main_v50, val_main_v49, val_main_cst_8, val_main_cst_9, val_main_cst_10,
    val_main_v43, val_main_v42, val_main_cst_3, YR, width]
  simp only [r40]

theorem r89 (q : Fin 4) (r : Fin 4096) (l : Fin 704) : val_main_v89 (F := Ideal) x1 x4 x5 (ix3 q r l) = UR x1 x4 x5 r ⟨q * 704 + l, by omega⟩ := by
  pointwise [val_main_v89, val_main_v88, val_main_v87]
  simp only [r17, whole]

theorem r90 (r : Fin 4096) (k : Fin 1024) :
    val_main_v90 (F := Ideal) x0 x1 x2 x3 x4 x5 x6 x7 (ix2 r k) = YR x0 x1 x2 x3 x4 x5 x6 x7 r k := by
  pointwise [val_main_v90]
  rw [r54, whole]

/-- One element of the gradient with respect to the normed product. -/
def NR (r : Fin 4096) (k : Fin 1024) : EReal := gate x2 r k * YR x0 x1 x2 x3 x4 x5 x6 x7 r k * x3 (ix2 0 k)

/-- The factor a row's elements take from the derivative of the reciprocal root. -/
def CR (r : Fin 4096) : EReal :=
  Ideal.div ((∑ k : Fin 1024, FR x1 x4 x5 x6 r k * NR x0 x1 x2 x3 x4 x5 x6 x7 r k) *
    (Scalar.ofBits (F := Ideal) .f32 0xBF000000#32 * Ideal.div (Ideal.rsqrt (VR x1 x4 x5 x6 r)) (VR x1 x4 x5 x6 r))) width

theorem r64 (b : Fin 2) (s : Fin 2048) (k : Fin 1024) :
    val_main_v64 (F := Ideal) x0 x1 x2 x3 x4 x5 x6 x7 (ix3 b s k) = NR x0 x1 x2 x3 x4 x5 x6 x7 ⟨b * 2048 + s, by omega⟩ k := by
  pointwise [val_main_v64, val_main_v63, val_main_v34, val_main_v20, val_main_v56, val_main_v55, val_main_v11, val_main_v5, NR, gate]
  simp only [r54]
  blk_point []

theorem r75 (b : Fin 2) (s : Fin 2048) (k : Fin 1024) :
    val_main_v75 (F := Ideal) x0 x1 x2 x3 x4 x5 x6 x7 (ix3 b s k) = CR x0 x1 x2 x3 x4 x5 x6 x7 ⟨b * 2048 + s, by omega⟩ := by
  pointwise [val_main_v75, val_main_v74, val_main_cst_16, val_main_v73, val_main_v72, val_main_cst_15, val_main_v71, val_main_v68, val_main_v67, val_main_cst_14, val_main_v66,
    val_main_v31, val_main_v30, val_main_cst_2, val_main_v29, val_main_v28, CR, width]
  simp only [r64, r19]
  refine (Fintype.sum_unique _).trans ?_
  rw [show (default : Fin 1) = 0 from rfl, r27]

theorem r92 (r : Fin 4096) (k : Fin 1024) : val_main_v92 (F := Ideal) x0 x1 x2 x3 x4 x5 x6 x7 (ix2 r k)
    = NR x0 x1 x2 x3 x4 x5 x6 x7 r k * Ideal.rsqrt (VR x1 x4 x5 x6 r) + FR x1 x4 x5 x6 r k * CR x0 x1 x2 x3 x4 x5 x6 x7 r
      + CR x0 x1 x2 x3 x4 x5 x6 x7 r * FR x1 x4 x5 x6 r k := by
  pointwise [val_main_v92, val_main_v91, val_main_v79, val_main_v78, val_main_v77, val_main_v76, val_main_v70, val_main_v69, val_main_v28]
  simp only [r64, r19, r27, r75, whole]

theorem r93 (i : Fin 8) (k : Fin 128) : val_main_v93 (F := Ideal) x0 x1 x2 x3 x4 x5 x6 x7 (ix2 i k)
    = Scalar.ofBits (F := Ideal) .f32 0x3F000000#32 * ∑ r : Fin 4096, Ideal.div (∑ k : Fin 1024, ER x0 x1 x2 x3 x4 x5 x6 x7 r k * ER x0 x1 x2 x3 x4 x5 x6 x7 r k) width := by
  rw [← sum_rows]
  pointwise [val_main_v93, val_main_v48, val_main_cst_7, val_main_v47, val_main_cst_6, val_main_v46, val_main_v45, val_main_cst_5, val_main_v44, val_main_cst_4, val_main_v41, width]
  simp only [r40]

theorem r95 (b : Fin 2) (i : Fin 8) (k : Fin 1024) : val_main_v95 (F := Ideal) x0 x1 x2 x3 x4 x5 x6 x7 (ix3 b i k) = if (i : ℕ) = 0 then
    ∑ s : Fin 2048, YR x0 x1 x2 x3 x4 x5 x6 x7 ⟨b * 2048 + s, by omega⟩ k *
      (FR x1 x4 x5 x6 ⟨b * 2048 + s, by omega⟩ k * Ideal.rsqrt (VR x1 x4 x5 x6 ⟨b * 2048 + s, by omega⟩) * x3 (ix2 0 k)) else 0 := by
  pointwise [val_main_v95, val_main_v94, val_main_cst_17]
  by_cases hi : (i : ℕ) = 0
  · rw [dif_pos (by omega), if_pos hi]
    pointwise [val_main_v59, val_main_v58, val_main_cst_11, val_main_v57, val_main_v36, val_main_v35, val_main_v34, val_main_v20, val_main_v33, val_main_v32, val_main_v28]
    simp only [r54, r19, r27]
  · rw [dif_neg (by omega), if_neg hi]

theorem r61 (k : Fin 1024) : val_main_v61 (F := Ideal) x0 x1 x2 x3 x4 x5 x6 x7 (ix1 k)
    = ∑ r : Fin 4096, FR x1 x4 x5 x6 r k * Ideal.rsqrt (VR x1 x4 x5 x6 r) * (gate x2 r k * YR x0 x1 x2 x3 x4 x5 x6 x7 r k) := by
  rw [← sum_rows]
  pointwise [val_main_v61]
  rw [reduce_lead]
  pointwise [val_main_cst_12, val_main_v60, val_main_v33, val_main_v32, val_main_v28, val_main_v56, val_main_v55, val_main_v11, val_main_v5, gate]
  simp only [r54, r19, r27]
  blk_point []

/-- Summing over two axes of size one changes nothing. -/
theorem r65 (k : Fin 1024) : val_main_v65 (F := Ideal) x0 x1 x2 x3 x4 x5 x6 x7 (ix1 k) = val_main_v61 (F := Ideal) x0 x1 x2 x3 x4 x5 x6 x7 (ix1 k) := by
  pointwise [val_main_v65]
  rw [reduce_lead]
  pointwise [val_main_cst_13, val_main_v62]
  rw [Fintype.sum_unique, Fintype.sum_unique]

theorem r99 (i : Fin 8) (k : Fin 1024) : val_main_v99 (F := Ideal) x0 x1 x2 x3 x4 x5 x6 x7 (ix2 i k) = if (i : ℕ) = 0 then
    ∑ r : Fin 4096, FR x1 x4 x5 x6 r k * Ideal.rsqrt (VR x1 x4 x5 x6 r) * (gate x2 r k * YR x0 x1 x2 x3 x4 x5 x6 x7 r k) else 0 := by
  pointwise [val_main_v99, val_main_v98, val_main_v97, val_main_cst_18, val_main_v96, val_main_v80]
  by_cases hi : (i : ℕ) = 0
  · rw [dif_pos (by omega), if_pos hi, r65, r61]
  · rw [dif_neg (by omega), if_neg hi]

end Cert.LossRefIdeal.Read
end
-- ==== Proof.LossHost.lean ====
/- The blocks the feed-forward call's grid points read, in terms of the call's arguments. -/
module

public import proofs.«01_k».proof.Proof.LossPoint
public import proofs.«01_k».proof.Proof.LossRefRead

@[expose] public section

set_option maxRecDepth 16384

noncomputable section

open Idealize.ShloMosaic Idealize.ShloMosaic.TcCoe Idealize.SL.Sem
open Idealize.ShloMosaic.Pipeline (Dat)

namespace Cert.LossIdeal.Tail
open Cert.LossIdeal Cert.LossIdeal.Gen
open Cert.LossRefIdeal.Read (row gate)

variable (m : (ℓ : Loc nD τ sig) → Buf (Elt Ideal) ℓ)

/-- Where each window's block lies at a point. -/
theorem idx : ∀ t : Fin cfg0.N, win0_0.index t = ![t.val / 4, 0] ∧ win0_1.index t = ![t.val % 4, 0, 0] ∧ win0_2.index t = ![t.val % 4, 0, 0]
    ∧ win0_3.index t = ![t.val % 4, 0, 0] ∧ win0_4.index t = ![t.val / 4, 0] ∧ win0_5.index t = ![t.val / 4, 0]
    ∧ win0_6.index t = ![t.val / 16, 0, 0] ∧ win0_7.index t = ![0, 0] ∧ win0_8.index t = ![t.val % 4, t.val / 4, 0]
    ∧ win0_9.index t = ![t.val % 4, t.val / 4, 0] ∧ win0_10.index t = ![t.val % 4, t.val / 4, 0] ∧ win0_11.index t = ![t.val / 4, 0]
    ∧ win0_12.index t = ![t.val / 4, 0] ∧ win0_13.index t = ![0, 0] ∧ win0_14.index t = ![t.val / 16, 0, 0] ∧ win0_15.index t = ![0, 0] :=
  (by decide +kernel : ∀ t : Fin grid0.N, _)

/-- The grid has thirty-two points. -/
theorem lt32 (t : Fin cfg0.N) : t.val < 32 := lt_of_lt_of_eq t.isLt N_0

/-- What the host lines leave in the buffers the windows read. -/
theorem host (c : Dev nD) :
    (V m c main_v1 : FVec Ideal S4096x1024 .bf16)
        = truncf (F := Ideal) .bf16 (shapeCast S4096x1024 (m ((c : Thread nD τ).loc main_arg1)) shapeCasts_S2x2048x1024_S4096x1024) bitsLt_bf16_f32
    ∧ (V m c main_v5 : FVec Ideal S4x1024x704 .bf16)
        = truncf (F := Ideal) .bf16 (transpose S4x1024x704 [1, 0, 2] (shapeCast S1024x4x704 (shapeCast S1024x2816 (m ((c : Thread nD τ).loc main_arg4)) shapeCasts_S1x1024x2816_S1024x2816) shapeCasts_S1024x2816_S1024x4x704) transposes_S1024x4x704_S4x1024x704_1_0_2) bitsLt_bf16_f32
    ∧ (V m c main_v9 : FVec Ideal S4x1024x704 .bf16)
        = truncf (F := Ideal) .bf16 (transpose S4x1024x704 [1, 0, 2] (shapeCast S1024x4x704 (shapeCast S1024x2816 (m ((c : Thread nD τ).loc main_arg5)) shapeCasts_S1x1024x2816_S1024x2816) shapeCasts_S1024x2816_S1024x4x704) transposes_S1024x4x704_S4x1024x704_1_0_2) bitsLt_bf16_f32
    ∧ (V m c main_v12 : FVec Ideal S4x704x1024 .bf16)
        = truncf (F := Ideal) .bf16 (shapeCast S4x704x1024 (shapeCast S2816x1024 (m ((c : Thread nD τ).loc main_arg6)) shapeCasts_S1x2816x1024_S2816x1024) shapeCasts_S2816x1024_S4x704x1024) bitsLt_bf16_f32
    ∧ V m c main_v13 = shapeCast S4096x1024 (m ((c : Thread nD τ).loc main_arg0)) shapeCasts_S2x2048x1024_S4096x1024
    ∧ V m c main_v14 = shapeCast S4096x1024 (m ((c : Thread nD τ).loc main_arg7)) shapeCasts_S2x2048x1024_S4096x1024
    ∧ V m c main_v17 = concatenate S2x8x1024 1 [⟨S2x6x1024, shapeCast S2x6x1024 (m ((c : Thread nD τ).loc main_arg2)) shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 := by
  refine ⟨?_, ?_, ?_, ?_, ?_, ?_, ?_⟩
  all_goals
    unfold V
    simp only [List.flatten_cons, List.flatten_nil, List.append_nil, List.cons_append, List.nil_append, hostOps0,
      StableHlo.after_cons, StableHlo.after_nil]
    after_results_simp
    rfl

/-- Two batches of rows laid in one line, at a row. -/
theorem rows_apply (x : FVec Ideal S2x2048x1024 .f32) (i : S4096x1024.Idx) :
    shapeCast S4096x1024 x shapeCasts_S2x2048x1024_S4096x1024 i = row x (i 0) (i 1) := by
  pointwise [row]

/-- The narrowed rows are the rows. -/
theorem rows_narrow (x : FVec Ideal S2x2048x1024 .f32) (i : S4096x1024.Idx) :
    truncf (F := Ideal) .bf16 (shapeCast S4096x1024 x shapeCasts_S2x2048x1024_S4096x1024) bitsLt_bf16_f32 i = row x (i 0) (i 1) := by
  pointwise [row]

/-- An input weight cut into quarters of its columns. -/
theorem cols_apply (x : FVec Ideal S1x1024x2816 .f32) (i : S4x1024x704.Idx) :
    truncf (F := Ideal) .bf16 (transpose S4x1024x704 [1, 0, 2] (shapeCast S1024x4x704 (shapeCast S1024x2816 x shapeCasts_S1x1024x2816_S1024x2816) shapeCasts_S1024x2816_S1024x4x704) transposes_S1024x4x704_S4x1024x704_1_0_2) bitsLt_bf16_f32 i
      = x (ix3 0 (i 1) ⟨i 0 * 704 + i 2, by have : (i 0 : ℕ) < 4 := (i 0).isLt; have : (i 2 : ℕ) < 704 := (i 2).isLt; omega⟩) := by
  pointwise

/-- The output weight cut into quarters of its rows. -/
theorem quarters_apply (x : FVec Ideal S1x2816x1024 .f32) (i : S4x704x1024.Idx) :
    truncf (F := Ideal) .bf16 (shapeCast S4x704x1024 (shapeCast S2816x1024 x shapeCasts_S1x2816x1024_S2816x1024) shapeCasts_S2816x1024_S4x704x1024) bitsLt_bf16_f32 i
      = x (ix3 0 ⟨i 0 * 704 + i 1, by have : (i 0 : ℕ) < 4 := (i 0).isLt; have : (i 1 : ℕ) < 704 := (i 1).isLt; omega⟩ (i 2)) := by
  pointwise

/-- The six modulations of a batch with two empty rows below them. -/
theorem mods_apply (x : FVec Ideal S2x6144 .f32) (i : S2x8x1024.Idx) (h : (i 1 : ℕ) = 5) :
    concatenate S2x8x1024 1 [⟨S2x6x1024, shapeCast S2x6x1024 x shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 i
      = x (ix2 (i 0) ⟨5 * 1024 + i 2, by have : (i 2 : ℕ) < 1024 := (i 2).isLt; omega⟩) := by
  pointwise
  simp [h]

/-- A point's rows of the hidden stream. -/
theorem b0 (c : Dev nD) (t : Fin cfg0.N) (r : Fin 512) (l : Fin 1024) :
    (show FVec Ideal S512x1024 .bf16 from iblk m c 0 t) (ix2 r l)
      = row (m ((c : Thread nD τ).loc main_arg1)) ⟨t.val / 4 * 512 + r, by have := lt32 t; omega⟩ l := by
  have ht := lt32 t
  blk_simp [iblk, idx t]
  rw [show V m c (Pipeline.arrRef spec0 0) = _ from (host m c).1]
  refine (rows_narrow _ _).trans ?_
  unfold row
  blk_ext [idx t]

/-- A point's quarter of the gate's weight. -/
theorem b1 (c : Dev nD) (t : Fin cfg0.N) (k : Fin 1024) (l : Fin 704) :
    (show FVec Ideal S1x1024x704 .bf16 from iblk m c 1 t) (ix3 0 k l)
      = (show FVec Ideal S1x1024x2816 .f32 from m ((c : Thread nD τ).loc main_arg4)) (ix3 0 k ⟨t.val % 4 * 704 + l, by omega⟩) := by
  have ht := lt32 t
  blk_simp [iblk, idx t]
  rw [show V m c (Pipeline.arrRef spec0 1) = _ from (host m c).2.1]
  refine (cols_apply _ _).trans ?_
  blk_ext [idx t]

/-- A point's quarter of the other input weight. -/
theorem b2 (c : Dev nD) (t : Fin cfg0.N) (k : Fin 1024) (l : Fin 704) :
    (show FVec Ideal S1x1024x704 .bf16 from iblk m c 2 t) (ix3 0 k l)
      = (show FVec Ideal S1x1024x2816 .f32 from m ((c : Thread nD τ).loc main_arg5)) (ix3 0 k ⟨t.val % 4 * 704 + l, by omega⟩) := by
  have ht := lt32 t
  blk_simp [iblk, idx t]
  rw [show V m c (Pipeline.arrRef spec0 2) = _ from (host m c).2.2.1]
  refine (cols_apply _ _).trans ?_
  blk_ext [idx t]

/-- A point's quarter of the output weight. -/
theorem b3 (c : Dev nD) (t : Fin cfg0.N) (l : Fin 704) (k : Fin 1024) :
    (show FVec Ideal S1x704x1024 .bf16 from iblk m c 3 t) (ix3 0 l k)
      = (show FVec Ideal S1x2816x1024 .f32 from m ((c : Thread nD τ).loc main_arg6)) (ix3 0 ⟨t.val % 4 * 704 + l, by omega⟩ k) := by
  have ht := lt32 t
  blk_simp [iblk, idx t]
  rw [show V m c (Pipeline.arrRef spec0 3) = _ from (host m c).2.2.2.1]
  refine (quarters_apply _ _).trans ?_
  blk_ext [idx t]

/-- A point's rows of the residual stream. -/
theorem b4 (c : Dev nD) (t : Fin cfg0.N) (r : Fin 512) (l : Fin 1024) :
    (show FVec Ideal S512x1024 .f32 from iblk m c 4 t) (ix2 r l)
      = row (m ((c : Thread nD τ).loc main_arg0)) ⟨t.val / 4 * 512 + r, by have := lt32 t; omega⟩ l := by
  have ht := lt32 t
  blk_simp [iblk, idx t]
  rw [show V m c (Pipeline.arrRef spec0 4) = _ from (host m c).2.2.2.2.1]
  refine (rows_apply _ _).trans ?_
  unfold row
  blk_ext [idx t]

/-- A point's rows of the target. -/
theorem b5 (c : Dev nD) (t : Fin cfg0.N) (r : Fin 512) (l : Fin 1024) :
    (show FVec Ideal S512x1024 .f32 from iblk m c 5 t) (ix2 r l)
      = row (m ((c : Thread nD τ).loc main_arg7)) ⟨t.val / 4 * 512 + r, by have := lt32 t; omega⟩ l := by
  have ht := lt32 t
  blk_simp [iblk, idx t]
  rw [show V m c (Pipeline.arrRef spec0 5) = _ from (host m c).2.2.2.2.2.1]
  refine (rows_apply _ _).trans ?_
  unfold row
  blk_ext [idx t]

/-- The gate of a point's batch. -/
theorem b6 (c : Dev nD) (t : Fin cfg0.N) (r : Fin 512) (k : Fin 1024) :
    (show FVec Ideal S1x8x1024 .f32 from iblk m c 6 t) (ix3 0 5 k)
      = gate (m ((c : Thread nD τ).loc main_arg2)) ⟨t.val / 4 * 512 + r, by have := lt32 t; omega⟩ k := by
  have ht := lt32 t
  blk_simp [iblk, idx t]
  rw [show V m c (Pipeline.arrRef spec0 6) = _ from (host m c).2.2.2.2.2.2]
  refine (mods_apply _ _ ?_).trans ?_
  · blk_simp [idx t]
    rfl
  unfold gate
  blk_ext [idx t]

/-- The norm's weight: all of it at every point. -/
theorem b7 (c : Dev nD) (t : Fin cfg0.N) (k : Fin 1024) :
    (show FVec Ideal S1x1024 .f32 from iblk m c 7 t) (ix2 0 k)
      = (show FVec Ideal S1x1024 .f32 from m ((c : Thread nD τ).loc main_arg3)) (ix2 0 k) := by
  blk_point [iblk, V, idx t]

end Cert.LossIdeal.Tail
end
-- ==== Proof.LossReal.lean ====
/- Extended-real facts that join the kernel's forms of the loss and the norm's gradient to the reference's. -/
module

public import proofs.«01_k».proof.Proof.LossRefRead
public import Idealize.ShloMosaic.Lib.IdealHost

@[expose] public section

noncomputable section

open Idealize.ShloMosaic

namespace Cert.LossReal

theorem w1024 : (Scalar.ofBits (F := Ideal) .f32 0x44800000#32 : EReal) = ((1024 : ℝ) : EReal) := by
  show Ideal.ofBits .f32 0x44800000#32 = _
  simp [Ideal.ofBits, Ideal.ieee, -EReal.coe_mul]; norm_num

theorem wHalf : (Scalar.ofBits (F := Ideal) .f32 0x3F000000#32 : EReal) = ((1 / 2 : ℝ) : EReal) := by
  show Ideal.ofBits .f32 0x3F000000#32 = _
  simp [Ideal.ofBits, Ideal.ieee, -EReal.coe_mul]; norm_num

theorem wMinusHalf : (Scalar.ofBits (F := Ideal) .f32 0xBF000000#32 : EReal) = ((-(1 / 2) : ℝ) : EReal) := by
  show Ideal.ofBits .f32 0xBF000000#32 = _
  simp [Ideal.ofBits, Ideal.ieee, -EReal.coe_mul, -EReal.coe_neg]; norm_num

theorem wTwo : (Scalar.ofBits (F := Ideal) .f32 0x40000000#32 : EReal) = ((2 : ℝ) : EReal) := by
  show Ideal.ofBits .f32 0x40000000#32 = _
  simp [Ideal.ofBits, Ideal.ieee, -EReal.coe_mul]; norm_num

theorem wOne : (Scalar.ofBits (F := Ideal) .f32 0x3F800000#32 : EReal) = ((1 : ℝ) : EReal) := by
  show Ideal.ofBits .f32 0x3F800000#32 = _
  simp [Ideal.ofBits, Ideal.ieee, -EReal.coe_mul]; norm_num

theorem w1024th : (Scalar.ofBits (F := Ideal) .f32 0x3A800000#32 : EReal) = ((1 / 1024 : ℝ) : EReal) := by
  show Ideal.ofBits .f32 0x3A800000#32 = _
  simp [Ideal.ofBits, Ideal.ieee, -EReal.coe_mul]; norm_num

theorem w2048th : (Scalar.ofBits (F := Ideal) .f32 0x3A000000#32 : EReal) = ((1 / 2048 : ℝ) : EReal) := by
  show Ideal.ofBits .f32 0x3A000000#32 = _
  simp [Ideal.ofBits, Ideal.ieee, -EReal.coe_mul]; norm_num

/-- The norm's small constant is a positive number. -/
theorem wEps : ∃ e : ℝ, 0 < e ∧ (Scalar.ofBits (F := Ideal) .f32 0x358637BD#32 : EReal) = (e : EReal) := by
  refine ⟨(Ideal.ofBits .f32 0x358637BD#32).toReal, ?_, ?_⟩
  · simp [Ideal.ofBits, Ideal.ieee, -EReal.coe_mul]
  · show Ideal.ofBits .f32 0x358637BD#32 = _
    simp [Ideal.ofBits, Ideal.ieee, -EReal.coe_mul]

/-- Dividing by a positive number is multiplying by its inverse. -/
theorem div_real (x : EReal) (y : ℝ) (h : y ≠ 0) : Ideal.div x (y : EReal) = ((y⁻¹ : ℝ) : EReal) * x := by
  unfold Ideal.div
  rw [if_neg (by exact_mod_cast h), mul_comm, EReal.coe_inv]

/-- A nonnegative number passes into a sum, whatever infinities stand there. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A square is not negative. -/
theorem sq_nonneg (x : EReal) : 0 ≤ x * x := by
  rcases le_total 0 x with h | h
  · exact EReal.mul_nonneg h h
  · rw [← neg_mul_neg x x]
    exact EReal.mul_nonneg (EReal.neg_nonneg.mpr h) (EReal.neg_nonneg.mpr h)

/-- Twice a multiple. -/
theorem twice (d : ℝ) (hd : 0 ≤ d) (z : EReal) : ((-d : ℝ) : EReal) * z + ((-d : ℝ) : EReal) * z = ((-(2 * d) : ℝ) : EReal) * z := by
  have e : ∀ c : ℝ, ((-c : ℝ) : EReal) * z = (c : EReal) * -z := fun c => by
    rw [EReal.coe_neg, EReal.neg_mul, mul_neg]
  have h : (0 : EReal) ≤ (d : EReal) := by exact_mod_cast hd
  rw [e, e, ← EReal.right_distrib_of_nonneg h h, ← EReal.coe_add, two_mul]

/-- The loss's gradient with respect to the block's output, in the two programs' groupings. -/
theorem slope (e : EReal) :
    Ideal.div (Scalar.ofBits (F := Ideal) .f32 0x3F000000#32 * Scalar.ofBits (F := Ideal) .f32 0x3F800000#32) (Scalar.ofBits (F := Ideal) .f32 0x44800000#32)
      * (Scalar.ofBits (F := Ideal) .f32 0x40000000#32 * e) = e * Scalar.ofBits (F := Ideal) .f32 0x3A800000#32 := by
  rw [w1024, wHalf, wOne, wTwo, w1024th, div_real _ _ (by norm_num), ← EReal.coe_mul, ← EReal.coe_mul, ← mul_assoc, ← EReal.coe_mul, mul_comm e]
  congr 2
  norm_num

/-- A row's share of the loss. -/
theorem share (s : EReal) : Scalar.ofBits (F := Ideal) .f32 0x3F000000#32 * Ideal.div s (Scalar.ofBits (F := Ideal) .f32 0x44800000#32)
    = Scalar.ofBits (F := Ideal) .f32 0x3A000000#32 * s := by
  rw [w1024, wHalf, w2048th, div_real _ _ (by norm_num), ← mul_assoc, ← EReal.coe_mul]
  congr 2
  norm_num

/-- The gradient through the norm: the kernel's form and the derivative of the product with the reciprocal root. -/
theorem norm_grad (f n : Fin 1024 → EReal) (k : Fin 1024) (V : EReal)
    (hV : V = Ideal.div (∑ l, f l * f l) (Scalar.ofBits (F := Ideal) .f32 0x44800000#32) + Scalar.ofBits (F := Ideal) .f32 0x358637BD#32) :
    Ideal.rsqrt V * (n k - f k * Ideal.rsqrt V * Ideal.div (∑ l, n l * (f l * Ideal.rsqrt V)) (Scalar.ofBits (F := Ideal) .f32 0x44800000#32))
      = n k * Ideal.rsqrt V
        + f k * Ideal.div ((∑ l, f l * n l) * (Scalar.ofBits (F := Ideal) .f32 0xBF000000#32 * Ideal.div (Ideal.rsqrt V) V)) (Scalar.ofBits (F := Ideal) .f32 0x44800000#32)
        + Ideal.div ((∑ l, f l * n l) * (Scalar.ofBits (F := Ideal) .f32 0xBF000000#32 * Ideal.div (Ideal.rsqrt V) V)) (Scalar.ofBits (F := Ideal) .f32 0x44800000#32) * f k := by
  obtain ⟨e, he, hw⟩ := wEps
  rw [w1024, hw, div_real _ _ (by norm_num)] at hV
  have hS : 0 ≤ ∑ l, f l * f l := Finset.sum_nonneg fun l _ => sq_nonneg _
  rw [w1024, wMinusHalf, div_real _ _ (by norm_num), div_real _ _ (by norm_num)]
  rcases eq_or_ne V ⊤ with hT | hT
  · have hr : Ideal.rsqrt V = 0 := by rw [hT]; rfl
    have hd : Ideal.div 0 V = 0 := by
      rw [hT]; unfold Ideal.div; rw [if_neg EReal.top_ne_zero, zero_mul]
    rw [hr, hd]
    simp
  · generalize (∑ l, f l * f l) = S at hV hS
    obtain ⟨v, hv, rfl⟩ : ∃ v : ℝ, 0 < v ∧ V = (v : EReal) := by
      have hS' : S ≠ ⊤ := by
        rintro rfl
        exact hT (by rw [hV, EReal.coe_mul_top_of_pos (by norm_num)]; rfl)
      lift S to ℝ using ⟨hS', fun hb => by rw [hb] at hS; exact absurd hS (by simp)⟩
      have hS0 : 0 ≤ S := by exact_mod_cast hS
      exact ⟨(1024 : ℝ)⁻¹ * S + e, by positivity, by rw [hV]; norm_cast⟩
    have hr : Ideal.rsqrt (v : EReal) = (((Real.sqrt v)⁻¹ : ℝ) : EReal) := by
      show (if v < 0 then ⊥ else if v = 0 then ⊤ else (((Real.sqrt v)⁻¹ : ℝ) : EReal)) = _
      rw [if_neg hv.not_gt, if_neg hv.ne']
    have hq : v⁻¹ = (Real.sqrt v)⁻¹ * (Real.sqrt v)⁻¹ := by rw [← mul_inv, Real.mul_self_sqrt hv.le]
    rw [hr, div_real _ _ hv.ne', hq]
    have hs : 0 ≤ (Real.sqrt v)⁻¹ := by positivity
    generalize (Real.sqrt v)⁻¹ = s at hs
    have hsum : ∑ l, n l * (f l * (s : EReal)) = (s : EReal) * ∑ l, f l * n l := by
      rw [mul_sum _ s hs]
      refine Finset.sum_congr rfl fun l _ => ?_
      rw [← mul_assoc, mul_comm (n l), mul_comm]
    rw [hsum]
    generalize (∑ l, f l * n l) = Q
    have hc : (((1024 : ℝ)⁻¹ : ℝ) : EReal) * (Q * (((-(1 / 2) : ℝ) : EReal) * (((s * s : ℝ) : EReal) * (s : EReal))))
        = ((-((1024 : ℝ)⁻¹ * (1 / 2) * (s * s * s)) : ℝ) : EReal) * Q := by
      rw [mul_comm Q, ← mul_assoc, ← EReal.coe_mul, ← EReal.coe_mul, ← EReal.coe_mul]
      congr 2
      ring
    rw [hc, sub_eq_add_neg, EReal.left_distrib_of_nonneg_of_ne_top (by exact_mod_cast hs) (EReal.coe_ne_top s), add_assoc, mul_comm (s : EReal) (n k)]
    refine congrArg (n k * (s : EReal) + ·) ?_
    have h1 : f k * (((-((1024 : ℝ)⁻¹ * (1 / 2) * (s * s * s)) : ℝ) : EReal) * Q) = ((-((1024 : ℝ)⁻¹ * (1 / 2) * (s * s * s)) : ℝ) : EReal) * (Q * f k) := by
      rw [mul_comm, mul_assoc]
    rw [h1, mul_assoc _ Q, twice _ (by positivity)]
    rw [show -(f k * (s : EReal) * ((((1024 : ℝ)⁻¹ : ℝ) : EReal) * ((s : EReal) * Q))) = ((-(s * ((1024 : ℝ)⁻¹ * s)) : ℝ) : EReal) * (Q * f k) by
      rw [EReal.coe_neg, EReal.neg_mul]
      refine congrArg _ ?_
      rw [EReal.coe_mul, EReal.coe_mul]
      ac_rfl]
    rw [← mul_assoc, ← EReal.coe_mul]
    congr 2
    ring

end Cert.LossReal
end
-- ==== Proof.LossValue.lean ====
/- The feed-forward call's results, each equal to what the reference computes. -/
module

public import proofs.«01_k».proof.Proof.LossHost
public import proofs.«01_k».proof.Proof.LossReal

@[expose] public section

set_option maxRecDepth 16384

noncomputable section

open Idealize.ShloMosaic Idealize.ShloMosaic.TcCoe Idealize.SL.Sem
open Idealize.ShloMosaic.Pipeline (Dat)

namespace Cert.LossIdeal.Tail
open Cert.LossIdeal Cert.LossIdeal.Gen
open Cert.LossRefIdeal.Read (row gate AR FR VR ER YR NR CR r83 r86 r89 r90 r92 r93 r95 r99)

variable (m : (ℓ : Loc nD τ sig) → Buf (Elt Ideal) ℓ)

/-- The call's arguments: the residual stream, the hidden stream, the modulations, the norm's weight, the three weights and the target. -/
abbrev a0 (c : Dev nD) : FVec Ideal S2x2048x1024 .f32 := m ((c : Thread nD τ).loc main_arg0)
abbrev a1 (c : Dev nD) : FVec Ideal S2x2048x1024 .f32 := m ((c : Thread nD τ).loc main_arg1)
abbrev a2 (c : Dev nD) : FVec Ideal S2x6144 .f32 := m ((c : Thread nD τ).loc main_arg2)
abbrev a3 (c : Dev nD) : FVec Ideal S1x1024 .f32 := m ((c : Thread nD τ).loc main_arg3)
abbrev a4 (c : Dev nD) : FVec Ideal S1x1024x2816 .f32 := m ((c : Thread nD τ).loc main_arg4)
abbrev a5 (c : Dev nD) : FVec Ideal S1x1024x2816 .f32 := m ((c : Thread nD τ).loc main_arg5)
abbrev a6 (c : Dev nD) : FVec Ideal S1x2816x1024 .f32 := m ((c : Thread nD τ).loc main_arg6)
abbrev a7 (c : Dev nD) : FVec Ideal S2x2048x1024 .f32 := m ((c : Thread nD τ).loc main_arg7)

/-- A tile's row among all rows. -/
def at_ (t : Fin cfg0.N) (r : Fin 512) : Fin 4096 := ⟨t.val / 4 * 512 + r, by have := lt32 t; omega⟩

theorem A_gate (c : Dev nD) (t : Fin cfg0.N) (r : Fin 512) (l : Fin 704) :
    A (iblk m c 0 t) (iblk m c 1 t) r l = AR (a1 m c) (a4 m c) (at_ t r) ⟨t.val % 4 * 704 + l, by omega⟩ :=
  Finset.sum_congr rfl fun k _ => congrArg₂ (· * ·) (b0 m c t r k) (b1 m c t k l)

theorem A_up (c : Dev nD) (t : Fin cfg0.N) (r : Fin 512) (l : Fin 704) :
    A (iblk m c 0 t) (iblk m c 2 t) r l = AR (a1 m c) (a5 m c) (at_ t r) ⟨t.val % 4 * 704 + l, by omega⟩ :=
  Finset.sum_congr rfl fun k _ => congrArg₂ (· * ·) (b0 m c t r k) (b2 m c t k l)

theorem U_rows (c : Dev nD) (t : Fin cfg0.N) (r : Fin 512) (l : Fin 704) :
    U (A (iblk m c 0 t) (iblk m c 1 t) r l) (A (iblk m c 0 t) (iblk m c 2 t) r l)
      = Cert.LossRefIdeal.Read.UR (a1 m c) (a4 m c) (a5 m c) (at_ t r) ⟨t.val % 4 * 704 + l, by omega⟩ := by
  rw [A_gate, A_up, U, Cert.LossRefIdeal.Read.UR, zero_sub]

/-- At a tile's last point the accumulator holds the block's product. -/
theorem facc_last (c : Dev nD) (t : Fin cfg0.N) (h : t.val % 4 = 3) (r : Fin 512) (k : Fin 1024) :
    facc m c t (ix2 r k) = FR (a1 m c) (a4 m c) (a5 m c) (a6 m c) (at_ t r) k := by
  have ht := lt32 t
  have e := Pipeline.eq_sum_fin_of_reset_step_of_flush (N := cfg0.N) (fun n h => facc m c ⟨n, h⟩ (ix2 r k)) 4 0
    (fun p => P (iblk m c 0 p) (iblk m c 1 p) (iblk m c 2 p) (iblk m c 3 p) r k)
    (fun p hp => (facc_first m c p hp r k).trans (zero_add _).symm) (fun p hp => facc_later m c p hp r k) t h
  refine e.trans ((zero_add _).trans ?_)
  refine Fin.sum_mul_add_congr fun s l hl => ?_
  refine congrArg₂ (· * ·) ((U_rows m c _ r l).trans ?_) ((b3 m c _ l k).trans ?_)
  · exact congrArg₂ (Cert.LossRefIdeal.Read.UR (a1 m c) (a4 m c) (a5 m c)) (Fin.ext (show (4 * (t.val / 4) + s.val) / 4 * 512 + (r : ℕ) = t.val / 4 * 512 + r by omega))
      (Fin.ext (show (4 * (t.val / 4) + s.val) % 4 * 704 + (l : ℕ) = s.val * 704 + l by omega))
  · exact congrArg (fun z => a6 m c (ix3 0 z k)) (Fin.ext (show (4 * (t.val / 4) + s.val) % 4 * 704 + (l : ℕ) = s.val * 704 + l by omega))

section
variable (c : Dev nD) (t : Fin cfg0.N) (h : t.val % 4 = 3)

include h in
theorem R_last (r : Fin 512) : R (facc m c t) r = Ideal.rsqrt (VR (a1 m c) (a4 m c) (a5 m c) (a6 m c) (at_ t r)) := by
  simp only [R, VR, facc_last m c t h, width, Cert.LossRefIdeal.Read.width]

include h in
theorem E_last (r : Fin 512) (k : Fin 1024) : E (facc m c t) (iblk m c 4 t) (iblk m c 5 t) (iblk m c 6 t) (iblk m c 7 t) r k
    = ER (a0 m c) (a1 m c) (a2 m c) (a3 m c) (a4 m c) (a5 m c) (a6 m c) (a7 m c) (at_ t r) k :=
  congrArg₂ (· - ·) (congrArg₂ (· + ·) (b4 m c t r k) (congrArg₂ (· * ·) (b6 m c t r k)
    (congrArg₂ (· * ·) (congrArg₂ (· * ·) (facc_last m c t h r k) (R_last m c t h r)) (b7 m c t k)))) (b5 m c t r k)

include h in
theorem Y_last (r : Fin 512) (k : Fin 1024) : Y (facc m c t) (iblk m c 4 t) (iblk m c 5 t) (iblk m c 6 t) (iblk m c 7 t) r k
    = YR (a0 m c) (a1 m c) (a2 m c) (a3 m c) (a4 m c) (a5 m c) (a6 m c) (a7 m c) (at_ t r) k := by
  rw [Y, E_last m c t h, YR]
  exact (Cert.LossReal.slope _).symm

include h in
theorem N_last (r : Fin 512) (k : Fin 1024) : N (facc m c t) (iblk m c 4 t) (iblk m c 5 t) (iblk m c 6 t) (iblk m c 7 t) r k
    = NR (a0 m c) (a1 m c) (a2 m c) (a3 m c) (a4 m c) (a5 m c) (a6 m c) (a7 m c) (at_ t r) k := by
  refine congrArg₂ (· * ·) ?_ (b7 m c t k)
  exact (congrArg₂ (· * ·) (Y_last m c t h r k) (b6 m c t r k)).trans (mul_comm _ _)

include h in
theorem G_last (r : Fin 512) (k : Fin 1024) : G (facc m c t) (iblk m c 4 t) (iblk m c 5 t) (iblk m c 6 t) (iblk m c 7 t) r k
    = Cert.LossRefIdeal.Read.val_main_v92 (F := Ideal) (a0 m c) (a1 m c) (a2 m c) (a3 m c) (a4 m c) (a5 m c) (a6 m c) (a7 m c) (ix2 (at_ t r) k) := by
  rw [r92, G, R_last m c t h, facc_last m c t h]
  simp only [N_last m c t h, facc_last m c t h]
  exact Cert.LossReal.norm_grad (fun k => FR (a1 m c) (a4 m c) (a5 m c) (a6 m c) (at_ t r) k)
    (fun k => NR (a0 m c) (a1 m c) (a2 m c) (a3 m c) (a4 m c) (a5 m c) (a6 m c) (a7 m c) (at_ t r) k) k _ rfl

include h in
theorem L_last : L (facc m c t) (iblk m c 4 t) (iblk m c 5 t) (iblk m c 6 t) (iblk m c 7 t)
    = ∑ r : Fin 512, Scalar.ofBits (F := Ideal) .f32 0x3A000000#32 * ∑ k : Fin 1024,
      ER (a0 m c) (a1 m c) (a2 m c) (a3 m c) (a4 m c) (a5 m c) (a6 m c) (a7 m c) (at_ t r) k * ER (a0 m c) (a1 m c) (a2 m c) (a3 m c) (a4 m c) (a5 m c) (a6 m c) (a7 m c) (at_ t r) k := by
  simp only [L, E_last m c t h]
  rw [Cert.LossReal.w2048th, Cert.LossReal.mul_sum _ _ (by norm_num)]

end

/-- The last point of a tile. -/
def last (n : ℕ) (hn : n < 8) : Fin cfg0.N := ⟨4 * n + 3, lt_of_lt_of_eq (show 4 * n + 3 < 32 by omega) N_0.symm⟩

theorem last_mod (n : ℕ) (hn : n < 8) : (last n hn).val % 4 = 3 := show (4 * n + 3) % 4 = 3 by omega

/-- A running sum as a tile's last point finds it: what the tile before left. -/
theorem carried (c : Dev nD) (n : ℕ) (hn : n < 8) (h0 : 0 < n) :
    (outsAt0 m c ((last n hn).val - 1) (by omega)).2.2.2.2.2.1 = (outsAt0 m c (last (n - 1) (by omega)).val (last (n - 1) (by omega)).isLt).2.2.2.2.2.1
    ∧ (outsAt0 m c ((last n hn).val - 1) (by omega)).2.2.2.2.2.2.1 = (outsAt0 m c (last (n - 1) (by omega)).val (last (n - 1) (by omega)).isLt).2.2.2.2.2.2.1
    ∧ (outsAt0 m c ((last n hn).val - 1) (by omega)).2.2.2.2.2.2.2.1 = (outsAt0 m c (last (n - 1) (by omega)).val (last (n - 1) (by omega)).isLt).2.2.2.2.2.2.2.1 := by
  obtain ⟨q, rfl⟩ : ∃ q, n = q + 1 := ⟨n - 1, by omega⟩
  have hN : cfg0.N = 32 := N_0
  have k2 := keep m c ⟨4 * q + 6, by omega⟩ (show ¬(4 * q + 6) % 4 = 3 by omega)
  have k1 := keep m c ⟨4 * q + 5, by omega⟩ (show ¬(4 * q + 5) % 4 = 3 by omega)
  have k0 := keep m c ⟨4 * q + 4, by omega⟩ (show ¬(4 * q + 4) % 4 = 3 by omega)
  exact ⟨k2.1.trans (k1.1.trans k0.1), k2.2.1.trans (k1.2.1.trans k0.2.1), k2.2.2.trans (k1.2.2.trans k0.2.2)⟩

/-- The saved product with the gate's weight. -/
theorem final8 (c : Dev nD) : (dats m 0 c).arrAt 8 cfg0.N = Cert.LossRefIdeal.Read.val_main_v83 (F := Ideal) (a1 m c) (a4 m c) := by
  refine (dats m 0 c).arrAt_eq_of_covers 8 _ (by decide +kernel) fun t _ y => ?_
  blk_simp
  rw [after0_8]
  have ht := lt32 t
  obtain ⟨r, l, rfl⟩ : ∃ (r : Fin 512) (l : Fin 704), y = ix3 0 r l := ⟨y 1, y 2, by funext a; fin_cases a <;> first | rfl | exact Subsingleton.elim (α := Fin 1) _ _⟩
  refine (saved m c t r l).1.trans ((A_gate m c t r l).trans ?_)
  refine (r83 (a1 m c) (a4 m c) ⟨t.val % 4, by omega⟩ (at_ t r) l).symm.trans (congrArg _ ?_)
  unfold at_
  blk_ext [idx t]

/-- The saved product with the other input weight. -/
theorem final9 (c : Dev nD) : (dats m 0 c).arrAt 9 cfg0.N = Cert.LossRefIdeal.Read.val_main_v86 (F := Ideal) (a1 m c) (a5 m c) := by
  refine (dats m 0 c).arrAt_eq_of_covers 9 _ (by decide +kernel) fun t _ y => ?_
  blk_simp
  rw [after0_9]
  have ht := lt32 t
  obtain ⟨r, l, rfl⟩ : ∃ (r : Fin 512) (l : Fin 704), y = ix3 0 r l := ⟨y 1, y 2, by funext a; fin_cases a <;> first | rfl | exact Subsingleton.elim (α := Fin 1) _ _⟩
  refine (saved m c t r l).2.1.trans ((A_up m c t r l).trans ?_)
  refine (r86 (a1 m c) (a5 m c) ⟨t.val % 4, by omega⟩ (at_ t r) l).symm.trans (congrArg _ ?_)
  unfold at_
  blk_ext [idx t]

/-- The saved gated product. -/
theorem final10 (c : Dev nD) : (dats m 0 c).arrAt 10 cfg0.N = Cert.LossRefIdeal.Read.val_main_v89 (F := Ideal) (a1 m c) (a4 m c) (a5 m c) := by
  refine (dats m 0 c).arrAt_eq_of_covers 10 _ (by decide +kernel) fun t _ y => ?_
  blk_simp
  rw [after0_10]
  have ht := lt32 t
  obtain ⟨r, l, rfl⟩ : ∃ (r : Fin 512) (l : Fin 704), y = ix3 0 r l := ⟨y 1, y 2, by funext a; fin_cases a <;> first | rfl | exact Subsingleton.elim (α := Fin 1) _ _⟩
  refine (saved m c t r l).2.2.trans ((U_rows m c t r l).trans ?_)
  refine (r89 (a1 m c) (a4 m c) (a5 m c) ⟨t.val % 4, by omega⟩ (at_ t r) l).symm.trans (congrArg _ ?_)
  unfold at_
  blk_ext [idx t]

/-- The loss's gradient with respect to the residual stream. -/
theorem final11 (c : Dev nD) : (dats m 0 c).arrAt 11 cfg0.N = Cert.LossRefIdeal.Read.val_main_v90 (F := Ideal) (a0 m c) (a1 m c) (a2 m c) (a3 m c) (a4 m c) (a5 m c) (a6 m c) (a7 m c) := by
  refine (dats m 0 c).arrAt_eq_of_covers 11 _ (by decide +kernel) fun t hf y => ?_
  have h := (flush0_11 t).mp hf
  blk_simp
  rw [after0_11]
  have ht := lt32 t
  obtain ⟨r, k, rfl⟩ : ∃ (r : Fin 512) (k : Fin 1024), y = ix2 r k := ⟨y 0, y 1, by funext a; fin_cases a <;> rfl⟩
  refine (tail m c t h r k).1.trans ((Y_last m c t h r k).trans ?_)
  refine (r90 (a0 m c) (a1 m c) (a2 m c) (a3 m c) (a4 m c) (a5 m c) (a6 m c) (a7 m c) (at_ t r) k).symm.trans (congrArg _ ?_)
  unfold at_
  blk_ext [idx t]

/-- The gradient with respect to the block's product. -/
theorem final12 (c : Dev nD) : (dats m 0 c).arrAt 12 cfg0.N = Cert.LossRefIdeal.Read.val_main_v92 (F := Ideal) (a0 m c) (a1 m c) (a2 m c) (a3 m c) (a4 m c) (a5 m c) (a6 m c) (a7 m c) := by
  refine (dats m 0 c).arrAt_eq_of_covers 12 _ (by decide +kernel) fun t hf y => ?_
  have h := (flush0_12 t).mp hf
  blk_simp
  rw [after0_12]
  have ht := lt32 t
  obtain ⟨r, k, rfl⟩ : ∃ (r : Fin 512) (k : Fin 1024), y = ix2 r k := ⟨y 0, y 1, by funext a; fin_cases a <;> rfl⟩
  refine (tail m c t h r k).2.trans ((G_last m c t h r k).trans (congrArg _ ?_))
  unfold at_
  blk_ext [idx t]

/-- A tile's last point, found from the point. -/
theorem eq_last (t : Fin cfg0.N) (h : t.val % 4 = 3) : t = last (t.val / 4) (by have := lt32 t; omega) :=
  Fin.ext (show t.val = 4 * (t.val / 4) + 3 by omega)

/-- A tile's row, the tile counted from the start. -/
theorem at_last (s : ℕ) (hs : s < 8) (r : Fin 512) (hl : s * 512 + r < 4096) : at_ (last s hs) r = ⟨s * 512 + r, hl⟩ :=
  Fin.ext (show (4 * s + 3) / 4 * 512 + (r : ℕ) = s * 512 + r by omega)

/-- The loss, summed over the tiles. -/
theorem final13 (c : Dev nD) : (dats m 0 c).arrAt 13 cfg0.N = Cert.LossRefIdeal.Read.val_main_v93 (F := Ideal) (a0 m c) (a1 m c) (a2 m c) (a3 m c) (a4 m c) (a5 m c) (a6 m c) (a7 m c) := by
  refine (dats m 0 c).arrAt_eq_of_covers 13 _ (by decide +kernel) fun t hf j => ?_
  have h := (flush0_13 t).mp hf
  blk_simp
  obtain ⟨i, k, rfl⟩ : ∃ (i : Fin 8) (k : Fin 128), j = ix2 i k := ⟨j 0, j 1, by funext a; fin_cases a <;> rfl⟩
  rw [after0_13]
  have ht := lt32 t
  have e := Pipeline.eq_sum_fin_of_reset_step_last (N := 8) (fun n hn => (outsAt0 m c (last n hn).val (last n hn).isLt).2.2.2.2.2.1 (ix2 i k)) 8 0
    (fun p => L (facc m c (last p.val p.isLt)) (iblk m c 4 (last p.val p.isLt)) (iblk m c 5 (last p.val p.isLt)) (iblk m c 6 (last p.val p.isLt)) (iblk m c 7 (last p.val p.isLt)))
    (fun p hp => loss_first m c _ (last_mod _ p.isLt) (show 4 * p.val + 3 < 4 by omega) i k)
    (fun p hp => (loss_later m c _ (last_mod _ p.isLt) (show ¬4 * p.val + 3 < 4 by omega) i k).trans
      (congrArg (· + _) (congrFun (carried m c p.val p.isLt (by omega)).1 (ix2 i k))))
    le_rfl ⟨t.val / 4, by omega⟩ (show t.val / 4 + 1 = 8 by omega)
  refine (congrArg (fun z : Fin cfg0.N => (outsAt0 m c z.val z.isLt).2.2.2.2.2.1 (ix2 i k)) (eq_last t (by omega))).trans (e.trans ((zero_add _).trans (Eq.trans ?_ ((r93 (a0 m c) (a1 m c) (a2 m c) (a3 m c) (a4 m c) (a5 m c) (a6 m c) (a7 m c) i k).symm.trans (congrArg _ ?_)))))
  · rw [Cert.LossReal.wHalf, Cert.LossReal.mul_sum _ _ (by norm_num), ← Cert.LossReal.wHalf]
    refine (Fin.sum_fin_congr fun p => L_last m c _ (last_mod _ p.isLt)).trans ?_
    refine Fin.sum_mul_add_congr fun s r hl => ?_
    rw [at_last s.val s.isLt r hl]
    exact (Cert.LossReal.share _).symm
  · blk_ext [idx t]

/-- The gate's gradient, summed over a batch's tiles. -/
theorem final14 (c : Dev nD) : (dats m 0 c).arrAt 14 cfg0.N = Cert.LossRefIdeal.Read.val_main_v95 (F := Ideal) (a0 m c) (a1 m c) (a2 m c) (a3 m c) (a4 m c) (a5 m c) (a6 m c) (a7 m c) := by
  refine (dats m 0 c).arrAt_eq_of_covers 14 _ (by decide +kernel) fun t hf y => ?_
  have h := (flush0_14 t).mp hf
  blk_simp
  rw [after0_14]
  have ht := lt32 t
  obtain ⟨i, k, rfl⟩ : ∃ (i : Fin 8) (k : Fin 1024), y = ix3 0 i k := ⟨y 1, y 2, by funext a; fin_cases a <;> first | rfl | exact Subsingleton.elim (α := Fin 1) _ _⟩
  have e := Pipeline.eq_sum_fin_of_reset_step_of_flush (N := 8) (fun n hn => (outsAt0 m c (last n hn).val (last n hn).isLt).2.2.2.2.2.2.1 (ix3 0 i k)) 4 0
    (fun p => B (facc m c (last p.val p.isLt)) (iblk m c 4 (last p.val p.isLt)) (iblk m c 5 (last p.val p.isLt)) (iblk m c 6 (last p.val p.isLt)) (iblk m c 7 (last p.val p.isLt)) i k)
    (fun p hp => gate_first m c _ (show (4 * p.val + 3) % 16 = 3 by omega) i k)
    (fun p hp => (gate_later m c _ (last_mod _ p.isLt) (show ¬(4 * p.val + 3) % 16 = 3 by omega) i k).trans
      (congrArg (· + _) (congrFun (carried m c p.val p.isLt (by omega)).2.1 (ix3 0 i k))))
    ⟨t.val / 4, by omega⟩ (show t.val / 4 % 4 = 3 by omega)
  refine (congrArg (fun z : Fin cfg0.N => (outsAt0 m c z.val z.isLt).2.2.2.2.2.2.1 (ix3 0 i k)) (eq_last t (by omega))).trans (e.trans ((zero_add _).trans (Eq.trans ?_ ((r95 (a0 m c) (a1 m c) (a2 m c) (a3 m c) (a4 m c) (a5 m c) (a6 m c) (a7 m c) ⟨t.val / 16, by omega⟩ i k).symm.trans (congrArg _ ?_)))))
  · by_cases hi : (i : ℕ) = 0
    · rw [if_pos hi]
      refine (Fin.sum_fin_congr fun p => if_pos hi).trans ?_
      refine Fin.sum_mul_add_congr fun s r hl => ?_
      have hq : ∀ (q : ℕ) (hq : q < 8), q = 4 * (t.val / 4 / 4) + s.val → at_ (last q hq) r = ⟨t.val / 16 * 2048 + (s.val * 512 + r), by omega⟩ := fun q hq e =>
        Fin.ext (show (4 * q + 3) / 4 * 512 + (r : ℕ) = t.val / 16 * 2048 + (s.val * 512 + r) by omega)
      refine (congrArg₂ (· * ·) (Y_last m c _ (last_mod _ _) r k) (congrArg₂ (· * ·) (congrArg₂ (· * ·) (facc_last m c _ (last_mod _ _) r k) (R_last m c _ (last_mod _ _) r)) (b7 m c _ k))).trans ?_
      rw [hq _ _ rfl]
    · rw [if_neg hi]
      exact Finset.sum_eq_zero (M := EReal) fun p _ => if_neg hi
  · blk_ext [idx t]

/-- The norm weight's gradient, summed over the tiles. -/
theorem final15 (c : Dev nD) : (dats m 0 c).arrAt 15 cfg0.N = Cert.LossRefIdeal.Read.val_main_v99 (F := Ideal) (a0 m c) (a1 m c) (a2 m c) (a3 m c) (a4 m c) (a5 m c) (a6 m c) (a7 m c) := by
  refine (dats m 0 c).arrAt_eq_of_covers 15 _ (by decide +kernel) fun t hf j => ?_
  have h := (flush0_15 t).mp hf
  blk_simp
  obtain ⟨i, k, rfl⟩ : ∃ (i : Fin 8) (k : Fin 1024), j = ix2 i k := ⟨j 0, j 1, by funext a; fin_cases a <;> rfl⟩
  rw [after0_15]
  have ht := lt32 t
  have e := Pipeline.eq_sum_fin_of_reset_step_last (N := 8) (fun n hn => (outsAt0 m c (last n hn).val (last n hn).isLt).2.2.2.2.2.2.2.1 (ix2 i k)) 8 0
    (fun p => W (facc m c (last p.val p.isLt)) (iblk m c 4 (last p.val p.isLt)) (iblk m c 5 (last p.val p.isLt)) (iblk m c 6 (last p.val p.isLt)) (iblk m c 7 (last p.val p.isLt)) i k)
    (fun p hp => weight_first m c _ (last_mod _ p.isLt) (show 4 * p.val + 3 < 4 by omega) i k)
    (fun p hp => (weight_later m c _ (last_mod _ p.isLt) (show ¬4 * p.val + 3 < 4 by omega) i k).trans
      (congrArg (· + _) (congrFun (carried m c p.val p.isLt (by omega)).2.2 (ix2 i k))))
    le_rfl ⟨t.val / 4, by omega⟩ (show t.val / 4 + 1 = 8 by omega)
  refine (congrArg (fun z : Fin cfg0.N => (outsAt0 m c z.val z.isLt).2.2.2.2.2.2.2.1 (ix2 i k)) (eq_last t (by omega))).trans (e.trans ((zero_add _).trans (Eq.trans ?_ ((r99 (a0 m c) (a1 m c) (a2 m c) (a3 m c) (a4 m c) (a5 m c) (a6 m c) (a7 m c) i k).symm.trans (congrArg _ ?_)))))
  · by_cases hi : (i : ℕ) = 0
    · rw [if_pos hi]
      refine (Fin.sum_fin_congr fun p => if_pos hi).trans ?_
      refine Fin.sum_mul_add_congr fun s r hl => ?_
      refine (congrArg₂ (· * ·) (congrArg₂ (· * ·) (Y_last m c _ (last_mod _ _) r k) (b6 m c _ r k)) (congrArg₂ (· * ·) (facc_last m c _ (last_mod _ _) r k) (R_last m c _ (last_mod _ _) r))).trans ?_
      rw [show (⟨(last s.val s.isLt).val / 4 * 512 + r, by have := lt32 (last s.val s.isLt); omega⟩ : Fin 4096) = at_ (last s.val s.isLt) r from rfl, at_last s.val s.isLt r hl]
      exact (mul_comm _ _).trans (congrArg (_ * ·) (mul_comm _ _))
    · rw [if_neg hi]
      exact Finset.sum_eq_zero (M := EReal) fun p _ => if_neg hi
  · blk_ext [idx t]

end Cert.LossIdeal.Tail
end
-- ==== Proof.LossClaim.lean ====
/- The value claim of the feed-forward call with the loss. -/
module

public import proofs.«01_k».proof.Defs
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The feed-forward call's eight results and the reference's agree. -/
theorem loss : Cert.algebraic_LossIdeal_LossRefIdeal := by
  pair_intro
  · run_from Cert.LossIdeal.Value.run_blocks m g
  · run_from Cert.LossRefIdeal.Value.run m' g'
    · exact (Cert.LossRefIdeal.Read.val_main_v83_eq _ _).trans (Cert.LossIdeal.Tail.final8 m c).symm
    · exact (Cert.LossRefIdeal.Read.val_main_v86_eq _ _).trans (Cert.LossIdeal.Tail.final9 m c).symm
    · exact (Cert.LossRefIdeal.Read.val_main_v89_eq _ _ _).trans (Cert.LossIdeal.Tail.final10 m c).symm
    · obtain ⟨h0, h1, h2, h3, h4, h5, h6, h7⟩ := hagree c
      refine (Cert.LossRefIdeal.Read.val_main_v90_eq m' c).trans (Eq.trans ?_ (Cert.LossIdeal.Tail.final11 m c).symm)
      rw [h0, h1, h2, h3, h4, h5, h6, h7]
    · obtain ⟨h0, h1, h2, h3, h4, h5, h6, h7⟩ := hagree c
      refine (Cert.LossRefIdeal.Read.val_main_v92_eq m' c).trans (Eq.trans ?_ (Cert.LossIdeal.Tail.final12 m c).symm)
      rw [h0, h1, h2, h3, h4, h5, h6, h7]
    · obtain ⟨h0, h1, h2, h3, h4, h5, h6, h7⟩ := hagree c
      refine (Cert.LossRefIdeal.Read.val_main_v93_eq m' c).trans (Eq.trans ?_ (Cert.LossIdeal.Tail.final13 m c).symm)
      rw [h0, h1, h2, h3, h4, h5, h6, h7]
    · obtain ⟨h0, h1, h2, h3, h4, h5, h6, h7⟩ := hagree c
      refine (Cert.LossRefIdeal.Read.val_main_v95_eq m' c).trans (Eq.trans ?_ (Cert.LossIdeal.Tail.final14 m c).symm)
      rw [h0, h1, h2, h3, h4, h5, h6, h7]
    · obtain ⟨h0, h1, h2, h3, h4, h5, h6, h7⟩ := hagree c
      refine (Cert.LossRefIdeal.Read.val_main_v99_eq m' c).trans (Eq.trans ?_ (Cert.LossIdeal.Tail.final15 m c).symm)
      rw [h0, h1, h2, h3, h4, h5, h6, h7]

end Cert.Proof

end
-- ==== Proof.AttnLoop.lean ====
/- What one walk of the attention gradient's loop over earlier key tiles leaves in its carried values and its scratch. -/
module

public import proofs.«01_k».proof.Proof.AttnFrame
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnIdeal.Body

open Idealize.ShloMosaic Idealize.ShloMosaic.TcCoe Idealize.ShloMosaic.Tactic
open Idealize.ShloMosaic.Pipeline (Dat Cfg Window BodyObligation cellOf)
open Cert.AttnIdeal.Gen

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S256x128 .bf16) (harg6 : arg6.IsWhole)
  (arg7 : Memref sig .tc .vmem S256x128 .f32) (harg7 : arg7.IsWhole) (arg8 : Memref sig .tc .vmem S256x128 .bf16) (harg8 : arg8.IsWhole)
  (arg9 : Memref sig .tc .vmem S2048x128 .bf16) (harg9 : arg9.IsWhole) (arg10 : Memref sig .tc .vmem S2048x128 .bf16) (harg10 : arg10.IsWhole)
  (arg11 : Memref sig .tc .vmem S2048x128 .f32) (harg11 : arg11.IsWhole) (arg12 : Memref sig .tc .vmem S2048x128 .f32) (harg12 : arg12.IsWhole)
  (x0 : Vec Ideal S256x128 .bf16) (x1 x2 : Vec Ideal S2048x128 .bf16) (x3 : Vec Ideal S256x128 .bf16) (x4 : Vec Ideal S256x128 .f32)

/-! ## One query tile as plain functions of vectors

A step of the inner loop takes one key tile: it carries the query gradient and the two running
sums, and adds to the key tile's rows of the two accumulators. -/

/-- What a step carries: the query gradient, the running sum of the logs, the running sum of the weight gradients. -/
abbrev Carry := FVec Ideal S256x128 .f32 × FVec Ideal S256x1 .f32 × FVec Ideal S256x1 .f32

/-- The carry and the two accumulators. -/
abbrev St := Carry × Vec Ideal S2048x128 .f32 × Vec Ideal S2048x128 .f32

theorem tile_inb (k : Fin 8) : ∀ a, (![256 * k.val, 0] : Fin 2 → ℕ) a + S256x128.size a ≤ S2048x128.size a := by
  intro a
  have hk := k.isLt
  match a with
  | 0 => show 256 * k.val + 256 ≤ 2048; omega
  | 1 => show 0 + 128 ≤ 128; omega

/-- Tile `k`'s rows. -/
def tile {e : EltTy} (x : Vec Ideal S2048x128 e) (k : Fin 8) : Vec Ideal S256x128 e :=
  VecWindow.window x ![256 * k.val, 0] S256x128.size (tile_inb k)

/-- `x` with tile `k`'s rows replaced. -/
def putTile {e : EltTy} (x : Vec Ideal S2048x128 e) (k : Fin 8) (w : Vec Ideal S256x128 e) : Vec Ideal S2048x128 e :=
  VecWindow.put x ![256 * k.val, 0] S256x128.size w

/-- A step at a key tile below the diagonal. -/
def below (qh doh : FVec Ideal S256x128 .bf16) (lh : FVec Ideal S256x1 .f32) (x1 x2 : Vec Ideal S2048x128 .bf16) (k : Fin 8) (S : St) : St :=
  let kj := tile x1 k
  let vj := tile x2 k
  let p9 := k0_pay9 qh kj
  let p10 := k0_pay10 k0_pay39 qh lh S.1.2.1 kj
  let p11 := k0_pay11 k0_pay39 qh doh lh S.1.2.1 kj vj
  let p12 := k0_pay12 k0_pay39 k0_pay40 qh doh lh S.1.2.1 S.1.2.2 kj vj
  ((k0_pay53 S.1.1 (k0_pay5 kj) p9 p11 p12, k0_pay56 S.1.2.1 (k0_pay8 qh kj), k0_pay57 S.1.2.2 p11),
    putTile S.2.1 k (k0_pay54 qh p9 p11 p12 (tile S.2.1 k)), putTile S.2.2 k (k0_pay55 doh p10 (tile S.2.2 k)))

/-- The step at the diagonal tile: its running sums are not carried on. -/
def onDiag (qh doh : FVec Ideal S256x128 .bf16) (lh : FVec Ideal S256x1 .f32) (x1 x2 : Vec Ideal S2048x128 .bf16) (k : Fin 8) (S : St) :
    FVec Ideal S256x128 .f32 × Vec Ideal S2048x128 .f32 × Vec Ideal S2048x128 .f32 :=
  let kj := tile x1 k
  let vj := tile x2 k
  let p67 := k0_pay67 qh kj
  let p68 := k0_pay68 k0_pay39 k0_pay41 qh lh S.1.2.1 kj
  let p69 := k0_pay69 k0_pay39 k0_pay41 qh doh lh S.1.2.1 kj vj
  let p70 := k0_pay70 k0_pay39 k0_pay41 qh doh lh S.1.2.1 kj vj
  let p71 := k0_pay71 k0_pay39 k0_pay41 qh doh lh S.1.2.1 kj vj
  (k0_pay73 k0_pay40 k0_pay41 S.1.1 S.1.2.2 (k0_pay64 kj) p67 p69 p70 p71,
    putTile S.2.1 k (k0_pay74 k0_pay40 k0_pay41 qh S.1.2.2 p67 p69 p70 p71 (tile S.2.1 k)),
    putTile S.2.2 k (k0_pay75 doh p68 (tile S.2.2 k)))

/-- `n` steps from the left. -/
def steps (f : Fin 8 → St → St) (S : St) : ℕ → St
  | 0 => S
  | n + 1 => if h : n < 8 then f ⟨n, h⟩ (steps f S n) else steps f S n

/-- One head of one query tile. -/
def headTile (qh doh : FVec Ideal S256x128 .bf16) (lh : FVec Ideal S256x1 .f32) (x1 x2 : Vec Ideal S2048x128 .bf16) (n : Fin 8)
    (A B : Vec Ideal S2048x128 .f32) : FVec Ideal S256x128 .f32 × Vec Ideal S2048x128 .f32 × Vec Ideal S2048x128 .f32 :=
  onDiag qh doh lh x1 x2 n (steps (below qh doh lh x1 x2) ((k0_pay49, k0_pay50, k0_pay51), A, B) n.val)

/-- A recursion over pieces written to two buffers, read as steps on what the buffers hold. -/
theorem steps_of_pieces {sg : RefSig} (M N : Memref sg .tc .vmem S2048x128 .f32) (f : M.view.ty.Contents (Elt Ideal)) (g : N.view.ty.Contents (Elt Ideal))
    (st : ℕ → Carry × List (View.Piece (Elt Ideal) S2048x128 .f32) × List (View.Piece (Elt Ideal) S2048x128 .f32)) (c₀ : Carry)
    (h0 : st 0 = (c₀, [], [])) (step : Fin 8 → St → St) (n : ℕ) (hn : n ≤ 8)
    (hs : ∀ k (h : k < n), ((st (k + 1)).1, M.view.read (Elt Ideal) (M.view.writes (Elt Ideal) f (st (k + 1)).2.1), N.view.read (Elt Ideal) (N.view.writes (Elt Ideal) g (st (k + 1)).2.2))
      = step ⟨k, by omega⟩ ((st k).1, M.view.read (Elt Ideal) (M.view.writes (Elt Ideal) f (st k).2.1), N.view.read (Elt Ideal) (N.view.writes (Elt Ideal) g (st k).2.2))) :
    ((st n).1, M.view.read (Elt Ideal) (M.view.writes (Elt Ideal) f (st n).2.1), N.view.read (Elt Ideal) (N.view.writes (Elt Ideal) g (st n).2.2))
      = steps step (c₀, M.view.read (Elt Ideal) f, N.view.read (Elt Ideal) g) n := by
  induction n with
  | zero => rw [h0]; rfl
  | succ n ih =>
    rw [hs n (by omega), ih (by omega) fun k h => hs k (by omega)]
    show _ = if h : n < 8 then step ⟨n, h⟩ (steps step _ n) else steps step _ n
    rw [dif_pos (show n < 8 by omega)]

theorem trips1 (i : grid0.Coords) : (k0_t1_loop i).trips = (i 2).val := by
  obtain ⟨x, hx⟩ : ∃ x : Fin 8, i 2 = x := ⟨i 2, rfl⟩
  have : ∀ x : Fin 8, Scf.trips (0#32) (Scalar.addi 0#32 (Scalar.muli (Scalar.divsi (Scalar.subi (BitVec.ofNat 32 x.val) 0#32) 1#32) 1#32)) 1#32 = x.val := by decide +kernel
  exact this (i 2)
theorem trips3 (i : grid0.Coords) : (k0_t3_loop i).trips = (i 2).val := trips1 i
theorem trips2 (i : grid0.Coords) : (k0_t2_loop i).trips = 0 := by
  have : ∀ x : Fin 8, Scf.trips (Scalar.addi 0#32 (Scalar.muli (Scalar.divsi (Scalar.subi (BitVec.ofNat 32 x.val) 0#32) 1#32) 1#32)) (Scalar.addi 0#32 (Scalar.subi (BitVec.ofNat 32 x.val) 0#32)) 1#32 = 0 := by decide +kernel
  exact this (i 2)
theorem trips4 (i : grid0.Coords) : (k0_t4_loop i).trips = 0 := trips2 i
theorem off1 (i : grid0.Coords) (k : Fin (k0_t1_loop i).trips) : k0_off1 i k = ![256 * k.val, 0] := by
  have hk : k.val < 8 := lt_of_lt_of_le k.isLt (by rw [trips1]; exact (i 2).isLt.le)
  have : ∀ x : Fin 8, ![(Scalar.indexCast (Scalar.muli (Scf.iv (0#32) (1#32) x.val) 256#32)).toNat, 0] = ![256 * x.val, 0] := by decide +kernel
  exact this ⟨k.val, hk⟩
theorem off4 (i : grid0.Coords) (k : Fin (k0_t3_loop i).trips) : k0_off4 i k = ![256 * k.val, 0] := off1 i k
theorem off3 (i : grid0.Coords) : k0_off3 i = ![256 * (i 2).val, 0] := by
  have : ∀ x : Fin 8, ![(Scalar.indexCast (Scalar.muli (BitVec.ofNat 32 x.val) 256#32)).toNat, 0] = ![256 * x.val, 0] := by decide +kernel
  exact this (i 2)

theorem loop1 (r : BitVec 32) (qh doh : FVec Ideal S256x128 .bf16) (lh : FVec Ideal S256x1 .f32) (w32 w33 w34) (z z')
    (f : arg11.view.ty.Contents (Elt Ideal)) (g : arg12.view.ty.Contents (Elt Ideal)) (c₀ : Carry) (n : ℕ) (hn : n ≤ (k0_t1_loop i).trips) :
    (fun st : Carry × List (View.Piece (Elt Ideal) S2048x128 .f32) × List (View.Piece (Elt Ideal) S2048x128 .f32) =>
      (st.1, arg11.view.read (Elt Ideal) (arg11.view.writes (Elt Ideal) f st.2.1), arg12.view.read (Elt Ideal) (arg12.view.writes (Elt Ideal) g st.2.2)))
      (st_k0_t1 (F := Ideal) Variants.none c none i arg3 harg3 arg4 harg4 arg5 harg5 arg6 harg6 arg7 harg7 arg8 harg8 arg9 harg9 arg10 harg10 arg11 harg11 arg12 harg12
        r k0_pay39 k0_pay40 k0_pay41 qh doh lh w32 w33 w34 z z' (harg4.unread x1) (harg5.unread x2) f g c₀ n)
      = steps (below qh doh lh x1 x2) (c₀, arg11.view.read (Elt Ideal) f, arg12.view.read (Elt Ideal) g) n := by
  have h8 : n ≤ 8 := hn.trans (by rw [trips1]; exact (i 2).isLt.le)
  refine steps_of_pieces arg11 arg12 f g _ c₀ rfl (below qh doh lh x1 x2) n h8 fun k hk => ?_
  have hk' : k < (k0_t1_loop i).trips := by omega
  have e := st_k0_t1_succ (F := Ideal) Variants.none c none i arg3 harg3 arg4 harg4 arg5 harg5 arg6 harg6 arg7 harg7 arg8 harg8 arg9 harg9 arg10 harg10 arg11 harg11 arg12 harg12
        r k0_pay39 k0_pay40 k0_pay41 qh doh lh w32 w33 w34 z z' (harg4.unread x1) (harg5.unread x2) f g c₀ ⟨k, hk'⟩
  dsimp only at e
  rw [e]
  generalize st_k0_t1 (F := Ideal) Variants.none c none i arg3 harg3 arg4 harg4 arg5 harg5 arg6 harg6 arg7 harg7 arg8 harg8 arg9 harg9 arg10 harg10 arg11 harg11 arg12 harg12
        r k0_pay39 k0_pay40 k0_pay41 qh doh lh w32 w33 w34 z z' (harg4.unread x1) (harg5.unread x2) f g c₀ k = T
  obtain ⟨C, L, L'⟩ := T
  dsimp only [tripR_k0_t1, tripL_k0_t1]
  unfold trip_k0_t1
  dsimp only
  have inb := tile_inb ⟨k, by omega⟩
  have r1 : arg4.view.readAt (Elt Ideal) (Rect.unit (s := S2048x128) (k0_off1 i ⟨k, hk'⟩) S256x128.size (k0_off1_inb i ⟨k, hk'⟩)).toLoadRect (harg4.unread x1) = tile x1 ⟨k, by omega⟩ := by
    rw [View.readAt_unit arg4.view _ _ (off1 i ⟨k, hk'⟩) inb, harg4.read_unread]; rfl
  have r2 : arg5.view.readAt (Elt Ideal) (Rect.unit (s := S2048x128) (k0_off1 i ⟨k, hk'⟩) S256x128.size (k0_off1_inb i ⟨k, hk'⟩)).toLoadRect (harg5.unread x2) = tile x2 ⟨k, by omega⟩ := by
    rw [View.readAt_unit arg5.view _ _ (off1 i ⟨k, hk'⟩) inb, harg5.read_unread]; rfl
  have r3 := View.readAt_unit arg11.view (arg11.view.writes (Elt Ideal) f L) (k0_off1_inb i ⟨k, hk'⟩) (off1 i ⟨k, hk'⟩) inb
  have r4 := View.readAt_unit arg12.view (arg12.view.writes (Elt Ideal) g L') (k0_off1_inb i ⟨k, hk'⟩) (off1 i ⟨k, hk'⟩) inb
  simp only [List.cons_append, List.nil_append]
  refine Prod.ext ?_ (Prod.ext ?_ ?_)
  · unfold below; rw [← r1, ← r2]; rfl
  · refine (View.read_writes_cons_put arg11.view f (k0_off1_inb i ⟨k, hk'⟩) _ L (off1 i ⟨k, hk'⟩)).trans ?_
    unfold below putTile
    dsimp only [tile]
    rw [← r3]
    unfold tile at r1 r2
    rw [← r1, ← r2]
    rfl
  · refine (View.read_writes_cons_put arg12.view g (k0_off1_inb i ⟨k, hk'⟩) _ L' (off1 i ⟨k, hk'⟩)).trans ?_
    unfold below putTile
    dsimp only [tile]
    rw [← r4]
    unfold tile at r1 r2
    rw [← r1]
    rfl

theorem loop3 (r : BitVec 32) (w18 : FVec Ideal S256x128 .bf16) (w20 : FVec Ideal S256x128 .f32) (qh w126 : FVec Ideal S256x128 .bf16) (w128 : IVec S256x128 1)
    (f : arg11.view.ty.Contents (Elt Ideal)) (g : arg12.view.ty.Contents (Elt Ideal)) (c₀ : Carry) (n : ℕ) (hn : n ≤ (k0_t3_loop i).trips) :
    (fun st : Carry × List (View.Piece (Elt Ideal) S2048x128 .f32) × List (View.Piece (Elt Ideal) S2048x128 .f32) =>
      (st.1, arg11.view.read (Elt Ideal) (arg11.view.writes (Elt Ideal) f st.2.1), arg12.view.read (Elt Ideal) (arg12.view.writes (Elt Ideal) g st.2.2)))
      (st_k0_t3 (F := Ideal) Variants.none c none i arg3 harg3 arg4 harg4 arg5 harg5 arg6 harg6 arg7 harg7 arg8 harg8 arg9 harg9 arg10 harg10 arg11 harg11 arg12 harg12
        r k0_pay39 k0_pay40 k0_pay41 w18 w20 qh w126 w128 (harg4.unread x1) (harg5.unread x2) f g c₀ n)
      = steps (below qh (k0_pay80 w18 w126 w128) (k0_pay81 w20) x1 x2) (c₀, arg11.view.read (Elt Ideal) f, arg12.view.read (Elt Ideal) g) n := by
  have h8 : n ≤ 8 := hn.trans (by rw [trips3]; exact (i 2).isLt.le)
  refine steps_of_pieces arg11 arg12 f g _ c₀ rfl (below qh (k0_pay80 w18 w126 w128) (k0_pay81 w20) x1 x2) n h8 fun k hk => ?_
  have hk' : k < (k0_t3_loop i).trips := by omega
  have e := st_k0_t3_succ (F := Ideal) Variants.none c none i arg3 harg3 arg4 harg4 arg5 harg5 arg6 harg6 arg7 harg7 arg8 harg8 arg9 harg9 arg10 harg10 arg11 harg11 arg12 harg12
        r k0_pay39 k0_pay40 k0_pay41 w18 w20 qh w126 w128 (harg4.unread x1) (harg5.unread x2) f g c₀ ⟨k, hk'⟩
  dsimp only at e
  rw [e]
  generalize st_k0_t3 (F := Ideal) Variants.none c none i arg3 harg3 arg4 harg4 arg5 harg5 arg6 harg6 arg7 harg7 arg8 harg8 arg9 harg9 arg10 harg10 arg11 harg11 arg12 harg12
        r k0_pay39 k0_pay40 k0_pay41 w18 w20 qh w126 w128 (harg4.unread x1) (harg5.unread x2) f g c₀ k = T
  obtain ⟨C, L, L'⟩ := T
  dsimp only [tripR_k0_t3, tripL_k0_t3]
  unfold trip_k0_t3
  dsimp only
  have inb := tile_inb ⟨k, by omega⟩
  have r1 : arg4.view.readAt (Elt Ideal) (Rect.unit (s := S2048x128) (k0_off4 i ⟨k, hk'⟩) S256x128.size (k0_off4_inb i ⟨k, hk'⟩)).toLoadRect (harg4.unread x1) = tile x1 ⟨k, by omega⟩ := by
    rw [View.readAt_unit arg4.view _ _ (off4 i ⟨k, hk'⟩) inb, harg4.read_unread]; rfl
  have r2 : arg5.view.readAt (Elt Ideal) (Rect.unit (s := S2048x128) (k0_off4 i ⟨k, hk'⟩) S256x128.size (k0_off4_inb i ⟨k, hk'⟩)).toLoadRect (harg5.unread x2) = tile x2 ⟨k, by omega⟩ := by
    rw [View.readAt_unit arg5.view _ _ (off4 i ⟨k, hk'⟩) inb, harg5.read_unread]; rfl
  have r3 := View.readAt_unit arg11.view (arg11.view.writes (Elt Ideal) f L) (k0_off4_inb i ⟨k, hk'⟩) (off4 i ⟨k, hk'⟩) inb
  have r4 := View.readAt_unit arg12.view (arg12.view.writes (Elt Ideal) g L') (k0_off4_inb i ⟨k, hk'⟩) (off4 i ⟨k, hk'⟩) inb
  simp only [List.cons_append, List.nil_append]
  refine Prod.ext ?_ (Prod.ext ?_ ?_)
  · unfold below; rw [← r1, ← r2]; rfl
  · refine (View.read_writes_cons_put arg11.view f (k0_off4_inb i ⟨k, hk'⟩) _ L (off4 i ⟨k, hk'⟩)).trans ?_
    unfold below putTile
    dsimp only [tile]
    rw [← r3]
    unfold tile at r1 r2
    rw [← r1, ← r2]
    rfl
  · refine (View.read_writes_cons_put arg12.view g (k0_off4_inb i ⟨k, hk'⟩) _ L' (off4 i ⟨k, hk'⟩)).trans ?_
    unfold below putTile
    dsimp only [tile]
    rw [← r4]
    unfold tile at r1 r2
    rw [← r1]
    rfl

theorem loop2 (r : BitVec 32) (v9 v13 : FVec Ideal S256x256 .bf16) (v14) (qh doh : FVec Ideal S256x128 .bf16) (lh : FVec Ideal S256x1 .f32) (w32 w33 w34) (z z')
    (X Y f g) (c₀ : Carry) :
    st_k0_t2 (F := Ideal) Variants.none c none i arg3 harg3 arg4 harg4 arg5 harg5 arg6 harg6 arg7 harg7 arg8 harg8 arg9 harg9 arg10 harg10 arg11 harg11 arg12 harg12
        r v9 v13 v14 qh doh lh w32 w33 w34 z z' X Y f g c₀ (k0_t2_loop i).trips = (c₀, [], []) := by
  rw [trips2]; rfl

theorem loop4 (r : BitVec 32) (v9 v13 : FVec Ideal S256x256 .bf16) (v14) (w18 : FVec Ideal S256x128 .bf16) (w20 : FVec Ideal S256x128 .f32) (qh w126 : FVec Ideal S256x128 .bf16) (w128 : IVec S256x128 1) (z)
    (X Y f g) (c₀ : Carry) :
    st_k0_t4 (F := Ideal) Variants.none c none i arg3 harg3 arg4 harg4 arg5 harg5 arg6 harg6 arg7 harg7 arg8 harg8 arg9 harg9 arg10 harg10 arg11 harg11 arg12 harg12
        r v9 v13 v14 w18 w20 qh w126 w128 z X Y f g c₀ (k0_t4_loop i).trips = (c₀, [], []) := by
  rw [trips4]; rfl

/-- The lane numbers. -/
def lanes : IVec S1x128 32 := iota .tc S1x128 32 [1] iota_S1x128_d1_w32

/-- The three tiles a head works on: the pair's, with the other head's lanes put to zero. -/
def q0 (x0 : Vec Ideal S256x128 .bf16) : FVec Ideal S256x128 .bf16 := k0_pay46 x0
def d0 (x3 : Vec Ideal S256x128 .bf16) : FVec Ideal S256x128 .bf16 := k0_pay47 x3
def l0 (x4 : Vec Ideal S256x128 .f32) : FVec Ideal S256x1 .f32 := k0_pay48 x4
def q1 (x0 : Vec Ideal S256x128 .bf16) : FVec Ideal S256x128 .bf16 := k0_pay77 lanes (k0_pay42 x0)
def d1 (x3 : Vec Ideal S256x128 .bf16) : FVec Ideal S256x128 .bf16 := k0_pay80 (k0_pay43 x3) k0_pay78 (k0_pay79 lanes)
def l1 (x4 : Vec Ideal S256x128 .f32) : FVec Ideal S256x1 .f32 := k0_pay81 (k0_pay44 x4)

/-- A query tile: both heads in turn, and the query gradient of the pair. -/
def pairTile (n : Fin 8) (A B : Vec Ideal S2048x128 .f32) : FVec Ideal S256x128 .bf16 × Vec Ideal S2048x128 .f32 × Vec Ideal S2048x128 .f32 :=
  let H := headTile (q0 x0) (d0 x3) (l0 x4) x1 x2 n A B
  let K := headTile (q1 x0) (d1 x3) (l1 x4) x1 x2 n H.2.1 H.2.2
  (k0_pay2 lanes H.1 K.1, K.2.1, K.2.2)

/-- Key tile `i 2` as the program loads it. -/
abbrev kT : Vec Ideal S256x128 .bf16 := arg4.view.readAt (Elt Ideal) (Rect.unit (s := S2048x128) (k0_off3 i) S256x128.size (k0_off3_inb i)).toLoadRect (harg4.unread x1)
abbrev vT : Vec Ideal S256x128 .bf16 := arg5.view.readAt (Elt Ideal) (Rect.unit (s := S2048x128) (k0_off3 i) S256x128.size (k0_off3_inb i)).toLoadRect (harg5.unread x2)
abbrev old11 (f : arg11.view.ty.Contents (Elt Ideal)) : Vec Ideal S256x128 .f32 := arg11.view.readAt (Elt Ideal) (Rect.unit (s := S2048x128) (k0_off3 i) S256x128.size (k0_off3_inb i)).toLoadRect f
abbrev piece11 (w : Vec Ideal S256x128 .f32) : View.Piece (Elt Ideal) S2048x128 .f32 := ⟨Rect.unit (s := S2048x128) (k0_off3 i) S256x128.size (k0_off3_inb i), w⟩

theorem kT_eq (n : Fin 8) (hn : i 2 = n) : kT i arg4 harg4 x1 = tile x1 n := by
  have e : k0_off3 i = ![256 * n.val, 0] := by rw [off3, hn]
  rw [kT, View.readAt_unit arg4.view _ _ e (tile_inb n), harg4.read_unread]; rfl

theorem old_eq (n : Fin 8) (hn : i 2 = n) (f : arg11.view.ty.Contents (Elt Ideal)) : old11 i arg11 f = tile (arg11.view.read (Elt Ideal) f) n := by
  have e : k0_off3 i = ![256 * n.val, 0] := by rw [off3, hn]
  rw [old11, View.readAt_unit arg11.view _ _ e (tile_inb n)]; rfl

theorem put_eq (n : Fin 8) (hn : i 2 = n) (f : arg11.view.ty.Contents (Elt Ideal)) (w : Vec Ideal S256x128 .f32) (L) :
    arg11.view.read (Elt Ideal) (arg11.view.writes (Elt Ideal) f (piece11 i w :: L)) = putTile (arg11.view.read (Elt Ideal) (arg11.view.writes (Elt Ideal) f L)) n w := by
  have e : k0_off3 i = ![256 * n.val, 0] := by rw [off3, hn]
  exact View.read_writes_cons_put arg11.view f (k0_off3_inb i) w L e

/-- The rows a head's diagonal step leaves in the first accumulator, and in the second. -/
abbrev rowsA (qh doh : FVec Ideal S256x128 .bf16) (lh : FVec Ideal S256x1 .f32) (kj vj : Vec Ideal S256x128 .bf16) (C : Carry) (o : Vec Ideal S256x128 .f32) : FVec Ideal S256x128 .f32 :=
  k0_pay74 k0_pay40 k0_pay41 qh C.2.2 (k0_pay67 qh kj) (k0_pay69 k0_pay39 k0_pay41 qh doh lh C.2.1 kj vj) (k0_pay70 k0_pay39 k0_pay41 qh doh lh C.2.1 kj vj) (k0_pay71 k0_pay39 k0_pay41 qh doh lh C.2.1 kj vj) o
abbrev rowsB (qh doh : FVec Ideal S256x128 .bf16) (lh : FVec Ideal S256x1 .f32) (kj : Vec Ideal S256x128 .bf16) (C : Carry) (o : Vec Ideal S256x128 .f32) : FVec Ideal S256x128 .f32 :=
  k0_pay75 doh (k0_pay68 k0_pay39 k0_pay41 qh lh C.2.1 kj) o
abbrev gradQ (qh doh : FVec Ideal S256x128 .bf16) (lh : FVec Ideal S256x1 .f32) (kj vj : Vec Ideal S256x128 .bf16) (C : Carry) : FVec Ideal S256x128 .f32 :=
  k0_pay73 k0_pay40 k0_pay41 C.1 C.2.2 (k0_pay64 kj) (k0_pay67 qh kj) (k0_pay69 k0_pay39 k0_pay41 qh doh lh C.2.1 kj vj) (k0_pay70 k0_pay39 k0_pay41 qh doh lh C.2.1 kj vj) (k0_pay71 k0_pay39 k0_pay41 qh doh lh C.2.1 kj vj)

/-- One head's pieces, the loop's and the diagonal step's, read as the plain step. -/
theorem head_read (n : Fin 8) (hn : i 2 = n) (qh doh : FVec Ideal S256x128 .bf16) (lh : FVec Ideal S256x1 .f32)
    (f : arg11.view.ty.Contents (Elt Ideal)) (g : arg12.view.ty.Contents (Elt Ideal)) (T U : Carry × List (View.Piece (Elt Ideal) S2048x128 .f32) × List (View.Piece (Elt Ideal) S2048x128 .f32))
    (hT : (T.1, arg11.view.read (Elt Ideal) (arg11.view.writes (Elt Ideal) f T.2.1), arg12.view.read (Elt Ideal) (arg12.view.writes (Elt Ideal) g T.2.2))
      = steps (below qh doh lh x1 x2) ((k0_pay49, k0_pay50, k0_pay51), arg11.view.read (Elt Ideal) f, arg12.view.read (Elt Ideal) g) n.val)
    (hU : U = (T.1, [], [])) :
    (gradQ qh doh lh (kT i arg4 harg4 x1) (vT i arg5 harg5 x2) U.1,
      arg11.view.read (Elt Ideal) (arg11.view.writes (Elt Ideal) f (piece11 i (rowsA qh doh lh (kT i arg4 harg4 x1) (vT i arg5 harg5 x2) U.1 (old11 i arg11 (arg11.view.writes (Elt Ideal) f (U.2.1 ++ T.2.1)))) :: (U.2.1 ++ T.2.1))),
      arg12.view.read (Elt Ideal) (arg12.view.writes (Elt Ideal) g (piece11 i (rowsB qh doh lh (kT i arg4 harg4 x1) U.1 (old11 i arg12 (arg12.view.writes (Elt Ideal) g (U.2.2 ++ T.2.2)))) :: (U.2.2 ++ T.2.2))))
      = headTile qh doh lh x1 x2 n (arg11.view.read (Elt Ideal) f) (arg12.view.read (Elt Ideal) g) := by
  subst hU
  simp only [List.nil_append]
  rw [put_eq i arg11 n hn, put_eq i arg12 n hn, old_eq i arg11 n hn, old_eq i arg12 n hn, kT_eq i arg4 harg4 x1 n hn,
    show vT i arg5 harg5 x2 = tile x2 n from kT_eq i arg5 harg5 x2 n hn]
  unfold headTile
  rw [← hT]
  rfl

/-- The loops' operands the program computes beside. -/
abbrev qi : BitVec 32 := BitVec.ofNat 32 (i 2).val
abbrev bnd : BitVec 32 := Scalar.addi 0#32 (Scalar.muli (Scalar.divsi (Scalar.subi (BitVec.ofNat 32 (i 2).val) 0#32) 1#32) 1#32)

/-- What a loop leaves: its carry and the pieces it wrote to the two accumulators. -/
abbrev Out := Carry × List (View.Piece (Elt Ideal) S2048x128 .f32) × List (View.Piece (Elt Ideal) S2048x128 .f32)

/-- The four loops of a query tile: each head's over the tiles below the diagonal, and its empty remainder. -/
def T1 (f : arg11.view.ty.Contents (Elt Ideal)) (g : arg12.view.ty.Contents (Elt Ideal)) : Out :=
  st_k0_t1 (F := Ideal) Variants.none c none i arg3 harg3 arg4 harg4 arg5 harg5 arg6 harg6 arg7 harg7 arg8 harg8 arg9 harg9 arg10 harg10 arg11 harg11 arg12 harg12 (qi i) k0_pay39 k0_pay40 k0_pay41 (q0 x0) (d0 x3) (l0 x4) k0_pay49 k0_pay50 k0_pay51 0#32 (bnd i)
    (harg4.unread x1) (harg5.unread x2) f g (k0_pay49, k0_pay50, k0_pay51) (k0_t1_loop i).trips
def T2 (f : arg11.view.ty.Contents (Elt Ideal)) (g : arg12.view.ty.Contents (Elt Ideal)) (C : Carry) : Out :=
  st_k0_t2 (F := Ideal) Variants.none c none i arg3 harg3 arg4 harg4 arg5 harg5 arg6 harg6 arg7 harg7 arg8 harg8 arg9 harg9 arg10 harg10 arg11 harg11 arg12 harg12 (qi i) k0_pay39 k0_pay40 k0_pay41 (q0 x0) (d0 x3) (l0 x4) k0_pay49 k0_pay50 k0_pay51 0#32 (bnd i)
    (harg4.unread x1) (harg5.unread x2) f g C (k0_t2_loop i).trips
def T3 (f : arg11.view.ty.Contents (Elt Ideal)) (g : arg12.view.ty.Contents (Elt Ideal)) : Out :=
  st_k0_t3 (F := Ideal) Variants.none c none i arg3 harg3 arg4 harg4 arg5 harg5 arg6 harg6 arg7 harg7 arg8 harg8 arg9 harg9 arg10 harg10 arg11 harg11 arg12 harg12 (qi i) k0_pay39 k0_pay40 k0_pay41 (k0_pay43 x3) (k0_pay44 x4) (q1 x0) k0_pay78 (k0_pay79 lanes)
    (harg4.unread x1) (harg5.unread x2) f g (k0_pay82, k0_pay83, k0_pay84) (k0_t3_loop i).trips
def T4 (f : arg11.view.ty.Contents (Elt Ideal)) (g : arg12.view.ty.Contents (Elt Ideal)) (C : Carry) : Out :=
  st_k0_t4 (F := Ideal) Variants.none c none i arg3 harg3 arg4 harg4 arg5 harg5 arg6 harg6 arg7 harg7 arg8 harg8 arg9 harg9 arg10 harg10 arg11 harg11 arg12 harg12 (qi i) k0_pay39 k0_pay40 k0_pay41 (k0_pay43 x3) (k0_pay44 x4) (q1 x0) k0_pay78 (k0_pay79 lanes) (bnd i)
    (harg4.unread x1) (harg5.unread x2) f g C (k0_t4_loop i).trips

theorem T1_read (n : Fin 8) (hn : i 2 = n) (f : arg11.view.ty.Contents (Elt Ideal)) (g : arg12.view.ty.Contents (Elt Ideal)) :
    (fun st : Out => (st.1, arg11.view.read (Elt Ideal) (arg11.view.writes (Elt Ideal) f st.2.1), arg12.view.read (Elt Ideal) (arg12.view.writes (Elt Ideal) g st.2.2)))
      (T1 c i arg3 harg3 arg4 harg4 arg5 harg5 arg6 harg6 arg7 harg7 arg8 harg8 arg9 harg9 arg10 harg10 arg11 harg11 arg12 harg12 x0 x1 x2 x3 x4 f g)
      = steps (below (q0 x0) (d0 x3) (l0 x4) x1 x2) ((k0_pay49, k0_pay50, k0_pay51), arg11.view.read (Elt Ideal) f, arg12.view.read (Elt Ideal) g) n.val := by
  have ht : (k0_t1_loop i).trips = n.val := (trips1 i).trans (congrArg Fin.val hn)
  rw [← ht]
  exact loop1 c i arg3 harg3 arg4 harg4 arg5 harg5 arg6 harg6 arg7 harg7 arg8 harg8 arg9 harg9 arg10 harg10 arg11 harg11 arg12 harg12 x1 x2 _ _ _ _ _ _ _ _ _ f g _ _ le_rfl

theorem T3_read (n : Fin 8) (hn : i 2 = n) (f : arg11.view.ty.Contents (Elt Ideal)) (g : arg12.view.ty.Contents (Elt Ideal)) :
    (fun st : Out => (st.1, arg11.view.read (Elt Ideal) (arg11.view.writes (Elt Ideal) f st.2.1), arg12.view.read (Elt Ideal) (arg12.view.writes (Elt Ideal) g st.2.2)))
      (T3 c i arg3 harg3 arg4 harg4 arg5 harg5 arg6 harg6 arg7 harg7 arg8 harg8 arg9 harg9 arg10 harg10 arg11 harg11 arg12 harg12 x0 x1 x2 x3 x4 f g)
      = steps (below (q1 x0) (d1 x3) (l1 x4) x1 x2) ((k0_pay49, k0_pay50, k0_pay51), arg11.view.read (Elt Ideal) f, arg12.view.read (Elt Ideal) g) n.val := by
  have ht : (k0_t3_loop i).trips = n.val := (trips3 i).trans (congrArg Fin.val hn)
  rw [← ht]
  exact loop3 c i arg3 harg3 arg4 harg4 arg5 harg5 arg6 harg6 arg7 harg7 arg8 harg8 arg9 harg9 arg10 harg10 arg11 harg11 arg12 harg12 x1 x2 _ _ _ _ _ _ f g _ _ le_rfl

theorem T2_eq (f g C) : T2 c i arg3 harg3 arg4 harg4 arg5 harg5 arg6 harg6 arg7 harg7 arg8 harg8 arg9 harg9 arg10 harg10 arg11 harg11 arg12 harg12 x0 x1 x2 x3 x4 f g C = (C, [], []) := loop2 c i arg3 harg3 arg4 harg4 arg5 harg5 arg6 harg6 arg7 harg7 arg8 harg8 arg9 harg9 arg10 harg10 arg11 harg11 arg12 harg12 _ _ _ _ _ _ _ _ _ _ _ _ _ _ f g C
theorem T4_eq (f g C) : T4 c i arg3 harg3 arg4 harg4 arg5 harg5 arg6 harg6 arg7 harg7 arg8 harg8 arg9 harg9 arg10 harg10 arg11 harg11 arg12 harg12 x0 x1 x2 x3 x4 f g C = (C, [], []) := loop4 c i arg3 harg3 arg4 harg4 arg5 harg5 arg6 harg6 arg7 harg7 arg8 harg8 arg9 harg9 arg10 harg10 arg11 harg11 arg12 harg12 _ _ _ _ _ _ _ _ _ _ _ _ f g C

/-- The pieces one head leaves over contents `f` and `g`, from its two loops. -/
def heads11 (qh doh : FVec Ideal S256x128 .bf16) (lh : FVec Ideal S256x1 .f32) (f : arg11.view.ty.Contents (Elt Ideal)) (T U : Out) : List (View.Piece (Elt Ideal) S2048x128 .f32) :=
  piece11 i (rowsA qh doh lh (kT i arg4 harg4 x1) (vT i arg5 harg5 x2) U.1 (old11 i arg11 (arg11.view.writes (Elt Ideal) f (U.2.1 ++ T.2.1)))) :: (U.2.1 ++ T.2.1)
def heads12 (qh doh : FVec Ideal S256x128 .bf16) (lh : FVec Ideal S256x1 .f32) (g : arg12.view.ty.Contents (Elt Ideal)) (T U : Out) : List (View.Piece (Elt Ideal) S2048x128 .f32) :=
  piece11 i (rowsB qh doh lh (kT i arg4 harg4 x1) U.1 (old11 i arg12 (arg12.view.writes (Elt Ideal) g (U.2.2 ++ T.2.2)))) :: (U.2.2 ++ T.2.2)

section tile
variable (f : arg11.view.ty.Contents (Elt Ideal)) (g : arg12.view.ty.Contents (Elt Ideal))

/-- The two heads' loops in a row. -/
def A1 : Out := T1 c i arg3 harg3 arg4 harg4 arg5 harg5 arg6 harg6 arg7 harg7 arg8 harg8 arg9 harg9 arg10 harg10 arg11 harg11 arg12 harg12 x0 x1 x2 x3 x4 f g
def A2 : Out := T2 c i arg3 harg3 arg4 harg4 arg5 harg5 arg6 harg6 arg7 harg7 arg8 harg8 arg9 harg9 arg10 harg10 arg11 harg11 arg12 harg12 x0 x1 x2 x3 x4 (arg11.view.writes (Elt Ideal) f (A1 c i arg3 harg3 arg4 harg4 arg5 harg5 arg6 harg6 arg7 harg7 arg8 harg8 arg9 harg9 arg10 harg10 arg11 harg11 arg12 harg12 x0 x1 x2 x3 x4 f g).2.1) (arg12.view.writes (Elt Ideal) g (A1 c i arg3 harg3 arg4 harg4 arg5 harg5 arg6 harg6 arg7 harg7 arg8 harg8 arg9 harg9 arg10 harg10 arg11 harg11 arg12 harg12 x0 x1 x2 x3 x4 f g).2.2) (A1 c i arg3 harg3 arg4 harg4 arg5 harg5 arg6 harg6 arg7 harg7 arg8 harg8 arg9 harg9 arg10 harg10 arg11 harg11 arg12 harg12 x0 x1 x2 x3 x4 f g).1
def A11 := heads11 i arg4 harg4 arg5 harg5 arg11 x1 x2 (q0 x0) (d0 x3) (l0 x4) f (A1 c i arg3 harg3 arg4 harg4 arg5 harg5 arg6 harg6 arg7 harg7 arg8 harg8 arg9 harg9 arg10 harg10 arg11 harg11 arg12 harg12 x0 x1 x2 x3 x4 f g) (A2 c i arg3 harg3 arg4 harg4 arg5 harg5 arg6 harg6 arg7 harg7 arg8 harg8 arg9 harg9 arg10 harg10 arg11 harg11 arg12 harg12 x0 x1 x2 x3 x4 f g)
def A12 := heads12 i arg4 harg4 arg12 x1 (q0 x0) (d0 x3) (l0 x4) g (A1 c i arg3 harg3 arg4 harg4 arg5 harg5 arg6 harg6 arg7 harg7 arg8 harg8 arg9 harg9 arg10 harg10 arg11 harg11 arg12 harg12 x0 x1 x2 x3 x4 f g) (A2 c i arg3 harg3 arg4 harg4 arg5 harg5 arg6 harg6 arg7 harg7 arg8 harg8 arg9 harg9 arg10 harg10 arg11 harg11 arg12 harg12 x0 x1 x2 x3 x4 f g)
abbrev F' := arg11.view.writes (Elt Ideal) f (A11 c i arg3 harg3 arg4 harg4 arg5 harg5 arg6 harg6 arg7 harg7 arg8 harg8 arg9 harg9 arg10 harg10 arg11 harg11 arg12 harg12 x0 x1 x2 x3 x4 f g)
abbrev G' := arg12.view.writes (Elt Ideal) g (A12 c i arg3 harg3 arg4 harg4 arg5 harg5 arg6 harg6 arg7 harg7 arg8 harg8 arg9 harg9 arg10 harg10 arg11 harg11 arg12 harg12 x0 x1 x2 x3 x4 f g)
def B1 : Out := T3 c i arg3 harg3 arg4 harg4 arg5 harg5 arg6 harg6 arg7 harg7 arg8 harg8 arg9 harg9 arg10 harg10 arg11 harg11 arg12 harg12 x0 x1 x2 x3 x4 (F' c i arg3 harg3 arg4 harg4 arg5 harg5 arg6 harg6 arg7 harg7 arg8 harg8 arg9 harg9 arg10 harg10 arg11 harg11 arg12 harg12 x0 x1 x2 x3 x4 f g) (G' c i arg3 harg3 arg4 harg4 arg5 harg5 arg6 harg6 arg7 harg7 arg8 harg8 arg9 harg9 arg10 harg10 arg11 harg11 arg12 harg12 x0 x1 x2 x3 x4 f g)
def B2 : Out := T4 c i arg3 harg3 arg4 harg4 arg5 harg5 arg6 harg6 arg7 harg7 arg8 harg8 arg9 harg9 arg10 harg10 arg11 harg11 arg12 harg12 x0 x1 x2 x3 x4 (arg11.view.writes (Elt Ideal) f ((B1 c i arg3 harg3 arg4 harg4 arg5 harg5 arg6 harg6 arg7 harg7 arg8 harg8 arg9 harg9 arg10 harg10 arg11 harg11 arg12 harg12 x0 x1 x2 x3 x4 f g).2.1 ++ A11 c i arg3 harg3 arg4 harg4 arg5 harg5 arg6 harg6 arg7 harg7 arg8 harg8 arg9 harg9 arg10 harg10 arg11 harg11 arg12 harg12 x0 x1 x2 x3 x4 f g)) (arg12.view.writes (Elt Ideal) g ((B1 c i arg3 harg3 arg4 harg4 arg5 harg5 arg6 harg6 arg7 harg7 arg8 harg8 arg9 harg9 arg10 harg10 arg11 harg11 arg12 harg12 x0 x1 x2 x3 x4 f g).2.2 ++ A12 c i arg3 harg3 arg4 harg4 arg5 harg5 arg6 harg6 arg7 harg7 arg8 harg8 arg9 harg9 arg10 harg10 arg11 harg11 arg12 harg12 x0 x1 x2 x3 x4 f g)) (B1 c i arg3 harg3 arg4 harg4 arg5 harg5 arg6 harg6 arg7 harg7 arg8 harg8 arg9 harg9 arg10 harg10 arg11 harg11 arg12 harg12 x0 x1 x2 x3 x4 f g).1
abbrev L11 := (B2 c i arg3 harg3 arg4 harg4 arg5 harg5 arg6 harg6 arg7 harg7 arg8 harg8 arg9 harg9 arg10 harg10 arg11 harg11 arg12 harg12 x0 x1 x2 x3 x4 f g).2.1 ++ ((B1 c i arg3 harg3 arg4 harg4 arg5 harg5 arg6 harg6 arg7 harg7 arg8 harg8 arg9 harg9 arg10 harg10 arg11 harg11 arg12 harg12 x0 x1 x2 x3 x4 f g).2.1 ++ A11 c i arg3 harg3 arg4 harg4 arg5 harg5 arg6 harg6 arg7 harg7 arg8 harg8 arg9 harg9 arg10 harg10 arg11 harg11 arg12 harg12 x0 x1 x2 x3 x4 f g)
abbrev L12 := (B2 c i arg3 harg3 arg4 harg4 arg5 harg5 arg6 harg6 arg7 harg7 arg8 harg8 arg9 harg9 arg10 harg10 arg11 harg11 arg12 harg12 x0 x1 x2 x3 x4 f g).2.2 ++ ((B1 c i arg3 harg3 arg4 harg4 arg5 harg5 arg6 harg6 arg7 harg7 arg8 harg8 arg9 harg9 arg10 harg10 arg11 harg11 arg12 harg12 x0 x1 x2 x3 x4 f g).2.2 ++ A12 c i arg3 harg3 arg4 harg4 arg5 harg5 arg6 harg6 arg7 harg7 arg8 harg8 arg9 harg9 arg10 harg10 arg11 harg11 arg12 harg12 x0 x1 x2 x3 x4 f g)
def B11 : List (View.Piece (Elt Ideal) S2048x128 .f32) :=
  piece11 i (rowsA (q1 x0) (d1 x3) (l1 x4) (kT i arg4 harg4 x1) (vT i arg5 harg5 x2) (B2 c i arg3 harg3 arg4 harg4 arg5 harg5 arg6 harg6 arg7 harg7 arg8 harg8 arg9 harg9 arg10 harg10 arg11 harg11 arg12 harg12 x0 x1 x2 x3 x4 f g).1 (old11 i arg11 (arg11.view.writes (Elt Ideal) f (L11 c i arg3 harg3 arg4 harg4 arg5 harg5 arg6 harg6 arg7 harg7 arg8 harg8 arg9 harg9 arg10 harg10 arg11 harg11 arg12 harg12 x0 x1 x2 x3 x4 f g)))) :: L11 c i arg3 harg3 arg4 harg4 arg5 harg5 arg6 harg6 arg7 harg7 arg8 harg8 arg9 harg9 arg10 harg10 arg11 harg11 arg12 harg12 x0 x1 x2 x3 x4 f g
def B12 : List (View.Piece (Elt Ideal) S2048x128 .f32) :=
  piece11 i (rowsB (q1 x0) (d1 x3) (l1 x4) (kT i arg4 harg4 x1) (B2 c i arg3 harg3 arg4 harg4 arg5 harg5 arg6 harg6 arg7 harg7 arg8 harg8 arg9 harg9 arg10 harg10 arg11 harg11 arg12 harg12 x0 x1 x2 x3 x4 f g).1 (old11 i arg12 (arg12.view.writes (Elt Ideal) g (L12 c i arg3 harg3 arg4 harg4 arg5 harg5 arg6 harg6 arg7 harg7 arg8 harg8 arg9 harg9 arg10 harg10 arg11 harg11 arg12 harg12 x0 x1 x2 x3 x4 f g)))) :: L12 c i arg3 harg3 arg4 harg4 arg5 harg5 arg6 harg6 arg7 harg7 arg8 harg8 arg9 harg9 arg10 harg10 arg11 harg11 arg12 harg12 x0 x1 x2 x3 x4 f g
/-- The query gradient's block. -/
def dqBlock : Vec Ideal S256x128 .bf16 :=
  k0_pay2 lanes (gradQ (q0 x0) (d0 x3) (l0 x4) (kT i arg4 harg4 x1) (vT i arg5 harg5 x2) (A2 c i arg3 harg3 arg4 harg4 arg5 harg5 arg6 harg6 arg7 harg7 arg8 harg8 arg9 harg9 arg10 harg10 arg11 harg11 arg12 harg12 x0 x1 x2 x3 x4 f g).1)
    (gradQ (q1 x0) (d1 x3) (l1 x4) (kT i arg4 harg4 x1) (vT i arg5 harg5 x2) (B2 c i arg3 harg3 arg4 harg4 arg5 harg5 arg6 harg6 arg7 harg7 arg8 harg8 arg9 harg9 arg10 harg10 arg11 harg11 arg12 harg12 x0 x1 x2 x3 x4 f g).1)

theorem tile_read (n : Fin 8) (hn : i 2 = n) :
    (dqBlock c i arg3 harg3 arg4 harg4 arg5 harg5 arg6 harg6 arg7 harg7 arg8 harg8 arg9 harg9 arg10 harg10 arg11 harg11 arg12 harg12 x0 x1 x2 x3 x4 f g, arg11.view.read (Elt Ideal) (arg11.view.writes (Elt Ideal) f (B11 c i arg3 harg3 arg4 harg4 arg5 harg5 arg6 harg6 arg7 harg7 arg8 harg8 arg9 harg9 arg10 harg10 arg11 harg11 arg12 harg12 x0 x1 x2 x3 x4 f g)), arg12.view.read (Elt Ideal) (arg12.view.writes (Elt Ideal) g (B12 c i arg3 harg3 arg4 harg4 arg5 harg5 arg6 harg6 arg7 harg7 arg8 harg8 arg9 harg9 arg10 harg10 arg11 harg11 arg12 harg12 x0 x1 x2 x3 x4 f g)))
      = pairTile x0 x1 x2 x3 x4 n (arg11.view.read (Elt Ideal) f) (arg12.view.read (Elt Ideal) g) := by
  have E := head_read i arg4 harg4 arg5 harg5 arg11 arg12 x1 x2 n hn (q0 x0) (d0 x3) (l0 x4) f g (A1 c i arg3 harg3 arg4 harg4 arg5 harg5 arg6 harg6 arg7 harg7 arg8 harg8 arg9 harg9 arg10 harg10 arg11 harg11 arg12 harg12 x0 x1 x2 x3 x4 f g) (A2 c i arg3 harg3 arg4 harg4 arg5 harg5 arg6 harg6 arg7 harg7 arg8 harg8 arg9 harg9 arg10 harg10 arg11 harg11 arg12 harg12 x0 x1 x2 x3 x4 f g)
    (T1_read c i arg3 harg3 arg4 harg4 arg5 harg5 arg6 harg6 arg7 harg7 arg8 harg8 arg9 harg9 arg10 harg10 arg11 harg11 arg12 harg12 x0 x1 x2 x3 x4 n hn f g) (T2_eq c i arg3 harg3 arg4 harg4 arg5 harg5 arg6 harg6 arg7 harg7 arg8 harg8 arg9 harg9 arg10 harg10 arg11 harg11 arg12 harg12 x0 x1 x2 x3 x4 _ _ _)
  have K := head_read i arg4 harg4 arg5 harg5 arg11 arg12 x1 x2 n hn (q1 x0) (d1 x3) (l1 x4) (F' c i arg3 harg3 arg4 harg4 arg5 harg5 arg6 harg6 arg7 harg7 arg8 harg8 arg9 harg9 arg10 harg10 arg11 harg11 arg12 harg12 x0 x1 x2 x3 x4 f g) (G' c i arg3 harg3 arg4 harg4 arg5 harg5 arg6 harg6 arg7 harg7 arg8 harg8 arg9 harg9 arg10 harg10 arg11 harg11 arg12 harg12 x0 x1 x2 x3 x4 f g) (B1 c i arg3 harg3 arg4 harg4 arg5 harg5 arg6 harg6 arg7 harg7 arg8 harg8 arg9 harg9 arg10 harg10 arg11 harg11 arg12 harg12 x0 x1 x2 x3 x4 f g) (B2 c i arg3 harg3 arg4 harg4 arg5 harg5 arg6 harg6 arg7 harg7 arg8 harg8 arg9 harg9 arg10 harg10 arg11 harg11 arg12 harg12 x0 x1 x2 x3 x4 f g)
    (T3_read c i arg3 harg3 arg4 harg4 arg5 harg5 arg6 harg6 arg7 harg7 arg8 harg8 arg9 harg9 arg10 harg10 arg11 harg11 arg12 harg12 x0 x1 x2 x3 x4 n hn _ _) (T4_eq c i arg3 harg3 arg4 harg4 arg5 harg5 arg6 harg6 arg7 harg7 arg8 harg8 arg9 harg9 arg10 harg10 arg11 harg11 arg12 harg12 x0 x1 x2 x3 x4 _ _ _)
  unfold pairTile
  rw [← E]
  dsimp only
  have e1 : arg11.view.writes (Elt Ideal) f (L11 c i arg3 harg3 arg4 harg4 arg5 harg5 arg6 harg6 arg7 harg7 arg8 harg8 arg9 harg9 arg10 harg10 arg11 harg11 arg12 harg12 x0 x1 x2 x3 x4 f g) = arg11.view.writes (Elt Ideal) (F' c i arg3 harg3 arg4 harg4 arg5 harg5 arg6 harg6 arg7 harg7 arg8 harg8 arg9 harg9 arg10 harg10 arg11 harg11 arg12 harg12 x0 x1 x2 x3 x4 f g) ((B2 c i arg3 harg3 arg4 harg4 arg5 harg5 arg6 harg6 arg7 harg7 arg8 harg8 arg9 harg9 arg10 harg10 arg11 harg11 arg12 harg12 x0 x1 x2 x3 x4 f g).2.1 ++ (B1 c i arg3 harg3 arg4 harg4 arg5 harg5 arg6 harg6 arg7 harg7 arg8 harg8 arg9 harg9 arg10 harg10 arg11 harg11 arg12 harg12 x0 x1 x2 x3 x4 f g).2.1) := by
    rw [L11, ← List.append_assoc, View.writes_append]
  have e2 : arg12.view.writes (Elt Ideal) g (L12 c i arg3 harg3 arg4 harg4 arg5 harg5 arg6 harg6 arg7 harg7 arg8 harg8 arg9 harg9 arg10 harg10 arg11 harg11 arg12 harg12 x0 x1 x2 x3 x4 f g) = arg12.view.writes (Elt Ideal) (G' c i arg3 harg3 arg4 harg4 arg5 harg5 arg6 harg6 arg7 harg7 arg8 harg8 arg9 harg9 arg10 harg10 arg11 harg11 arg12 harg12 x0 x1 x2 x3 x4 f g) ((B2 c i arg3 harg3 arg4 harg4 arg5 harg5 arg6 harg6 arg7 harg7 arg8 harg8 arg9 harg9 arg10 harg10 arg11 harg11 arg12 harg12 x0 x1 x2 x3 x4 f g).2.2 ++ (B1 c i arg3 harg3 arg4 harg4 arg5 harg5 arg6 harg6 arg7 harg7 arg8 harg8 arg9 harg9 arg10 harg10 arg11 harg11 arg12 harg12 x0 x1 x2 x3 x4 f g).2.2) := by
    rw [L12, ← List.append_assoc, View.writes_append]
  rw [show arg11.view.writes (Elt Ideal) f (piece11 i (rowsA (q0 x0) (d0 x3) (l0 x4) (kT i arg4 harg4 x1) (vT i arg5 harg5 x2) (A2 c i arg3 harg3 arg4 harg4 arg5 harg5 arg6 harg6 arg7 harg7 arg8 harg8 arg9 harg9 arg10 harg10 arg11 harg11 arg12 harg12 x0 x1 x2 x3 x4 f g).1
      (old11 i arg11 (arg11.view.writes (Elt Ideal) f ((A2 c i arg3 harg3 arg4 harg4 arg5 harg5 arg6 harg6 arg7 harg7 arg8 harg8 arg9 harg9 arg10 harg10 arg11 harg11 arg12 harg12 x0 x1 x2 x3 x4 f g).2.1 ++ (A1 c i arg3 harg3 arg4 harg4 arg5 harg5 arg6 harg6 arg7 harg7 arg8 harg8 arg9 harg9 arg10 harg10 arg11 harg11 arg12 harg12 x0 x1 x2 x3 x4 f g).2.1)))) :: ((A2 c i arg3 harg3 arg4 harg4 arg5 harg5 arg6 harg6 arg7 harg7 arg8 harg8 arg9 harg9 arg10 harg10 arg11 harg11 arg12 harg12 x0 x1 x2 x3 x4 f g).2.1 ++ (A1 c i arg3 harg3 arg4 harg4 arg5 harg5 arg6 harg6 arg7 harg7 arg8 harg8 arg9 harg9 arg10 harg10 arg11 harg11 arg12 harg12 x0 x1 x2 x3 x4 f g).2.1)) = F' c i arg3 harg3 arg4 harg4 arg5 harg5 arg6 harg6 arg7 harg7 arg8 harg8 arg9 harg9 arg10 harg10 arg11 harg11 arg12 harg12 x0 x1 x2 x3 x4 f g from rfl,
    show arg12.view.writes (Elt Ideal) g (piece11 i (rowsB (q0 x0) (d0 x3) (l0 x4) (kT i arg4 harg4 x1) (A2 c i arg3 harg3 arg4 harg4 arg5 harg5 arg6 harg6 arg7 harg7 arg8 harg8 arg9 harg9 arg10 harg10 arg11 harg11 arg12 harg12 x0 x1 x2 x3 x4 f g).1
      (old11 i arg12 (arg12.view.writes (Elt Ideal) g ((A2 c i arg3 harg3 arg4 harg4 arg5 harg5 arg6 harg6 arg7 harg7 arg8 harg8 arg9 harg9 arg10 harg10 arg11 harg11 arg12 harg12 x0 x1 x2 x3 x4 f g).2.2 ++ (A1 c i arg3 harg3 arg4 harg4 arg5 harg5 arg6 harg6 arg7 harg7 arg8 harg8 arg9 harg9 arg10 harg10 arg11 harg11 arg12 harg12 x0 x1 x2 x3 x4 f g).2.2)))) :: ((A2 c i arg3 harg3 arg4 harg4 arg5 harg5 arg6 harg6 arg7 harg7 arg8 harg8 arg9 harg9 arg10 harg10 arg11 harg11 arg12 harg12 x0 x1 x2 x3 x4 f g).2.2 ++ (A1 c i arg3 harg3 arg4 harg4 arg5 harg5 arg6 harg6 arg7 harg7 arg8 harg8 arg9 harg9 arg10 harg10 arg11 harg11 arg12 harg12 x0 x1 x2 x3 x4 f g).2.2)) = G' c i arg3 harg3 arg4 harg4 arg5 harg5 arg6 harg6 arg7 harg7 arg8 harg8 arg9 harg9 arg10 harg10 arg11 harg11 arg12 harg12 x0 x1 x2 x3 x4 f g from rfl, ← K]
  unfold B11 B12
  rw [put_eq i arg11 n hn, put_eq i arg12 n hn, put_eq i arg11 n hn, put_eq i arg12 n hn, e1, e2]
  rfl
end tile

abbrev X0 := arg3.view.readAt (Elt Ideal) (Rect.unit (s := S256x128) ![0, 0] S256x128.size inb_S256x128_S256x128_0_0).toLoadRect (harg3.unread x0)
abbrev X4 := arg7.view.readAt (Elt Ideal) (Rect.unit (s := S256x128) ![0, 0] S256x128.size inb_S256x128_S256x128_0_0).toLoadRect (harg7.unread x4)

/-- A block of the body's own sizes read whole. -/
theorem whole3 : X0 arg3 harg3 x0 = x0 := by
  rw [X0, View.readAt_full, harg3.read_unread]
theorem whole7 : X4 arg7 harg7 x4 = x4 := by
  rw [X4, View.readAt_full, harg7.read_unread]

set_option maxHeartbeats 4000000 in
theorem middle_read (n : Fin 8) (hn : i 2 = n) (X11 X12 : Vec Ideal S2048x128 .f32) (h0 h1) (f8 : arg8.view.ty.Contents (Elt Ideal)) :
    (arg8.view.read (Elt Ideal) (arg8.view.writes (Elt Ideal) f8 (middle c i arg3 harg3 arg4 harg4 arg5 harg5 arg6 harg6 arg7 harg7 arg8 harg8 arg9 harg9 arg10 harg10 arg11 harg11 arg12 harg12 x0 x1 x2 x3 x4 X11 X12 h0 h1).1),
      arg11.view.read (Elt Ideal) (middle c i arg3 harg3 arg4 harg4 arg5 harg5 arg6 harg6 arg7 harg7 arg8 harg8 arg9 harg9 arg10 harg10 arg11 harg11 arg12 harg12 x0 x1 x2 x3 x4 X11 X12 h0 h1).2.1,
      arg12.view.read (Elt Ideal) (middle c i arg3 harg3 arg4 harg4 arg5 harg5 arg6 harg6 arg7 harg7 arg8 harg8 arg9 harg9 arg10 harg10 arg11 harg11 arg12 harg12 x0 x1 x2 x3 x4 X11 X12 h0 h1).2.2.1)
      = pairTile x0 x1 x2 x3 x4 n X11 X12 := by
  have E := tile_read c i arg3 harg3 arg4 harg4 arg5 harg5 arg6 harg6 arg7 harg7 arg8 harg8 arg9 harg9 arg10 harg10 arg11 harg11 arg12 harg12 (X0 arg3 harg3 x0) x1 x2 (X0 arg6 harg6 x3) (X4 arg7 harg7 x4) (harg11.unread X11) (harg12.unread X12) n hn
  rw [harg11.read_unread, harg12.read_unread, show pairTile (X0 arg3 harg3 x0) x1 x2 (X0 arg6 harg6 x3) (X4 arg7 harg7 x4) = pairTile x0 x1 x2 x3 x4 from by
    rw [whole3, whole3, whole7]] at E
  rw [← E]
  refine Prod.ext ?_ (Prod.ext ?_ ?_)
  · exact View.read_writes_full arg8.view f8 _ _ []
  · exact rfl
  · exact rfl

set_option maxHeartbeats 4000000 in
theorem opening_read (n : Fin 8) (hn : i 2 = n) (h0 h1) (f8 : arg8.view.ty.Contents (Elt Ideal)) :
    (arg8.view.read (Elt Ideal) (arg8.view.writes (Elt Ideal) f8 (opening c i arg3 harg3 arg4 harg4 arg5 harg5 arg6 harg6 arg7 harg7 arg8 harg8 arg9 harg9 arg10 harg10 arg11 harg11 arg12 harg12 x0 x1 x2 x3 x4 h0 h1).1),
      arg11.view.read (Elt Ideal) (opening c i arg3 harg3 arg4 harg4 arg5 harg5 arg6 harg6 arg7 harg7 arg8 harg8 arg9 harg9 arg10 harg10 arg11 harg11 arg12 harg12 x0 x1 x2 x3 x4 h0 h1).2.1,
      arg12.view.read (Elt Ideal) (opening c i arg3 harg3 arg4 harg4 arg5 harg5 arg6 harg6 arg7 harg7 arg8 harg8 arg9 harg9 arg10 harg10 arg11 harg11 arg12 harg12 x0 x1 x2 x3 x4 h0 h1).2.2.1)
      = pairTile x0 x1 x2 x3 x4 n (k0_pay37 (F := Ideal)) (k0_pay38 (F := Ideal)) := by
  have E := tile_read c i arg3 harg3 arg4 harg4 arg5 harg5 arg6 harg6 arg7 harg7 arg8 harg8 arg9 harg9 arg10 harg10 arg11 harg11 arg12 harg12 (X0 arg3 harg3 x0) x1 x2 (X0 arg6 harg6 x3) (X4 arg7 harg7 x4) (harg11.unread (k0_pay37 (F := Ideal))) (harg12.unread (k0_pay38 (F := Ideal))) n hn
  rw [harg11.read_unread, harg12.read_unread, show pairTile (X0 arg3 harg3 x0) x1 x2 (X0 arg6 harg6 x3) (X4 arg7 harg7 x4) = pairTile x0 x1 x2 x3 x4 from by
    rw [whole3, whole3, whole7]] at E
  rw [← E]
  refine Prod.ext ?_ (Prod.ext ?_ ?_)
  · exact View.read_writes_full arg8.view f8 _ _ []
  · exact rfl
  · exact rfl

set_option maxHeartbeats 4000000 in
theorem closing_read (n : Fin 8) (hn : i 2 = n) (X11 X12 : Vec Ideal S2048x128 .f32) (h0 h1) (f8 : arg8.view.ty.Contents (Elt Ideal)) :
    (arg8.view.read (Elt Ideal) (arg8.view.writes (Elt Ideal) f8 (closing c i arg3 harg3 arg4 harg4 arg5 harg5 arg6 harg6 arg7 harg7 arg8 harg8 arg9 harg9 arg10 harg10 arg11 harg11 arg12 harg12 x0 x1 x2 x3 x4 X11 X12 h0 h1).1),
      arg11.view.read (Elt Ideal) (closing c i arg3 harg3 arg4 harg4 arg5 harg5 arg6 harg6 arg7 harg7 arg8 harg8 arg9 harg9 arg10 harg10 arg11 harg11 arg12 harg12 x0 x1 x2 x3 x4 X11 X12 h0 h1).2.2.2.1,
      arg12.view.read (Elt Ideal) (closing c i arg3 harg3 arg4 harg4 arg5 harg5 arg6 harg6 arg7 harg7 arg8 harg8 arg9 harg9 arg10 harg10 arg11 harg11 arg12 harg12 x0 x1 x2 x3 x4 X11 X12 h0 h1).2.2.2.2.1)
      = pairTile x0 x1 x2 x3 x4 n X11 X12 := by
  have E := tile_read c i arg3 harg3 arg4 harg4 arg5 harg5 arg6 harg6 arg7 harg7 arg8 harg8 arg9 harg9 arg10 harg10 arg11 harg11 arg12 harg12 (X0 arg3 harg3 x0) x1 x2 (X0 arg6 harg6 x3) (X4 arg7 harg7 x4) (harg11.unread X11) (harg12.unread X12) n hn
  rw [harg11.read_unread, harg12.read_unread, show pairTile (X0 arg3 harg3 x0) x1 x2 (X0 arg6 harg6 x3) (X4 arg7 harg7 x4) = pairTile x0 x1 x2 x3 x4 from by
    rw [whole3, whole3, whole7]] at E
  rw [← E]
  refine Prod.ext ?_ (Prod.ext ?_ ?_)
  · exact View.read_writes_full arg8.view f8 _ _ []
  · exact rfl
  · exact rfl

/-- The key gradients' blocks are what the accumulators end with. -/
theorem closing_out (n : Fin 8) (hn : i 2 = n) (X11 X12 : Vec Ideal S2048x128 .f32) (h0 h1) (f9 : arg9.view.ty.Contents (Elt Ideal)) (f10 : arg10.view.ty.Contents (Elt Ideal)) :
    arg9.view.read (Elt Ideal) (arg9.view.writes (Elt Ideal) f9 (closing c i arg3 harg3 arg4 harg4 arg5 harg5 arg6 harg6 arg7 harg7 arg8 harg8 arg9 harg9 arg10 harg10 arg11 harg11 arg12 harg12 x0 x1 x2 x3 x4 X11 X12 h0 h1).2.1) = k0_pay3 (arg11.view.read (Elt Ideal) (closing c i arg3 harg3 arg4 harg4 arg5 harg5 arg6 harg6 arg7 harg7 arg8 harg8 arg9 harg9 arg10 harg10 arg11 harg11 arg12 harg12 x0 x1 x2 x3 x4 X11 X12 h0 h1).2.2.2.1)
      ∧ arg10.view.read (Elt Ideal) (arg10.view.writes (Elt Ideal) f10 (closing c i arg3 harg3 arg4 harg4 arg5 harg5 arg6 harg6 arg7 harg7 arg8 harg8 arg9 harg9 arg10 harg10 arg11 harg11 arg12 harg12 x0 x1 x2 x3 x4 X11 X12 h0 h1).2.2.1) = k0_pay4 (arg12.view.read (Elt Ideal) (closing c i arg3 harg3 arg4 harg4 arg5 harg5 arg6 harg6 arg7 harg7 arg8 harg8 arg9 harg9 arg10 harg10 arg11 harg11 arg12 harg12 x0 x1 x2 x3 x4 X11 X12 h0 h1).2.2.2.2.1) := by
  refine ⟨(View.read_writes_full arg9.view f9 _ _ []).trans ?_, (View.read_writes_full arg10.view f10 _ _ []).trans ?_⟩
  · exact congrArg k0_pay3 (View.readAt_full arg11.view _ _)
  · exact congrArg k0_pay4 (View.readAt_full arg12.view _ _)

end Cert.AttnIdeal.Body
-- ==== Proof.AttnReal.lean ====
/- The loop's carried values over real numbers: the stick-breaking weights and their derivative, tile by tile. -/
module

public import proofs.«01_k».proof.Proof.AttnLoop
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnIdeal.Body

open Idealize.ShloMosaic Idealize.ShloMosaic.TcCoe Idealize.ShloMosaic.Tactic
open Idealize.ShloMosaic.Pipeline (Dat Cfg Window BodyObligation cellOf)
open Cert.AttnIdeal.Gen

/-! ## The gradient over the reals

One head of one sequence: rows are positions, lanes the pair's 128, those of the other head zero in `Q` and `D`. -/

/-- `log (1 + exp x)`, as the programs write it. -/
def sp (x : ℝ) : ℝ := max x 0 + Real.log (1 + Real.exp (-|x|))

section spec
variable (Q K V D : ℕ → ℕ → ℝ) (lt : ℕ → ℝ)

/-- The logit of query `t` against key `s`. -/
def zz (t s : ℕ) : ℝ := ∑ l ∈ Finset.range 128, Q t l * K s l
/-- The log of a break, where the key comes before the query. -/
def lg (t s : ℕ) : ℝ := if s < t then -sp (zz Q K t s) else 0
/-- The weight's gradient. -/
def gv (t s : ℕ) : ℝ := ∑ l ∈ Finset.range 128, D t l * V s l
/-- The weight, the row's sum of logs less the part up to the key being the part after it. -/
def wt (t s : ℕ) : ℝ := if s < t then Real.exp (zz Q K t s - sp (zz Q K t s) + (lt t - ∑ s' ∈ Finset.range (s + 1), lg Q K t s')) else 0
/-- The gradient of the weight's log. -/
def gg (t s : ℕ) : ℝ := wt Q K lt t s * gv V D t s
/-- The logit's gradient. -/
def dz (t s : ℕ) : ℝ :=
  if s < t then gg Q K V D lt t s * (1 - Real.exp (zz Q K t s - sp (zz Q K t s)))
    - Real.exp (zz Q K t s - sp (zz Q K t s)) * ∑ s' ∈ Finset.range s, gg Q K V D lt t s' else 0
end spec

/-! ## Finite extended reals -/

theorem coe_sum {ι : Type*} (S : Finset ι) (f : ι → ℝ) : (∑ x ∈ S, (f x : EReal)) = ((∑ x ∈ S, f x : ℝ) : EReal) := by
  classical
  induction S using Finset.induction_on with
  | empty => simp
  | insert a S h ih => rw [Finset.sum_insert h, Finset.sum_insert h, ih, EReal.coe_add]

theorem abs_coe (x : ℝ) : (FloatOps.absf (F := Ideal) (φ := .f32) (x : EReal) : EReal) = ((|x| : ℝ) : EReal) := by
  show max (x : EReal) (-(x : EReal)) = _
  rw [← EReal.coe_neg, ← EReal.coe_strictMono.monotone.map_max]; rfl

theorem log_pos_coe (x : ℝ) (h : 0 < x) : Ideal.log (x : EReal) = ((Real.log x : ℝ) : EReal) := by
  rw [Ideal.log_coe, if_neg (not_le.mpr h)]

theorem max_coe (x y : ℝ) : max (x : EReal) (y : EReal) = ((max x y : ℝ) : EReal) := (EReal.coe_strictMono.monotone.map_max).symm

theorem sp_coe (x : ℝ) : max (x : EReal) 0 + Ideal.log (1 + Ideal.exp (0 - FloatOps.absf (F := Ideal) (φ := .f32) (x : EReal))) = ((sp x : ℝ) : EReal) := by
  rw [abs_coe, ← EReal.coe_zero, max_coe, ← EReal.coe_sub, Ideal.exp_coe, ← EReal.coe_one, ← EReal.coe_add,
    log_pos_coe _ (by positivity), ← EReal.coe_add, zero_sub]
  rfl

theorem word_int (a : Fin 256) : (BitVec.ofNat 32 a.val).toInt = a.val := by
  have := a.isLt
  rw [BitVec.toInt_eq_toNat_of_lt (by rw [BitVec.toNat_ofNat]; omega), BitVec.toNat_ofNat]
  omega

theorem word_lt (a b : Fin 256) : IntOp.cmpi CmpIPredicate.slt (BitVec.ofNat 32 a.val) (BitVec.ofNat 32 b.val) = if a.val < b.val then 1#1 else 0#1 := by
  show BitVec.ofBool (decide ((BitVec.ofNat 32 a.val).toInt < (BitVec.ofNat 32 b.val).toInt)) = _
  rw [word_int, word_int]
  by_cases h : a.val < b.val
  · rw [if_pos h, decide_eq_true (by exact_mod_cast h)]; rfl
  · rw [if_neg h, decide_eq_false (by exact_mod_cast h)]; rfl

theorem word_le (a b : Fin 256) : IntOp.cmpi CmpIPredicate.sle (BitVec.ofNat 32 a.val) (BitVec.ofNat 32 b.val) = if a.val ≤ b.val then 1#1 else 0#1 := by
  show BitVec.ofBool (decide ((BitVec.ofNat 32 a.val).toInt ≤ (BitVec.ofNat 32 b.val).toInt)) = _
  rw [word_int, word_int]
  by_cases h : a.val ≤ b.val
  · rw [if_pos h, decide_eq_true (by exact_mod_cast h)]; rfl
  · rw [if_neg h, decide_eq_false (by exact_mod_cast h)]; rfl

theorem sel_lt (r c : Fin 256) {α : Type} (a b : α) :
    Scalar.select (IntOp.cmpi CmpIPredicate.slt (BitVec.ofNat 32 c.val) (BitVec.ofNat 32 r.val)) a b = if c.val < r.val then a else b := by
  rw [word_lt]; split <;> rfl

theorem ind_le (x c : Fin 256) : (FloatOps.sitofp (F := Ideal) FTy.f32 (BitVec.setWidth 32 (IntOp.cmpi CmpIPredicate.sle (BitVec.ofNat 32 x.val) (BitVec.ofNat 32 c.val))) : EReal)
    = (((if x.val ≤ c.val then 1 else 0 : ℝ)) : EReal) := by
  rw [word_le]; split
  · show (((1 : ℤ) : ℝ) : EReal) = _; simp
  · show (((0 : ℤ) : ℝ) : EReal) = _; simp

theorem ind_lt (x c : Fin 256) : (FloatOps.sitofp (F := Ideal) FTy.f32 (BitVec.setWidth 32 (IntOp.cmpi CmpIPredicate.slt (BitVec.ofNat 32 x.val) (BitVec.ofNat 32 c.val))) : EReal)
    = (((if x.val < c.val then 1 else 0 : ℝ)) : EReal) := by
  rw [word_lt]; split
  · show (((1 : ℤ) : ℝ) : EReal) = _; simp
  · show (((0 : ℤ) : ℝ) : EReal) = _; simp

/-! ## Sums cut at a tile -/

theorem sum_full (f : ℕ → ℝ) (s0 : ℕ) : ∑ s ∈ Finset.range s0, f s + ∑ x : Fin 256, f (s0 + x) = ∑ s ∈ Finset.range (s0 + 256), f s := by
  rw [Finset.sum_range_add, ← Finset.sum_range (fun x => f (s0 + x))]

theorem sum_upto (f : ℕ → ℝ) (s0 n : ℕ) (hn : n ≤ 256) : ∑ s ∈ Finset.range s0, f s + ∑ x : Fin 256, (if x.val < n then f (s0 + x) else 0) = ∑ s ∈ Finset.range (s0 + n), f s := by
  rw [Finset.sum_range_add, ← Finset.sum_range (fun x => if x < n then f (s0 + x) else 0), ← Finset.sum_filter]
  congr 1
  refine Finset.sum_congr (Finset.ext fun x => ?_) fun _ _ => rfl
  simp only [Finset.mem_filter, Finset.mem_range]; omega

theorem sum_le (f : ℕ → ℝ) (s0 : ℕ) (c : Fin 256) : ∑ s ∈ Finset.range s0, f s + ∑ x : Fin 256, f (s0 + x) * (if x.val ≤ c.val then 1 else 0) = ∑ s ∈ Finset.range (s0 + c + 1), f s := by
  rw [add_assoc, ← sum_upto f s0 (c + 1) (by omega)]
  congr 1; refine Finset.sum_congr rfl fun x _ => ?_
  by_cases h : x.val ≤ c.val
  · rw [if_pos h, if_pos (by omega), mul_one]
  · rw [if_neg h, if_neg (by omega), mul_zero]

theorem sum_lt (f : ℕ → ℝ) (s0 : ℕ) (c : Fin 256) : ∑ s ∈ Finset.range s0, f s + ∑ x : Fin 256, f (s0 + x) * (if x.val < c.val then 1 else 0) = ∑ s ∈ Finset.range (s0 + c), f s := by
  rw [← sum_upto f s0 c (by omega)]
  congr 1; refine Finset.sum_congr rfl fun x _ => ?_
  by_cases h : x.val < c.val
  · rw [if_pos h, if_pos h, mul_one]
  · rw [if_neg h, if_neg h, mul_zero]

/-! ## A step's values over the reals -/

section step
variable (Q K V D : ℕ → ℕ → ℝ) (lt : ℕ → ℝ) (t0 s0 : ℕ)
  {qh doh kj vj : FVec Ideal S256x128 .bf16} {lh pl pg : FVec Ideal S256x1 .f32} {dq : FVec Ideal S256x128 .f32}
  (hq : ∀ (r : Fin 256) (l : Fin 128), qh (ix2 r l) = ((Q (t0 + r) l : ℝ) : EReal))
  (hd : ∀ (r : Fin 256) (l : Fin 128), doh (ix2 r l) = ((D (t0 + r) l : ℝ) : EReal))
  (hk : ∀ (r : Fin 256) (l : Fin 128), kj (ix2 r l) = ((K (s0 + r) l : ℝ) : EReal))
  (hv : ∀ (r : Fin 256) (l : Fin 128), vj (ix2 r l) = ((V (s0 + r) l : ℝ) : EReal))
  (hl : ∀ r : Fin 256, lh (ix2 r 0) = ((lt (t0 + r) : ℝ) : EReal))
  (hpl : ∀ r : Fin 256, pl (ix2 r 0) = ((∑ s ∈ Finset.range s0, lg Q K (t0 + r) s : ℝ) : EReal))
  (hpg : ∀ r : Fin 256, pg (ix2 r 0) = ((∑ s ∈ Finset.range s0, gg Q K V D lt (t0 + r) s : ℝ) : EReal))
  (hdq : ∀ (r : Fin 256) (l : Fin 128), dq (ix2 r l) = ((∑ s ∈ Finset.range s0, dz Q K V D lt (t0 + r) s * K s l : ℝ) : EReal))

include hq hk in
theorem zz_read (r c : Fin 256) : ∑ x, qh (ix2 r x) * kj (ix2 c x) = ((zz Q K (t0 + r) (s0 + c) : ℝ) : EReal) := by
  simp only [hq, hk, ← EReal.coe_mul, coe_sum]
  rw [zz, ← Finset.sum_range (fun l => Q (t0 + r) l * K (s0 + c) l)]

section belowDiag
variable (hb : s0 + 256 ≤ t0)
include hq hk in
theorem b9 (r c : Fin 256) : k0_pay9 qh kj (ix2 r c) = ((zz Q K (t0 + r) (s0 + c) - sp (zz Q K (t0 + r) (s0 + c)) : ℝ) : EReal) := by
  pointwise [k0_pay9, k0_pay7, k0_pay6, k0_pay5]
  simp only [zz_read Q K t0 s0 hq hk, sp_coe, ← EReal.coe_sub]

include hq hk hb in
theorem b8 (r c : Fin 256) : k0_pay8 qh kj (ix2 r c) = ((lg Q K (t0 + r) (s0 + c) : ℝ) : EReal) := by
  pointwise [k0_pay8, k0_pay7, k0_pay6, k0_pay5]
  simp only [zz_read Q K t0 s0 hq hk, sp_coe]
  rw [lg, if_pos (by omega), ← EReal.coe_zero, ← EReal.coe_sub, zero_sub]

include hq hk hl hpl hb in
theorem b10 (r c : Fin 256) : k0_pay10 k0_pay39 qh lh pl kj (ix2 r c) = ((wt Q K lt (t0 + r) (s0 + c) : ℝ) : EReal) := by
  pointwise [k0_pay10, k0_pay39]
  simp only [b9 Q K t0 s0 hq hk, b8 Q K t0 s0 hq hk hb, hl, hpl, ind_le, ← EReal.coe_mul, ← EReal.coe_sub, coe_sum, ← EReal.coe_add, Ideal.exp_coe, sum_le, sub_self, zero_mul, Finset.sum_const_zero, add_zero]
  rw [wt, if_pos (by omega), Nat.add_assoc]

include hd hv in
theorem gv_read (r c : Fin 256) : ∑ x, doh (ix2 r x) * vj (ix2 c x) = ((gv V D (t0 + r) (s0 + c) : ℝ) : EReal) := by
  simp only [hd, hv, ← EReal.coe_mul, coe_sum]
  rw [gv, ← Finset.sum_range (fun l => D (t0 + r) l * V (s0 + c) l)]

include hq hk hl hpl hb hd hv in
theorem b11 (r c : Fin 256) : k0_pay11 k0_pay39 qh doh lh pl kj vj (ix2 r c) = ((gg Q K V D lt (t0 + r) (s0 + c) : ℝ) : EReal) := by
  pointwise [k0_pay11]
  simp only [b10 Q K lt t0 s0 hq hk hl hpl hb, gv_read V D t0 s0 hd hv, ← EReal.coe_mul]
  rfl

include hq hk hl hpl hb hd hv hpg in
theorem b12 (r c : Fin 256) : k0_pay12 k0_pay39 k0_pay40 qh doh lh pl pg kj vj (ix2 r c) = ((∑ s ∈ Finset.range (s0 + c), gg Q K V D lt (t0 + r) s : ℝ) : EReal) := by
  pointwise [k0_pay12, k0_pay40]
  simp only [b11 Q K V D lt t0 s0 hq hd hk hv hl hpl hb, hpg, ind_lt, ← EReal.coe_mul, ← EReal.coe_sub, coe_sum, ← EReal.coe_add, sum_lt, sub_self, zero_mul, Finset.sum_const_zero, add_zero]

section grads
variable {p9 p10 p11 p12 : FVec Ideal S256x256 .f32}
  (h9 : ∀ r c : Fin 256, p9 (ix2 r c) = ((zz Q K (t0 + r) (s0 + c) - sp (zz Q K (t0 + r) (s0 + c)) : ℝ) : EReal))
  (h10 : ∀ r c : Fin 256, p10 (ix2 r c) = ((wt Q K lt (t0 + r) (s0 + c) : ℝ) : EReal))
  (h11 : ∀ r c : Fin 256, p11 (ix2 r c) = ((gg Q K V D lt (t0 + r) (s0 + c) : ℝ) : EReal))
  (h12 : ∀ r c : Fin 256, p12 (ix2 r c) = ((∑ s ∈ Finset.range (s0 + c), gg Q K V D lt (t0 + r) s : ℝ) : EReal))
include h9 h11 h12 hb in
theorem b52 (r c : Fin 256) : k0_pay52 p9 p11 p12 (ix2 r c) = ((dz Q K V D lt (t0 + r) (s0 + c) : ℝ) : EReal) := by
  pointwise [k0_pay52]
  simp only [h9, h11, h12]
  rw [dz, if_pos (by omega), Ideal.exp_coe, ← EReal.coe_one]
  simp only [← EReal.coe_mul, ← EReal.coe_sub]

include h9 h11 h12 hb hk hdq in
theorem b53 (r : Fin 256) (l : Fin 128) : k0_pay53 dq (k0_pay5 kj) p9 p11 p12 (ix2 r l) = ((∑ s ∈ Finset.range (s0 + 256), dz Q K V D lt (t0 + r) s * K s l : ℝ) : EReal) := by
  pointwise [k0_pay53, k0_pay5]
  simp only [b52 Q K V D lt t0 s0 hb h9 h11 h12, hdq, hk, ← EReal.coe_mul, coe_sum, ← EReal.coe_add, sum_full (fun s => dz Q K V D lt (t0 + r) s * K s l)]

include h9 h11 h12 hb hq in
theorem b54 (o : FVec Ideal S256x128 .f32) (x : Fin 256 → Fin 128 → ℝ) (ho : ∀ (c : Fin 256) (l : Fin 128), o (ix2 c l) = ((x c l : ℝ) : EReal)) (c : Fin 256) (l : Fin 128) :
    k0_pay54 qh p9 p11 p12 o (ix2 c l) = ((x c l + ∑ r : Fin 256, dz Q K V D lt (t0 + r) (s0 + c) * Q (t0 + r) l : ℝ) : EReal) := by
  pointwise [k0_pay54]
  simp only [b52 Q K V D lt t0 s0 hb h9 h11 h12, ho, hq, ← EReal.coe_mul, coe_sum, ← EReal.coe_add]

include h10 hd in
theorem b55 (o : FVec Ideal S256x128 .f32) (x : Fin 256 → Fin 128 → ℝ) (ho : ∀ (c : Fin 256) (l : Fin 128), o (ix2 c l) = ((x c l : ℝ) : EReal)) (c : Fin 256) (l : Fin 128) :
    k0_pay55 doh p10 o (ix2 c l) = ((x c l + ∑ r : Fin 256, wt Q K lt (t0 + r) (s0 + c) * D (t0 + r) l : ℝ) : EReal) := by
  pointwise [k0_pay55]
  simp only [h10, ho, hd, ← EReal.coe_mul, coe_sum, ← EReal.coe_add]

include hq hk hpl hb in
theorem b56 (r : Fin 256) : k0_pay56 pl (k0_pay8 qh kj) (ix2 r 0) = ((∑ s ∈ Finset.range (s0 + 256), lg Q K (t0 + r) s : ℝ) : EReal) := by
  pointwise [k0_pay56]
  simp only [b8 Q K t0 s0 hq hk hb, hpl, coe_sum, ← EReal.coe_add, sum_full]

include h11 hpg in
theorem b57 (r : Fin 256) : k0_pay57 pg p11 (ix2 r 0) = ((∑ s ∈ Finset.range (s0 + 256), gg Q K V D lt (t0 + r) s : ℝ) : EReal) := by
  pointwise [k0_pay57]
  simp only [h11, hpg, coe_sum, ← EReal.coe_add, sum_full]
end grads
end belowDiag

section onDiag
variable (hb : s0 = t0)
include hq hk in
theorem e67 (r c : Fin 256) : k0_pay67 qh kj (ix2 r c) = ((zz Q K (t0 + r) (s0 + c) - sp (zz Q K (t0 + r) (s0 + c)) : ℝ) : EReal) := by
  pointwise [k0_pay67, k0_pay66, k0_pay65, k0_pay64]
  simp only [zz_read Q K t0 s0 hq hk, sp_coe, ← EReal.coe_sub]

include hq hk in
theorem e66 (r c : Fin 256) : k0_pay66 qh kj (ix2 r c) = ((sp (zz Q K (t0 + r) (s0 + c)) : ℝ) : EReal) := by
  pointwise [k0_pay66, k0_pay65, k0_pay64]
  simp only [zz_read Q K t0 s0 hq hk, sp_coe]

include hb in
theorem lg_diag (r c : Fin 256) : (if c.val < r.val then (0 : EReal) - ((sp (zz Q K (t0 + r) (s0 + c)) : ℝ) : EReal) else 0) = ((lg Q K (t0 + r) (s0 + c) : ℝ) : EReal) := by
  rw [lg]
  by_cases h : c.val < r.val
  · rw [if_pos h, if_pos (by omega), ← EReal.coe_zero, ← EReal.coe_sub, zero_sub]
  · rw [if_neg h, if_neg (by omega), EReal.coe_zero]

include hb in
theorem lg_diag_mul (r c : Fin 256) (y : EReal) : (if c.val < r.val then ((0 : EReal) - ((sp (zz Q K (t0 + r) (s0 + c)) : ℝ) : EReal)) * y else 0) = ((lg Q K (t0 + r) (s0 + c) : ℝ) : EReal) * y := by
  rw [← lg_diag Q K t0 s0 hb]
  by_cases h : c.val < r.val
  · rw [if_pos h, if_pos h]
  · rw [if_neg h, if_neg h, zero_mul]

include hq hk hl hpl hb in
theorem e68 (r c : Fin 256) : k0_pay68 k0_pay39 k0_pay41 qh lh pl kj (ix2 r c) = ((wt Q K lt (t0 + r) (s0 + c) : ℝ) : EReal) := by
  pointwise [k0_pay68, k0_pay39, k0_pay41]
  simp only [sel_lt, e67 Q K t0 s0 hq hk, e66 Q K t0 s0 hq hk, lg_diag Q K t0 s0 hb, lg_diag_mul Q K t0 s0 hb, hl, hpl, ind_le, ← EReal.coe_mul, ← EReal.coe_sub, coe_sum, ← EReal.coe_add, Ideal.exp_coe, sum_le, sub_self, zero_mul, Finset.sum_const_zero, add_zero]
  rw [wt]
  by_cases h : c.val < r.val
  · rw [if_pos h, if_pos (by omega), Nat.add_assoc]
  · rw [if_neg h, if_neg (by omega), EReal.coe_zero]

include hq hk hl hpl hb hd hv in
theorem e69 (r c : Fin 256) : k0_pay69 k0_pay39 k0_pay41 qh doh lh pl kj vj (ix2 r c) = ((gg Q K V D lt (t0 + r) (s0 + c) : ℝ) : EReal) := by
  pointwise [k0_pay69]
  simp only [e68 Q K lt t0 s0 hq hk hl hpl hb, gv_read V D t0 s0 hd hv, ← EReal.coe_mul]
  rfl

section grads
variable {p67 p68 p69 : FVec Ideal S256x256 .f32} {p70 : FVec Ideal S256x256 .bf16} {p71 : FVec Ideal S256x256 .f32}
  (h67 : ∀ r c : Fin 256, p67 (ix2 r c) = ((zz Q K (t0 + r) (s0 + c) - sp (zz Q K (t0 + r) (s0 + c)) : ℝ) : EReal))
  (h68 : ∀ r c : Fin 256, p68 (ix2 r c) = ((wt Q K lt (t0 + r) (s0 + c) : ℝ) : EReal))
  (h69 : ∀ r c : Fin 256, p69 (ix2 r c) = ((gg Q K V D lt (t0 + r) (s0 + c) : ℝ) : EReal))
  (h70 : ∀ r c : Fin 256, p70 (ix2 r c) = ((gg Q K V D lt (t0 + r) (s0 + c) : ℝ) : EReal))
  (h71 : ∀ r c : Fin 256, p71 (ix2 r c) = ((gg Q K V D lt (t0 + r) (s0 + c) : ℝ) : EReal))
include h67 h69 h70 h71 hb hpg in
theorem e72 (r c : Fin 256) : k0_pay72 k0_pay40 k0_pay41 pg p67 p69 p70 p71 (ix2 r c) = ((dz Q K V D lt (t0 + r) (s0 + c) : ℝ) : EReal) := by
  pointwise [k0_pay72, k0_pay40, k0_pay41]
  simp only [sel_lt, h67, h69, h70, h71, hpg, ind_lt, ← EReal.coe_mul, ← EReal.coe_sub, coe_sum, ← EReal.coe_add, Ideal.exp_coe, sum_lt, sub_self, zero_mul, Finset.sum_const_zero, add_zero]
  rw [dz]
  by_cases h : c.val < r.val
  · rw [if_pos h, if_pos (by omega), ← EReal.coe_one]
    simp only [← EReal.coe_mul, ← EReal.coe_sub]
  · rw [if_neg h, if_neg (by omega), EReal.coe_zero]

include h67 h69 h70 h71 hb hpg hk hdq in
theorem e73 (r : Fin 256) (l : Fin 128) : k0_pay73 k0_pay40 k0_pay41 dq pg (k0_pay64 kj) p67 p69 p70 p71 (ix2 r l) = ((∑ s ∈ Finset.range (s0 + 256), dz Q K V D lt (t0 + r) s * K s l : ℝ) : EReal) := by
  pointwise [k0_pay73, k0_pay64]
  simp only [e72 Q K V D lt t0 s0 hpg hb h67 h69 h70 h71, hdq, hk, ← EReal.coe_mul, coe_sum, ← EReal.coe_add, sum_full (fun s => dz Q K V D lt (t0 + r) s * K s l)]

include h67 h69 h70 h71 hb hpg hq in
theorem e74 (o : FVec Ideal S256x128 .f32) (x : Fin 256 → Fin 128 → ℝ) (ho : ∀ (c : Fin 256) (l : Fin 128), o (ix2 c l) = ((x c l : ℝ) : EReal)) (c : Fin 256) (l : Fin 128) :
    k0_pay74 k0_pay40 k0_pay41 qh pg p67 p69 p70 p71 o (ix2 c l) = ((x c l + ∑ r : Fin 256, dz Q K V D lt (t0 + r) (s0 + c) * Q (t0 + r) l : ℝ) : EReal) := by
  pointwise [k0_pay74]
  simp only [e72 Q K V D lt t0 s0 hpg hb h67 h69 h70 h71, ho, hq, ← EReal.coe_mul, coe_sum, ← EReal.coe_add]

include h68 hd in
theorem e75 (o : FVec Ideal S256x128 .f32) (x : Fin 256 → Fin 128 → ℝ) (ho : ∀ (c : Fin 256) (l : Fin 128), o (ix2 c l) = ((x c l : ℝ) : EReal)) (c : Fin 256) (l : Fin 128) :
    k0_pay75 doh p68 o (ix2 c l) = ((x c l + ∑ r : Fin 256, wt Q K lt (t0 + r) (s0 + c) * D (t0 + r) l : ℝ) : EReal) := by
  pointwise [k0_pay75]
  simp only [h68, ho, hd, ← EReal.coe_mul, coe_sum, ← EReal.coe_add]
end grads
end onDiag
end step

/-! ## The tiles of a head pair over the reals -/

theorem tile_at {e : EltTy} (x : Vec Ideal S2048x128 e) (k : Fin 8) (r : Fin 256) (l : Fin 128) :
    tile x k (ix2 r l) = x (ix2 ⟨256 * k.val + r.val, by omega⟩ l) := by
  show x _ = x _
  congr 1
  funext a
  apply Fin.ext
  fin_cases a
  · show 256 * k.val + 1 * r.val = 256 * k.val + r.val; omega
  · show 0 + 1 * l.val = l.val; omega

/-- An accumulator that holds the reals `a`. -/
def Acc (A : Vec Ideal S2048x128 .f32) (a : ℕ → ℕ → ℝ) : Prop :=
  ∀ (s : Fin 2048) (l : Fin 128), A (ix2 s l) = ((a s l : ℝ) : EReal)

theorem acc_put {A : Vec Ideal S2048x128 .f32} {a b : ℕ → ℕ → ℝ} (k : Fin 8) (w : Vec Ideal S256x128 .f32) (hA : Acc A a)
    (hw : ∀ (c : Fin 256) (l : Fin 128), w (ix2 c l) = ((b (256 * k.val + c) l : ℝ) : EReal))
    (hb : ∀ s l, ¬(256 * k.val ≤ s ∧ s < 256 * k.val + 256) → b s l = a s l) : Acc (putTile A k w) b := by
  intro s l
  by_cases h : 256 * k.val ≤ s.val ∧ s.val < 256 * k.val + 256
  · have hall : ∀ a, (![256 * k.val, 0] : Fin 2 → ℕ) a ≤ ((ix2 s l : S2048x128.Idx) a).val ∧ ((ix2 s l : S2048x128.Idx) a).val < (![256 * k.val, 0] : Fin 2 → ℕ) a + S256x128.size a := by
      intro a
      match a with
      | 0 => exact h
      | 1 => exact ⟨Nat.zero_le _, by show l.val < 0 + 128; omega⟩
    refine (dif_pos hall).trans ?_
    have e := hw ⟨s.val - 256 * k.val, by omega⟩ l
    have e2 : 256 * k.val + (s.val - 256 * k.val) = s.val := by omega
    dsimp only at e
    rw [e2] at e
    rw [← e]
    congr 1
    funext a
    apply Fin.ext
    fin_cases a
    · rfl
    · show l.val - 0 = l.val; omega
  · rw [hb _ _ h]
    exact (dif_neg fun hall => h (hall 0)).trans (hA s l)

section head
variable (Q K V D : ℕ → ℕ → ℝ) (lt : ℕ → ℝ) (i : Fin 8)
  {qh doh : FVec Ideal S256x128 .bf16} {lh : FVec Ideal S256x1 .f32} {x1 x2 : Vec Ideal S2048x128 .bf16}
  (hq : ∀ (r : Fin 256) (l : Fin 128), qh (ix2 r l) = ((Q (256 * i.val + r) l : ℝ) : EReal))
  (hd : ∀ (r : Fin 256) (l : Fin 128), doh (ix2 r l) = ((D (256 * i.val + r) l : ℝ) : EReal))
  (hl : ∀ r : Fin 256, lh (ix2 r 0) = ((lt (256 * i.val + r) : ℝ) : EReal))
  (hk : ∀ (s : Fin 2048) (l : Fin 128), x1 (ix2 s l) = ((K s l : ℝ) : EReal))
  (hv : ∀ (s : Fin 2048) (l : Fin 128), x2 (ix2 s l) = ((V s l : ℝ) : EReal))

/-- A tile's rows' share of a key's gradient, and of a value's. -/
def shareK (s l : ℕ) : ℝ := ∑ r : Fin 256, dz Q K V D lt (256 * i.val + r) s * Q (256 * i.val + r) l
def shareV (s l : ℕ) : ℝ := ∑ r : Fin 256, wt Q K lt (256 * i.val + r) s * D (256 * i.val + r) l

/-- What the steps over the first `n` key tiles leave. -/
def After (n : ℕ) (a b : ℕ → ℕ → ℝ) (S : St) : Prop :=
  (∀ (r : Fin 256) (l : Fin 128), S.1.1 (ix2 r l) = ((∑ s ∈ Finset.range (256 * n), dz Q K V D lt (256 * i.val + r) s * K s l : ℝ) : EReal))
  ∧ (∀ r : Fin 256, S.1.2.1 (ix2 r 0) = ((∑ s ∈ Finset.range (256 * n), lg Q K (256 * i.val + r) s : ℝ) : EReal))
  ∧ (∀ r : Fin 256, S.1.2.2 (ix2 r 0) = ((∑ s ∈ Finset.range (256 * n), gg Q K V D lt (256 * i.val + r) s : ℝ) : EReal))
  ∧ Acc S.2.1 (fun s l => a s l + if s < 256 * n then shareK Q K V D lt i s l else 0)
  ∧ Acc S.2.2 (fun s l => b s l + if s < 256 * n then shareV Q K D lt i s l else 0)

include hq hd hl hk hv in
theorem steps_after (a b : ℕ → ℕ → ℝ) {A B : Vec Ideal S2048x128 .f32} (hA : Acc A a) (hB : Acc B b) (n : ℕ) (hn : n ≤ i.val) :
    After Q K V D lt i n a b (steps (below qh doh lh x1 x2) ((k0_pay49, k0_pay50, k0_pay51), A, B) n) := by
  induction n with
  | zero =>
    refine ⟨fun r l => ?_, fun r => ?_, fun r => ?_, fun s l => ?_, fun s l => ?_⟩
    · show k0_pay49 (F := Ideal) (ix2 r l) = _
      pointwise [k0_pay49]; simp
    · show k0_pay50 (F := Ideal) (ix2 r 0) = _
      pointwise [k0_pay50]; simp
    · show k0_pay51 (F := Ideal) (ix2 r 0) = _
      pointwise [k0_pay51]; simp
    · show A (ix2 s l) = _
      rw [hA s l]; simp
    · show B (ix2 s l) = _
      rw [hB s l]; simp
  | succ n ih =>
    have hn8 : n < 8 := by have := i.isLt; omega
    have IH := ih (by omega)
    rw [steps, dif_pos hn8]
    generalize steps (below qh doh lh x1 x2) ((k0_pay49, k0_pay50, k0_pay51), A, B) n = S at IH ⊢
    obtain ⟨⟨dq, pl, pg⟩, A', B'⟩ := S
    obtain ⟨h1, h2, h3, h4, h5⟩ := IH
    dsimp only at h1 h2 h3 h4 h5
    have hb : 256 * n + 256 ≤ 256 * i.val := by omega
    have hk' : ∀ (r : Fin 256) (l : Fin 128), tile x1 ⟨n, hn8⟩ (ix2 r l) = ((K (256 * n + r) l : ℝ) : EReal) := fun r l => by rw [tile_at]; exact hk _ _
    have hv' : ∀ (r : Fin 256) (l : Fin 128), tile x2 ⟨n, hn8⟩ (ix2 r l) = ((V (256 * n + r) l : ℝ) : EReal) := fun r l => by rw [tile_at]; exact hv _ _
    have p9 := b9 Q K (256 * i.val) (256 * n) hq hk'
    have p10 := b10 Q K lt (256 * i.val) (256 * n) hq hk' hl h2 hb
    have p11 := b11 Q K V D lt (256 * i.val) (256 * n) hq hd hk' hv' hl h2 hb
    have p12 := b12 Q K V D lt (256 * i.val) (256 * n) hq hd hk' hv' hl h2 h3 hb
    have e : 256 * (n + 1) = 256 * n + 256 := by ring
    refine ⟨fun r l => ?_, fun r => ?_, fun r => ?_, ?_, ?_⟩
    · rw [e]; exact b53 Q K V D lt (256 * i.val) (256 * n) hk' h1 hb p9 p11 p12 r l
    · rw [e]; exact b56 Q K (256 * i.val) (256 * n) hq hk' h2 hb r
    · rw [e]; exact b57 Q K V D lt (256 * i.val) (256 * n) h3 p11 r
    · refine acc_put ⟨n, hn8⟩ _ h4 (fun c l => ?_) fun s l h => ?_
      · refine (b54 Q K V D lt (256 * i.val) (256 * n) hq hb p9 p11 p12 _ (fun c l => a (256 * n + c) l) (fun c l => ?_) c l).trans ?_
        · rw [tile_at]; refine (h4 _ _).trans ?_; dsimp only
          rw [if_neg (by omega), add_zero]
        · rw [if_pos (by show 256 * n + c.val < _; omega)]; rfl
      · dsimp only at h ⊢
        by_cases h' : s < 256 * n
        · rw [if_pos h', if_pos (by omega)]
        · rw [if_neg h', if_neg (by omega)]
    · refine acc_put ⟨n, hn8⟩ _ h5 (fun c l => ?_) fun s l h => ?_
      · refine (b55 Q K D lt (256 * i.val) (256 * n) hd p10 _ (fun c l => b (256 * n + c) l) (fun c l => ?_) c l).trans ?_
        · rw [tile_at]; refine (h5 _ _).trans ?_; dsimp only
          rw [if_neg (by omega), add_zero]
        · rw [if_pos (by show 256 * n + c.val < _; omega)]; rfl
      · dsimp only at h ⊢
        by_cases h' : s < 256 * n
        · rw [if_pos h', if_pos (by omega)]
        · rw [if_neg h', if_neg (by omega)]

include hq hd hl hk hv in
/-- One head of one query tile: the query gradient over all the keys, the two shares added to the accumulators. -/
theorem head_real (a b : ℕ → ℕ → ℝ) {A B : Vec Ideal S2048x128 .f32} (hA : Acc A a) (hB : Acc B b) :
    (∀ (r : Fin 256) (l : Fin 128), (headTile qh doh lh x1 x2 i A B).1 (ix2 r l) = ((∑ s ∈ Finset.range 2048, dz Q K V D lt (256 * i.val + r) s * K s l : ℝ) : EReal))
    ∧ Acc (headTile qh doh lh x1 x2 i A B).2.1 (fun s l => a s l + shareK Q K V D lt i s l)
    ∧ Acc (headTile qh doh lh x1 x2 i A B).2.2 (fun s l => b s l + shareV Q K D lt i s l) := by
  have H := steps_after Q K V D lt i hq hd hl hk hv a b hA hB i.val le_rfl
  unfold headTile
  generalize steps (below qh doh lh x1 x2) ((k0_pay49, k0_pay50, k0_pay51), A, B) i.val = S at H ⊢
  obtain ⟨⟨dq, pl, pg⟩, A', B'⟩ := S
  obtain ⟨h1, h2, h3, h4, h5⟩ := H
  dsimp only at h1 h2 h3 h4 h5
  have hk' : ∀ (r : Fin 256) (l : Fin 128), tile x1 i (ix2 r l) = ((K (256 * i.val + r) l : ℝ) : EReal) := fun r l => by rw [tile_at]; exact hk _ _
  have hv' : ∀ (r : Fin 256) (l : Fin 128), tile x2 i (ix2 r l) = ((V (256 * i.val + r) l : ℝ) : EReal) := fun r l => by rw [tile_at]; exact hv _ _
  have p67 := e67 Q K (256 * i.val) (256 * i.val) hq hk'
  have p68 := e68 Q K lt (256 * i.val) (256 * i.val) hq hk' hl h2 rfl
  have p69 := e69 Q K V D lt (256 * i.val) (256 * i.val) hq hd hk' hv' hl h2 rfl
  have i8 := i.isLt
  refine ⟨fun r l => ?_, ?_, ?_⟩
  · refine (e73 Q K V D lt (256 * i.val) (256 * i.val) hk' h3 h1 rfl p67 p69 p69 p69 r l).trans ?_
    congr 1
    refine Finset.sum_subset (Finset.range_subset_range.mpr (by omega)) fun s _ hs => ?_
    have : ¬ s < 256 * i.val + r.val := by rw [Finset.mem_range] at hs; omega
    rw [dz, if_neg this, zero_mul]
  · refine acc_put i _ h4 (fun c l => ?_) fun s l h => ?_
    · refine e74 Q K V D lt (256 * i.val) (256 * i.val) hq h3 rfl p67 p69 p69 p69 _ (fun c l => a (256 * i.val + c) l) (fun c l => ?_) c l
      rw [tile_at]; refine (h4 _ _).trans ?_; dsimp only
      rw [if_neg (by omega), add_zero]
    · by_cases h' : s < 256 * i.val
      · rw [if_pos h']
      · rw [if_neg h']
        congr 1
        refine Finset.sum_eq_zero fun r _ => ?_
        have : ¬ s < 256 * i.val + r.val := by omega
        rw [dz, if_neg this, zero_mul]
  · refine acc_put i _ h5 (fun c l => ?_) fun s l h => ?_
    · refine e75 Q K D lt (256 * i.val) (256 * i.val) hd p68 _ (fun c l => b (256 * i.val + c) l) (fun c l => ?_) c l
      rw [tile_at]; refine (h5 _ _).trans ?_; dsimp only
      rw [if_neg (by omega), add_zero]
    · by_cases h' : s < 256 * i.val
      · rw [if_pos h']
      · rw [if_neg h']
        congr 1
        refine Finset.sum_eq_zero fun r _ => ?_
        have : ¬ s < 256 * i.val + r.val := by omega
        rw [wt, if_neg this, zero_mul]
end head

end Cert.AttnIdeal.Body
-- ==== Proof.AttnTile.lean ====
/- One grid point of the attention gradient: what a query tile adds to the gradients of the queries, keys and values. -/
module

public import proofs.«01_k».proof.Proof.AttnReal
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnIdeal.Body

open Idealize.ShloMosaic Idealize.ShloMosaic.TcCoe Idealize.ShloMosaic.Tactic
open Idealize.ShloMosaic.Pipeline (Dat Cfg Window BodyObligation cellOf)
open Cert.AttnIdeal.Gen

/-! ## A head pair's tile -/

/-- The lanes of one head of a pair, the other head's lanes zero. -/
def only (e : ℕ) (f : ℕ → ℕ → ℝ) (t l : ℕ) : ℝ := if l / 64 = e then f t l else 0

theorem sel_lane_lt (l : Fin 128) {α : Type} (a b : α) :
    Scalar.select (IntOp.cmpi CmpIPredicate.slt (BitVec.ofNat 32 l.val) 64#32) a b = if l.val / 64 = 0 then a else b := by
  have : IntOp.cmpi CmpIPredicate.slt (BitVec.ofNat 32 l.val) 64#32 = if l.val / 64 = 0 then 1#1 else 0#1 := by
    revert l; decide +kernel
  rw [this]; split <;> rfl

theorem sel_lane_ge (l : Fin 128) {α : Type} (a b : α) :
    Scalar.select (IntOp.cmpi CmpIPredicate.sge (BitVec.ofNat 32 l.val) 64#32) a b = if l.val / 64 = 1 then a else b := by
  have : IntOp.cmpi CmpIPredicate.sge (BitVec.ofNat 32 l.val) 64#32 = if l.val / 64 = 1 then 1#1 else 0#1 := by
    revert l; decide +kernel
  rw [this]; split <;> rfl

theorem q0_at (x : Vec Ideal S256x128 .bf16) (r : Fin 256) (l : Fin 128) : q0 x (ix2 r l) = if l.val / 64 = 0 then x (ix2 r l) else (0 : EReal) := by
  unfold q0
  pointwise [k0_pay46, k0_pay45, k0_pay42]
  exact sel_lane_lt l _ _
theorem d0_at (x : Vec Ideal S256x128 .bf16) (r : Fin 256) (l : Fin 128) : d0 x (ix2 r l) = if l.val / 64 = 0 then x (ix2 r l) else (0 : EReal) := by
  unfold d0
  pointwise [k0_pay47, k0_pay45, k0_pay43]
  exact sel_lane_lt l _ _
theorem q1_at (x : Vec Ideal S256x128 .bf16) (r : Fin 256) (l : Fin 128) : q1 x (ix2 r l) = if l.val / 64 = 1 then x (ix2 r l) else (0 : EReal) := by
  unfold q1
  pointwise [k0_pay77, k0_pay76, k0_pay42, lanes]
  exact sel_lane_ge l _ _
theorem d1_at (x : Vec Ideal S256x128 .bf16) (r : Fin 256) (l : Fin 128) : d1 x (ix2 r l) = if l.val / 64 = 1 then x (ix2 r l) else (0 : EReal) := by
  unfold d1
  pointwise [k0_pay80, k0_pay79, k0_pay78, k0_pay76, k0_pay43, lanes]
  exact sel_lane_ge l _ _
theorem l0_at (x : Vec Ideal S256x128 .f32) (r : Fin 256) : l0 x (ix2 r 0) = x (ix2 r 0) := by
  unfold l0
  pointwise [k0_pay48, k0_pay44]
theorem l1_at (x : Vec Ideal S256x128 .f32) (r : Fin 256) : l1 x (ix2 r 0) = x (ix2 r 64) := by
  unfold l1
  pointwise [k0_pay81, k0_pay44]

theorem eighth : (Scalar.ofBits (F := Ideal) .f32 0x3E000000#32 : EReal) = ((0.125 : ℝ) : EReal) := by
  show Ideal.ofBits .f32 0x3E000000#32 = _
  simp [Ideal.ofBits, Ideal.ieee, -EReal.coe_mul]; norm_num

theorem pay2_at (x y : FVec Ideal S256x128 .f32) (r : Fin 256) (l : Fin 128) :
    k0_pay2 (F := Ideal) lanes x y (ix2 r l) = (((if l.val / 64 = 0 then x (ix2 r l) else y (ix2 r l)) * ((0.125 : ℝ) : EReal) : EReal)) := by
  pointwise [k0_pay2, lanes]
  rw [sel_lane_lt]
  exact congrArg _ eighth

section pair
variable (q k v d : ℕ → ℕ → ℝ) (t0 t1 : ℕ → ℝ) (i : Fin 8)
  {x0 x3 : Vec Ideal S256x128 .bf16} {x4 : Vec Ideal S256x128 .f32} {x1 x2 : Vec Ideal S2048x128 .bf16}
  (hq : ∀ (r : Fin 256) (l : Fin 128), x0 (ix2 r l) = ((q (256 * i.val + r) l : ℝ) : EReal))
  (hd : ∀ (r : Fin 256) (l : Fin 128), x3 (ix2 r l) = ((d (256 * i.val + r) l : ℝ) : EReal))
  (h0 : ∀ r : Fin 256, x4 (ix2 r 0) = ((t0 (256 * i.val + r) : ℝ) : EReal))
  (h1 : ∀ r : Fin 256, x4 (ix2 r 64) = ((t1 (256 * i.val + r) : ℝ) : EReal))
  (hk : ∀ (s : Fin 2048) (l : Fin 128), x1 (ix2 s l) = ((k s l : ℝ) : EReal))
  (hv : ∀ (s : Fin 2048) (l : Fin 128), x2 (ix2 s l) = ((v s l : ℝ) : EReal))

/-- One head's gradient of the scores, and its weights. -/
def dzH (e : ℕ) (lt : ℕ → ℝ) (t s : ℕ) : ℝ := dz (only e q) k v (only e d) lt t s
def wtH (e : ℕ) (lt : ℕ → ℝ) (t s : ℕ) : ℝ := wt (only e q) k lt t s

/-- What the first `n` query rows add to a key's gradient over both heads, and to a value's. -/
def sumK (n s l : ℕ) : ℝ := ∑ t ∈ Finset.range n, (dzH q k v d 0 t0 t s * only 0 q t l + dzH q k v d 1 t1 t s * only 1 q t l)
def sumV (n s l : ℕ) : ℝ := ∑ t ∈ Finset.range n, (wtH q k 0 t0 t s * only 0 d t l + wtH q k 1 t1 t s * only 1 d t l)

theorem coe_only (e : ℕ) (f : ℕ → ℕ → ℝ) (t l : ℕ) {x : EReal} (h : x = ((f t l : ℝ) : EReal)) :
    (if l / 64 = e then x else 0) = ((only e f t l : ℝ) : EReal) := by
  unfold only; split
  · exact h
  · simp

include hq hd h0 h1 hk hv in
theorem pair_real {A B : Vec Ideal S2048x128 .f32} (hA : Acc A (sumK q k v d t0 t1 (256 * i.val))) (hB : Acc B (sumV q k d t0 t1 (256 * i.val))) :
    (∀ (r : Fin 256) (l : Fin 128), (pairTile x0 x1 x2 x3 x4 i A B).1 (ix2 r l)
        = (((∑ s ∈ Finset.range 2048, (if l.val / 64 = 0 then dzH q k v d 0 t0 (256 * i.val + r) s else dzH q k v d 1 t1 (256 * i.val + r) s) * k s l) * 0.125 : ℝ) : EReal))
    ∧ Acc (pairTile x0 x1 x2 x3 x4 i A B).2.1 (sumK q k v d t0 t1 (256 * i.val + 256))
    ∧ Acc (pairTile x0 x1 x2 x3 x4 i A B).2.2 (sumV q k d t0 t1 (256 * i.val + 256)) := by
  obtain ⟨p1, p2, p3⟩ := head_real (only 0 q) k v (only 0 d) t0 i (qh := q0 x0) (doh := d0 x3) (lh := l0 x4) (x1 := x1) (x2 := x2)
    (fun r l => by rw [q0_at]; exact coe_only 0 q _ _ (hq r l)) (fun r l => by rw [d0_at]; exact coe_only 0 d _ _ (hd r l))
    (fun r => by rw [l0_at]; exact h0 r) hk hv _ _ hA hB
  obtain ⟨s1, s2, s3⟩ := head_real (only 1 q) k v (only 1 d) t1 i (qh := q1 x0) (doh := d1 x3) (lh := l1 x4) (x1 := x1) (x2 := x2)
    (fun r l => by rw [q1_at]; exact coe_only 1 q _ _ (hq r l)) (fun r l => by rw [d1_at]; exact coe_only 1 d _ _ (hd r l))
    (fun r => by rw [l1_at]; exact h1 r) hk hv _ _ p2 p3
  refine ⟨fun r l => ?_, fun s l => ?_, fun s l => ?_⟩
  · refine (pay2_at _ _ r l).trans ?_
    rw [p1, s1, EReal.coe_mul]
    congr 1
    split <;> rfl
  · refine (s2 s l).trans ?_
    congr 1
    simp only [sumK, ← sum_full, shareK, Finset.sum_add_distrib, dzH]
    ring
  · refine (s3 s l).trans ?_
    congr 1
    simp only [sumV, ← sum_full, shareV, Finset.sum_add_distrib, wtH]
    ring
end pair

end Cert.AttnIdeal.Body
-- ==== Proof.AttnSpec.lean ====
/- The attention's gradients written as sums over keys and queries, which both programs are compared with. -/
module

public import proofs.«01_k».proof.Proof.AttnTile
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnIdeal.Body

open Idealize.ShloMosaic Idealize.ShloMosaic.TcCoe Idealize.ShloMosaic.Tactic
open Idealize.ShloMosaic.Pipeline (Dat Cfg Window BodyObligation cellOf)
open Cert.AttnIdeal.Gen

/-! ## The attention's gradient over the reals, from the step's arrays

Each array is `[2, 2048, 512]`: a sequence, a position, and a column of which a head holds 64, a pair of heads 128. -/

/-- The row's sum of the logs of the breaks. -/
def tot (Q K : ℕ → ℕ → ℝ) (t : ℕ) : ℝ := ∑ s ∈ Finset.range 2048, lg Q K t s

/-- An array's element as a real. -/
def val (x : (⟨3, ![2, 2048, 512]⟩ : Shape).Idx → EReal) (b : Fin 2) (t j : ℕ) : ℝ := (x (ix3 b (Fin.ofNat 2048 t) (Fin.ofNat 512 j))).toReal

/-- All its elements are finite. -/
def AllFinite (x : (⟨3, ![2, 2048, 512]⟩ : Shape).Idx → EReal) : Prop := ∀ i, x i = (((x i).toReal : ℝ) : EReal)

theorem val_eq {x : (⟨3, ![2, 2048, 512]⟩ : Shape).Idx → EReal} (hx : AllFinite x) (b : Fin 2) (t : Fin 2048) (j : Fin 512) :
    x (ix3 b t j) = ((val x b t j : ℝ) : EReal) := by
  rw [hx, val, Fin.ofNat_val_eq_self, Fin.ofNat_val_eq_self]

section
variable (x0 x1 x2 x3 : (⟨3, ![2, 2048, 512]⟩ : Shape).Idx → EReal) (b : Fin 2)

/-- A pair's lanes. -/
def cP (p t l : ℕ) : ℝ := val x0 b t (128 * p + l)
/-- A pair's lanes of the queries, at the attention's scale. -/
def qP (p t l : ℕ) : ℝ := val x0 b t (128 * p + l) * 0.125
/-- A head's row sum of the logs of the breaks. -/
def ltP (h t : ℕ) : ℝ := tot (only (h % 2) (qP x0 b (h / 2))) (cP x1 b (h / 2)) t
/-- A head's weight. -/
def wtP (h t s : ℕ) : ℝ := wtH (qP x0 b (h / 2)) (cP x1 b (h / 2)) (h % 2) (ltP x0 x1 b h) t s
/-- A head's gradient of the logit. -/
def dzP (h t s : ℕ) : ℝ := dzH (qP x0 b (h / 2)) (cP x1 b (h / 2)) (cP x2 b (h / 2)) (cP x3 b (h / 2)) (h % 2) (ltP x0 x1 b h) t s

/-- The gradient of the queries. -/
def dqR (t j : ℕ) : ℝ := (∑ s ∈ Finset.range 2048, dzP x0 x1 x2 x3 b (j / 64) t s * val x1 b s j) * 0.125
/-- The gradient of the keys. -/
def dkR (s j : ℕ) : ℝ := ∑ t ∈ Finset.range 2048, dzP x0 x1 x2 x3 b (j / 64) t s * (val x0 b t j * 0.125)
/-- The gradient of the values. -/
def dvR (s j : ℕ) : ℝ := ∑ t ∈ Finset.range 2048, wtP x0 x1 b (j / 64) t s * val x3 b t j
end

/-- A sum over a pair's lanes of one head's terms is the sum over the head's. -/
theorem head_sum (f : ℕ → ℝ) (e : ℕ) (he : e < 2) : ∑ l ∈ Finset.range 128, (if l / 64 = e then f l else 0) = ∑ x : Fin 64, f (64 * e + x) := by
  rw [show 128 = 64 + 64 from rfl, Finset.sum_range_add, Finset.sum_range (fun l => if l / 64 = e then f l else 0), Finset.sum_range (fun x => if (64 + x) / 64 = e then f (64 + x) else 0)]
  obtain rfl | rfl : e = 0 ∨ e = 1 := by omega
  · rw [Finset.sum_eq_zero (f := fun x : Fin 64 => if (64 + x.val) / 64 = 0 then f (64 + x) else 0) fun x _ => if_neg (by omega), add_zero]
    exact Finset.sum_congr rfl fun x _ => by rw [if_pos (by omega)]; congr 1; omega
  · rw [Finset.sum_eq_zero (f := fun x : Fin 64 => if x.val / 64 = 1 then f x else 0) fun x _ => if_neg (by omega), zero_add]
    exact Finset.sum_congr rfl fun x _ => by rw [if_pos (by omega)]

theorem pair_col (h : Fin 8) (x : Fin 64) : 128 * (h.val / 2) + (64 * (h.val % 2) + x.val) = h.val * 64 + x.val := by omega

end Cert.AttnIdeal.Body
-- ==== Proof.AttnRefRead.lean ====
/- The attention's reference read entry by entry: window sums along the keys, the derivative of softplus, and the three gradients. -/
module

public import proofs.«01_k».proof.Proof.AttnSpec
public import proofs.«01_k».proof.Proof.Gen.AttnRefIdeal.Read
public import Idealize.ShloMosaic.Lib.Pipeline.ValueKit
public import Idealize.ShloMosaic.Lib.Pointwise

@[expose] public section

set_option maxRecDepth 16384

noncomputable section

namespace Cert.AttnRefIdeal.Read

open Cert.AttnRefIdeal Cert.AttnRefIdeal.Gen Idealize.ShloMosaic Idealize.ShloMosaic.TcCoe
open Cert.AttnIdeal.Body (sp zz lg gv wt gg dz only coe_sum sp_coe max_coe log_pos_coe abs_coe tot val val_eq cP qP ltP wtP dzP dqR dkR dvR head_sum pair_col wtH dzH eighth AllFinite)

/-! ## Running sums along the keys -/

theorem foldl_coe {ι : Type*} (g : EReal → ι → EReal) (c : ι → ℝ) (hg : ∀ r i, g r i = r + ((c i : ℝ) : EReal)) (l : List ι) (v : ℝ) :
    l.foldl g (v : EReal) = ((v + (l.map c).sum : ℝ) : EReal) := by
  induction l generalizing v with
  | nil => simp
  | cons a l ih => rw [List.foldl_cons, hg, ← EReal.coe_add, ih, List.map_cons, List.sum_cons, add_assoc]

/-- The windows' shape: one row of 2048 keys. -/
abbrev Win : Shape := ⟨4, ![1, 1, 1, 2048]⟩

theorem win_numel : Win.numel = 2048 := by simp [Shape.numel, Fin.prod_univ_succ]

theorem win_last (n : Fin Win.numel) : (Win.rowMajor.symm n 3).val = n.val := by
  have h := Shape.rowMajor_val_four (d := ![1, 1, 1, 2048]) (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  simp only [Matrix.cons_val] at h
  omega

theorem win_first (n : Fin Win.numel) : (Win.rowMajor.symm n 0).val = 0 ∧ (Win.rowMajor.symm n 1).val = 0 ∧ (Win.rowMajor.symm n 2).val = 0 := by
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  omega

/-- A window of 2048 keys, `lo` padded before the row and `hi` behind it. -/
theorem win_sum (lo hi : ℕ) (x : S2x8x2048x2048.Idx → EReal) (f : ℕ → ℝ) (b : Fin 2) (h : Fin 8) (t s : Fin 2048)
    (hx : ∀ s : Fin 2048, x (ix4 b h t s) = ((f s : ℝ) : EReal)) (init : S_.Idx → EReal) (hw) (hu) (hi0 : init (Shape.Idx.first hu) = 0) :
    Host.reduceWindowAdd (F := Ideal) (φ := .f32) (t := S2x8x2048x2048) ![1, 1, 1, 2048] ![1, 1, 1, 1] ![0, 0, 0, lo] ![0, 0, 0, hi] x init hw hu (ix4 b h t s)
      = ((∑ n ∈ Finset.range 2048, (if lo ≤ s.val + n ∧ s.val + n - lo < 2048 then f (s.val + n - lo) else 0) : ℝ) : EReal) := by
  unfold Host.reduceWindowAdd
  rw [Ideal.hostReduceWindowAdd_def, hi0]
  unfold Ideal.hostReduceWindowAdd Host.reduceWindow
  refine (foldl_coe _ (fun n : Fin Win.numel => if lo ≤ s.val + n.val ∧ s.val + n.val - lo < 2048 then f (s.val + n.val - lo) else 0) (fun r n => ?_) _ 0).trans ?_
  · obtain ⟨w0, w1, w2⟩ := win_first n
    have w3 := win_last n
    dsimp only
    congr 1
    split
    · next hin =>
      have h3 := hin 3
      change lo ≤ s.val * 1 + (Win.rowMajor.symm n 3).val ∧ s.val * 1 + (Win.rowMajor.symm n 3).val - lo < 2048 at h3
      rw [w3, Nat.mul_one] at h3
      rw [if_pos h3]
      refine (congrArg x (funext fun a => Fin.ext ?_)).trans (hx ⟨s.val + n.val - lo, h3.2⟩)
      match a with
      | ⟨0, _⟩ => show b.val * 1 + (Win.rowMajor.symm n 0).val - 0 = b.val; omega
      | ⟨1, _⟩ => show h.val * 1 + (Win.rowMajor.symm n 1).val - 0 = h.val; omega
      | ⟨2, _⟩ => show t.val * 1 + (Win.rowMajor.symm n 2).val - 0 = t.val; omega
      | ⟨3, _⟩ => show s.val * 1 + (Win.rowMajor.symm n 3).val - lo = s.val + n.val - lo; omega
    · next hin =>
      rw [if_neg fun hle => hin fun a => by
        match a with
        | ⟨0, _⟩ => show 0 ≤ b.val * 1 + (Win.rowMajor.symm n 0).val ∧ b.val * 1 + (Win.rowMajor.symm n 0).val - 0 < 2; have := b.isLt; omega
        | ⟨1, _⟩ => show 0 ≤ h.val * 1 + (Win.rowMajor.symm n 1).val ∧ h.val * 1 + (Win.rowMajor.symm n 1).val - 0 < 8; have := h.isLt; omega
        | ⟨2, _⟩ => show 0 ≤ t.val * 1 + (Win.rowMajor.symm n 2).val ∧ t.val * 1 + (Win.rowMajor.symm n 2).val - 0 < 2048; have := t.isLt; omega
        | ⟨3, _⟩ => show lo ≤ s.val * 1 + (Win.rowMajor.symm n 3).val ∧ s.val * 1 + (Win.rowMajor.symm n 3).val - lo < 2048; omega]
      rfl
  · rw [zero_add, ← List.ofFn_eq_map, List.sum_ofFn, ← Finset.sum_range (fun n => if lo ≤ s.val + n ∧ s.val + n - lo < 2048 then f (s.val + n - lo) else 0), win_numel]

theorem sum_behind (f : ℕ → ℝ) (s : ℕ) (hs : s < 2048) :
    ∑ n ∈ Finset.range 2048, (if 0 ≤ s + n ∧ s + n - 0 < 2048 then f (s + n - 0) else 0) = ∑ n ∈ Finset.range 2048, f n - ∑ n ∈ Finset.range s, f n := by
  have e : 2048 = (2048 - s) + s := by omega
  have e' : 2048 = s + (2048 - s) := by omega
  rw [show ∑ n ∈ Finset.range 2048, f n = ∑ n ∈ Finset.range (s + (2048 - s)), f n by rw [← e'],
    Finset.sum_range_add, add_sub_cancel_left,
    show ∑ n ∈ Finset.range 2048, (if 0 ≤ s + n ∧ s + n - 0 < 2048 then f (s + n - 0) else 0) = ∑ n ∈ Finset.range ((2048 - s) + s), (if 0 ≤ s + n ∧ s + n - 0 < 2048 then f (s + n - 0) else 0) by rw [← e],
    Finset.sum_range_add]
  rw [Finset.sum_eq_zero (s := Finset.range s) fun x hx => if_neg (by omega), add_zero]
  exact Finset.sum_congr rfl fun n hn => by
    rw [if_pos (by have := Finset.mem_range.mp hn; omega)]; rfl

theorem sum_before (f : ℕ → ℝ) (s : ℕ) (hs : s < 2048) :
    ∑ n ∈ Finset.range 2048, (if 2047 ≤ s + n ∧ s + n - 2047 < 2048 then f (s + n - 2047) else 0) = ∑ n ∈ Finset.range (s + 1), f n := by
  have e : 2048 = (2047 - s) + (s + 1) := by omega
  rw [show ∑ n ∈ Finset.range 2048, (if 2047 ≤ s + n ∧ s + n - 2047 < 2048 then f (s + n - 2047) else 0) = ∑ n ∈ Finset.range ((2047 - s) + (s + 1)), (if 2047 ≤ s + n ∧ s + n - 2047 < 2048 then f (s + n - 2047) else 0) by rw [← e],
    Finset.sum_range_add, Finset.sum_eq_zero fun x hx => if_neg (by have := Finset.mem_range.mp hx; omega), zero_add]
  exact Finset.sum_congr rfl fun n hn => by
    have := Finset.mem_range.mp hn
    rw [if_pos (by omega), show s + (2047 - s + n) - 2047 = n by omega]
/-! ## The logs of a weight and of a break -/

theorem zero_word : (Scalar.ofBits (F := Ideal) .f32 0x00000000#32 : EReal) = 0 := by
  show Ideal.ofBits .f32 0x00000000#32 = _; simp [Ideal.ofBits, Ideal.ieee]

theorem inf_word : (Scalar.ofBits (F := Ideal) .f32 0x7F800000#32 : EReal) = ⊤ := by
  show Ideal.ofBits .f32 0x7F800000#32 = _; simp [Ideal.ofBits, Ideal.ieee]

theorem sp_log (x : ℝ) : sp x = Real.log (1 + Real.exp x) := by
  unfold sp
  rcases le_total 0 x with h | h
  · rw [max_eq_left h, abs_of_nonneg h, show (1 : ℝ) + Real.exp x = Real.exp x * (1 + Real.exp (-x)) by
      rw [mul_add, mul_one, ← Real.exp_add, add_neg_cancel, Real.exp_zero, add_comm],
      Real.log_mul (Real.exp_pos _).ne' (by positivity), Real.log_exp]
  · rw [max_eq_right h, abs_of_nonpos h, neg_neg, zero_add]

theorem sp_neg (x : ℝ) : -sp (-x) = x - sp x := by
  have := sp_log x
  rw [sp_log, sp_log, show (1 : ℝ) + Real.exp x = Real.exp x * (1 + Real.exp (-x)) by
      rw [mul_add, mul_one, ← Real.exp_add, add_neg_cancel, Real.exp_zero, add_comm],
      Real.log_mul (Real.exp_pos _).ne' (by positivity), Real.log_exp]
  ring

theorem exp_neg_sp (x : ℝ) : Real.exp (-sp x) = 1 - Real.exp (x - sp x) := by
  rw [sp_log, Real.exp_sub, Real.exp_neg, Real.exp_log (by positivity)]
  field_simp
  ring

/-- The softplus, as the reference writes it. -/
theorem soft (x : ℝ) :
    (if (x : EReal) - 0 ≠ (x : EReal) - 0 then (x : EReal) + 0
      else max (x : EReal) 0 + Ideal.log1p (Ideal.exp (-FloatOps.absf (F := Ideal) (φ := .f32) ((x : EReal) - 0)))) = ((sp x : ℝ) : EReal) := by
  rw [if_neg (by simp), sub_zero, abs_coe, ← EReal.coe_zero, max_coe, ← EReal.coe_neg, Ideal.exp_coe]
  unfold Ideal.log1p
  rw [← EReal.coe_one, ← EReal.coe_add, log_pos_coe _ (by positivity), ← EReal.coe_add]
  rfl

/-- Its derivative. -/
theorem soft_slope (x : ℝ) :
    Ideal.exp ((if (x : EReal) = ⊤ then 0 else (x : EReal)) - (if ((sp x : ℝ) : EReal) = ⊤ then 0 else ((sp x : ℝ) : EReal)))
      = ((Real.exp (x - sp x) : ℝ) : EReal) := by
  rw [if_neg (EReal.coe_ne_top _), if_neg (EReal.coe_ne_top _), ← EReal.coe_sub, Ideal.exp_coe]
/-! ## One head of the reference

`Q`, `K`, `V`, `D` are the head's reals, one row a position. -/

section
variable (x0 x1 x2 x3 : FVec Ideal S2x2048x512 .f32) (b : Fin 2) (h : Fin 8) (Q K V D : ℕ → ℕ → ℝ)
  (hz : ∀ t s : Fin 2048, val_main_v8 (F := Ideal) x0 x1 (ix4 b h t s) = ((zz Q K t s : ℝ) : EReal))
  (hg : ∀ t s : Fin 2048, val_main_v33 (F := Ideal) x2 x3 (ix4 b h t s) = ((gv V D t s : ℝ) : EReal))

theorem word_pos (a : Fin 2048) : (BitVec.ofNat 32 a.val).toInt = a.val := by
  have := a.isLt
  rw [BitVec.toInt_eq_toNat_of_lt (by rw [BitVec.toNat_ofNat]; omega), BitVec.toNat_ofNat]
  omega

theorem mask_at (t s : Fin 2048) {α : Type} (p q : α) : Scalar.select (val_main_v15 (F := Ideal) (ix2 t s)) p q = if s.val < t.val then p else q := by
  have e : val_main_v15 (F := Ideal) (ix2 t s) = IntOp.cmpi CmpIPredicate.slt (BitVec.ofNat 32 s.val) (BitVec.ofNat 32 t.val) := by
    pointwise [val_main_v15, val_main_v14, val_main_v13, val_main_v12, val_main_v11, val_main_v10, val_main_v9]
  rw [e]
  show Scalar.select (BitVec.ofBool (decide ((BitVec.ofNat 32 s.val).toInt < (BitVec.ofNat 32 t.val).toInt))) p q = _
  rw [word_pos, word_pos]
  by_cases h : s.val < t.val
  · rw [if_pos h, decide_eq_true (by exact_mod_cast h)]; rfl
  · rw [if_neg h, decide_eq_false (by exact_mod_cast h)]; rfl

include hz in
theorem v16_0_at (t s : Fin 2048) : val_main_v16_0 (F := Ideal) x0 x1 (ix4 b h t s) = ((sp (zz Q K t s) : ℝ) : EReal) := by
  pointwise [val_main_v16_0, val_main_call0_v11, val_main_call0_v10, val_main_call0_v9, val_main_call0_v8, val_main_call0_v7, val_main_call0_v6, val_main_call0_v5, val_main_call0_v4, val_main_call0_v3, val_main_call0_v2, val_main_call0_v1, val_main_call0_v0]
  rw [hz, show val_main_call0_cst (F := Ideal) ix0 = 0 from zero_word]
  exact soft _

include hz in
theorem v16_1_at (t s : Fin 2048) : val_main_v16_1 (F := Ideal) x0 x1 (ix4 b h t s) = ((Real.exp (zz Q K t s - sp (zz Q K t s)) : ℝ) : EReal) := by
  pointwise [val_main_v16_1, val_main_call0_v21, val_main_call0_v20, val_main_call0_v19, val_main_call0_v18, val_main_call0_v17, val_main_call0_v16, val_main_call0_v15, val_main_call0_v14, val_main_call0_v13]
  rw [hz, v16_0_at x0 x1 b h Q K hz, show val_main_call0_cst_0 (F := Ideal) ix0 = ⊤ from inf_word, show val_main_call0_cst_1 (F := Ideal) ix0 = 0 from zero_word,
    show val_main_call0_cst_2 (F := Ideal) ix0 = ⊤ from inf_word, show val_main_call0_cst_3 (F := Ideal) ix0 = 0 from zero_word]
  exact soft_slope _

include hz in
theorem soft_neg_at (t s : Fin 2048) : val_main_call3_v1_0 (F := Ideal) x0 x1 (ix4 b h t s) = ((sp (-zz Q K t s) : ℝ) : EReal) := by
  pointwise [val_main_call3_v1_0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_v0]
  rw [hz, show val_main_call3_call0_cst (F := Ideal) ix0 = 0 from zero_word, ← EReal.coe_neg]
  exact soft _

include hz in
theorem v21_0_at (t s : Fin 2048) : val_main_v21_0 (F := Ideal) x0 x1 (ix4 b h t s) = ((zz Q K t s - sp (zz Q K t s) : ℝ) : EReal) := by
  pointwise [val_main_v21_0]
  rw [soft_neg_at x0 x1 b h Q K hz, ← EReal.coe_neg, sp_neg]

include hz in
theorem v21_1_at (t s : Fin 2048) : val_main_v21_1 (F := Ideal) x0 x1 (ix4 b h t s) = ((1 - Real.exp (zz Q K t s - sp (zz Q K t s)) : ℝ) : EReal) := by
  pointwise [val_main_v21_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_v0]
  rw [hz, soft_neg_at x0 x1 b h Q K hz, show val_main_call3_call0_cst_0 (F := Ideal) ix0 = ⊤ from inf_word, show val_main_call3_call0_cst_1 (F := Ideal) ix0 = 0 from zero_word,
    show val_main_call3_call0_cst_2 (F := Ideal) ix0 = ⊤ from inf_word, show val_main_call3_call0_cst_3 (F := Ideal) ix0 = 0 from zero_word, ← EReal.coe_neg]
  refine (soft_slope _).trans (congrArg _ ?_)
  rw [← exp_neg_sp]
  congr 1
  linarith [sp_neg (zz Q K t s)]

include hz in
theorem v18_0_at (t s : Fin 2048) : val_main_v18_0 (F := Ideal) x0 x1 (ix4 b h t s) = ((lg Q K t s : ℝ) : EReal) := by
  pointwise [val_main_v18_0, val_main_v17, val_main_v18_1, val_main_call1_v2]
  rw [mask_at, v16_0_at x0 x1 b h Q K hz, show val_main_call1_v0 (F := Ideal) ix0 = 0 from zero_word]
  unfold lg
  split
  · rw [EReal.coe_neg]
  · rfl

include hz in
theorem v19_at (t s : Fin 2048) : val_main_v19 (F := Ideal) x0 x1 (ix4 b h t s) = ((tot Q K t - ∑ n ∈ Finset.range s, lg Q K t n : ℝ) : EReal) := by
  unfold val_main_v19
  refine (win_sum 0 2047 (val_main_v18_0 (F := Ideal) x0 x1) (fun n => lg Q K t n) b h t s (v18_0_at x0 x1 b h Q K hz t) (val_main_call2_v0 (F := Ideal)) _ _ zero_word).trans ?_
  rw [sum_behind _ _ s.isLt]; rfl

include hz in
theorem v23_0_at (t s : Fin 2048) : val_main_v23_0 (F := Ideal) x0 x1 (ix4 b h t s)
    = ((if s.val < t.val then zz Q K t s - sp (zz Q K t s) + (tot Q K t - ∑ n ∈ Finset.range (s.val + 1), lg Q K t n) else 0 : ℝ) : EReal) := by
  pointwise [val_main_v23_0, val_main_v22, val_main_v20, val_main_v23_1, val_main_call4_v2]
  rw [mask_at, v21_0_at x0 x1 b h Q K hz, v19_at x0 x1 b h Q K hz, v18_0_at x0 x1 b h Q K hz, show val_main_call4_v0 (F := Ideal) ix0 = 0 from zero_word,
    ← EReal.coe_sub, ← EReal.coe_add, Finset.sum_range_succ, sub_sub]
  split <;> rfl

include hz in
theorem v24_at (t s : Fin 2048) (hs : s.val < t.val) : val_main_v24 (F := Ideal) x0 x1 (ix4 b h t s) = ((wt Q K (tot Q K) t s : ℝ) : EReal) := by
  pointwise [val_main_v24]
  rw [v23_0_at x0 x1 b h Q K hz, Ideal.exp_coe, if_pos hs, wt, if_pos hs]

include hz in
theorem v25_0_at (t s : Fin 2048) : val_main_v25_0 (F := Ideal) x0 x1 (ix4 b h t s) = ((wt Q K (tot Q K) t s : ℝ) : EReal) := by
  pointwise [val_main_v25_0, val_main_v25_1, val_main_call5_v2]
  rw [mask_at, show val_main_call5_v0 (F := Ideal) ix0 = 0 from zero_word]
  split
  · next hs => exact v24_at x0 x1 b h Q K hz t s hs
  · next hs => rw [wt, if_neg hs]; rfl

include hz hg in
theorem v36_at (t s : Fin 2048) : val_main_v36 (F := Ideal) x0 x1 x2 x3 (ix4 b h t s) = ((gg Q K V D (tot Q K) t s : ℝ) : EReal) := by
  pointwise [val_main_v36, val_main_v23_1, val_main_v35, val_main_v34, val_main_v25_1, val_main_call6_v0, val_main_call7_v0]
  rw [mask_at, mask_at, show val_main_call7_cst (F := Ideal) ix0 = 0 from zero_word]
  by_cases hs : s.val < t.val
  · rw [if_pos hs, if_pos hs, v24_at x0 x1 b h Q K hz t s hs, hg, ← EReal.coe_mul, mul_comm]; rfl
  · rw [if_neg hs, gg, wt, if_neg hs, zero_mul]; rfl

include hz hg in
theorem v39_at (t s : Fin 2048) : val_main_v39 (F := Ideal) x0 x1 x2 x3 (ix4 b h t s) = ((∑ n ∈ Finset.range (s.val + 1), gg Q K V D (tot Q K) t n : ℝ) : EReal) := by
  unfold val_main_v39
  refine (win_sum 2047 0 (val_main_v36 (F := Ideal) x0 x1 x2 x3) (fun n => gg Q K V D (tot Q K) t n) b h t s (v36_at x0 x1 x2 x3 b h Q K V D hz hg t) (val_main_call9_v0 (F := Ideal)) _ _ zero_word).trans ?_
  rw [sum_before _ _ s.isLt]

include hz hg in
theorem v44_at (t s : Fin 2048) : val_main_v44 (F := Ideal) x0 x1 x2 x3 (ix4 b h t s) = ((dz Q K V D (tot Q K) t s : ℝ) : EReal) := by
  pointwise [val_main_v44, val_main_v43, val_main_v42, val_main_v41, val_main_v40, val_main_v38, val_main_v37, val_main_call8_v1, val_main_call8_v0, val_main_v18_1, val_main_call10_v0]
  rw [mask_at, v36_at x0 x1 x2 x3 b h Q K V D hz hg, v39_at x0 x1 x2 x3 b h Q K V D hz hg, v21_1_at x0 x1 b h Q K hz, v16_1_at x0 x1 b h Q K hz,
    show val_main_call10_cst (F := Ideal) ix0 = 0 from zero_word, Finset.sum_range_succ]
  by_cases hs : s.val < t.val
  · rw [if_pos hs, dz, if_pos hs]
    simp only [← EReal.coe_neg, ← EReal.coe_add, ← EReal.coe_mul]
    congr 1
    ring
  · rw [if_neg hs, dz, gg, wt, if_neg hs, if_neg hs]
    simp
end
/-! ## The results -/

section
variable {x0 x1 x2 x3 : FVec Ideal S2x2048x512 .f32} (f0 : AllFinite x0) (f1 : AllFinite x1) (f2 : AllFinite x2) (f3 : AllFinite x3)

include f0 f1 in
theorem v8_at (b : Fin 2) (h : Fin 8) (t s : Fin 2048) : val_main_v8 (F := Ideal) x0 x1 (ix4 b h t s)
    = ((zz (only (h.val % 2) (qP x0 b (h.val / 2))) (cP x1 b (h.val / 2)) t s : ℝ) : EReal) := by
  pointwise [val_main_v8, val_main_v7, val_main_v6, val_main_v3, val_main_v1, val_main_v0, val_main_v2, val_main_cst]
  rw [show Ideal.ofBits FTy.f32 1040187392#32 = ((0.125 : ℝ) : EReal) from eighth]
  simp only [val_eq f0, val_eq f1, ← EReal.coe_mul, coe_sum]
  congr 1
  unfold zz only qP cP
  simp only [ite_mul, zero_mul]
  rw [head_sum (fun l => val x0 b t (128 * (h.val / 2) + l) * 0.125 * val x1 b s (128 * (h.val / 2) + l)) _ (by omega), Finset.sum_mul]
  exact Finset.sum_congr rfl fun x _ => by rw [pair_col]; ring

include f2 f3 in
theorem v33_at (b : Fin 2) (h : Fin 8) (t s : Fin 2048) : val_main_v33 (F := Ideal) x2 x3 (ix4 b h t s)
    = ((gv (cP x2 b (h.val / 2)) (only (h.val % 2) (cP x3 b (h.val / 2))) t s : ℝ) : EReal) := by
  pointwise [val_main_v33, val_main_v30, val_main_v29, val_main_v5, val_main_v4]
  simp only [val_eq f2, val_eq f3, ← EReal.coe_mul, coe_sum]
  congr 1
  unfold gv only cP
  simp only [ite_mul, zero_mul]
  rw [head_sum (fun l => val x3 b t (128 * (h.val / 2) + l) * val x2 b s (128 * (h.val / 2) + l)) _ (by omega)]
  exact Finset.sum_congr rfl fun x _ => by rw [pair_col]

include f0 f1 f2 f3 in
theorem dz_at (b : Fin 2) (h : Fin 8) (t s : Fin 2048) : val_main_v44 (F := Ideal) x0 x1 x2 x3 (ix4 b h t s) = ((dzP x0 x1 x2 x3 b h.val t s : ℝ) : EReal) :=
  v44_at x0 x1 x2 x3 b h _ _ _ _ (v8_at f0 f1 b h) (v33_at f2 f3 b h) t s

include f0 f1 in
theorem wt_at (b : Fin 2) (h : Fin 8) (t s : Fin 2048) : val_main_v25_0 (F := Ideal) x0 x1 (ix4 b h t s) = ((wtP x0 x1 b h.val t s : ℝ) : EReal) :=
  v25_0_at x0 x1 b h _ _ (v8_at f0 f1 b h) t s

include f0 f1 f2 f3 in
theorem v56_at (i : Fin 4096) (j : Fin 512) : val_main_v56 (F := Ideal) x0 x1 x2 x3 (ix2 i j)
    = ((dqR x0 x1 x2 x3 ⟨i.val / 2048, by omega⟩ (i.val % 2048) j.val : ℝ) : EReal) := by
  pointwise [val_main_v56, val_main_v55, val_main_v54, val_main_v53, val_main_v48, val_main_v3, val_main_v2, val_main_v46, val_main_v45]
  rw [show val_main_cst_3 (F := Ideal) ix0 = ((0.125 : ℝ) : EReal) from eighth]
  simp only [val_eq f1, dz_at f0 f1 f2 f3, ← EReal.coe_mul, coe_sum]
  congr 1
  rw [dqR, Finset.sum_range, Finset.sum_mul]
  exact Finset.sum_congr rfl fun x _ => by ring

include f0 f1 f2 f3 in
theorem v58_at (i : Fin 4096) (j : Fin 512) : val_main_v58 (F := Ideal) x0 x1 x2 x3 (ix2 i j)
    = ((dkR x0 x1 x2 x3 ⟨i.val / 2048, by omega⟩ (i.val % 2048) j.val : ℝ) : EReal) := by
  pointwise [val_main_v58, val_main_v57, val_main_v52, val_main_v51, val_main_v47, val_main_v1, val_main_v0, val_main_v46, val_main_v45]
  rw [show val_main_cst_3 (F := Ideal) ix0 = ((0.125 : ℝ) : EReal) from eighth]
  simp only [val_eq f0, dz_at f0 f1 f2 f3, ← EReal.coe_mul, coe_sum]
  congr 1
  rw [dkR, Finset.sum_range]
  exact Finset.sum_congr rfl fun x _ => by ring

include f0 f1 f3 in
theorem v60_at (i : Fin 4096) (j : Fin 512) : val_main_v60 (F := Ideal) x0 x1 x3 (ix2 i j)
    = ((dvR x0 x1 x3 ⟨i.val / 2048, by omega⟩ (i.val % 2048) j.val : ℝ) : EReal) := by
  pointwise [val_main_v60, val_main_v59, val_main_v50, val_main_v49, val_main_v32, val_main_v31, val_main_v30, val_main_v29]
  simp only [val_eq f3, wt_at f0 f1, ← EReal.coe_mul, coe_sum]
  congr 1
  refine Eq.trans ?_ (Finset.sum_range fun t => wtP x0 x1 ⟨i.val / 2048, by omega⟩ (j.val / 64) t (i.val % 2048) * val x3 ⟨i.val / 2048, by omega⟩ t j.val).symm
  exact Finset.sum_congr rfl fun x _ => by ring
end

end Cert.AttnRefIdeal.Read
end
-- ==== Proof.AttnHost.lean ====
/- The attention gradient's arguments as the launch sees them: which entry of the host arrays a block's entry is. -/
module

public import proofs.«01_k».proof.Proof.AttnFrame
public import proofs.«01_k».proof.Proof.AttnRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Body
open Cert.AttnIdeal Cert.AttnIdeal.Gen

variable (m : (ℓ : Loc nD τ sig) → Buf (Elt Ideal) ℓ)

/-! ## What the host prepares -/

theorem V_25 (c : Dev nD) : (V m c main_v25 : FVec Ideal S4096x512 .bf16) = truncf (F := Ideal) .bf16 (shapeCast S4096x512
    (mulf (m ((c : Thread nD τ).loc main_arg0) : FVec Ideal S2x2048x512 .f32) (broadcastInDim S2x2048x512 ![] bcast_S_S2x2048x512 (constant (F := Ideal) S_ .f32 0x3E000000#32)))
    shapeCasts_S2x2048x512_S4096x512) bitsLt_bf16_f32 := by
  show StableHlo.after (List.flatten [hostOps0, hostOps0_1, hostOps0_2, hostOps0_3, hostOps0_4]) (fun b => m (c, b)) (Proc.devRef .tc main_v25) = _
  simp only [List.flatten_cons, List.flatten_nil, List.append_nil, List.cons_append, List.nil_append, hostOps0, hostOps0_1, hostOps0_2, hostOps0_3, hostOps0_4,
    StableHlo.after_cons, StableHlo.after_nil]
  after_results_simp
  rfl

theorem V_27 (c : Dev nD) : (V m c main_v27 : FVec Ideal S4096x512 .bf16) = truncf (F := Ideal) .bf16 (shapeCast S4096x512
    (m ((c : Thread nD τ).loc main_arg1) : FVec Ideal S2x2048x512 .f32) shapeCasts_S2x2048x512_S4096x512) bitsLt_bf16_f32 := by
  show StableHlo.after (List.flatten [hostOps0, hostOps0_1, hostOps0_2, hostOps0_3, hostOps0_4]) (fun b => m (c, b)) (Proc.devRef .tc main_v27) = _
  simp only [List.flatten_cons, List.flatten_nil, List.append_nil, List.cons_append, List.nil_append, hostOps0, hostOps0_1, hostOps0_2, hostOps0_3, hostOps0_4,
    StableHlo.after_cons, StableHlo.after_nil]
  after_results_simp
  rfl

theorem V_29 (c : Dev nD) : (V m c main_v29 : FVec Ideal S4096x512 .bf16) = truncf (F := Ideal) .bf16 (shapeCast S4096x512
    (m ((c : Thread nD τ).loc main_arg2) : FVec Ideal S2x2048x512 .f32) shapeCasts_S2x2048x512_S4096x512) bitsLt_bf16_f32 := by
  show StableHlo.after (List.flatten [hostOps0, hostOps0_1, hostOps0_2, hostOps0_3, hostOps0_4]) (fun b => m (c, b)) (Proc.devRef .tc main_v29) = _
  simp only [List.flatten_cons, List.flatten_nil, List.append_nil, List.cons_append, List.nil_append, hostOps0, hostOps0_1, hostOps0_2, hostOps0_3, hostOps0_4,
    StableHlo.after_cons, StableHlo.after_nil]
  after_results_simp
  rfl

theorem V_31 (c : Dev nD) : (V m c main_v31 : FVec Ideal S4096x512 .bf16) = truncf (F := Ideal) .bf16 (shapeCast S4096x512
    (m ((c : Thread nD τ).loc main_arg3) : FVec Ideal S2x2048x512 .f32) shapeCasts_S2x2048x512_S4096x512) bitsLt_bf16_f32 := by
  show StableHlo.after (List.flatten [hostOps0, hostOps0_1, hostOps0_2, hostOps0_3, hostOps0_4]) (fun b => m (c, b)) (Proc.devRef .tc main_v31) = _
  simp only [List.flatten_cons, List.flatten_nil, List.append_nil, List.cons_append, List.nil_append, hostOps0, hostOps0_1, hostOps0_2, hostOps0_3, hostOps0_4,
    StableHlo.after_cons, StableHlo.after_nil]
  after_results_simp
  rfl

open Cert.AttnRefIdeal.Read (val_main_v18_0 v18_0_at v8_at)

/-- The rows' sums over the breaks, one for each lane of a head. -/
def sums (x0 x1 : FVec Ideal S2x2048x512 .f32) : FVec Ideal S4096x512 .f32 :=
  shapeCast S4096x512 (transpose S2x2048x8x64 [0, 2, 1, 3] (broadcastInDim S2x8x2048x64 ![0, 1, 2, 3] bcast_S2x8x2048x1_S2x8x2048x64_0_1_2_3
    (broadcastInDim S2x8x2048x1 ![0, 1, 2] bcast_S2x8x2048_S2x8x2048x1_0_1_2
      (Host.reduceAdd (val_main_v18_0 (F := Ideal) x0 x1) (constant (F := Ideal) S_ .f32 0x00000000#32) reducesTo_S2x8x2048x2048_S2x8x2048_d3 h_S_ : FVec Ideal S2x8x2048 .f32)))
    transposes_S2x8x2048x64_S2x2048x8x64_0_2_1_3) shapeCasts_S2x2048x8x64_S4096x512

theorem V_21 (c : Dev nD) : (V m c main_v21 : FVec Ideal S4096x512 .f32) = sums (m ((c : Thread nD τ).loc main_arg0)) (m ((c : Thread nD τ).loc main_arg1)) := by
  show StableHlo.after (List.flatten [hostOps0, hostOps0_1, hostOps0_2, hostOps0_3, hostOps0_4]) (fun b => m (c, b)) (Proc.devRef .tc main_v21) = _
  simp only [List.flatten_cons, List.flatten_nil, List.append_nil, List.cons_append, List.nil_append, hostOps0, hostOps0_1, hostOps0_2, hostOps0_3, hostOps0_4,
    StableHlo.after_cons, StableHlo.after_nil, StableHlo.TRef.binary, StableHlo.TRef.nullary, StableHlo.TRef.ternary,
    StableHlo.TRef.unary, StableHlo.TRef.toBuf, StableHlo.TRef.ofBuf, cast_eq]
  after_results_simp
  rfl

theorem rows_apply (x : FVec Ideal S2x2048x512 .f32) (i : Fin 4096) (j : Fin 512) :
    truncf (F := Ideal) .bf16 (shapeCast S4096x512 x shapeCasts_S2x2048x512_S4096x512) bitsLt_bf16_f32 (ix2 i j)
      = x (ix3 ⟨i.val / 2048, by omega⟩ ⟨i.val % 2048, by omega⟩ j) := by
  pointwise

theorem sums_apply (x0 x1 : FVec Ideal S2x2048x512 .f32) (f0 : AllFinite x0) (f1 : AllFinite x1) (i : Fin 4096) (j : Fin 512) :
    sums x0 x1 (ix2 i j) = ((ltP x0 x1 ⟨i.val / 2048, by omega⟩ (j.val / 64) (i.val % 2048) : ℝ) : EReal) := by
  pointwise [sums]
  simp only [v18_0_at x0 x1 _ _ _ _ (v8_at f0 f1 _ _), coe_sum]
  congr 1

/-! ## The blocks at a point

Point `t` is sequence `t / 32`, head pair `t / 8 % 4`, query tile `t % 8`. -/

theorem idx : ∀ t : Fin cfg0.N, win0_0.index t = ![t.val / 32 * 8 + t.val % 8, t.val / 8 % 4] ∧ win0_1.index t = ![t.val / 32, t.val / 8 % 4] ∧ win0_2.index t = ![t.val / 32, t.val / 8 % 4]
    ∧ win0_3.index t = ![t.val / 32 * 8 + t.val % 8, t.val / 8 % 4] ∧ win0_4.index t = ![t.val / 32 * 8 + t.val % 8, t.val / 8 % 4] ∧ win0_5.index t = ![t.val / 32 * 8 + t.val % 8, t.val / 8 % 4]
    ∧ win0_6.index t = ![t.val / 32, t.val / 8 % 4] ∧ win0_7.index t = ![t.val / 32, t.val / 8 % 4] :=
  (by decide +kernel : ∀ t : Fin grid0.N, _)

theorem lt64 (t : Fin cfg0.N) : t.val < 64 := t.isLt.trans_eq (by decide : grid0.N = 64)

/-- A point's row of a tiled array. -/
def tileRow (t : Fin cfg0.N) (r : Fin 256) : Fin 4096 := ⟨t.val / 32 * 2048 + (256 * (t.val % 8) + r.val), by have := lt64 t; omega⟩
/-- A point's row of a whole array. -/
def seqRow (t : Fin cfg0.N) (r : Fin 2048) : Fin 4096 := ⟨t.val / 32 * 2048 + r.val, by have := lt64 t; omega⟩
/-- A point's lane. -/
def lane (t : Fin cfg0.N) (l : Fin 128) : Fin 512 := ⟨128 * (t.val / 8 % 4) + l.val, by omega⟩
/-- The point's sequence. -/
def seqOf (t : Fin cfg0.N) : Fin 2 := ⟨t.val / 32, by have := lt64 t; omega⟩

theorem tile_val {x : FVec Ideal S2x2048x512 .f32} (hx : AllFinite x) (t : Fin cfg0.N) (r : Fin 256) (l : Fin 128) :
    truncf (F := Ideal) .bf16 (shapeCast S4096x512 x shapeCasts_S2x2048x512_S4096x512) bitsLt_bf16_f32 (ix2 (tileRow t r) (lane t l))
      = ((val x (seqOf t) (256 * (t.val % 8) + r) (128 * (t.val / 8 % 4) + l) : ℝ) : EReal) := by
  rw [rows_apply, val_eq hx]
  have e : (tileRow t r).val = t.val / 32 * 2048 + (256 * (t.val % 8) + r.val) := rfl
  have h1 : (⟨(tileRow t r).val / 2048, by omega⟩ : Fin 2) = seqOf t := Fin.ext (show (tileRow t r).val / 2048 = t.val / 32 by omega)
  have h2 : (tileRow t r).val % 2048 = 256 * (t.val % 8) + r.val := by omega
  rw [h1]; simp only [h2]; rfl

theorem seq_val {x : FVec Ideal S2x2048x512 .f32} (hx : AllFinite x) (t : Fin cfg0.N) (r : Fin 2048) (l : Fin 128) :
    truncf (F := Ideal) .bf16 (shapeCast S4096x512 x shapeCasts_S2x2048x512_S4096x512) bitsLt_bf16_f32 (ix2 (seqRow t r) (lane t l))
      = ((cP x (seqOf t) (t.val / 8 % 4) r l : ℝ) : EReal) := by
  rw [rows_apply, val_eq hx]
  have e : (seqRow t r).val = t.val / 32 * 2048 + r.val := rfl
  have h1 : (⟨(seqRow t r).val / 2048, by omega⟩ : Fin 2) = seqOf t := Fin.ext (show (seqRow t r).val / 2048 = t.val / 32 by omega)
  have h2 : (seqRow t r).val % 2048 = r.val := by omega
  rw [h1]; simp only [h2]; rfl

section blocks
variable (c : Dev nD) (t : Fin cfg0.N)

/-- An argument of the call, as the array of its extended reals. -/
abbrev arg (k : Ref sig .tc) : k.ty.Contents (Elt Ideal) := m ((c : Thread nD τ).loc k)

variable (g0 : AllFinite (arg m c main_arg0)) (g1 : AllFinite (arg m c main_arg1)) (g2 : AllFinite (arg m c main_arg2)) (g3 : AllFinite (arg m c main_arg3))

include g0 in
theorem b0 (r : Fin 256) (l : Fin 128) : (show FVec Ideal S256x128 .bf16 from iblk m c 0 t) (ix2 r l)
    = ((qP (arg m c main_arg0) (seqOf t) (t.val / 8 % 4) (256 * (t.val % 8) + r) l : ℝ) : EReal) := by
  have ht := lt64 t
  blk_simp [iblk, idx t]
  rw [show V m c (Pipeline.arrRef spec0 0) = _ from V_25 m c]
  rw [show (win0_0.blk t).view.emb (ix2 r l) = ix2 (tileRow t r) (lane t l) from by blk_ext [idx t, tileRow, lane]]
  rw [rows_apply]
  pointwise
  rw [show Ideal.ofBits FTy.f32 1040187392#32 = ((0.125 : ℝ) : EReal) from eighth]
  rw [← rows_apply (m ((c : Thread nD τ).loc main_arg0)), tile_val g0, ← EReal.coe_mul]
  rfl

include g1 in
theorem b1 (r : Fin 2048) (l : Fin 128) : (show FVec Ideal S2048x128 .bf16 from iblk m c 1 t) (ix2 r l)
    = ((cP (arg m c main_arg1) (seqOf t) (t.val / 8 % 4) r l : ℝ) : EReal) := by
  have ht := lt64 t
  blk_simp [iblk, idx t]
  rw [show V m c (Pipeline.arrRef spec0 1) = _ from V_27 m c]
  rw [show (win0_1.blk t).view.emb (ix2 r l) = ix2 (seqRow t r) (lane t l) from by blk_ext [idx t, seqRow, lane]]
  exact seq_val g1 t r l

include g2 in
theorem b2 (r : Fin 2048) (l : Fin 128) : (show FVec Ideal S2048x128 .bf16 from iblk m c 2 t) (ix2 r l)
    = ((cP (arg m c main_arg2) (seqOf t) (t.val / 8 % 4) r l : ℝ) : EReal) := by
  have ht := lt64 t
  blk_simp [iblk, idx t]
  rw [show V m c (Pipeline.arrRef spec0 2) = _ from V_29 m c]
  rw [show (win0_2.blk t).view.emb (ix2 r l) = ix2 (seqRow t r) (lane t l) from by blk_ext [idx t, seqRow, lane]]
  exact seq_val g2 t r l

include g3 in
theorem b3 (r : Fin 256) (l : Fin 128) : (show FVec Ideal S256x128 .bf16 from iblk m c 3 t) (ix2 r l)
    = ((cP (arg m c main_arg3) (seqOf t) (t.val / 8 % 4) (256 * (t.val % 8) + r) l : ℝ) : EReal) := by
  have ht := lt64 t
  blk_simp [iblk, idx t]
  rw [show V m c (Pipeline.arrRef spec0 3) = _ from V_31 m c]
  rw [show (win0_3.blk t).view.emb (ix2 r l) = ix2 (tileRow t r) (lane t l) from by blk_ext [idx t, tileRow, lane]]
  exact tile_val g3 t r l

include g0 g1 in
theorem b4 (r : Fin 256) (l : Fin 128) : (show FVec Ideal S256x128 .f32 from iblk m c 4 t) (ix2 r l)
    = ((ltP (arg m c main_arg0) (arg m c main_arg1) (seqOf t) (2 * (t.val / 8 % 4) + l.val / 64) (256 * (t.val % 8) + r) : ℝ) : EReal) := by
  have ht := lt64 t
  blk_simp [iblk, idx t]
  rw [show V m c (Pipeline.arrRef spec0 4) = _ from V_21 m c]
  rw [show (win0_4.blk t).view.emb (ix2 r l) = ix2 (tileRow t r) (lane t l) from by blk_ext [idx t, tileRow, lane]]
  rw [sums_apply _ _ g0 g1]
  have e : (tileRow t r).val = t.val / 32 * 2048 + (256 * (t.val % 8) + r.val) := rfl
  have h1 : (⟨(tileRow t r).val / 2048, by omega⟩ : Fin 2) = seqOf t := Fin.ext (show (tileRow t r).val / 2048 = t.val / 32 by omega)
  have h2 : (tileRow t r).val % 2048 = 256 * (t.val % 8) + r.val := by omega
  have h3 : (lane t l).val / 64 = 2 * (t.val / 8 % 4) + l.val / 64 := by show (128 * (t.val / 8 % 4) + l.val) / 64 = _; omega
  rw [h1, h2, h3]
end blocks

end Cert.AttnIdeal.Body
end
-- ==== Proof.AttnValue.lean ====
/- The attention gradient's arrays after the launch are the reference's three gradients. -/
module

public import proofs.«01_k».proof.Proof.AttnHost
public import proofs.«01_k».proof.Proof.AttnLoop
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Body
open Cert.AttnIdeal Cert.AttnIdeal.Gen

/-! ## A pair's sums, head by head -/

section heads
variable (x0 x1 x2 x3 : (⟨3, ![2, 2048, 512]⟩ : Shape).Idx → EReal) (b : Fin 2) (p : ℕ)

/-- A pair's query tiles' share of the keys' gradient, and of the values'. -/
def keysUpTo (n s l : ℕ) : ℝ := sumK (qP x0 b p) (cP x1 b p) (cP x2 b p) (cP x3 b p) (ltP x0 x1 b (2 * p)) (ltP x0 x1 b (2 * p + 1)) n s l
def valsUpTo (n s l : ℕ) : ℝ := sumV (qP x0 b p) (cP x1 b p) (cP x3 b p) (ltP x0 x1 b (2 * p)) (ltP x0 x1 b (2 * p + 1)) n s l

theorem dz_pair (e : ℕ) (he : e < 2) (t s : ℕ) : dzP x0 x1 x2 x3 b (2 * p + e) t s
    = dzH (qP x0 b p) (cP x1 b p) (cP x2 b p) (cP x3 b p) e (ltP x0 x1 b (2 * p + e)) t s := by
  unfold dzP
  rw [show (2 * p + e) / 2 = p by omega, show (2 * p + e) % 2 = e by omega]

theorem wt_pair (e : ℕ) (he : e < 2) (t s : ℕ) : wtP x0 x1 b (2 * p + e) t s
    = wtH (qP x0 b p) (cP x1 b p) e (ltP x0 x1 b (2 * p + e)) t s := by
  unfold wtP
  rw [show (2 * p + e) / 2 = p by omega, show (2 * p + e) % 2 = e by omega]

theorem keys_all (s l : ℕ) (hl : l < 128) : keysUpTo x0 x1 x2 x3 b p 2048 s l = dkR x0 x1 x2 x3 b s (128 * p + l) := by
  unfold keysUpTo sumK dkR
  refine Finset.sum_congr rfl fun t _ => ?_
  rw [show (128 * p + l) / 64 = 2 * p + l / 64 by omega, dz_pair _ _ _ _ _ _ _ (by omega)]
  unfold only
  obtain h | h : l / 64 = 0 ∨ l / 64 = 1 := by omega
  · simp [h, qP]
  · simp [h, qP]

theorem vals_all (s l : ℕ) (hl : l < 128) : valsUpTo x0 x1 x3 b p 2048 s l = dvR x0 x1 x3 b s (128 * p + l) := by
  unfold valsUpTo sumV dvR
  refine Finset.sum_congr rfl fun t _ => ?_
  rw [show (128 * p + l) / 64 = 2 * p + l / 64 by omega, wt_pair _ _ _ _ _ (by omega)]
  unfold only
  obtain h | h : l / 64 = 0 ∨ l / 64 = 1 := by omega
  · simp [h, cP]
  · simp [h, cP]

theorem queries_all (t l : ℕ) (hl : l < 128) :
    (∑ s ∈ Finset.range 2048, (if l / 64 = 0 then dzH (qP x0 b p) (cP x1 b p) (cP x2 b p) (cP x3 b p) 0 (ltP x0 x1 b (2 * p)) t s
        else dzH (qP x0 b p) (cP x1 b p) (cP x2 b p) (cP x3 b p) 1 (ltP x0 x1 b (2 * p + 1)) t s) * cP x1 b p s l) * 0.125
      = dqR x0 x1 x2 x3 b t (128 * p + l) := by
  unfold dqR
  congr 1
  refine Finset.sum_congr rfl fun s _ => ?_
  rw [show (128 * p + l) / 64 = 2 * p + l / 64 by omega, dz_pair _ _ _ _ _ _ _ (by omega)]
  obtain h | h : l / 64 = 0 ∨ l / 64 = 1 := by omega
  · simp [h, cP]
  · simp [h, cP]
end heads

/-! ## What a point leaves, over the reals -/

variable (m : (ℓ : Loc nD τ sig) → Buf (Elt Ideal) ℓ) (c : Dev nD)

/-- The point's query tile. -/
def tileOf (t : Fin cfg0.N) : Fin 8 := ⟨t.val % 8, by omega⟩

theorem coord_tile (t : Fin cfg0.N) : grid0.coords t 2 = tileOf t := Fin.ext (tile_eq t)

/-- The query gradient's block and the two accumulators after a point. -/
abbrev seen (t : Fin cfg0.N) (P : Vec Ideal S2048x128 .f32 × Vec Ideal S2048x128 .f32) :=
  ((leftAt m c t P).1, (leftAt m c t P).2.2.2.1, (leftAt m c t P).2.2.2.2)

theorem seen_opening (t : Fin cfg0.N) (P) (h0 : t.val % 8 = 0) : seen m c t P
    = pairTile (iblk m c 0 t) (iblk m c 1 t) (iblk m c 2 t) (iblk m c 3 t) (iblk m c 4 t) (tileOf t) (k0_pay37 (F := Ideal)) (k0_pay38 (F := Ideal)) := by
  unfold seen
  rw [left_opening m c t P h0 (by omega)]
  have e := opening_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) (tileOf t) (coord_tile t) ((first_iff t).mpr h0) (fun h => (show ¬t.val % 8 = 7 by omega) ((last_iff t).mp h)) (ms0_5 t).view.junk
  dsimp only
  exact e

theorem seen_later (t : Fin cfg0.N) (P) (h0 : ¬t.val % 8 = 0) : seen m c t P
    = pairTile (iblk m c 0 t) (iblk m c 1 t) (iblk m c 2 t) (iblk m c 3 t) (iblk m c 4 t) (tileOf t) P.1 P.2 := by
  unfold seen
  by_cases h1 : t.val % 8 = 7
  · rw [left_closing m c t P h0 h1]
    have e := closing_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) (tileOf t) (coord_tile t) P.1 P.2 (fun h => h0 ((first_iff t).mp h)) ((last_iff t).mpr h1) (ms0_5 t).view.junk
    dsimp only
    exact e
  · rw [left_middle m c t P h0 h1]
    have e := middle_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) (tileOf t) (coord_tile t) P.1 P.2 (fun h => h0 ((first_iff t).mp h)) (fun h => h1 ((last_iff t).mp h)) (ms0_5 t).view.junk
    dsimp only
    exact e

theorem left_out (t : Fin cfg0.N) (P) (h1 : t.val % 8 = 7) :
    (leftAt m c t P).2.1 = k0_pay3 (leftAt m c t P).2.2.2.1 ∧ (leftAt m c t P).2.2.1 = k0_pay4 (leftAt m c t P).2.2.2.2 := by
  rw [left_closing m c t P (by omega) h1]
  have e := closing_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 hsc0 scM1 hsc1 (iblk m c 0 t) (iblk m c 1 t) (iblk m c 2 t) (iblk m c 3 t) (iblk m c 4 t) (tileOf t) (coord_tile t) P.1 P.2 (fun h => (show ¬t.val % 8 = 0 by omega) ((first_iff t).mp h)) ((last_iff t).mpr h1) (ms0_6 t).view.junk (ms0_7 t).view.junk
  dsimp only
  exact e

section points
variable (g0 : AllFinite (arg m c main_arg0)) (g1 : AllFinite (arg m c main_arg1)) (g2 : AllFinite (arg m c main_arg2)) (g3 : AllFinite (arg m c main_arg3))

/-- The accumulators hold the sums over the head pair's first `n` query rows. -/
def Sums (b : Fin 2) (p n : ℕ) (P : Vec Ideal S2048x128 .f32 × Vec Ideal S2048x128 .f32) : Prop :=
  Acc P.1 (keysUpTo (arg m c main_arg0) (arg m c main_arg1) (arg m c main_arg2) (arg m c main_arg3) b p n)
    ∧ Acc P.2 (valsUpTo (arg m c main_arg0) (arg m c main_arg1) (arg m c main_arg3) b p n)

include g0 g1 g2 g3 in
theorem tile_real (t : Fin cfg0.N) (P : Vec Ideal S2048x128 .f32 × Vec Ideal S2048x128 .f32) (hP : Sums m c (seqOf t) (t.val / 8 % 4) (256 * (t.val % 8)) P)
    (L : Left Ideal)
    (hZ : (L.1, L.2.2.2.1, L.2.2.2.2) = pairTile (iblk m c 0 t) (iblk m c 1 t) (iblk m c 2 t) (iblk m c 3 t) (iblk m c 4 t) (tileOf t) P.1 P.2) :
    (∀ (r : Fin 256) (l : Fin 128), L.1 (ix2 r l) = ((dqR (arg m c main_arg0) (arg m c main_arg1) (arg m c main_arg2) (arg m c main_arg3) (seqOf t) (256 * (t.val % 8) + r) (128 * (t.val / 8 % 4) + l) : ℝ) : EReal))
      ∧ Sums m c (seqOf t) (t.val / 8 % 4) (256 * (t.val % 8) + 256) L.2.2.2 := by
  obtain ⟨q, k, v⟩ := pair_real (qP (arg m c main_arg0) (seqOf t) (t.val / 8 % 4)) (cP (arg m c main_arg1) (seqOf t) (t.val / 8 % 4)) (cP (arg m c main_arg2) (seqOf t) (t.val / 8 % 4)) (cP (arg m c main_arg3) (seqOf t) (t.val / 8 % 4))
    (ltP (arg m c main_arg0) (arg m c main_arg1) (seqOf t) (2 * (t.val / 8 % 4))) (ltP (arg m c main_arg0) (arg m c main_arg1) (seqOf t) (2 * (t.val / 8 % 4) + 1)) (tileOf t)
    (x0 := iblk m c 0 t) (x1 := iblk m c 1 t) (x2 := iblk m c 2 t) (x3 := iblk m c 3 t) (x4 := iblk m c 4 t)
    (b0 m c t g0) (b3 m c t g3) (fun r => b4 m c t g0 g1 r 0) (fun r => b4 m c t g0 g1 r 64) (b1 m c t g1) (b2 m c t g2) hP.1 hP.2
  rw [← hZ] at q k v
  exact ⟨fun r l => (q r l).trans (congrArg _ (queries_all _ _ _ _ _ _ _ _ l.isLt)), k, v⟩

theorem zeros : Acc (k0_pay37 (F := Ideal)) (fun _ _ => 0) ∧ Acc (k0_pay38 (F := Ideal)) (fun _ _ => 0) := by
  constructor <;> intro s l
  · pointwise [k0_pay37]
    rfl
  · pointwise [k0_pay38]
    rfl

theorem sums_zero (b : Fin 2) (p : ℕ) : Sums m c b p 0 (k0_pay37 (F := Ideal), k0_pay38 (F := Ideal)) := by
  constructor <;> intro s l
  · refine (zeros.1 s l).trans ?_
    simp [keysUpTo, sumK]
  · refine (zeros.2 s l).trans ?_
    simp [valsUpTo, sumV]

/-- What a point leaves, the accumulators right when it is not its pair's first. -/
def Good (t : Fin cfg0.N) : Prop :=
  (∀ (r : Fin 256) (l : Fin 128), (leftAt m c t (held m c t.val)).1 (ix2 r l) = ((dqR (arg m c main_arg0) (arg m c main_arg1) (arg m c main_arg2) (arg m c main_arg3) (seqOf t) (256 * (t.val % 8) + r) (128 * (t.val / 8 % 4) + l) : ℝ) : EReal))
      ∧ Sums m c (seqOf t) (t.val / 8 % 4) (256 * (t.val % 8) + 256) (leftAt m c t (held m c t.val)).2.2.2

include g0 g1 g2 g3 in
theorem good (n : ℕ) : ∀ h : n < cfg0.N, Good m c ⟨n, h⟩ := by
  induction n with
  | zero =>
    intro h
    exact tile_real m c g0 g1 g2 g3 ⟨0, h⟩ (k0_pay37 (F := Ideal), k0_pay38 (F := Ideal)) (sums_zero m c _ _) (leftAt m c ⟨0, h⟩ (held m c 0)) (seen_opening m c ⟨0, h⟩ (held m c 0) rfl)
  | succ n ih =>
    intro h
    by_cases h0 : (n + 1) % 8 = 0
    · refine tile_real m c g0 g1 g2 g3 ⟨n + 1, h⟩ (k0_pay37 (F := Ideal), k0_pay38 (F := Ideal)) ?_ (leftAt m c ⟨n + 1, h⟩ (held m c (n + 1))) (seen_opening m c ⟨n + 1, h⟩ (held m c (n + 1)) h0)
      show Sums m c _ _ (256 * ((n + 1) % 8)) _
      rw [h0]
      exact sums_zero m c _ _
    · refine tile_real m c g0 g1 g2 g3 ⟨n + 1, h⟩ (held m c (n + 1)) ?_ (leftAt m c ⟨n + 1, h⟩ (held m c (n + 1))) (seen_later m c ⟨n + 1, h⟩ (held m c (n + 1)) h0)
      have hn : n < cfg0.N := by omega
      have g := (ih hn).2
      rw [← held_succ m c ⟨n, hn⟩] at g
      have e0 : seqOf ⟨n + 1, h⟩ = seqOf ⟨n, hn⟩ := Fin.ext (show (n + 1) / 32 = n / 32 by omega)
      have e1 : (n + 1) / 8 % 4 = n / 8 % 4 := by omega
      have e2 : 256 * ((n + 1) % 8) = 256 * (n % 8) + 256 := by omega
      show Sums m c _ ((n + 1) / 8 % 4) (256 * ((n + 1) % 8)) _
      rw [e0, e1, e2]
      exact g
end points

/-! ## The results -/

section results
variable (g0 : AllFinite (arg m c main_arg0)) (g1 : AllFinite (arg m c main_arg1)) (g2 : AllFinite (arg m c main_arg2)) (g3 : AllFinite (arg m c main_arg3))

theorem tile_place (t : Fin cfg0.N) (r : Fin 256) (l : Fin 128) (f : Fin 2 → ℕ → ℕ → ℝ) :
    f ⟨(tileRow t r).val / 2048, by omega⟩ ((tileRow t r).val % 2048) (lane t l).val = f (seqOf t) (256 * (t.val % 8) + r) (128 * (t.val / 8 % 4) + l) := by
  have e : (tileRow t r).val = t.val / 32 * 2048 + (256 * (t.val % 8) + r.val) := rfl
  have h1 : (⟨(tileRow t r).val / 2048, by omega⟩ : Fin 2) = seqOf t := Fin.ext (show (tileRow t r).val / 2048 = t.val / 32 by omega)
  have h2 : (tileRow t r).val % 2048 = 256 * (t.val % 8) + r.val := by omega
  rw [h1, h2]; rfl

theorem seq_place (t : Fin cfg0.N) (s : Fin 2048) (l : Fin 128) (f : Fin 2 → ℕ → ℕ → ℝ) :
    f ⟨(seqRow t s).val / 2048, by omega⟩ ((seqRow t s).val % 2048) (lane t l).val = f (seqOf t) s (128 * (t.val / 8 % 4) + l) := by
  have e : (seqRow t s).val = t.val / 32 * 2048 + s.val := rfl
  have h1 : (⟨(seqRow t s).val / 2048, by omega⟩ : Fin 2) = seqOf t := Fin.ext (show (seqRow t s).val / 2048 = t.val / 32 by omega)
  have h2 : (seqRow t s).val % 2048 = s.val := by omega
  rw [h1, h2]; rfl

include g0 g1 g2 g3

/-- The gradient of the queries. -/
theorem final5 : (dats m 0 c).arrAt 5 cfg0.N = Cert.AttnRefIdeal.Read.val_main_v56 (F := Ideal) (arg m c main_arg0) (arg m c main_arg1) (arg m c main_arg2) (arg m c main_arg3) := by
  refine (dats m 0 c).arrAt_eq_of_covers 5 _ (by decide +kernel) fun t _ y => ?_
  blk_simp
  rw [after0_5]
  have ht := lt64 t
  obtain ⟨r, l, rfl⟩ : ∃ (r : Fin 256) (l : Fin 128), y = ix2 r l := ⟨y 0, y 1, by funext a; fin_cases a <;> rfl⟩
  refine ((good m c g0 g1 g2 g3 t.val t.isLt).1 r l).trans ?_
  rw [show (win0_5.blk t).view.emb (ix2 r l) = ix2 (tileRow t r) (lane t l) from by blk_ext [idx t, tileRow, lane]]
  refine Eq.trans ?_ (Cert.AttnRefIdeal.Read.v56_at g0 g1 g2 g3 (tileRow t r) (lane t l)).symm
  exact congrArg _ (tile_place t r l (dqR (arg m c main_arg0) (arg m c main_arg1) (arg m c main_arg2) (arg m c main_arg3))).symm

/-- The gradient of the keys. -/
theorem final6 : (dats m 0 c).arrAt 6 cfg0.N = Cert.AttnRefIdeal.Read.val_main_v58 (F := Ideal) (arg m c main_arg0) (arg m c main_arg1) (arg m c main_arg2) (arg m c main_arg3) := by
  refine (dats m 0 c).arrAt_eq_of_covers 6 _ (by decide +kernel) fun t hf y => ?_
  have h7 : t.val % 8 = 7 := (last_iff t).mp (by_contra fun h => by rw [still0_6 t h] at hf; exact Bool.noConfusion hf)
  blk_simp
  rw [after0_6, (left_out m c t _ h7).1]
  have ht := lt64 t
  obtain ⟨s, l, rfl⟩ : ∃ (s : Fin 2048) (l : Fin 128), y = ix2 s l := ⟨y 0, y 1, by funext a; fin_cases a <;> rfl⟩
  have g := (good m c g0 g1 g2 g3 t.val t.isLt).2.1 s l
  rw [show 256 * ((⟨t.val, t.isLt⟩ : Fin cfg0.N).val % 8) + 256 = 2048 by show 256 * (t.val % 8) + 256 = _; omega] at g
  refine (Eq.trans rfl g).trans ?_
  rw [show (win0_6.blk t).view.emb (ix2 s l) = ix2 (seqRow t s) (lane t l) from by blk_ext [idx t, seqRow, lane]]
  refine Eq.trans ?_ (Cert.AttnRefIdeal.Read.v58_at g0 g1 g2 g3 (seqRow t s) (lane t l)).symm
  rw [keys_all _ _ _ _ _ _ _ _ l.isLt]
  exact congrArg _ (seq_place t s l (dkR (arg m c main_arg0) (arg m c main_arg1) (arg m c main_arg2) (arg m c main_arg3))).symm

/-- The gradient of the values. -/
theorem final7 : (dats m 0 c).arrAt 7 cfg0.N = Cert.AttnRefIdeal.Read.val_main_v60 (F := Ideal) (arg m c main_arg0) (arg m c main_arg1) (arg m c main_arg3) := by
  refine (dats m 0 c).arrAt_eq_of_covers 7 _ (by decide +kernel) fun t hf y => ?_
  have h7 : t.val % 8 = 7 := (last_iff t).mp (by_contra fun h => by rw [still0_7 t h] at hf; exact Bool.noConfusion hf)
  blk_simp
  rw [after0_7, (left_out m c t _ h7).2]
  have ht := lt64 t
  obtain ⟨s, l, rfl⟩ : ∃ (s : Fin 2048) (l : Fin 128), y = ix2 s l := ⟨y 0, y 1, by funext a; fin_cases a <;> rfl⟩
  have g := (good m c g0 g1 g2 g3 t.val t.isLt).2.2 s l
  rw [show 256 * ((⟨t.val, t.isLt⟩ : Fin cfg0.N).val % 8) + 256 = 2048 by show 256 * (t.val % 8) + 256 = _; omega] at g
  refine (Eq.trans rfl g).trans ?_
  rw [show (win0_7.blk t).view.emb (ix2 s l) = ix2 (seqRow t s) (lane t l) from by blk_ext [idx t, seqRow, lane]]
  refine Eq.trans ?_ (Cert.AttnRefIdeal.Read.v60_at g0 g1 g3 (seqRow t s) (lane t l)).symm
  rw [vals_all _ _ _ _ _ _ _ l.isLt]
  exact congrArg _ (seq_place t s l (dvR (arg m c main_arg0) (arg m c main_arg1) (arg m c main_arg3))).symm
end results

/-- The run with the result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v32_0) = (dats m 0 c).arrAt 5 cfg0.N
      ∧ r.2.mem ((c : Thread nD τ).loc main_v32_1) = (dats m 0 c).arrAt 6 cfg0.N
      ∧ r.2.mem ((c : Thread nD τ).loc main_v32_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 5, (h.1 c).1 6, (h.1 c).1 7, (h.2.1 c).1, (h.2.1 c).2.1, (h.2.1 c).2.2.1, (h.2.1 c).2.2.2⟩)
    (θ_run_and (run_main m ρ) (frame m ρ))

end Cert.AttnIdeal.Body
end
-- ==== Proof.AttnClaim.lean ====
/- The claims of the attention's backward call that carry the precondition: its arguments are finite numbers. -/
module

public import proofs.«01_k».proof.Defs
public import proofs.«01_k».proof.Proof.Gen.AttnRefIdeal
public import proofs.«01_k».proof.Proof.Gen.AttnRefIdeal.Run
public import proofs.«01_k».proof.Proof.Gen.AttnRefIdeal.Read
public import proofs.«01_k».proof.Proof.Frames
public import proofs.«01_k».proof.Proof.AttnValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.AttnIdeal.Body

/-- The precondition's one broadcast is well formed. -/
theorem finite_facts : Cert.Pre_finite_attention.Facts := ⟨by decide⟩

/-- An array whose magnitudes all compare below infinity has only real entries. -/
theorem finite_of_below (S : Shape) (x : S.Idx → EReal) (hb)
    (h : cmpf (F := Ideal) (φ := .f32) .olt (Host.absf x) (broadcastInDim S ![] hb (constant (F := Ideal) Cert.Pre_finite_attention.S_ .f32 0x7F800000#32)) = fun _ => 1#1) (i : S.Idx) :
    x i = ((x i).toReal : EReal) := by
  have e := congrFun h i
  have lt : max (x i) (-(x i)) < (⊤ : EReal) := by
    by_contra hn
    have : (0 : BitVec 1) = 1#1 := by
      rw [← e]
      show _ = BitVec.ofBool (decide (max (x i) (-(x i)) < Scalar.ofBits (F := Ideal) .f32 0x7F800000#32))
      rw [Cert.AttnRefIdeal.Read.inf_word, decide_eq_false hn]
      rfl
    exact absurd this (by decide)
  rcases max_lt_iff.mp lt with ⟨h1, h2⟩
  exact (EReal.coe_toReal h1.ne (fun hb => by rw [hb] at h2; exact absurd h2 (by simp))).symm

variable [Cert.Pre_finite_attention.Facts]

/-- What the precondition says of the four arguments. -/
theorem finite_args (m : (ℓ : Loc Cert.AttnIdeal.nD Cert.AttnIdeal.τ Cert.AttnIdeal.sig) → Buf (Elt Ideal) ℓ)
    (h : Cert.Pre_AttnIdeal_finite_attention m) (c : Dev Cert.AttnIdeal.nD) :
    AllFinite (arg m c Cert.AttnIdeal.main_arg0) ∧ AllFinite (arg m c Cert.AttnIdeal.main_arg1)
      ∧ AllFinite (arg m c Cert.AttnIdeal.main_arg2) ∧ AllFinite (arg m c Cert.AttnIdeal.main_arg3) :=
  ⟨finite_of_below _ _ _ (h c).1, finite_of_below _ _ _ (h c).2.1, finite_of_below _ _ _ (h c).2.2.1, finite_of_below _ _ _ (h c).2.2.2⟩

theorem attn_frame_finite : Cert.quiescent_AttnIdeal_pre_finite_attention := fun m ρ _ => attn_frame_ideal m ρ trivial

theorem attnRef_frame_finite : Cert.quiescent_AttnRefIdeal_pre_finite_attention := fun m ρ _ => attnRef_frame m ρ trivial

/-- The attention's backward call and the reference's gradients agree on finite arguments. -/
theorem attn : Cert.algebraic_AttnIdeal_AttnRefIdeal_pre_finite_attention := by
  intro m g m' g' hpre hagree
  refine ⟨fun c => (Cert.AttnIdeal.Body.dats m 0 c).arrAt 5 Cert.AttnIdeal.cfg0.N, fun c => (Cert.AttnIdeal.Body.dats m 0 c).arrAt 6 Cert.AttnIdeal.cfg0.N,
    fun c => (Cert.AttnIdeal.Body.dats m 0 c).arrAt 7 Cert.AttnIdeal.cfg0.N, Cert.AttnIdeal.Body.run_blocks m g, ?_⟩
  refine (θ_run Cert.AttnRefIdeal.defs _ _).mono (fun r h c => ?_) (Cert.AttnRefIdeal.Value.run m' g')
  obtain ⟨h0, h1, h2, h3⟩ := hagree c
  obtain ⟨f0, f1, f2, f3⟩ := finite_args m hpre c
  refine ⟨(h c).1.trans ?_, (h c).2.1.trans ?_, (h c).2.2.1.trans ?_, (h c).2.2.2⟩
  · refine (Cert.AttnRefIdeal.Read.val_main_v56_eq _).trans (Eq.trans ?_ (final5 m c f0 f1 f2 f3).symm)
    exact congr (congr (congr (congrArg Cert.AttnRefIdeal.Read.val_main_v56 h0) h1) h2) h3
  · refine (Cert.AttnRefIdeal.Read.val_main_v58_eq _).trans (Eq.trans ?_ (final6 m c f0 f1 f2 f3).symm)
    exact congr (congr (congr (congrArg Cert.AttnRefIdeal.Read.val_main_v58 h0) h1) h2) h3
  · refine (Cert.AttnRefIdeal.Read.val_main_v60_eq _).trans (Eq.trans ?_ (final7 m c f0 f1 f2 f3).symm)
    exact congr (congr (congrArg Cert.AttnRefIdeal.Read.val_main_v60 h0) h1) h3

end Cert.Proof

end
-- ==== Proof.InprojWords.lean ====
/- The whole numbers of the pooling windows as both programs compute them: where a token's window starts, how many tokens
   it holds, and which rows of a tile a window covers. -/
module

public import Idealize.ShloMosaic.Lib.Routing.OpsPair
public import Idealize.ShloMosaic.Lib.Pointwise
public import Idealize.ShloMosaic.Lib.Pipeline.ValueKit

@[expose] public section

noncomputable section

namespace Cert.InprojWords

open Idealize.ShloMosaic

theorem word (n : ℕ) (h : n < 5000) : (BitVec.ofNat 32 n).toInt = n := by
  rw [BitVec.toInt_eq_toNat_of_lt (by rw [BitVec.toNat_ofNat]; omega), BitVec.toNat_ofNat]
  omega

theorem real (n : ℕ) (h : n < 5000) : (FloatOps.sitofp (F := Ideal) .f32 (BitVec.ofNat 32 n) : EReal) = ((n : ℝ) : EReal) := by
  show (((BitVec.ofNat 32 n).toInt : ℝ) : EReal) = _
  rw [word n h]
  norm_cast

theorem add_word (a b : ℕ) : BitVec.ofNat 32 a + BitVec.ofNat 32 b = BitVec.ofNat 32 (a + b) := (BitVec.ofNat_add a b).symm

/-- The first token of a window of `w` that ends at token `n`: none before the row's first. -/
theorem start (n w : ℕ) (hn : n < 2048) (hw : w ≤ 16) :
    IntOp.maxsi (BitVec.ofNat 32 n + 1#32 - BitVec.ofNat 32 w) 0#32 = BitVec.ofNat 32 (n + 1 - w) := by
  rw [add_word n 1]
  by_cases h : w ≤ n + 1
  · have e : BitVec.ofNat 32 (n + 1) - BitVec.ofNat 32 w = BitVec.ofNat 32 (n + 1 - w) := by
      apply BitVec.eq_of_toNat_eq
      simp only [BitVec.toNat_sub, BitVec.toNat_ofNat]
      omega
    rw [e]
    unfold IntOp.maxsi
    by_cases h0 : n + 1 - w = 0
    · rw [h0]; simp
    · rw [if_pos]
      rw [BitVec.slt_iff_toInt_lt, word (n + 1 - w) (by omega), BitVec.toInt_zero]
      exact_mod_cast Nat.pos_of_ne_zero h0
  · unfold IntOp.maxsi
    rw [if_neg, show n + 1 - w = 0 by omega]
    rw [BitVec.slt_iff_toInt_lt]
    have : (BitVec.ofNat 32 (n + 1) - BitVec.ofNat 32 w).toInt = (n : ℤ) + 1 - w := by
      rw [BitVec.toInt_sub, word _ (by omega), word _ (by omega), Int.bmod_def]
      omega
    rw [this]
    show ¬ ((0#32).toInt < _)
    simp
    omega

/-- How many tokens a window of `w` that ends at token `n` holds. -/
theorem count (n w : ℕ) (hw : 1 ≤ w) : BitVec.ofNat 32 n + 1#32 - BitVec.ofNat 32 (n + 1 - w) = BitVec.ofNat 32 (min (n + 1) w) := by
  rw [add_word n 1]
  apply BitVec.eq_of_toNat_eq
  simp only [BitVec.toNat_sub, BitVec.toNat_ofNat]
  omega

/-- The same count as the least of two numbers. -/
theorem least (n w : ℕ) (hn : n < 2048) (hw : w ≤ 16) : IntOp.minsi (BitVec.ofNat 32 (n + 1)) (BitVec.ofNat 32 w) = BitVec.ofNat 32 (min (n + 1) w) := by
  unfold IntOp.minsi
  by_cases h : n + 1 < w
  · rw [if_pos (by rw [BitVec.slt_iff_toInt_lt, word _ (by omega), word _ (by omega)]; exact_mod_cast h), min_eq_left h.le]
  · rw [if_neg (by rw [BitVec.slt_iff_toInt_lt, word _ (by omega), word _ (by omega)]; exact_mod_cast h), min_eq_right (by omega)]

/-- A word that is not negative is its own wrapped index. -/
theorem wrapped (n : ℕ) (h : n < 5000) (a : BitVec 32) : Scalar.select (IntOp.cmpi .slt (BitVec.ofNat 32 n) 0#32) a (BitVec.ofNat 32 n) = BitVec.ofNat 32 n :=
  Routing.wrap_of_lt _ _ (by rw [BitVec.toNat_ofNat]; omega)

/-- The band of a window, as a number: one on the rows from `r` on, `w` of them, and zero elsewhere. -/
theorem band (r e w : ℕ) (hr : r < 600) (he : e < 600) (hw : w ≤ 16) :
    (FloatOps.sitofp (F := Ideal) .f32 (BitVec.setWidth 32 (IntOp.cmpi .sge (BitVec.ofNat 32 e) (BitVec.ofNat 32 r) &&& IntOp.cmpi .slt (BitVec.ofNat 32 e) (BitVec.ofNat 32 r + BitVec.ofNat 32 w))) : EReal)
      = if r ≤ e ∧ e < r + w then 1 else 0 := by
  rw [add_word]
  have h1 : IntOp.cmpi .sge (BitVec.ofNat 32 e) (BitVec.ofNat 32 r) = BitVec.ofBool (decide (r ≤ e)) := by
    show BitVec.ofBool (BitVec.sle _ _) = _
    congr 1
    rw [Bool.eq_iff_iff, BitVec.sle_iff_toInt_le, word _ (by omega), word _ (by omega), decide_eq_true_iff]
    norm_cast
  have h2 : IntOp.cmpi .slt (BitVec.ofNat 32 e) (BitVec.ofNat 32 (r + w)) = BitVec.ofBool (decide (e < r + w)) := by
    show BitVec.ofBool (BitVec.slt _ _) = _
    congr 1
    rw [Bool.eq_iff_iff, BitVec.slt_iff_toInt_lt, word _ (by omega), word _ (by omega), decide_eq_true_iff]
    norm_cast
  rw [h1, h2]
  show (((BitVec.setWidth 32 _).toInt : ℝ) : EReal) = _
  by_cases ha : r ≤ e <;> by_cases hb : e < r + w <;> simp [ha, hb]

/-- A window's start, wrapped as an index that might be negative. -/
theorem wrapped_start (n w : ℕ) (hn : n < 2048) (hw : w ≤ 16) (a : BitVec 32) :
    Scalar.select (IntOp.cmpi .slt (IntOp.maxsi (BitVec.ofNat 32 n + 1#32 - BitVec.ofNat 32 w) 0#32) 0#32) a (IntOp.maxsi (BitVec.ofNat 32 n + 1#32 - BitVec.ofNat 32 w) 0#32)
      = BitVec.ofNat 32 (n + 1 - w) := by
  rw [start n w hn hw, wrapped _ (by omega)]

/-- A window's count of tokens, from its start, as a number. -/
theorem counted (n w : ℕ) (hn : n < 2048) (h1 : 1 ≤ w) (hw : w ≤ 16) :
    (FloatOps.sitofp (F := Ideal) .f32 (BitVec.ofNat 32 n + 1#32 - IntOp.maxsi (BitVec.ofNat 32 n + 1#32 - BitVec.ofNat 32 w) 0#32) : EReal) = (((min (n + 1) w : ℕ) : ℝ) : EReal) := by
  rw [start n w hn hw, count n w h1, real _ (by omega)]

end Cert.InprojWords

end
-- ==== Proof.InprojRefDu.lean ====
/- The pooling windows' gradient as the reference computes it: a scatter of differences and a running sum from the row's end,
   which together are a sum over the windows that hold a token. -/
module

public import proofs.«01_k».proof.Proof.Gen.InprojRefIdeal.Read
public import proofs.«01_k».proof.Proof.InprojWords
public import proofs.«01_k».proof.Proof.AttnRefRead
public import proofs.«01_k».proof.Proof.LossReal

@[expose] public section

set_option maxRecDepth 16384

noncomputable section

open Idealize.ShloMosaic Idealize.ShloMosaic.TcCoe Idealize.SL.Sem

namespace Cert.InprojRefIdeal.Read
open Cert.InprojRefIdeal
open Cert.AttnRefIdeal.Read (foldl_coe)

/-! ## The scatter -/

/-- Where an update of the scatter lands: in its own batch and channel, at the row its word names. -/
theorem lands (idx : IVec S2048x1 32) (j : S2x2048x128.Idx) (i : S2x2049x128.Idx) :
    scatter_S2x2049x128_S2048x1_S2x2048x128_02_1_1_1.resultIdx? j idx = some i
      ↔ (j 0).val = (i 0).val ∧ (idx (ix2 (j 1) 0)).toInt = ((i 1).val : ℤ) ∧ (j 2).val = (i 2).val := by
  rw [Routing.resultIdx?_eq_some]
  have s0 : scatter_S2x2049x128_S2048x1_S2x2048x128_02_1_1_1.start j idx 0 = 0 := rfl
  have s2 : scatter_S2x2049x128_S2048x1_S2x2048x128_02_1_1_1.start j idx 2 = 0 := rfl
  have s1 : scatter_S2x2049x128_S2048x1_S2x2048x128_02_1_1_1.start j idx 1 = (idx (ix2 (j 1) 0)).toInt := by
    refine congrArg (fun z => (idx z).toInt) (funext fun a => Fin.ext ?_)
    match a with
    | ⟨0, _⟩ => rfl
    | ⟨1, _⟩ => rfl
  have w0 : scatter_S2x2049x128_S2048x1_S2x2048x128_02_1_1_1.window j 0 = (j 0).val := rfl
  have w1 : scatter_S2x2049x128_S2048x1_S2x2048x128_02_1_1_1.window j 1 = 0 := rfl
  have w2 : scatter_S2x2049x128_S2048x1_S2x2048x128_02_1_1_1.window j 2 = (j 2).val := rfl
  constructor
  · intro h
    have h0 := h 0
    have h1 := h 1
    have h2 := h 2
    rw [s0, w0] at h0
    rw [s1, w1] at h1
    rw [s2, w2] at h2
    exact ⟨by omega, by omega, by omega⟩
  · rintro ⟨h0, h1, h2⟩ a
    match a with
    | ⟨0, _⟩ => show scatter_S2x2049x128_S2048x1_S2x2048x128_02_1_1_1.start j idx 0 + (scatter_S2x2049x128_S2048x1_S2x2048x128_02_1_1_1.window j 0 : ℤ) = _; rw [s0, w0, h0]; simp
    | ⟨1, _⟩ => show scatter_S2x2049x128_S2048x1_S2x2048x128_02_1_1_1.start j idx 1 + (scatter_S2x2049x128_S2048x1_S2x2048x128_02_1_1_1.window j 1 : ℤ) = _; rw [s1, w1, h1]; simp
    | ⟨2, _⟩ => show scatter_S2x2049x128_S2048x1_S2x2048x128_02_1_1_1.start j idx 2 + (scatter_S2x2049x128_S2048x1_S2x2048x128_02_1_1_1.window j 2 : ℤ) = _; rw [s2, w2, h2]; simp

/-- An entry of the scatter: what stood there and the updates whose word names its row. -/
theorem scatter_entry (x : FVec Ideal S2x2049x128 .f32) (idx : IVec S2048x1 32) (u : FVec Ideal S2x2048x128 .f32) (b : Fin 2) (r : Fin 2049) (k : Fin 128) :
    Host.scatterAdd (F := Ideal) (φ := .f32) scatter_S2x2049x128_S2048x1_S2x2048x128_02_1_1_1 x idx u (ix3 b r k)
      = x (ix3 b r k) + ∑ t : Fin 2048, if (idx (ix2 t 0)).toInt = ((r : ℕ) : ℤ) then u (ix3 b t k) else 0 := by
  show x (ix3 b r k) + ∑ j ∈ Finset.univ.filter (fun j => scatter_S2x2049x128_S2048x1_S2x2048x128_02_1_1_1.resultIdx? j idx = some (ix3 b r k)), u j = _
  rw [← Finset.sum_filter]
  refine congrArg (x (ix3 b r k) + ·) (Finset.sum_nbij' (M := EReal) (fun j => j 1) (fun t => ix3 b t k) ?_ ?_ ?_ ?_ ?_)
  · intro j hj
    exact Finset.mem_filter.mpr ⟨Finset.mem_univ _, ((lands idx j _).mp (Finset.mem_filter.mp hj).2).2.1⟩
  · intro t ht
    exact Finset.mem_filter.mpr ⟨Finset.mem_univ _, (lands idx _ _).mpr ⟨rfl, (Finset.mem_filter.mp ht).2, rfl⟩⟩
  · intro j hj
    obtain ⟨h0, -, h2⟩ := (lands idx j _).mp (Finset.mem_filter.mp hj).2
    funext a
    apply Fin.ext
    match a with
    | ⟨0, _⟩ => exact h0.symm
    | ⟨1, _⟩ => rfl
    | ⟨2, _⟩ => exact h2.symm
  · intro t ht; rfl
  · intro j hj
    obtain ⟨h0, -, h2⟩ := (lands idx j _).mp (Finset.mem_filter.mp hj).2
    refine congrArg u (funext fun a => Fin.ext ?_)
    match a with
    | ⟨0, _⟩ => exact h0
    | ⟨1, _⟩ => rfl
    | ⟨2, _⟩ => exact h2

/-! ## The running sum from the row's end -/

/-- The windows' shape: one column of 2048 tokens. -/
abbrev Col : Shape := ⟨3, ![1, 2048, 1]⟩

theorem col_numel : Col.numel = 2048 := by simp [Shape.numel, Fin.prod_univ_succ]

theorem col_mid (n : Fin Col.numel) : (Col.rowMajor.symm n 0).val = 0 ∧ (Col.rowMajor.symm n 1).val = n.val ∧ (Col.rowMajor.symm n 2).val = 0 := by
  have h := Shape.rowMajor_val_three (d := ![1, 2048, 1]) (Col.rowMajor.symm n)
  rw [Equiv.apply_symm_apply] at h
  have h0 : (Col.rowMajor.symm n 0).val < 1 := (Col.rowMajor.symm n 0).isLt
  have h2 : (Col.rowMajor.symm n 2).val < 1 := (Col.rowMajor.symm n 2).isLt
  simp only [Matrix.cons_val] at h
  omega

/-- The sum of a column from a token on. -/
theorem tail_sum (x : S2x2048x512.Idx → EReal) (f : ℕ → ℝ) (b : Fin 2) (s : Fin 2048) (k : Fin 512)
    (hx : ∀ s : Fin 2048, x (ix3 b s k) = ((f s : ℝ) : EReal)) (init : S_.Idx → EReal) (hw) (hu) (hi0 : init (Shape.Idx.first hu) = 0) :
    Host.reduceWindowAdd (F := Ideal) (φ := .f32) (t := S2x2048x512) ![1, 2048, 1] ![1, 1, 1] ![0, 0, 0] ![0, 2047, 0] x init hw hu (ix3 b s k)
      = ((∑ n ∈ Finset.range 2048, (if s.val + n < 2048 then f (s.val + n) else 0) : ℝ) : EReal) := by
  unfold Host.reduceWindowAdd
  rw [Ideal.hostReduceWindowAdd_def, hi0]
  unfold Ideal.hostReduceWindowAdd Host.reduceWindow
  refine (foldl_coe _ (fun n : Fin Col.numel => if s.val + n.val < 2048 then f (s.val + n.val) else 0) (fun r n => ?_) _ 0).trans ?_
  · obtain ⟨w0, w1, w2⟩ := col_mid n
    dsimp only
    congr 1
    split
    · next hin =>
      have h1 := hin 1
      change 0 ≤ s.val * 1 + (Col.rowMajor.symm n 1).val ∧ s.val * 1 + (Col.rowMajor.symm n 1).val - 0 < 2048 at h1
      rw [w1, Nat.mul_one] at h1
      rw [if_pos (by omega)]
      refine (congrArg x (funext fun a => Fin.ext ?_)).trans (hx ⟨s.val + n.val, by omega⟩)
      match a with
      | ⟨0, _⟩ => show b.val * 1 + (Col.rowMajor.symm n 0).val - 0 = b.val; omega
      | ⟨1, _⟩ => show s.val * 1 + (Col.rowMajor.symm n 1).val - 0 = s.val + n.val; omega
      | ⟨2, _⟩ => show k.val * 1 + (Col.rowMajor.symm n 2).val - 0 = k.val; omega
    · next hin =>
      rw [if_neg fun hle => hin fun a => by
        match a with
        | ⟨0, _⟩ => show 0 ≤ b.val * 1 + (Col.rowMajor.symm n 0).val ∧ b.val * 1 + (Col.rowMajor.symm n 0).val - 0 < 2; have := b.isLt; omega
        | ⟨1, _⟩ => show 0 ≤ s.val * 1 + (Col.rowMajor.symm n 1).val ∧ s.val * 1 + (Col.rowMajor.symm n 1).val - 0 < 2048; omega
        | ⟨2, _⟩ => show 0 ≤ k.val * 1 + (Col.rowMajor.symm n 2).val ∧ k.val * 1 + (Col.rowMajor.symm n 2).val - 0 < 512; have := k.isLt; omega]
      rfl
  · rw [zero_add, ← List.ofFn_eq_map, List.sum_ofFn, ← Finset.sum_range (fun n => if s.val + n < 2048 then f (s.val + n) else 0), col_numel]

/-! ## The two together -/

/-- A row of numbers, zero past its end. -/
def upTo (f : ℕ → ℝ) (n : ℕ) : ℝ := if n < 2048 then f n else 0

/-- The differences at a row, summed from a token on, are the window that starts there. -/
theorem window_sum (f : ℕ → ℝ) (w s : ℕ) :
    ∑ n ∈ Finset.range 2048, (if s + n < 2048 then upTo f (s + n) - upTo f (s + n + w) else 0) = ∑ n ∈ Finset.range w, upTo f (s + n) := by
  have h0 : ∀ n, 2048 ≤ n → upTo f n = 0 := fun n h => if_neg (by omega)
  have e : ∀ n, (if s + n < 2048 then upTo f (s + n) - upTo f (s + n + w) else 0) = upTo f (s + n) - upTo f (s + (w + n)) := fun n => by
    split
    · rw [show s + n + w = s + (w + n) by omega]
    · rw [h0 _ (by omega), h0 _ (by omega), sub_zero]
  rw [Finset.sum_congr rfl fun n _ => e n, Finset.sum_sub_distrib]
  have e1 := Finset.sum_range_add (fun n => upTo f (s + n)) 2048 w
  have e2 := Finset.sum_range_add (fun n => upTo f (s + n)) w 2048
  have e3 : ∑ n ∈ Finset.range w, upTo f (s + (2048 + n)) = 0 := Finset.sum_eq_zero fun n _ => h0 _ (by omega)
  rw [Nat.add_comm w 2048] at e2
  linarith

/-- The updates that land at a later row: one, while its window ends in the row. -/
theorem one_update (f : ℕ → ℝ) (w r : ℕ) (hw : 1 ≤ w) (hr : 1 ≤ r) :
    ∑ t : Fin 2048, (if (t : ℕ) + 1 - w = r then -f t else 0) = -upTo f (r - 1 + w) := by
  unfold upTo
  split
  · next h =>
    rw [Finset.sum_eq_single (⟨r - 1 + w, h⟩ : Fin 2048) (fun t _ ht => if_neg fun he => ht (Fin.ext (show (t : ℕ) = r - 1 + w by omega))) (fun hn => absurd (Finset.mem_univ _) hn)]
    exact if_pos (show r - 1 + w + 1 - w = r by omega)
  · next h =>
    rw [neg_zero]
    exact Finset.sum_eq_zero fun t _ => if_neg fun he => h (by have := t.isLt; omega)

/-! ## One group of channels -/

/-- A channel's share of a token: its number by how many tokens the token's window holds. -/
def cell (w : ℕ) (d : ℕ → ℝ) (t : ℕ) : ℝ := d t / ((min (t + 1) w : ℕ) : ℝ)

theorem div_cell (w : ℕ) (hw : 1 ≤ w) (d : ℕ → ℝ) (t : ℕ) : Ideal.div ((d t : ℝ) : EReal) (((min (t + 1) w : ℕ) : ℝ) : EReal) = ((cell w d t : ℝ) : EReal) := by
  rw [Cert.LossReal.div_real _ _ (by have : 1 ≤ min (t + 1) w := le_min (by omega) hw; positivity), ← EReal.coe_mul, cell, div_eq_mul_inv, mul_comm]

/-- A number array with a row of padding before it. -/
theorem pad_row (x : FVec Ideal S2x2048x128 .f32) (z : FVec Ideal S_ .f32) (h) (hu) (b : Fin 2) (r : Fin 2049) (k : Fin 128) :
    pad S2x2049x128 ![0, 1, 0] ![0, 0, 0] ![0, 0, 0] x z h hu (ix3 b r k)
      = if hr : 1 ≤ (r : ℕ) then x (ix3 b ⟨r - 1, by omega⟩ k) else z (Shape.Idx.first hu) := by
  unfold pad
  by_cases hr : 1 ≤ (r : ℕ)
  · rw [dif_pos hr, dif_pos]
    · refine congrArg x (funext fun a => Fin.ext ?_)
      match a with
      | ⟨0, _⟩ => show (b.val - 0) / (0 + 1) = b.val; omega
      | ⟨1, _⟩ => show (r.val - 1) / (0 + 1) = r.val - 1; omega
      | ⟨2, _⟩ => show (k.val - 0) / (0 + 1) = k.val; omega
    · intro a
      match a with
      | ⟨0, _⟩ => show 0 ≤ b.val ∧ (b.val - 0) % (0 + 1) = 0 ∧ (b.val - 0) / (0 + 1) < 2; omega
      | ⟨1, _⟩ => show 1 ≤ r.val ∧ (r.val - 1) % (0 + 1) = 0 ∧ (r.val - 1) / (0 + 1) < 2048; omega
      | ⟨2, _⟩ => show 0 ≤ k.val ∧ (k.val - 0) % (0 + 1) = 0 ∧ (k.val - 0) / (0 + 1) < 128; omega
  · rw [dif_neg hr, dif_neg fun hin => hr (show 1 ≤ (r : ℕ) from (hin 1).1)]

/-- A group of 128 channels set among 512. -/
theorem pad_group {n lo hi : ℕ} (x : (⟨3, ![2, n, 128]⟩ : Shape).Idx → EReal) (z : S_.Idx → EReal) (h) (hu) (b : Fin 2) (r : Fin n) (c : Fin 512) :
    pad (⟨3, ![2, n, 512]⟩ : Shape) ![0, 0, lo] ![0, 0, hi] ![0, 0, 0] x z h hu (ix3 b r c)
      = if hc : lo ≤ (c : ℕ) ∧ (c : ℕ) - lo < 128 then x (ix3 b r ⟨c - lo, hc.2⟩) else z (Shape.Idx.first hu) := by
  unfold pad
  by_cases hc : lo ≤ (c : ℕ) ∧ (c : ℕ) - lo < 128
  · rw [dif_pos hc, dif_pos]
    · refine congrArg x (funext fun a => Fin.ext ?_)
      match a with
      | ⟨0, _⟩ => show (b.val - 0) / (0 + 1) = b.val; omega
      | ⟨1, _⟩ => show (r.val - 0) / (0 + 1) = r.val; omega
      | ⟨2, _⟩ => show (c.val - lo) / (0 + 1) = c.val - lo; omega
    · intro a
      match a with
      | ⟨0, _⟩ => show 0 ≤ b.val ∧ (b.val - 0) % (0 + 1) = 0 ∧ (b.val - 0) / (0 + 1) < 2; omega
      | ⟨1, _⟩ => show 0 ≤ r.val ∧ (r.val - 0) % (0 + 1) = 0 ∧ (r.val - 0) / (0 + 1) < n; have := r.isLt; omega
      | ⟨2, _⟩ => show lo ≤ c.val ∧ (c.val - lo) % (0 + 1) = 0 ∧ (c.val - lo) / (0 + 1) < 128; omega
  · rw [dif_neg hc, dif_neg fun hin => hc ⟨(hin 2).1, by have h2 := (hin 2).2.2; change (c.val - lo) / (0 + 1) < 128 at h2; omega⟩]

/-- The differences a group leaves at a row after the first: the row before it, less the row a window further on. -/
theorem diff_row (w : ℕ) (hw : 1 ≤ w) (hw' : w ≤ 16) (b : Fin 2) (k : Fin 128) (d : ℕ → ℝ) (x q : FVec Ideal S2x2048x128 .f32) (idx : IVec S2048x1 32)
    (z : FVec Ideal S2x2049x128 .f32) (z' : FVec Ideal S_ .f32) (h) (hu)
    (hx : ∀ t : Fin 2048, x (ix3 b t k) = ((d t : ℝ) : EReal)) (hq : ∀ t : Fin 2048, q (ix3 b t k) = (((min ((t : ℕ) + 1) w : ℕ) : ℝ) : EReal))
    (hi : ∀ t : Fin 2048, idx (ix2 t 0) = BitVec.ofNat 32 ((t : ℕ) + 1 - w)) (hz : ∀ r, z (ix3 b r k) = 0) (r : Fin 2049) (hr : 1 ≤ (r : ℕ)) :
    addf (F := Ideal) (φ := .f32) (Host.scatterAdd (F := Ideal) (φ := .f32) scatter_S2x2049x128_S2048x1_S2x2048x128_02_1_1_1 z idx (Host.negf (Host.divf x q)))
        (pad S2x2049x128 ![0, 1, 0] ![0, 0, 0] ![0, 0, 0] (Host.divf (F := Ideal) (φ := .f32) x q) z' h hu) (ix3 b r k)
      = ((upTo (cell w d) (r - 1) - upTo (cell w d) (r - 1 + w) : ℝ) : EReal) := by
  have hd : ∀ t : Fin 2048, Host.divf (F := Ideal) (φ := .f32) x q (ix3 b t k) = ((cell w d t : ℝ) : EReal) := fun t => by
    show Ideal.div (x (ix3 b t k)) (q (ix3 b t k)) = _
    rw [hx, hq, div_cell w hw]
  show Host.scatterAdd (F := Ideal) (φ := .f32) scatter_S2x2049x128_S2048x1_S2x2048x128_02_1_1_1 z idx (Host.negf (Host.divf x q)) (ix3 b r k)
    + pad S2x2049x128 ![0, 1, 0] ![0, 0, 0] ![0, 0, 0] (Host.divf (F := Ideal) (φ := .f32) x q) z' h hu (ix3 b r k) = _
  rw [scatter_entry, hz, zero_add, pad_row, dif_pos hr, hd]
  have e : ∀ t : Fin 2048, (if (idx (ix2 t 0)).toInt = ((r : ℕ) : ℤ) then Host.negf (F := Ideal) (φ := .f32) (Host.divf x q) (ix3 b t k) else (0 : EReal))
      = (((if (t : ℕ) + 1 - w = (r : ℕ) then -cell w d t else 0 : ℝ)) : EReal) := fun t => by
    rw [hi, Cert.InprojWords.word _ (by omega)]
    by_cases hc : (t : ℕ) + 1 - w = (r : ℕ)
    · rw [if_pos (by exact_mod_cast hc), if_pos hc, EReal.coe_neg, ← hd]; rfl
    · rw [if_neg (by exact_mod_cast hc), if_neg hc]; rfl
  rw [Fin.sum_fin_congr e, Cert.AttnIdeal.Body.coe_sum, one_update _ _ _ hw hr, ← EReal.coe_add]
  congr 1
  rw [show upTo (cell w d) ((r : ℕ) - 1) = cell w d (r - 1) from if_pos (by omega)]
  ring

/-! ## The four groups -/

theorem start2 (t : Fin 2048) : val_main_v63 (F := Ideal) (ix2 t 0) = BitVec.ofNat 32 ((t : ℕ) + 1 - 2) :=
  (val_main_v63_apply _).trans (Cert.InprojWords.wrapped_start t 2 t.isLt (by omega) _)
theorem start4 (t : Fin 2048) : val_main_v88 (F := Ideal) (ix2 t 0) = BitVec.ofNat 32 ((t : ℕ) + 1 - 4) :=
  (val_main_v88_apply _).trans (Cert.InprojWords.wrapped_start t 4 t.isLt (by omega) _)
theorem start8 (t : Fin 2048) : val_main_v113 (F := Ideal) (ix2 t 0) = BitVec.ofNat 32 ((t : ℕ) + 1 - 8) :=
  (val_main_v113_apply _).trans (Cert.InprojWords.wrapped_start t 8 t.isLt (by omega) _)
theorem start16 (t : Fin 2048) : val_main_v138 (F := Ideal) (ix2 t 0) = BitVec.ofNat 32 ((t : ℕ) + 1 - 16) :=
  (val_main_v138_apply _).trans (Cert.InprojWords.wrapped_start t 16 t.isLt (by omega) _)

theorem count2 (b : Fin 2) (t : Fin 2048) (k : Fin 128) : val_main_v198 (F := Ideal) (ix3 b t k) = (((min ((t : ℕ) + 1) 2 : ℕ) : ℝ) : EReal) :=
  ((val_main_v198_apply _).trans (val_main_v66_apply _)).trans (Cert.InprojWords.counted t 2 t.isLt (by omega) (by omega))
theorem count4 (b : Fin 2) (t : Fin 2048) (k : Fin 128) : val_main_v186 (F := Ideal) (ix3 b t k) = (((min ((t : ℕ) + 1) 4 : ℕ) : ℝ) : EReal) :=
  ((val_main_v186_apply _).trans (val_main_v91_apply _)).trans (Cert.InprojWords.counted t 4 t.isLt (by omega) (by omega))
theorem count8 (b : Fin 2) (t : Fin 2048) (k : Fin 128) : val_main_v174 (F := Ideal) (ix3 b t k) = (((min ((t : ℕ) + 1) 8 : ℕ) : ℝ) : EReal) :=
  ((val_main_v174_apply _).trans (val_main_v116_apply _)).trans (Cert.InprojWords.counted t 8 t.isLt (by omega) (by omega))
theorem count16 (b : Fin 2) (t : Fin 2048) (k : Fin 128) : val_main_v163 (F := Ideal) (ix3 b t k) = (((min ((t : ℕ) + 1) 16 : ℕ) : ℝ) : EReal) :=
  ((val_main_v163_apply _).trans (val_main_v141_apply _)).trans (Cert.InprojWords.counted t 16 t.isLt (by omega) (by omega))

variable (x7 : FVec Ideal S2x2048x512 .f32)

theorem zero_word : (Scalar.ofBits (F := Ideal) .f32 0x00000000#32 : EReal) = 0 := by
  show Ideal.ofBits .f32 0x00000000#32 = _; simp [Ideal.ofBits, Ideal.ieee]

theorem group0 (b : Fin 2) (t : Fin 2048) (k : Fin 128) : val_main_v154 (F := Ideal) x7 (ix3 b t k) = x7 (ix3 b t ⟨k, by omega⟩) := by
  pointwise [val_main_v154, val_main_v153, val_main_v152]
theorem group1 (b : Fin 2) (t : Fin 2048) (k : Fin 128) : val_main_v156 (F := Ideal) x7 (ix3 b t k) = x7 (ix3 b t ⟨128 + k, by omega⟩) := by
  pointwise [val_main_v156, val_main_v155, val_main_v152]
theorem group2 (b : Fin 2) (t : Fin 2048) (k : Fin 128) : val_main_v158 (F := Ideal) x7 (ix3 b t k) = x7 (ix3 b t ⟨256 + k, by omega⟩) := by
  pointwise [val_main_v158, val_main_v157, val_main_v152]
theorem group3 (b : Fin 2) (t : Fin 2048) (k : Fin 128) : val_main_v160 (F := Ideal) x7 (ix3 b t k) = x7 (ix3 b t ⟨384 + k, by omega⟩) := by
  pointwise [val_main_v160, val_main_v159, val_main_v152]

/-- The window of a channel's group. -/
def win (c : ℕ) : ℕ := 2 ^ (c / 128 + 1)

theorem win_cases (c : ℕ) (hc : c < 512) : (c < 128 ∧ win c = 2) ∨ (128 ≤ c ∧ c < 256 ∧ win c = 4) ∨ (256 ≤ c ∧ c < 384 ∧ win c = 8) ∨ (384 ≤ c ∧ win c = 16) := by
  have h : c / 128 < 4 := by omega
  rcases Decidable.em (c < 128) with h1 | h1
  · exact .inl ⟨h1, by rw [win, show c / 128 = 0 by omega]; rfl⟩
  rcases Decidable.em (c < 256) with h2 | h2
  · exact .inr (.inl ⟨by omega, h2, by rw [win, show c / 128 = 1 by omega]; rfl⟩)
  rcases Decidable.em (c < 384) with h3 | h3
  · exact .inr (.inr (.inl ⟨by omega, h3, by rw [win, show c / 128 = 2 by omega]; rfl⟩))
  · exact .inr (.inr (.inr ⟨by omega, by rw [win, show c / 128 = 3 by omega]; rfl⟩))

section
variable (b : Fin 2) (c : Fin 512) (d : ℕ → ℝ) (hx : ∀ t : Fin 2048, x7 (ix3 b t c) = ((d t : ℝ) : EReal))
include hx

/-- The differences of every channel at a row after the first. -/
theorem r206 (r : Fin 2049) (hr : 1 ≤ (r : ℕ)) : val_main_v206 (F := Ideal) x7 (ix3 b r c)
    = ((upTo (cell (win c) d) (r - 1) - upTo (cell (win c) d) (r - 1 + win c) : ℝ) : EReal) := by
  show ((val_main_v170 (F := Ideal) x7 (ix3 b r c) + val_main_v181 (F := Ideal) x7 (ix3 b r c) + val_main_v193 (F := Ideal) x7 (ix3 b r c) + val_main_v205 (F := Ideal) x7 (ix3 b r c) : EReal)) = _
  unfold val_main_v170 val_main_v181 val_main_v193 val_main_v205
  rw [pad_group, pad_group, pad_group, pad_group]
  rcases win_cases c c.isLt with ⟨h, e⟩ | ⟨h, h', e⟩ | ⟨h, h', e⟩ | ⟨h, e⟩
  · rw [dif_neg (by omega), dif_neg (by omega), dif_neg (by omega), dif_pos (by omega), e]
    rw [show val_main_cst_32 (F := Ideal) _ = 0 from zero_word, show val_main_cst_36 (F := Ideal) _ = 0 from zero_word, show val_main_cst_40 (F := Ideal) _ = 0 from zero_word, add_zero, add_zero, zero_add]
    exact diff_row 2 (by omega) (by omega) b ⟨c - 0, _⟩ d _ _ _ _ _ _ _ (fun t => (group0 x7 b t _).trans (hx t)) (fun t => count2 b t _) start2 (fun r => zero_word) r hr
  · rw [dif_neg (by omega), dif_neg (by omega), dif_pos (by omega), dif_neg (by omega), e]
    rw [show val_main_cst_32 (F := Ideal) _ = 0 from zero_word, show val_main_cst_36 (F := Ideal) _ = 0 from zero_word, show val_main_cst_44 (F := Ideal) _ = 0 from zero_word, add_zero, add_zero, zero_add]
    refine diff_row 4 (by omega) (by omega) b ⟨c - 128, _⟩ d _ _ _ _ _ _ _ (fun t => (group1 x7 b t _).trans (Eq.trans (congrArg (fun z => x7 (ix3 b t z)) (Fin.ext ?_)) (hx t))) (fun t => count4 b t _) start4 (fun r => zero_word) r hr
    show 128 + ((c : ℕ) - 128) = c; omega
  · rw [dif_neg (by omega), dif_pos (by omega), dif_neg (by omega), dif_neg (by omega), e]
    rw [show val_main_cst_32 (F := Ideal) _ = 0 from zero_word, show val_main_cst_40 (F := Ideal) _ = 0 from zero_word, show val_main_cst_44 (F := Ideal) _ = 0 from zero_word, add_zero, add_zero, zero_add]
    refine diff_row 8 (by omega) (by omega) b ⟨c - 256, _⟩ d _ _ _ _ _ _ _ (fun t => (group2 x7 b t _).trans (Eq.trans (congrArg (fun z => x7 (ix3 b t z)) (Fin.ext ?_)) (hx t))) (fun t => count8 b t _) start8 (fun r => zero_word) r hr
    show 256 + ((c : ℕ) - 256) = c; omega
  · rw [dif_pos (by omega), dif_neg (by omega), dif_neg (by omega), dif_neg (by omega), e]
    rw [show val_main_cst_36 (F := Ideal) _ = 0 from zero_word, show val_main_cst_40 (F := Ideal) _ = 0 from zero_word, show val_main_cst_44 (F := Ideal) _ = 0 from zero_word, add_zero, add_zero, add_zero]
    refine diff_row 16 (by omega) (by omega) b ⟨c - 384, _⟩ d _ _ _ _ _ _ _ (fun t => (group3 x7 b t _).trans (Eq.trans (congrArg (fun z => x7 (ix3 b t z)) (Fin.ext ?_)) (hx t))) (fun t => count16 b t _) start16 (fun r => zero_word) r hr
    show 384 + ((c : ℕ) - 384) = c; omega

/-- The token's own part. -/
theorem r197 (s : Fin 2048) : val_main_v197 (F := Ideal) x7 (ix3 b s c) = ((-d s : ℝ) : EReal) := by
  rw [EReal.coe_neg, ← hx s]
  show ((val_main_v162 (F := Ideal) x7 (ix3 b s c) + val_main_v172 (F := Ideal) x7 (ix3 b s c) + val_main_v184 (F := Ideal) x7 (ix3 b s c) + val_main_v196 (F := Ideal) x7 (ix3 b s c) : EReal)) = _
  unfold val_main_v162 val_main_v172 val_main_v184 val_main_v196
  rw [pad_group, pad_group, pad_group, pad_group]
  rcases win_cases c c.isLt with ⟨h, e⟩ | ⟨h, h', e⟩ | ⟨h, h', e⟩ | ⟨h, e⟩
  · rw [dif_neg (by omega), dif_neg (by omega), dif_neg (by omega), dif_pos (by omega)]
    rw [show val_main_cst_29 (F := Ideal) _ = 0 from zero_word, show val_main_cst_33 (F := Ideal) _ = 0 from zero_word, show val_main_cst_37 (F := Ideal) _ = 0 from zero_word, add_zero, add_zero, zero_add]
    exact congrArg (- ·) (group0 x7 b s _)
  · rw [dif_neg (by omega), dif_neg (by omega), dif_pos (by omega), dif_neg (by omega)]
    rw [show val_main_cst_29 (F := Ideal) _ = 0 from zero_word, show val_main_cst_33 (F := Ideal) _ = 0 from zero_word, show val_main_cst_41 (F := Ideal) _ = 0 from zero_word, add_zero, add_zero, zero_add]
    refine congrArg (- ·) ((group1 x7 b s _).trans (congrArg (fun z => x7 (ix3 b s z)) (Fin.ext ?_)))
    show 128 + ((c : ℕ) - 128) = c; omega
  · rw [dif_neg (by omega), dif_pos (by omega), dif_neg (by omega), dif_neg (by omega)]
    rw [show val_main_cst_29 (F := Ideal) _ = 0 from zero_word, show val_main_cst_37 (F := Ideal) _ = 0 from zero_word, show val_main_cst_41 (F := Ideal) _ = 0 from zero_word, add_zero, add_zero, zero_add]
    refine congrArg (- ·) ((group2 x7 b s _).trans (congrArg (fun z => x7 (ix3 b s z)) (Fin.ext ?_)))
    show 256 + ((c : ℕ) - 256) = c; omega
  · rw [dif_pos (by omega), dif_neg (by omega), dif_neg (by omega), dif_neg (by omega)]
    rw [show val_main_cst_33 (F := Ideal) _ = 0 from zero_word, show val_main_cst_37 (F := Ideal) _ = 0 from zero_word, show val_main_cst_41 (F := Ideal) _ = 0 from zero_word, add_zero, add_zero, add_zero]
    refine congrArg (- ·) ((group3 x7 b s _).trans (congrArg (fun z => x7 (ix3 b s z)) (Fin.ext ?_)))
    show 384 + ((c : ℕ) - 384) = c; omega

theorem r208 (s : Fin 2048) : val_main_v208 (F := Ideal) x7 (ix3 b s c)
    = ((upTo (cell (win c) d) s - upTo (cell (win c) d) (s + win c) : ℝ) : EReal) := by
  have h := r206 x7 b c d hx ⟨s + 1, by omega⟩ (by show 1 ≤ (s : ℕ) + 1; omega)
  rw [show (((⟨(s : ℕ) + 1, by omega⟩ : Fin 2049) : ℕ)) - 1 = s by show (s : ℕ) + 1 - 1 = s; omega] at h
  rw [val_main_v208_apply, ← h]
  refine congrArg (val_main_v206 (F := Ideal) x7) (funext fun a => Fin.ext ?_)
  match a with
  | ⟨0, _⟩ => rfl
  | ⟨1, _⟩ => show 1 + (s : ℕ) = s + 1; omega
  | ⟨2, _⟩ => rfl

theorem r209 (s : Fin 2048) : val_main_v209 (F := Ideal) x7 (ix3 b s c) = ((∑ n ∈ Finset.range (win c), upTo (cell (win c) d) (s + n) : ℝ) : EReal) := by
  rw [← window_sum]
  unfold val_main_v209
  exact tail_sum _ (fun n => upTo (cell (win c) d) n - upTo (cell (win c) d) (n + win c)) b s c (r208 x7 b c d hx) _ _ _ zero_word

/-- The gradient with respect to a token: the windows that hold it, less its own. -/
theorem r210 (s : Fin 2048) : val_main_v210 (F := Ideal) x7 (ix3 b s c)
    = ((∑ n ∈ Finset.range (win c), upTo (cell (win c) d) (s + n) - d s : ℝ) : EReal) := by
  rw [val_main_v210_apply, r197 x7 b c d hx, r209 x7 b c d hx]
  show ((-d s : ℝ) : EReal) + ((_ : ℝ) : EReal) = _
  rw [← EReal.coe_add]
  congr 1
  ring

end

end Cert.InprojRefIdeal.Read

end
-- ==== Proof.InprojRefRead.lean ====
/- The reference's gradients at the projection's input, entry by entry. -/
module

public import proofs.«01_k».proof.Proof.InprojRefDu
public import proofs.«01_k».proof.Proof.LossRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojRefIdeal.Read
open Cert.InprojRefIdeal
open Cert.MixerRefIdeal.Read (reduce_lead sum_rows)
open Cert.LossRefIdeal.Read (row whole width)

variable (x0 : FVec Ideal S2x2048x1024 .f32) (x1 : FVec Ideal S2x6144 .f32) (x2 : FVec Ideal S1x1024 .f32) (x3 : FVec Ideal S1x1024x2048 .f32)
  (x4 x5 x6 x7 : FVec Ideal S2x2048x512 .f32) (x8 : FVec Ideal S2x2048x1024 .f32)

/-- A row of the two batches laid in one line, of 512 channels. -/
def chan (x : FVec Ideal S2x2048x512 .f32) (n : Fin 4096) (k : Fin 512) : EReal := x (ix3 ⟨(n : ℕ) / 2048, by omega⟩ ⟨(n : ℕ) % 2048, by omega⟩ k)

/-- One of the projection's four cotangents. -/
def part (g : Fin 4) : FVec Ideal S2x2048x512 .f32 :=
  if (g : ℕ) = 0 then x4 else if (g : ℕ) = 1 then x5 else if (g : ℕ) = 2 then x6 else val_main_v210 (F := Ideal) x7

/-- One element of the gradient with respect to the projection's input. -/
def HR (r : Fin 4096) (k : Fin 1024) : EReal :=
  ∑ g : Fin 4, ∑ l : Fin 512, chan (part x4 x5 x6 x7 g) r l * x3 (ix3 0 k ⟨g * 512 + l, by omega⟩)

/-- A channel of a row, by the row's batch and place. -/
theorem chan_at (x : FVec Ideal S2x2048x512 .f32) (b : Fin 2) (s : Fin 2048) (k : Fin 512) : chan x ⟨b * 2048 + s, by omega⟩ k = x (ix3 b s k) :=
  congrArg₂ (fun p q => x (ix3 p q k)) (Fin.ext (show ((b : ℕ) * 2048 + s) / 2048 = b by omega)) (Fin.ext (show ((b : ℕ) * 2048 + s) % 2048 = s by omega))

theorem r212 (b : Fin 2) (s : Fin 2048) (k : Fin 1024) : val_main_v212 (F := Ideal) x3 x4 x5 x6 x7 (ix3 b s k) = HR x3 x4 x5 x6 x7 ⟨b * 2048 + s, by omega⟩ k := by
  pointwise [val_main_v212, val_main_v211, val_main_v35]
  refine (Fin.sum_mul_add_congr fun g l hl => ?_).symm
  refine congrArg₂ (· * ·) ?_ rfl
  rw [chan_at]
  fin_cases g
  · rw [dif_pos (show 0 * 512 + (l : ℕ) < 512 by omega)]
    blk_ext [part]
  · rw [dif_neg (show ¬1 * 512 + (l : ℕ) < 512 by omega), dif_pos (show 1 * 512 + (l : ℕ) - 512 < 512 by omega)]
    blk_ext [part]
  · rw [dif_neg (show ¬2 * 512 + (l : ℕ) < 512 by omega), dif_neg (show ¬2 * 512 + (l : ℕ) - 512 < 512 by omega), dif_pos (show 2 * 512 + (l : ℕ) - 512 - 512 < 512 by omega)]
    blk_ext [part]
  · rw [dif_neg (show ¬3 * 512 + (l : ℕ) < 512 by omega), dif_neg (show ¬3 * 512 + (l : ℕ) - 512 < 512 by omega), dif_neg (show ¬3 * 512 + (l : ℕ) - 512 - 512 < 512 by omega)]
    blk_ext [part]

/-- A row's mean square, made positive. -/
def MR (r : Fin 4096) : EReal :=
  Ideal.div (∑ k : Fin 1024, row x0 r k * row x0 r k) width + Scalar.ofBits (F := Ideal) .f32 0x358637BD#32

theorem r19 (b : Fin 2) (s : Fin 2048) : val_main_v19 (F := Ideal) x0 (ix3 b s 0) = MR x0 ⟨b * 2048 + s, by omega⟩ := by
  pointwise [val_main_v19, val_main_v18, val_main_v17, val_main_v16, val_main_v15, val_main_v14, val_main_v13, val_main_cst, val_main_cst_0, val_main_cst_1, MR, width, row]
  blk_point []

/-- One plus the scale of a row's batch. -/
def SR (r : Fin 4096) (k : Fin 1024) : EReal := 1 + x1 (ix2 ⟨(r : ℕ) / 2048, by omega⟩ ⟨1024 + k, by omega⟩)

theorem r219 (b : Fin 2) (s : Fin 2048) (k : Fin 1024) : val_main_v219 (F := Ideal) x1 x3 x4 x5 x6 x7 (ix3 b s k)
    = HR x3 x4 x5 x6 x7 ⟨b * 2048 + s, by omega⟩ k * SR x1 ⟨b * 2048 + s, by omega⟩ k := by
  pointwise [val_main_v219, val_main_v218, val_main_v30, val_main_v29, val_main_cst_3, val_main_v7, val_main_v1, SR]
  simp only [r212]
  blk_point []

/-- One element of the gradient with respect to the normed stream. -/
def NR (r : Fin 4096) (k : Fin 1024) : EReal := HR x3 x4 x5 x6 x7 r k * SR x1 r k * x2 (ix2 0 k)

/-- The factor a row's elements take from the derivative of the reciprocal root. -/
def CR (r : Fin 4096) : EReal :=
  Ideal.div ((∑ k : Fin 1024, row x0 r k * NR x1 x2 x3 x4 x5 x6 x7 r k) *
    (Scalar.ofBits (F := Ideal) .f32 0xBF000000#32 * Ideal.div (Ideal.rsqrt (MR x0 r)) (MR x0 r))) width

theorem r224 (b : Fin 2) (s : Fin 2048) (k : Fin 1024) :
    val_main_v224 (F := Ideal) x1 x2 x3 x4 x5 x6 x7 (ix3 b s k) = NR x1 x2 x3 x4 x5 x6 x7 ⟨b * 2048 + s, by omega⟩ k := by
  pointwise [val_main_v224, val_main_v223, val_main_v26, val_main_v12, NR]
  simp only [r219]

theorem row_at (x : FVec Ideal S2x2048x1024 .f32) (b : Fin 2) (s : Fin 2048) (k : Fin 1024) : row x ⟨b * 2048 + s, by omega⟩ k = x (ix3 b s k) :=
  congrArg₂ (fun p q => x (ix3 p q k)) (Fin.ext (show ((b : ℕ) * 2048 + s) / 2048 = b by omega)) (Fin.ext (show ((b : ℕ) * 2048 + s) % 2048 = s by omega))

theorem r236 (b : Fin 2) (s : Fin 2048) (k : Fin 1024) :
    val_main_v236 (F := Ideal) x0 x1 x2 x3 x4 x5 x6 x7 (ix3 b s k) = CR x0 x1 x2 x3 x4 x5 x6 x7 ⟨b * 2048 + s, by omega⟩ := by
  pointwise [val_main_v236, val_main_v235, val_main_cst_51, val_main_v234, val_main_v233, val_main_cst_50, val_main_v232, val_main_v228, val_main_v227, val_main_cst_49, val_main_v226,
    val_main_v23, val_main_v22, val_main_cst_2, val_main_v21, val_main_v20, CR, width]
  simp only [r224, row_at]
  refine (Fintype.sum_unique _).trans ?_
  rw [show (default : Fin 1) = 0 from rfl, r19]

/-- The gradient with respect to the residual stream, at an index. -/
theorem r242 (r : Fin 4096) (k : Fin 1024) : val_main_v242 (F := Ideal) x0 x1 x2 x3 x4 x5 x6 x7 x8 (ix2 r k)
    = row x8 r k + NR x1 x2 x3 x4 x5 x6 x7 r k * Ideal.rsqrt (MR x0 r) + row x0 r k * CR x0 x1 x2 x3 x4 x5 x6 x7 r
      + CR x0 x1 x2 x3 x4 x5 x6 x7 r * row x0 r k := by
  pointwise [val_main_v242, val_main_v240, val_main_v239, val_main_v238, val_main_v237, val_main_v231, val_main_v230, val_main_v229, val_main_v20]
  simp only [r224, r19, r236, whole]
  rfl

/-- The pooled window's cotangent, at an index. -/
theorem r244 (r : Fin 4096) (k : Fin 512) : val_main_v244 (F := Ideal) x7 (ix2 r k) = chan (val_main_v210 (F := Ideal) x7) r k := by
  pointwise [val_main_v244, val_main_v243, chan]

/-- The normed stream before its weight. -/
def UR (r : Fin 4096) (k : Fin 1024) : EReal := row x0 r k * Ideal.rsqrt (MR x0 r)

/-- The modulations' gradients, at an index. -/
theorem r246 (b : Fin 2) (i : Fin 8) (k : Fin 1024) : val_main_v246 (F := Ideal) x0 x2 x3 x4 x5 x6 x7 (ix3 b i k) =
    if (i : ℕ) = 0 then ∑ s : Fin 2048, HR x3 x4 x5 x6 x7 ⟨b * 2048 + s, by omega⟩ k
    else if (i : ℕ) = 1 then ∑ s : Fin 2048, UR x0 ⟨b * 2048 + s, by omega⟩ k * x2 (ix2 0 k) * HR x3 x4 x5 x6 x7 ⟨b * 2048 + s, by omega⟩ k else 0 := by
  pointwise [val_main_v246, val_main_v245, val_main_cst_52]
  by_cases hi : (i : ℕ) = 0
  · rw [dif_pos (by omega), if_pos hi]
    pointwise [val_main_v214, val_main_v213, val_main_cst_45]
    simp only [r212]
  · rw [dif_neg (by omega), if_neg hi]
    by_cases h1 : (i : ℕ) = 1
    · rw [dif_pos (by omega), if_pos h1]
      pointwise [val_main_v217, val_main_v216, val_main_cst_46, val_main_v215, val_main_v28, val_main_v27, val_main_v26, val_main_v12, val_main_v25, val_main_v24, val_main_v20]
      simp only [r212, r19, UR, row_at]
    · rw [dif_neg (by omega), if_neg h1]

theorem r221 (k : Fin 1024) : val_main_v221 (F := Ideal) x0 x1 x3 x4 x5 x6 x7 (ix1 k)
    = ∑ r : Fin 4096, UR x0 r k * (HR x3 x4 x5 x6 x7 r k * SR x1 r k) := by
  rw [← sum_rows]
  pointwise [val_main_v221]
  rw [reduce_lead]
  pointwise [val_main_cst_47, val_main_v220, val_main_v25, val_main_v24, val_main_v20]
  simp only [r219, r19, UR, row_at]

/-- Summing over two axes of size one changes nothing. -/
theorem r225 (k : Fin 1024) : val_main_v225 (F := Ideal) x0 x1 x3 x4 x5 x6 x7 (ix1 k) = val_main_v221 (F := Ideal) x0 x1 x3 x4 x5 x6 x7 (ix1 k) := by
  pointwise [val_main_v225]
  rw [reduce_lead]
  pointwise [val_main_cst_48, val_main_v222]
  rw [Fintype.sum_unique, Fintype.sum_unique]

/-- The norm's weight's gradient, in the first of eight rows. -/
theorem r250 (i : Fin 8) (k : Fin 1024) : val_main_v250 (F := Ideal) x0 x1 x3 x4 x5 x6 x7 (ix2 i k) = if (i : ℕ) = 0 then
    ∑ r : Fin 4096, UR x0 r k * (HR x3 x4 x5 x6 x7 r k * SR x1 r k) else 0 := by
  pointwise [val_main_v250, val_main_v249, val_main_v248, val_main_cst_53, val_main_v247, val_main_v241]
  by_cases hi : (i : ℕ) = 0
  · rw [dif_pos (by omega), if_pos hi, r225, r221]
  · rw [dif_neg (by omega), if_neg hi]

end Cert.InprojRefIdeal.Read
end
-- ==== Proof.InprojHost.lean ====
/- What the input gradient's call hands its kernel: the host lines before it, and each block of each window entry by entry. -/
module

public import proofs.«01_k».proof.Proof.Gen.InprojIdeal.Value
public import proofs.«01_k».proof.Proof.InprojRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojIdeal.Tail
open Cert.InprojIdeal Cert.InprojIdeal.Gen
open Cert.LossRefIdeal.Read (row)
open Cert.InprojRefIdeal.Read (chan)

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![min ((t.val + 1) * 32) 255, 0] ∧ win0_5.index t = ![t.val, 0]
    ∧ win0_6.index t = ![t.val, 0] ∧ win0_7.index t = ![t.val / 4, 0, 0] ∧ win0_8.index t = ![0, 0] ∧ win0_9.index t = ![0, 0, 0]
    ∧ win0_10.index t = ![t.val, 0] ∧ win0_11.index t = ![t.val, 0] ∧ win0_12.index t = ![t.val / 4, 0, 0] ∧ win0_13.index t = ![0, 0] :=
  (by decide +kernel : ∀ t : Fin grid0.N, _)

/-- The grid has eight points. -/
theorem lt8 (t : Fin cfg0.N) : t.val < 8 := lt_of_lt_of_eq t.isLt N_0

/-- What the host lines leave in the buffers the windows read. -/
theorem host (c : Dev nD) :
    (V m c main_v3 : FVec Ideal S4x1024x512 .bf16)
        = truncf (F := Ideal) .bf16 (transpose S4x1024x512 [1, 0, 2] (shapeCast S1024x4x512 (shapeCast S1024x2048 (m ((c : Thread nD τ).loc main_arg3)) shapeCasts_S1x1024x2048_S1024x2048) shapeCasts_S1024x2048_S1024x4x512) transposes_S1024x4x512_S4x1024x512_1_0_2) bitsLt_bf16_f32
    ∧ (V m c main_v5 : FVec Ideal S4096x512 .bf16)
        = truncf (F := Ideal) .bf16 (shapeCast S4096x512 (m ((c : Thread nD τ).loc main_arg4)) shapeCasts_S2x2048x512_S4096x512) bitsLt_bf16_f32
    ∧ (V m c main_v7 : FVec Ideal S4096x512 .bf16)
        = truncf (F := Ideal) .bf16 (shapeCast S4096x512 (m ((c : Thread nD τ).loc main_arg5)) shapeCasts_S2x2048x512_S4096x512) bitsLt_bf16_f32
    ∧ (V m c main_v9 : FVec Ideal S4096x512 .bf16)
        = truncf (F := Ideal) .bf16 (shapeCast S4096x512 (m ((c : Thread nD τ).loc main_arg6)) shapeCasts_S2x2048x512_S4096x512) bitsLt_bf16_f32
    ∧ V m c main_v10 = shapeCast S4096x512 (m ((c : Thread nD τ).loc main_arg7)) shapeCasts_S2x2048x512_S4096x512
    ∧ V m c main_v11 = shapeCast S4096x1024 (m ((c : Thread nD τ).loc main_arg0)) shapeCasts_S2x2048x1024_S4096x1024
    ∧ V m c main_v12 = shapeCast S4096x1024 (m ((c : Thread nD τ).loc main_arg8)) shapeCasts_S2x2048x1024_S4096x1024
    ∧ V m c main_v15 = concatenate S2x8x1024 1 [⟨S2x6x1024, shapeCast S2x6x1024 (m ((c : Thread nD τ).loc main_arg1)) shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 := by
  refine ⟨?_, ?_, ?_, ?_, ?_, ?_, ?_, ?_⟩
  all_goals
    unfold V
    simp only [List.flatten_cons, List.flatten_nil, List.append_nil, List.cons_append, List.nil_append, hostOps0,
      StableHlo.after_cons, StableHlo.after_nil]
    after_results_simp
    rfl

theorem rows_apply (x : FVec Ideal S2x2048x1024 .f32) (i : S4096x1024.Idx) :
    shapeCast S4096x1024 x shapeCasts_S2x2048x1024_S4096x1024 i = row x (i 0) (i 1) := by
  pointwise [row]

theorem chans_apply (x : FVec Ideal S2x2048x512 .f32) (i : S4096x512.Idx) :
    shapeCast S4096x512 x shapeCasts_S2x2048x512_S4096x512 i = chan x (i 0) (i 1) := by
  pointwise [chan]

theorem chans_narrow (x : FVec Ideal S2x2048x512 .f32) (i : S4096x512.Idx) :
    truncf (F := Ideal) .bf16 (shapeCast S4096x512 x shapeCasts_S2x2048x512_S4096x512) bitsLt_bf16_f32 i = chan x (i 0) (i 1) := by
  pointwise [chan]

/-- The input projection cut into quarters of its columns. -/
theorem cols_apply (x : FVec Ideal S1x1024x2048 .f32) (i : S4x1024x512.Idx) :
    truncf (F := Ideal) .bf16 (transpose S4x1024x512 [1, 0, 2] (shapeCast S1024x4x512 (shapeCast S1024x2048 x shapeCasts_S1x1024x2048_S1024x2048) shapeCasts_S1024x2048_S1024x4x512) transposes_S1024x4x512_S4x1024x512_1_0_2) bitsLt_bf16_f32 i
      = x (ix3 0 (i 1) ⟨i 0 * 512 + i 2, by have : (i 0 : ℕ) < 4 := (i 0).isLt; have : (i 2 : ℕ) < 512 := (i 2).isLt; omega⟩) := by
  pointwise

/-- The six modulations of a batch with two empty rows below them: the second is the scale. -/
theorem mods_apply (x : FVec Ideal S2x6144 .f32) (i : S2x8x1024.Idx) (h : (i 1 : ℕ) = 1) :
    concatenate S2x8x1024 1 [⟨S2x6x1024, shapeCast S2x6x1024 x shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 i
      = x (ix2 (i 0) ⟨1024 + i 2, by have : (i 2 : ℕ) < 1024 := (i 2).isLt; omega⟩) := by
  pointwise
  simp [h]

/-- A point's rows of the queries' cotangent. -/
theorem b0 (c : Dev nD) (t : Fin cfg0.N) (r : Fin 512) (l : Fin 512) :
    (show FVec Ideal S512x512 .bf16 from iblk m c 0 t) (ix2 r l) = chan (m ((c : Thread nD τ).loc main_arg4)) ⟨t.val * 512 + r, by have := lt8 t; omega⟩ l := by
  have ht := lt8 t
  blk_simp [iblk, idx t]
  rw [show V m c (Pipeline.arrRef spec0 0) = _ from (host m c).2.1]
  refine (chans_narrow _ _).trans ?_
  unfold chan
  blk_ext [idx t]

/-- A point's rows of the keys' cotangent. -/
theorem b1 (c : Dev nD) (t : Fin cfg0.N) (r : Fin 512) (l : Fin 512) :
    (show FVec Ideal S512x512 .bf16 from iblk m c 1 t) (ix2 r l) = chan (m ((c : Thread nD τ).loc main_arg5)) ⟨t.val * 512 + r, by have := lt8 t; omega⟩ l := by
  have ht := lt8 t
  blk_simp [iblk, idx t]
  rw [show V m c (Pipeline.arrRef spec0 1) = _ from (host m c).2.2.1]
  refine (chans_narrow _ _).trans ?_
  unfold chan
  blk_ext [idx t]

/-- A point's rows of the values' cotangent. -/
theorem b2 (c : Dev nD) (t : Fin cfg0.N) (r : Fin 512) (l : Fin 512) :
    (show FVec Ideal S512x512 .bf16 from iblk m c 2 t) (ix2 r l) = chan (m ((c : Thread nD τ).loc main_arg6)) ⟨t.val * 512 + r, by have := lt8 t; omega⟩ l := by
  have ht := lt8 t
  blk_simp [iblk, idx t]
  rw [show V m c (Pipeline.arrRef spec0 2) = _ from (host m c).2.2.2.1]
  refine (chans_narrow _ _).trans ?_
  unfold chan
  blk_ext [idx t]

/-- A point's rows of the pooled windows' cotangent. -/
theorem b3 (c : Dev nD) (t : Fin cfg0.N) (r : Fin 512) (l : Fin 512) :
    (show FVec Ideal S512x512 .f32 from iblk m c 3 t) (ix2 r l) = chan (m ((c : Thread nD τ).loc main_arg7)) ⟨t.val * 512 + r, by have := lt8 t; omega⟩ l := by
  have ht := lt8 t
  blk_simp [iblk, idx t]
  rw [show V m c (Pipeline.arrRef spec0 3) = _ from (host m c).2.2.2.2.1]
  refine (chans_apply _ _).trans ?_
  unfold chan
  blk_ext [idx t]

/-- The sixteen rows after a point's, where the array has them. -/
theorem b4 (c : Dev nD) (t : Fin cfg0.N) (h7 : t.val < 7) (r : Fin 16) (l : Fin 512) :
    (show FVec Ideal S16x512 .f32 from iblk m c 4 t) (ix2 r l) = chan (m ((c : Thread nD τ).loc main_arg7)) ⟨t.val * 512 + 512 + r, by omega⟩ l := by
  have ht := lt8 t
  have hm : min ((t.val + 1) * 32) 255 = (t.val + 1) * 32 := by omega
  blk_simp [iblk, idx t]
  rw [show V m c (Pipeline.arrRef spec0 4) = _ from (host m c).2.2.2.2.1]
  refine (chans_apply _ _).trans ?_
  unfold chan
  blk_ext [idx t, hm]

/-- A point's rows of the block's input. -/
theorem b5 (c : Dev nD) (t : Fin cfg0.N) (r : Fin 512) (l : Fin 1024) :
    (show FVec Ideal S512x1024 .f32 from iblk m c 5 t) (ix2 r l) = row (m ((c : Thread nD τ).loc main_arg0)) ⟨t.val * 512 + r, by have := lt8 t; omega⟩ l := by
  have ht := lt8 t
  blk_simp [iblk, idx t]
  rw [show V m c (Pipeline.arrRef spec0 5) = _ from (host m c).2.2.2.2.2.1]
  refine (rows_apply _ _).trans ?_
  unfold row
  blk_ext [idx t]

/-- A point's rows of the cotangent that comes around the block. -/
theorem b6 (c : Dev nD) (t : Fin cfg0.N) (r : Fin 512) (l : Fin 1024) :
    (show FVec Ideal S512x1024 .f32 from iblk m c 6 t) (ix2 r l) = row (m ((c : Thread nD τ).loc main_arg8)) ⟨t.val * 512 + r, by have := lt8 t; omega⟩ l := by
  have ht := lt8 t
  blk_simp [iblk, idx t]
  rw [show V m c (Pipeline.arrRef spec0 6) = _ from (host m c).2.2.2.2.2.2.1]
  refine (rows_apply _ _).trans ?_
  unfold row
  blk_ext [idx t]

/-- The scale of a point's batch. -/
theorem b7 (c : Dev nD) (t : Fin cfg0.N) (k : Fin 1024) :
    (show FVec Ideal S1x8x1024 .f32 from iblk m c 7 t) (ix3 0 1 k)
      = (show FVec Ideal S2x6144 .f32 from m ((c : Thread nD τ).loc main_arg1)) (ix2 ⟨t.val / 4, by have := lt8 t; omega⟩ ⟨1024 + k, by omega⟩) := by
  have ht := lt8 t
  blk_simp [iblk, idx t]
  rw [show V m c (Pipeline.arrRef spec0 7) = _ from (host m c).2.2.2.2.2.2.2]
  refine (mods_apply _ _ ?_).trans ?_
  · blk_simp [idx t]
    rfl
  · blk_ext [idx t]

/-- The norm's weight. -/
theorem b8 (c : Dev nD) (t : Fin cfg0.N) (k : Fin 1024) :
    (show FVec Ideal S1x1024 .f32 from iblk m c 8 t) (ix2 0 k) = (show FVec Ideal S1x1024 .f32 from m ((c : Thread nD τ).loc main_arg2)) (ix2 0 k) := by
  blk_point [iblk, V, idx t]

/-- The input projection's quarters. -/
theorem b9 (c : Dev nD) (t : Fin cfg0.N) (g : Fin 4) (k : Fin 1024) (l : Fin 512) :
    (show FVec Ideal S4x1024x512 .bf16 from iblk m c 9 t) (ix3 g k l)
      = (show FVec Ideal S1x1024x2048 .f32 from m ((c : Thread nD τ).loc main_arg3)) (ix3 0 k ⟨g * 512 + l, by omega⟩) := by
  have ht := lt8 t
  blk_simp [iblk, idx t]
  rw [show V m c (Pipeline.arrRef spec0 9) = _ from (host m c).1]
  refine (cols_apply _ _).trans ?_
  blk_ext [idx t]

end Cert.InprojIdeal.Tail
end
-- ==== Proof.InprojPoint.lean ====
/- What one grid point of the mixer's input gradient leaves in its output blocks, entry by entry. -/
module

public import proofs.«01_k».proof.Proof.Gen.InprojIdeal.Value
public import Idealize.ShloMosaic.Lib.Pipeline.ValueKit
public import Idealize.ShloMosaic.Lib.Pipeline.ReadBack
public import Idealize.ShloMosaic.Lib.Pointwise
public import Idealize.ShloMosaic.Lib.WritesUnit
public import proofs.«01_k».proof.Proof.MixerPoint
public import proofs.«01_k».proof.Proof.InprojRefDu
public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.InprojIdeal.Tail
open Cert.InprojIdeal Cert.InprojIdeal.Gen
open Cert.MixerIdeal.Value (canon_hit canon_miss)
open Cert.InprojRefIdeal.Read (upTo cell win)

variable (m : (ℓ : Loc nD τ sig) → Buf (Elt Ideal) ℓ)

/-- The number of a grid point's tile among its batch's four, as the kernel's words have it. -/
def tileWord (t : Fin cfg0.N) : BitVec 32 :=
  Scalar.select (Scalar.andi (Scalar.xori (Scalar.cmpi .slt (Scalar.remsi (BitVec.ofNat 32 ↑(grid0.coords t 0)) 4#32) 0#32) 0#1)
      (Scalar.cmpi .ne (Scalar.remsi (BitVec.ofNat 32 ↑(grid0.coords t 0)) 4#32) 0#32))
    (Scalar.addi (Scalar.remsi (BitVec.ofNat 32 ↑(grid0.coords t 0)) 4#32) 4#32) (Scalar.remsi (BitVec.ofNat 32 ↑(grid0.coords t 0)) 4#32)

theorem tileWord_eq : ∀ t : Fin cfg0.N, tileWord t = BitVec.ofNat 32 (t.val % 4) := by decide +kernel

/-- A tile's row as a word: its position in its batch. -/
theorem position (t : Fin cfg0.N) (e : Fin 512) : k0_pay5 (grid0.coords t) (ix2 e 0) = BitVec.ofNat 32 (t.val % 4 * 512 + e) := by
  have h := tileWord_eq t
  unfold tileWord at h
  pointwise [k0_pay5]
  refine (show _ = BitVec.ofNat 32 (t.val % 4) * BitVec.ofNat 32 512 + BitVec.ofNat 32 e from ?_).trans ?_
  · rw [← h]
    rfl
  · rw [← BitVec.ofNat_mul, Cert.InprojWords.add_word]

/-- A count of a window's tokens, as a number. -/
theorem least_real (n w : ℕ) (hn : n < 2048) (hw : w ≤ 16) (v : BitVec 32) (hv : v = BitVec.ofNat 32 n) :
    (FloatOps.sitofp (F := Ideal) .f32 (IntOp.minsi (IntOp.addi v 1#32) (BitVec.ofNat 32 w)) : EReal) = (((min (n + 1) w : ℕ) : ℝ) : EReal) := by
  subst hv
  show (FloatOps.sitofp (F := Ideal) .f32 (IntOp.minsi (BitVec.ofNat 32 n + BitVec.ofNat 32 1) (BitVec.ofNat 32 w)) : EReal) = _
  rw [Cert.InprojWords.add_word, Cert.InprojWords.least n w hn hw, Cert.InprojWords.real _ (by omega)]

theorem w2 : Ideal.ofBits .f32 1073741824#32 = (((2 : ℕ) : ℝ) : EReal) := by
  simp [Ideal.ofBits, Ideal.ieee, -EReal.coe_mul]; norm_num

theorem w4 : Ideal.ofBits .f32 1082130432#32 = (((4 : ℕ) : ℝ) : EReal) := by
  simp [Ideal.ofBits, Ideal.ieee, -EReal.coe_mul]; norm_num

theorem w8 : Ideal.ofBits .f32 1090519040#32 = (((8 : ℕ) : ℝ) : EReal) := by
  simp [Ideal.ofBits, Ideal.ieee, -EReal.coe_mul]; norm_num

theorem w16 : Ideal.ofBits .f32 1098907648#32 = (((16 : ℕ) : ℝ) : EReal) := by
  simp [Ideal.ofBits, Ideal.ieee, -EReal.coe_mul]; norm_num

/-- The window of a channel's group, chosen out of four. -/
def pick {A : Type} (c : ℕ) (a b d e : A) : A := if c < 128 then a else if c < 256 then b else if c < 384 then d else e

theorem pick_map {A B : Type} (g : A → B) (c : ℕ) (a b d e : A) : pick c (g a) (g b) (g d) (g e) = g (pick c a b d e) := by
  unfold pick
  split_ifs <;> rfl

theorem pick_word (c : ℕ) (hc : c < 512) : pick c 2#32 4#32 8#32 16#32 = BitVec.ofNat 32 (win c) := by
  unfold pick
  rcases Cert.InprojRefIdeal.Read.win_cases c hc with h | h | h | h
  · rw [if_pos h.1, h.2]
  · rw [if_neg (by omega), if_pos h.2.1, h.2.2]
  · rw [if_neg (by omega), if_neg (by omega), if_pos h.2.1, h.2.2]
  · rw [if_neg (by omega), if_neg (by omega), if_neg (by omega), h.2]

/-- Four pieces of 128 channels side by side, read at a channel. -/
theorem groups {A : Type} (c : Fin 512) (f1 f2 f3 f4 : Fin 512 → A) :
    (if h : (c : ℕ) < 128 then f1 c else if h : (c : ℕ) - 128 < 128 then f2 ⟨128 + ((c : ℕ) - 128), by omega⟩
      else if h : (c : ℕ) - 128 - 128 < 128 then f3 ⟨256 + ((c : ℕ) - 128 - 128), by omega⟩
      else f4 ⟨384 + ((c : ℕ) - 128 - 128 - 128), by omega⟩) = pick c (f1 c) (f2 c) (f3 c) (f4 c) := by
  unfold pick
  have hk : (c : ℕ) < 128 ∨ (128 ≤ (c : ℕ) ∧ (c : ℕ) < 256) ∨ (256 ≤ (c : ℕ) ∧ (c : ℕ) < 384) ∨ 384 ≤ (c : ℕ) := by omega
  rcases hk with hk | hk | hk | hk
  · rw [dif_pos hk, if_pos hk]
  · rw [dif_neg (by omega), dif_pos (by omega), if_neg (by omega), if_pos hk.2]
    exact congrArg f2 (Fin.ext (by show 128 + ((c : ℕ) - 128) = c; omega))
  · rw [dif_neg (by omega), dif_neg (by omega), dif_pos (by omega), if_neg (by omega), if_neg (by omega), if_pos hk.2]
    exact congrArg f3 (Fin.ext (by show 256 + ((c : ℕ) - 128 - 128) = c; omega))
  · rw [dif_neg (by omega), dif_neg (by omega), dif_neg (by omega), if_neg (by omega), if_neg (by omega), if_neg (by omega)]
    exact congrArg f4 (Fin.ext (by show 384 + ((c : ℕ) - 128 - 128 - 128) = c; omega))

/-- A row of the tile and its halo, each entry over its window's count, in the kernel's own words. -/
theorem ext_raw (v9 : BitVec 32) (v17 : FVec Ideal S512x512 .f32) (v21 : IVec S512x1 32) (v26 v31 v36 : FVec Ideal S512x1 .f32)
    (v43 : Vec Ideal S16x512 .f32) (e : Fin 528) (c : Fin 512) :
    k0_pay9 v9 v17 v21 v26 v31 v36 1#32 v43 (ix2 e c) =
      if h : (e : ℕ) < 512 then Ideal.div (v17 (ix2 ⟨e, h⟩ c)) (pick c (v26 (ix2 ⟨e, h⟩ 0)) (v31 (ix2 ⟨e, h⟩ 0)) (v36 (ix2 ⟨e, h⟩ 0))
        (FloatOps.sitofp (F := Ideal) .f32 (IntOp.minsi (IntOp.addi (v21 (ix2 ⟨e, h⟩ 0)) 1#32) 16#32) : EReal))
      else Ideal.div (Scalar.select (Scalar.cmpi .eq v9 3#32) 0 (v43 (ix2 ⟨(e : ℕ) - 512, by omega⟩ c)))
        (pick c (Ideal.ofBits .f32 1073741824#32) (Ideal.ofBits .f32 1082130432#32) (Ideal.ofBits .f32 1090519040#32) (Ideal.ofBits .f32 1098907648#32)) := by
  pointwise [k0_pay9]
  by_cases h : (e : ℕ) < 512
  · rw [dif_pos h, dif_pos h]
    let f (w : EReal) (k : Fin 512) : EReal := Ideal.div (v17 (ix2 ⟨e, h⟩ k)) w
    exact (groups c (f (v26 (ix2 ⟨e, h⟩ 0))) (f (v31 (ix2 ⟨e, h⟩ 0))) (f (v36 (ix2 ⟨e, h⟩ 0)))
      (f (FloatOps.sitofp (F := Ideal) .f32 (IntOp.minsi (IntOp.addi (v21 (ix2 ⟨e, h⟩ 0)) 1#32) 16#32)))).trans (pick_map (fun w => f w c) _ _ _ _ _)
  · rw [dif_neg h, dif_neg h]
    let f (w : EReal) (k : Fin 512) : EReal := Ideal.div (Scalar.select (Scalar.cmpi .eq v9 3#32) 0 (v43 (ix2 ⟨(e : ℕ) - 512, by omega⟩ k))) w
    exact (groups c (f _) (f _) (f _) (f _)).trans (pick_map (fun w => f w c) _ _ _ _ _)

/-- One entry of a window's band, in the kernel's own words. -/
def bandWord (w : BitVec 32) (r e : ℕ) : EReal :=
  FloatOps.sitofp (F := Ideal) .f32 (BitVec.setWidth 32 (IntOp.cmpi .sge (BitVec.ofNat 32 e) (BitVec.ofNat 32 r) &&& IntOp.cmpi .slt (BitVec.ofNat 32 e) (BitVec.ofNat 32 r + w)))

/-- What a point stores into the projection's fourth cotangent, in the kernel's own words. -/
theorem du_raw (v17 : FVec Ideal S512x512 .f32) (hi lo : FVec Ideal S528x512 .bf16) (r c : Fin 512) :
    k0_pay13 v17 (iota .tc S512x528 32 [0] iota_S512x528_d0_w32) (iota .tc S512x528 32 [1] iota_S512x528_d1_w32) hi lo k0_pay12 (ix2 r c)
      = (∑ e : Fin 528, bandWord (pick c 2#32 4#32 8#32 16#32) r e * hi (ix2 e c)) + (∑ e : Fin 528, bandWord (pick c 2#32 4#32 8#32 16#32) r e * lo (ix2 e c))
        - v17 (ix2 r c) := by
  pointwise [k0_pay13, k0_pay12, bandWord]
  let f (w : BitVec 32) (k : Fin 512) : EReal := (∑ e : Fin 528, bandWord w r e * hi (ix2 e k)) + (∑ e : Fin 528, bandWord w r e * lo (ix2 e k))
  exact congrArg (· - v17 (ix2 r c)) ((groups c (f _) (f _) (f _) (f _)).trans (pick_map (fun w => f w c) _ _ _ _ _))

/-- A row of the tile and its halo, each entry over its window's count: the batch's rows from the tile's first on. -/
theorem ext_entry (p : ℕ) (hp : p < 4) (d : ℕ → Fin 512 → ℝ) (v17 : FVec Ideal S512x512 .f32) (v21 : IVec S512x1 32) (v26 v31 v36 : FVec Ideal S512x1 .f32)
    (v43 : Vec Ideal S16x512 .f32) (h17 : ∀ e k, v17 (ix2 e k) = ((d (p * 512 + e) k : ℝ) : EReal))
    (h43 : p < 3 → ∀ e k, v43 (ix2 e k) = ((d (p * 512 + 512 + e) k : ℝ) : EReal))
    (h21 : ∀ e : Fin 512, v21 (ix2 e 0) = BitVec.ofNat 32 (p * 512 + e))
    (h26 : ∀ e : Fin 512, v26 (ix2 e 0) = (((min (p * 512 + e + 1) 2 : ℕ) : ℝ) : EReal))
    (h31 : ∀ e : Fin 512, v31 (ix2 e 0) = (((min (p * 512 + e + 1) 4 : ℕ) : ℝ) : EReal))
    (h36 : ∀ e : Fin 512, v36 (ix2 e 0) = (((min (p * 512 + e + 1) 8 : ℕ) : ℝ) : EReal))
    (e : Fin 528) (c : Fin 512) :
    k0_pay9 (BitVec.ofNat 32 p) v17 v21 v26 v31 v36 1#32 v43 (ix2 e c) = ((upTo (cell (win c) fun n => d n c) (p * 512 + e) : ℝ) : EReal) := by
  have last : ∀ (e : ℕ) (he : e < 528) (h5 : ¬ e < 512) (w : ℕ) (h1 : 1 ≤ w) (h16 : w ≤ 16) (c : Fin 512), Ideal.div (Scalar.select (Scalar.cmpi .eq (BitVec.ofNat 32 p) 3#32) 0 (v43 (ix2 ⟨e - 512, by omega⟩ c)))
      (((w : ℕ) : ℝ) : EReal) = ((upTo (cell w fun n => d n c) (p * 512 + e) : ℝ) : EReal) := by
    intro e he h5 w h1 h16 c
    rcases Decidable.em (p = 3) with h | h
    · subst h
      rw [upTo, if_neg (by omega)]
      show Ideal.div 0 _ = _
      rw [Cert.LossReal.div_real _ _ (by positivity), mul_zero]
      rfl
    · have hs : Scalar.select (Scalar.cmpi .eq (BitVec.ofNat 32 p) 3#32) (0 : EReal) (v43 (ix2 ⟨e - 512, by omega⟩ c)) = v43 (ix2 ⟨e - 512, by omega⟩ c) := by
        have : p = 0 ∨ p = 1 ∨ p = 2 := by omega
        rcases this with rfl | rfl | rfl <;> rfl
      rw [hs, h43 (by omega), upTo, if_pos (by omega), show p * 512 + 512 + (e - 512) = p * 512 + e by omega]
      refine Eq.trans ?_ (Cert.InprojRefIdeal.Read.div_cell w h1 (fun n => d n c) (p * 512 + e))
      rw [min_eq_right (show w ≤ p * 512 + e + 1 by omega)]
  have first : ∀ (e : ℕ) (he : e < 512) (w : ℕ) (h1 : 1 ≤ w) (c : Fin 512), Ideal.div (v17 (ix2 ⟨e, he⟩ c)) (((min (p * 512 + e + 1) w : ℕ) : ℝ) : EReal)
      = ((upTo (cell w fun n => d n c) (p * 512 + e) : ℝ) : EReal) := by
    intro e he w h1 c
    rw [h17, upTo, if_pos (by omega)]
    exact Cert.InprojRefIdeal.Read.div_cell w h1 (fun n => d n c) (p * 512 + e)
  rw [ext_raw]
  unfold pick
  rcases Cert.InprojRefIdeal.Read.win_cases c c.2 with h | h | h | h
  · simp only [h.1, h.2, if_true]
    split_ifs with he
    · rw [h26]; exact first e he 2 (by omega) c
    · rw [w2]; exact last e e.2 he 2 (by omega) (by omega) c
  · simp only [show ¬ (c : ℕ) < 128 by omega, h.2.1, h.2.2, if_true, if_false]
    split_ifs with he
    · rw [h31]; exact first e he 4 (by omega) c
    · rw [w4]; exact last e e.2 he 4 (by omega) (by omega) c
  · simp only [show ¬ (c : ℕ) < 128 by omega, show ¬ (c : ℕ) < 256 by omega, h.2.1, h.2.2, if_true, if_false]
    split_ifs with he
    · rw [h36]; exact first e he 8 (by omega) c
    · rw [w8]; exact last e e.2 he 8 (by omega) (by omega) c
  · simp only [show ¬ (c : ℕ) < 128 by omega, show ¬ (c : ℕ) < 256 by omega, show ¬ (c : ℕ) < 384 by omega, h.2, if_false]
    split_ifs with he
    · rw [least_real _ 16 (by omega) (by omega) _ (h21 ⟨e, he⟩)]; exact first e he 16 (by omega) c
    · rw [w16]; exact last e e.2 he 16 (by omega) (by omega) c

/-- A window of rows, summed by its band. -/
theorem band_sum (X : ℕ → ℝ) (r w : ℕ) (hr : r < 512) (h1 : 1 ≤ w) (hw : w ≤ 16) :
    (∑ e : Fin 528, bandWord (BitVec.ofNat 32 w) r e * ((X e : ℝ) : EReal)) = ((∑ n ∈ Finset.range w, X (r + n) : ℝ) : EReal) := by
  have e1 : ∀ e : Fin 528, bandWord (BitVec.ofNat 32 w) r e * ((X e : ℝ) : EReal) = (((if r ≤ (e : ℕ) ∧ (e : ℕ) < r + w then X e else 0 : ℝ)) : EReal) := by
    intro e
    rw [bandWord, Cert.InprojWords.band r e w (by omega) (by omega) hw]
    split_ifs
    · rw [one_mul]
    · rw [zero_mul]; rfl
  rw [Finset.sum_congr rfl fun e _ => e1 e, Cert.AttnIdeal.Body.coe_sum,
    Fin.sum_univ_eq_sum_range (fun e => if r ≤ e ∧ e < r + w then X e else 0) 528, ← Finset.sum_filter]
  congr 1
  have e2 : (Finset.range 528).filter (fun e => r ≤ e ∧ e < r + w) = (Finset.range w).map (addLeftEmbedding r) := by
    ext e
    simp only [Finset.mem_filter, Finset.mem_range, Finset.mem_map, addLeftEmbedding_apply]
    constructor
    · rintro ⟨h2, h3, h4⟩
      exact ⟨e - r, by omega, by omega⟩
    · rintro ⟨n, hn, rfl⟩
      omega
  rw [e2, Finset.sum_map]
  rfl

/-- What a grid point stores into the fourth cotangent. -/
def DU (t : Fin cfg0.N) (x3 : FVec Ideal S512x512 .f32) (x4 : FVec Ideal S16x512 .f32) : FVec Ideal S512x512 .bf16 :=
  k0_pay13 (k0_pay4 x3) (iota .tc S512x528 32 [0] iota_S512x528_d0_w32) (iota .tc S512x528 32 [1] iota_S512x528_d1_w32)
    (k0_pay10 (tileWord t) (k0_pay4 x3) (k0_pay5 (grid0.coords t)) (k0_pay6 (grid0.coords t)) (k0_pay7 (grid0.coords t)) (k0_pay8 (grid0.coords t)) 1#32 x4)
    (k0_pay11 (tileWord t) (k0_pay4 x3) (k0_pay5 (grid0.coords t)) (k0_pay6 (grid0.coords t)) (k0_pay7 (grid0.coords t)) (k0_pay8 (grid0.coords t)) 1#32 x4)
    k0_pay12

/-- It is the sum over the window that starts at the row, of the rows over their counts, less the row itself. -/
theorem DU_entry (t : Fin cfg0.N) (x3 : FVec Ideal S512x512 .f32) (x4 : FVec Ideal S16x512 .f32) (d : ℕ → Fin 512 → ℝ)
    (h3 : ∀ e k, x3 (ix2 e k) = ((d (t.val % 4 * 512 + e) k : ℝ) : EReal))
    (h4 : t.val % 4 < 3 → ∀ e k, x4 (ix2 e k) = ((d (t.val % 4 * 512 + 512 + e) k : ℝ) : EReal)) (r c : Fin 512) :
    DU t x3 x4 (ix2 r c) = ((∑ n ∈ Finset.range (win c), upTo (cell (win c) fun n => d n c) (t.val % 4 * 512 + r + n) - d (t.val % 4 * 512 + r) c : ℝ) : EReal) := by
  have h17 : ∀ e k : Fin 512, (k0_pay4 (F := Ideal) x3 (ix2 e k) : EReal) = ((d (t.val % 4 * 512 + e) k : ℝ) : EReal) := fun e k =>
    (show (k0_pay4 (F := Ideal) x3 (ix2 e k) : EReal) = x3 (ix2 e k) by pointwise [k0_pay4]).trans (h3 e k)
  have X : ∀ e : Fin 528, k0_pay9 (F := Ideal) (tileWord t) (k0_pay4 x3) (k0_pay5 (grid0.coords t)) (k0_pay6 (grid0.coords t)) (k0_pay7 (grid0.coords t)) (k0_pay8 (grid0.coords t)) 1#32 x4 (ix2 e c)
      = ((upTo (cell (win c) fun n => d n c) (t.val % 4 * 512 + e) : ℝ) : EReal) := by
    intro e
    rw [tileWord_eq]
    exact ext_entry (t.val % 4) (by omega) d _ _ _ _ _ _ h17 h4 (position t)
      (fun e => least_real _ 2 (by omega) (by omega) _ (position t e))
      (fun e => least_real _ 4 (by omega) (by omega) _ (position t e)) (fun e => least_real _ 8 (by omega) (by omega) _ (position t e)) e c
  have hi : ∀ e : Fin 528, k0_pay10 (F := Ideal) (tileWord t) (k0_pay4 x3) (k0_pay5 (grid0.coords t)) (k0_pay6 (grid0.coords t)) (k0_pay7 (grid0.coords t)) (k0_pay8 (grid0.coords t)) 1#32 x4 (ix2 e c)
      = ((upTo (cell (win c) fun n => d n c) (t.val % 4 * 512 + e) : ℝ) : EReal) := fun e => X e
  have lo : ∀ e : Fin 528, k0_pay11 (F := Ideal) (tileWord t) (k0_pay4 x3) (k0_pay5 (grid0.coords t)) (k0_pay6 (grid0.coords t)) (k0_pay7 (grid0.coords t)) (k0_pay8 (grid0.coords t)) 1#32 x4 (ix2 e c)
      = ((0 : ℝ) : EReal) := fun e => by
    refine (show _ = k0_pay9 (F := Ideal) (tileWord t) (k0_pay4 x3) (k0_pay5 (grid0.coords t)) (k0_pay6 (grid0.coords t)) (k0_pay7 (grid0.coords t)) (k0_pay8 (grid0.coords t)) 1#32 x4 (ix2 e c)
      - k0_pay9 (F := Ideal) (tileWord t) (k0_pay4 x3) (k0_pay5 (grid0.coords t)) (k0_pay6 (grid0.coords t)) (k0_pay7 (grid0.coords t)) (k0_pay8 (grid0.coords t)) 1#32 x4 (ix2 e c) from rfl).trans ?_
    rw [X e, ← EReal.coe_sub, sub_self]
  have hw : 1 ≤ win c ∧ win c ≤ 16 := by
    rcases Cert.InprojRefIdeal.Read.win_cases c c.2 with h | h | h | h <;> omega
  rw [DU, du_raw, pick_word c c.2]
  refine (congrArg₂ (· - ·) (congrArg₂ (· + ·)
    ((Finset.sum_congr rfl fun (e : Fin 528) _ => congrArg (bandWord (BitVec.ofNat 32 (win c)) r e * ·) (hi e)).trans
      (band_sum (fun n => upTo (cell (win c) fun n => d n c) (t.val % 4 * 512 + n)) r (win c) r.2 hw.1 hw.2))
    ((Finset.sum_congr rfl fun (e : Fin 528) _ => congrArg (bandWord (BitVec.ofNat 32 (win c)) r e * ·) (lo e)).trans
      (band_sum (fun _ => 0) r (win c) r.2 hw.1 hw.2))) (h17 r c)).trans ?_
  show (_ + _ - _ : EReal) = _
  rw [← EReal.coe_add, ← EReal.coe_sub]
  congr 1
  rw [Finset.sum_const_zero, add_zero]
  simp only [add_assoc]

theorem p11 (c : Dev nD) (t : Fin cfg0.N) (y : S512x512.Idx) : (outsAt0 m c t.val t.isLt).2.1 y = DU t (iblk m c 3 t) (iblk m c 4 t) y := by
  by_cases h : t.val % 8 = 0
  · rw [outsAt0_A m c t h (by omega)]; frame_out
    rfl
  · by_cases h4 : t.val % 4 = 0
    · rw [outsAt0_C m c t h h4]; frame_out
      rfl
    · rw [outsAt0_B m c t h h4]; frame_out
      rfl

/-- The gradient with respect to the modulated input of the projection, a tile of it. -/
def DH (t : Fin cfg0.N) (x0 x1 x2 : Vec Ideal S512x512 .bf16) (x3 : Vec Ideal S512x512 .f32) (x4 : Vec Ideal S16x512 .f32) (x9 : Vec Ideal S4x1024x512 .bf16) :
    FVec Ideal S512x1024 .f32 :=
  k0_pay14 (F := Ideal) (DU t x3 x4) x0 (View.ld (Val := Elt Ideal) x9 (Rect.unit ![0, 0, 0] ![1, 1024, 512] inb_S4x1024x512_S1x1024x512_0_0_0)) x1
    (View.ld (Val := Elt Ideal) x9 (Rect.unit ![1, 0, 0] ![1, 1024, 512] inb_S4x1024x512_S1x1024x512_1_0_0)) x2
    (View.ld (Val := Elt Ideal) x9 (Rect.unit ![2, 0, 0] ![1, 1024, 512] inb_S4x1024x512_S1x1024x512_2_0_0))
    (View.ld (Val := Elt Ideal) x9 (Rect.unit ![3, 0, 0] ![1, 1024, 512] inb_S4x1024x512_S1x1024x512_3_0_0))

theorem DH_entry (t : Fin cfg0.N) (x0 x1 x2 : Vec Ideal S512x512 .bf16) (x3 : Vec Ideal S512x512 .f32) (x4 : Vec Ideal S16x512 .f32) (x9 : Vec Ideal S4x1024x512 .bf16)
    (r : Fin 512) (k : Fin 1024) : (DH t x0 x1 x2 x3 x4 x9 (ix2 r k) : EReal) = (∑ l : Fin 512, x0 (ix2 r l) * x9 (ix3 0 k l)) + (∑ l : Fin 512, x1 (ix2 r l) * x9 (ix3 1 k l))
      + (∑ l : Fin 512, x2 (ix2 r l) * x9 (ix3 2 k l)) + (∑ l : Fin 512, DU t x3 x4 (ix2 r l) * x9 (ix3 3 k l)) := by
  pointwise [DH, k0_pay14]

/-- A row's mean of squares and the norm's small constant. -/
def Mean (x5 : Vec Ideal S512x1024 .f32) (r : Fin 512) : EReal :=
  Ideal.div (∑ l : Fin 1024, x5 (ix2 r l) * x5 (ix2 r l)) (Ideal.ofBits .f32 1149239296#32) + Ideal.ofBits .f32 897988541#32

/-- The normalised row. -/
def Unit (x5 : Vec Ideal S512x1024 .f32) (r : Fin 512) (k : Fin 1024) : EReal := x5 (ix2 r k) * Ideal.rsqrt (Mean x5 r)

/-- The gradient with respect to the normalised row. -/
def Back (h : FVec Ideal S512x1024 .f32) (x7 : Vec Ideal S1x8x1024 .f32) (x8 : Vec Ideal S1x1024 .f32) (r : Fin 512) (k : Fin 1024) : EReal :=
  h (ix2 r k) * (1 + x7 (ix3 0 1 k)) * x8 (ix2 0 k)

/-- The gradient with respect to the row itself, with what comes back around the block. -/
def GX (h : FVec Ideal S512x1024 .f32) (x5 x6 : Vec Ideal S512x1024 .f32) (x7 : Vec Ideal S1x8x1024 .f32) (x8 : Vec Ideal S1x1024 .f32) (r : Fin 512) (k : Fin 1024) : EReal :=
  x6 (ix2 r k) + Ideal.rsqrt (Mean x5 r) * (Back h x7 x8 r k - Unit x5 r k * Ideal.div (∑ l : Fin 1024, Back h x7 x8 r l * Unit x5 r l) (Ideal.ofBits .f32 1149239296#32))

theorem pay1_entry (h : FVec Ideal S512x1024 .f32) (x5 x6 : Vec Ideal S512x1024 .f32) (x7 : Vec Ideal S1x8x1024 .f32) (x8 : Vec Ideal S1x1024 .f32) (r : Fin 512) (k : Fin 1024) :
    (k0_pay1 (F := Ideal) h (k0_pay17 (k0_pay16 x5)) (k0_pay18 (k0_pay15 x5) (k0_pay16 x5)) x8
      (k0_pay19 (View.ld (Val := Elt Ideal) x7 (Rect.unit ![0, 1, 0] ![1, 1, 1024] inb_S1x8x1024_S1x1x1024_0_1_0))) x6 (ix2 r k) : EReal) = GX h x5 x6 x7 x8 r k := by
  pointwise [k0_pay1, k0_pay17, k0_pay18, k0_pay15, k0_pay19, k0_pay16, GX, Mean, Unit, Back]

theorem unit_entry (x5 : Vec Ideal S512x1024 .f32) (r : Fin 512) (k : Fin 1024) : (k0_pay18 (F := Ideal) (k0_pay15 x5) (k0_pay16 x5) (ix2 r k) : EReal) = Unit x5 r k := by
  pointwise [k0_pay18, k0_pay15, k0_pay16, k0_pay17, Unit, Mean]

/-- One point's share of the modulation's gradient: the shift's row and the scale's, the other six are zero. -/
def Q (h : FVec Ideal S512x1024 .f32) (x5 : Vec Ideal S512x1024 .f32) (x8 : Vec Ideal S1x1024 .f32) (i : Fin 8) (k : Fin 1024) : EReal :=
  if (i : ℕ) = 0 then ∑ r : Fin 512, (h (ix2 r k) : EReal) else if (i : ℕ) = 1 then ∑ r : Fin 512, h (ix2 r k) * (Unit x5 r k * x8 (ix2 0 k)) else 0

/-- One point's share of the norm weight's gradient: only the first row is written. -/
def W (h : FVec Ideal S512x1024 .f32) (x5 : Vec Ideal S512x1024 .f32) (x7 : Vec Ideal S1x8x1024 .f32) (i : Fin 8) (k : Fin 1024) : EReal :=
  if (i : ℕ) = 0 then ∑ r : Fin 512, h (ix2 r k) * (1 + x7 (ix3 0 1 k)) * Unit x5 r k else 0

theorem pay20_entry (h : FVec Ideal S512x1024 .f32) (z : Vec Ideal S1x1x1024 .f32) (k : Fin 1024) :
    (k0_pay20 (F := Ideal) h z (ix3 0 0 k) : EReal) = z (ix3 0 0 k) + ∑ r : Fin 512, h (ix2 r k) := by
  pointwise [k0_pay20]

theorem pay21_entry (h : FVec Ideal S512x1024 .f32) (x5 : Vec Ideal S512x1024 .f32) (x8 : Vec Ideal S1x1024 .f32) (z : Vec Ideal S1x1x1024 .f32) (k : Fin 1024) :
    (k0_pay21 (F := Ideal) h (k0_pay15 x5) (k0_pay16 x5) x8 z (ix3 0 0 k) : EReal) = z (ix3 0 0 k) + ∑ r : Fin 512, h (ix2 r k) * (Unit x5 r k * x8 (ix2 0 k)) := by
  pointwise [k0_pay21, k0_pay15, k0_pay16, k0_pay18, k0_pay17, Unit, Mean]

theorem pay22_entry (h : FVec Ideal S512x1024 .f32) (x5 : Vec Ideal S512x1024 .f32) (x7 : Vec Ideal S1x8x1024 .f32) (z : Vec Ideal S1x1024 .f32) (k : Fin 1024) :
    (k0_pay22 (F := Ideal) h (k0_pay15 x5) (k0_pay16 x5) (View.ld (Val := Elt Ideal) x7 (Rect.unit ![0, 1, 0] ![1, 1, 1024] inb_S1x8x1024_S1x1x1024_0_1_0)) z (ix2 0 k) : EReal)
      = z (ix2 0 k) + ∑ r : Fin 512, h (ix2 r k) * (1 + x7 (ix3 0 1 k)) * Unit x5 r k := by
  pointwise [k0_pay22, k0_pay15, k0_pay16, k0_pay18, k0_pay19, k0_pay17, Unit, Mean]

/-- The tile's gradient at a grid point. -/
abbrev dh (c : Dev nD) (t : Fin cfg0.N) : FVec Ideal S512x1024 .f32 := DH t (iblk m c 0 t) (iblk m c 1 t) (iblk m c 2 t) (iblk m c 3 t) (iblk m c 4 t) (iblk m c 9 t)

theorem p10 (c : Dev nD) (t : Fin cfg0.N) (r : Fin 512) (k : Fin 1024) : (outsAt0 m c t.val t.isLt).1 (ix2 r k)
    = GX (dh m c t) (iblk m c 5 t) (iblk m c 6 t) (iblk m c 7 t) (iblk m c 8 t) r k := by
  by_cases h : t.val % 8 = 0
  · rw [outsAt0_A m c t h (by omega)]; frame_out
    exact pay1_entry _ _ _ _ _ r k
  · by_cases h4 : t.val % 4 = 0
    · rw [outsAt0_C m c t h h4]; frame_out
      exact pay1_entry _ _ _ _ _ r k
    · rw [outsAt0_B m c t h h4]; frame_out
      exact pay1_entry _ _ _ _ _ r k

theorem ld_row0 (X : Vec Ideal S1x8x1024 .f32) (k : Fin 1024) :
    (View.ld (Val := Elt Ideal) X (Rect.unit ![0, 0, 0] ![1, 1, 1024] inb_S1x8x1024_S1x1x1024_0_0_0) (ix3 0 0 k) : EReal) = X (ix3 0 0 k) := by
  pointwise []

theorem ld_row1 (X : Vec Ideal S1x8x1024 .f32) (k : Fin 1024) :
    (View.ld (Val := Elt Ideal) X (Rect.unit ![0, 1, 0] ![1, 1, 1024] inb_S1x8x1024_S1x1x1024_0_1_0) (ix3 0 0 k) : EReal) = X (ix3 0 1 k) := by
  pointwise []

theorem ld_row (X : Vec Ideal S8x1024 .f32) (k : Fin 1024) :
    (View.ld (Val := Elt Ideal) X (Rect.unit ![0, 0] ![1, 1024] inb_S8x1024_S1x1024_0_0) (ix2 0 k) : EReal) = X (ix2 0 k) := by
  pointwise []

/-- A block of zeros with its first two rows written over. -/
theorem two_rows (v0 v1 : Vec Ideal S1x1x1024 .f32) (i : Fin 8) (k : Fin 1024) :
    (View.canon (Val := Elt Ideal) (s := S1x8x1024) (e := .f32)
      [⟨Rect.unit ![0, 1, 0] ![1, 1, 1024] inb_S1x8x1024_S1x1x1024_0_1_0, v1⟩, ⟨Rect.unit ![0, 0, 0] ![1, 1, 1024] inb_S1x8x1024_S1x1x1024_0_0_0, v0⟩,
        ⟨Rect.unit ![0, 0, 0] ![1, 8, 1024] inb_S1x8x1024_S1x8x1024_0_0_0, k0_pay3 (F := Ideal)⟩] (ix3 0 i k) : EReal)
      = if (i : ℕ) = 0 then v0 (ix3 0 0 k) else if (i : ℕ) = 1 then v1 (ix3 0 0 k) else 0 := by
  rcases (show (i : ℕ) = 0 ∨ (i : ℕ) = 1 ∨ 2 ≤ (i : ℕ) by omega) with hi | hi | hi
  · rw [canon_miss _ _ _ _ (1 : Fin 3) (Or.inl (show (i : ℕ) < 1 by omega)),
      canon_hit _ _ _ _ (ix3 0 0 k) (by intro a; fin_cases a <;> simp [hi]), if_pos hi]
  · rw [canon_hit _ _ _ _ (ix3 0 0 k) (by intro a; fin_cases a <;> simp [hi]), if_neg (by omega), if_pos hi]
  · rw [canon_miss _ _ _ _ (1 : Fin 3) (Or.inr (show 2 ≤ (i : ℕ) by omega)), canon_miss _ _ _ _ (1 : Fin 3) (Or.inr (show 1 ≤ (i : ℕ) by omega)),
      canon_hit _ _ _ _ (ix3 0 i k) (by intro a; fin_cases a <;> simp), if_neg (by omega), if_neg (by omega)]
    pointwise [k0_pay3]

/-- The modulation's gradient where its rows start from zero. -/
theorem q_first (h : FVec Ideal S512x1024 .f32) (x5 : Vec Ideal S512x1024 .f32) (x8 : Vec Ideal S1x1024 .f32) (z0 z1 : Vec Ideal S1x1x1024 .f32)
    (h0 : ∀ k, (z0 (ix3 0 0 k) : EReal) = 0) (h1 : ∀ k, (z1 (ix3 0 0 k) : EReal) = 0) (i : Fin 8) (k : Fin 1024) :
    (if (i : ℕ) = 0 then (k0_pay20 (F := Ideal) h z0 (ix3 0 0 k) : EReal) else if (i : ℕ) = 1 then k0_pay21 (F := Ideal) h (k0_pay15 x5) (k0_pay16 x5) x8 z1 (ix3 0 0 k) else 0)
      = 0 + Q h x5 x8 i k := by
  rw [pay20_entry, pay21_entry, h0, h1, Q]
  split_ifs
  · rfl
  · rfl
  · rw [add_zero]

/-- The modulation's gradient at a batch's first point: zero plus the point's share. -/
theorem p12_A (c : Dev nD) (t : Fin cfg0.N) (h4 : t.val % 4 = 0) (i : Fin 8) (k : Fin 1024) : (outsAt0 m c t.val t.isLt).2.2.1 (ix3 0 i k)
    = 0 + Q (dh m c t) (iblk m c 5 t) (iblk m c 8 t) i k := by
  have z : ∀ k : Fin 1024, (View.ld (Val := Elt Ideal) (S := S1x8x1024) (e' := .f32) (k0_pay3 (F := Ideal)) (Rect.unit ![0, 0, 0] ![1, 1, 1024] inb_S1x8x1024_S1x1x1024_0_0_0) (ix3 0 0 k) : EReal) = 0 := by
    intro k; pointwise [k0_pay3]
  have z' : ∀ k : Fin 1024, (View.ld (Val := Elt Ideal) (S := S1x8x1024) (e' := .f32) (k0_pay3 (F := Ideal)) (Rect.unit ![0, 1, 0] ![1, 1, 1024] inb_S1x8x1024_S1x1x1024_0_1_0) (ix3 0 0 k) : EReal) = 0 := by
    intro k; pointwise [k0_pay3]
  by_cases h : t.val % 8 = 0
  · rw [outsAt0_A m c t h h4]; frame_open
    simp (disch := decide) only [↓View.readCov_skip, ↓View.readCov_cons_toLoadRect, ↓View.readCov_fill]
    frame_out
    exact (two_rows _ _ i k).trans (q_first _ _ _ _ _ z z' i k)
  · rw [outsAt0_C m c t h h4]; frame_open
    simp (disch := decide) only [↓View.readCov_skip, ↓View.readCov_cons_toLoadRect, ↓View.readCov_fill]
    frame_out
    exact (two_rows _ _ i k).trans (q_first _ _ _ _ _ z z' i k)

/-- The modulation's gradient at a batch's later point: what the point before left plus the point's share. -/
theorem p12_B (c : Dev nD) (t : Fin cfg0.N) (h4 : ¬ t.val % 4 = 0) (i : Fin 8) (k : Fin 1024) : (outsAt0 m c t.val t.isLt).2.2.1 (ix3 0 i k)
    = (outsAt0 m c (t.val - 1) (by omega)).2.2.1 (ix3 0 i k) + Q (dh m c t) (iblk m c 5 t) (iblk m c 8 t) i k := by
  rw [outsAt0_B m c t (by omega) h4]
  frame_out
  rcases (show (i : ℕ) = 0 ∨ (i : ℕ) = 1 ∨ 2 ≤ (i : ℕ) by omega) with hi | hi | hi
  · rw [View.read_writes_cons_unit_of_not_mem _ _ _ _ _ _ rfl (1 : Fin 3) (Or.inl (show (i : ℕ) < 1 by omega)),
      View.read_writes_cons_unit_of_mem _ _ _ _ _ _ (ix3 0 0 k) rfl (by intro a; fin_cases a <;> simp [hi]), Q, if_pos hi, show i = 0 from Fin.ext hi]
    exact (pay20_entry _ _ k).trans (congrArg₂ (· + ·) (ld_row0 _ k) rfl)
  · rw [View.read_writes_cons_unit_of_mem _ _ _ _ _ _ (ix3 0 0 k) rfl (by intro a; fin_cases a <;> simp [hi]), Q, if_neg (by omega), if_pos hi, show i = 1 from Fin.ext hi]
    exact (pay21_entry _ _ _ _ k).trans (congrArg₂ (· + ·) (ld_row1 _ k) rfl)
  · rw [View.read_writes_cons_unit_of_not_mem _ _ _ _ _ _ rfl (1 : Fin 3) (Or.inr (show 2 ≤ (i : ℕ) by omega)),
      View.read_writes_cons_unit_of_not_mem _ _ _ _ _ _ rfl (1 : Fin 3) (Or.inr (show 1 ≤ (i : ℕ) by omega)), View.writes_nil, Q, if_neg (by omega), if_neg (by omega), add_zero]
    frame_out

/-- The norm weight's gradient at the first point: zero plus the point's share. -/
theorem p13_A (c : Dev nD) (t : Fin cfg0.N) (h : t.val % 8 = 0) (i : Fin 8) (k : Fin 1024) : (outsAt0 m c t.val t.isLt).2.2.2 (ix2 i k)
    = 0 + W (dh m c t) (iblk m c 5 t) (iblk m c 7 t) i k := by
  rw [outsAt0_A m c t h (by omega)]; frame_open
  simp (disch := decide) only [↓View.readCov_skip, ↓View.readCov_cons_toLoadRect, ↓View.readCov_fill]
  frame_out
  by_cases hi : (i : ℕ) = 0
  · rw [canon_hit _ _ _ _ (ix2 0 k) (by intro a; fin_cases a <;> simp [hi]), W, if_pos hi]
    refine (pay22_entry _ _ _ _ k).trans (congrArg₂ (· + ·) ?_ rfl)
    pointwise [k0_pay2]
  · rw [canon_miss _ _ _ _ (0 : Fin 2) (Or.inr (show 1 ≤ (i : ℕ) by omega)), canon_hit _ _ _ _ (ix2 i k) (by intro a; fin_cases a <;> simp), W, if_neg hi]
    pointwise [k0_pay2]

/-- The norm weight's gradient at a later point. -/
theorem p13_B (c : Dev nD) (t : Fin cfg0.N) (h : ¬ t.val % 8 = 0) (i : Fin 8) (k : Fin 1024) : (outsAt0 m c t.val t.isLt).2.2.2 (ix2 i k)
    = (outsAt0 m c (t.val - 1) (by omega)).2.2.2 (ix2 i k) + W (dh m c t) (iblk m c 5 t) (iblk m c 7 t) i k := by
  by_cases h4 : t.val % 4 = 0
  · rw [outsAt0_C m c t h h4]; frame_out
    by_cases hi : (i : ℕ) = 0
    · rw [View.read_writes_cons_unit_of_mem _ _ _ _ _ _ (ix2 0 k) rfl (by intro a; fin_cases a <;> simp [hi]), W, if_pos hi, show i = 0 from Fin.ext hi]
      exact (pay22_entry _ _ _ _ k).trans (congrArg₂ (· + ·) (ld_row _ k) rfl)
    · rw [View.read_writes_cons_unit_of_not_mem _ _ _ _ _ _ rfl (0 : Fin 2) (Or.inr (show 1 ≤ (i : ℕ) by omega)), View.writes_nil, W, if_neg hi, add_zero]
      frame_out
  · rw [outsAt0_B m c t h h4]; frame_out
    by_cases hi : (i : ℕ) = 0
    · rw [View.read_writes_cons_unit_of_mem _ _ _ _ _ _ (ix2 0 k) rfl (by intro a; fin_cases a <;> simp [hi]), W, if_pos hi, show i = 0 from Fin.ext hi]
      exact (pay22_entry _ _ _ _ k).trans (congrArg₂ (· + ·) (ld_row _ k) rfl)
    · rw [View.read_writes_cons_unit_of_not_mem _ _ _ _ _ _ rfl (0 : Fin 2) (Or.inr (show 1 ≤ (i : ℕ) by omega)), View.writes_nil, W, if_neg hi, add_zero]
      frame_out

end Cert.InprojIdeal.Tail
end
-- ==== Proof.InprojValue.lean ====
/- The results of the input projection's backward call, each equal to what the reference computes. -/
module

public import proofs.«01_k».proof.Proof.InprojHost
public import proofs.«01_k».proof.Proof.InprojPoint
public import proofs.«01_k».proof.Proof.LossReal

@[expose] public section

set_option maxRecDepth 16384

noncomputable section

open Idealize.ShloMosaic Idealize.ShloMosaic.TcCoe Idealize.SL.Sem
open Idealize.ShloMosaic.Pipeline (Dat)

namespace Cert.InprojIdeal.Tail
open Cert.InprojIdeal Cert.InprojIdeal.Gen
open Cert.LossRefIdeal.Read (row width)
open Cert.InprojRefIdeal.Read (chan chan_at part HR MR SR NR CR UR val_main_v210 r210 r242 r244 r246 r250)

variable (m : (ℓ : Loc nD τ sig) → Buf (Elt Ideal) ℓ)

/-- The call's arguments: the block's input, the modulations, the norm's weight, the projection, the four cotangents and the one that comes around the block. -/
abbrev a0 (c : Dev nD) : FVec Ideal S2x2048x1024 .f32 := m ((c : Thread nD τ).loc main_arg0)
abbrev a1 (c : Dev nD) : FVec Ideal S2x6144 .f32 := m ((c : Thread nD τ).loc main_arg1)
abbrev a2 (c : Dev nD) : FVec Ideal S1x1024 .f32 := m ((c : Thread nD τ).loc main_arg2)
abbrev a3 (c : Dev nD) : FVec Ideal S1x1024x2048 .f32 := m ((c : Thread nD τ).loc main_arg3)
abbrev a4 (c : Dev nD) : FVec Ideal S2x2048x512 .f32 := m ((c : Thread nD τ).loc main_arg4)
abbrev a5 (c : Dev nD) : FVec Ideal S2x2048x512 .f32 := m ((c : Thread nD τ).loc main_arg5)
abbrev a6 (c : Dev nD) : FVec Ideal S2x2048x512 .f32 := m ((c : Thread nD τ).loc main_arg6)
abbrev a7 (c : Dev nD) : FVec Ideal S2x2048x512 .f32 := m ((c : Thread nD τ).loc main_arg7)
abbrev a8 (c : Dev nD) : FVec Ideal S2x2048x1024 .f32 := m ((c : Thread nD τ).loc main_arg8)

/-- A tile's row among all rows. -/
def at_ (t : Fin cfg0.N) (r : Fin 512) : Fin 4096 := ⟨t.val * 512 + r, by have := lt8 t; omega⟩

/-- The pooled windows' cotangent of a tile's batch as real numbers, by row and channel. -/
def slope (c : Dev nD) (t : Fin cfg0.N) (n : ℕ) (k : Fin 512) : ℝ :=
  if h : t.val / 4 * 2048 + n < 4096 then (chan (a7 m c) ⟨t.val / 4 * 2048 + n, h⟩ k).toReal else 0

section
variable (c : Dev nD) (fin : ∀ i, a7 m c i = ((a7 m c i).toReal : EReal)) (t : Fin cfg0.N)

include fin in
theorem slope_at (q : Fin 4096) (n : ℕ) (h : (q : ℕ) = t.val / 4 * 2048 + n) (k : Fin 512) : chan (a7 m c) q k = ((slope m c t n k : ℝ) : EReal) := by
  have hq := q.isLt
  unfold slope
  rw [dif_pos (show t.val / 4 * 2048 + n < 4096 by omega), show (⟨t.val / 4 * 2048 + n, by omega⟩ : Fin 4096) = q from Fin.ext h.symm]
  exact fin _

include fin in
/-- A tile's rows of the windows' cotangent are the reference's. -/
theorem DU_rows (r l : Fin 512) : DU t (iblk m c 3 t) (iblk m c 4 t) (ix2 r l) = chan (val_main_v210 (F := Ideal) (a7 m c)) (at_ t r) l := by
  have ht := lt8 t
  refine (DU_entry t (iblk m c 3 t) (iblk m c 4 t) (slope m c t)
    (fun e k => (b3 m c t e k).trans (slope_at m c fin t _ _ (show t.val * 512 + (e : ℕ) = t.val / 4 * 2048 + (t.val % 4 * 512 + e) by omega) k))
    (fun h4 e k => (b4 m c t (by omega) e k).trans (slope_at m c fin t _ _ (show t.val * 512 + 512 + (e : ℕ) = t.val / 4 * 2048 + (t.val % 4 * 512 + 512 + e) by omega) k)) r l).trans ?_
  have e := r210 (a7 m c) ⟨t.val / 4, by omega⟩ l (fun n => slope m c t n l)
    (fun s => (chan_at (a7 m c) ⟨t.val / 4, by omega⟩ s l).symm.trans (slope_at m c fin t _ _ rfl l)) ⟨t.val % 4 * 512 + r, by omega⟩
  refine e.symm.trans ((chan_at (val_main_v210 (F := Ideal) (a7 m c)) ⟨t.val / 4, by omega⟩ ⟨t.val % 4 * 512 + r, by omega⟩ l).symm.trans ?_)
  exact congrArg (fun q => chan (val_main_v210 (F := Ideal) (a7 m c)) q l) (Fin.ext (show t.val / 4 * 2048 + (t.val % 4 * 512 + (r : ℕ)) = t.val * 512 + r by omega))

include fin in
/-- A tile's rows of the gradient with respect to the projection's input are the reference's. -/
theorem DH_rows (r : Fin 512) (k : Fin 1024) : dh m c t (ix2 r k) = HR (a3 m c) (a4 m c) (a5 m c) (a6 m c) (a7 m c) (at_ t r) k := by
  refine (DH_entry t _ _ _ _ _ _ r k).trans (Eq.trans ?_ (Fin.sum_univ_four _).symm)
  exact congrArg₂ (· + ·) (congrArg₂ (· + ·) (congrArg₂ (· + ·)
    (Finset.sum_congr rfl fun l _ => congrArg₂ (· * ·) (b0 m c t r l) (b9 m c t 0 k l))
    (Finset.sum_congr rfl fun l _ => congrArg₂ (· * ·) (b1 m c t r l) (b9 m c t 1 k l)))
    (Finset.sum_congr rfl fun l _ => congrArg₂ (· * ·) (b2 m c t r l) (b9 m c t 2 k l)))
    (Finset.sum_congr rfl fun l _ => congrArg₂ (· * ·) (DU_rows m c fin t r l) (b9 m c t 3 k l))

theorem Mean_rows (r : Fin 512) : Mean (iblk m c 5 t) r = MR (a0 m c) (at_ t r) :=
  congrArg₂ (· + ·) (congrArg₂ Ideal.div (Finset.sum_congr rfl fun l _ => congrArg₂ (· * ·) (b5 m c t r l) (b5 m c t r l)) rfl) rfl

theorem Unit_rows (r : Fin 512) (k : Fin 1024) : Unit (iblk m c 5 t) r k = UR (a0 m c) (at_ t r) k :=
  congrArg₂ (· * ·) (b5 m c t r k) (congrArg Ideal.rsqrt (Mean_rows m c t r))

theorem scale (r : Fin 512) (k : Fin 1024) : (1 + (show FVec Ideal S1x8x1024 .f32 from iblk m c 7 t) (ix3 0 1 k) : EReal) = SR (a1 m c) (at_ t r) k := by
  have ht := lt8 t
  refine (congrArg (1 + ·) (b7 m c t k)).trans ?_
  exact congrArg (fun q => 1 + a1 m c (ix2 q ⟨1024 + k, by omega⟩)) (Fin.ext (show t.val / 4 = (t.val * 512 + (r : ℕ)) / 2048 by omega))

include fin in
theorem Back_rows (r : Fin 512) (k : Fin 1024) : Back (dh m c t) (iblk m c 7 t) (iblk m c 8 t) r k
    = NR (a1 m c) (a2 m c) (a3 m c) (a4 m c) (a5 m c) (a6 m c) (a7 m c) (at_ t r) k :=
  congrArg₂ (· * ·) (congrArg₂ (· * ·) (DH_rows m c fin t r k) (scale m c t r k)) (b8 m c t k)

include fin in
theorem GX_rows (r : Fin 512) (k : Fin 1024) : GX (dh m c t) (iblk m c 5 t) (iblk m c 6 t) (iblk m c 7 t) (iblk m c 8 t) r k
    = Cert.InprojRefIdeal.Read.val_main_v242 (F := Ideal) (a0 m c) (a1 m c) (a2 m c) (a3 m c) (a4 m c) (a5 m c) (a6 m c) (a7 m c) (a8 m c) (ix2 (at_ t r) k) := by
  rw [r242, GX, Mean_rows]
  simp only [Back_rows m c fin t, Unit_rows]
  refine (congrArg₂ (· + ·) (b6 m c t r k) (Cert.LossReal.norm_grad (fun k => row (a0 m c) (at_ t r) k)
    (fun k => NR (a1 m c) (a2 m c) (a3 m c) (a4 m c) (a5 m c) (a6 m c) (a7 m c) (at_ t r) k) k _ rfl)).trans ?_
  exact (add_assoc (G := EReal) _ _ _).symm.trans (congrArg (· + _) (add_assoc (G := EReal) _ _ _).symm)

end

/-- The gradient with respect to the block's input. -/
theorem final10 (c : Dev nD) (fin : ∀ i, a7 m c i = ((a7 m c i).toReal : EReal)) : (dats m 0 c).arrAt 10 cfg0.N
    = Cert.InprojRefIdeal.Read.val_main_v242 (F := Ideal) (a0 m c) (a1 m c) (a2 m c) (a3 m c) (a4 m c) (a5 m c) (a6 m c) (a7 m c) (a8 m c) := by
  refine (dats m 0 c).arrAt_eq_of_covers 10 _ (by decide +kernel) fun t _ y => ?_
  blk_simp
  rw [after0_10]
  have ht := lt8 t
  obtain ⟨r, k, rfl⟩ : ∃ (r : Fin 512) (k : Fin 1024), y = ix2 r k := ⟨y 0, y 1, by funext a; fin_cases a <;> rfl⟩
  refine (p10 m c t r k).trans ((GX_rows m c fin t r k).trans (congrArg _ ?_))
  unfold at_
  blk_ext [idx t]

/-- The gradient with respect to what is pooled. -/
theorem final11 (c : Dev nD) (fin : ∀ i, a7 m c i = ((a7 m c i).toReal : EReal)) : (dats m 0 c).arrAt 11 cfg0.N
    = Cert.InprojRefIdeal.Read.val_main_v244 (F := Ideal) (a7 m c) := by
  refine (dats m 0 c).arrAt_eq_of_covers 11 _ (by decide +kernel) fun t _ y => ?_
  blk_simp
  rw [after0_11]
  have ht := lt8 t
  obtain ⟨r, k, rfl⟩ : ∃ (r k : Fin 512), y = ix2 r k := ⟨y 0, y 1, by funext a; fin_cases a <;> rfl⟩
  refine (p11 m c t _).trans ((DU_rows m c fin t r k).trans ((r244 (a7 m c) (at_ t r) k).symm.trans (congrArg _ ?_)))
  unfold at_
  blk_ext [idx t]

/-- The gradients of a batch's shift and scale, summed over the batch's tiles. -/
theorem final12 (c : Dev nD) (fin : ∀ i, a7 m c i = ((a7 m c i).toReal : EReal)) : (dats m 0 c).arrAt 12 cfg0.N
    = Cert.InprojRefIdeal.Read.val_main_v246 (F := Ideal) (a0 m c) (a2 m c) (a3 m c) (a4 m c) (a5 m c) (a6 m c) (a7 m c) := by
  refine (dats m 0 c).arrAt_eq_of_covers 12 _ (by decide +kernel) fun t hf y => ?_
  have h := (flush0_12 t).mp hf
  blk_simp
  rw [after0_12]
  have ht := lt8 t
  obtain ⟨i, k, rfl⟩ : ∃ (i : Fin 8) (k : Fin 1024), y = ix3 0 i k := ⟨y 1, y 2, by funext a; fin_cases a <;> first | rfl | exact Subsingleton.elim (α := Fin 1) _ _⟩
  have e := Pipeline.eq_sum_fin_of_reset_step_of_flush (N := cfg0.N) (fun n hn => (outsAt0 m c n hn).2.2.1 (ix3 0 i k)) 4 0
    (fun p => Q (dh m c p) (iblk m c 5 p) (iblk m c 8 p) i k)
    (fun p hp => p12_A m c p hp i k) (fun p hp => p12_B m c p hp i k) t h
  refine e.trans ((zero_add _).trans (Eq.trans ?_ ((r246 (a0 m c) (a2 m c) (a3 m c) (a4 m c) (a5 m c) (a6 m c) (a7 m c) ⟨t.val / 4, by omega⟩ i k).symm.trans (congrArg _ ?_))))
  · have hq : ∀ (q : Fin cfg0.N) (s : ℕ) (hs : s < 4) (r : Fin 512), q.val = 4 * (t.val / 4) + s → at_ q r = ⟨t.val / 4 * 2048 + (s * 512 + r), by omega⟩ := fun q s hs r e =>
      Fin.ext (show q.val * 512 + (r : ℕ) = t.val / 4 * 2048 + (s * 512 + r) by omega)
    by_cases hi : (i : ℕ) = 0
    · rw [if_pos hi]
      refine (Fin.sum_fin_congr fun p => if_pos hi).trans ?_
      refine Fin.sum_mul_add_congr fun s r hl => ?_
      refine (DH_rows m c fin _ r k).trans ?_
      rw [hq _ s.val s.isLt r rfl]
    · rw [if_neg hi]
      by_cases h1 : (i : ℕ) = 1
      · rw [if_pos h1]
        refine (Fin.sum_fin_congr fun p => (if_neg hi).trans (if_pos h1)).trans ?_
        refine Fin.sum_mul_add_congr fun s r hl => ?_
        refine (congrArg₂ (· * ·) (DH_rows m c fin _ r k) (congrArg₂ (· * ·) (Unit_rows m c _ r k) (b8 m c _ k))).trans ?_
        rw [hq _ s.val s.isLt r rfl]
        exact mul_comm _ _
      · rw [if_neg h1]
        exact Finset.sum_eq_zero (M := EReal) fun p _ => (if_neg hi).trans (if_neg h1)
  · blk_ext [idx t]

/-- The norm weight's gradient, summed over the tiles. -/
theorem final13 (c : Dev nD) (fin : ∀ i, a7 m c i = ((a7 m c i).toReal : EReal)) : (dats m 0 c).arrAt 13 cfg0.N
    = Cert.InprojRefIdeal.Read.val_main_v250 (F := Ideal) (a0 m c) (a1 m c) (a3 m c) (a4 m c) (a5 m c) (a6 m c) (a7 m c) := by
  refine (dats m 0 c).arrAt_eq_of_covers 13 _ (by decide +kernel) fun t hf y => ?_
  have h := (flush0_13 t).mp hf
  blk_simp
  rw [after0_13]
  have ht := lt8 t
  obtain ⟨i, k, rfl⟩ : ∃ (i : Fin 8) (k : Fin 1024), y = ix2 i k := ⟨y 0, y 1, by funext a; fin_cases a <;> rfl⟩
  have e := Pipeline.eq_sum_fin_of_reset_step_of_flush (N := cfg0.N) (fun n hn => (outsAt0 m c n hn).2.2.2 (ix2 i k)) 8 0
    (fun p => W (dh m c p) (iblk m c 5 p) (iblk m c 7 p) i k)
    (fun p hp => p13_A m c p hp i k) (fun p hp => p13_B m c p hp i k) t h
  refine e.trans ((zero_add _).trans (Eq.trans ?_ ((r250 (a0 m c) (a1 m c) (a3 m c) (a4 m c) (a5 m c) (a6 m c) (a7 m c) i k).symm.trans (congrArg _ ?_))))
  · have hq : ∀ (q : Fin cfg0.N) (s : ℕ) (r : Fin 512) (hl : s * 512 + (r : ℕ) < 4096), q.val = 8 * (t.val / 8) + s → at_ q r = ⟨s * 512 + r, hl⟩ := fun q s r hl e =>
      Fin.ext (show q.val * 512 + (r : ℕ) = s * 512 + r by omega)
    by_cases hi : (i : ℕ) = 0
    · rw [if_pos hi]
      refine (Fin.sum_fin_congr fun p => if_pos hi).trans ?_
      refine Fin.sum_mul_add_congr fun s r hl => ?_
      refine (congrArg₂ (· * ·) (congrArg₂ (· * ·) (DH_rows m c fin _ r k) (scale m c _ r k)) (Unit_rows m c _ r k)).trans ?_
      rw [hq _ s.val r hl rfl]
      exact mul_comm _ _
    · rw [if_neg hi]
      exact Finset.sum_eq_zero (M := EReal) fun p _ => if_neg hi
  · blk_ext [idx t]

end Cert.InprojIdeal.Tail
end
-- ==== Proof.InprojClaim.lean ====
/- The claims of the input projection's backward call that carry the precondition: the pooled windows' cotangent is of finite numbers. -/
module

public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Frames
public import proofs.«01_k».proof.Proof.AttnClaim
public import proofs.«01_k».proof.Proof.InprojValue

@[expose] public section

noncomputable section

namespace Cert.Proof

open Idealize.ShloMosaic Idealize.ShloMosaic.TcCoe Idealize.SL.Sem Cert.InprojIdeal.Tail

/-- The precondition's one broadcast is well formed. -/
theorem pooled_facts : Cert.Pre_finite_pooled.Facts := ⟨by decide⟩

variable [Cert.Pre_finite_pooled.Facts]

theorem inproj_frame_pooled : Cert.quiescent_InprojIdeal_pre_finite_pooled := fun m ρ _ => Cert.InprojIdeal.Gen.frame m ρ

theorem inprojRef_frame_pooled : Cert.quiescent_InprojRefIdeal_pre_finite_pooled := fun m ρ _ => inprojRef_frame m ρ trivial

/-- The input projection's backward call and the reference's gradients agree where the pooled windows' cotangent is finite. -/
theorem inproj : Cert.algebraic_InprojIdeal_InprojRefIdeal_pre_finite_pooled := by
  intro m g m' g' hpre hagree
  refine ⟨fun c => (Cert.InprojIdeal.Gen.dats m 0 c).arrAt 10 Cert.InprojIdeal.cfg0.N, fun c => (Cert.InprojIdeal.Gen.dats m 0 c).arrAt 11 Cert.InprojIdeal.cfg0.N,
    fun c => (Cert.InprojIdeal.Gen.dats m 0 c).arrAt 12 Cert.InprojIdeal.cfg0.N, fun c => (Cert.InprojIdeal.Gen.dats m 0 c).arrAt 13 Cert.InprojIdeal.cfg0.N, ?_, ?_⟩
  · run_from Cert.InprojIdeal.Value.run_blocks m g
  · refine (θ_run Cert.InprojRefIdeal.defs _ _).mono (fun r h c => ?_) (Cert.InprojRefIdeal.Value.run m' g')
    obtain ⟨h0, h1, h2, h3, h4, h5, h6, h7, h8⟩ := hagree c
    have fin := finite_of_below _ _ _ (hpre c)
    refine ⟨(h c).1.trans ?_, (h c).2.1.trans ?_, (h c).2.2.1.trans ?_, (h c).2.2.2.1.trans ?_, (h c).2.2.2.2⟩
    · refine (Cert.InprojRefIdeal.Read.val_main_v242_eq _).trans (Eq.trans ?_ (final10 m c fin).symm)
      exact congr (congr (congr (congr (congr (congr (congr (congr (congrArg Cert.InprojRefIdeal.Read.val_main_v242 h0) h1) h2) h3) h4) h5) h6) h7) h8
    · refine (Cert.InprojRefIdeal.Read.val_main_v244_eq _).trans (Eq.trans ?_ (final11 m c fin).symm)
      exact congrArg _ h7
    · refine (Cert.InprojRefIdeal.Read.val_main_v246_eq _).trans (Eq.trans ?_ (final12 m c fin).symm)
      exact congr (congr (congr (congr (congr (congr (congrArg Cert.InprojRefIdeal.Read.val_main_v246 h0) h2) h3) h4) h5) h6) h7
    · refine (Cert.InprojRefIdeal.Read.val_main_v250_eq _).trans (Eq.trans ?_ (final13 m c fin).symm)
      exact congr (congr (congr (congr (congr (congr (congrArg Cert.InprojRefIdeal.Read.val_main_v250 h0) h1) h3) h4) h5) h6) h7

end Cert.Proof

end
-- ==== Proof.FfnRefRead.lean ====
/- The feed-forward block's gradients as the reference computes them, result by result at an index. -/
module

public import proofs.«01_k».proof.Proof.Gen.FfnRefIdeal.Read
public import proofs.«01_k».proof.Proof.LossRefRead

@[expose] public section

set_option maxRecDepth 16384

noncomputable section

open Idealize.ShloMosaic Idealize.ShloMosaic.TcCoe Idealize.SL.Sem

namespace Cert.FfnRefIdeal.Read
open Cert.FfnRefIdeal
open Cert.MixerRefIdeal.Read (reduce_lead sum_rows)
open Cert.LossRefIdeal.Read (row whole width)

variable (x0 x1 : FVec Ideal S2x2048x1024 .f32) (x2 : FVec Ideal S2x6144 .f32) (x3 x4 : FVec Ideal S1x1024 .f32)
  (x5 x6 : FVec Ideal S1x1024x2816 .f32) (x7 : FVec Ideal S1x2816x1024 .f32) (x8 x9 : FVec Ideal S2x2048x1024 .f32)

/-- A row of two batches of the block's inner channels laid in one line, at a channel. -/
def wide (x : FVec Ideal S2x2048x2816 .f32) (r : Fin 4096) (l : Fin 2816) : EReal :=
  x (ix3 ⟨(r : ℕ) / 2048, by omega⟩ ⟨(r : ℕ) % 2048, by omega⟩ l)

/-- One of the six modulations of a row's batch. -/
def part (j : ℕ) (hj : j < 6) (r : Fin 4096) (k : Fin 1024) : EReal := x2 (ix2 ⟨(r : ℕ) / 2048, by omega⟩ ⟨j * 1024 + k, by omega⟩)

/-- The residual stream as the block finds it, the two inner products. -/
def XR (r : Fin 4096) (k : Fin 1024) : EReal := row (val_main_v31 (F := Ideal) x0 x1 x2 x3) r k
def AR (r : Fin 4096) (l : Fin 2816) : EReal := wide (val_main_v56 (F := Ideal) x0 x1 x2 x3 x4 x5) r l
def BR (r : Fin 4096) (l : Fin 2816) : EReal := wide (val_main_v58 (F := Ideal) x0 x1 x2 x3 x4 x6) r l

/-- One element of the cotangent times the output weight. -/
def DR (r : Fin 4096) (l : Fin 2816) : EReal := ∑ k : Fin 1024, row x8 r k * x7 (ix3 0 l k)

/-- The logistic function. -/
def sig (a : EReal) : EReal := Ideal.div 1 (1 + Ideal.exp (-a))

/-- The gradients with respect to the two inner products. -/
def GA (r : Fin 4096) (l : Fin 2816) : EReal :=
  DR x7 x8 r l * BR x0 x1 x2 x3 x4 x6 r l * sig (AR x0 x1 x2 x3 x4 x5 r l)
    + AR x0 x1 x2 x3 x4 x5 r l * (DR x7 x8 r l * BR x0 x1 x2 x3 x4 x6 r l) * (sig (AR x0 x1 x2 x3 x4 x5 r l) * (1 - sig (AR x0 x1 x2 x3 x4 x5 r l)))
def GB (r : Fin 4096) (l : Fin 2816) : EReal := AR x0 x1 x2 x3 x4 x5 r l * sig (AR x0 x1 x2 x3 x4 x5 r l) * DR x7 x8 r l

/-- One element of the gradient with respect to the modulated input. -/
def HR (r : Fin 4096) (k : Fin 1024) : EReal :=
  (∑ l : Fin 2816, GB x0 x1 x2 x3 x4 x5 x7 x8 r l * x6 (ix3 0 k l)) + ∑ l : Fin 2816, GA x0 x1 x2 x3 x4 x5 x6 x7 x8 r l * x5 (ix3 0 k l)

section
variable (f n : Fin 4096 → Fin 1024 → EReal)

/-- A row's mean square, made positive. -/
def VR (r : Fin 4096) : EReal :=
  Ideal.div (∑ k : Fin 1024, f r k * f r k) width + Scalar.ofBits (F := Ideal) .f32 0x358637BD#32

/-- The factor a row's elements take from the derivative of the reciprocal root. -/
def CR (r : Fin 4096) : EReal :=
  Ideal.div ((∑ k : Fin 1024, f r k * n r k) * (Scalar.ofBits (F := Ideal) .f32 0xBF000000#32 * Ideal.div (Ideal.rsqrt (VR f r)) (VR f r))) width
end

/-- The scale of a row's batch, counted from one. -/
def scale (r : Fin 4096) (k : Fin 1024) : EReal := 1 + part x2 4 (by omega) r k

/-- The gradient with respect to the normed residual stream. -/
def NR (r : Fin 4096) (k : Fin 1024) : EReal := HR x0 x1 x2 x3 x4 x5 x6 x7 x8 r k * scale x2 r k * x4 (ix2 0 k)

/-- The gradient with respect to the residual stream. -/
def TR (r : Fin 4096) (k : Fin 1024) : EReal :=
  row x9 r k + NR x0 x1 x2 x3 x4 x5 x6 x7 x8 r k * Ideal.rsqrt (VR (XR x0 x1 x2 x3) r)
    + XR x0 x1 x2 x3 r k * CR (XR x0 x1 x2 x3) (NR x0 x1 x2 x3 x4 x5 x6 x7 x8) r
    + CR (XR x0 x1 x2 x3) (NR x0 x1 x2 x3 x4 x5 x6 x7 x8) r * XR x0 x1 x2 x3 r k

/-- The gradient with respect to the normed mixing output. -/
def MR (r : Fin 4096) (k : Fin 1024) : EReal := part x2 2 (by omega) r k * TR x0 x1 x2 x3 x4 x5 x6 x7 x8 x9 r k * x3 (ix2 0 k)

variable (b : Fin 2) (s : Fin 2048)

theorem e31 (k : Fin 1024) : val_main_v31 (F := Ideal) x0 x1 x2 x3 (ix3 b s k) = XR x0 x1 x2 x3 ⟨b * 2048 + s, by omega⟩ k := by
  unfold XR row
  blk_point []

theorem e56 (l : Fin 2816) : val_main_v56 (F := Ideal) x0 x1 x2 x3 x4 x5 (ix3 b s l) = AR x0 x1 x2 x3 x4 x5 ⟨b * 2048 + s, by omega⟩ l := by
  unfold AR wide
  blk_point []

theorem e58 (l : Fin 2816) : val_main_v58 (F := Ideal) x0 x1 x2 x3 x4 x6 (ix3 b s l) = BR x0 x1 x2 x3 x4 x6 ⟨b * 2048 + s, by omega⟩ l := by
  unfold BR wide
  blk_point []

theorem e63 (l : Fin 2816) : val_main_v63 (F := Ideal) x7 x8 (ix3 b s l) = DR x7 x8 ⟨b * 2048 + s, by omega⟩ l := by
  pointwise [val_main_v63, val_main_v61, DR, row]
  blk_point []

theorem e59 (l : Fin 2816) : val_main_v59_2 (F := Ideal) x0 x1 x2 x3 x4 x5 (ix3 b s l) = sig (AR x0 x1 x2 x3 x4 x5 ⟨b * 2048 + s, by omega⟩ l) := by
  pointwise [val_main_v59_2, val_main_call0_v4, val_main_call0_cst_0, val_main_call0_v3, val_main_call0_v2, val_main_call0_cst, val_main_call0_v1, val_main_call0_v0, sig]
  simp only [e56]

theorem e64 (l : Fin 2816) : val_main_v64 (F := Ideal) x0 x1 x2 x3 x4 x5 x7 x8 (ix3 b s l) = GB x0 x1 x2 x3 x4 x5 x7 x8 ⟨b * 2048 + s, by omega⟩ l := by
  pointwise [val_main_v64, val_main_v59_0, GB]
  simp only [e56, e59, e63]

theorem e66 (l : Fin 2816) : val_main_v66 (F := Ideal) x0 x1 x2 x3 x4 x5 x6 x7 x8 (ix3 b s l) = GA x0 x1 x2 x3 x4 x5 x6 x7 x8 ⟨b * 2048 + s, by omega⟩ l := by
  pointwise [val_main_v66, val_main_call1_v2, val_main_call1_v1, val_main_call1_v0, val_main_v65, val_main_v59_1, val_main_call0_v7, val_main_call0_v6, val_main_call0_cst_1, GA]
  simp only [e56, e58, e59, e63]

theorem e69 (k : Fin 1024) : val_main_v69 (F := Ideal) x0 x1 x2 x3 x4 x5 x6 x7 x8 (ix3 b s k) = HR x0 x1 x2 x3 x4 x5 x6 x7 x8 ⟨b * 2048 + s, by omega⟩ k := by
  pointwise [val_main_v69, val_main_v68, val_main_v67, val_main_v57, val_main_v55, HR]
  simp only [e64, e66]

theorem e39 : val_main_v39 (F := Ideal) x0 x1 x2 x3 (ix3 b s 0) = VR (XR x0 x1 x2 x3) ⟨b * 2048 + s, by omega⟩ := by
  pointwise [val_main_v39, val_main_v38, val_main_cst_5, val_main_v37, val_main_v36, val_main_cst_4, val_main_v35, val_main_v34, val_main_cst_3, val_main_v33, VR, width]
  simp only [e31]

theorem e19 : val_main_v19 (F := Ideal) x1 (ix3 b s 0) = VR (row x1) ⟨b * 2048 + s, by omega⟩ := by
  pointwise [val_main_v19, val_main_v18, val_main_cst_1, val_main_v17, val_main_v16, val_main_cst_0, val_main_v15, val_main_v14, val_main_cst, val_main_v13, VR, width, row]
  blk_point []

theorem e51 (k : Fin 1024) : val_main_v50 (F := Ideal) x2 (ix3 b 0 k) = scale x2 ⟨b * 2048 + s, by omega⟩ k := by
  pointwise [val_main_v50, val_main_v49, val_main_cst_7, val_main_v10, val_main_v4, scale, part]
  blk_point []

theorem e8 (k : Fin 1024) : val_main_v8 (F := Ideal) x2 (ix3 b 0 k) = part x2 2 (by omega) ⟨b * 2048 + s, by omega⟩ k := by
  pointwise [val_main_v8, val_main_v2, part]
  blk_point []

theorem e76 (k : Fin 1024) : val_main_v76 (F := Ideal) x0 x1 x2 x3 x4 x5 x6 x7 x8 (ix3 b s k)
    = HR x0 x1 x2 x3 x4 x5 x6 x7 x8 ⟨b * 2048 + s, by omega⟩ k * scale x2 ⟨b * 2048 + s, by omega⟩ k := by
  pointwise [val_main_v76, val_main_v75]
  rw [e69, e51 x2 b s]

theorem e81 (k : Fin 1024) : val_main_v81 (F := Ideal) x0 x1 x2 x3 x4 x5 x6 x7 x8 (ix3 b s k) = NR x0 x1 x2 x3 x4 x5 x6 x7 x8 ⟨b * 2048 + s, by omega⟩ k := by
  pointwise [val_main_v81, val_main_v80, val_main_v46, val_main_v32, NR]
  rw [e76]

theorem e93 (k : Fin 1024) : val_main_v93 (F := Ideal) x0 x1 x2 x3 x4 x5 x6 x7 x8 (ix3 b s k)
    = CR (XR x0 x1 x2 x3) (NR x0 x1 x2 x3 x4 x5 x6 x7 x8) ⟨b * 2048 + s, by omega⟩ := by
  pointwise [val_main_v93, val_main_v92, val_main_cst_14, val_main_v91, val_main_v90, val_main_cst_13, val_main_v89, val_main_v85, val_main_v84, val_main_cst_12, val_main_v83,
    val_main_v43, val_main_v42, val_main_cst_6, val_main_v41, val_main_v40, CR, width]
  simp only [e31, e81]
  refine (Fintype.sum_unique _).trans ?_
  rw [show (default : Fin 1) = 0 from rfl, e39]

theorem e97 (k : Fin 1024) : val_main_v97 (F := Ideal) x0 x1 x2 x3 x4 x5 x6 x7 x8 x9 (ix3 b s k) = TR x0 x1 x2 x3 x4 x5 x6 x7 x8 x9 ⟨b * 2048 + s, by omega⟩ k := by
  pointwise [val_main_v97, val_main_v96, val_main_v95, val_main_v94, val_main_v88, val_main_v87, val_main_v86, val_main_v40, TR]
  simp only [e31, e39, e81, e93]
  unfold row
  blk_point []

theorem e101 (k : Fin 1024) : val_main_v101 (F := Ideal) x0 x1 x2 x3 x4 x5 x6 x7 x8 x9 (ix3 b s k)
    = part x2 2 (by omega) ⟨b * 2048 + s, by omega⟩ k * TR x0 x1 x2 x3 x4 x5 x6 x7 x8 x9 ⟨b * 2048 + s, by omega⟩ k := by
  pointwise [val_main_v101, val_main_v100, val_main_v99]
  rw [e97, e8 x2 b s]

theorem e109 (k : Fin 1024) : val_main_v109 (F := Ideal) x0 x1 x2 x3 x4 x5 x6 x7 x8 x9 (ix3 b s k) = MR x0 x1 x2 x3 x4 x5 x6 x7 x8 x9 ⟨b * 2048 + s, by omega⟩ k := by
  pointwise [val_main_v109, val_main_v108, val_main_v26, val_main_v12, MR]
  rw [e101]

theorem e120 (k : Fin 1024) : val_main_v120 (F := Ideal) x0 x1 x2 x3 x4 x5 x6 x7 x8 x9 (ix3 b s k)
    = CR (row x1) (MR x0 x1 x2 x3 x4 x5 x6 x7 x8 x9) ⟨b * 2048 + s, by omega⟩ := by
  pointwise [val_main_v120, val_main_v119, val_main_cst_20, val_main_v118, val_main_v117, val_main_cst_19, val_main_v116, val_main_v113, val_main_v112, val_main_cst_18, val_main_v111,
    val_main_v23, val_main_v22, val_main_cst_2, val_main_v21, val_main_v20, CR, width]
  simp only [e109]
  refine (Fintype.sum_unique _).trans ?_
  rw [show (default : Fin 1) = 0 from rfl, e19]
  unfold row
  blk_point []

/-- The six results. -/
theorem r128 (q : Fin 4) (r : Fin 4096) (l : Fin 704) : val_main_v128 (F := Ideal) x0 x1 x2 x3 x4 x5 x6 x7 x8 (ix3 q r l)
    = GA x0 x1 x2 x3 x4 x5 x6 x7 x8 r ⟨q * 704 + l, by omega⟩ := by
  pointwise [val_main_v128, val_main_v127, val_main_v126]
  simp only [e66, whole]

theorem r131 (q : Fin 4) (r : Fin 4096) (l : Fin 704) : val_main_v131 (F := Ideal) x0 x1 x2 x3 x4 x5 x7 x8 (ix3 q r l)
    = GB x0 x1 x2 x3 x4 x5 x7 x8 r ⟨q * 704 + l, by omega⟩ := by
  pointwise [val_main_v131, val_main_v130, val_main_v129]
  simp only [e64, whole]

theorem r132 (r : Fin 4096) (k : Fin 1024) : val_main_v132 (F := Ideal) x0 x1 x2 x3 x4 x5 x6 x7 x8 x9 (ix2 r k) = TR x0 x1 x2 x3 x4 x5 x6 x7 x8 x9 r k := by
  pointwise [val_main_v132]
  rw [e97, whole]

theorem r134 (r : Fin 4096) (k : Fin 1024) : val_main_v134 (F := Ideal) x0 x1 x2 x3 x4 x5 x6 x7 x8 x9 (ix2 r k)
    = MR x0 x1 x2 x3 x4 x5 x6 x7 x8 x9 r k * Ideal.rsqrt (VR (row x1) r) + row x1 r k * CR (row x1) (MR x0 x1 x2 x3 x4 x5 x6 x7 x8 x9) r
      + CR (row x1) (MR x0 x1 x2 x3 x4 x5 x6 x7 x8 x9) r * row x1 r k := by
  pointwise [val_main_v134, val_main_v133, val_main_v124, val_main_v123, val_main_v122, val_main_v121, val_main_v115, val_main_v114, val_main_v20]
  simp only [e109, e19, e120, whole]
  unfold row
  blk_point []

theorem r136 (i : Fin 8) (k : Fin 1024) : val_main_v136 (F := Ideal) x0 x1 x2 x3 x4 x5 x6 x7 x8 x9 (ix3 b i k) =
    if (i : ℕ) = 0 then ∑ s : Fin 2048, HR x0 x1 x2 x3 x4 x5 x6 x7 x8 ⟨b * 2048 + s, by omega⟩ k
    else if (i : ℕ) = 1 then ∑ s : Fin 2048, XR x0 x1 x2 x3 ⟨b * 2048 + s, by omega⟩ k * Ideal.rsqrt (VR (XR x0 x1 x2 x3) ⟨b * 2048 + s, by omega⟩) * x4 (ix2 0 k)
      * HR x0 x1 x2 x3 x4 x5 x6 x7 x8 ⟨b * 2048 + s, by omega⟩ k
    else if (i : ℕ) = 2 then ∑ s : Fin 2048, TR x0 x1 x2 x3 x4 x5 x6 x7 x8 x9 ⟨b * 2048 + s, by omega⟩ k *
      (row x1 ⟨b * 2048 + s, by omega⟩ k * Ideal.rsqrt (VR (row x1) ⟨b * 2048 + s, by omega⟩) * x3 (ix2 0 k)) else 0 := by
  pointwise [val_main_v136, val_main_v135, val_main_cst_21]
  by_cases h0 : (i : ℕ) = 0
  · rw [dif_pos (by omega), if_pos h0]
    pointwise [val_main_v71, val_main_v70, val_main_cst_8]
    simp only [e69]
  · rw [dif_neg (by omega), if_neg h0]
    by_cases h1 : (i : ℕ) = 1
    · rw [dif_pos (by omega), if_pos h1]
      pointwise [val_main_v74, val_main_v73, val_main_cst_9, val_main_v72, val_main_v48, val_main_v47, val_main_v46, val_main_v32, val_main_v45, val_main_v44, val_main_v40]
      simp only [e69, e31, e39]
    · rw [dif_neg (by omega), if_neg h1]
      by_cases h2 : (i : ℕ) = 2
      · rw [dif_pos (by omega), if_pos h2]
        pointwise [val_main_v104, val_main_v103, val_main_cst_15, val_main_v102, val_main_v99, val_main_v28, val_main_v27, val_main_v26, val_main_v12, val_main_v25, val_main_v24, val_main_v20]
        simp only [e97, e19]
        unfold row
        blk_point []
      · rw [dif_neg (by omega), if_neg h2]

theorem e78 (k : Fin 1024) : val_main_v78 (F := Ideal) x0 x1 x2 x3 x4 x5 x6 x7 x8 (ix1 k)
    = ∑ r : Fin 4096, XR x0 x1 x2 x3 r k * Ideal.rsqrt (VR (XR x0 x1 x2 x3) r) * (HR x0 x1 x2 x3 x4 x5 x6 x7 x8 r k * scale x2 r k) := by
  rw [← sum_rows]
  pointwise [val_main_v78]
  rw [reduce_lead]
  pointwise [val_main_cst_10, val_main_v77, val_main_v45, val_main_v44, val_main_v40]
  simp only [e76, e31, e39]

theorem e106 (k : Fin 1024) : val_main_v106 (F := Ideal) x0 x1 x2 x3 x4 x5 x6 x7 x8 x9 (ix1 k)
    = ∑ r : Fin 4096, row x1 r k * Ideal.rsqrt (VR (row x1) r) * (part x2 2 (by omega) r k * TR x0 x1 x2 x3 x4 x5 x6 x7 x8 x9 r k) := by
  rw [← sum_rows]
  pointwise [val_main_v106]
  rw [reduce_lead]
  pointwise [val_main_cst_16, val_main_v105, val_main_v25, val_main_v24, val_main_v20]
  simp only [e101, e19]
  unfold row
  blk_point []

/-- Summing over two axes of size one changes nothing. -/
theorem e82 (k : Fin 1024) : val_main_v82 (F := Ideal) x0 x1 x2 x3 x4 x5 x6 x7 x8 (ix1 k) = val_main_v78 (F := Ideal) x0 x1 x2 x3 x4 x5 x6 x7 x8 (ix1 k) := by
  pointwise [val_main_v82]
  rw [reduce_lead]
  pointwise [val_main_cst_11, val_main_v79]
  rw [Fintype.sum_unique, Fintype.sum_unique]

theorem e110 (k : Fin 1024) : val_main_v110 (F := Ideal) x0 x1 x2 x3 x4 x5 x6 x7 x8 x9 (ix1 k) = val_main_v106 (F := Ideal) x0 x1 x2 x3 x4 x5 x6 x7 x8 x9 (ix1 k) := by
  pointwise [val_main_v110]
  rw [reduce_lead]
  pointwise [val_main_cst_17, val_main_v107]
  rw [Fintype.sum_unique, Fintype.sum_unique]

theorem r141 (i : Fin 8) (k : Fin 1024) : val_main_v141 (F := Ideal) x0 x1 x2 x3 x4 x5 x6 x7 x8 x9 (ix2 i k) =
    if (i : ℕ) = 0 then ∑ r : Fin 4096, XR x0 x1 x2 x3 r k * Ideal.rsqrt (VR (XR x0 x1 x2 x3) r) * (HR x0 x1 x2 x3 x4 x5 x6 x7 x8 r k * scale x2 r k)
    else if (i : ℕ) = 1 then ∑ r : Fin 4096, row x1 r k * Ideal.rsqrt (VR (row x1) r) * (part x2 2 (by omega) r k * TR x0 x1 x2 x3 x4 x5 x6 x7 x8 x9 r k) else 0 := by
  pointwise [val_main_v141, val_main_v140, val_main_v139, val_main_cst_22, val_main_v138, val_main_v137, val_main_v98, val_main_v125]
  by_cases h0 : (i : ℕ) = 0
  · rw [dif_pos (by omega), if_pos h0, e82, e78]
  · rw [dif_neg (by omega), if_neg h0]
    by_cases h1 : (i : ℕ) = 1
    · rw [dif_pos (by omega), if_pos h1, e110, e106]
    · rw [dif_neg (by omega), if_neg h1]

end Cert.FfnRefIdeal.Read
end
-- ==== Proof.FfnHost.lean ====
/- The blocks the feed-forward gradient's grid points read, in terms of the call's arguments. -/
module

public import proofs.«01_k».proof.Proof.FfnFrame
public import proofs.«01_k».proof.Proof.FfnRefRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Body
open Cert.FfnIdeal Cert.FfnIdeal.Gen
open Cert.FfnRefIdeal.Read (part XR AR BR wide)
open Cert.LossRefIdeal.Read (row)

variable (m : (ℓ : Loc nD τ sig) → Buf (Elt Ideal) ℓ)

/-- The call's arguments: the residual stream, the mixing output, the modulations, the two norms' weights, the three
    weights and the two cotangents. -/
abbrev a0 (c : Dev nD) : FVec Ideal S2x2048x1024 .f32 := m ((c : Thread nD τ).loc main_arg0)
abbrev a1 (c : Dev nD) : FVec Ideal S2x2048x1024 .f32 := m ((c : Thread nD τ).loc main_arg1)
abbrev a2 (c : Dev nD) : FVec Ideal S2x6144 .f32 := m ((c : Thread nD τ).loc main_arg2)
abbrev a3 (c : Dev nD) : FVec Ideal S1x1024 .f32 := m ((c : Thread nD τ).loc main_arg3)
abbrev a4 (c : Dev nD) : FVec Ideal S1x1024 .f32 := m ((c : Thread nD τ).loc main_arg4)
abbrev a5 (c : Dev nD) : FVec Ideal S1x1024x2816 .f32 := m ((c : Thread nD τ).loc main_arg5)
abbrev a6 (c : Dev nD) : FVec Ideal S1x1024x2816 .f32 := m ((c : Thread nD τ).loc main_arg6)
abbrev a7 (c : Dev nD) : FVec Ideal S1x2816x1024 .f32 := m ((c : Thread nD τ).loc main_arg7)
abbrev a8 (c : Dev nD) : FVec Ideal S2x2048x1024 .f32 := m ((c : Thread nD τ).loc main_arg8)
abbrev a9 (c : Dev nD) : FVec Ideal S2x2048x1024 .f32 := m ((c : Thread nD τ).loc main_arg9)

/-- Where each window's block lies at a point. -/
theorem idx : ∀ t : Fin cfg0.N, win0_0.index t = ![t.val / 4, 0] ∧ win0_1.index t = ![t.val % 4, t.val / 4, 0] ∧ win0_2.index t = ![t.val % 4, t.val / 4, 0]
    ∧ win0_3.index t = ![t.val % 4, 0, 0] ∧ win0_4.index t = ![t.val % 4, 0, 0] ∧ win0_5.index t = ![t.val % 4, 0, 0]
    ∧ win0_6.index t = ![t.val / 4, 0] ∧ win0_7.index t = ![t.val / 4, 0] ∧ win0_8.index t = ![t.val / 4, 0] ∧ win0_9.index t = ![t.val / 16, 0, 0]
    ∧ win0_10.index t = ![0, 0] ∧ win0_11.index t = ![0, 0] ∧ win0_12.index t = ![t.val % 4, t.val / 4, 0] ∧ win0_13.index t = ![t.val % 4, t.val / 4, 0]
    ∧ win0_14.index t = ![t.val / 4, 0] ∧ win0_15.index t = ![t.val / 4, 0] ∧ win0_16.index t = ![t.val / 16, 0, 0] ∧ win0_17.index t = ![0, 0] :=
  (by decide +kernel : ∀ t : Fin grid0.N, _)

/-- The grid has thirty-two points. -/
theorem lt32 (t : Fin cfg0.N) : t.val < 32 := lt_of_lt_of_eq t.isLt N_0

/-- A tile's row among all rows. -/
def at_ (t : Fin cfg0.N) (r : Fin 512) : Fin 4096 := ⟨t.val / 4 * 512 + r, by have := lt32 t; omega⟩

/-- A quarter's channel among the block's inner channels. -/
def ch (t : Fin cfg0.N) (l : Fin 704) : Fin 2816 := ⟨t.val % 4 * 704 + l, by omega⟩

set_option maxHeartbeats 4000000 in
/-- What the host lines leave in the buffers the windows read. -/
theorem host (c : Dev nD) :
    (V m c main_v50 : FVec Ideal S4096x1024 .bf16) = truncf (F := Ideal) .bf16 (shapeCast S4096x1024 (a8 m c) shapeCasts_S2x2048x1024_S4096x1024) bitsLt_bf16_f32
    ∧ (V m c main_v55 : FVec Ideal S4x4096x704 .bf16) = truncf (F := Ideal) .bf16 (transpose S4x4096x704 [1, 0, 2] (shapeCast S4096x4x704
        (Cert.FfnRefIdeal.Read.val_main_v56 (F := Ideal) (a0 m c) (a1 m c) (a2 m c) (a3 m c) (a4 m c) (a5 m c)) shapeCasts_S2x2048x2816_S4096x4x704) transposes_S4096x4x704_S4x4096x704_1_0_2) bitsLt_bf16_f32
    ∧ (V m c main_v60 : FVec Ideal S4x4096x704 .bf16) = truncf (F := Ideal) .bf16 (transpose S4x4096x704 [1, 0, 2] (shapeCast S4096x4x704
        (Cert.FfnRefIdeal.Read.val_main_v58 (F := Ideal) (a0 m c) (a1 m c) (a2 m c) (a3 m c) (a4 m c) (a6 m c)) shapeCasts_S2x2048x2816_S4096x4x704) transposes_S4096x4x704_S4x4096x704_1_0_2) bitsLt_bf16_f32
    ∧ (V m c main_v63 : FVec Ideal S4x704x1024 .bf16) = truncf (F := Ideal) .bf16 (shapeCast S4x704x1024 (shapeCast S2816x1024 (a7 m c) shapeCasts_S1x2816x1024_S2816x1024) shapeCasts_S2816x1024_S4x704x1024) bitsLt_bf16_f32
    ∧ (V m c main_v67 : FVec Ideal S4x1024x704 .bf16) = truncf (F := Ideal) .bf16 (transpose S4x1024x704 [1, 0, 2] (shapeCast S1024x4x704 (shapeCast S1024x2816 (a5 m c)
        shapeCasts_S1x1024x2816_S1024x2816) shapeCasts_S1024x2816_S1024x4x704) transposes_S1024x4x704_S4x1024x704_1_0_2) bitsLt_bf16_f32
    ∧ (V m c main_v71 : FVec Ideal S4x1024x704 .bf16) = truncf (F := Ideal) .bf16 (transpose S4x1024x704 [1, 0, 2] (shapeCast S1024x4x704 (shapeCast S1024x2816 (a6 m c)
        shapeCasts_S1x1024x2816_S1024x2816) shapeCasts_S1024x2816_S1024x4x704) transposes_S1024x4x704_S4x1024x704_1_0_2) bitsLt_bf16_f32
    ∧ (V m c main_v72 : FVec Ideal S4096x1024 .f32) = shapeCast S4096x1024 (Cert.FfnRefIdeal.Read.val_main_v31 (F := Ideal) (a0 m c) (a1 m c) (a2 m c) (a3 m c)) shapeCasts_S2x2048x1024_S4096x1024
    ∧ V m c main_v73 = shapeCast S4096x1024 (a9 m c) shapeCasts_S2x2048x1024_S4096x1024
    ∧ V m c main_v74 = shapeCast S4096x1024 (a1 m c) shapeCasts_S2x2048x1024_S4096x1024
    ∧ V m c main_v77 = concatenate S2x8x1024 1 [⟨S2x6x1024, shapeCast S2x6x1024 (a2 m c) shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 := by
  refine ⟨?_, ?_, ?_, ?_, ?_, ?_, ?_, ?_, ?_, ?_⟩
  all_goals
    unfold V
    simp only [List.flatten_cons, List.flatten_nil, List.append_nil, List.cons_append, List.nil_append, hostOps0,
      StableHlo.after_cons, StableHlo.after_nil]
    after_results_simp
    rfl

/-- Two batches of rows laid in one line, at a row. -/
theorem rows_apply (x : FVec Ideal S2x2048x1024 .f32) (i : S4096x1024.Idx) :
    shapeCast S4096x1024 x shapeCasts_S2x2048x1024_S4096x1024 i = row x (i 0) (i 1) := by
  pointwise [row]

/-- The narrowed rows are the rows. -/
theorem rows_narrow (x : FVec Ideal S2x2048x1024 .f32) (i : S4096x1024.Idx) :
    truncf (F := Ideal) .bf16 (shapeCast S4096x1024 x shapeCasts_S2x2048x1024_S4096x1024) bitsLt_bf16_f32 i = row x (i 0) (i 1) := by
  pointwise [row]

/-- An inner product cut into quarters of its channels. -/
theorem inner_apply' (x : FVec Ideal S2x2048x2816 .f32) (i : S4x4096x704.Idx) :
    truncf (F := Ideal) .bf16 (transpose S4x4096x704 [1, 0, 2] (shapeCast S4096x4x704 x shapeCasts_S2x2048x2816_S4096x4x704) transposes_S4096x4x704_S4x4096x704_1_0_2) bitsLt_bf16_f32 i
      = wide x (i 1) ⟨i 0 * 704 + i 2, by have : (i 0 : ℕ) < 4 := (i 0).isLt; have : (i 2 : ℕ) < 704 := (i 2).isLt; omega⟩ := by
  pointwise [wide]

/-- An input weight cut into quarters of its columns. -/
theorem cols_apply (x : FVec Ideal S1x1024x2816 .f32) (i : S4x1024x704.Idx) :
    truncf (F := Ideal) .bf16 (transpose S4x1024x704 [1, 0, 2] (shapeCast S1024x4x704 (shapeCast S1024x2816 x shapeCasts_S1x1024x2816_S1024x2816) shapeCasts_S1024x2816_S1024x4x704) transposes_S1024x4x704_S4x1024x704_1_0_2) bitsLt_bf16_f32 i
      = x (ix3 0 (i 1) ⟨i 0 * 704 + i 2, by have : (i 0 : ℕ) < 4 := (i 0).isLt; have : (i 2 : ℕ) < 704 := (i 2).isLt; omega⟩) := by
  pointwise

/-- The output weight cut into quarters of its rows. -/
theorem quarters_apply (x : FVec Ideal S1x2816x1024 .f32) (i : S4x704x1024.Idx) :
    truncf (F := Ideal) .bf16 (shapeCast S4x704x1024 (shapeCast S2816x1024 x shapeCasts_S1x2816x1024_S2816x1024) shapeCasts_S2816x1024_S4x704x1024) bitsLt_bf16_f32 i
      = x (ix3 0 ⟨i 0 * 704 + i 1, by have : (i 0 : ℕ) < 4 := (i 0).isLt; have : (i 1 : ℕ) < 704 := (i 1).isLt; omega⟩ (i 2)) := by
  pointwise

/-- The six modulations of a batch with two empty rows below them. -/
theorem mods_apply (x : FVec Ideal S2x6144 .f32) (i : S2x8x1024.Idx) (j : ℕ) (hj : j < 6) (h : (i 1 : ℕ) = j) :
    concatenate S2x8x1024 1 [⟨S2x6x1024, shapeCast S2x6x1024 x shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 i
      = x (ix2 (i 0) ⟨j * 1024 + i 2, by have : (i 2 : ℕ) < 1024 := (i 2).isLt; omega⟩) := by
  pointwise
  rw [dif_pos (by omega)]
  simp only [h]

/-- A point's rows of the cotangent, -/
theorem b0 (c : Dev nD) (t : Fin cfg0.N) (r : Fin 512) (l : Fin 1024) :
    (show FVec Ideal S512x1024 .bf16 from iblk m c 0 t) (ix2 r l) = row (a8 m c) (at_ t r) l := by
  have ht := lt32 t
  blk_simp [iblk, idx t]
  rw [show V m c (Pipeline.arrRef spec0 0) = _ from (host m c).1]
  refine (rows_narrow _ _).trans ?_
  unfold row at_
  blk_ext [idx t]

/-- its quarters of the two inner products, -/
theorem b1 (c : Dev nD) (t : Fin cfg0.N) (r : Fin 512) (l : Fin 704) :
    (show FVec Ideal S1x512x704 .bf16 from iblk m c 1 t) (ix3 0 r l) = AR (a0 m c) (a1 m c) (a2 m c) (a3 m c) (a4 m c) (a5 m c) (at_ t r) (ch t l) := by
  have ht := lt32 t
  blk_simp [iblk, idx t]
  rw [show V m c (Pipeline.arrRef spec0 1) = _ from (host m c).2.1]
  refine (inner_apply' _ _).trans ?_
  unfold AR wide at_ ch
  blk_ext [idx t]

theorem b2 (c : Dev nD) (t : Fin cfg0.N) (r : Fin 512) (l : Fin 704) :
    (show FVec Ideal S1x512x704 .bf16 from iblk m c 2 t) (ix3 0 r l) = BR (a0 m c) (a1 m c) (a2 m c) (a3 m c) (a4 m c) (a6 m c) (at_ t r) (ch t l) := by
  have ht := lt32 t
  blk_simp [iblk, idx t]
  rw [show V m c (Pipeline.arrRef spec0 2) = _ from (host m c).2.2.1]
  refine (inner_apply' _ _).trans ?_
  unfold BR wide at_ ch
  blk_ext [idx t]

/-- its quarters of the three weights, -/
theorem b3 (c : Dev nD) (t : Fin cfg0.N) (l : Fin 704) (k : Fin 1024) :
    (show FVec Ideal S1x704x1024 .bf16 from iblk m c 3 t) (ix3 0 l k) = a7 m c (ix3 0 (ch t l) k) := by
  have ht := lt32 t
  blk_simp [iblk, idx t]
  rw [show V m c (Pipeline.arrRef spec0 3) = _ from (host m c).2.2.2.1]
  refine (quarters_apply _ _).trans ?_
  unfold ch
  blk_ext [idx t]

theorem b4 (c : Dev nD) (t : Fin cfg0.N) (k : Fin 1024) (l : Fin 704) :
    (show FVec Ideal S1x1024x704 .bf16 from iblk m c 4 t) (ix3 0 k l) = a5 m c (ix3 0 k (ch t l)) := by
  have ht := lt32 t
  blk_simp [iblk, idx t]
  rw [show V m c (Pipeline.arrRef spec0 4) = _ from (host m c).2.2.2.2.1]
  refine (cols_apply _ _).trans ?_
  unfold ch
  blk_ext [idx t]

theorem b5 (c : Dev nD) (t : Fin cfg0.N) (k : Fin 1024) (l : Fin 704) :
    (show FVec Ideal S1x1024x704 .bf16 from iblk m c 5 t) (ix3 0 k l) = a6 m c (ix3 0 k (ch t l)) := by
  have ht := lt32 t
  blk_simp [iblk, idx t]
  rw [show V m c (Pipeline.arrRef spec0 5) = _ from (host m c).2.2.2.2.2.1]
  refine (cols_apply _ _).trans ?_
  unfold ch
  blk_ext [idx t]

/-- its rows of the residual stream, of its cotangent and of the mixing output, -/
theorem b6 (c : Dev nD) (t : Fin cfg0.N) (r : Fin 512) (l : Fin 1024) :
    (show FVec Ideal S512x1024 .f32 from iblk m c 6 t) (ix2 r l) = XR (a0 m c) (a1 m c) (a2 m c) (a3 m c) (at_ t r) l := by
  have ht := lt32 t
  blk_simp [iblk, idx t]
  rw [show V m c (Pipeline.arrRef spec0 6) = _ from (host m c).2.2.2.2.2.2.1]
  refine (rows_apply _ _).trans ?_
  unfold XR row at_
  blk_ext [idx t]

theorem b7 (c : Dev nD) (t : Fin cfg0.N) (r : Fin 512) (l : Fin 1024) :
    (show FVec Ideal S512x1024 .f32 from iblk m c 7 t) (ix2 r l) = row (a9 m c) (at_ t r) l := by
  have ht := lt32 t
  blk_simp [iblk, idx t]
  rw [show V m c (Pipeline.arrRef spec0 7) = _ from (host m c).2.2.2.2.2.2.2.1]
  refine (rows_apply _ _).trans ?_
  unfold row at_
  blk_ext [idx t]

theorem b8 (c : Dev nD) (t : Fin cfg0.N) (r : Fin 512) (l : Fin 1024) :
    (show FVec Ideal S512x1024 .f32 from iblk m c 8 t) (ix2 r l) = row (a1 m c) (at_ t r) l := by
  have ht := lt32 t
  blk_simp [iblk, idx t]
  rw [show V m c (Pipeline.arrRef spec0 8) = _ from (host m c).2.2.2.2.2.2.2.2.1]
  refine (rows_apply _ _).trans ?_
  unfold row at_
  blk_ext [idx t]

/-- its batch's modulations, -/
theorem b9 (c : Dev nD) (t : Fin cfg0.N) (j : Fin 8) (hj : j.val < 6) (r : Fin 512) (k : Fin 1024) :
    (show FVec Ideal S1x8x1024 .f32 from iblk m c 9 t) (ix3 0 j k) = part (a2 m c) j.val hj (at_ t r) k := by
  have ht := lt32 t
  blk_simp [iblk, idx t]
  rw [show V m c (Pipeline.arrRef spec0 9) = _ from (host m c).2.2.2.2.2.2.2.2.2]
  refine (mods_apply _ _ j.val hj ?_).trans ?_
  · blk_simp [idx t]
  unfold part at_
  blk_ext [idx t]

/-- and the two norms' weights: all of them at every point. -/
theorem b10 (c : Dev nD) (t : Fin cfg0.N) (k : Fin 1024) : (show FVec Ideal S1x1024 .f32 from iblk m c 10 t) (ix2 0 k) = a4 m c (ix2 0 k) := by
  blk_point [iblk, V, idx t]

theorem b11 (c : Dev nD) (t : Fin cfg0.N) (k : Fin 1024) : (show FVec Ideal S1x1024 .f32 from iblk m c 11 t) (ix2 0 k) = a3 m c (ix2 0 k) := by
  blk_point [iblk, V, idx t]

end Cert.FfnIdeal.Body
end
-- ==== Proof.FfnPoint.lean ====
/- What the feed-forward gradient's kernel body leaves, entry by entry. -/
module

public import proofs.«01_k».proof.Proof.FfnBody
public import Idealize.ShloMosaic.Lib.Pointwise

@[expose] public section

set_option maxRecDepth 16384

noncomputable section

open Idealize.ShloMosaic Idealize.ShloMosaic.TcCoe Idealize.SL.Sem

namespace Cert.FfnIdeal.Body
open Cert.FfnIdeal Cert.FfnIdeal.Gen

variable (x0 : FVec Ideal S512x1024 .bf16) (x1 x2 : FVec Ideal S1x512x704 .bf16) (x3 : FVec Ideal S1x704x1024 .bf16) (x4 x5 : FVec Ideal S1x1024x704 .bf16)
  (x6 x7 x8 : FVec Ideal S512x1024 .f32) (x9 : FVec Ideal S1x8x1024 .f32) (x10 x11 : FVec Ideal S1x1024 .f32) (H : FVec Ideal S512x1024 .f32)

/-- One element of the cotangent's tile times a row quarter of the output weight. -/
def D (r : Fin 512) (l : Fin 704) : EReal := ∑ k : Fin 1024, x0 (ix2 r k) * x3 (ix3 0 l k)

/-- The logistic function. -/
def sg (a : EReal) : EReal := Ideal.div 1 (1 + Ideal.exp (0 - a))

/-- The gradients with respect to the two inner products. -/
def DA (r : Fin 512) (l : Fin 704) : EReal :=
  D x0 x3 r l * x2 (ix3 0 r l) * (sg (x1 (ix3 0 r l)) * (1 + x1 (ix3 0 r l) * (1 - sg (x1 (ix3 0 r l)))))
def DB (r : Fin 512) (l : Fin 704) : EReal := D x0 x3 r l * (x1 (ix3 0 r l) * sg (x1 (ix3 0 r l)))

/-- A quarter's share of the gradient with respect to the modulated input. -/
def P (r : Fin 512) (k : Fin 1024) : EReal :=
  (∑ l : Fin 704, DA x0 x1 x2 x3 r l * x4 (ix3 0 k l)) + ∑ l : Fin 704, DB x0 x1 x3 r l * x5 (ix3 0 k l)

theorem pay28 (r : Fin 512) (l : Fin 704) : (k0_pay28 (F := Ideal) x0 x3 x1 x2 (ix2 r l) : EReal) = DA x0 x1 x2 x3 r l := by
  pointwise [k0_pay28, k0_pay25, k0_pay26, k0_pay27, DA, D, sg]

theorem pay29 (r : Fin 512) (l : Fin 704) : (k0_pay29 (F := Ideal) x0 x3 x1 (ix2 r l) : EReal) = DB x0 x1 x3 r l := by
  pointwise [k0_pay29, k0_pay25, k0_pay26, k0_pay27, DB, D, sg]

theorem pay30 (r : Fin 512) (l : Fin 704) : (k0_pay30 (F := Ideal) x0 x3 x1 x2 (ix3 0 r l) : EReal) = DA x0 x1 x2 x3 r l := by
  rw [← pay28]
  pointwise [k0_pay30]

theorem pay1 (r : Fin 512) (l : Fin 704) : (k0_pay1 (F := Ideal) (k0_pay29 x0 x3 x1) (ix3 0 r l) : EReal) = DB x0 x1 x3 r l := by
  rw [← pay29]
  pointwise [k0_pay1]

theorem pay2 (r : Fin 512) (k : Fin 1024) :
    (k0_pay2 (F := Ideal) (k0_pay28 x0 x3 x1 x2) (k0_pay29 x0 x3 x1) x4 x5 (ix2 r k) : EReal) = P x0 x1 x2 x3 x4 x5 r k := by
  unfold P
  simp only [← pay28, ← pay29]
  pointwise [k0_pay2]

theorem pay3 (r : Fin 512) (k : Fin 1024) :
    (k0_pay3 (F := Ideal) (k0_pay28 x0 x3 x1 x2) (k0_pay29 x0 x3 x1) x4 x5 (ix2 r k) : EReal) = P x0 x1 x2 x3 x4 x5 r k := by
  rw [← pay2]
  pointwise [k0_pay3]

theorem pay4 (r : Fin 512) (k : Fin 1024) :
    (k0_pay4 (F := Ideal) (k0_pay28 x0 x3 x1 x2) (k0_pay29 x0 x3 x1) x4 x5 H (ix2 r k) : EReal) = H (ix2 r k) + P x0 x1 x2 x3 x4 x5 r k := by
  rw [← pay2]
  pointwise [k0_pay4]

/-! ## A tile's last quarter, from the whole sum -/

/-- The number of channels, as the kernel divides by it. -/
def width : EReal := Scalar.ofBits (F := Ideal) .f32 0x44800000#32

/-- The reciprocal root of a row's mean square. -/
def R (f : FVec Ideal S512x1024 .f32) (r : Fin 512) : EReal :=
  Ideal.rsqrt (Ideal.div (∑ k : Fin 1024, f (ix2 r k) * f (ix2 r k)) width + Scalar.ofBits (F := Ideal) .f32 0x358637BD#32)

/-- One element of the gradient through a norm, from the gradient with respect to its result. -/
def G (n : Fin 512 → Fin 1024 → EReal) (f : FVec Ideal S512x1024 .f32) (r : Fin 512) (k : Fin 1024) : EReal :=
  R f r * (n r k - f (ix2 r k) * R f r * Ideal.div (∑ l : Fin 1024, n r l * (f (ix2 r l) * R f r)) width)

/-- The scale of the tile's batch, counted from one. -/
def scl (k : Fin 1024) : EReal := 1 + x9 (ix3 0 4 k)

/-- The gradients with respect to the normed residual stream, the residual stream, and the normed mixing output. -/
def N3 (r : Fin 512) (k : Fin 1024) : EReal := H (ix2 r k) * scl x9 k * x10 (ix2 0 k)
def X1 (r : Fin 512) (k : Fin 1024) : EReal := x7 (ix2 r k) + G (N3 x9 x10 H) x6 r k
def N2 (r : Fin 512) (k : Fin 1024) : EReal := X1 x6 x7 x9 x10 H r k * x9 (ix3 0 2 k) * x11 (ix2 0 k)

theorem pay10 (r : Fin 512) : (k0_pay10 (F := Ideal) x6 (ix2 r 0) : EReal) = R x6 r := by
  pointwise [k0_pay10, k0_pay9, R, width]

theorem pay11 (r : Fin 512) (k : Fin 1024) : (k0_pay11 (F := Ideal) x6 (ix2 r k) : EReal) = x6 (ix2 r k) * R x6 r := by
  rw [← pay10]
  pointwise [k0_pay11, k0_pay9]

theorem pay21 (r : Fin 512) : (k0_pay21 (F := Ideal) x8 (ix2 r 0) : EReal) = R x8 r := by
  pointwise [k0_pay21, k0_pay20, R, width]

theorem pay22 (r : Fin 512) (k : Fin 1024) : (k0_pay22 (F := Ideal) x8 (ix2 r k) : EReal) = x8 (ix2 r k) * R x8 r := by
  rw [← pay21]
  pointwise [k0_pay22, k0_pay20]

/-- A row of a block of eight. -/
theorem ld_bar (B : FVec Ideal S1x8x1024 .f32) (j : Fin 8) (k : Fin 1024) :
    (View.ld (Val := Elt Ideal) (e' := .f32) B (bar j.val j.isLt) : FVec Ideal S1x1x1024 .f32) (ix3 0 0 k) = B (ix3 0 j k) :=
  View.ld_unit_apply_of (S := S1x8x1024) (Val := Elt Ideal) (e := .f32) B ![0, j.val, 0] S1x1x1024.size _ _ (ix3 0 j k) (by intro a; fin_cases a <;> simp)

theorem pay12 (k : Fin 1024) : (k0_pay12 (F := Ideal) (View.ld x9 (bar 4)) (ix2 0 k) : EReal) = scl x9 k := by
  rw [scl, ← ld_bar x9 4 k]
  pointwise [k0_pay12]

theorem pay23 (k : Fin 1024) : (k0_pay23 (F := Ideal) (View.ld x9 (bar 2)) (ix2 0 k) : EReal) = x9 (ix3 0 2 k) := by
  rw [← ld_bar x9 2 k]
  pointwise [k0_pay23]

theorem pay17 (r : Fin 512) (k : Fin 1024) :
    (k0_pay17 (F := Ideal) H x10 (k0_pay12 (View.ld x9 (bar 4))) (ix2 r k) : EReal) = N3 x9 x10 H r k := by
  rw [N3, ← pay12]
  pointwise [k0_pay17]

theorem pay18 (r : Fin 512) :
    (k0_pay18 (F := Ideal) H (k0_pay11 x6) x10 (k0_pay12 (View.ld x9 (bar 4))) (ix1 r) : EReal) = ∑ l : Fin 1024, N3 x9 x10 H r l * (x6 (ix2 r l) * R x6 r) := by
  simp only [← pay17, ← pay11]
  pointwise [k0_pay18]

/-- The gradient with respect to the residual stream. -/
theorem inner_apply (r : Fin 512) (k : Fin 1024) : (inner (F := Ideal) x6 x7 x9 x10 H (ix2 r k) : EReal) = X1 x6 x7 x9 x10 H r k := by
  rw [X1, G, ← pay18, ← pay17, ← pay11, ← pay10]
  pointwise [k0_pay19, k0_pay16, width]

/-- The gradient with respect to the mixing output, from that with respect to the residual stream. -/
theorem pay6 (y : FVec Ideal S512x1024 .f32) (r : Fin 512) (k : Fin 1024) :
    (k0_pay6 (F := Ideal) y (k0_pay21 x8) (k0_pay22 x8) x11 (k0_pay23 (View.ld x9 (bar 2))) (ix2 r k) : EReal)
      = G (fun r k => y (ix2 r k) * x9 (ix3 0 2 k) * x11 (ix2 0 k)) x8 r k := by
  simp only [G, ← pay22]
  simp only [← pay21, ← pay23]
  pointwise [k0_pay6, width]

theorem outer_apply (r : Fin 512) (k : Fin 1024) :
    (k0_pay6 (F := Ideal) (inner (F := Ideal) x6 x7 x9 x10 H) (k0_pay21 x8) (k0_pay22 x8) x11 (k0_pay23 (View.ld x9 (bar 2))) (ix2 r k) : EReal)
      = G (N2 x6 x7 x9 x10 x11 H) x8 r k := by
  rw [pay6]
  refine congrArg (fun n => G n x8 r k) (funext fun r => funext fun k => ?_)
  rw [N2, ← inner_apply]

/-- A tile's share of the modulation's and the norm weights' accumulated rows. -/
def B3 (i : Fin 8) (k : Fin 1024) : EReal :=
  if (i : ℕ) = 0 then ∑ r : Fin 512, H (ix2 r k)
  else if (i : ℕ) = 1 then ∑ r : Fin 512, H (ix2 r k) * (x6 (ix2 r k) * R x6 r * x10 (ix2 0 k))
  else if (i : ℕ) = 2 then ∑ r : Fin 512, X1 x6 x7 x9 x10 H r k * (x8 (ix2 r k) * R x8 r * x11 (ix2 0 k)) else 0
def B2 (i : Fin 8) (k : Fin 1024) : EReal :=
  if (i : ℕ) = 0 then ∑ r : Fin 512, H (ix2 r k) * scl x9 k * (x6 (ix2 r k) * R x6 r)
  else if (i : ℕ) = 1 then ∑ r : Fin 512, X1 x6 x7 x9 x10 H r k * x9 (ix3 0 2 k) * (x8 (ix2 r k) * R x8 r) else 0

theorem pay13 (b : FVec Ideal S1x1x1024 .f32) (k : Fin 1024) : (k0_pay13 (F := Ideal) H b (ix3 0 0 k) : EReal) = b (ix3 0 0 k) + ∑ r : Fin 512, H (ix2 r k) := by
  pointwise [k0_pay13]

theorem pay14 (n : FVec Ideal S512x1024 .f32) (b : FVec Ideal S1x1x1024 .f32) (k : Fin 1024) :
    (k0_pay14 (F := Ideal) H n x10 b (ix3 0 0 k) : EReal) = b (ix3 0 0 k) + ∑ r : Fin 512, H (ix2 r k) * (n (ix2 r k) * x10 (ix2 0 k)) := by
  pointwise [k0_pay14]

theorem pay15 (n : FVec Ideal S512x1024 .f32) (s b : FVec Ideal S1x1024 .f32) (k : Fin 1024) :
    (k0_pay15 (F := Ideal) H n s b (ix2 0 k) : EReal) = b (ix2 0 k) + ∑ r : Fin 512, H (ix2 r k) * s (ix2 0 k) * n (ix2 r k) := by
  pointwise [k0_pay15]

theorem pay5 (n : FVec Ideal S512x1024 .f32) (s b : FVec Ideal S1x1024 .f32) (k : Fin 1024) :
    (k0_pay5 (F := Ideal) H n s b (ix2 0 k) : EReal) = b (ix2 0 k) + ∑ r : Fin 512, H (ix2 r k) * s (ix2 0 k) * n (ix2 r k) := by
  pointwise [k0_pay5]

theorem pay24 (s : FVec Ideal S512x1 .f32) (a y n : FVec Ideal S512x1024 .f32) (q : FVec Ideal S512 .f32) (b : FVec Ideal S1x1x1024 .f32) (k : Fin 1024) :
    (k0_pay24 (F := Ideal) s a y n q x8 x11 b (ix3 0 0 k) : EReal)
      = b (ix3 0 0 k) + ∑ r : Fin 512, k0_pay19 (F := Ideal) s a y n q (ix2 r k) * (x8 (ix2 r k) * R x8 r * x11 (ix2 0 k)) := by
  simp only [← pay22]
  pointwise [k0_pay24]

theorem rows3_apply (B : FVec Ideal S1x8x1024 .f32) (i : Fin 8) (k : Fin 1024) :
    (rows3 (F := Ideal) x6 x7 x8 x9 x10 x11 B H (ix3 0 i k) : EReal) = B (ix3 0 i k) + B3 x6 x7 x8 x9 x10 x11 H i k := by
  unfold rows3 over3 B3
  show (if (i : ℕ) = 0 then _ else if (i : ℕ) = 1 then _ else if (i : ℕ) = 2 then _ else _ : EReal) = _
  by_cases h0 : (i : ℕ) = 0
  · obtain rfl : i = 0 := Fin.ext h0
    rw [if_pos h0, if_pos h0]
    exact (pay13 H _ k).trans (congrArg (· + _) (ld_bar B 0 k))
  rw [if_neg h0, if_neg h0]
  by_cases h1 : (i : ℕ) = 1
  · obtain rfl : i = 1 := Fin.ext h1
    rw [if_pos h1, if_pos h1]
    refine (pay14 x10 H _ _ k).trans (congrArg₂ (· + ·) (ld_bar B 1 k) ?_)
    simp only [pay11]
  rw [if_neg h1, if_neg h1]
  by_cases h2 : (i : ℕ) = 2
  · obtain rfl : i = 2 := Fin.ext h2
    rw [if_pos h2, if_pos h2]
    refine (pay24 x8 x11 _ _ _ _ _ _ k).trans (congrArg₂ (· + ·) (ld_bar B 2 k) (Finset.sum_congr rfl fun r _ => congrArg (· * _) ?_))
    exact inner_apply x6 x7 x9 x10 H r k
  rw [if_neg h2, if_neg h2]
  exact (add_zero (M := EReal) _).symm

theorem rows2_apply (B : FVec Ideal S8x1024 .f32) (i : Fin 8) (k : Fin 1024) :
    (rows2 (F := Ideal) x6 x7 x8 x9 x10 B H (ix2 i k) : EReal) = B (ix2 i k) + B2 x6 x7 x8 x9 x10 H i k := by
  unfold rows2 over2 B2
  show (if (i : ℕ) = 0 then _ else if (i : ℕ) = 1 then _ else _ : EReal) = _
  by_cases h0 : (i : ℕ) = 0
  · obtain rfl : i = 0 := Fin.ext h0
    rw [if_pos h0, if_pos h0]
    refine (pay15 H _ _ _ k).trans (congrArg₂ (· + ·) ?_ ?_)
    · exact View.ld_unit_apply_of (S := S8x1024) (Val := Elt Ideal) (e := .f32) B ![0, 0] S1x1024.size _ _ (ix2 0 k) (by intro a; fin_cases a <;> simp)
    · simp only [pay11, pay12]
  rw [if_neg h0, if_neg h0]
  by_cases h1 : (i : ℕ) = 1
  · obtain rfl : i = 1 := Fin.ext h1
    rw [if_pos h1, if_pos h1]
    refine (pay5 (inner (F := Ideal) x6 x7 x9 x10 H) _ _ _ k).trans (congrArg₂ (· + ·) ?_ ?_)
    · exact View.ld_unit_apply_of (S := S8x1024) (Val := Elt Ideal) (e := .f32) B ![1, 0] S1x1024.size _ _ (ix2 1 k) (by intro a; fin_cases a <;> simp)
    · simp only [inner_apply, pay22, pay23]
  rw [if_neg h1, if_neg h1]
  exact (add_zero (M := EReal) _).symm

end Cert.FfnIdeal.Body
end
-- ==== Proof.FfnReal.lean ====
/- Which numbers of the feed-forward block are finite when its arguments are, and what that gives its gradients. -/
module

public import proofs.«01_k».proof.Proof.FfnRefRead
public import proofs.«01_k».proof.Proof.LossReal

@[expose] public section

set_option maxRecDepth 16384

noncomputable section

open Idealize.ShloMosaic Idealize.ShloMosaic.TcCoe

namespace Cert.FfnReal
open Cert.FfnRefIdeal Cert.FfnRefIdeal.Read
open Cert.LossRefIdeal.Read (row whole width)

/-- A number that is not infinite. -/
def Num (x : EReal) : Prop := ∃ v : ℝ, x = (v : EReal)

theorem Num.add {x y : EReal} : Num x → Num y → Num (x + y) := by
  rintro ⟨a, rfl⟩ ⟨b, rfl⟩
  exact ⟨a + b, (EReal.coe_add a b).symm⟩

theorem Num.mul {x y : EReal} : Num x → Num y → Num (x * y) := by
  rintro ⟨a, rfl⟩ ⟨b, rfl⟩
  exact ⟨a * b, (EReal.coe_mul a b).symm⟩

theorem Num.sum {ι : Type} (s : Finset ι) (f : ι → EReal) (h : ∀ i, Num (f i)) : Num (∑ i ∈ s, f i) := by
  classical
  induction s using Finset.induction_on with
  | empty => exact ⟨0, by simp⟩
  | insert a s ha ih => rw [Finset.sum_insert ha]; exact (h a).add ih

theorem one : Num 1 := ⟨1, rfl⟩

/-- The reciprocal root of a row's mean square, made positive. -/
theorem root (f : Fin 4096 → Fin 1024 → EReal) (r : Fin 4096) (h : ∀ k, Num (f r k)) : Num (Ideal.rsqrt (VR f r)) := by
  obtain ⟨e, he, hw⟩ := Cert.LossReal.wEps
  obtain ⟨S, hS⟩ := Num.sum Finset.univ (fun k => f r k * f r k) fun k => (h k).mul (h k)
  have h0 : 0 ≤ ∑ k : Fin 1024, f r k * f r k := Finset.sum_nonneg fun k _ => Cert.LossReal.sq_nonneg _
  rw [hS] at h0
  have hS0 : 0 ≤ S := by exact_mod_cast h0
  have hV : VR f r = (((1024 : ℝ)⁻¹ * S + e : ℝ) : EReal) := by
    unfold VR
    rw [hS, hw, width, Cert.LossReal.w1024, Cert.LossReal.div_real _ _ (by norm_num), ← EReal.coe_mul, ← EReal.coe_add]
  have hp : 0 < (1024 : ℝ)⁻¹ * S + e := by positivity
  rw [hV]
  refine ⟨(Real.sqrt ((1024 : ℝ)⁻¹ * S + e))⁻¹, ?_⟩
  show (if _ < _ then ⊥ else if _ = _ then ⊤ else (((Real.sqrt ((1024 : ℝ)⁻¹ * S + e))⁻¹ : ℝ) : EReal)) = _
  rw [if_neg hp.not_gt, if_neg hp.ne']

section
variable (x0 x1 : FVec Ideal S2x2048x1024 .f32) (x2 : FVec Ideal S2x6144 .f32) (x3 x4 : FVec Ideal S1x1024 .f32)
  (x5 x6 : FVec Ideal S1x1024x2816 .f32) (x7 : FVec Ideal S1x2816x1024 .f32) (x8 : FVec Ideal S2x2048x1024 .f32)
  (f0 : ∀ i, Num (x0 i)) (f1 : ∀ i, Num (x1 i)) (f2 : ∀ i, Num (x2 i)) (f3 : ∀ i, Num (x3 i)) (f4 : ∀ i, Num (x4 i))
  (f6 : ∀ i, Num (x6 i)) (f7 : ∀ i, Num (x7 i)) (f8 : ∀ i, Num (x8 i))

/-- The residual stream as the block finds it, at a channel. -/
theorem stream (b : Fin 2) (s : Fin 2048) (k : Fin 1024) : val_main_v31 (F := Ideal) x0 x1 x2 x3 (ix3 b s k)
    = x0 (ix3 b s k) + part x2 2 (by omega) ⟨b * 2048 + s, by omega⟩ k * (x1 (ix3 b s k) * Ideal.rsqrt (VR (row x1) ⟨b * 2048 + s, by omega⟩) * x3 (ix2 0 k)) := by
  pointwise [val_main_v31, val_main_v30, val_main_v29, val_main_v28, val_main_v27, val_main_v26, val_main_v12, val_main_v25, val_main_v24, val_main_v20]
  rw [e19, e8 x2 b s]

include f0 f1 f2 f3 in
theorem stream_num (i : S2x2048x1024.Idx) : Num (val_main_v31 (F := Ideal) x0 x1 x2 x3 i) := by
  obtain ⟨b, s, k, rfl⟩ : ∃ (b : Fin 2) (s : Fin 2048) (k : Fin 1024), i = ix3 b s k := ⟨i 0, i 1, i 2, by funext a; fin_cases a <;> rfl⟩
  rw [stream]
  exact (f0 _).add ((f2 _).mul (((f1 _).mul (root _ _ fun k => f1 _)).mul (f3 _)))

/-- The other inner product, at a channel. -/
theorem other (b : Fin 2) (s : Fin 2048) (l : Fin 2816) : val_main_v58 (F := Ideal) x0 x1 x2 x3 x4 x6 (ix3 b s l)
    = ∑ k : Fin 1024, (val_main_v31 (F := Ideal) x0 x1 x2 x3 (ix3 b s k) * Ideal.rsqrt (VR (XR x0 x1 x2 x3) ⟨b * 2048 + s, by omega⟩) * x4 (ix2 0 k)
      * scale x2 ⟨b * 2048 + s, by omega⟩ k + part x2 3 (by omega) ⟨b * 2048 + s, by omega⟩ k) * x6 (ix3 0 k l) := by
  pointwise [val_main_v58, val_main_v57, val_main_v54, val_main_v53, val_main_v9, val_main_v3, val_main_v52, val_main_v51, val_main_v48, val_main_v47, val_main_v46, val_main_v32,
    val_main_v45, val_main_v44, val_main_v40]
  refine Finset.sum_congr rfl fun k _ => ?_
  rw [e39, e51 x2 b s]
  unfold part
  blk_point []

include f0 f1 f2 f3 f4 f6 in
theorem other_num (i : S2x2048x2816.Idx) : Num (val_main_v58 (F := Ideal) x0 x1 x2 x3 x4 x6 i) := by
  obtain ⟨b, s, l, rfl⟩ : ∃ (b : Fin 2) (s : Fin 2048) (l : Fin 2816), i = ix3 b s l := ⟨i 0, i 1, i 2, by funext a; fin_cases a <;> rfl⟩
  rw [other]
  have g := stream_num x0 x1 x2 x3 f0 f1 f2 f3
  exact Num.sum _ _ fun k => (((((g _).mul (root _ _ fun k => g _)).mul (f4 _)).mul (one.add (f2 _))).add (f2 _)).mul (f6 _)

include f0 f1 f2 f3 f4 f6 f7 f8 in
/-- The product the gate's gradient takes is finite. -/
theorem product_num (r : Fin 4096) (l : Fin 2816) : Num (DR x7 x8 r l * BR x0 x1 x2 x3 x4 x6 r l) :=
  (Num.sum _ _ fun k => (f8 _).mul (f7 _)).mul (other_num x0 x1 x2 x3 x4 x6 f0 f1 f2 f3 f4 f6 _)

end

/-- The gate's gradient in the two programs' groupings: a finite factor passes over the sum. -/
theorem gate (z a : EReal) (hz : Num z) :
    z * (Read.sig a * (1 + a * (1 - Read.sig a))) = z * Read.sig a + a * z * (Read.sig a * (1 - Read.sig a)) := by
  obtain ⟨z, rfl⟩ := hz
  unfold Read.sig
  induction a with
  | bot =>
    have e : Ideal.div 1 (1 + Ideal.exp (-⊥)) = 0 := by
      rw [EReal.neg_bot, show Ideal.exp ⊤ = ⊤ from rfl, EReal.add_top_of_ne_bot (by decide)]
      unfold Ideal.div
      rw [if_neg EReal.top_ne_zero]
      simp
    rw [e]
    simp
  | top =>
    have e : Ideal.div 1 (1 + Ideal.exp (-⊤)) = 1 := by
      rw [EReal.neg_top, show Ideal.exp ⊥ = 0 from rfl, add_zero]
      unfold Ideal.div
      rw [if_neg one_ne_zero]
      simp
    rw [e, show (1 : EReal) - 1 = 0 by rw [← EReal.coe_one, ← EReal.coe_sub]; simp]
    simp
  | coe a =>
    have e : Ideal.div 1 (1 + Ideal.exp (-(a : EReal))) = (((1 + Real.exp (-a))⁻¹ : ℝ) : EReal) := by
      rw [← EReal.coe_neg, show Ideal.exp ((-a : ℝ) : EReal) = ((Real.exp (-a) : ℝ) : EReal) from rfl, ← EReal.coe_one, ← EReal.coe_add,
        Cert.LossReal.div_real _ _ (by positivity), ← EReal.coe_mul, mul_one]
    rw [e]
    norm_cast
    ring

end Cert.FfnReal
end
-- ==== Proof.FfnValue.lean ====
/- The feed-forward gradient's results, each equal to what the reference computes. -/
module

public import proofs.«01_k».proof.Proof.FfnHost
public import proofs.«01_k».proof.Proof.FfnPoint
public import proofs.«01_k».proof.Proof.FfnReal

@[expose] public section

set_option maxRecDepth 16384

noncomputable section

open Idealize.ShloMosaic Idealize.ShloMosaic.TcCoe Idealize.SL.Sem
open Idealize.ShloMosaic.Pipeline (Dat)

namespace Cert.FfnIdeal.Body
open Cert.FfnIdeal Cert.FfnIdeal.Gen
open Cert.FfnRefIdeal.Read (part XR AR BR DR GA GB HR VR CR NR TR MR scale r128 r131 r132 r134 r136 r141)
open Cert.LossRefIdeal.Read (row)
open Cert.FfnReal (Num)

variable (m : (ℓ : Loc nD τ sig) → Buf (Elt Ideal) ℓ) (c : Dev nD)

/-! ## What the points leave -/

/-- The running sum after a point. -/
def acc (t : Fin cfg0.N) : FVec Ideal S512x1024 .f32 := (leftAt m c t (held m c t.val)).2.2.2.2.2.2

/-- A quarter's share of the gradient with respect to the modulated input. -/
def share (t : Fin cfg0.N) (r : Fin 512) (k : Fin 1024) : EReal :=
  P (iblk m c 0 t) (iblk m c 1 t) (iblk m c 2 t) (iblk m c 3 t) (iblk m c 4 t) (iblk m c 5 t) r k

theorem acc_first (t : Fin cfg0.N) (h : t.val % 4 = 0) (r : Fin 512) (k : Fin 1024) : acc m c t (ix2 r k) = share m c t r k := by
  unfold acc leftAt step
  simp only [if_pos h]
  exact pay3 _ _ _ _ _ _ r k

theorem acc_later (t : Fin cfg0.N) (h : ¬t.val % 4 = 0) (r : Fin 512) (k : Fin 1024) :
    acc m c t (ix2 r k) = acc m c ⟨t.val - 1, by omega⟩ (ix2 r k) + share m c t r k := by
  have e : (held m c t.val).2.2 = acc m c ⟨t.val - 1, by omega⟩ := by rw [held_pred m c t (by omega)]; rfl
  rw [← e]
  unfold acc leftAt step
  by_cases h3 : t.val % 4 = 3
  · simp only [if_neg h, if_pos h3]
    exact pay4 _ _ _ _ _ _ _ r k
  · simp only [if_neg h, if_neg h3]
    exact pay4 _ _ _ _ _ _ _ r k

theorem left12 (t : Fin cfg0.N) (r : Fin 512) (l : Fin 704) :
    ((leftAt m c t (held m c t.val)).1 (ix3 0 r l) : EReal) = DA (iblk m c 0 t) (iblk m c 1 t) (iblk m c 2 t) (iblk m c 3 t) r l := by
  refine Eq.trans ?_ (pay30 _ _ _ _ r l)
  unfold leftAt step
  split_ifs <;> rfl

theorem left13 (t : Fin cfg0.N) (r : Fin 512) (l : Fin 704) :
    ((leftAt m c t (held m c t.val)).2.1 (ix3 0 r l) : EReal) = DB (iblk m c 0 t) (iblk m c 1 t) (iblk m c 3 t) r l := by
  refine Eq.trans ?_ (pay1 _ _ _ r l)
  unfold leftAt step
  split_ifs <;> rfl

section
variable (t : Fin cfg0.N) (h : t.val % 4 = 3)

/-- At a tile's last quarter everything is computed from the whole sum. -/
theorem left_last (h : t.val % 4 = 3) : leftAt m c t (held m c t.val) =
    ((leftAt m c t (held m c t.val)).1, (leftAt m c t (held m c t.val)).2.1, inner (F := Ideal) (iblk m c 6 t) (iblk m c 7 t) (iblk m c 9 t) (iblk m c 10 t) (acc m c t),
      k0_pay6 (F := Ideal) (inner (F := Ideal) (iblk m c 6 t) (iblk m c 7 t) (iblk m c 9 t) (iblk m c 10 t) (acc m c t)) (k0_pay21 (F := Ideal) (iblk m c 8 t)) (k0_pay22 (F := Ideal) (iblk m c 8 t)) (iblk m c 11 t) (k0_pay23 (F := Ideal) (View.ld (Val := Elt Ideal) (e' := .f32) (iblk m c 9 t) (bar 2))),
      rows3 (iblk m c 6 t) (iblk m c 7 t) (iblk m c 8 t) (iblk m c 9 t) (iblk m c 10 t) (iblk m c 11 t) (if t.val % 16 = 3 then k0_pay8 (F := Ideal) else (held m c t.val).1) (acc m c t),
      rows2 (iblk m c 6 t) (iblk m c 7 t) (iblk m c 8 t) (iblk m c 9 t) (iblk m c 10 t) (if t.val < 4 then k0_pay7 (F := Ideal) else (held m c t.val).2.1) (acc m c t), acc m c t) := by
  have h0 : ¬t.val % 4 = 0 := by omega
  unfold acc leftAt step
  simp only [if_neg h0, if_pos h]
  rfl

include h in
theorem left14 (r : Fin 512) (k : Fin 1024) : ((leftAt m c t (held m c t.val)).2.2.1 (ix2 r k) : EReal)
    = X1 (iblk m c 6 t) (iblk m c 7 t) (iblk m c 9 t) (iblk m c 10 t) (acc m c t) r k := by
  rw [left_last m c t h]
  exact inner_apply _ _ _ _ _ r k

include h in
theorem left15 (r : Fin 512) (k : Fin 1024) : ((leftAt m c t (held m c t.val)).2.2.2.1 (ix2 r k) : EReal)
    = G (N2 (iblk m c 6 t) (iblk m c 7 t) (iblk m c 9 t) (iblk m c 10 t) (iblk m c 11 t) (acc m c t)) (iblk m c 8 t) r k := by
  rw [left_last m c t h]
  exact outer_apply _ _ _ _ _ _ _ r k

/-- A tile's share of the accumulated rows. -/
def share3 (i : Fin 8) (k : Fin 1024) : EReal :=
  B3 (iblk m c 6 t) (iblk m c 7 t) (iblk m c 8 t) (iblk m c 9 t) (iblk m c 10 t) (iblk m c 11 t) (acc m c t) i k
def share2 (i : Fin 8) (k : Fin 1024) : EReal :=
  B2 (iblk m c 6 t) (iblk m c 7 t) (iblk m c 8 t) (iblk m c 9 t) (iblk m c 10 t) (acc m c t) i k

theorem rows3_first (h4 : t.val % 16 = 3) (i : Fin 8) (k : Fin 1024) :
    ((leftAt m c t (held m c t.val)).2.2.2.2.1 (ix3 0 i k) : EReal) = 0 + share3 m c t i k := by
  rw [left_last m c t (by omega)]
  simp only [if_pos h4]
  refine (rows3_apply _ _ _ _ _ _ _ _ i k).trans (congrArg (· + share3 m c t i k) ?_)
  pointwise [k0_pay8]

include h in
theorem rows3_later (h4 : ¬t.val % 16 = 3) (i : Fin 8) (k : Fin 1024) :
    ((leftAt m c t (held m c t.val)).2.2.2.2.1 (ix3 0 i k) : EReal) = (held m c t.val).1 (ix3 0 i k) + share3 m c t i k := by
  rw [left_last m c t h]
  simp only [if_neg h4]
  exact rows3_apply _ _ _ _ _ _ _ _ i k

include h in
theorem rows2_first (h3 : t.val < 4) (i : Fin 8) (k : Fin 1024) :
    ((leftAt m c t (held m c t.val)).2.2.2.2.2.1 (ix2 i k) : EReal) = 0 + share2 m c t i k := by
  rw [left_last m c t h]
  simp only [if_pos h3]
  refine (rows2_apply _ _ _ _ _ _ _ i k).trans (congrArg (· + share2 m c t i k) ?_)
  pointwise [k0_pay7]

include h in
theorem rows2_later (h3 : ¬t.val < 4) (i : Fin 8) (k : Fin 1024) :
    ((leftAt m c t (held m c t.val)).2.2.2.2.2.1 (ix2 i k) : EReal) = (held m c t.val).2.1 (ix2 i k) + share2 m c t i k := by
  rw [left_last m c t h]
  simp only [if_neg h3]
  exact rows2_apply _ _ _ _ _ _ _ i k

end

/-! ## The same in the reference's terms -/

abbrev xR := XR (a0 m c) (a1 m c) (a2 m c) (a3 m c)
abbrev gA := GA (a0 m c) (a1 m c) (a2 m c) (a3 m c) (a4 m c) (a5 m c) (a6 m c) (a7 m c) (a8 m c)
abbrev gB := GB (a0 m c) (a1 m c) (a2 m c) (a3 m c) (a4 m c) (a5 m c) (a7 m c) (a8 m c)
abbrev hR := HR (a0 m c) (a1 m c) (a2 m c) (a3 m c) (a4 m c) (a5 m c) (a6 m c) (a7 m c) (a8 m c)
abbrev nR := NR (a0 m c) (a1 m c) (a2 m c) (a3 m c) (a4 m c) (a5 m c) (a6 m c) (a7 m c) (a8 m c)
abbrev tR := TR (a0 m c) (a1 m c) (a2 m c) (a3 m c) (a4 m c) (a5 m c) (a6 m c) (a7 m c) (a8 m c) (a9 m c)
abbrev mR := MR (a0 m c) (a1 m c) (a2 m c) (a3 m c) (a4 m c) (a5 m c) (a6 m c) (a7 m c) (a8 m c) (a9 m c)

/-- A row's share of the accumulated rows. -/
def row3 (i : Fin 8) (r : Fin 4096) (k : Fin 1024) : EReal :=
  if (i : ℕ) = 0 then hR m c r k else if (i : ℕ) = 1 then xR m c r k * Ideal.rsqrt (VR (xR m c) r) * a4 m c (ix2 0 k) * hR m c r k
  else if (i : ℕ) = 2 then tR m c r k * (row (a1 m c) r k * Ideal.rsqrt (VR (row (a1 m c)) r) * a3 m c (ix2 0 k)) else 0
def row2 (i : Fin 8) (r : Fin 4096) (k : Fin 1024) : EReal :=
  if (i : ℕ) = 0 then xR m c r k * Ideal.rsqrt (VR (xR m c) r) * (hR m c r k * scale (a2 m c) r k)
  else if (i : ℕ) = 1 then row (a1 m c) r k * Ideal.rsqrt (VR (row (a1 m c)) r) * (part (a2 m c) 2 (by decide) r k * tR m c r k) else 0

/-- The arguments whose infinities would tell the two programs apart are finite. -/
structure Fine : Prop where
  f0 : ∀ i, Num (a0 m c i)
  f1 : ∀ i, Num (a1 m c i)
  f2 : ∀ i, Num (a2 m c i)
  f3 : ∀ i, Num (a3 m c i)
  f4 : ∀ i, Num (a4 m c i)
  f6 : ∀ i, Num (a6 m c i)
  f7 : ∀ i, Num (a7 m c i)
  f8 : ∀ i, Num (a8 m c i)

theorem sg_eq (a : EReal) : sg a = Cert.FfnRefIdeal.Read.sig a := by
  rw [sg, Cert.FfnRefIdeal.Read.sig, zero_sub]

theorem D_rows (t : Fin cfg0.N) (r : Fin 512) (l : Fin 704) :
    D (iblk m c 0 t) (iblk m c 3 t) r l = DR (a7 m c) (a8 m c) (at_ t r) (ch t l) :=
  Finset.sum_congr rfl fun k _ => congrArg₂ (· * ·) (b0 m c t r k) (b3 m c t l k)

theorem DB_rows (t : Fin cfg0.N) (r : Fin 512) (l : Fin 704) :
    DB (iblk m c 0 t) (iblk m c 1 t) (iblk m c 3 t) r l = gB m c (at_ t r) (ch t l) := by
  rw [DB, D_rows, sg_eq, show (iblk m c 1 t : FVec Ideal S1x512x704 .bf16) (ix3 0 r l) = _ from b1 m c t r l]
  exact mul_comm _ _

variable {m c} (fine : Fine m c)
include fine

theorem DA_rows (t : Fin cfg0.N) (r : Fin 512) (l : Fin 704) :
    DA (iblk m c 0 t) (iblk m c 1 t) (iblk m c 2 t) (iblk m c 3 t) r l = gA m c (at_ t r) (ch t l) := by
  rw [DA, D_rows, sg_eq, show (iblk m c 1 t : FVec Ideal S1x512x704 .bf16) (ix3 0 r l) = _ from b1 m c t r l,
    show (iblk m c 2 t : FVec Ideal S1x512x704 .bf16) (ix3 0 r l) = _ from b2 m c t r l]
  exact Cert.FfnReal.gate _ _ (Cert.FfnReal.product_num _ _ _ _ _ _ _ _ fine.f0 fine.f1 fine.f2 fine.f3 fine.f4 fine.f6 fine.f7 fine.f8 _ _)

/-- At a tile's last quarter the running sum is the gradient with respect to the modulated input. -/
theorem acc_last (t : Fin cfg0.N) (h : t.val % 4 = 3) (r : Fin 512) (k : Fin 1024) : acc m c t (ix2 r k) = hR m c (at_ t r) k := by
  have ht := lt32 t
  have e := Pipeline.eq_sum_fin_of_reset_step_of_flush (N := cfg0.N) (fun n h => acc m c ⟨n, h⟩ (ix2 r k)) 4 0 (fun p => share m c p r k)
    (fun p hp => (acc_first m c p hp r k).trans (zero_add _).symm) (fun p hp => acc_later m c p hp r k) t h
  refine e.trans ((zero_add _).trans ?_)
  unfold share P
  rw [Finset.sum_add_distrib, add_comm]
  refine congrArg₂ (· + ·) (Fin.sum_mul_add_congr fun s l hl => ?_) (Fin.sum_mul_add_congr fun s l hl => ?_)
  · refine congrArg₂ (· * ·) ((DB_rows m c _ r l).trans ?_) ((b5 m c _ k l).trans ?_)
    · exact congrArg₂ (gB m c) (Fin.ext (show (4 * (t.val / 4) + s.val) / 4 * 512 + (r : ℕ) = t.val / 4 * 512 + r by omega))
        (Fin.ext (show (4 * (t.val / 4) + s.val) % 4 * 704 + (l : ℕ) = s.val * 704 + l by omega))
    · exact congrArg (fun z => a6 m c (ix3 0 k z)) (Fin.ext (show (4 * (t.val / 4) + s.val) % 4 * 704 + (l : ℕ) = s.val * 704 + l by omega))
  · refine congrArg₂ (· * ·) ((DA_rows fine _ r l).trans ?_) ((b4 m c _ k l).trans ?_)
    · exact congrArg₂ (gA m c) (Fin.ext (show (4 * (t.val / 4) + s.val) / 4 * 512 + (r : ℕ) = t.val / 4 * 512 + r by omega))
        (Fin.ext (show (4 * (t.val / 4) + s.val) % 4 * 704 + (l : ℕ) = s.val * 704 + l by omega))
    · exact congrArg (fun z => a5 m c (ix3 0 k z)) (Fin.ext (show (4 * (t.val / 4) + s.val) % 4 * 704 + (l : ℕ) = s.val * 704 + l by omega))

omit fine in
/-- The reciprocal root of a row's mean square, -/
theorem R_rows (f : FVec Ideal S512x1024 .f32) (F : Fin 4096 → Fin 1024 → EReal) (r : Fin 512) (q : Fin 4096) (hf : ∀ k, f (ix2 r k) = F q k) :
    R f r = Ideal.rsqrt (VR F q) := by
  simp only [R, VR, hf, width, Cert.LossRefIdeal.Read.width]

omit fine in
/-- the normed row, -/
theorem normed (f : FVec Ideal S512x1024 .f32) (F : Fin 4096 → Fin 1024 → EReal) (r : Fin 512) (q : Fin 4096) (hf : ∀ k, f (ix2 r k) = F q k) (k : Fin 1024) :
    (f (ix2 r k) : EReal) * R f r = F q k * Ideal.rsqrt (VR F q) :=
  congrArg₂ (· * ·) (hf k) (R_rows f F r q hf)

omit fine in
/-- and the gradient through the norm. -/
theorem G_rows (n : Fin 512 → Fin 1024 → EReal) (f : FVec Ideal S512x1024 .f32) (F N : Fin 4096 → Fin 1024 → EReal) (r : Fin 512) (q : Fin 4096)
    (hf : ∀ k, f (ix2 r k) = F q k) (hn : ∀ k, n r k = N q k) (k : Fin 1024) :
    G n f r k = N q k * Ideal.rsqrt (VR F q) + F q k * CR F N q + CR F N q * F q k := by
  rw [G, R_rows f F r q hf]
  simp only [hf, hn]
  exact Cert.LossReal.norm_grad (fun k => F q k) (fun k => N q k) k _ rfl

section
variable (t : Fin cfg0.N) (h : t.val % 4 = 3)

omit fine in
theorem scl_rows (r : Fin 512) (k : Fin 1024) : scl (iblk m c 9 t) k = scale (a2 m c) (at_ t r) k :=
  congrArg (1 + ·) (b9 m c t 4 (by decide) r k)

include h in
theorem N3_last (r : Fin 512) (k : Fin 1024) : N3 (iblk m c 9 t) (iblk m c 10 t) (acc m c t) r k = nR m c (at_ t r) k :=
  congrArg₂ (· * ·) (congrArg₂ (· * ·) (acc_last fine t h r k) (scl_rows t r k)) (b10 m c t k)

include h in
theorem X1_last (r : Fin 512) (k : Fin 1024) :
    X1 (iblk m c 6 t) (iblk m c 7 t) (iblk m c 9 t) (iblk m c 10 t) (acc m c t) r k = tR m c (at_ t r) k := by
  refine (congrArg₂ (· + ·) (b7 m c t r k) (G_rows _ _ (xR m c) (nR m c) r (at_ t r) (b6 m c t r) (N3_last fine t h r) k)).trans ?_
  unfold tR TR
  rw [add_assoc (G := EReal), add_assoc (G := EReal), add_assoc (G := EReal)]

include h in
theorem N2_last (r : Fin 512) (k : Fin 1024) :
    N2 (iblk m c 6 t) (iblk m c 7 t) (iblk m c 9 t) (iblk m c 10 t) (iblk m c 11 t) (acc m c t) r k = mR m c (at_ t r) k :=
  congrArg₂ (· * ·) ((congrArg₂ (· * ·) (X1_last fine t h r k) (b9 m c t 2 (by decide) r k)).trans (mul_comm _ _)) (b11 m c t k)

include h in
theorem share3_last (i : Fin 8) (k : Fin 1024) : share3 m c t i k = ∑ r : Fin 512, row3 m c i (at_ t r) k := by
  unfold share3 B3 row3
  by_cases h0 : (i : ℕ) = 0
  · simp only [if_pos h0]
    exact Finset.sum_congr rfl fun r _ => acc_last fine t h r k
  by_cases h1 : (i : ℕ) = 1
  · simp only [if_neg h0, if_pos h1]
    exact Finset.sum_congr rfl fun r _ => (congrArg₂ (· * ·) (acc_last fine t h r k) (congrArg₂ (· * ·) (normed _ (xR m c) r (at_ t r) (b6 m c t r) k) (b10 m c t k))).trans (mul_comm _ _)
  by_cases h2 : (i : ℕ) = 2
  · simp only [if_neg h0, if_neg h1, if_pos h2]
    exact Finset.sum_congr rfl fun r _ => congrArg₂ (· * ·) (X1_last fine t h r k) (congrArg₂ (· * ·) (normed _ (row (a1 m c)) r (at_ t r) (b8 m c t r) k) (b11 m c t k))
  · simp only [if_neg h0, if_neg h1, if_neg h2]
    exact (Finset.sum_const_zero (M := EReal)).symm

include h in
theorem share2_last (i : Fin 8) (k : Fin 1024) : share2 m c t i k = ∑ r : Fin 512, row2 m c i (at_ t r) k := by
  unfold share2 B2 row2
  by_cases h0 : (i : ℕ) = 0
  · simp only [if_pos h0]
    exact Finset.sum_congr rfl fun r _ => (congrArg₂ (· * ·) (congrArg₂ (· * ·) (acc_last fine t h r k) (scl_rows t r k)) (normed _ (xR m c) r (at_ t r) (b6 m c t r) k)).trans (mul_comm _ _)
  by_cases h1 : (i : ℕ) = 1
  · simp only [if_neg h0, if_pos h1]
    exact Finset.sum_congr rfl fun r _ => (congrArg₂ (· * ·) ((congrArg₂ (· * ·) (X1_last fine t h r k) (b9 m c t 2 (by decide) r k)).trans (mul_comm _ _)) (normed _ (row (a1 m c)) r (at_ t r) (b8 m c t r) k)).trans (mul_comm _ _)
  · simp only [if_neg h0, if_neg h1]
    exact (Finset.sum_const_zero (M := EReal)).symm

end

/-! ## The results -/

/-- The last point of a tile. -/
def last (n : ℕ) (hn : n < 8) : Fin cfg0.N := ⟨4 * n + 3, lt_of_lt_of_eq (show 4 * n + 3 < 32 by omega) N_0.symm⟩

omit fine in
theorem last_mod (n : ℕ) (hn : n < 8) : (last n hn).val % 4 = 3 := show (4 * n + 3) % 4 = 3 by omega

omit fine in
/-- A tile's last point, found from the point. -/
theorem eq_last (t : Fin cfg0.N) (h : t.val % 4 = 3) : t = last (t.val / 4) (by have := lt32 t; omega) :=
  Fin.ext (show t.val = 4 * (t.val / 4) + 3 by omega)

omit fine in
/-- A tile's row, the tile counted from the start. -/
theorem at_last (s : ℕ) (hs : s < 8) (r : Fin 512) (hl : s * 512 + r < 4096) : at_ (last s hs) r = ⟨s * 512 + r, hl⟩ :=
  Fin.ext (show (4 * s + 3) / 4 * 512 + (r : ℕ) = s * 512 + r by omega)

omit fine in
/-- The accumulated rows as a tile's last point finds them: what the tile before left. -/
theorem carried (n : ℕ) (hn : n < 8) (h0 : 0 < n) :
    (held m c (last n hn).val).1 = (leftAt m c (last (n - 1) (by omega)) (held m c (last (n - 1) (by omega)).val)).2.2.2.2.1
    ∧ (held m c (last n hn).val).2.1 = (leftAt m c (last (n - 1) (by omega)) (held m c (last (n - 1) (by omega)).val)).2.2.2.2.2.1 := by
  obtain ⟨q, rfl⟩ : ∃ q, n = q + 1 := ⟨n - 1, by omega⟩
  have hN : cfg0.N = 32 := N_0
  have back : ∀ (x : ℕ) (hx : x < cfg0.N), ¬x % 4 = 3 → (held m c (x + 1)).1 = (held m c x).1 ∧ (held m c (x + 1)).2.1 = (held m c x).2.1 := fun x hx h => by
    have e := held_succ m c ⟨x, hx⟩
    have k := kept_idle m c ⟨x, hx⟩ (held m c x) h
    exact ⟨(congrArg Prod.fst e).trans k.1, (congrArg (fun z => z.2.1) e).trans k.2⟩
  have k2 := back (4 * q + 6) (by omega) (by omega)
  have k1 := back (4 * q + 5) (by omega) (by omega)
  have k0 := back (4 * q + 4) (by omega) (by omega)
  have e := held_succ m c (last q (by omega))
  exact ⟨(k2.1.trans (k1.1.trans k0.1)).trans (congrArg Prod.fst e), (k2.2.trans (k1.2.trans k0.2)).trans (congrArg (fun z => z.2.1) e)⟩

/-- The gradient with respect to the gate's inner product. -/
theorem final12 : (dats m 0 c).arrAt 12 cfg0.N = Cert.FfnRefIdeal.Read.val_main_v128 (F := Ideal) (a0 m c) (a1 m c) (a2 m c) (a3 m c) (a4 m c) (a5 m c) (a6 m c) (a7 m c) (a8 m c) := by
  refine (dats m 0 c).arrAt_eq_of_covers 12 _ (by decide +kernel) fun t _ y => ?_
  blk_simp
  rw [after0_12]
  have ht := lt32 t
  obtain ⟨r, l, rfl⟩ : ∃ (r : Fin 512) (l : Fin 704), y = ix3 0 r l := ⟨y 1, y 2, by funext a; fin_cases a <;> first | rfl | exact Subsingleton.elim (α := Fin 1) _ _⟩
  refine (left12 m c t r l).trans ((DA_rows fine t r l).trans ?_)
  refine (r128 (a0 m c) (a1 m c) (a2 m c) (a3 m c) (a4 m c) (a5 m c) (a6 m c) (a7 m c) (a8 m c) ⟨t.val % 4, by omega⟩ (at_ t r) l).symm.trans (congrArg _ ?_)
  unfold at_
  blk_ext [idx t]

omit fine in
/-- The gradient with respect to the other inner product. -/
theorem final13 : (dats m 0 c).arrAt 13 cfg0.N = Cert.FfnRefIdeal.Read.val_main_v131 (F := Ideal) (a0 m c) (a1 m c) (a2 m c) (a3 m c) (a4 m c) (a5 m c) (a7 m c) (a8 m c) := by
  refine (dats m 0 c).arrAt_eq_of_covers 13 _ (by decide +kernel) fun t _ y => ?_
  blk_simp
  rw [after0_13]
  have ht := lt32 t
  obtain ⟨r, l, rfl⟩ : ∃ (r : Fin 512) (l : Fin 704), y = ix3 0 r l := ⟨y 1, y 2, by funext a; fin_cases a <;> first | rfl | exact Subsingleton.elim (α := Fin 1) _ _⟩
  refine (left13 m c t r l).trans ((DB_rows m c t r l).trans ?_)
  refine (r131 (a0 m c) (a1 m c) (a2 m c) (a3 m c) (a4 m c) (a5 m c) (a7 m c) (a8 m c) ⟨t.val % 4, by omega⟩ (at_ t r) l).symm.trans (congrArg _ ?_)
  unfold at_
  blk_ext [idx t]

/-- The gradient with respect to the residual stream. -/
theorem final14 : (dats m 0 c).arrAt 14 cfg0.N = Cert.FfnRefIdeal.Read.val_main_v132 (F := Ideal) (a0 m c) (a1 m c) (a2 m c) (a3 m c) (a4 m c) (a5 m c) (a6 m c) (a7 m c) (a8 m c) (a9 m c) := by
  refine (dats m 0 c).arrAt_eq_of_covers 14 _ (by decide +kernel) fun t hf y => ?_
  have h := (flush0_14 t).mp hf
  blk_simp
  rw [after0_14]
  have ht := lt32 t
  obtain ⟨r, k, rfl⟩ : ∃ (r : Fin 512) (k : Fin 1024), y = ix2 r k := ⟨y 0, y 1, by funext a; fin_cases a <;> rfl⟩
  refine (left14 m c t h r k).trans ((X1_last fine t h r k).trans ?_)
  refine (r132 (a0 m c) (a1 m c) (a2 m c) (a3 m c) (a4 m c) (a5 m c) (a6 m c) (a7 m c) (a8 m c) (a9 m c) (at_ t r) k).symm.trans (congrArg _ ?_)
  unfold at_
  blk_ext [idx t]

/-- The gradient with respect to the mixing output. -/
theorem final15 : (dats m 0 c).arrAt 15 cfg0.N = Cert.FfnRefIdeal.Read.val_main_v134 (F := Ideal) (a0 m c) (a1 m c) (a2 m c) (a3 m c) (a4 m c) (a5 m c) (a6 m c) (a7 m c) (a8 m c) (a9 m c) := by
  refine (dats m 0 c).arrAt_eq_of_covers 15 _ (by decide +kernel) fun t hf y => ?_
  have h := (flush0_15 t).mp hf
  blk_simp
  rw [after0_15]
  have ht := lt32 t
  obtain ⟨r, k, rfl⟩ : ∃ (r : Fin 512) (k : Fin 1024), y = ix2 r k := ⟨y 0, y 1, by funext a; fin_cases a <;> rfl⟩
  refine (left15 m c t h r k).trans ((G_rows _ _ (row (a1 m c)) (mR m c) r (at_ t r) (b8 m c t r) (N2_last fine t h r) k).trans ?_)
  refine (r134 (a0 m c) (a1 m c) (a2 m c) (a3 m c) (a4 m c) (a5 m c) (a6 m c) (a7 m c) (a8 m c) (a9 m c) (at_ t r) k).symm.trans (congrArg _ ?_)
  unfold at_
  blk_ext [idx t]

/-- The rows of the modulation's gradient and of the norms' weights, summed over a batch's tiles. -/
theorem final16 : (dats m 0 c).arrAt 16 cfg0.N = Cert.FfnRefIdeal.Read.val_main_v136 (F := Ideal) (a0 m c) (a1 m c) (a2 m c) (a3 m c) (a4 m c) (a5 m c) (a6 m c) (a7 m c) (a8 m c) (a9 m c) := by
  refine (dats m 0 c).arrAt_eq_of_covers 16 _ (by decide +kernel) fun t hf y => ?_
  have h := (flush0_16 t).mp hf
  blk_simp
  rw [after0_16]
  have ht := lt32 t
  obtain ⟨i, k, rfl⟩ : ∃ (i : Fin 8) (k : Fin 1024), y = ix3 0 i k := ⟨y 1, y 2, by funext a; fin_cases a <;> first | rfl | exact Subsingleton.elim (α := Fin 1) _ _⟩
  have e := Pipeline.eq_sum_fin_of_reset_step_of_flush (N := 8) (fun n hn => ((leftAt m c (last n hn) (held m c (last n hn).val)).2.2.2.2.1 (ix3 0 i k) : EReal)) 4 0
    (fun p => share3 m c (last p.val p.isLt) i k)
    (fun p hp => rows3_first m c _ (show (4 * p.val + 3) % 16 = 3 by omega) i k)
    (fun p hp => (rows3_later m c _ (last_mod _ p.isLt) (show ¬(4 * p.val + 3) % 16 = 3 by omega) i k).trans
      (congrArg (· + _) (congrFun (carried p.val p.isLt (by omega)).1 (ix3 0 i k))))
    ⟨t.val / 4, by omega⟩ (show t.val / 4 % 4 = 3 by omega)
  refine (congrArg (fun z : Fin cfg0.N => ((leftAt m c z (held m c z.val)).2.2.2.2.1 (ix3 0 i k) : EReal)) (eq_last t (by omega))).trans (e.trans ((zero_add _).trans (Eq.trans (b := ∑ s : Fin 2048, row3 m c i ⟨t.val / 16 * 2048 + s, by omega⟩ k) ?_ ?_)))
  · refine (Fin.sum_fin_congr fun p => share3_last fine _ (last_mod _ _) i k).trans ?_
    refine Fin.sum_mul_add_congr fun s r hl => ?_
    exact congrArg (fun z => row3 m c i z k) (Fin.ext (show (4 * (4 * (t.val / 4 / 4) + s.val) + 3) / 4 * 512 + (r : ℕ) = t.val / 16 * 2048 + (s.val * 512 + r) by omega))
  · refine Eq.trans ?_ ((r136 (a0 m c) (a1 m c) (a2 m c) (a3 m c) (a4 m c) (a5 m c) (a6 m c) (a7 m c) (a8 m c) (a9 m c) ⟨t.val / 16, by omega⟩ i k).symm.trans (congrArg _ ?_))
    · unfold row3
      by_cases h0 : (i : ℕ) = 0
      · simp only [if_pos h0]
      by_cases h1 : (i : ℕ) = 1
      · simp only [if_neg h0, if_pos h1]
      by_cases h2 : (i : ℕ) = 2
      · simp only [if_neg h0, if_neg h1, if_pos h2]
      · simp only [if_neg h0, if_neg h1, if_neg h2]
        exact Finset.sum_const_zero (M := EReal)
    · blk_ext [idx t]

/-- The rows of the norms' weights, summed over all tiles. -/
theorem final17 : (dats m 0 c).arrAt 17 cfg0.N = Cert.FfnRefIdeal.Read.val_main_v141 (F := Ideal) (a0 m c) (a1 m c) (a2 m c) (a3 m c) (a4 m c) (a5 m c) (a6 m c) (a7 m c) (a8 m c) (a9 m c) := by
  refine (dats m 0 c).arrAt_eq_of_covers 17 _ (by decide +kernel) fun t hf j => ?_
  have h := (flush0_17 t).mp hf
  blk_simp
  obtain ⟨i, k, rfl⟩ : ∃ (i : Fin 8) (k : Fin 1024), j = ix2 i k := ⟨j 0, j 1, by funext a; fin_cases a <;> rfl⟩
  rw [after0_17]
  have ht := lt32 t
  have e := Pipeline.eq_sum_fin_of_reset_step_last (N := 8) (fun n hn => ((leftAt m c (last n hn) (held m c (last n hn).val)).2.2.2.2.2.1 (ix2 i k) : EReal)) 8 0
    (fun p => share2 m c (last p.val p.isLt) i k)
    (fun p hp => rows2_first m c _ (last_mod _ p.isLt) (show 4 * p.val + 3 < 4 by omega) i k)
    (fun p hp => (rows2_later m c _ (last_mod _ p.isLt) (show ¬4 * p.val + 3 < 4 by omega) i k).trans
      (congrArg (· + _) (congrFun (carried p.val p.isLt (by omega)).2 (ix2 i k))))
    le_rfl ⟨t.val / 4, by omega⟩ (show t.val / 4 + 1 = 8 by omega)
  refine (congrArg (fun z : Fin cfg0.N => ((leftAt m c z (held m c z.val)).2.2.2.2.2.1 (ix2 i k) : EReal)) (eq_last t (by omega))).trans (e.trans ((zero_add _).trans (Eq.trans (b := ∑ r : Fin 4096, row2 m c i r k) ?_ ?_)))
  · refine (Fin.sum_fin_congr fun p => share2_last fine _ (last_mod _ _) i k).trans ?_
    refine Fin.sum_mul_add_congr fun s r hl => ?_
    rw [at_last s.val s.isLt r hl]
  · refine Eq.trans ?_ ((r141 (a0 m c) (a1 m c) (a2 m c) (a3 m c) (a4 m c) (a5 m c) (a6 m c) (a7 m c) (a8 m c) (a9 m c) i k).symm.trans (congrArg _ ?_))
    · unfold row2
      by_cases h0 : (i : ℕ) = 0
      · simp only [if_pos h0]
      by_cases h1 : (i : ℕ) = 1
      · simp only [if_neg h0, if_pos h1]
      · simp only [if_neg h0, if_neg h1]
        exact Finset.sum_const_zero (M := EReal)
    · blk_ext [idx t]

omit fine in
/-- The run with the result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v78_0) = (dats m 0 c).arrAt 12 cfg0.N
      ∧ r.2.mem ((c : Thread nD τ).loc main_v78_1) = (dats m 0 c).arrAt 13 cfg0.N
      ∧ r.2.mem ((c : Thread nD τ).loc main_v78_2) = (dats m 0 c).arrAt 14 cfg0.N
      ∧ r.2.mem ((c : Thread nD τ).loc main_v78_3) = (dats m 0 c).arrAt 15 cfg0.N
      ∧ r.2.mem ((c : Thread nD τ).loc main_v78_4) = (dats m 0 c).arrAt 16 cfg0.N
      ∧ r.2.mem ((c : Thread nD τ).loc main_v78_5) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h.1 c).1 12, (h.1 c).1 13, (h.1 c).1 14, (h.1 c).1 15, (h.1 c).1 16, (h.1 c).1 17, h.2.1 c⟩)
    (θ_run_and (run_main m ρ) (frame m ρ))

end Cert.FfnIdeal.Body
end
-- ==== Proof.FfnClaim.lean ====
/- The claims of the feed-forward block's backward call that carry the precondition: what the gated product's gradient is computed from is finite numbers. -/
module

public import proofs.«01_k».proof.Proof.Gen.FfnRefIdeal
public import proofs.«01_k».proof.Proof.Gen.FfnRefIdeal.Run
public import proofs.«01_k».proof.Proof.Gen.FfnRefIdeal.Read
public import proofs.«01_k».proof.Proof.Frames
public import proofs.«01_k».proof.Proof.AttnClaim
public import proofs.«01_k».proof.Proof.FfnValue

@[expose] public section

set_option maxHeartbeats 2000000

noncomputable section

namespace Cert.Proof

open Idealize.ShloMosaic Idealize.ShloMosaic.TcCoe Idealize.SL.Sem Cert.FfnIdeal.Body

/-- The precondition's broadcasts are well formed. -/
theorem ffn_facts : Cert.Pre_finite_ffn.Facts := ⟨by decide, by decide, by decide, by decide, by decide⟩

variable [Cert.Pre_finite_ffn.Facts]

/-- What the precondition says of the arguments. -/
theorem fine_args (m : (ℓ : Loc Cert.FfnIdeal.nD Cert.FfnIdeal.τ Cert.FfnIdeal.sig) → Buf (Elt Ideal) ℓ)
    (h : Cert.Pre_FfnIdeal_finite_ffn m) (c : Dev Cert.FfnIdeal.nD) : Fine m c :=
  ⟨fun i => ⟨_, finite_of_below _ _ _ (h c).1 i⟩, fun i => ⟨_, finite_of_below _ _ _ (h c).2.1 i⟩, fun i => ⟨_, finite_of_below _ _ _ (h c).2.2.1 i⟩, fun i => ⟨_, finite_of_below _ _ _ (h c).2.2.2.1 i⟩, fun i => ⟨_, finite_of_below _ _ _ (h c).2.2.2.2.1 i⟩, fun i => ⟨_, finite_of_below _ _ _ (h c).2.2.2.2.2.1 i⟩, fun i => ⟨_, finite_of_below _ _ _ (h c).2.2.2.2.2.2.1 i⟩, fun i => ⟨_, finite_of_below _ _ _ (h c).2.2.2.2.2.2.2 i⟩⟩

theorem ffn_frame_finite : Cert.quiescent_FfnIdeal_pre_finite_ffn := fun m ρ _ => ffn_frame_ideal m ρ trivial

theorem ffnRef_frame_finite : Cert.quiescent_FfnRefIdeal_pre_finite_ffn := fun m ρ _ => ffnRef_frame m ρ trivial

/-- The feed-forward block's backward call and the reference's gradients agree where those arguments are finite. -/
theorem ffn : Cert.algebraic_FfnIdeal_FfnRefIdeal_pre_finite_ffn := by
  intro m g m' g' hpre hagree
  refine ⟨fun c => (Cert.FfnIdeal.Body.dats m 0 c).arrAt 12 Cert.FfnIdeal.cfg0.N, fun c => (Cert.FfnIdeal.Body.dats m 0 c).arrAt 13 Cert.FfnIdeal.cfg0.N,
    fun c => (Cert.FfnIdeal.Body.dats m 0 c).arrAt 14 Cert.FfnIdeal.cfg0.N, fun c => (Cert.FfnIdeal.Body.dats m 0 c).arrAt 15 Cert.FfnIdeal.cfg0.N,
    fun c => (Cert.FfnIdeal.Body.dats m 0 c).arrAt 16 Cert.FfnIdeal.cfg0.N, fun c => (Cert.FfnIdeal.Body.dats m 0 c).arrAt 17 Cert.FfnIdeal.cfg0.N, run_blocks g, ?_⟩
  refine (θ_run Cert.FfnRefIdeal.defs _ _).mono (fun r h c => ?_) (Cert.FfnRefIdeal.Value.run m' g')
  obtain ⟨h0, h1, h2, h3, h4, h5, h6, h7, h8, h9⟩ := hagree c
  have fine := fine_args m hpre c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine (Cert.FfnRefIdeal.Read.val_main_v128_eq _).trans (Eq.trans ?_ (final12 fine).symm)
    exact congr (congr (congr (congr (congr (congr (congr (congr (congrArg Cert.FfnRefIdeal.Read.val_main_v128 h0) h1) h2) h3) h4) h5) h6) h7) h8
  · refine (Cert.FfnRefIdeal.Read.val_main_v131_eq _).trans (Eq.trans ?_ (final13 (m := m) (c := c)).symm)
    exact congr (congr (congr (congr (congr (congr (congr (congrArg Cert.FfnRefIdeal.Read.val_main_v131 h0) h1) h2) h3) h4) h5) h7) h8
  · refine (Cert.FfnRefIdeal.Read.val_main_v132_eq _).trans (Eq.trans ?_ (final14 fine).symm)
    exact congr (congr (congr (congr (congr (congr (congr (congr (congr (congrArg Cert.FfnRefIdeal.Read.val_main_v132 h0) h1) h2) h3) h4) h5) h6) h7) h8) h9
  · refine (Cert.FfnRefIdeal.Read.val_main_v134_eq _).trans (Eq.trans ?_ (final15 fine).symm)
    exact congr (congr (congr (congr (congr (congr (congr (congr (congr (congrArg Cert.FfnRefIdeal.Read.val_main_v134 h0) h1) h2) h3) h4) h5) h6) h7) h8) h9
  · refine (Cert.FfnRefIdeal.Read.val_main_v136_eq _).trans (Eq.trans ?_ (final16 fine).symm)
    exact congr (congr (congr (congr (congr (congr (congr (congr (congr (congrArg Cert.FfnRefIdeal.Read.val_main_v136 h0) h1) h2) h3) h4) h5) h6) h7) h8) h9
  · refine (Cert.FfnRefIdeal.Read.val_main_v141_eq _).trans (Eq.trans ?_ (final17 fine).symm)
    exact congr (congr (congr (congr (congr (congr (congr (congr (congr (congrArg Cert.FfnRefIdeal.Read.val_main_v141 h0) h1) h2) h3) h4) h5) h6) h7) h8) h9

end Cert.Proof

end
-- ==== Proof.AttnFwdLoop.lean ====
/- The attention's forward kernel: what a query tile's walk over the key tiles, the last first, leaves in its carried values and its two outputs. -/
module

public import proofs.«01_k».proof.Proof.AttnLoop
public import proofs.«01_k».proof.Proof.Gen.AttnFwdIdeal.Frame
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnFwdIdeal.Body

open Idealize.ShloMosaic Idealize.ShloMosaic.TcCoe Idealize.ShloMosaic.Tactic
open Cert.AttnFwdIdeal Cert.AttnFwdIdeal.Gen
open Cert.AttnIdeal.Body (tile tile_inb)

/-- What a step carries: the weighted sum of the values, and the running sum of the logs. -/
abbrev Carry := FVec Ideal S256x128 .f32 × FVec Ideal S256x1 .f32

/-- A step at a key tile below the diagonal. -/
def below (qh : FVec Ideal S256x128 .bf16) (x1 x2 : Vec Ideal S2048x128 .bf16) (k : Fin 8) (C : Carry) : Carry :=
  (k0_pay19 k0_pay3 qh C.1 C.2 (tile x1 k) (tile x2 k), k0_pay20 qh C.2 (tile x1 k))

/-- The first step, at the diagonal tile. -/
def onDiag (qh : FVec Ideal S256x128 .bf16) (x1 x2 : Vec Ideal S2048x128 .bf16) (k : Fin 8) : Carry :=
  (k0_pay33 k0_pay3 k0_pay4 k0_pay27 k0_pay28 (k0_pay29 (tile x2 k)) (k0_pay16 qh (tile x1 k)), k0_pay34 k0_pay4 k0_pay28 (k0_pay16 qh (tile x1 k)))

/-- The tile of step `m` leftwards from `n`. -/
def left (n : Fin 8) (m : ℕ) : Fin 8 := ⟨n.val - 1 - m, by omega⟩

/-- `m` steps leftwards from tile `n`. -/
def walk (n : Fin 8) (f : Fin 8 → Carry → Carry) (C : Carry) : ℕ → Carry
  | 0 => C
  | m + 1 => f (left n m) (walk n f C m)

/-- One head of one query tile. -/
def headTile (qh : FVec Ideal S256x128 .bf16) (x1 x2 : Vec Ideal S2048x128 .bf16) (n : Fin 8) : Carry :=
  walk n (below qh x1 x2) (onDiag qh x1 x2 n) n.val

theorem trips1 (i : grid0.Coords) : (k0_t1_loop i).trips = (i 2).val := by
  have : ∀ x : Fin 8, Scf.trips (0#32) (Scalar.addi 0#32 (Scalar.muli (Scalar.divsi (Scalar.subi (BitVec.ofNat 32 x.val) 0#32) 1#32) 1#32)) 1#32 = x.val := by decide +kernel
  exact this (i 2)
theorem trips3 (i : grid0.Coords) : (k0_t3_loop i).trips = (i 2).val := trips1 i
theorem trips2 (i : grid0.Coords) : (k0_t2_loop i).trips = 0 := by
  have : ∀ x : Fin 8, Scf.trips (Scalar.addi 0#32 (Scalar.muli (Scalar.divsi (Scalar.subi (BitVec.ofNat 32 x.val) 0#32) 1#32) 1#32)) (Scalar.addi 0#32 (Scalar.subi (BitVec.ofNat 32 x.val) 0#32)) 1#32 = 0 := by decide +kernel
  exact this (i 2)
theorem trips4 (i : grid0.Coords) : (k0_t4_loop i).trips = 0 := trips2 i
theorem off1 (i : grid0.Coords) : k0_off1 i = ![256 * (i 2).val, 0] := by
  have : ∀ x : Fin 8, ![(Scalar.indexCast (Scalar.muli (BitVec.ofNat 32 x.val) 256#32)).toNat, 0] = ![256 * x.val, 0] := by decide +kernel
  exact this (i 2)
theorem off2 (i : grid0.Coords) (k : Fin (k0_t1_loop i).trips) : k0_off2 i k = ![256 * ((i 2).val - 1 - k.val), 0] := by
  have hk : k.val < (i 2).val := lt_of_lt_of_eq k.isLt (trips1 i)
  have hi : (i 2).val < 8 := (i 2).isLt
  have : ∀ x y : Fin 8, y.val < x.val → ![(Scalar.indexCast (Scalar.muli (Scalar.subi (Scalar.subi (BitVec.ofNat 32 x.val) 1#32) (Scf.iv (0#32) (1#32) y.val)) 256#32)).toNat, 0] = ![256 * (x.val - 1 - y.val), 0] := by decide +kernel
  exact this (i 2) ⟨k.val, by omega⟩ hk
theorem off4 (i : grid0.Coords) (k : Fin (k0_t3_loop i).trips) : k0_off4 i k = ![256 * ((i 2).val - 1 - k.val), 0] := off2 i k

variable (c : Dev nD) (i : grid0.Coords)
  (arg3 : Memref sig .tc .vmem S256x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S256x128 .bf16) (harg6 : arg6.IsWhole)
  (arg7 : Memref sig .tc .vmem S256x128 .f32) (harg7 : arg7.IsWhole)
  (x0 : Vec Ideal S256x128 .bf16) (x1 : Vec Ideal S2048x128 .bf16) (x2 : Vec Ideal S2048x128 .bf16)

/-- A tile read from a whole buffer. -/
theorem tile_read (arg : Memref sig .tc .vmem S2048x128 .bf16) (harg : arg.IsWhole) (x : Vec Ideal S2048x128 .bf16) (k : Fin 8) (o : Fin 2 → ℕ)
    (inb : ∀ a, o a + S256x128.size a ≤ S2048x128.size a) (ho : o = ![256 * k.val, 0]) :
    arg.view.readAt (Elt Ideal) (Rect.unit (s := S2048x128) o S256x128.size inb).toLoadRect (harg.unread x) = tile x k := by
  rw [View.readAt_unit arg.view _ _ ho (tile_inb k), harg.read_unread]; rfl

theorem loop1 (r : BitVec 32) (v0 v7 v9) (qh : FVec Ideal S256x128 .bf16) (v16 v17 v25 v26 v36 v40 v41) (c₀ : Carry) (n : Fin 8) (hn : i 2 = n) (m : ℕ) (hm : m ≤ n.val) :
    st_k0_t1 (F := Ideal) Variants.none c none i arg3 harg3 arg4 harg4 arg5 harg5 arg6 harg6 arg7 harg7 r v0 k0_pay3 v7 v9 qh v16 v17 v25 v26 v36 v40 v41 (harg4.unread x1) (harg5.unread x2) c₀ m
      = walk n (below qh x1 x2) c₀ m := by
  induction m with
  | zero => rfl
  | succ m ih =>
    have hk : m < (k0_t1_loop i).trips := by rw [trips1, hn]; omega
    have e := st_k0_t1_succ (F := Ideal) Variants.none c none i arg3 harg3 arg4 harg4 arg5 harg5 arg6 harg6 arg7 harg7 r v0 k0_pay3 v7 v9 qh v16 v17 v25 v26 v36 v40 v41 (harg4.unread x1) (harg5.unread x2) c₀ ⟨m, hk⟩
    dsimp only at e
    rw [e, ih (by omega)]
    have o : k0_off2 i ⟨m, hk⟩ = ![256 * (left n m).val, 0] := by rw [off2, hn]; rfl
    have r1 := tile_read arg4 harg4 x1 (left n m) (k0_off2 i ⟨m, hk⟩) (k0_off2_inb i ⟨m, hk⟩) o
    have r2 := tile_read arg5 harg5 x2 (left n m) (k0_off2 i ⟨m, hk⟩) (k0_off2_inb i ⟨m, hk⟩) o
    show _ = below qh x1 x2 (left n m) (walk n (below qh x1 x2) c₀ m)
    generalize walk n (below qh x1 x2) c₀ m = C
    dsimp only [tripR_k0_t1]
    unfold trip_k0_t1 below
    rw [← r1, ← r2]

theorem loop3 (r : BitVec 32) (v0 v7) (qh : FVec Ideal S256x128 .bf16) (v74 v75 v83 v84) (c₀ : Carry) (n : Fin 8) (hn : i 2 = n) (m : ℕ) (hm : m ≤ n.val) :
    st_k0_t3 (F := Ideal) Variants.none c none i arg3 harg3 arg4 harg4 arg5 harg5 arg6 harg6 arg7 harg7 r v0 k0_pay3 v7 qh v74 v75 v83 v84 (harg4.unread x1) (harg5.unread x2) c₀ m
      = walk n (below qh x1 x2) c₀ m := by
  induction m with
  | zero => rfl
  | succ m ih =>
    have hk : m < (k0_t3_loop i).trips := by rw [trips3, hn]; omega
    have e := st_k0_t3_succ (F := Ideal) Variants.none c none i arg3 harg3 arg4 harg4 arg5 harg5 arg6 harg6 arg7 harg7 r v0 k0_pay3 v7 qh v74 v75 v83 v84 (harg4.unread x1) (harg5.unread x2) c₀ ⟨m, hk⟩
    dsimp only at e
    rw [e, ih (by omega)]
    have o : k0_off4 i ⟨m, hk⟩ = ![256 * (left n m).val, 0] := by rw [off4, hn]; rfl
    have r1 := tile_read arg4 harg4 x1 (left n m) (k0_off4 i ⟨m, hk⟩) (k0_off4_inb i ⟨m, hk⟩) o
    have r2 := tile_read arg5 harg5 x2 (left n m) (k0_off4 i ⟨m, hk⟩) (k0_off4_inb i ⟨m, hk⟩) o
    show _ = below qh x1 x2 (left n m) (walk n (below qh x1 x2) c₀ m)
    generalize walk n (below qh x1 x2) c₀ m = C
    dsimp only [tripR_k0_t3]
    unfold trip_k0_t3 below
    rw [← r1, ← r2]
    rfl

/-- The lane numbers. -/
def lanes : IVec S1x128 32 := iota .tc S1x128 32 [1] iota_S1x128_d1_w32

/-- A head's queries: the pair's, with the other head's lanes put to zero. -/
def q0 : FVec Ideal S256x128 .bf16 := k0_pay6 x0
def q1 : FVec Ideal S256x128 .bf16 := k0_pay26 lanes (k0_pay5 x0)

/-- A query tile's two blocks. -/
def outBlock (n : Fin 8) : FVec Ideal S256x128 .bf16 := k0_pay1 (headTile (q0 x0) x1 x2 n).1 (headTile (q1 x0) x1 x2 n).1 (k0_pay46 lanes)
def sumBlock (n : Fin 8) : FVec Ideal S256x128 .f32 := k0_pay2 (headTile (q0 x0) x1 x2 n).2 (headTile (q1 x0) x1 x2 n).2 (k0_pay45 lanes)

/-- The query block and the diagonal's tiles, as the program loads them. -/
abbrev X0 : Vec Ideal S256x128 .bf16 := arg3.view.readAt (Elt Ideal) (Rect.unit (s := S256x128) ![0, 0] S256x128.size inb_S256x128_S256x128_0_0).toLoadRect (harg3.unread x0)
abbrev kT : Vec Ideal S256x128 .bf16 := arg4.view.readAt (Elt Ideal) (Rect.unit (s := S2048x128) (k0_off1 i) S256x128.size (k0_off1_inb i)).toLoadRect (harg4.unread x1)

/-- The two heads' carries as the run states them. -/
abbrev qi : BitVec 32 := BitVec.ofNat 32 (i 2).val
abbrev T1 : Carry := st_k0_t1 (F := Ideal) Variants.none c none i arg3 harg3 arg4 harg4 arg5 harg5 arg6 harg6 arg7 harg7 (qi i) lanes k0_pay3 k0_pay4 (k0_pay5 (X0 arg3 harg3 x0)) (k0_pay6 (X0 arg3 harg3 x0)) k0_pay7 k0_pay8
  (k0_pay9 (kT i arg5 harg5 x2)) (k0_pay10 (X0 arg3 harg3 x0) (kT i arg4 harg4 x1)) (k0_pay11 (X0 arg3 harg3 x0) (kT i arg4 harg4 x1)) (k0_pay12 (X0 arg3 harg3 x0) (kT i arg4 harg4 x1)) (k0_pay13 (X0 arg3 harg3 x0) (kT i arg4 harg4 x1))
  (harg4.unread x1) (harg5.unread x2)
  (k0_pay14 k0_pay3 k0_pay4 k0_pay7 k0_pay8 (k0_pay9 (kT i arg5 harg5 x2)) (k0_pay10 (X0 arg3 harg3 x0) (kT i arg4 harg4 x1)) (k0_pay11 (X0 arg3 harg3 x0) (kT i arg4 harg4 x1)) (k0_pay12 (X0 arg3 harg3 x0) (kT i arg4 harg4 x1)) (k0_pay13 (X0 arg3 harg3 x0) (kT i arg4 harg4 x1)),
    k0_pay15 k0_pay8 (k0_pay12 (X0 arg3 harg3 x0) (kT i arg4 harg4 x1))) (k0_t1_loop i).trips
abbrev T3 : Carry := st_k0_t3 (F := Ideal) Variants.none c none i arg3 harg3 arg4 harg4 arg5 harg5 arg6 harg6 arg7 harg7 (qi i) lanes k0_pay3 k0_pay4 (k0_pay26 lanes (k0_pay5 (X0 arg3 harg3 x0))) k0_pay27 k0_pay28
  (k0_pay29 (kT i arg5 harg5 x2)) (k0_pay30 lanes (k0_pay5 (X0 arg3 harg3 x0)) (kT i arg4 harg4 x1))
  (harg4.unread x1) (harg5.unread x2)
  (k0_pay33 k0_pay3 k0_pay4 k0_pay27 k0_pay28 (k0_pay29 (kT i arg5 harg5 x2)) (k0_pay30 lanes (k0_pay5 (X0 arg3 harg3 x0)) (kT i arg4 harg4 x1)),
    k0_pay34 k0_pay4 k0_pay28 (k0_pay30 lanes (k0_pay5 (X0 arg3 harg3 x0)) (kT i arg4 harg4 x1))) (k0_t3_loop i).trips

theorem whole3 : X0 arg3 harg3 x0 = x0 := by
  rw [X0, View.readAt_full, harg3.read_unread]

theorem kT_eq (n : Fin 8) (hn : i 2 = n) : kT i arg4 harg4 x1 = tile x1 n :=
  tile_read arg4 harg4 x1 n _ _ (by rw [off1, hn])

theorem T1_eq (n : Fin 8) (hn : i 2 = n) : T1 c i arg3 harg3 arg4 harg4 arg5 harg5 arg6 harg6 arg7 harg7 x0 x1 x2 = headTile (q0 x0) x1 x2 n := by
  rw [T1, whole3, kT_eq i arg4 harg4 x1 n hn, kT_eq i arg5 harg5 x2 n hn, trips1, hn]
  exact loop1 c i arg3 harg3 arg4 harg4 arg5 harg5 arg6 harg6 arg7 harg7 x1 x2 (qi i) _ _ _ (k0_pay6 x0) _ _ _ _ _ _ _ _ n hn n.val le_rfl

theorem T3_eq (n : Fin 8) (hn : i 2 = n) : T3 c i arg3 harg3 arg4 harg4 arg5 harg5 arg6 harg6 arg7 harg7 x0 x1 x2 = headTile (q1 x0) x1 x2 n := by
  rw [T3, whole3, kT_eq i arg4 harg4 x1 n hn, kT_eq i arg5 harg5 x2 n hn, trips3, hn]
  exact loop3 c i arg3 harg3 arg4 harg4 arg5 harg5 arg6 harg6 arg7 harg7 x1 x2 (qi i) _ _ (k0_pay26 lanes (k0_pay5 x0)) _ _ _ _ _ n hn n.val le_rfl

theorem loop2 (r : BitVec 32) (v0 v6 v7 v9 v15 v16 v17 v25 v26 v36 v40 v41 X Y) (c₀ : Carry) :
    st_k0_t2 (F := Ideal) Variants.none c none i arg3 harg3 arg4 harg4 arg5 harg5 arg6 harg6 arg7 harg7 r v0 v6 v7 v9 v15 v16 v17 v25 v26 v36 v40 v41 X Y c₀ (k0_t2_loop i).trips = c₀ := by
  rw [trips2]; rfl

theorem loop4 (r : BitVec 32) (v0 v6 v7 v73 v74 v75 v83 v84 X Y) (c₀ : Carry) :
    st_k0_t4 (F := Ideal) Variants.none c none i arg3 harg3 arg4 harg4 arg5 harg5 arg6 harg6 arg7 harg7 r v0 v6 v7 v73 v74 v75 v83 v84 X Y c₀ (k0_t4_loop i).trips = c₀ := by
  rw [trips4]; rfl

set_option maxHeartbeats 4000000 in
theorem out_read (n : Fin 8) (hn : i 2 = n) :
    out0_A_3 (F := Ideal) c i arg3 harg3 arg4 harg4 arg5 harg5 arg6 harg6 arg7 harg7 x0 x1 x2 = outBlock x0 x1 x2 n := by
  rw [outBlock, ← T1_eq c i arg3 harg3 arg4 harg4 arg5 harg5 arg6 harg6 arg7 harg7 x0 x1 x2 n hn, ← T3_eq c i arg3 harg3 arg4 harg4 arg5 harg5 arg6 harg6 arg7 harg7 x0 x1 x2 n hn]
  rw [← loop2 c i arg3 harg3 arg4 harg4 arg5 harg5 arg6 harg6 arg7 harg7 (qi i) lanes k0_pay3 k0_pay4 (k0_pay5 (X0 arg3 harg3 x0)) (k0_pay6 (X0 arg3 harg3 x0)) k0_pay7 k0_pay8
      (k0_pay9 (kT i arg5 harg5 x2)) (k0_pay10 (X0 arg3 harg3 x0) (kT i arg4 harg4 x1)) (k0_pay11 (X0 arg3 harg3 x0) (kT i arg4 harg4 x1)) (k0_pay12 (X0 arg3 harg3 x0) (kT i arg4 harg4 x1)) (k0_pay13 (X0 arg3 harg3 x0) (kT i arg4 harg4 x1))
      (harg4.unread x1) (harg5.unread x2) (T1 c i arg3 harg3 arg4 harg4 arg5 harg5 arg6 harg6 arg7 harg7 x0 x1 x2),
    ← loop4 c i arg3 harg3 arg4 harg4 arg5 harg5 arg6 harg6 arg7 harg7 (qi i) lanes k0_pay3 k0_pay4 (k0_pay26 lanes (k0_pay5 (X0 arg3 harg3 x0))) k0_pay27 k0_pay28
      (k0_pay29 (kT i arg5 harg5 x2)) (k0_pay30 lanes (k0_pay5 (X0 arg3 harg3 x0)) (kT i arg4 harg4 x1))
      (harg4.unread x1) (harg5.unread x2) (T3 c i arg3 harg3 arg4 harg4 arg5 harg5 arg6 harg6 arg7 harg7 x0 x1 x2)]
  exact View.read_writes_full VO0_3 _ _ _ []

set_option maxHeartbeats 4000000 in
theorem sum_read (n : Fin 8) (hn : i 2 = n) :
    out0_A_4 (F := Ideal) c i arg3 harg3 arg4 harg4 arg5 harg5 arg6 harg6 arg7 harg7 x0 x1 x2 = sumBlock x0 x1 x2 n := by
  rw [sumBlock, ← T1_eq c i arg3 harg3 arg4 harg4 arg5 harg5 arg6 harg6 arg7 harg7 x0 x1 x2 n hn, ← T3_eq c i arg3 harg3 arg4 harg4 arg5 harg5 arg6 harg6 arg7 harg7 x0 x1 x2 n hn]
  rw [← loop2 c i arg3 harg3 arg4 harg4 arg5 harg5 arg6 harg6 arg7 harg7 (qi i) lanes k0_pay3 k0_pay4 (k0_pay5 (X0 arg3 harg3 x0)) (k0_pay6 (X0 arg3 harg3 x0)) k0_pay7 k0_pay8
      (k0_pay9 (kT i arg5 harg5 x2)) (k0_pay10 (X0 arg3 harg3 x0) (kT i arg4 harg4 x1)) (k0_pay11 (X0 arg3 harg3 x0) (kT i arg4 harg4 x1)) (k0_pay12 (X0 arg3 harg3 x0) (kT i arg4 harg4 x1)) (k0_pay13 (X0 arg3 harg3 x0) (kT i arg4 harg4 x1))
      (harg4.unread x1) (harg5.unread x2) (T1 c i arg3 harg3 arg4 harg4 arg5 harg5 arg6 harg6 arg7 harg7 x0 x1 x2),
    ← loop4 c i arg3 harg3 arg4 harg4 arg5 harg5 arg6 harg6 arg7 harg7 (qi i) lanes k0_pay3 k0_pay4 (k0_pay26 lanes (k0_pay5 (X0 arg3 harg3 x0))) k0_pay27 k0_pay28
      (k0_pay29 (kT i arg5 harg5 x2)) (k0_pay30 lanes (k0_pay5 (X0 arg3 harg3 x0)) (kT i arg4 harg4 x1))
      (harg4.unread x1) (harg5.unread x2) (T3 c i arg3 harg3 arg4 harg4 arg5 harg5 arg6 harg6 arg7 harg7 x0 x1 x2)]
  exact View.read_writes_full VO0_4 _ _ _ []

end Cert.AttnFwdIdeal.Body
end
-- ==== Proof.AttnFwdReal.lean ====
/- The forward walk's carried values: the weights are real, the values they weigh are any. -/
module

public import proofs.«01_k».proof.Proof.AttnFwdLoop
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.AttnFwdIdeal.Body

open Idealize.ShloMosaic Idealize.ShloMosaic.TcCoe Idealize.ShloMosaic.Tactic
open Cert.AttnFwdIdeal Cert.AttnFwdIdeal.Gen
open Cert.AttnIdeal.Body (tile tile_at sp zz lg wt tot coe_sum sp_coe sel_lt word_int sum_full sum_le zz_read lg_diag lg_diag_mul only coe_only sel_lane_lt sel_lane_ge)

theorem word_gt (a b : Fin 256) : IntOp.cmpi CmpIPredicate.sgt (BitVec.ofNat 32 a.val) (BitVec.ofNat 32 b.val) = if b.val < a.val then 1#1 else 0#1 := by
  show BitVec.ofBool (decide ((BitVec.ofNat 32 b.val).toInt < (BitVec.ofNat 32 a.val).toInt)) = _
  rw [word_int, word_int]
  by_cases h : b.val < a.val
  · rw [if_pos h, decide_eq_true (by exact_mod_cast h)]; rfl
  · rw [if_neg h, decide_eq_false (by exact_mod_cast h)]; rfl

theorem ind_gt (x c : Fin 256) : (FloatOps.sitofp (F := Ideal) FTy.f32 (BitVec.setWidth 32 (IntOp.cmpi CmpIPredicate.sgt (BitVec.ofNat 32 x.val) (BitVec.ofNat 32 c.val))) : EReal)
    = (((if c.val < x.val then 1 else 0 : ℝ)) : EReal) := by
  rw [word_gt]; split
  · show (((1 : ℤ) : ℝ) : EReal) = _; simp
  · show (((0 : ℤ) : ℝ) : EReal) = _; simp

/-- A tile's terms after one of them. -/
theorem sum_gt (f : ℕ → ℝ) (s0 : ℕ) (c : Fin 256) : ∑ x : Fin 256, f (s0 + x) * (if c.val < x.val then 1 else 0)
    = ∑ s ∈ Finset.range (s0 + 256), f s - ∑ s ∈ Finset.range (s0 + c + 1), f s := by
  rw [← sum_full f s0, ← sum_le f s0 c, add_sub_add_left_eq_sub, ← Finset.sum_sub_distrib]
  refine Finset.sum_congr rfl fun x _ => ?_
  by_cases h : c.val < x.val
  · rw [if_pos h, if_neg (by omega)]; ring
  · rw [if_neg h, if_pos (by omega)]; ring

/-- A row's sum stops at the row. -/
theorem tot_eq (Q K : ℕ → ℕ → ℝ) (t n : ℕ) (h : t ≤ n) (hn : n ≤ 2048) : tot Q K t = ∑ s ∈ Finset.range n, lg Q K t s := by
  refine (Finset.sum_subset (Finset.range_subset_range.mpr hn) fun s _ hs => ?_).symm
  rw [Finset.mem_range] at hs
  rw [lg, if_neg (by omega)]

section step
variable (Q K : ℕ → ℕ → ℝ) (V : ℕ → ℕ → EReal) (t0 s0 : ℕ)
  {qh kj vj : FVec Ideal S256x128 .bf16} {run : FVec Ideal S256x1 .f32} {o : FVec Ideal S256x128 .f32}
  (hq : ∀ (r : Fin 256) (l : Fin 128), qh (ix2 r l) = ((Q (t0 + r) l : ℝ) : EReal))
  (hk : ∀ (r : Fin 256) (l : Fin 128), kj (ix2 r l) = ((K (s0 + r) l : ℝ) : EReal))
  (hv : ∀ (r : Fin 256) (l : Fin 128), vj (ix2 r l) = V (s0 + r) l)
  (hr : ∀ r : Fin 256, run (ix2 r 0) = ((tot Q K (t0 + r) - ∑ s ∈ Finset.range (s0 + 256), lg Q K (t0 + r) s : ℝ) : EReal))

/-- A key's weighted value. -/
def wv (t l s : ℕ) : EReal := ((wt Q K (tot Q K) t s : ℝ) : EReal) * V s l

include hq hk in
theorem p16 (r c : Fin 256) : k0_pay16 qh kj (ix2 r c) = ((zz Q K (t0 + r) (s0 + c) : ℝ) : EReal) := by
  pointwise [k0_pay16]
  exact zz_read Q K t0 s0 hq hk r c

section belowDiag
variable (hb : s0 + 256 ≤ t0)
include hq hk hb in
theorem p18 (r c : Fin 256) : k0_pay18 qh kj (ix2 r c) = ((lg Q K (t0 + r) (s0 + c) : ℝ) : EReal) := by
  pointwise [k0_pay18, k0_pay17]
  simp only [p16 Q K t0 s0 hq hk, sp_coe]
  rw [lg, if_pos (by omega), ← EReal.coe_zero, ← EReal.coe_sub, zero_sub]

include hq hk hr hb hv in
theorem p19 (r : Fin 256) (l : Fin 128) : k0_pay19 k0_pay3 qh o run kj vj (ix2 r l) = o (ix2 r l) + ∑ c : Fin 256, wv Q K V (t0 + r) l (s0 + c) := by
  pointwise [k0_pay19, k0_pay17, k0_pay3]
  simp only [p18 Q K t0 s0 hq hk hb, p16 Q K t0 s0 hq hk, sp_coe, hr, ind_gt, ← EReal.coe_mul, ← EReal.coe_sub, coe_sum, ← EReal.coe_add, Ideal.exp_coe,
    sum_gt (lg Q K (t0 + r)), sub_self, zero_mul, Finset.sum_const_zero, add_zero, hv]
  congr 1
  refine Finset.sum_congr rfl fun c _ => ?_
  rw [wv, wt, if_pos (by omega)]
  congr 3
  ring

include hq hk hr hb in
theorem p20 (r : Fin 256) : k0_pay20 qh run kj (ix2 r 0) = ((tot Q K (t0 + r) - ∑ s ∈ Finset.range s0, lg Q K (t0 + r) s : ℝ) : EReal) := by
  pointwise [k0_pay20]
  simp only [p18 Q K t0 s0 hq hk hb, hr, coe_sum, ← EReal.coe_add, ← sum_full]
  congr 1; ring
end belowDiag

section onDiag
theorem sel_mask (r c : Fin 256) {α : Type} (a b : α) : Scalar.select (k0_pay4 (ix2 r c)) a b = if c.val < r.val then a else b := by
  pointwise [k0_pay4]
  exact sel_lt r c a b

variable (hb : s0 = t0) (h8 : t0 + 256 ≤ 2048)
include hq hk hb in
theorem p32 (r c : Fin 256) : k0_pay32 k0_pay4 (k0_pay16 qh kj) (ix2 r c) = ((lg Q K (t0 + r) (s0 + c) : ℝ) : EReal) := by
  pointwise [k0_pay32, k0_pay31, k0_pay4]
  simp only [sel_lt, p16 Q K t0 s0 hq hk, sp_coe, lg_diag Q K t0 s0 hb]

include hq hk hb hv h8 in
theorem p33 (r : Fin 256) (l : Fin 128) : k0_pay33 k0_pay3 k0_pay4 k0_pay27 k0_pay28 (k0_pay29 vj) (k0_pay16 qh kj) (ix2 r l) = ∑ c : Fin 256, wv Q K V (t0 + r) l (s0 + c) := by
  have ht : tot Q K (t0 + r) = ∑ s ∈ Finset.range (s0 + 256), lg Q K (t0 + r) s := tot_eq Q K _ _ (by omega) (by omega)
  pointwise [k0_pay33, k0_pay31, k0_pay29, k0_pay28, k0_pay27, k0_pay3]
  simp only [sel_mask, p32 Q K t0 s0 hq hk hb, p16 Q K t0 s0 hq hk, sp_coe, ind_gt, ← EReal.coe_mul, ← EReal.coe_sub, coe_sum, ← EReal.coe_add, Ideal.exp_coe,
    sum_gt (lg Q K (t0 + r)), sub_self, zero_mul, Finset.sum_const_zero, add_zero, zero_add, hv]
  refine Finset.sum_congr rfl fun c _ => ?_
  rw [wv, wt, ht]
  by_cases h : c.val < r.val
  · rw [if_pos h, if_pos (by omega)]
  · rw [if_neg h, if_neg (by omega), EReal.coe_zero, zero_mul]

include hq hk hb h8 in
theorem p34 (r : Fin 256) : k0_pay34 k0_pay4 k0_pay28 (k0_pay16 qh kj) (ix2 r 0) = ((tot Q K (t0 + r) - ∑ s ∈ Finset.range s0, lg Q K (t0 + r) s : ℝ) : EReal) := by
  have ht : tot Q K (t0 + r) = ∑ s ∈ Finset.range (s0 + 256), lg Q K (t0 + r) s := tot_eq Q K _ _ (by omega) (by omega)
  pointwise [k0_pay34, k0_pay28]
  simp only [p32 Q K t0 s0 hq hk hb, coe_sum, zero_add]
  rw [ht, ← sum_full]
  congr 1; ring
end onDiag
end step

/-! ## A head's query tile -/

section head
variable (Q K : ℕ → ℕ → ℝ) (V : ℕ → ℕ → EReal) (n : Fin 8)
  {qh : FVec Ideal S256x128 .bf16} {x1 x2 : Vec Ideal S2048x128 .bf16}
  (hq : ∀ (r : Fin 256) (l : Fin 128), qh (ix2 r l) = ((Q (256 * n.val + r) l : ℝ) : EReal))
  (hk : ∀ (s : Fin 2048) (l : Fin 128), x1 (ix2 s l) = ((K s l : ℝ) : EReal))
  (hv : ∀ (s : Fin 2048) (l : Fin 128), x2 (ix2 s l) = V s l)

/-- What the steps from the diagonal down to key `s0` leave. -/
def Upto (s0 d : ℕ) (C : Carry) : Prop :=
  (∀ (r : Fin 256) (l : Fin 128), C.1 (ix2 r l) = ∑ x ∈ Finset.range d, wv Q K V (256 * n.val + r) l (s0 + x))
  ∧ (∀ r : Fin 256, C.2 (ix2 r 0) = ((tot Q K (256 * n.val + r) - ∑ s ∈ Finset.range s0, lg Q K (256 * n.val + r) s : ℝ) : EReal))

include hq hk hv in
theorem walk_upto (m : ℕ) (hm : m ≤ n.val) :
    Upto Q K V n (256 * (n.val - m)) (256 * (m + 1)) (walk n (below qh x1 x2) (onDiag qh x1 x2 n) m) := by
  have n8 := n.isLt
  have hk' : ∀ (k : Fin 8) (r : Fin 256) (l : Fin 128), tile x1 k (ix2 r l) = ((K (256 * k.val + r) l : ℝ) : EReal) := fun k r l => by rw [tile_at]; exact hk _ _
  have hv' : ∀ (k : Fin 8) (r : Fin 256) (l : Fin 128), tile x2 k (ix2 r l) = V (256 * k.val + r) l := fun k r l => by rw [tile_at]; exact hv _ _
  induction m with
  | zero =>
    refine ⟨fun r l => ?_, fun r => p34 Q K (256 * n.val) (256 * n.val) hq (hk' n) rfl (by omega) r⟩
    refine (p33 Q K V (256 * n.val) (256 * n.val) hq (hk' n) (hv' n) rfl (by omega) r l).trans ?_
    exact (Finset.sum_range (fun x => wv Q K V (256 * n.val + r) l (256 * n.val + x))).symm
  | succ m ih =>
    have IH := ih (by omega)
    rw [walk]
    generalize walk n (below qh x1 x2) (onDiag qh x1 x2 n) m = C at IH ⊢
    obtain ⟨h1, h2⟩ := IH
    have e1 : 256 * (n.val - (m + 1)) = 256 * (left n m).val := by show _ = 256 * (n.val - 1 - m); omega
    have e2 : 256 * (n.val - m) = 256 * (left n m).val + 256 := by rw [← e1]; omega
    have hb : 256 * (left n m).val + 256 ≤ 256 * n.val := by rw [← e2]; omega
    rw [e2] at h1 h2
    rw [e1]
    refine ⟨fun r l => ?_, fun r => p20 Q K (256 * n.val) _ hq (hk' _) h2 hb r⟩
    refine (p19 Q K V (256 * n.val) _ hq (hk' _) (hv' _) h2 hb r l).trans ?_
    rw [h1, show 256 * (m + 1 + 1) = 256 + 256 * (m + 1) by ring, Finset.sum_range_add, add_comm (G := EReal),
      Finset.sum_range (fun x => wv Q K V (256 * n.val + r) l (256 * (left n m).val + x))]
    simp only [Nat.add_assoc]

include hq hk hv in
theorem head_out (r : Fin 256) (l : Fin 128) : (headTile qh x1 x2 n).1 (ix2 r l) = ∑ s ∈ Finset.range 2048, wv Q K V (256 * n.val + r) l s := by
  have n8 := n.isLt
  refine ((walk_upto Q K V n hq hk hv n.val le_rfl).1 r l).trans ?_
  simp only [Nat.sub_self, Nat.mul_zero, Nat.zero_add]
  refine Finset.sum_subset (Finset.range_subset_range.mpr (by omega)) fun s _ hs => ?_
  rw [Finset.mem_range] at hs
  rw [wv, wt, if_neg (by omega), EReal.coe_zero, zero_mul]

include hq hk hv in
theorem head_tot (r : Fin 256) : (headTile qh x1 x2 n).2 (ix2 r 0) = ((tot Q K (256 * n.val + r) : ℝ) : EReal) := by
  refine ((walk_upto Q K V n hq hk hv n.val le_rfl).2 r).trans ?_
  simp only [Nat.sub_self, Nat.mul_zero, Finset.range_zero, Finset.sum_empty, sub_zero]
end head

/-! ## The pair's two blocks -/

section pair
variable (q k : ℕ → ℕ → ℝ) (V : ℕ → ℕ → EReal) (n : Fin 8)
  {x0 : Vec Ideal S256x128 .bf16} {x1 x2 : Vec Ideal S2048x128 .bf16}
  (hq : ∀ (r : Fin 256) (l : Fin 128), x0 (ix2 r l) = ((q (256 * n.val + r) l : ℝ) : EReal))
  (hk : ∀ (s : Fin 2048) (l : Fin 128), x1 (ix2 s l) = ((k s l : ℝ) : EReal))
  (hv : ∀ (s : Fin 2048) (l : Fin 128), x2 (ix2 s l) = V s l)

theorem q0_at (r : Fin 256) (l : Fin 128) : q0 x0 (ix2 r l) = if l.val / 64 = 0 then x0 (ix2 r l) else 0 := by
  pointwise [q0, k0_pay6, k0_pay5]
  exact sel_lane_lt l _ _
theorem q1_at (r : Fin 256) (l : Fin 128) : q1 x0 (ix2 r l) = if l.val / 64 = 1 then x0 (ix2 r l) else 0 := by
  pointwise [q1, k0_pay26, k0_pay5, lanes]
  exact sel_lane_ge l _ _

include hq hk hv in
theorem outBlock_at (r : Fin 256) (l : Fin 128) : outBlock x0 x1 x2 n (ix2 r l) = ∑ s ∈ Finset.range 2048, wv (only (l.val / 64) q) k V (256 * n.val + r) l s := by
  have a := head_out (only 0 q) k V n (qh := q0 x0) (fun r l => by rw [q0_at]; exact coe_only 0 q _ _ (hq r l)) hk hv r l
  have b := head_out (only 1 q) k V n (qh := q1 x0) (fun r l => by rw [q1_at]; exact coe_only 1 q _ _ (hq r l)) hk hv r l
  unfold outBlock
  generalize headTile (q0 x0) x1 x2 n = A at a ⊢
  generalize headTile (q1 x0) x1 x2 n = B at b ⊢
  pointwise [k0_pay1, k0_pay46, k0_pay45, lanes]
  refine (sel_lane_lt l _ _).trans ?_
  have := l.isLt
  by_cases h : l.val / 64 = 0
  · rw [if_pos h, a, h]
  · rw [if_neg h, b, show l.val / 64 = 1 by omega]

include hq hk hv in
theorem sumBlock_at (r : Fin 256) (l : Fin 128) : sumBlock x0 x1 x2 n (ix2 r l) = ((tot (only (l.val / 64) q) k (256 * n.val + r) : ℝ) : EReal) := by
  have a := head_tot (only 0 q) k V n (qh := q0 x0) (fun r l => by rw [q0_at]; exact coe_only 0 q _ _ (hq r l)) hk hv r
  have b := head_tot (only 1 q) k V n (qh := q1 x0) (fun r l => by rw [q1_at]; exact coe_only 1 q _ _ (hq r l)) hk hv r
  unfold sumBlock
  generalize headTile (q0 x0) x1 x2 n = A at a ⊢
  generalize headTile (q1 x0) x1 x2 n = B at b ⊢
  pointwise [k0_pay2, k0_pay45, lanes]
  refine (sel_lane_lt l _ _).trans ?_
  have := l.isLt
  by_cases h : l.val / 64 = 0
  · rw [if_pos h, a, h]
  · rw [if_neg h, b, show l.val / 64 = 1 by omega]
end pair

end Cert.AttnFwdIdeal.Body
end
-- ==== Proof.AttnFwdRead.lean ====
/- The attention's reference forward read entry by entry: the weights and the rows' sums are those its gradient is taken at. -/
module

public import proofs.«01_k».proof.Proof.AttnHost
public import proofs.«01_k».proof.Proof.Gen.AttnFwdRefIdeal.Read
public import Idealize.ShloMosaic.Lib.Pipeline.ValueKit
public import Idealize.ShloMosaic.Lib.Pointwise

@[expose] public section

set_option maxRecDepth 16384

noncomputable section

namespace Cert.AttnFwdRefIdeal.Read

open Cert.AttnFwdRefIdeal Cert.AttnFwdRefIdeal.Gen Idealize.ShloMosaic Idealize.ShloMosaic.TcCoe
open Cert.AttnIdeal.Body (ltP wtP AllFinite sums sums_apply)

/-- The weights are the ones the gradient's reference computes on its way. -/
theorem weights_eq (x0 x1 : FVec Ideal S2x2048x512 .f32) : val_main_v45 (F := Ideal) x0 x1 = Cert.AttnRefIdeal.Read.val_main_v25_0 (F := Ideal) x0 x1 := rfl

/-- The rows' sums are the ones the gradient is handed. -/
theorem totals_eq (x0 x1 : FVec Ideal S2x2048x512 .f32) : val_main_v51 (F := Ideal) x0 x1 = sums x0 x1 := rfl

section
variable {x0 x1 x2 : FVec Ideal S2x2048x512 .f32} (f0 : AllFinite x0) (f1 : AllFinite x1)

include f0 f1 in
theorem v51_at (i : Fin 4096) (j : Fin 512) : val_main_v51 (F := Ideal) x0 x1 (ix2 i j)
    = ((ltP x0 x1 ⟨i.val / 2048, by omega⟩ (j.val / 64) (i.val % 2048) : ℝ) : EReal) := by
  rw [totals_eq]
  exact sums_apply x0 x1 f0 f1 i j

include f0 f1 in
theorem v49_at (i : Fin 4096) (j : Fin 512) : val_main_v49 (F := Ideal) x0 x1 x2 (ix2 i j)
    = ∑ s : Fin 2048, ((wtP x0 x1 ⟨i.val / 2048, by omega⟩ (j.val / 64) (i.val % 2048) s : ℝ) : EReal) * x2 (ix3 ⟨i.val / 2048, by omega⟩ s j) := by
  pointwise [val_main_v49, val_main_v48, val_main_v47, val_main_v46, val_main_v25, val_main_v24]
  rw [weights_eq]
  simp only [Cert.AttnRefIdeal.Read.wt_at f0 f1]
end

end Cert.AttnFwdRefIdeal.Read
end
-- ==== Proof.AttnFwdValue.lean ====
/- The attention forward's arrays after the launch are the reference's output and row sums. -/
module

public import proofs.«01_k».proof.Proof.AttnFwdReal
public import proofs.«01_k».proof.Proof.AttnFwdRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdIdeal.Body
open Cert.AttnFwdIdeal Cert.AttnFwdIdeal.Gen
open Cert.AttnIdeal.Body (AllFinite val val_eq qP cP ltP wtP wtH tot wt only eighth rows_apply)

variable (m : (ℓ : Loc nD τ sig) → Buf (Elt Ideal) ℓ) (c : Dev nD)

/-! ## What the host prepares -/

theorem V_3 : (V m c main_v3 : FVec Ideal S4096x512 .bf16) = truncf (F := Ideal) .bf16 (shapeCast S4096x512
    (mulf (m ((c : Thread nD τ).loc main_arg0) : FVec Ideal S2x2048x512 .f32) (broadcastInDim S2x2048x512 ![] bcast_S_S2x2048x512 (constant (F := Ideal) S_ .f32 0x3E000000#32)))
    shapeCasts_S2x2048x512_S4096x512) bitsLt_bf16_f32 := by
  show StableHlo.after hostOps0 (fun b => m (c, b)) (Proc.devRef .tc main_v3) = _
  simp only [hostOps0, StableHlo.after_cons, StableHlo.after_nil]
  after_results_simp
  rfl

theorem V_5 : (V m c main_v5 : FVec Ideal S4096x512 .bf16) = truncf (F := Ideal) .bf16 (shapeCast S4096x512
    (m ((c : Thread nD τ).loc main_arg1) : FVec Ideal S2x2048x512 .f32) shapeCasts_S2x2048x512_S4096x512) bitsLt_bf16_f32 := by
  show StableHlo.after hostOps0 (fun b => m (c, b)) (Proc.devRef .tc main_v5) = _
  simp only [hostOps0, StableHlo.after_cons, StableHlo.after_nil]
  after_results_simp
  rfl

theorem V_7 : (V m c main_v7 : FVec Ideal S4096x512 .bf16) = truncf (F := Ideal) .bf16 (shapeCast S4096x512
    (m ((c : Thread nD τ).loc main_arg2) : FVec Ideal S2x2048x512 .f32) shapeCasts_S2x2048x512_S4096x512) bitsLt_bf16_f32 := by
  show StableHlo.after hostOps0 (fun b => m (c, b)) (Proc.devRef .tc main_v7) = _
  simp only [hostOps0, StableHlo.after_cons, StableHlo.after_nil]
  after_results_simp
  rfl

/-! ## The blocks at a point

Point `t` is sequence `t / 32`, head pair `t / 8 % 4`, query tile `t % 8`. -/

theorem idx : ∀ t : Fin cfg0.N, win0_0.index t = ![t.val / 32 * 8 + t.val % 8, t.val / 8 % 4] ∧ win0_1.index t = ![t.val / 32, t.val / 8 % 4] ∧ win0_2.index t = ![t.val / 32, t.val / 8 % 4]
    ∧ win0_3.index t = ![t.val / 32 * 8 + t.val % 8, t.val / 8 % 4] ∧ win0_4.index t = ![t.val / 32 * 8 + t.val % 8, t.val / 8 % 4] :=
  (by decide +kernel : ∀ t : Fin grid0.N, _)

theorem lt64 (t : Fin cfg0.N) : t.val < 64 := t.isLt.trans_eq (by decide : grid0.N = 64)

theorem tile_coord : ∀ t : Fin cfg0.N, (grid0.coords t 2).val = t.val % 8 :=
  (by decide +kernel : ∀ t : Fin grid0.N, _)

/-- The point's query tile. -/
def tileOf (t : Fin cfg0.N) : Fin 8 := ⟨t.val % 8, by omega⟩

theorem coord_tile (t : Fin cfg0.N) : grid0.coords t 2 = tileOf t := Fin.ext (tile_coord t)

/-- A point's row of a tiled array. -/
def tileRow (t : Fin cfg0.N) (r : Fin 256) : Fin 4096 := ⟨t.val / 32 * 2048 + (256 * (t.val % 8) + r.val), by have := lt64 t; omega⟩
/-- A point's row of a whole array. -/
def seqRow (t : Fin cfg0.N) (r : Fin 2048) : Fin 4096 := ⟨t.val / 32 * 2048 + r.val, by have := lt64 t; omega⟩
/-- A point's lane. -/
def lane (t : Fin cfg0.N) (l : Fin 128) : Fin 512 := ⟨128 * (t.val / 8 % 4) + l.val, by omega⟩
/-- The point's sequence. -/
def seqOf (t : Fin cfg0.N) : Fin 2 := ⟨t.val / 32, by have := lt64 t; omega⟩

theorem tile_seq (t : Fin cfg0.N) (r : Fin 256) : (⟨(tileRow t r).val / 2048, by omega⟩ : Fin 2) = seqOf t :=
  Fin.ext (by show (t.val / 32 * 2048 + (256 * (t.val % 8) + r.val)) / 2048 = t.val / 32; omega)
theorem tile_pos (t : Fin cfg0.N) (r : Fin 256) : (tileRow t r).val % 2048 = 256 * (t.val % 8) + r.val := by
  show (t.val / 32 * 2048 + (256 * (t.val % 8) + r.val)) % 2048 = _; omega
theorem seq_seq (t : Fin cfg0.N) (r : Fin 2048) : (⟨(seqRow t r).val / 2048, by omega⟩ : Fin 2) = seqOf t :=
  Fin.ext (by show (t.val / 32 * 2048 + r.val) / 2048 = t.val / 32; omega)
theorem seq_pos (t : Fin cfg0.N) (r : Fin 2048) : (seqRow t r).val % 2048 = r.val := by
  show (t.val / 32 * 2048 + r.val) % 2048 = _; omega
theorem lane_head (t : Fin cfg0.N) (l : Fin 128) : (lane t l).val / 64 = 2 * (t.val / 8 % 4) + l.val / 64 := by
  show (128 * (t.val / 8 % 4) + l.val) / 64 = _; omega

/-- A pair's lanes of the values. -/
def vP (x : FVec Ideal S2x2048x512 .f32) (b : Fin 2) (p s l : ℕ) : EReal := x (ix3 b (Fin.ofNat 2048 s) (Fin.ofNat 512 (128 * p + l)))

/-- An argument of the call, as the array of its extended reals. -/
abbrev arg (k : Ref sig .tc) : k.ty.Contents (Elt Ideal) := m ((c : Thread nD τ).loc k)

section blocks
variable (t : Fin cfg0.N) (g0 : AllFinite (arg m c main_arg0)) (g1 : AllFinite (arg m c main_arg1))

include g0 in
theorem b0 (r : Fin 256) (l : Fin 128) : (show FVec Ideal S256x128 .bf16 from iblk m c 0 t) (ix2 r l)
    = ((qP (arg m c main_arg0) (seqOf t) (t.val / 8 % 4) (256 * (t.val % 8) + r) l : ℝ) : EReal) := by
  have ht := lt64 t
  blk_simp [iblk, idx t]
  rw [show V m c (Pipeline.arrRef spec0 0) = _ from V_3 m c]
  rw [show (win0_0.blk t).view.emb (ix2 r l) = ix2 (tileRow t r) (lane t l) from by blk_ext [idx t, tileRow, lane]]
  refine (rows_apply _ _ _).trans ?_
  pointwise
  rw [show Ideal.ofBits FTy.f32 1040187392#32 = ((0.125 : ℝ) : EReal) from eighth]
  rw [tile_seq, show m ((c : Thread nD τ).loc main_arg0) (ix3 (seqOf t) _ (lane t l)) = _ from val_eq g0 _ _ _, ← EReal.coe_mul]
  simp only [tile_pos]
  rfl

include g1 in
theorem b1 (s : Fin 2048) (l : Fin 128) : (show FVec Ideal S2048x128 .bf16 from iblk m c 1 t) (ix2 s l)
    = ((cP (arg m c main_arg1) (seqOf t) (t.val / 8 % 4) s l : ℝ) : EReal) := by
  have ht := lt64 t
  blk_simp [iblk, idx t]
  rw [show V m c (Pipeline.arrRef spec0 1) = _ from V_5 m c]
  rw [show (win0_1.blk t).view.emb (ix2 s l) = ix2 (seqRow t s) (lane t l) from by blk_ext [idx t, seqRow, lane]]
  refine (rows_apply _ _ _).trans ((val_eq g1 _ _ _).trans ?_)
  rw [seq_seq]
  simp only [seq_pos]
  rfl

theorem b2 (s : Fin 2048) (l : Fin 128) : (show FVec Ideal S2048x128 .bf16 from iblk m c 2 t) (ix2 s l)
    = vP (arg m c main_arg2) (seqOf t) (t.val / 8 % 4) s l := by
  have ht := lt64 t
  blk_simp [iblk, idx t]
  rw [show V m c (Pipeline.arrRef spec0 2) = _ from V_7 m c]
  rw [show (win0_2.blk t).view.emb (ix2 s l) = ix2 (seqRow t s) (lane t l) from by blk_ext [idx t, seqRow, lane]]
  refine (rows_apply _ _ _).trans ?_
  rw [seq_seq]
  simp only [seq_pos]
  have e : 128 * (t.val / 8 % 4) + l.val < 512 := by omega
  rw [vP, Fin.ofNat_val_eq_self, show Fin.ofNat 512 (128 * (t.val / 8 % 4) + l.val) = lane t l from Fin.ext (Nat.mod_eq_of_lt e)]
end blocks

/-! ## The results -/

section results
variable (g0 : AllFinite (arg m c main_arg0)) (g1 : AllFinite (arg m c main_arg1))

include g0 g1

/-- The attention's output. -/
theorem final3 : (dats m 0 c).arrAt 3 cfg0.N = Cert.AttnFwdRefIdeal.Read.val_main_v49 (F := Ideal) (arg m c main_arg0) (arg m c main_arg1) (arg m c main_arg2) := by
  refine (dats m 0 c).arrAt_eq_of_covers 3 _ (by decide +kernel) fun t _ y => ?_
  blk_simp
  rw [after0_3]
  have ht := lt64 t
  obtain ⟨r, l, rfl⟩ : ∃ (r : Fin 256) (l : Fin 128), y = ix2 r l := ⟨y 0, y 1, by funext a; fin_cases a <;> rfl⟩
  rw [show (win0_3.blk t).view.emb (ix2 r l) = ix2 (tileRow t r) (lane t l) from by blk_ext [idx t, tileRow, lane]]
  refine (congrFun (out_read c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (tileOf t) (coord_tile t)) (ix2 r l)).trans ?_
  refine (outBlock_at (qP (arg m c main_arg0) (seqOf t) (t.val / 8 % 4)) (cP (arg m c main_arg1) (seqOf t) (t.val / 8 % 4)) (vP (arg m c main_arg2) (seqOf t) (t.val / 8 % 4)) (tileOf t)
    (x0 := iblk m c 0 t) (x1 := iblk m c 1 t) (x2 := iblk m c 2 t) (b0 m c t g0) (b1 m c t g1) (b2 m c t) r l).trans ?_
  refine Eq.trans ?_ (Cert.AttnFwdRefIdeal.Read.v49_at g0 g1 (tileRow t r) (lane t l)).symm
  rw [tile_seq, tile_pos, lane_head, Finset.sum_range]
  refine Finset.sum_congr rfl fun s _ => ?_
  have e : 128 * (t.val / 8 % 4) + l.val < 512 := by omega
  have hl := l.isLt
  unfold wv wtP ltP
  rw [show (2 * (t.val / 8 % 4) + l.val / 64) / 2 = t.val / 8 % 4 by omega, show (2 * (t.val / 8 % 4) + l.val / 64) % 2 = l.val / 64 by omega,
    vP, Fin.ofNat_val_eq_self, show Fin.ofNat 512 (128 * (t.val / 8 % 4) + l.val) = lane t l from Fin.ext (Nat.mod_eq_of_lt e)]
  rfl

/-- The rows' sums. -/
theorem final4 : (dats m 0 c).arrAt 4 cfg0.N = Cert.AttnFwdRefIdeal.Read.val_main_v51 (F := Ideal) (arg m c main_arg0) (arg m c main_arg1) := by
  refine (dats m 0 c).arrAt_eq_of_covers 4 _ (by decide +kernel) fun t _ y => ?_
  blk_simp
  rw [after0_4]
  have ht := lt64 t
  obtain ⟨r, l, rfl⟩ : ∃ (r : Fin 256) (l : Fin 128), y = ix2 r l := ⟨y 0, y 1, by funext a; fin_cases a <;> rfl⟩
  rw [show (win0_4.blk t).view.emb (ix2 r l) = ix2 (tileRow t r) (lane t l) from by blk_ext [idx t, tileRow, lane]]
  refine (congrFun (sum_read c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (tileOf t) (coord_tile t)) (ix2 r l)).trans ?_
  refine (sumBlock_at (qP (arg m c main_arg0) (seqOf t) (t.val / 8 % 4)) (cP (arg m c main_arg1) (seqOf t) (t.val / 8 % 4)) (vP (arg m c main_arg2) (seqOf t) (t.val / 8 % 4)) (tileOf t)
    (x0 := iblk m c 0 t) (x1 := iblk m c 1 t) (x2 := iblk m c 2 t) (b0 m c t g0) (b1 m c t g1) (b2 m c t) r l).trans ?_
  refine Eq.trans ?_ (Cert.AttnFwdRefIdeal.Read.v51_at g0 g1 (tileRow t r) (lane t l)).symm
  have hl := l.isLt
  rw [tile_seq, tile_pos, lane_head]
  unfold ltP
  rw [show (2 * (t.val / 8 % 4) + l.val / 64) / 2 = t.val / 8 % 4 by omega, show (2 * (t.val / 8 % 4) + l.val / 64) % 2 = l.val / 64 by omega]
  rfl
end results

end Cert.AttnFwdIdeal.Body
end
-- ==== Proof.AttnFwdClaim.lean ====
/- The claims of the attention's forward call: its queries and keys are finite numbers, its values any. -/
module

public import proofs.«01_k».proof.Defs
public import proofs.«01_k».proof.Proof.AttnClaim
public import proofs.«01_k».proof.Proof.AttnFwdValue
public import proofs.«01_k».proof.Proof.Gen.AttnFwdIdeal.Value
public import proofs.«01_k».proof.Proof.Gen.AttnFwdRefIdeal.Run
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.AttnFwdIdeal.Body

/-- The precondition's one broadcast is well formed. -/
theorem scores_facts : Cert.Pre_finite_scores.Facts := ⟨by decide⟩

theorem attnFwdRef_frame : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run m ρ)

variable [Cert.Pre_finite_scores.Facts]

theorem attnFwd_frame_finite : Cert.quiescent_AttnFwdIdeal_pre_finite_scores := fun m ρ _ => Cert.AttnFwdIdeal.Gen.frame m ρ

theorem attnFwdRef_frame_finite : Cert.quiescent_AttnFwdRefIdeal_pre_finite_scores := fun m ρ _ => attnFwdRef_frame m ρ trivial

/-- The attention's forward call and the reference agree on finite queries and keys. -/
theorem attnFwd : Cert.algebraic_AttnFwdIdeal_AttnFwdRefIdeal_pre_finite_scores := by
  intro m g m' g' hpre hagree
  refine ⟨fun c => (Cert.AttnFwdIdeal.Gen.dats m 0 c).arrAt 3 Cert.AttnFwdIdeal.cfg0.N, fun c => (Cert.AttnFwdIdeal.Gen.dats m 0 c).arrAt 4 Cert.AttnFwdIdeal.cfg0.N,
    Cert.AttnFwdIdeal.Value.run_blocks m g, ?_⟩
  refine (θ_run Cert.AttnFwdRefIdeal.defs _ _).mono (fun r h c => ?_) (Cert.AttnFwdRefIdeal.Value.run m' g')
  obtain ⟨h0, h1, h2⟩ := hagree c
  have f0 := finite_of_below _ _ _ (hpre c).1
  have f1 := finite_of_below _ _ _ (hpre c).2
  refine ⟨(h c).1.trans ?_, (h c).2.1.trans ?_, (h c).2.2⟩
  · refine (Cert.AttnFwdRefIdeal.Read.val_main_v49_eq _ _).trans (Eq.trans ?_ (final3 m c f0 f1).symm)
    exact congr (congr (congrArg Cert.AttnFwdRefIdeal.Read.val_main_v49 h0) h1) h2
  · refine (Cert.AttnFwdRefIdeal.Read.val_main_v51_eq _ _).trans (Eq.trans ?_ (final4 m c f0 f1).symm)
    exact congr (congrArg Cert.AttnFwdRefIdeal.Read.val_main_v51 h0) h1

end Cert.Proof

end
-- ==== Proof.PrenormValue.lean ====
/- The in-projection's forward call, entry by entry: the normed and modulated stream and its product with each quarter of the input weight. -/
module

public import proofs.«01_k».proof.Proof.Gen.PrenormIdeal.Value
public import proofs.«01_k».proof.Proof.Gen.PrenormRefIdeal.Read
public import proofs.«01_k».proof.Proof.InprojHost
public import proofs.«01_k».proof.Proof.MixerPoint

@[expose] public section

set_option maxRecDepth 16384

noncomputable section

open Idealize.ShloMosaic Idealize.ShloMosaic.TcCoe Idealize.SL.Sem
open Idealize.ShloMosaic.Pipeline (Dat)

namespace Cert.PrenormIdeal.Body
open Cert.PrenormIdeal Cert.PrenormIdeal.Gen
open Cert.LossRefIdeal.Read (row whole width)
open Cert.InprojRefIdeal.Read (MR SR row_at)
open Cert.InprojIdeal.Tail (rows_apply cols_apply)
open Cert.MixerIdeal.Value (canon_hit)

/-! ## One tile -/

section tile
variable (x0 : FVec Ideal S512x1024 .f32) (x1 : FVec Ideal S1x8x1024 .f32) (x2 : FVec Ideal S1x1024 .f32) (x3 : FVec Ideal S4x1024x512 .bf16)

/-- One element of a tile's normed and modulated rows. -/
def hid (r : Fin 512) (k : Fin 1024) : EReal :=
  x0 (ix2 r k) * Ideal.rsqrt (Ideal.div (∑ l : Fin 1024, x0 (ix2 r l) * x0 (ix2 r l)) width + Scalar.ofBits (F := Ideal) .f32 0x358637BD#32)
    * x2 (ix2 0 k) * (1 + x1 (ix3 0 1 k)) + x1 (ix3 0 0 k)

/-- One element of their product with a quarter of the weight. -/
def prod (g : Fin 4) (r l : Fin 512) : EReal := ∑ k : Fin 1024, hid x0 x1 x2 r k * x3 (ix3 g k l)

theorem pay_hid (r : Fin 512) (k : Fin 1024) :
    k0_pay4 (F := Ideal) (View.ld x0 r0_0) (View.ld x2 r0_1) (View.ld x1 r0_2) (View.ld x1 r0_3) (ix2 r k) = hid x0 x1 x2 r k := by
  pointwise [k0_pay4, hid, width]

theorem out4 (r : Fin 512) (k : Fin 1024) : out0_4 (F := Ideal) x0 x1 x2 x3 (ix2 r k) = hid x0 x1 x2 r k := by
  unfold out0_4
  refine (canon_hit _ _ _ _ (ix2 r k) (by intro a; fin_cases a <;> simp)).trans ?_
  exact pay_hid x0 x1 x2 r k

theorem out5 (r l : Fin 512) : out0_5 (F := Ideal) x0 x1 x2 x3 (ix2 r l) = prod x0 x1 x2 x3 0 r l * Scalar.ofBits (F := Ideal) .f32 0x3E000000#32 := by
  unfold out0_5
  refine (canon_hit _ _ _ _ (ix2 r l) (by intro a; fin_cases a <;> simp)).trans ?_
  pointwise [k0_pay5]
  simp only [pay_hid, prod]

theorem out6 (r l : Fin 512) : out0_6 (F := Ideal) x0 x1 x2 x3 (ix2 r l) = prod x0 x1 x2 x3 1 r l := by
  unfold out0_6 k0_pay6
  refine (canon_hit _ _ _ _ (ix2 r l) (by intro a; fin_cases a <;> simp)).trans ?_
  pointwise [k0_pay1]
  simp only [pay_hid, prod]

theorem out7 (r l : Fin 512) : out0_7 (F := Ideal) x0 x1 x2 x3 (ix2 r l) = prod x0 x1 x2 x3 2 r l := by
  unfold out0_7 k0_pay6
  refine (canon_hit _ _ _ _ (ix2 r l) (by intro a; fin_cases a <;> simp)).trans ?_
  pointwise [k0_pay2]
  simp only [pay_hid, prod]

theorem out8 (r l : Fin 512) : out0_8 (F := Ideal) x0 x1 x2 x3 (ix2 r l) = prod x0 x1 x2 x3 3 r l := by
  unfold out0_8 k0_pay6
  refine (canon_hit _ _ _ _ (ix2 r l) (by intro a; fin_cases a <;> simp)).trans ?_
  pointwise [k0_pay3]
  simp only [pay_hid, prod]
end tile

/-! ## The blocks at a point -/

variable (m : (ℓ : Loc nD τ sig) → Buf (Elt Ideal) ℓ) (c : Dev nD)

/-- The six modulations of a batch with two empty rows below them. -/
theorem mods_at (x : FVec Ideal S2x6144 .f32) (i : S2x8x1024.Idx) (h : (i 1 : ℕ) < 6) :
    concatenate S2x8x1024 1 [⟨S2x6x1024, shapeCast S2x6x1024 x shapeCasts_S2x6144_S2x6x1024⟩,
        ⟨S2x2x1024, broadcastInDim S2x2x1024 ![] bcast_S_S2x2x1024 (constant (F := Ideal) S_ .f32 0x00000000#32)⟩] concatenates_S2x6x1024_S2x2x1024_S2x8x1024_d1 i
      = x (ix2 (i 0) ⟨(i 1).val * 1024 + i 2, by have : (i 2 : ℕ) < 1024 := (i 2).isLt; omega⟩) := by
  pointwise
  rw [dif_pos h]

theorem V_3 : (V m c main_v3 : FVec Ideal S4x1024x512 .bf16) = truncf (F := Ideal) .bf16 (transpose S4x1024x512 [1, 0, 2] (shapeCast S1024x4x512
    (shapeCast S1024x2048 (m ((c : Thread nD τ).loc main_arg3)) shapeCasts_S1x1024x2048_S1024x2048) shapeCasts_S1024x2048_S1024x4x512) transposes_S1024x4x512_S4x1024x512_1_0_2) bitsLt_bf16_f32 := by
  show StableHlo.after hostOps0 (fun b => m (c, b)) (Proc.devRef .tc main_v3) = _
  simp only [hostOps0, StableHlo.after_cons, StableHlo.after_nil]
  after_results_simp
  rfl

theorem V_4 : (V m c main_v4 : FVec Ideal S4096x1024 .f32) = shapeCast S4096x1024 (m ((c : Thread nD τ).loc main_arg0)) shapeCasts_S2x2048x1024_S4096x1024 := by
  show StableHlo.after hostOps0 (fun b => m (c, b)) (Proc.devRef .tc main_v4) = _
  simp only [hostOps0, StableHlo.after_cons, StableHlo.after_nil]
  after_results_simp
  rfl

theorem V_7 : (V m c main_v7 : FVec Ideal S2x8x1024 .f32) = concatenate S2x8x1024 1 [⟨S2x6x1024, shapeCast S2x6x1024 (m ((c : Thread nD τ).loc main_arg1)) shapeCasts_S2x6144_S2x6x1024⟩,
    ⟨S2x2x1024, broadcastInDim S2x2x1024 ![] bcast_S_S2x2x1024 (constant (F := Ideal) S_ .f32 0x00000000#32)⟩] concatenates_S2x6x1024_S2x2x1024_S2x8x1024_d1 := by
  show StableHlo.after hostOps0 (fun b => m (c, b)) (Proc.devRef .tc main_v7) = _
  simp only [hostOps0, StableHlo.after_cons, StableHlo.after_nil]
  after_results_simp
  rfl

theorem idx : ∀ t : Fin cfg0.N, win0_0.index t = ![t.val, 0] ∧ win0_1.index t = ![t.val / 4, 0, 0] ∧ win0_2.index t = ![0, 0] ∧ win0_3.index t = ![0, 0, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem lt8 (t : Fin cfg0.N) : t.val < 8 := t.isLt.trans_eq (by decide : grid0.N = 8)

/-- A point's row. -/
def at_ (t : Fin cfg0.N) (r : Fin 512) : Fin 4096 := ⟨t.val * 512 + r, by have := lt8 t; omega⟩

/-- An argument of the call, as the array of its extended reals. -/
abbrev arg (k : Ref sig .tc) : k.ty.Contents (Elt Ideal) := m ((c : Thread nD τ).loc k)

section blocks
variable (t : Fin cfg0.N)

theorem b0 (r : Fin 512) (k : Fin 1024) : (show FVec Ideal S512x1024 .f32 from iblk m c 0 t) (ix2 r k) = row (arg m c main_arg0) (at_ t r) k := by
  have ht := lt8 t
  blk_simp [iblk, idx t]
  rw [show V m c (Pipeline.arrRef spec0 0) = _ from V_4 m c]
  refine (rows_apply _ _).trans ?_
  unfold row at_
  blk_ext [idx t]

theorem b1 (i : Fin 8) (hi : i.val < 6) (k : Fin 1024) : (show FVec Ideal S1x8x1024 .f32 from iblk m c 1 t) (ix3 0 i k)
    = (show FVec Ideal S2x6144 .f32 from arg m c main_arg1) (ix2 ⟨t.val / 4, by have := lt8 t; omega⟩ ⟨i.val * 1024 + k, by omega⟩) := by
  have ht := lt8 t
  blk_simp [iblk, idx t]
  rw [show V m c (Pipeline.arrRef spec0 1) = _ from V_7 m c]
  refine (mods_at _ _ ?_).trans ?_
  · blk_simp [idx t]
    omega
  · blk_ext [idx t]

theorem b2 (k : Fin 1024) : (show FVec Ideal S1x1024 .f32 from iblk m c 2 t) (ix2 0 k) = (show FVec Ideal S1x1024 .f32 from arg m c main_arg2) (ix2 0 k) := by
  blk_point [iblk, V, idx t]

theorem b3 (g : Fin 4) (k : Fin 1024) (l : Fin 512) : (show FVec Ideal S4x1024x512 .bf16 from iblk m c 3 t) (ix3 g k l)
    = (show FVec Ideal S1x1024x2048 .f32 from arg m c main_arg3) (ix3 0 k ⟨g * 512 + l, by omega⟩) := by
  have ht := lt8 t
  blk_simp [iblk, idx t]
  rw [show V m c (Pipeline.arrRef spec0 3) = _ from V_3 m c]
  refine (cols_apply _ _).trans ?_
  blk_ext [idx t]
end blocks

/-! ## The reference -/

section reference
open Cert.PrenormRefIdeal Cert.PrenormRefIdeal.Read
variable (x : FVec Ideal S2x2048x1024 .f32) (mod : FVec Ideal S2x6144 .f32) (g : FVec Ideal S1x1024 .f32) (w : FVec Ideal S1x1024x2048 .f32)

/-- One element of the normed and modulated stream. -/
def HS (r : Fin 4096) (k : Fin 1024) : EReal := row x r k * Ideal.rsqrt (MR x r) * g (ix2 0 k) * SR mod r k + mod (ix2 ⟨(r : ℕ) / 2048, by omega⟩ ⟨k, by omega⟩)

theorem r31 (b : Fin 2) (s : Fin 2048) (k : Fin 1024) : val_main_v31 (F := Ideal) x mod g (ix3 b s k) = HS x mod g ⟨b * 2048 + s, by omega⟩ k := by
  pointwise [val_main_v31, val_main_v30, val_main_v29, val_main_v28, val_main_v27, val_main_v26, val_main_cst_2, val_main_v25, val_main_v24, val_main_v23, val_main_v22, val_main_v21, val_main_v20,
    val_main_v19, val_main_v18, val_main_v17, val_main_v16, val_main_v15, val_main_v14, val_main_v13, val_main_v12, val_main_cst, val_main_cst_0, val_main_cst_1, val_main_v6, val_main_v0, val_main_v7, val_main_v1, HS, SR, MR, width]
  simp only [row_at]
  blk_point []

/-- One element of its product with the whole weight. -/
def PS (r : Fin 4096) (j : Fin 2048) : EReal := ∑ k : Fin 1024, HS x mod g r k * w (ix3 0 k j)

theorem r33 (b : Fin 2) (s : Fin 2048) (j : Fin 2048) : val_main_v33 (F := Ideal) x mod g w (ix3 b s j) = PS x mod g w ⟨b * 2048 + s, by omega⟩ j := by
  pointwise [val_main_v33, val_main_v32, PS]
  simp only [r31]

theorem r39 (r : Fin 4096) (k : Fin 1024) : val_main_v39 (F := Ideal) x mod g (ix2 r k) = HS x mod g r k := by
  pointwise [val_main_v39, val_main_v38]
  simp only [r31, whole]

theorem r43 (r : Fin 4096) (l : Fin 512) : val_main_v43 (F := Ideal) x mod g w (ix2 r l) = PS x mod g w r ⟨l, by omega⟩ * Scalar.ofBits (F := Ideal) .f32 0x3E000000#32 := by
  pointwise [val_main_v43, val_main_v42, val_main_v41, val_main_v40, val_main_cst_3, val_main_v34]
  simp only [r33, whole]

theorem r45 (r : Fin 4096) (l : Fin 512) : val_main_v45 (F := Ideal) x mod g w (ix2 r l) = PS x mod g w r ⟨512 + l, by omega⟩ := by
  pointwise [val_main_v45, val_main_v44, val_main_v35]
  simp only [r33, whole]

theorem r47 (r : Fin 4096) (l : Fin 512) : val_main_v47 (F := Ideal) x mod g w (ix2 r l) = PS x mod g w r ⟨1024 + l, by omega⟩ := by
  pointwise [val_main_v47, val_main_v46, val_main_v36]
  simp only [r33, whole]

theorem r48 (r : Fin 4096) (l : Fin 512) : val_main_v48 (F := Ideal) x mod g w (ix2 r l) = PS x mod g w r ⟨1536 + l, by omega⟩ := by
  pointwise [val_main_v48, val_main_v37]
  simp only [r33, whole]
end reference

/-! ## The results -/

theorem hid_at (t : Fin cfg0.N) (r : Fin 512) (k : Fin 1024) : hid (iblk m c 0 t) (iblk m c 1 t) (iblk m c 2 t) r k
    = HS (arg m c main_arg0) (arg m c main_arg1) (arg m c main_arg2) (at_ t r) k := by
  have ht := lt8 t
  unfold hid HS SR MR
  simp only [fun k => show iblk m c 0 t (ix2 r k) = _ from b0 m c t r k, show iblk m c 2 t (ix2 0 k) = _ from b2 m c t k,
    show iblk m c 1 t (ix3 0 0 k) = _ from b1 m c t 0 (by decide) k, show iblk m c 1 t (ix3 0 1 k) = _ from b1 m c t 1 (by decide) k]
  unfold at_
  have e : (t.val * 512 + r.val) / 2048 = t.val / 4 := by omega
  simp only [e]
  exact congrArg₂ (· + ·) rfl (congrArg (arg m c main_arg1) (by blk_ext []))

theorem prod_at (t : Fin cfg0.N) (g : Fin 4) (r l : Fin 512) : prod (iblk m c 0 t) (iblk m c 1 t) (iblk m c 2 t) (iblk m c 3 t) g r l
    = PS (arg m c main_arg0) (arg m c main_arg1) (arg m c main_arg2) (arg m c main_arg3) (at_ t r) ⟨g * 512 + l, by omega⟩ :=
  Finset.sum_congr rfl fun k _ => congrArg₂ (· * ·) (hid_at m c t r k) (b3 m c t g k l)

/-- The normed and modulated stream. -/
theorem final4 : (dats m 0 c).arrAt 4 cfg0.N = Cert.PrenormRefIdeal.Read.val_main_v39 (F := Ideal) (arg m c main_arg0) (arg m c main_arg1) (arg m c main_arg2) := by
  refine (dats m 0 c).arrAt_eq_of_covers 4 _ (by decide +kernel) fun t _ y => ?_
  blk_simp
  rw [after0_4]
  have ht := lt8 t
  obtain ⟨r, k, rfl⟩ : ∃ (r : Fin 512) (k : Fin 1024), y = ix2 r k := ⟨y 0, y 1, by funext a; fin_cases a <;> rfl⟩
  rw [show (win0_4.blk t).view.emb (ix2 r k) = ix2 (at_ t r) k from by blk_ext [idx t, at_]]
  exact (out4 _ _ _ _ r k).trans ((hid_at m c t r k).trans (r39 _ _ _ _ _).symm)

/-- The queries. -/
theorem final5 : (dats m 0 c).arrAt 5 cfg0.N = Cert.PrenormRefIdeal.Read.val_main_v43 (F := Ideal) (arg m c main_arg0) (arg m c main_arg1) (arg m c main_arg2) (arg m c main_arg3) := by
  refine (dats m 0 c).arrAt_eq_of_covers 5 _ (by decide +kernel) fun t _ y => ?_
  blk_simp
  rw [after0_5]
  have ht := lt8 t
  obtain ⟨r, l, rfl⟩ : ∃ r l : Fin 512, y = ix2 r l := ⟨y 0, y 1, by funext a; fin_cases a <;> rfl⟩
  rw [show (win0_5.blk t).view.emb (ix2 r l) = ix2 (at_ t r) l from by blk_ext [idx t, at_]]
  refine (out5 _ _ _ _ r l).trans (Eq.trans ?_ (r43 _ _ _ _ _ _).symm)
  exact congrArg (· * _) ((prod_at m c t 0 r l).trans (congrArg _ (Fin.ext (by simp))))

/-- The keys. -/
theorem final6 : (dats m 0 c).arrAt 6 cfg0.N = Cert.PrenormRefIdeal.Read.val_main_v45 (F := Ideal) (arg m c main_arg0) (arg m c main_arg1) (arg m c main_arg2) (arg m c main_arg3) := by
  refine (dats m 0 c).arrAt_eq_of_covers 6 _ (by decide +kernel) fun t _ y => ?_
  blk_simp
  rw [after0_6]
  have ht := lt8 t
  obtain ⟨r, l, rfl⟩ : ∃ r l : Fin 512, y = ix2 r l := ⟨y 0, y 1, by funext a; fin_cases a <;> rfl⟩
  rw [show (win0_6.blk t).view.emb (ix2 r l) = ix2 (at_ t r) l from by blk_ext [idx t, at_]]
  exact (out6 _ _ _ _ r l).trans ((prod_at m c t 1 r l).trans (r45 _ _ _ _ _ _).symm)

/-- The values. -/
theorem final7 : (dats m 0 c).arrAt 7 cfg0.N = Cert.PrenormRefIdeal.Read.val_main_v47 (F := Ideal) (arg m c main_arg0) (arg m c main_arg1) (arg m c main_arg2) (arg m c main_arg3) := by
  refine (dats m 0 c).arrAt_eq_of_covers 7 _ (by decide +kernel) fun t _ y => ?_
  blk_simp
  rw [after0_7]
  have ht := lt8 t
  obtain ⟨r, l, rfl⟩ : ∃ r l : Fin 512, y = ix2 r l := ⟨y 0, y 1, by funext a; fin_cases a <;> rfl⟩
  rw [show (win0_7.blk t).view.emb (ix2 r l) = ix2 (at_ t r) l from by blk_ext [idx t, at_]]
  exact (out7 _ _ _ _ r l).trans ((prod_at m c t 2 r l).trans (r47 _ _ _ _ _ _).symm)

/-- The channels to pool. -/
theorem final8 : (dats m 0 c).arrAt 8 cfg0.N = Cert.PrenormRefIdeal.Read.val_main_v48 (F := Ideal) (arg m c main_arg0) (arg m c main_arg1) (arg m c main_arg2) (arg m c main_arg3) := by
  refine (dats m 0 c).arrAt_eq_of_covers 8 _ (by decide +kernel) fun t _ y => ?_
  blk_simp
  rw [after0_8]
  have ht := lt8 t
  obtain ⟨r, l, rfl⟩ : ∃ r l : Fin 512, y = ix2 r l := ⟨y 0, y 1, by funext a; fin_cases a <;> rfl⟩
  rw [show (win0_8.blk t).view.emb (ix2 r l) = ix2 (at_ t r) l from by blk_ext [idx t, at_]]
  exact (out8 _ _ _ _ r l).trans ((prod_at m c t 3 r l).trans (r48 _ _ _ _ _ _).symm)

end Cert.PrenormIdeal.Body
end
-- ==== Proof.PrenormClaim.lean ====
/- The claims of the in-projection's forward call. -/
module

public import proofs.«01_k».proof.Defs
public import proofs.«01_k».proof.Proof.PrenormValue
public import proofs.«01_k».proof.Proof.Gen.PrenormRefIdeal.Run
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.PrenormIdeal.Body

theorem prenormRef_frame : Cert.quiescent_PrenormRefIdeal := fun m ρ _ =>
  (θ_run Cert.PrenormRefIdeal.defs _ _).mono (fun r h => ⟨fun c => (h c).2.2.2.2.2, sem_eq_zero_of_no_sems (by decide) r.2⟩)
    (Cert.PrenormRefIdeal.Value.run m ρ)

/-- The in-projection's forward call and the reference agree. -/
theorem prenorm : Cert.algebraic_PrenormIdeal_PrenormRefIdeal := by
  intro m g m' g' _ hagree
  refine ⟨fun c => (Cert.PrenormIdeal.Gen.dats m 0 c).arrAt 4 Cert.PrenormIdeal.cfg0.N, fun c => (Cert.PrenormIdeal.Gen.dats m 0 c).arrAt 5 Cert.PrenormIdeal.cfg0.N,
    fun c => (Cert.PrenormIdeal.Gen.dats m 0 c).arrAt 6 Cert.PrenormIdeal.cfg0.N, fun c => (Cert.PrenormIdeal.Gen.dats m 0 c).arrAt 7 Cert.PrenormIdeal.cfg0.N,
    fun c => (Cert.PrenormIdeal.Gen.dats m 0 c).arrAt 8 Cert.PrenormIdeal.cfg0.N, Cert.PrenormIdeal.Value.run_blocks m g, ?_⟩
  refine (θ_run Cert.PrenormRefIdeal.defs _ _).mono (fun r h c => ?_) (Cert.PrenormRefIdeal.Value.run m' g')
  obtain ⟨h0, h1, h2, h3⟩ := hagree c
  refine ⟨(h c).1.trans ?_, (h c).2.1.trans ?_, (h c).2.2.1.trans ?_, (h c).2.2.2.1.trans ?_, (h c).2.2.2.2.1.trans ?_, (h c).2.2.2.2.2⟩
  · refine (Cert.PrenormRefIdeal.Read.val_main_v39_eq _ _ _).trans (Eq.trans ?_ (final4 m c).symm)
    exact congr (congr (congrArg Cert.PrenormRefIdeal.Read.val_main_v39 h0) h1) h2
  · refine (Cert.PrenormRefIdeal.Read.val_main_v43_eq _ _ _ _).trans (Eq.trans ?_ (final5 m c).symm)
    exact congr (congr (congr (congrArg Cert.PrenormRefIdeal.Read.val_main_v43 h0) h1) h2) h3
  · refine (Cert.PrenormRefIdeal.Read.val_main_v45_eq _ _ _ _).trans (Eq.trans ?_ (final6 m c).symm)
    exact congr (congr (congr (congrArg Cert.PrenormRefIdeal.Read.val_main_v45 h0) h1) h2) h3
  · refine (Cert.PrenormRefIdeal.Read.val_main_v47_eq _ _ _ _).trans (Eq.trans ?_ (final7 m c).symm)
    exact congr (congr (congr (congrArg Cert.PrenormRefIdeal.Read.val_main_v47 h0) h1) h2) h3
  · refine (Cert.PrenormRefIdeal.Read.val_main_v48_eq _ _ _ _).trans (Eq.trans ?_ (final8 m c).symm)
    exact congr (congr (congr (congrArg Cert.PrenormRefIdeal.Read.val_main_v48 h0) h1) h2) h3

end Cert.Proof

end
-- ==== Proof.PostClaim.lean ====
/- The claims of the pooling mixer's forward call. -/
module

public import proofs.«01_k».proof.Defs
public import proofs.«01_k».proof.Proof.Gen.PostRefIdeal.Run
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem postRef_frame : Cert.quiescent_PostRefIdeal := fun m ρ _ =>
  (θ_run Cert.PostRefIdeal.defs _ _).mono (fun r h => ⟨fun c => (h c).2.2.2.2.2, sem_eq_zero_of_no_sems (by decide) r.2⟩)
    (Cert.PostRefIdeal.Value.run m ρ)

end Cert.Proof

end
-- ==== Proof.lean ====
module

public import proofs.«01_k».proof.Defs
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Prenorm.Frame
public import proofs.«01_k».proof.Proof.Gen.PrenormIdeal.Frame
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PrenormRefIdeal.Read
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.AttnFrame
public import proofs.«01_k».proof.Proof.Frames
public import proofs.«01_k».proof.Proof.MixerClaim
public import proofs.«01_k».proof.Proof.LossClaim
public import proofs.«01_k».proof.Proof.AttnClaim
public import proofs.«01_k».proof.Proof.InprojClaim
public import proofs.«01_k».proof.Proof.FfnClaim
public import proofs.«01_k».proof.Proof.AttnFwdClaim
public import proofs.«01_k».proof.Proof.PrenormClaim
public import proofs.«01_k».proof.Proof.PostClaim
public import Idealize.ShloMosaic.Lib.Claim
public import Idealize.ShloMosaic.Adequacy
public import Idealize.ShloMosaic.Init

@[expose] public section

noncomputable section

namespace Cert.Proof

theorem claim : Cert.Claim := ⟨Cert.Attn.Gen.facts, Cert.AttnIdeal.Gen.facts, Cert.AttnRefIdeal.Gen.facts,
  Cert.Mixer.Gen.facts, Cert.MixerIdeal.Gen.facts, Cert.MixerRefIdeal.Gen.facts,
  Cert.Inproj.Gen.facts, Cert.InprojIdeal.Gen.facts, Cert.InprojRefIdeal.Gen.facts,
  Cert.Loss.Gen.facts, Cert.LossIdeal.Gen.facts, Cert.LossRefIdeal.Gen.facts,
  Cert.Ffn.Gen.facts, Cert.FfnIdeal.Gen.facts, Cert.FfnRefIdeal.Gen.facts, Cert.AttnFwd.Gen.facts, Cert.AttnFwdIdeal.Gen.facts, Cert.AttnFwdRefIdeal.Gen.facts,
  Cert.Prenorm.Gen.facts, Cert.PrenormIdeal.Gen.facts, Cert.PrenormRefIdeal.Gen.facts, Cert.Post.Gen.facts, Cert.PostIdeal.Gen.facts, Cert.PostRefIdeal.Gen.facts,
  finite_facts, pooled_facts, ffn_facts, scores_facts,
  attn_frame, attn_frame_ideal, @attn_frame_finite finite_facts, attnRef_frame, @attnRef_frame_finite finite_facts,
  fun m ρ _ => Cert.Mixer.Gen.frame m ρ, fun m ρ _ => Cert.MixerIdeal.Gen.frame m ρ, mixerRef_frame,
  fun m ρ _ => Cert.Inproj.Gen.frame m ρ, fun m ρ _ => Cert.InprojIdeal.Gen.frame m ρ, @inproj_frame_pooled pooled_facts,
  inprojRef_frame, @inprojRef_frame_pooled pooled_facts,
  fun m ρ _ => Cert.Loss.Gen.frame m ρ, fun m ρ _ => Cert.LossIdeal.Gen.frame m ρ, lossRef_frame, ffn_frame, ffn_frame_ideal, @ffn_frame_finite ffn_facts,
  ffnRef_frame, @ffnRef_frame_finite ffn_facts,
  fun m ρ _ => Cert.AttnFwd.Gen.frame m ρ, fun m ρ _ => Cert.AttnFwdIdeal.Gen.frame m ρ, @attnFwd_frame_finite scores_facts, attnFwdRef_frame, @attnFwdRef_frame_finite scores_facts,
  fun m ρ _ => Cert.Prenorm.Gen.frame m ρ, fun m ρ _ => Cert.PrenormIdeal.Gen.frame m ρ, prenormRef_frame,
  fun m ρ _ => Cert.Post.Gen.frame m ρ, fun m ρ _ => Cert.PostIdeal.Gen.frame m ρ, postRef_frame,
  trivial, @attn finite_facts, trivial, mixer, trivial, @inproj pooled_facts, trivial, loss, trivial, @ffn ffn_facts, trivial, @attnFwd scores_facts,
  trivial, prenorm, trivial⟩

end Cert.Proof

end
